-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_top_KernelIdeal [hPre_finite_top_KernelIdeal : Cert.Pre_finite_top_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_top_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_top_ReferenceIdeal [hPre_finite_top_ReferenceIdeal : Cert.Pre_finite_top_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_top_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_top_KernelIdeal [hKernelIdeal : Cert.KernelIdeal.Facts] [hPre_finite_top_KernelIdeal : Cert.Pre_finite_top_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_top_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_top_ReferenceIdeal [hReferenceIdeal : Cert.ReferenceIdeal.Facts] [hPre_finite_top_ReferenceIdeal : Cert.Pre_finite_top_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_top_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_top_KernelIdeal [hKernelIdeal : Cert.KernelIdeal.Facts] [hReferenceIdeal : Cert.ReferenceIdeal.Facts] [hPre_finite_top_KernelIdeal : Cert.Pre_finite_top_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_top_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![128, 512, 1024]⟩ 0 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v28) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_top_KernelIdeal : Cert.Pre_finite_top_KernelIdeal.Facts) (hPre_finite_top_ReferenceIdeal : Cert.Pre_finite_top_ReferenceIdeal.Facts),
    quiescent_Kernel (hKernel := hKernel)
    ∧ quiescent_KernelIdeal (hKernelIdeal := hKernelIdeal)
    ∧ quiescent_KernelIdeal_pre_finite_top_KernelIdeal (hKernelIdeal := hKernelIdeal) (hPre_finite_top_KernelIdeal := hPre_finite_top_KernelIdeal)
    ∧ quiescent_ReferenceIdeal (hReferenceIdeal := hReferenceIdeal)
    ∧ quiescent_ReferenceIdeal_pre_finite_top_ReferenceIdeal (hReferenceIdeal := hReferenceIdeal) (hPre_finite_top_ReferenceIdeal := hPre_finite_top_ReferenceIdeal)
    ∧ preserves_Kernel_KernelIdeal
    ∧ algebraic_KernelIdeal_ReferenceIdeal_pre_finite_top_KernelIdeal (hKernelIdeal := hKernelIdeal) (hReferenceIdeal := hReferenceIdeal) (hPre_finite_top_KernelIdeal := hPre_finite_top_KernelIdeal)
-- ==== Pre_finite_top_KernelIdeal.lean ====
abbrev S1024x512 : Shape := ⟨2, ![1024, 512]⟩
abbrev S512x128 : Shape := ⟨2, ![512, 128]⟩
abbrev S1024x1 : Shape := ⟨2, ![1024, 1]⟩
abbrev S4x512x1024 : Shape := ⟨3, ![4, 512, 1024]⟩
abbrev S512x1024 : Shape := ⟨2, ![512, 1024]⟩
abbrev S1024x128 : Shape := ⟨2, ![1024, 128]⟩
abbrev S_ : Shape := ⟨0, ![]⟩
abbrev S1024 : Shape := ⟨1, ![1024]⟩

class Facts : Prop where
  reducesTo_S1024x128_S1024_d1 : S1024x128.ReducesTo [1] S1024
  h_S_ : 0 < S_.numel
  bcast_S_S1024 : S_.BroadcastsInDim S1024 (![] : Fin 0 → Fin S1024.rank)
  dot_S1024x512_S512x128_S1024x128_1_0_0_1_n_n_wf : DotDims.WF S1024x512 S512x128 S1024x128 [1] [0] [0] [1] [] []

variable [Facts]

def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def fn {F : FTy → Type} [FloatOps F] (main_arg0 : FVec F S1024x512 .f32) (main_arg1 : FVec F S512x128 .f32) (main_arg2 : IVec S1024x1 32) (main_arg3 : FVec F S4x512x1024 .f32) (main_arg4 : FVec F S512x1024 .f32) : IVec S1024 1 :=
  let main_v0 : FVec F S1024x128 .f32 := (fun l r => Host.dotGeneral dot_S1024x512_S512x128_S1024x128_1_0_0_1_n_n none l r) main_arg0 main_arg1
  let main_cst : FVec F S_ .f32 := constant S_ .f32 0xFF800000#32
  let main_v1 : FVec F S1024 .f32 := (fun x v => Host.reduce FloatOps.maximumf x v reducesTo_S1024x128_S1024_d1 h_S_) main_v0 main_cst
  let main_v2 : FVec F S1024 .f32 := Host.absf main_v1
  let main_cst_0 : FVec F S_ .f32 := constant S_ .f32 0x7F800000#32
  let main_v3 : FVec F S1024 .f32 := broadcastInDim S1024 ![] bcast_S_S1024 main_cst_0
  let main_v4 : IVec S1024 1 := cmpf .olt main_v2 main_v3
  main_v4
-- ==== Pre_finite_top_ReferenceIdeal.lean ====
abbrev S1024x512 : Shape := ⟨2, ![1024, 512]⟩
abbrev S512x128 : Shape := ⟨2, ![512, 128]⟩
abbrev S1024x1 : Shape := ⟨2, ![1024, 1]⟩
abbrev S128x512x1024 : Shape := ⟨3, ![128, 512, 1024]⟩
abbrev S512x1024 : Shape := ⟨2, ![512, 1024]⟩
abbrev S1024x128 : Shape := ⟨2, ![1024, 128]⟩
abbrev S_ : Shape := ⟨0, ![]⟩
abbrev S1024 : Shape := ⟨1, ![1024]⟩

class Facts : Prop where
  reducesTo_S1024x128_S1024_d1 : S1024x128.ReducesTo [1] S1024
  h_S_ : 0 < S_.numel
  bcast_S_S1024 : S_.BroadcastsInDim S1024 (![] : Fin 0 → Fin S1024.rank)
  dot_S1024x512_S512x128_S1024x128_1_0_0_1_n_n_wf : DotDims.WF S1024x512 S512x128 S1024x128 [1] [0] [0] [1] [] []

variable [Facts]

def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def fn {F : FTy → Type} [FloatOps F] (main_arg0 : FVec F S1024x512 .f32) (main_arg1 : FVec F S512x128 .f32) (main_arg2 : IVec S1024x1 32) (main_arg3 : FVec F S128x512x1024 .f32) (main_arg4 : FVec F S512x1024 .f32) : IVec S1024 1 :=
  let main_v0 : FVec F S1024x128 .f32 := (fun l r => Host.dotGeneral dot_S1024x512_S512x128_S1024x128_1_0_0_1_n_n none l r) main_arg0 main_arg1
  let main_cst : FVec F S_ .f32 := constant S_ .f32 0xFF800000#32
  let main_v1 : FVec F S1024 .f32 := (fun x v => Host.reduce FloatOps.maximumf x v reducesTo_S1024x128_S1024_d1 h_S_) main_v0 main_cst
  let main_v2 : FVec F S1024 .f32 := Host.absf main_v1
  let main_cst_0 : FVec F S_ .f32 := constant S_ .f32 0x7F800000#32
  let main_v3 : FVec F S1024 .f32 := broadcastInDim S1024 ![] bcast_S_S1024 main_cst_0
  let main_v4 : IVec S1024 1 := cmpf .olt main_v2 main_v3
  main_v4
-- ==== Kernel.lean ====
abbrev S1024x512 : Shape := ⟨2, ![1024, 512]⟩
abbrev S512x128 : Shape := ⟨2, ![512, 128]⟩
abbrev S1024x1 : Shape := ⟨2, ![1024, 1]⟩
abbrev S4x512x1024 : Shape := ⟨3, ![4, 512, 1024]⟩
abbrev S512x1024 : Shape := ⟨2, ![512, 1024]⟩
abbrev S1x1024 : Shape := ⟨2, ![1, 1024]⟩
abbrev S1024x1024 : Shape := ⟨2, ![1024, 1024]⟩
abbrev S4x1024 : Shape := ⟨2, ![4, 1024]⟩
abbrev S2x256x256 : Shape := ⟨3, ![2, 256, 256]⟩
abbrev S2x64x512 : Shape := ⟨3, ![2, 64, 512]⟩
abbrev S64x512 : Shape := ⟨2, ![64, 512]⟩
abbrev S2 : Shape := ⟨1, ![2]⟩
abbrev S_ : Shape := ⟨0, ![]⟩
abbrev S128x1024 : Shape := ⟨2, ![128, 1024]⟩
abbrev S1024 : Shape := ⟨1, ![1024]⟩
abbrev S128x1 : Shape := ⟨2, ![128, 1]⟩
abbrev S256x512 : Shape := ⟨2, ![256, 512]⟩
abbrev S1x256 : Shape := ⟨2, ![1, 256]⟩
abbrev S256 : Shape := ⟨1, ![256]⟩
abbrev S256x1 : Shape := ⟨2, ![256, 1]⟩
abbrev S1x512x256 : Shape := ⟨3, ![1, 512, 256]⟩
abbrev S512x256 : Shape := ⟨2, ![512, 256]⟩
abbrev S256x256 : Shape := ⟨2, ![256, 256]⟩
abbrev S1x256x256 : Shape := ⟨3, ![1, 256, 256]⟩
abbrev S1 : Shape := ⟨1, ![1]⟩
abbrev S1x64x512 : Shape := ⟨3, ![1, 64, 512]⟩
abbrev S256x1024 : Shape := ⟨2, ![256, 1024]⟩

abbrev nBuf : Space → Nat
  | .hbm => 7
  | .vmem => 36
  | .smem => 0
  | _ => 0

abbrev bufTy : (tb : Table) → Fin (tcTables nBuf tb) → BufTy
  | .hbm, ⟨0, _⟩ => ⟨S1024x512, .f32⟩
  | .hbm, ⟨1, _⟩ => ⟨S512x128, .f32⟩
  | .hbm, ⟨2, _⟩ => ⟨S1024x1, .i32⟩
  | .hbm, ⟨3, _⟩ => ⟨S4x512x1024, .f32⟩
  | .hbm, ⟨4, _⟩ => ⟨S512x1024, .f32⟩
  | .hbm, ⟨5, _⟩ => ⟨S1x1024, .i32⟩
  | .hbm, ⟨6, _⟩ => ⟨S1024x1024, .f32⟩
  | .local _ .vmem, ⟨0, _⟩ => ⟨S1024x512, .f32⟩
  | .local _ .vmem, ⟨1, _⟩ => ⟨S512x128, .f32⟩
  | .local _ .vmem, ⟨2, _⟩ => ⟨S1x1024, .i32⟩
  | .local _ .vmem, ⟨3, _⟩ => ⟨S4x512x1024, .f32⟩
  | .local _ .vmem, ⟨4, _⟩ => ⟨S512x1024, .f32⟩
  | .local _ .vmem, ⟨5, _⟩ => ⟨S1024x1024, .f32⟩
  | .local _ .vmem, ⟨6, _⟩ => ⟨S1024x1024, .f32⟩
  | .local _ .vmem, ⟨7, _⟩ => ⟨S4x1024, .f32⟩
  | .local _ .vmem, ⟨8, _⟩ => ⟨S2x256x256, .f32⟩
  | .local _ .vmem, ⟨9, _⟩ => ⟨S2x256x256, .f32⟩
  | .local _ .vmem, ⟨10, _⟩ => ⟨S2x256x256, .f32⟩
  | .local _ .vmem, ⟨11, _⟩ => ⟨S2x256x256, .f32⟩
  | .local _ .vmem, ⟨12, _⟩ => ⟨S2x256x256, .f32⟩
  | .local _ .vmem, ⟨13, _⟩ => ⟨S2x256x256, .f32⟩
  | .local _ .vmem, ⟨14, _⟩ => ⟨S2x256x256, .f32⟩
  | .local _ .vmem, ⟨15, _⟩ => ⟨S2x256x256, .f32⟩
  | .local _ .vmem, ⟨16, _⟩ => ⟨S2x64x512, .f32⟩
  | .local _ .vmem, ⟨17, _⟩ => ⟨S2x64x512, .f32⟩
  | .local _ .vmem, ⟨18, _⟩ => ⟨S2x64x512, .f32⟩
  | .local _ .vmem, ⟨19, _⟩ => ⟨S2x64x512, .f32⟩
  | .local _ .vmem, ⟨20, _⟩ => ⟨S2x64x512, .f32⟩
  | .local _ .vmem, ⟨21, _⟩ => ⟨S2x64x512, .f32⟩
  | .local _ .vmem, ⟨22, _⟩ => ⟨S2x64x512, .f32⟩
  | .local _ .vmem, ⟨23, _⟩ => ⟨S2x64x512, .f32⟩
  | .local _ .vmem, ⟨24, _⟩ => ⟨S2x256x256, .f32⟩
  | .local _ .vmem, ⟨25, _⟩ => ⟨S2x256x256, .f32⟩
  | .local _ .vmem, ⟨26, _⟩ => ⟨S2x256x256, .f32⟩
  | .local _ .vmem, ⟨27, _⟩ => ⟨S2x256x256, .f32⟩
  | .local _ .vmem, ⟨28, _⟩ => ⟨S2x256x256, .f32⟩
  | .local _ .vmem, ⟨29, _⟩ => ⟨S2x256x256, .f32⟩
  | .local _ .vmem, ⟨30, _⟩ => ⟨S2x256x256, .f32⟩
  | .local _ .vmem, ⟨31, _⟩ => ⟨S2x256x256, .f32⟩
  | .local _ .vmem, ⟨32, _⟩ => ⟨S64x512, .f32⟩
  | .local _ .vmem, ⟨33, _⟩ => ⟨S64x512, .f32⟩
  | .local _ .vmem, ⟨34, _⟩ => ⟨S64x512, .f32⟩
  | .local _ .vmem, ⟨35, _⟩ => ⟨S64x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => false
  | _ => false

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  (ofTc nBuf bufTy 13 58 bufScoped semScoped dmaSemScoped tileCredit tileCredit_eq_zero tileCredit_pos).withBarriers [(0, 12)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_scratch10 : Ref sig .tc := ⟨.vmem, 16, rfl⟩
abbrev cc0_scratch11 : Ref sig .tc := ⟨.vmem, 17, rfl⟩
abbrev cc0_scratch12 : Ref sig .tc := ⟨.vmem, 18, rfl⟩
abbrev cc0_scratch13 : Ref sig .tc := ⟨.vmem, 19, rfl⟩
abbrev cc0_scratch14 : Ref sig .tc := ⟨.vmem, 20, rfl⟩
abbrev cc0_scratch15 : Ref sig .tc := ⟨.vmem, 21, rfl⟩
abbrev cc0_scratch16 : Ref sig .tc := ⟨.vmem, 22, rfl⟩
abbrev cc0_scratch17 : Ref sig .tc := ⟨.vmem, 23, rfl⟩
abbrev cc0_scratch18 : Ref sig .tc := ⟨.vmem, 24, rfl⟩
abbrev cc0_scratch19 : Ref sig .tc := ⟨.vmem, 25, rfl⟩
abbrev cc0_scratch20 : Ref sig .tc := ⟨.vmem, 26, rfl⟩
abbrev cc0_scratch21 : Ref sig .tc := ⟨.vmem, 27, rfl⟩
abbrev cc0_scratch22 : Ref sig .tc := ⟨.vmem, 28, rfl⟩
abbrev cc0_scratch23 : Ref sig .tc := ⟨.vmem, 29, rfl⟩
abbrev cc0_scratch24 : Ref sig .tc := ⟨.vmem, 30, rfl⟩
abbrev cc0_scratch25 : Ref sig .tc := ⟨.vmem, 31, rfl⟩
abbrev cc0_scratch26 : Ref sig .tc := ⟨.vmem, 32, rfl⟩
abbrev cc0_scratch27 : Ref sig .tc := ⟨.vmem, 33, rfl⟩
abbrev cc0_scratch28 : Ref sig .tc := ⟨.vmem, 34, rfl⟩
abbrev cc0_scratch29 : Ref sig .tc := ⟨.vmem, 35, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 12

abbrev nD : Nat := 32
abbrev τ : Topo := Topo.v7x

variable {F : FTy → Type} [FloatOps F]

abbrev grid0 : Pipeline.Grid := .none

def k0_dev1 (d0 : Dev nD) : Nat :=
  let c0_i32_110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_37 : BitVec 32 := 8#32
  let v81 : BitVec 32 := Scalar.muli v19 c8_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v70 : BitVec 32 := Scalar.addi v46 c1_i32_31
  let c4_i32 : BitVec 32 := 4#32
  let c0_i32_32 : BitVec 32 := 0#32
  let v71 : BitVec 1 := Scalar.cmpi .eq c4_i32 c0_i32_32
  let c1_i32_33 : BitVec 32 := 1#32
  let v72 : BitVec 32 := Scalar.select v71 c1_i32_33 c4_i32
  let v73 : BitVec 32 := Scalar.remsi v70 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c2_i32_38 : BitVec 32 := 2#32
  let v82 : BitVec 32 := Scalar.muli v80 c2_i32_38
  let v83 : BitVec 32 := Scalar.addi v81 v82
  let c2_i32_39 : BitVec 32 := 2#32
  let c0_i32_40 : BitVec 32 := 0#32
  let v84 : BitVec 1 := Scalar.cmpi .eq c2_i32_39 c0_i32_40
  let c1_i32_41 : BitVec 32 := 1#32
  let v85 : BitVec 32 := Scalar.select v84 c1_i32_41 c2_i32_39
  let v86 : BitVec 32 := Scalar.remsi v80 v85
  let c0_i32_43 : BitVec 32 := 0#32
  let v88 : BitVec 1 := Scalar.cmpi .slt v86 c0_i32_43
  let c0_i32_44 : BitVec 32 := 0#32
  let v89 : BitVec 1 := Scalar.cmpi .slt v85 c0_i32_44
  let v90 : BitVec 1 := Scalar.xori v88 v89
  let c0_i32_42 : BitVec 32 := 0#32
  let v87 : BitVec 1 := Scalar.cmpi .ne v86 c0_i32_42
  let v91 : BitVec 1 := Scalar.andi v90 v87
  let v92 : BitVec 32 := Scalar.addi v86 v85
  let v93 : BitVec 32 := Scalar.select v91 v92 v86
  let c0_i32_45 : BitVec 32 := 0#32
  let v94 : BitVec 1 := Scalar.cmpi .eq v93 c0_i32_45
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_46 : BitVec 32 := 1#32
  let v95 : BitVec 32 := Scalar.subi c1_i32_46 v69
  let v96 : BitVec 32 := Scalar.select v94 v69 v95
  let v97 : BitVec 32 := Scalar.addi v83 v96
  let c1_i32_109 : BitVec 32 := 1#32
  let v201 : BitVec 32 := Scalar.muli v97 c1_i32_109
  let v202 : BitVec 32 := Scalar.addi c0_i32_110 v201
  v202.toNat
def k0_dev2 (d0 : Dev nD) : Nat :=
  let c0_i32_113 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_53 : BitVec 32 := 8#32
  let v109 : BitVec 32 := Scalar.muli v19 c8_i32_53
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v98 : BitVec 32 := Scalar.addi v46 c3_i32
  let c4_i32_47 : BitVec 32 := 4#32
  let c0_i32_48 : BitVec 32 := 0#32
  let v99 : BitVec 1 := Scalar.cmpi .eq c4_i32_47 c0_i32_48
  let c1_i32_49 : BitVec 32 := 1#32
  let v100 : BitVec 32 := Scalar.select v99 c1_i32_49 c4_i32_47
  let v101 : BitVec 32 := Scalar.remsi v98 v100
  let c0_i32_51 : BitVec 32 := 0#32
  let v103 : BitVec 1 := Scalar.cmpi .slt v101 c0_i32_51
  let c0_i32_52 : BitVec 32 := 0#32
  let v104 : BitVec 1 := Scalar.cmpi .slt v100 c0_i32_52
  let v105 : BitVec 1 := Scalar.xori v103 v104
  let c0_i32_50 : BitVec 32 := 0#32
  let v102 : BitVec 1 := Scalar.cmpi .ne v101 c0_i32_50
  let v106 : BitVec 1 := Scalar.andi v105 v102
  let v107 : BitVec 32 := Scalar.addi v101 v100
  let v108 : BitVec 32 := Scalar.select v106 v107 v101
  let c2_i32_54 : BitVec 32 := 2#32
  let v110 : BitVec 32 := Scalar.muli v108 c2_i32_54
  let v111 : BitVec 32 := Scalar.addi v109 v110
  let c2_i32_55 : BitVec 32 := 2#32
  let c0_i32_56 : BitVec 32 := 0#32
  let v112 : BitVec 1 := Scalar.cmpi .eq c2_i32_55 c0_i32_56
  let c1_i32_57 : BitVec 32 := 1#32
  let v113 : BitVec 32 := Scalar.select v112 c1_i32_57 c2_i32_55
  let v114 : BitVec 32 := Scalar.remsi v108 v113
  let c0_i32_59 : BitVec 32 := 0#32
  let v116 : BitVec 1 := Scalar.cmpi .slt v114 c0_i32_59
  let c0_i32_60 : BitVec 32 := 0#32
  let v117 : BitVec 1 := Scalar.cmpi .slt v113 c0_i32_60
  let v118 : BitVec 1 := Scalar.xori v116 v117
  let c0_i32_58 : BitVec 32 := 0#32
  let v115 : BitVec 1 := Scalar.cmpi .ne v114 c0_i32_58
  let v119 : BitVec 1 := Scalar.andi v118 v115
  let v120 : BitVec 32 := Scalar.addi v114 v113
  let v121 : BitVec 32 := Scalar.select v119 v120 v114
  let c0_i32_61 : BitVec 32 := 0#32
  let v122 : BitVec 1 := Scalar.cmpi .eq v121 c0_i32_61
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_62 : BitVec 32 := 1#32
  let v123 : BitVec 32 := Scalar.subi c1_i32_62 v69
  let v124 : BitVec 32 := Scalar.select v122 v69 v123
  let v125 : BitVec 32 := Scalar.addi v111 v124
  let c1_i32_112 : BitVec 32 := 1#32
  let v203 : BitVec 32 := Scalar.muli v125 c1_i32_112
  let v204 : BitVec 32 := Scalar.addi c0_i32_113 v203
  v204.toNat
def k0_dev3 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_63 : BitVec 32 := 1#32
  let v126 : BitVec 32 := Scalar.addi v19 c1_i32_63
  let c4_i32_64 : BitVec 32 := 4#32
  let c0_i32_65 : BitVec 32 := 0#32
  let v127 : BitVec 1 := Scalar.cmpi .eq c4_i32_64 c0_i32_65
  let c1_i32_66 : BitVec 32 := 1#32
  let v128 : BitVec 32 := Scalar.select v127 c1_i32_66 c4_i32_64
  let v129 : BitVec 32 := Scalar.remsi v126 v128
  let c0_i32_68 : BitVec 32 := 0#32
  let v131 : BitVec 1 := Scalar.cmpi .slt v129 c0_i32_68
  let c0_i32_69 : BitVec 32 := 0#32
  let v132 : BitVec 1 := Scalar.cmpi .slt v128 c0_i32_69
  let v133 : BitVec 1 := Scalar.xori v131 v132
  let c0_i32_67 : BitVec 32 := 0#32
  let v130 : BitVec 1 := Scalar.cmpi .ne v129 c0_i32_67
  let v134 : BitVec 1 := Scalar.andi v133 v130
  let v135 : BitVec 32 := Scalar.addi v129 v128
  let v136 : BitVec 32 := Scalar.select v134 v135 v129
  let c8_i32_70 : BitVec 32 := 8#32
  let v137 : BitVec 32 := Scalar.muli v136 c8_i32_70
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_71 : BitVec 32 := 2#32
  let v138 : BitVec 32 := Scalar.muli v46 c2_i32_71
  let v139 : BitVec 32 := Scalar.addi v137 v138
  let c2_i32_72 : BitVec 32 := 2#32
  let c0_i32_73 : BitVec 32 := 0#32
  let v140 : BitVec 1 := Scalar.cmpi .eq c2_i32_72 c0_i32_73
  let c1_i32_74 : BitVec 32 := 1#32
  let v141 : BitVec 32 := Scalar.select v140 c1_i32_74 c2_i32_72
  let v142 : BitVec 32 := Scalar.remsi v46 v141
  let c0_i32_76 : BitVec 32 := 0#32
  let v144 : BitVec 1 := Scalar.cmpi .slt v142 c0_i32_76
  let c0_i32_77 : BitVec 32 := 0#32
  let v145 : BitVec 1 := Scalar.cmpi .slt v141 c0_i32_77
  let v146 : BitVec 1 := Scalar.xori v144 v145
  let c0_i32_75 : BitVec 32 := 0#32
  let v143 : BitVec 1 := Scalar.cmpi .ne v142 c0_i32_75
  let v147 : BitVec 1 := Scalar.andi v146 v143
  let v148 : BitVec 32 := Scalar.addi v142 v141
  let v149 : BitVec 32 := Scalar.select v147 v148 v142
  let c0_i32_78 : BitVec 32 := 0#32
  let v150 : BitVec 1 := Scalar.cmpi .eq v149 c0_i32_78
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_79 : BitVec 32 := 1#32
  let v151 : BitVec 32 := Scalar.subi c1_i32_79 v69
  let v152 : BitVec 32 := Scalar.select v150 v69 v151
  let v153 : BitVec 32 := Scalar.addi v139 v152
  let c1_i32_115 : BitVec 32 := 1#32
  let v205 : BitVec 32 := Scalar.muli v153 c1_i32_115
  let v206 : BitVec 32 := Scalar.addi c0_i32_116 v205
  v206.toNat
def k0_dev4 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_80 : BitVec 32 := 3#32
  let v154 : BitVec 32 := Scalar.addi v19 c3_i32_80
  let c4_i32_81 : BitVec 32 := 4#32
  let c0_i32_82 : BitVec 32 := 0#32
  let v155 : BitVec 1 := Scalar.cmpi .eq c4_i32_81 c0_i32_82
  let c1_i32_83 : BitVec 32 := 1#32
  let v156 : BitVec 32 := Scalar.select v155 c1_i32_83 c4_i32_81
  let v157 : BitVec 32 := Scalar.remsi v154 v156
  let c0_i32_85 : BitVec 32 := 0#32
  let v159 : BitVec 1 := Scalar.cmpi .slt v157 c0_i32_85
  let c0_i32_86 : BitVec 32 := 0#32
  let v160 : BitVec 1 := Scalar.cmpi .slt v156 c0_i32_86
  let v161 : BitVec 1 := Scalar.xori v159 v160
  let c0_i32_84 : BitVec 32 := 0#32
  let v158 : BitVec 1 := Scalar.cmpi .ne v157 c0_i32_84
  let v162 : BitVec 1 := Scalar.andi v161 v158
  let v163 : BitVec 32 := Scalar.addi v157 v156
  let v164 : BitVec 32 := Scalar.select v162 v163 v157
  let c8_i32_87 : BitVec 32 := 8#32
  let v165 : BitVec 32 := Scalar.muli v164 c8_i32_87
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_88 : BitVec 32 := 2#32
  let v166 : BitVec 32 := Scalar.muli v46 c2_i32_88
  let v167 : BitVec 32 := Scalar.addi v165 v166
  let c2_i32_89 : BitVec 32 := 2#32
  let c0_i32_90 : BitVec 32 := 0#32
  let v168 : BitVec 1 := Scalar.cmpi .eq c2_i32_89 c0_i32_90
  let c1_i32_91 : BitVec 32 := 1#32
  let v169 : BitVec 32 := Scalar.select v168 c1_i32_91 c2_i32_89
  let v170 : BitVec 32 := Scalar.remsi v46 v169
  let c0_i32_93 : BitVec 32 := 0#32
  let v172 : BitVec 1 := Scalar.cmpi .slt v170 c0_i32_93
  let c0_i32_94 : BitVec 32 := 0#32
  let v173 : BitVec 1 := Scalar.cmpi .slt v169 c0_i32_94
  let v174 : BitVec 1 := Scalar.xori v172 v173
  let c0_i32_92 : BitVec 32 := 0#32
  let v171 : BitVec 1 := Scalar.cmpi .ne v170 c0_i32_92
  let v175 : BitVec 1 := Scalar.andi v174 v171
  let v176 : BitVec 32 := Scalar.addi v170 v169
  let v177 : BitVec 32 := Scalar.select v175 v176 v170
  let c0_i32_95 : BitVec 32 := 0#32
  let v178 : BitVec 1 := Scalar.cmpi .eq v177 c0_i32_95
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_96 : BitVec 32 := 1#32
  let v179 : BitVec 32 := Scalar.subi c1_i32_96 v69
  let v180 : BitVec 32 := Scalar.select v178 v69 v179
  let v181 : BitVec 32 := Scalar.addi v167 v180
  let c1_i32_118 : BitVec 32 := 1#32
  let v207 : BitVec 32 := Scalar.muli v181 c1_i32_118
  let v208 : BitVec 32 := Scalar.addi c0_i32_119 v207
  v208.toNat
def k0_dev5 (d0 : Dev nD) : Nat :=
  let c0_i32_122 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_98 : BitVec 32 := 8#32
  let v183 : BitVec 32 := Scalar.muli v19 c8_i32_98
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_99 : BitVec 32 := 2#32
  let v184 : BitVec 32 := Scalar.muli v46 c2_i32_99
  let v185 : BitVec 32 := Scalar.addi v183 v184
  let c2_i32_100 : BitVec 32 := 2#32
  let c0_i32_101 : BitVec 32 := 0#32
  let v186 : BitVec 1 := Scalar.cmpi .eq c2_i32_100 c0_i32_101
  let c1_i32_102 : BitVec 32 := 1#32
  let v187 : BitVec 32 := Scalar.select v186 c1_i32_102 c2_i32_100
  let v188 : BitVec 32 := Scalar.remsi v46 v187
  let c0_i32_104 : BitVec 32 := 0#32
  let v190 : BitVec 1 := Scalar.cmpi .slt v188 c0_i32_104
  let c0_i32_105 : BitVec 32 := 0#32
  let v191 : BitVec 1 := Scalar.cmpi .slt v187 c0_i32_105
  let v192 : BitVec 1 := Scalar.xori v190 v191
  let c0_i32_103 : BitVec 32 := 0#32
  let v189 : BitVec 1 := Scalar.cmpi .ne v188 c0_i32_103
  let v193 : BitVec 1 := Scalar.andi v192 v189
  let v194 : BitVec 32 := Scalar.addi v188 v187
  let v195 : BitVec 32 := Scalar.select v193 v194 v188
  let c0_i32_106 : BitVec 32 := 0#32
  let v196 : BitVec 1 := Scalar.cmpi .eq v195 c0_i32_106
  let c1_i32_97 : BitVec 32 := 1#32
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let v182 : BitVec 32 := Scalar.subi c1_i32_97 v69
  let c1_i32_107 : BitVec 32 := 1#32
  let v197 : BitVec 32 := Scalar.subi c1_i32_107 v182
  let v198 : BitVec 32 := Scalar.select v196 v182 v197
  let v199 : BitVec 32 := Scalar.addi v185 v198
  let c1_i32_121 : BitVec 32 := 1#32
  let v209 : BitVec 32 := Scalar.muli v199 c1_i32_121
  let v210 : BitVec 32 := Scalar.addi c0_i32_122 v209
  v210.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c256_i32_191 : BitVec 32 := 256#32
  let v352 : BitVec 32 := Scalar.muli v46 c256_i32_191
  let v353 : Index := Scalar.indexCast v352
  let c0_192 : Index := 0#32
  ![v353.toNat, 0]
def k0_off2 (d0 : Dev nD) : Fin 2 → Nat :=
  let c0_194 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c256_i32_193 : BitVec 32 := 256#32
  let v356 : BitVec 32 := Scalar.muli v46 c256_i32_193
  let v357 : Index := Scalar.indexCast v356
  ![0, v357.toNat]
def k0_off3 (d0 : Dev nD) : Fin 2 → Nat :=
  let c1_200 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c256_i32_199 : BitVec 32 := 256#32
  let v366 : BitVec 32 := Scalar.muli v46 c256_i32_199
  let v367 : Index := Scalar.indexCast v366
  ![1, v367.toNat]
def k0_off4 (d0 : Dev nD) : Fin 2 → Nat :=
  let c2_206 : Index := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c256_i32_205 : BitVec 32 := 256#32
  let v377 : BitVec 32 := Scalar.muli v46 c256_i32_205
  let v378 : Index := Scalar.indexCast v377
  ![2, v378.toNat]
def k0_off5 (d0 : Dev nD) : Fin 2 → Nat :=
  let c3_212 : Index := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c256_i32_211 : BitVec 32 := 256#32
  let v388 : BitVec 32 := Scalar.muli v46 c256_i32_211
  let v389 : Index := Scalar.indexCast v388
  ![3, v389.toNat]
def k0_dev6 (d0 : Dev nD) : Nat :=
  let c0_i32_225 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_37 : BitVec 32 := 8#32
  let v81 : BitVec 32 := Scalar.muli v19 c8_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v70 : BitVec 32 := Scalar.addi v46 c1_i32_31
  let c4_i32 : BitVec 32 := 4#32
  let c0_i32_32 : BitVec 32 := 0#32
  let v71 : BitVec 1 := Scalar.cmpi .eq c4_i32 c0_i32_32
  let c1_i32_33 : BitVec 32 := 1#32
  let v72 : BitVec 32 := Scalar.select v71 c1_i32_33 c4_i32
  let v73 : BitVec 32 := Scalar.remsi v70 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c2_i32_38 : BitVec 32 := 2#32
  let v82 : BitVec 32 := Scalar.muli v80 c2_i32_38
  let v83 : BitVec 32 := Scalar.addi v81 v82
  let c2_i32_39 : BitVec 32 := 2#32
  let c0_i32_40 : BitVec 32 := 0#32
  let v84 : BitVec 1 := Scalar.cmpi .eq c2_i32_39 c0_i32_40
  let c1_i32_41 : BitVec 32 := 1#32
  let v85 : BitVec 32 := Scalar.select v84 c1_i32_41 c2_i32_39
  let v86 : BitVec 32 := Scalar.remsi v80 v85
  let c0_i32_43 : BitVec 32 := 0#32
  let v88 : BitVec 1 := Scalar.cmpi .slt v86 c0_i32_43
  let c0_i32_44 : BitVec 32 := 0#32
  let v89 : BitVec 1 := Scalar.cmpi .slt v85 c0_i32_44
  let v90 : BitVec 1 := Scalar.xori v88 v89
  let c0_i32_42 : BitVec 32 := 0#32
  let v87 : BitVec 1 := Scalar.cmpi .ne v86 c0_i32_42
  let v91 : BitVec 1 := Scalar.andi v90 v87
  let v92 : BitVec 32 := Scalar.addi v86 v85
  let v93 : BitVec 32 := Scalar.select v91 v92 v86
  let c0_i32_45 : BitVec 32 := 0#32
  let v94 : BitVec 1 := Scalar.cmpi .eq v93 c0_i32_45
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_46 : BitVec 32 := 1#32
  let v95 : BitVec 32 := Scalar.subi c1_i32_46 v69
  let v96 : BitVec 32 := Scalar.select v94 v69 v95
  let v97 : BitVec 32 := Scalar.addi v83 v96
  let c1_i32_224 : BitVec 32 := 1#32
  let v402 : BitVec 32 := Scalar.muli v97 c1_i32_224
  let v403 : BitVec 32 := Scalar.addi c0_i32_225 v402
  v403.toNat
def k0_dev7 (d0 : Dev nD) : Nat :=
  let c0_i32_263 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_37 : BitVec 32 := 8#32
  let v81 : BitVec 32 := Scalar.muli v19 c8_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v70 : BitVec 32 := Scalar.addi v46 c1_i32_31
  let c4_i32 : BitVec 32 := 4#32
  let c0_i32_32 : BitVec 32 := 0#32
  let v71 : BitVec 1 := Scalar.cmpi .eq c4_i32 c0_i32_32
  let c1_i32_33 : BitVec 32 := 1#32
  let v72 : BitVec 32 := Scalar.select v71 c1_i32_33 c4_i32
  let v73 : BitVec 32 := Scalar.remsi v70 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c2_i32_38 : BitVec 32 := 2#32
  let v82 : BitVec 32 := Scalar.muli v80 c2_i32_38
  let v83 : BitVec 32 := Scalar.addi v81 v82
  let c2_i32_39 : BitVec 32 := 2#32
  let c0_i32_40 : BitVec 32 := 0#32
  let v84 : BitVec 1 := Scalar.cmpi .eq c2_i32_39 c0_i32_40
  let c1_i32_41 : BitVec 32 := 1#32
  let v85 : BitVec 32 := Scalar.select v84 c1_i32_41 c2_i32_39
  let v86 : BitVec 32 := Scalar.remsi v80 v85
  let c0_i32_43 : BitVec 32 := 0#32
  let v88 : BitVec 1 := Scalar.cmpi .slt v86 c0_i32_43
  let c0_i32_44 : BitVec 32 := 0#32
  let v89 : BitVec 1 := Scalar.cmpi .slt v85 c0_i32_44
  let v90 : BitVec 1 := Scalar.xori v88 v89
  let c0_i32_42 : BitVec 32 := 0#32
  let v87 : BitVec 1 := Scalar.cmpi .ne v86 c0_i32_42
  let v91 : BitVec 1 := Scalar.andi v90 v87
  let v92 : BitVec 32 := Scalar.addi v86 v85
  let v93 : BitVec 32 := Scalar.select v91 v92 v86
  let c0_i32_45 : BitVec 32 := 0#32
  let v94 : BitVec 1 := Scalar.cmpi .eq v93 c0_i32_45
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_46 : BitVec 32 := 1#32
  let v95 : BitVec 32 := Scalar.subi c1_i32_46 v69
  let v96 : BitVec 32 := Scalar.select v94 v69 v95
  let v97 : BitVec 32 := Scalar.addi v83 v96
  let c1_i32_262 : BitVec 32 := 1#32
  let v462 : BitVec 32 := Scalar.muli v97 c1_i32_262
  let v463 : BitVec 32 := Scalar.addi c0_i32_263 v462
  v463.toNat
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c256_i32_268 : BitVec 32 := 256#32
  let v472 : BitVec 32 := Scalar.muli v19 c256_i32_268
  let v473 : Index := Scalar.indexCast v472
  let c0_269 : Index := 0#32
  ![v473.toNat, 0]
def k0_off7 (d0 : Dev nD) : Fin 2 → Nat :=
  let c0_271 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c256_i32_270 : BitVec 32 := 256#32
  let v476 : BitVec 32 := Scalar.muli v19 c256_i32_270
  let v477 : Index := Scalar.indexCast v476
  ![0, v477.toNat]
def k0_off8 (d0 : Dev nD) : Fin 2 → Nat :=
  let c1_276 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c256_i32_275 : BitVec 32 := 256#32
  let v486 : BitVec 32 := Scalar.muli v19 c256_i32_275
  let v487 : Index := Scalar.indexCast v486
  ![1, v487.toNat]
def k0_off9 (d0 : Dev nD) : Fin 2 → Nat :=
  let c2_282 : Index := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c256_i32_281 : BitVec 32 := 256#32
  let v497 : BitVec 32 := Scalar.muli v19 c256_i32_281
  let v498 : Index := Scalar.indexCast v497
  ![2, v498.toNat]
def k0_off10 (d0 : Dev nD) : Fin 2 → Nat :=
  let c3_288 : Index := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c256_i32_287 : BitVec 32 := 256#32
  let v508 : BitVec 32 := Scalar.muli v19 c256_i32_287
  let v509 : Index := Scalar.indexCast v508
  ![3, v509.toNat]
def k0_dev8 (d0 : Dev nD) : Nat :=
  let c0_i32_301 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_63 : BitVec 32 := 1#32
  let v126 : BitVec 32 := Scalar.addi v19 c1_i32_63
  let c4_i32_64 : BitVec 32 := 4#32
  let c0_i32_65 : BitVec 32 := 0#32
  let v127 : BitVec 1 := Scalar.cmpi .eq c4_i32_64 c0_i32_65
  let c1_i32_66 : BitVec 32 := 1#32
  let v128 : BitVec 32 := Scalar.select v127 c1_i32_66 c4_i32_64
  let v129 : BitVec 32 := Scalar.remsi v126 v128
  let c0_i32_68 : BitVec 32 := 0#32
  let v131 : BitVec 1 := Scalar.cmpi .slt v129 c0_i32_68
  let c0_i32_69 : BitVec 32 := 0#32
  let v132 : BitVec 1 := Scalar.cmpi .slt v128 c0_i32_69
  let v133 : BitVec 1 := Scalar.xori v131 v132
  let c0_i32_67 : BitVec 32 := 0#32
  let v130 : BitVec 1 := Scalar.cmpi .ne v129 c0_i32_67
  let v134 : BitVec 1 := Scalar.andi v133 v130
  let v135 : BitVec 32 := Scalar.addi v129 v128
  let v136 : BitVec 32 := Scalar.select v134 v135 v129
  let c8_i32_70 : BitVec 32 := 8#32
  let v137 : BitVec 32 := Scalar.muli v136 c8_i32_70
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_71 : BitVec 32 := 2#32
  let v138 : BitVec 32 := Scalar.muli v46 c2_i32_71
  let v139 : BitVec 32 := Scalar.addi v137 v138
  let c2_i32_72 : BitVec 32 := 2#32
  let c0_i32_73 : BitVec 32 := 0#32
  let v140 : BitVec 1 := Scalar.cmpi .eq c2_i32_72 c0_i32_73
  let c1_i32_74 : BitVec 32 := 1#32
  let v141 : BitVec 32 := Scalar.select v140 c1_i32_74 c2_i32_72
  let v142 : BitVec 32 := Scalar.remsi v46 v141
  let c0_i32_76 : BitVec 32 := 0#32
  let v144 : BitVec 1 := Scalar.cmpi .slt v142 c0_i32_76
  let c0_i32_77 : BitVec 32 := 0#32
  let v145 : BitVec 1 := Scalar.cmpi .slt v141 c0_i32_77
  let v146 : BitVec 1 := Scalar.xori v144 v145
  let c0_i32_75 : BitVec 32 := 0#32
  let v143 : BitVec 1 := Scalar.cmpi .ne v142 c0_i32_75
  let v147 : BitVec 1 := Scalar.andi v146 v143
  let v148 : BitVec 32 := Scalar.addi v142 v141
  let v149 : BitVec 32 := Scalar.select v147 v148 v142
  let c0_i32_78 : BitVec 32 := 0#32
  let v150 : BitVec 1 := Scalar.cmpi .eq v149 c0_i32_78
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_79 : BitVec 32 := 1#32
  let v151 : BitVec 32 := Scalar.subi c1_i32_79 v69
  let v152 : BitVec 32 := Scalar.select v150 v69 v151
  let v153 : BitVec 32 := Scalar.addi v139 v152
  let c1_i32_300 : BitVec 32 := 1#32
  let v522 : BitVec 32 := Scalar.muli v153 c1_i32_300
  let v523 : BitVec 32 := Scalar.addi c0_i32_301 v522
  v523.toNat
def k0_dev9 (d0 : Dev nD) : Nat :=
  let c0_i32_339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_63 : BitVec 32 := 1#32
  let v126 : BitVec 32 := Scalar.addi v19 c1_i32_63
  let c4_i32_64 : BitVec 32 := 4#32
  let c0_i32_65 : BitVec 32 := 0#32
  let v127 : BitVec 1 := Scalar.cmpi .eq c4_i32_64 c0_i32_65
  let c1_i32_66 : BitVec 32 := 1#32
  let v128 : BitVec 32 := Scalar.select v127 c1_i32_66 c4_i32_64
  let v129 : BitVec 32 := Scalar.remsi v126 v128
  let c0_i32_68 : BitVec 32 := 0#32
  let v131 : BitVec 1 := Scalar.cmpi .slt v129 c0_i32_68
  let c0_i32_69 : BitVec 32 := 0#32
  let v132 : BitVec 1 := Scalar.cmpi .slt v128 c0_i32_69
  let v133 : BitVec 1 := Scalar.xori v131 v132
  let c0_i32_67 : BitVec 32 := 0#32
  let v130 : BitVec 1 := Scalar.cmpi .ne v129 c0_i32_67
  let v134 : BitVec 1 := Scalar.andi v133 v130
  let v135 : BitVec 32 := Scalar.addi v129 v128
  let v136 : BitVec 32 := Scalar.select v134 v135 v129
  let c8_i32_70 : BitVec 32 := 8#32
  let v137 : BitVec 32 := Scalar.muli v136 c8_i32_70
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_71 : BitVec 32 := 2#32
  let v138 : BitVec 32 := Scalar.muli v46 c2_i32_71
  let v139 : BitVec 32 := Scalar.addi v137 v138
  let c2_i32_72 : BitVec 32 := 2#32
  let c0_i32_73 : BitVec 32 := 0#32
  let v140 : BitVec 1 := Scalar.cmpi .eq c2_i32_72 c0_i32_73
  let c1_i32_74 : BitVec 32 := 1#32
  let v141 : BitVec 32 := Scalar.select v140 c1_i32_74 c2_i32_72
  let v142 : BitVec 32 := Scalar.remsi v46 v141
  let c0_i32_76 : BitVec 32 := 0#32
  let v144 : BitVec 1 := Scalar.cmpi .slt v142 c0_i32_76
  let c0_i32_77 : BitVec 32 := 0#32
  let v145 : BitVec 1 := Scalar.cmpi .slt v141 c0_i32_77
  let v146 : BitVec 1 := Scalar.xori v144 v145
  let c0_i32_75 : BitVec 32 := 0#32
  let v143 : BitVec 1 := Scalar.cmpi .ne v142 c0_i32_75
  let v147 : BitVec 1 := Scalar.andi v146 v143
  let v148 : BitVec 32 := Scalar.addi v142 v141
  let v149 : BitVec 32 := Scalar.select v147 v148 v142
  let c0_i32_78 : BitVec 32 := 0#32
  let v150 : BitVec 1 := Scalar.cmpi .eq v149 c0_i32_78
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_79 : BitVec 32 := 1#32
  let v151 : BitVec 32 := Scalar.subi c1_i32_79 v69
  let v152 : BitVec 32 := Scalar.select v150 v69 v151
  let v153 : BitVec 32 := Scalar.addi v139 v152
  let c1_i32_338 : BitVec 32 := 1#32
  let v582 : BitVec 32 := Scalar.muli v153 c1_i32_338
  let v583 : BitVec 32 := Scalar.addi c0_i32_339 v582
  v583.toNat
def k0_off11 (d0 : Dev nD) (c0_i32_344 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v592 : BitVec 32 := Scalar.subi v46 c0_i32_344
  let c1_i32_345 : BitVec 32 := 1#32
  let v593 : BitVec 32 := Scalar.subi v592 c1_i32_345
  let c4_i32_346 : BitVec 32 := 4#32
  let c0_i32_347 : BitVec 32 := 0#32
  let v594 : BitVec 1 := Scalar.cmpi .eq c4_i32_346 c0_i32_347
  let c1_i32_348 : BitVec 32 := 1#32
  let v595 : BitVec 32 := Scalar.select v594 c1_i32_348 c4_i32_346
  let v596 : BitVec 32 := Scalar.remsi v593 v595
  let c0_i32_350 : BitVec 32 := 0#32
  let v598 : BitVec 1 := Scalar.cmpi .slt v596 c0_i32_350
  let c0_i32_351 : BitVec 32 := 0#32
  let v599 : BitVec 1 := Scalar.cmpi .slt v595 c0_i32_351
  let v600 : BitVec 1 := Scalar.xori v598 v599
  let c0_i32_349 : BitVec 32 := 0#32
  let v597 : BitVec 1 := Scalar.cmpi .ne v596 c0_i32_349
  let v601 : BitVec 1 := Scalar.andi v600 v597
  let v602 : BitVec 32 := Scalar.addi v596 v595
  let v603 : BitVec 32 := Scalar.select v601 v602 v596
  let c256_i32_352 : BitVec 32 := 256#32
  let v604 : BitVec 32 := Scalar.muli v603 c256_i32_352
  let v605 : Index := Scalar.indexCast v604
  let c0_353 : Index := 0#32
  ![v605.toNat, 0]
def k0_off12 (d0 : Dev nD) (c0_i32_344 : BitVec 32) : Fin 2 → Nat :=
  let c0_355 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v592 : BitVec 32 := Scalar.subi v46 c0_i32_344
  let c1_i32_345 : BitVec 32 := 1#32
  let v593 : BitVec 32 := Scalar.subi v592 c1_i32_345
  let c4_i32_346 : BitVec 32 := 4#32
  let c0_i32_347 : BitVec 32 := 0#32
  let v594 : BitVec 1 := Scalar.cmpi .eq c4_i32_346 c0_i32_347
  let c1_i32_348 : BitVec 32 := 1#32
  let v595 : BitVec 32 := Scalar.select v594 c1_i32_348 c4_i32_346
  let v596 : BitVec 32 := Scalar.remsi v593 v595
  let c0_i32_350 : BitVec 32 := 0#32
  let v598 : BitVec 1 := Scalar.cmpi .slt v596 c0_i32_350
  let c0_i32_351 : BitVec 32 := 0#32
  let v599 : BitVec 1 := Scalar.cmpi .slt v595 c0_i32_351
  let v600 : BitVec 1 := Scalar.xori v598 v599
  let c0_i32_349 : BitVec 32 := 0#32
  let v597 : BitVec 1 := Scalar.cmpi .ne v596 c0_i32_349
  let v601 : BitVec 1 := Scalar.andi v600 v597
  let v602 : BitVec 32 := Scalar.addi v596 v595
  let v603 : BitVec 32 := Scalar.select v601 v602 v596
  let c256_i32_354 : BitVec 32 := 256#32
  let v608 : BitVec 32 := Scalar.muli v603 c256_i32_354
  let v609 : Index := Scalar.indexCast v608
  ![0, v609.toNat]
def k0_off13 (d0 : Dev nD) (c0_i32_344 : BitVec 32) : Fin 2 → Nat :=
  let c1_361 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v592 : BitVec 32 := Scalar.subi v46 c0_i32_344
  let c1_i32_345 : BitVec 32 := 1#32
  let v593 : BitVec 32 := Scalar.subi v592 c1_i32_345
  let c4_i32_346 : BitVec 32 := 4#32
  let c0_i32_347 : BitVec 32 := 0#32
  let v594 : BitVec 1 := Scalar.cmpi .eq c4_i32_346 c0_i32_347
  let c1_i32_348 : BitVec 32 := 1#32
  let v595 : BitVec 32 := Scalar.select v594 c1_i32_348 c4_i32_346
  let v596 : BitVec 32 := Scalar.remsi v593 v595
  let c0_i32_350 : BitVec 32 := 0#32
  let v598 : BitVec 1 := Scalar.cmpi .slt v596 c0_i32_350
  let c0_i32_351 : BitVec 32 := 0#32
  let v599 : BitVec 1 := Scalar.cmpi .slt v595 c0_i32_351
  let v600 : BitVec 1 := Scalar.xori v598 v599
  let c0_i32_349 : BitVec 32 := 0#32
  let v597 : BitVec 1 := Scalar.cmpi .ne v596 c0_i32_349
  let v601 : BitVec 1 := Scalar.andi v600 v597
  let v602 : BitVec 32 := Scalar.addi v596 v595
  let v603 : BitVec 32 := Scalar.select v601 v602 v596
  let c256_i32_360 : BitVec 32 := 256#32
  let v618 : BitVec 32 := Scalar.muli v603 c256_i32_360
  let v619 : Index := Scalar.indexCast v618
  ![1, v619.toNat]
def k0_off14 (d0 : Dev nD) (c0_i32_344 : BitVec 32) : Fin 2 → Nat :=
  let c2_367 : Index := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v592 : BitVec 32 := Scalar.subi v46 c0_i32_344
  let c1_i32_345 : BitVec 32 := 1#32
  let v593 : BitVec 32 := Scalar.subi v592 c1_i32_345
  let c4_i32_346 : BitVec 32 := 4#32
  let c0_i32_347 : BitVec 32 := 0#32
  let v594 : BitVec 1 := Scalar.cmpi .eq c4_i32_346 c0_i32_347
  let c1_i32_348 : BitVec 32 := 1#32
  let v595 : BitVec 32 := Scalar.select v594 c1_i32_348 c4_i32_346
  let v596 : BitVec 32 := Scalar.remsi v593 v595
  let c0_i32_350 : BitVec 32 := 0#32
  let v598 : BitVec 1 := Scalar.cmpi .slt v596 c0_i32_350
  let c0_i32_351 : BitVec 32 := 0#32
  let v599 : BitVec 1 := Scalar.cmpi .slt v595 c0_i32_351
  let v600 : BitVec 1 := Scalar.xori v598 v599
  let c0_i32_349 : BitVec 32 := 0#32
  let v597 : BitVec 1 := Scalar.cmpi .ne v596 c0_i32_349
  let v601 : BitVec 1 := Scalar.andi v600 v597
  let v602 : BitVec 32 := Scalar.addi v596 v595
  let v603 : BitVec 32 := Scalar.select v601 v602 v596
  let c256_i32_366 : BitVec 32 := 256#32
  let v629 : BitVec 32 := Scalar.muli v603 c256_i32_366
  let v630 : Index := Scalar.indexCast v629
  ![2, v630.toNat]
def k0_off15 (d0 : Dev nD) (c0_i32_344 : BitVec 32) : Fin 2 → Nat :=
  let c3_373 : Index := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v592 : BitVec 32 := Scalar.subi v46 c0_i32_344
  let c1_i32_345 : BitVec 32 := 1#32
  let v593 : BitVec 32 := Scalar.subi v592 c1_i32_345
  let c4_i32_346 : BitVec 32 := 4#32
  let c0_i32_347 : BitVec 32 := 0#32
  let v594 : BitVec 1 := Scalar.cmpi .eq c4_i32_346 c0_i32_347
  let c1_i32_348 : BitVec 32 := 1#32
  let v595 : BitVec 32 := Scalar.select v594 c1_i32_348 c4_i32_346
  let v596 : BitVec 32 := Scalar.remsi v593 v595
  let c0_i32_350 : BitVec 32 := 0#32
  let v598 : BitVec 1 := Scalar.cmpi .slt v596 c0_i32_350
  let c0_i32_351 : BitVec 32 := 0#32
  let v599 : BitVec 1 := Scalar.cmpi .slt v595 c0_i32_351
  let v600 : BitVec 1 := Scalar.xori v598 v599
  let c0_i32_349 : BitVec 32 := 0#32
  let v597 : BitVec 1 := Scalar.cmpi .ne v596 c0_i32_349
  let v601 : BitVec 1 := Scalar.andi v600 v597
  let v602 : BitVec 32 := Scalar.addi v596 v595
  let v603 : BitVec 32 := Scalar.select v601 v602 v596
  let c256_i32_372 : BitVec 32 := 256#32
  let v640 : BitVec 32 := Scalar.muli v603 c256_i32_372
  let v641 : Index := Scalar.indexCast v640
  ![3, v641.toNat]
def k0_off16 (d0 : Dev nD) (c0_i32_412 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v710 : BitVec 32 := Scalar.subi v19 c0_i32_412
  let c1_i32_413 : BitVec 32 := 1#32
  let v711 : BitVec 32 := Scalar.subi v710 c1_i32_413
  let c4_i32_414 : BitVec 32 := 4#32
  let c0_i32_415 : BitVec 32 := 0#32
  let v712 : BitVec 1 := Scalar.cmpi .eq c4_i32_414 c0_i32_415
  let c1_i32_416 : BitVec 32 := 1#32
  let v713 : BitVec 32 := Scalar.select v712 c1_i32_416 c4_i32_414
  let v714 : BitVec 32 := Scalar.remsi v711 v713
  let c0_i32_418 : BitVec 32 := 0#32
  let v716 : BitVec 1 := Scalar.cmpi .slt v714 c0_i32_418
  let c0_i32_419 : BitVec 32 := 0#32
  let v717 : BitVec 1 := Scalar.cmpi .slt v713 c0_i32_419
  let v718 : BitVec 1 := Scalar.xori v716 v717
  let c0_i32_417 : BitVec 32 := 0#32
  let v715 : BitVec 1 := Scalar.cmpi .ne v714 c0_i32_417
  let v719 : BitVec 1 := Scalar.andi v718 v715
  let v720 : BitVec 32 := Scalar.addi v714 v713
  let v721 : BitVec 32 := Scalar.select v719 v720 v714
  let c256_i32_420 : BitVec 32 := 256#32
  let v722 : BitVec 32 := Scalar.muli v721 c256_i32_420
  let v723 : Index := Scalar.indexCast v722
  let c0_421 : Index := 0#32
  ![v723.toNat, 0]
def k0_off17 (d0 : Dev nD) (c0_i32_412 : BitVec 32) : Fin 2 → Nat :=
  let c0_423 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v710 : BitVec 32 := Scalar.subi v19 c0_i32_412
  let c1_i32_413 : BitVec 32 := 1#32
  let v711 : BitVec 32 := Scalar.subi v710 c1_i32_413
  let c4_i32_414 : BitVec 32 := 4#32
  let c0_i32_415 : BitVec 32 := 0#32
  let v712 : BitVec 1 := Scalar.cmpi .eq c4_i32_414 c0_i32_415
  let c1_i32_416 : BitVec 32 := 1#32
  let v713 : BitVec 32 := Scalar.select v712 c1_i32_416 c4_i32_414
  let v714 : BitVec 32 := Scalar.remsi v711 v713
  let c0_i32_418 : BitVec 32 := 0#32
  let v716 : BitVec 1 := Scalar.cmpi .slt v714 c0_i32_418
  let c0_i32_419 : BitVec 32 := 0#32
  let v717 : BitVec 1 := Scalar.cmpi .slt v713 c0_i32_419
  let v718 : BitVec 1 := Scalar.xori v716 v717
  let c0_i32_417 : BitVec 32 := 0#32
  let v715 : BitVec 1 := Scalar.cmpi .ne v714 c0_i32_417
  let v719 : BitVec 1 := Scalar.andi v718 v715
  let v720 : BitVec 32 := Scalar.addi v714 v713
  let v721 : BitVec 32 := Scalar.select v719 v720 v714
  let c256_i32_422 : BitVec 32 := 256#32
  let v726 : BitVec 32 := Scalar.muli v721 c256_i32_422
  let v727 : Index := Scalar.indexCast v726
  ![0, v727.toNat]
def k0_off18 (d0 : Dev nD) (c0_i32_412 : BitVec 32) : Fin 2 → Nat :=
  let c1_429 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v710 : BitVec 32 := Scalar.subi v19 c0_i32_412
  let c1_i32_413 : BitVec 32 := 1#32
  let v711 : BitVec 32 := Scalar.subi v710 c1_i32_413
  let c4_i32_414 : BitVec 32 := 4#32
  let c0_i32_415 : BitVec 32 := 0#32
  let v712 : BitVec 1 := Scalar.cmpi .eq c4_i32_414 c0_i32_415
  let c1_i32_416 : BitVec 32 := 1#32
  let v713 : BitVec 32 := Scalar.select v712 c1_i32_416 c4_i32_414
  let v714 : BitVec 32 := Scalar.remsi v711 v713
  let c0_i32_418 : BitVec 32 := 0#32
  let v716 : BitVec 1 := Scalar.cmpi .slt v714 c0_i32_418
  let c0_i32_419 : BitVec 32 := 0#32
  let v717 : BitVec 1 := Scalar.cmpi .slt v713 c0_i32_419
  let v718 : BitVec 1 := Scalar.xori v716 v717
  let c0_i32_417 : BitVec 32 := 0#32
  let v715 : BitVec 1 := Scalar.cmpi .ne v714 c0_i32_417
  let v719 : BitVec 1 := Scalar.andi v718 v715
  let v720 : BitVec 32 := Scalar.addi v714 v713
  let v721 : BitVec 32 := Scalar.select v719 v720 v714
  let c256_i32_428 : BitVec 32 := 256#32
  let v736 : BitVec 32 := Scalar.muli v721 c256_i32_428
  let v737 : Index := Scalar.indexCast v736
  ![1, v737.toNat]
def k0_off19 (d0 : Dev nD) (c0_i32_412 : BitVec 32) : Fin 2 → Nat :=
  let c2_435 : Index := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v710 : BitVec 32 := Scalar.subi v19 c0_i32_412
  let c1_i32_413 : BitVec 32 := 1#32
  let v711 : BitVec 32 := Scalar.subi v710 c1_i32_413
  let c4_i32_414 : BitVec 32 := 4#32
  let c0_i32_415 : BitVec 32 := 0#32
  let v712 : BitVec 1 := Scalar.cmpi .eq c4_i32_414 c0_i32_415
  let c1_i32_416 : BitVec 32 := 1#32
  let v713 : BitVec 32 := Scalar.select v712 c1_i32_416 c4_i32_414
  let v714 : BitVec 32 := Scalar.remsi v711 v713
  let c0_i32_418 : BitVec 32 := 0#32
  let v716 : BitVec 1 := Scalar.cmpi .slt v714 c0_i32_418
  let c0_i32_419 : BitVec 32 := 0#32
  let v717 : BitVec 1 := Scalar.cmpi .slt v713 c0_i32_419
  let v718 : BitVec 1 := Scalar.xori v716 v717
  let c0_i32_417 : BitVec 32 := 0#32
  let v715 : BitVec 1 := Scalar.cmpi .ne v714 c0_i32_417
  let v719 : BitVec 1 := Scalar.andi v718 v715
  let v720 : BitVec 32 := Scalar.addi v714 v713
  let v721 : BitVec 32 := Scalar.select v719 v720 v714
  let c256_i32_434 : BitVec 32 := 256#32
  let v747 : BitVec 32 := Scalar.muli v721 c256_i32_434
  let v748 : Index := Scalar.indexCast v747
  ![2, v748.toNat]
def k0_off20 (d0 : Dev nD) (c0_i32_412 : BitVec 32) : Fin 2 → Nat :=
  let c3_441 : Index := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v710 : BitVec 32 := Scalar.subi v19 c0_i32_412
  let c1_i32_413 : BitVec 32 := 1#32
  let v711 : BitVec 32 := Scalar.subi v710 c1_i32_413
  let c4_i32_414 : BitVec 32 := 4#32
  let c0_i32_415 : BitVec 32 := 0#32
  let v712 : BitVec 1 := Scalar.cmpi .eq c4_i32_414 c0_i32_415
  let c1_i32_416 : BitVec 32 := 1#32
  let v713 : BitVec 32 := Scalar.select v712 c1_i32_416 c4_i32_414
  let v714 : BitVec 32 := Scalar.remsi v711 v713
  let c0_i32_418 : BitVec 32 := 0#32
  let v716 : BitVec 1 := Scalar.cmpi .slt v714 c0_i32_418
  let c0_i32_419 : BitVec 32 := 0#32
  let v717 : BitVec 1 := Scalar.cmpi .slt v713 c0_i32_419
  let v718 : BitVec 1 := Scalar.xori v716 v717
  let c0_i32_417 : BitVec 32 := 0#32
  let v715 : BitVec 1 := Scalar.cmpi .ne v714 c0_i32_417
  let v719 : BitVec 1 := Scalar.andi v718 v715
  let v720 : BitVec 32 := Scalar.addi v714 v713
  let v721 : BitVec 32 := Scalar.select v719 v720 v714
  let c256_i32_440 : BitVec 32 := 256#32
  let v758 : BitVec 32 := Scalar.muli v721 c256_i32_440
  let v759 : Index := Scalar.indexCast v758
  ![3, v759.toNat]
def k0_dev10 (d0 : Dev nD) : Nat :=
  let c0_i32_510 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_37 : BitVec 32 := 8#32
  let v81 : BitVec 32 := Scalar.muli v19 c8_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v70 : BitVec 32 := Scalar.addi v46 c1_i32_31
  let c4_i32 : BitVec 32 := 4#32
  let c0_i32_32 : BitVec 32 := 0#32
  let v71 : BitVec 1 := Scalar.cmpi .eq c4_i32 c0_i32_32
  let c1_i32_33 : BitVec 32 := 1#32
  let v72 : BitVec 32 := Scalar.select v71 c1_i32_33 c4_i32
  let v73 : BitVec 32 := Scalar.remsi v70 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c2_i32_38 : BitVec 32 := 2#32
  let v82 : BitVec 32 := Scalar.muli v80 c2_i32_38
  let v83 : BitVec 32 := Scalar.addi v81 v82
  let c2_i32_39 : BitVec 32 := 2#32
  let c0_i32_40 : BitVec 32 := 0#32
  let v84 : BitVec 1 := Scalar.cmpi .eq c2_i32_39 c0_i32_40
  let c1_i32_41 : BitVec 32 := 1#32
  let v85 : BitVec 32 := Scalar.select v84 c1_i32_41 c2_i32_39
  let v86 : BitVec 32 := Scalar.remsi v80 v85
  let c0_i32_43 : BitVec 32 := 0#32
  let v88 : BitVec 1 := Scalar.cmpi .slt v86 c0_i32_43
  let c0_i32_44 : BitVec 32 := 0#32
  let v89 : BitVec 1 := Scalar.cmpi .slt v85 c0_i32_44
  let v90 : BitVec 1 := Scalar.xori v88 v89
  let c0_i32_42 : BitVec 32 := 0#32
  let v87 : BitVec 1 := Scalar.cmpi .ne v86 c0_i32_42
  let v91 : BitVec 1 := Scalar.andi v90 v87
  let v92 : BitVec 32 := Scalar.addi v86 v85
  let v93 : BitVec 32 := Scalar.select v91 v92 v86
  let c0_i32_45 : BitVec 32 := 0#32
  let v94 : BitVec 1 := Scalar.cmpi .eq v93 c0_i32_45
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_46 : BitVec 32 := 1#32
  let v95 : BitVec 32 := Scalar.subi c1_i32_46 v69
  let v96 : BitVec 32 := Scalar.select v94 v69 v95
  let v97 : BitVec 32 := Scalar.addi v83 v96
  let c1_i32_509 : BitVec 32 := 1#32
  let v848 : BitVec 32 := Scalar.muli v97 c1_i32_509
  let v849 : BitVec 32 := Scalar.addi c0_i32_510 v848
  v849.toNat
def k0_dev11 (d0 : Dev nD) : Nat :=
  let c0_i32_517 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_53 : BitVec 32 := 8#32
  let v109 : BitVec 32 := Scalar.muli v19 c8_i32_53
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v98 : BitVec 32 := Scalar.addi v46 c3_i32
  let c4_i32_47 : BitVec 32 := 4#32
  let c0_i32_48 : BitVec 32 := 0#32
  let v99 : BitVec 1 := Scalar.cmpi .eq c4_i32_47 c0_i32_48
  let c1_i32_49 : BitVec 32 := 1#32
  let v100 : BitVec 32 := Scalar.select v99 c1_i32_49 c4_i32_47
  let v101 : BitVec 32 := Scalar.remsi v98 v100
  let c0_i32_51 : BitVec 32 := 0#32
  let v103 : BitVec 1 := Scalar.cmpi .slt v101 c0_i32_51
  let c0_i32_52 : BitVec 32 := 0#32
  let v104 : BitVec 1 := Scalar.cmpi .slt v100 c0_i32_52
  let v105 : BitVec 1 := Scalar.xori v103 v104
  let c0_i32_50 : BitVec 32 := 0#32
  let v102 : BitVec 1 := Scalar.cmpi .ne v101 c0_i32_50
  let v106 : BitVec 1 := Scalar.andi v105 v102
  let v107 : BitVec 32 := Scalar.addi v101 v100
  let v108 : BitVec 32 := Scalar.select v106 v107 v101
  let c2_i32_54 : BitVec 32 := 2#32
  let v110 : BitVec 32 := Scalar.muli v108 c2_i32_54
  let v111 : BitVec 32 := Scalar.addi v109 v110
  let c2_i32_55 : BitVec 32 := 2#32
  let c0_i32_56 : BitVec 32 := 0#32
  let v112 : BitVec 1 := Scalar.cmpi .eq c2_i32_55 c0_i32_56
  let c1_i32_57 : BitVec 32 := 1#32
  let v113 : BitVec 32 := Scalar.select v112 c1_i32_57 c2_i32_55
  let v114 : BitVec 32 := Scalar.remsi v108 v113
  let c0_i32_59 : BitVec 32 := 0#32
  let v116 : BitVec 1 := Scalar.cmpi .slt v114 c0_i32_59
  let c0_i32_60 : BitVec 32 := 0#32
  let v117 : BitVec 1 := Scalar.cmpi .slt v113 c0_i32_60
  let v118 : BitVec 1 := Scalar.xori v116 v117
  let c0_i32_58 : BitVec 32 := 0#32
  let v115 : BitVec 1 := Scalar.cmpi .ne v114 c0_i32_58
  let v119 : BitVec 1 := Scalar.andi v118 v115
  let v120 : BitVec 32 := Scalar.addi v114 v113
  let v121 : BitVec 32 := Scalar.select v119 v120 v114
  let c0_i32_61 : BitVec 32 := 0#32
  let v122 : BitVec 1 := Scalar.cmpi .eq v121 c0_i32_61
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_62 : BitVec 32 := 1#32
  let v123 : BitVec 32 := Scalar.subi c1_i32_62 v69
  let v124 : BitVec 32 := Scalar.select v122 v69 v123
  let v125 : BitVec 32 := Scalar.addi v111 v124
  let c1_i32_516 : BitVec 32 := 1#32
  let v858 : BitVec 32 := Scalar.muli v125 c1_i32_516
  let v859 : BitVec 32 := Scalar.addi c0_i32_517 v858
  v859.toNat
def k0_dev12 (d0 : Dev nD) : Nat :=
  let c0_i32_548 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_37 : BitVec 32 := 8#32
  let v81 : BitVec 32 := Scalar.muli v19 c8_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v70 : BitVec 32 := Scalar.addi v46 c1_i32_31
  let c4_i32 : BitVec 32 := 4#32
  let c0_i32_32 : BitVec 32 := 0#32
  let v71 : BitVec 1 := Scalar.cmpi .eq c4_i32 c0_i32_32
  let c1_i32_33 : BitVec 32 := 1#32
  let v72 : BitVec 32 := Scalar.select v71 c1_i32_33 c4_i32
  let v73 : BitVec 32 := Scalar.remsi v70 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c2_i32_38 : BitVec 32 := 2#32
  let v82 : BitVec 32 := Scalar.muli v80 c2_i32_38
  let v83 : BitVec 32 := Scalar.addi v81 v82
  let c2_i32_39 : BitVec 32 := 2#32
  let c0_i32_40 : BitVec 32 := 0#32
  let v84 : BitVec 1 := Scalar.cmpi .eq c2_i32_39 c0_i32_40
  let c1_i32_41 : BitVec 32 := 1#32
  let v85 : BitVec 32 := Scalar.select v84 c1_i32_41 c2_i32_39
  let v86 : BitVec 32 := Scalar.remsi v80 v85
  let c0_i32_43 : BitVec 32 := 0#32
  let v88 : BitVec 1 := Scalar.cmpi .slt v86 c0_i32_43
  let c0_i32_44 : BitVec 32 := 0#32
  let v89 : BitVec 1 := Scalar.cmpi .slt v85 c0_i32_44
  let v90 : BitVec 1 := Scalar.xori v88 v89
  let c0_i32_42 : BitVec 32 := 0#32
  let v87 : BitVec 1 := Scalar.cmpi .ne v86 c0_i32_42
  let v91 : BitVec 1 := Scalar.andi v90 v87
  let v92 : BitVec 32 := Scalar.addi v86 v85
  let v93 : BitVec 32 := Scalar.select v91 v92 v86
  let c0_i32_45 : BitVec 32 := 0#32
  let v94 : BitVec 1 := Scalar.cmpi .eq v93 c0_i32_45
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_46 : BitVec 32 := 1#32
  let v95 : BitVec 32 := Scalar.subi c1_i32_46 v69
  let v96 : BitVec 32 := Scalar.select v94 v69 v95
  let v97 : BitVec 32 := Scalar.addi v83 v96
  let c1_i32_547 : BitVec 32 := 1#32
  let v880 : BitVec 32 := Scalar.muli v97 c1_i32_547
  let v881 : BitVec 32 := Scalar.addi c0_i32_548 v880
  v881.toNat
def k0_dev13 (d0 : Dev nD) : Nat :=
  let c0_i32_555 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_53 : BitVec 32 := 8#32
  let v109 : BitVec 32 := Scalar.muli v19 c8_i32_53
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v98 : BitVec 32 := Scalar.addi v46 c3_i32
  let c4_i32_47 : BitVec 32 := 4#32
  let c0_i32_48 : BitVec 32 := 0#32
  let v99 : BitVec 1 := Scalar.cmpi .eq c4_i32_47 c0_i32_48
  let c1_i32_49 : BitVec 32 := 1#32
  let v100 : BitVec 32 := Scalar.select v99 c1_i32_49 c4_i32_47
  let v101 : BitVec 32 := Scalar.remsi v98 v100
  let c0_i32_51 : BitVec 32 := 0#32
  let v103 : BitVec 1 := Scalar.cmpi .slt v101 c0_i32_51
  let c0_i32_52 : BitVec 32 := 0#32
  let v104 : BitVec 1 := Scalar.cmpi .slt v100 c0_i32_52
  let v105 : BitVec 1 := Scalar.xori v103 v104
  let c0_i32_50 : BitVec 32 := 0#32
  let v102 : BitVec 1 := Scalar.cmpi .ne v101 c0_i32_50
  let v106 : BitVec 1 := Scalar.andi v105 v102
  let v107 : BitVec 32 := Scalar.addi v101 v100
  let v108 : BitVec 32 := Scalar.select v106 v107 v101
  let c2_i32_54 : BitVec 32 := 2#32
  let v110 : BitVec 32 := Scalar.muli v108 c2_i32_54
  let v111 : BitVec 32 := Scalar.addi v109 v110
  let c2_i32_55 : BitVec 32 := 2#32
  let c0_i32_56 : BitVec 32 := 0#32
  let v112 : BitVec 1 := Scalar.cmpi .eq c2_i32_55 c0_i32_56
  let c1_i32_57 : BitVec 32 := 1#32
  let v113 : BitVec 32 := Scalar.select v112 c1_i32_57 c2_i32_55
  let v114 : BitVec 32 := Scalar.remsi v108 v113
  let c0_i32_59 : BitVec 32 := 0#32
  let v116 : BitVec 1 := Scalar.cmpi .slt v114 c0_i32_59
  let c0_i32_60 : BitVec 32 := 0#32
  let v117 : BitVec 1 := Scalar.cmpi .slt v113 c0_i32_60
  let v118 : BitVec 1 := Scalar.xori v116 v117
  let c0_i32_58 : BitVec 32 := 0#32
  let v115 : BitVec 1 := Scalar.cmpi .ne v114 c0_i32_58
  let v119 : BitVec 1 := Scalar.andi v118 v115
  let v120 : BitVec 32 := Scalar.addi v114 v113
  let v121 : BitVec 32 := Scalar.select v119 v120 v114
  let c0_i32_61 : BitVec 32 := 0#32
  let v122 : BitVec 1 := Scalar.cmpi .eq v121 c0_i32_61
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_62 : BitVec 32 := 1#32
  let v123 : BitVec 32 := Scalar.subi c1_i32_62 v69
  let v124 : BitVec 32 := Scalar.select v122 v69 v123
  let v125 : BitVec 32 := Scalar.addi v111 v124
  let c1_i32_554 : BitVec 32 := 1#32
  let v890 : BitVec 32 := Scalar.muli v125 c1_i32_554
  let v891 : BitVec 32 := Scalar.addi c0_i32_555 v890
  v891.toNat
def k0_dev14 (d0 : Dev nD) : Nat :=
  let c0_i32_586 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_63 : BitVec 32 := 1#32
  let v126 : BitVec 32 := Scalar.addi v19 c1_i32_63
  let c4_i32_64 : BitVec 32 := 4#32
  let c0_i32_65 : BitVec 32 := 0#32
  let v127 : BitVec 1 := Scalar.cmpi .eq c4_i32_64 c0_i32_65
  let c1_i32_66 : BitVec 32 := 1#32
  let v128 : BitVec 32 := Scalar.select v127 c1_i32_66 c4_i32_64
  let v129 : BitVec 32 := Scalar.remsi v126 v128
  let c0_i32_68 : BitVec 32 := 0#32
  let v131 : BitVec 1 := Scalar.cmpi .slt v129 c0_i32_68
  let c0_i32_69 : BitVec 32 := 0#32
  let v132 : BitVec 1 := Scalar.cmpi .slt v128 c0_i32_69
  let v133 : BitVec 1 := Scalar.xori v131 v132
  let c0_i32_67 : BitVec 32 := 0#32
  let v130 : BitVec 1 := Scalar.cmpi .ne v129 c0_i32_67
  let v134 : BitVec 1 := Scalar.andi v133 v130
  let v135 : BitVec 32 := Scalar.addi v129 v128
  let v136 : BitVec 32 := Scalar.select v134 v135 v129
  let c8_i32_70 : BitVec 32 := 8#32
  let v137 : BitVec 32 := Scalar.muli v136 c8_i32_70
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_71 : BitVec 32 := 2#32
  let v138 : BitVec 32 := Scalar.muli v46 c2_i32_71
  let v139 : BitVec 32 := Scalar.addi v137 v138
  let c2_i32_72 : BitVec 32 := 2#32
  let c0_i32_73 : BitVec 32 := 0#32
  let v140 : BitVec 1 := Scalar.cmpi .eq c2_i32_72 c0_i32_73
  let c1_i32_74 : BitVec 32 := 1#32
  let v141 : BitVec 32 := Scalar.select v140 c1_i32_74 c2_i32_72
  let v142 : BitVec 32 := Scalar.remsi v46 v141
  let c0_i32_76 : BitVec 32 := 0#32
  let v144 : BitVec 1 := Scalar.cmpi .slt v142 c0_i32_76
  let c0_i32_77 : BitVec 32 := 0#32
  let v145 : BitVec 1 := Scalar.cmpi .slt v141 c0_i32_77
  let v146 : BitVec 1 := Scalar.xori v144 v145
  let c0_i32_75 : BitVec 32 := 0#32
  let v143 : BitVec 1 := Scalar.cmpi .ne v142 c0_i32_75
  let v147 : BitVec 1 := Scalar.andi v146 v143
  let v148 : BitVec 32 := Scalar.addi v142 v141
  let v149 : BitVec 32 := Scalar.select v147 v148 v142
  let c0_i32_78 : BitVec 32 := 0#32
  let v150 : BitVec 1 := Scalar.cmpi .eq v149 c0_i32_78
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_79 : BitVec 32 := 1#32
  let v151 : BitVec 32 := Scalar.subi c1_i32_79 v69
  let v152 : BitVec 32 := Scalar.select v150 v69 v151
  let v153 : BitVec 32 := Scalar.addi v139 v152
  let c1_i32_585 : BitVec 32 := 1#32
  let v912 : BitVec 32 := Scalar.muli v153 c1_i32_585
  let v913 : BitVec 32 := Scalar.addi c0_i32_586 v912
  v913.toNat
def k0_dev15 (d0 : Dev nD) : Nat :=
  let c0_i32_593 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_80 : BitVec 32 := 3#32
  let v154 : BitVec 32 := Scalar.addi v19 c3_i32_80
  let c4_i32_81 : BitVec 32 := 4#32
  let c0_i32_82 : BitVec 32 := 0#32
  let v155 : BitVec 1 := Scalar.cmpi .eq c4_i32_81 c0_i32_82
  let c1_i32_83 : BitVec 32 := 1#32
  let v156 : BitVec 32 := Scalar.select v155 c1_i32_83 c4_i32_81
  let v157 : BitVec 32 := Scalar.remsi v154 v156
  let c0_i32_85 : BitVec 32 := 0#32
  let v159 : BitVec 1 := Scalar.cmpi .slt v157 c0_i32_85
  let c0_i32_86 : BitVec 32 := 0#32
  let v160 : BitVec 1 := Scalar.cmpi .slt v156 c0_i32_86
  let v161 : BitVec 1 := Scalar.xori v159 v160
  let c0_i32_84 : BitVec 32 := 0#32
  let v158 : BitVec 1 := Scalar.cmpi .ne v157 c0_i32_84
  let v162 : BitVec 1 := Scalar.andi v161 v158
  let v163 : BitVec 32 := Scalar.addi v157 v156
  let v164 : BitVec 32 := Scalar.select v162 v163 v157
  let c8_i32_87 : BitVec 32 := 8#32
  let v165 : BitVec 32 := Scalar.muli v164 c8_i32_87
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_88 : BitVec 32 := 2#32
  let v166 : BitVec 32 := Scalar.muli v46 c2_i32_88
  let v167 : BitVec 32 := Scalar.addi v165 v166
  let c2_i32_89 : BitVec 32 := 2#32
  let c0_i32_90 : BitVec 32 := 0#32
  let v168 : BitVec 1 := Scalar.cmpi .eq c2_i32_89 c0_i32_90
  let c1_i32_91 : BitVec 32 := 1#32
  let v169 : BitVec 32 := Scalar.select v168 c1_i32_91 c2_i32_89
  let v170 : BitVec 32 := Scalar.remsi v46 v169
  let c0_i32_93 : BitVec 32 := 0#32
  let v172 : BitVec 1 := Scalar.cmpi .slt v170 c0_i32_93
  let c0_i32_94 : BitVec 32 := 0#32
  let v173 : BitVec 1 := Scalar.cmpi .slt v169 c0_i32_94
  let v174 : BitVec 1 := Scalar.xori v172 v173
  let c0_i32_92 : BitVec 32 := 0#32
  let v171 : BitVec 1 := Scalar.cmpi .ne v170 c0_i32_92
  let v175 : BitVec 1 := Scalar.andi v174 v171
  let v176 : BitVec 32 := Scalar.addi v170 v169
  let v177 : BitVec 32 := Scalar.select v175 v176 v170
  let c0_i32_95 : BitVec 32 := 0#32
  let v178 : BitVec 1 := Scalar.cmpi .eq v177 c0_i32_95
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_96 : BitVec 32 := 1#32
  let v179 : BitVec 32 := Scalar.subi c1_i32_96 v69
  let v180 : BitVec 32 := Scalar.select v178 v69 v179
  let v181 : BitVec 32 := Scalar.addi v167 v180
  let c1_i32_592 : BitVec 32 := 1#32
  let v922 : BitVec 32 := Scalar.muli v181 c1_i32_592
  let v923 : BitVec 32 := Scalar.addi c0_i32_593 v922
  v923.toNat
def k0_dev16 (d0 : Dev nD) : Nat :=
  let c0_i32_624 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_63 : BitVec 32 := 1#32
  let v126 : BitVec 32 := Scalar.addi v19 c1_i32_63
  let c4_i32_64 : BitVec 32 := 4#32
  let c0_i32_65 : BitVec 32 := 0#32
  let v127 : BitVec 1 := Scalar.cmpi .eq c4_i32_64 c0_i32_65
  let c1_i32_66 : BitVec 32 := 1#32
  let v128 : BitVec 32 := Scalar.select v127 c1_i32_66 c4_i32_64
  let v129 : BitVec 32 := Scalar.remsi v126 v128
  let c0_i32_68 : BitVec 32 := 0#32
  let v131 : BitVec 1 := Scalar.cmpi .slt v129 c0_i32_68
  let c0_i32_69 : BitVec 32 := 0#32
  let v132 : BitVec 1 := Scalar.cmpi .slt v128 c0_i32_69
  let v133 : BitVec 1 := Scalar.xori v131 v132
  let c0_i32_67 : BitVec 32 := 0#32
  let v130 : BitVec 1 := Scalar.cmpi .ne v129 c0_i32_67
  let v134 : BitVec 1 := Scalar.andi v133 v130
  let v135 : BitVec 32 := Scalar.addi v129 v128
  let v136 : BitVec 32 := Scalar.select v134 v135 v129
  let c8_i32_70 : BitVec 32 := 8#32
  let v137 : BitVec 32 := Scalar.muli v136 c8_i32_70
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_71 : BitVec 32 := 2#32
  let v138 : BitVec 32 := Scalar.muli v46 c2_i32_71
  let v139 : BitVec 32 := Scalar.addi v137 v138
  let c2_i32_72 : BitVec 32 := 2#32
  let c0_i32_73 : BitVec 32 := 0#32
  let v140 : BitVec 1 := Scalar.cmpi .eq c2_i32_72 c0_i32_73
  let c1_i32_74 : BitVec 32 := 1#32
  let v141 : BitVec 32 := Scalar.select v140 c1_i32_74 c2_i32_72
  let v142 : BitVec 32 := Scalar.remsi v46 v141
  let c0_i32_76 : BitVec 32 := 0#32
  let v144 : BitVec 1 := Scalar.cmpi .slt v142 c0_i32_76
  let c0_i32_77 : BitVec 32 := 0#32
  let v145 : BitVec 1 := Scalar.cmpi .slt v141 c0_i32_77
  let v146 : BitVec 1 := Scalar.xori v144 v145
  let c0_i32_75 : BitVec 32 := 0#32
  let v143 : BitVec 1 := Scalar.cmpi .ne v142 c0_i32_75
  let v147 : BitVec 1 := Scalar.andi v146 v143
  let v148 : BitVec 32 := Scalar.addi v142 v141
  let v149 : BitVec 32 := Scalar.select v147 v148 v142
  let c0_i32_78 : BitVec 32 := 0#32
  let v150 : BitVec 1 := Scalar.cmpi .eq v149 c0_i32_78
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_79 : BitVec 32 := 1#32
  let v151 : BitVec 32 := Scalar.subi c1_i32_79 v69
  let v152 : BitVec 32 := Scalar.select v150 v69 v151
  let v153 : BitVec 32 := Scalar.addi v139 v152
  let c1_i32_623 : BitVec 32 := 1#32
  let v944 : BitVec 32 := Scalar.muli v153 c1_i32_623
  let v945 : BitVec 32 := Scalar.addi c0_i32_624 v944
  v945.toNat
def k0_dev17 (d0 : Dev nD) : Nat :=
  let c0_i32_631 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_80 : BitVec 32 := 3#32
  let v154 : BitVec 32 := Scalar.addi v19 c3_i32_80
  let c4_i32_81 : BitVec 32 := 4#32
  let c0_i32_82 : BitVec 32 := 0#32
  let v155 : BitVec 1 := Scalar.cmpi .eq c4_i32_81 c0_i32_82
  let c1_i32_83 : BitVec 32 := 1#32
  let v156 : BitVec 32 := Scalar.select v155 c1_i32_83 c4_i32_81
  let v157 : BitVec 32 := Scalar.remsi v154 v156
  let c0_i32_85 : BitVec 32 := 0#32
  let v159 : BitVec 1 := Scalar.cmpi .slt v157 c0_i32_85
  let c0_i32_86 : BitVec 32 := 0#32
  let v160 : BitVec 1 := Scalar.cmpi .slt v156 c0_i32_86
  let v161 : BitVec 1 := Scalar.xori v159 v160
  let c0_i32_84 : BitVec 32 := 0#32
  let v158 : BitVec 1 := Scalar.cmpi .ne v157 c0_i32_84
  let v162 : BitVec 1 := Scalar.andi v161 v158
  let v163 : BitVec 32 := Scalar.addi v157 v156
  let v164 : BitVec 32 := Scalar.select v162 v163 v157
  let c8_i32_87 : BitVec 32 := 8#32
  let v165 : BitVec 32 := Scalar.muli v164 c8_i32_87
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_88 : BitVec 32 := 2#32
  let v166 : BitVec 32 := Scalar.muli v46 c2_i32_88
  let v167 : BitVec 32 := Scalar.addi v165 v166
  let c2_i32_89 : BitVec 32 := 2#32
  let c0_i32_90 : BitVec 32 := 0#32
  let v168 : BitVec 1 := Scalar.cmpi .eq c2_i32_89 c0_i32_90
  let c1_i32_91 : BitVec 32 := 1#32
  let v169 : BitVec 32 := Scalar.select v168 c1_i32_91 c2_i32_89
  let v170 : BitVec 32 := Scalar.remsi v46 v169
  let c0_i32_93 : BitVec 32 := 0#32
  let v172 : BitVec 1 := Scalar.cmpi .slt v170 c0_i32_93
  let c0_i32_94 : BitVec 32 := 0#32
  let v173 : BitVec 1 := Scalar.cmpi .slt v169 c0_i32_94
  let v174 : BitVec 1 := Scalar.xori v172 v173
  let c0_i32_92 : BitVec 32 := 0#32
  let v171 : BitVec 1 := Scalar.cmpi .ne v170 c0_i32_92
  let v175 : BitVec 1 := Scalar.andi v174 v171
  let v176 : BitVec 32 := Scalar.addi v170 v169
  let v177 : BitVec 32 := Scalar.select v175 v176 v170
  let c0_i32_95 : BitVec 32 := 0#32
  let v178 : BitVec 1 := Scalar.cmpi .eq v177 c0_i32_95
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_96 : BitVec 32 := 1#32
  let v179 : BitVec 32 := Scalar.subi c1_i32_96 v69
  let v180 : BitVec 32 := Scalar.select v178 v69 v179
  let v181 : BitVec 32 := Scalar.addi v167 v180
  let c1_i32_630 : BitVec 32 := 1#32
  let v954 : BitVec 32 := Scalar.muli v181 c1_i32_630
  let v955 : BitVec 32 := Scalar.addi c0_i32_631 v954
  v955.toNat
def k0_dev18 (d0 : Dev nD) : Nat :=
  let c0_i32_800 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_37 : BitVec 32 := 8#32
  let v81 : BitVec 32 := Scalar.muli v19 c8_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v70 : BitVec 32 := Scalar.addi v46 c1_i32_31
  let c4_i32 : BitVec 32 := 4#32
  let c0_i32_32 : BitVec 32 := 0#32
  let v71 : BitVec 1 := Scalar.cmpi .eq c4_i32 c0_i32_32
  let c1_i32_33 : BitVec 32 := 1#32
  let v72 : BitVec 32 := Scalar.select v71 c1_i32_33 c4_i32
  let v73 : BitVec 32 := Scalar.remsi v70 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c2_i32_38 : BitVec 32 := 2#32
  let v82 : BitVec 32 := Scalar.muli v80 c2_i32_38
  let v83 : BitVec 32 := Scalar.addi v81 v82
  let c2_i32_39 : BitVec 32 := 2#32
  let c0_i32_40 : BitVec 32 := 0#32
  let v84 : BitVec 1 := Scalar.cmpi .eq c2_i32_39 c0_i32_40
  let c1_i32_41 : BitVec 32 := 1#32
  let v85 : BitVec 32 := Scalar.select v84 c1_i32_41 c2_i32_39
  let v86 : BitVec 32 := Scalar.remsi v80 v85
  let c0_i32_43 : BitVec 32 := 0#32
  let v88 : BitVec 1 := Scalar.cmpi .slt v86 c0_i32_43
  let c0_i32_44 : BitVec 32 := 0#32
  let v89 : BitVec 1 := Scalar.cmpi .slt v85 c0_i32_44
  let v90 : BitVec 1 := Scalar.xori v88 v89
  let c0_i32_42 : BitVec 32 := 0#32
  let v87 : BitVec 1 := Scalar.cmpi .ne v86 c0_i32_42
  let v91 : BitVec 1 := Scalar.andi v90 v87
  let v92 : BitVec 32 := Scalar.addi v86 v85
  let v93 : BitVec 32 := Scalar.select v91 v92 v86
  let c0_i32_45 : BitVec 32 := 0#32
  let v94 : BitVec 1 := Scalar.cmpi .eq v93 c0_i32_45
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_46 : BitVec 32 := 1#32
  let v95 : BitVec 32 := Scalar.subi c1_i32_46 v69
  let v96 : BitVec 32 := Scalar.select v94 v69 v95
  let v97 : BitVec 32 := Scalar.addi v83 v96
  let c1_i32_799 : BitVec 32 := 1#32
  let v1212 : BitVec 32 := Scalar.muli v97 c1_i32_799
  let v1213 : BitVec 32 := Scalar.addi c0_i32_800 v1212
  v1213.toNat
def k0_dev19 (d0 : Dev nD) : Nat :=
  let c0_i32_837 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_37 : BitVec 32 := 8#32
  let v81 : BitVec 32 := Scalar.muli v19 c8_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v70 : BitVec 32 := Scalar.addi v46 c1_i32_31
  let c4_i32 : BitVec 32 := 4#32
  let c0_i32_32 : BitVec 32 := 0#32
  let v71 : BitVec 1 := Scalar.cmpi .eq c4_i32 c0_i32_32
  let c1_i32_33 : BitVec 32 := 1#32
  let v72 : BitVec 32 := Scalar.select v71 c1_i32_33 c4_i32
  let v73 : BitVec 32 := Scalar.remsi v70 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c2_i32_38 : BitVec 32 := 2#32
  let v82 : BitVec 32 := Scalar.muli v80 c2_i32_38
  let v83 : BitVec 32 := Scalar.addi v81 v82
  let c2_i32_39 : BitVec 32 := 2#32
  let c0_i32_40 : BitVec 32 := 0#32
  let v84 : BitVec 1 := Scalar.cmpi .eq c2_i32_39 c0_i32_40
  let c1_i32_41 : BitVec 32 := 1#32
  let v85 : BitVec 32 := Scalar.select v84 c1_i32_41 c2_i32_39
  let v86 : BitVec 32 := Scalar.remsi v80 v85
  let c0_i32_43 : BitVec 32 := 0#32
  let v88 : BitVec 1 := Scalar.cmpi .slt v86 c0_i32_43
  let c0_i32_44 : BitVec 32 := 0#32
  let v89 : BitVec 1 := Scalar.cmpi .slt v85 c0_i32_44
  let v90 : BitVec 1 := Scalar.xori v88 v89
  let c0_i32_42 : BitVec 32 := 0#32
  let v87 : BitVec 1 := Scalar.cmpi .ne v86 c0_i32_42
  let v91 : BitVec 1 := Scalar.andi v90 v87
  let v92 : BitVec 32 := Scalar.addi v86 v85
  let v93 : BitVec 32 := Scalar.select v91 v92 v86
  let c0_i32_45 : BitVec 32 := 0#32
  let v94 : BitVec 1 := Scalar.cmpi .eq v93 c0_i32_45
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_46 : BitVec 32 := 1#32
  let v95 : BitVec 32 := Scalar.subi c1_i32_46 v69
  let v96 : BitVec 32 := Scalar.select v94 v69 v95
  let v97 : BitVec 32 := Scalar.addi v83 v96
  let c1_i32_836 : BitVec 32 := 1#32
  let v1242 : BitVec 32 := Scalar.muli v97 c1_i32_836
  let v1243 : BitVec 32 := Scalar.addi c0_i32_837 v1242
  v1243.toNat
def k0_dev20 (d0 : Dev nD) : Nat :=
  let c0_i32_874 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_63 : BitVec 32 := 1#32
  let v126 : BitVec 32 := Scalar.addi v19 c1_i32_63
  let c4_i32_64 : BitVec 32 := 4#32
  let c0_i32_65 : BitVec 32 := 0#32
  let v127 : BitVec 1 := Scalar.cmpi .eq c4_i32_64 c0_i32_65
  let c1_i32_66 : BitVec 32 := 1#32
  let v128 : BitVec 32 := Scalar.select v127 c1_i32_66 c4_i32_64
  let v129 : BitVec 32 := Scalar.remsi v126 v128
  let c0_i32_68 : BitVec 32 := 0#32
  let v131 : BitVec 1 := Scalar.cmpi .slt v129 c0_i32_68
  let c0_i32_69 : BitVec 32 := 0#32
  let v132 : BitVec 1 := Scalar.cmpi .slt v128 c0_i32_69
  let v133 : BitVec 1 := Scalar.xori v131 v132
  let c0_i32_67 : BitVec 32 := 0#32
  let v130 : BitVec 1 := Scalar.cmpi .ne v129 c0_i32_67
  let v134 : BitVec 1 := Scalar.andi v133 v130
  let v135 : BitVec 32 := Scalar.addi v129 v128
  let v136 : BitVec 32 := Scalar.select v134 v135 v129
  let c8_i32_70 : BitVec 32 := 8#32
  let v137 : BitVec 32 := Scalar.muli v136 c8_i32_70
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_71 : BitVec 32 := 2#32
  let v138 : BitVec 32 := Scalar.muli v46 c2_i32_71
  let v139 : BitVec 32 := Scalar.addi v137 v138
  let c2_i32_72 : BitVec 32 := 2#32
  let c0_i32_73 : BitVec 32 := 0#32
  let v140 : BitVec 1 := Scalar.cmpi .eq c2_i32_72 c0_i32_73
  let c1_i32_74 : BitVec 32 := 1#32
  let v141 : BitVec 32 := Scalar.select v140 c1_i32_74 c2_i32_72
  let v142 : BitVec 32 := Scalar.remsi v46 v141
  let c0_i32_76 : BitVec 32 := 0#32
  let v144 : BitVec 1 := Scalar.cmpi .slt v142 c0_i32_76
  let c0_i32_77 : BitVec 32 := 0#32
  let v145 : BitVec 1 := Scalar.cmpi .slt v141 c0_i32_77
  let v146 : BitVec 1 := Scalar.xori v144 v145
  let c0_i32_75 : BitVec 32 := 0#32
  let v143 : BitVec 1 := Scalar.cmpi .ne v142 c0_i32_75
  let v147 : BitVec 1 := Scalar.andi v146 v143
  let v148 : BitVec 32 := Scalar.addi v142 v141
  let v149 : BitVec 32 := Scalar.select v147 v148 v142
  let c0_i32_78 : BitVec 32 := 0#32
  let v150 : BitVec 1 := Scalar.cmpi .eq v149 c0_i32_78
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_79 : BitVec 32 := 1#32
  let v151 : BitVec 32 := Scalar.subi c1_i32_79 v69
  let v152 : BitVec 32 := Scalar.select v150 v69 v151
  let v153 : BitVec 32 := Scalar.addi v139 v152
  let c1_i32_873 : BitVec 32 := 1#32
  let v1272 : BitVec 32 := Scalar.muli v153 c1_i32_873
  let v1273 : BitVec 32 := Scalar.addi c0_i32_874 v1272
  v1273.toNat
def k0_dev21 (d0 : Dev nD) : Nat :=
  let c0_i32_911 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_63 : BitVec 32 := 1#32
  let v126 : BitVec 32 := Scalar.addi v19 c1_i32_63
  let c4_i32_64 : BitVec 32 := 4#32
  let c0_i32_65 : BitVec 32 := 0#32
  let v127 : BitVec 1 := Scalar.cmpi .eq c4_i32_64 c0_i32_65
  let c1_i32_66 : BitVec 32 := 1#32
  let v128 : BitVec 32 := Scalar.select v127 c1_i32_66 c4_i32_64
  let v129 : BitVec 32 := Scalar.remsi v126 v128
  let c0_i32_68 : BitVec 32 := 0#32
  let v131 : BitVec 1 := Scalar.cmpi .slt v129 c0_i32_68
  let c0_i32_69 : BitVec 32 := 0#32
  let v132 : BitVec 1 := Scalar.cmpi .slt v128 c0_i32_69
  let v133 : BitVec 1 := Scalar.xori v131 v132
  let c0_i32_67 : BitVec 32 := 0#32
  let v130 : BitVec 1 := Scalar.cmpi .ne v129 c0_i32_67
  let v134 : BitVec 1 := Scalar.andi v133 v130
  let v135 : BitVec 32 := Scalar.addi v129 v128
  let v136 : BitVec 32 := Scalar.select v134 v135 v129
  let c8_i32_70 : BitVec 32 := 8#32
  let v137 : BitVec 32 := Scalar.muli v136 c8_i32_70
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_71 : BitVec 32 := 2#32
  let v138 : BitVec 32 := Scalar.muli v46 c2_i32_71
  let v139 : BitVec 32 := Scalar.addi v137 v138
  let c2_i32_72 : BitVec 32 := 2#32
  let c0_i32_73 : BitVec 32 := 0#32
  let v140 : BitVec 1 := Scalar.cmpi .eq c2_i32_72 c0_i32_73
  let c1_i32_74 : BitVec 32 := 1#32
  let v141 : BitVec 32 := Scalar.select v140 c1_i32_74 c2_i32_72
  let v142 : BitVec 32 := Scalar.remsi v46 v141
  let c0_i32_76 : BitVec 32 := 0#32
  let v144 : BitVec 1 := Scalar.cmpi .slt v142 c0_i32_76
  let c0_i32_77 : BitVec 32 := 0#32
  let v145 : BitVec 1 := Scalar.cmpi .slt v141 c0_i32_77
  let v146 : BitVec 1 := Scalar.xori v144 v145
  let c0_i32_75 : BitVec 32 := 0#32
  let v143 : BitVec 1 := Scalar.cmpi .ne v142 c0_i32_75
  let v147 : BitVec 1 := Scalar.andi v146 v143
  let v148 : BitVec 32 := Scalar.addi v142 v141
  let v149 : BitVec 32 := Scalar.select v147 v148 v142
  let c0_i32_78 : BitVec 32 := 0#32
  let v150 : BitVec 1 := Scalar.cmpi .eq v149 c0_i32_78
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_79 : BitVec 32 := 1#32
  let v151 : BitVec 32 := Scalar.subi c1_i32_79 v69
  let v152 : BitVec 32 := Scalar.select v150 v69 v151
  let v153 : BitVec 32 := Scalar.addi v139 v152
  let c1_i32_910 : BitVec 32 := 1#32
  let v1302 : BitVec 32 := Scalar.muli v153 c1_i32_910
  let v1303 : BitVec 32 := Scalar.addi c0_i32_911 v1302
  v1303.toNat
def k0_off21 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_161 : BitVec 32 := 1#32
  let v302 : BitVec 32 := Scalar.addi v46 c1_i32_161
  let c4_i32_162 : BitVec 32 := 4#32
  let c0_i32_163 : BitVec 32 := 0#32
  let v303 : BitVec 1 := Scalar.cmpi .eq c4_i32_162 c0_i32_163
  let c1_i32_164 : BitVec 32 := 1#32
  let v304 : BitVec 32 := Scalar.select v303 c1_i32_164 c4_i32_162
  let v305 : BitVec 32 := Scalar.remsi v302 v304
  let c0_i32_166 : BitVec 32 := 0#32
  let v307 : BitVec 1 := Scalar.cmpi .slt v305 c0_i32_166
  let c0_i32_167 : BitVec 32 := 0#32
  let v308 : BitVec 1 := Scalar.cmpi .slt v304 c0_i32_167
  let v309 : BitVec 1 := Scalar.xori v307 v308
  let c0_i32_165 : BitVec 32 := 0#32
  let v306 : BitVec 1 := Scalar.cmpi .ne v305 c0_i32_165
  let v310 : BitVec 1 := Scalar.andi v309 v306
  let v311 : BitVec 32 := Scalar.addi v305 v304
  let v312 : BitVec 32 := Scalar.select v310 v311 v305
  let c256_i32 : BitVec 32 := 256#32
  let v346 : BitVec 32 := Scalar.muli v312 c256_i32
  let v1565 : Index := Scalar.indexCast v346
  let c0_1074 : Index := 0#32
  ![v1565.toNat, 0]
def k0_off22 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_161 : BitVec 32 := 1#32
  let v302 : BitVec 32 := Scalar.addi v46 c1_i32_161
  let c4_i32_162 : BitVec 32 := 4#32
  let c0_i32_163 : BitVec 32 := 0#32
  let v303 : BitVec 1 := Scalar.cmpi .eq c4_i32_162 c0_i32_163
  let c1_i32_164 : BitVec 32 := 1#32
  let v304 : BitVec 32 := Scalar.select v303 c1_i32_164 c4_i32_162
  let v305 : BitVec 32 := Scalar.remsi v302 v304
  let c0_i32_166 : BitVec 32 := 0#32
  let v307 : BitVec 1 := Scalar.cmpi .slt v305 c0_i32_166
  let c0_i32_167 : BitVec 32 := 0#32
  let v308 : BitVec 1 := Scalar.cmpi .slt v304 c0_i32_167
  let v309 : BitVec 1 := Scalar.xori v307 v308
  let c0_i32_165 : BitVec 32 := 0#32
  let v306 : BitVec 1 := Scalar.cmpi .ne v305 c0_i32_165
  let v310 : BitVec 1 := Scalar.andi v309 v306
  let v311 : BitVec 32 := Scalar.addi v305 v304
  let v312 : BitVec 32 := Scalar.select v310 v311 v305
  let c256_i32 : BitVec 32 := 256#32
  let v346 : BitVec 32 := Scalar.muli v312 c256_i32
  let v1584 : Index := Scalar.indexCast v346
  let c256_1097 : Index := 256#32
  ![v1584.toNat, 256]
def k0_off23 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_168 : BitVec 32 := 1#32
  let v313 : BitVec 32 := Scalar.addi v19 c1_i32_168
  let c4_i32_169 : BitVec 32 := 4#32
  let c0_i32_170 : BitVec 32 := 0#32
  let v314 : BitVec 1 := Scalar.cmpi .eq c4_i32_169 c0_i32_170
  let c1_i32_171 : BitVec 32 := 1#32
  let v315 : BitVec 32 := Scalar.select v314 c1_i32_171 c4_i32_169
  let v316 : BitVec 32 := Scalar.remsi v313 v315
  let c0_i32_173 : BitVec 32 := 0#32
  let v318 : BitVec 1 := Scalar.cmpi .slt v316 c0_i32_173
  let c0_i32_174 : BitVec 32 := 0#32
  let v319 : BitVec 1 := Scalar.cmpi .slt v315 c0_i32_174
  let v320 : BitVec 1 := Scalar.xori v318 v319
  let c0_i32_172 : BitVec 32 := 0#32
  let v317 : BitVec 1 := Scalar.cmpi .ne v316 c0_i32_172
  let v321 : BitVec 1 := Scalar.andi v320 v317
  let v322 : BitVec 32 := Scalar.addi v316 v315
  let v323 : BitVec 32 := Scalar.select v321 v322 v316
  let c256_i32_189 : BitVec 32 := 256#32
  let v347 : BitVec 32 := Scalar.muli v323 c256_i32_189
  let v1603 : Index := Scalar.indexCast v347
  let c512_1120 : Index := 512#32
  ![v1603.toNat, 512]
def k0_off24 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_168 : BitVec 32 := 1#32
  let v313 : BitVec 32 := Scalar.addi v19 c1_i32_168
  let c4_i32_169 : BitVec 32 := 4#32
  let c0_i32_170 : BitVec 32 := 0#32
  let v314 : BitVec 1 := Scalar.cmpi .eq c4_i32_169 c0_i32_170
  let c1_i32_171 : BitVec 32 := 1#32
  let v315 : BitVec 32 := Scalar.select v314 c1_i32_171 c4_i32_169
  let v316 : BitVec 32 := Scalar.remsi v313 v315
  let c0_i32_173 : BitVec 32 := 0#32
  let v318 : BitVec 1 := Scalar.cmpi .slt v316 c0_i32_173
  let c0_i32_174 : BitVec 32 := 0#32
  let v319 : BitVec 1 := Scalar.cmpi .slt v315 c0_i32_174
  let v320 : BitVec 1 := Scalar.xori v318 v319
  let c0_i32_172 : BitVec 32 := 0#32
  let v317 : BitVec 1 := Scalar.cmpi .ne v316 c0_i32_172
  let v321 : BitVec 1 := Scalar.andi v320 v317
  let v322 : BitVec 32 := Scalar.addi v316 v315
  let v323 : BitVec 32 := Scalar.select v321 v322 v316
  let c256_i32_189 : BitVec 32 := 256#32
  let v347 : BitVec 32 := Scalar.muli v323 c256_i32_189
  let v1622 : Index := Scalar.indexCast v347
  let c768_1143 : Index := 768#32
  ![v1622.toNat, 768]
def k0_off25 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_161 : BitVec 32 := 1#32
  let v302 : BitVec 32 := Scalar.addi v46 c1_i32_161
  let c4_i32_162 : BitVec 32 := 4#32
  let c0_i32_163 : BitVec 32 := 0#32
  let v303 : BitVec 1 := Scalar.cmpi .eq c4_i32_162 c0_i32_163
  let c1_i32_164 : BitVec 32 := 1#32
  let v304 : BitVec 32 := Scalar.select v303 c1_i32_164 c4_i32_162
  let v305 : BitVec 32 := Scalar.remsi v302 v304
  let c0_i32_166 : BitVec 32 := 0#32
  let v307 : BitVec 1 := Scalar.cmpi .slt v305 c0_i32_166
  let c0_i32_167 : BitVec 32 := 0#32
  let v308 : BitVec 1 := Scalar.cmpi .slt v304 c0_i32_167
  let v309 : BitVec 1 := Scalar.xori v307 v308
  let c0_i32_165 : BitVec 32 := 0#32
  let v306 : BitVec 1 := Scalar.cmpi .ne v305 c0_i32_165
  let v310 : BitVec 1 := Scalar.andi v309 v306
  let v311 : BitVec 32 := Scalar.addi v305 v304
  let v312 : BitVec 32 := Scalar.select v310 v311 v305
  let c256_i32 : BitVec 32 := 256#32
  let v346 : BitVec 32 := Scalar.muli v312 c256_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c64_i32_1144 : BitVec 32 := 64#32
  let v1624 : BitVec 32 := Scalar.muli v19 c64_i32_1144
  let v1625 : BitVec 32 := Scalar.addi v346 v1624
  let v1626 : Index := Scalar.indexCast v1625
  let c0_1145 : Index := 0#32
  ![v1626.toNat, 0]
def k0_dev22 (d0 : Dev nD) : Nat :=
  let c0_i32_1154 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_63 : BitVec 32 := 1#32
  let v126 : BitVec 32 := Scalar.addi v19 c1_i32_63
  let c4_i32_64 : BitVec 32 := 4#32
  let c0_i32_65 : BitVec 32 := 0#32
  let v127 : BitVec 1 := Scalar.cmpi .eq c4_i32_64 c0_i32_65
  let c1_i32_66 : BitVec 32 := 1#32
  let v128 : BitVec 32 := Scalar.select v127 c1_i32_66 c4_i32_64
  let v129 : BitVec 32 := Scalar.remsi v126 v128
  let c0_i32_68 : BitVec 32 := 0#32
  let v131 : BitVec 1 := Scalar.cmpi .slt v129 c0_i32_68
  let c0_i32_69 : BitVec 32 := 0#32
  let v132 : BitVec 1 := Scalar.cmpi .slt v128 c0_i32_69
  let v133 : BitVec 1 := Scalar.xori v131 v132
  let c0_i32_67 : BitVec 32 := 0#32
  let v130 : BitVec 1 := Scalar.cmpi .ne v129 c0_i32_67
  let v134 : BitVec 1 := Scalar.andi v133 v130
  let v135 : BitVec 32 := Scalar.addi v129 v128
  let v136 : BitVec 32 := Scalar.select v134 v135 v129
  let c8_i32_70 : BitVec 32 := 8#32
  let v137 : BitVec 32 := Scalar.muli v136 c8_i32_70
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_71 : BitVec 32 := 2#32
  let v138 : BitVec 32 := Scalar.muli v46 c2_i32_71
  let v139 : BitVec 32 := Scalar.addi v137 v138
  let c2_i32_72 : BitVec 32 := 2#32
  let c0_i32_73 : BitVec 32 := 0#32
  let v140 : BitVec 1 := Scalar.cmpi .eq c2_i32_72 c0_i32_73
  let c1_i32_74 : BitVec 32 := 1#32
  let v141 : BitVec 32 := Scalar.select v140 c1_i32_74 c2_i32_72
  let v142 : BitVec 32 := Scalar.remsi v46 v141
  let c0_i32_76 : BitVec 32 := 0#32
  let v144 : BitVec 1 := Scalar.cmpi .slt v142 c0_i32_76
  let c0_i32_77 : BitVec 32 := 0#32
  let v145 : BitVec 1 := Scalar.cmpi .slt v141 c0_i32_77
  let v146 : BitVec 1 := Scalar.xori v144 v145
  let c0_i32_75 : BitVec 32 := 0#32
  let v143 : BitVec 1 := Scalar.cmpi .ne v142 c0_i32_75
  let v147 : BitVec 1 := Scalar.andi v146 v143
  let v148 : BitVec 32 := Scalar.addi v142 v141
  let v149 : BitVec 32 := Scalar.select v147 v148 v142
  let c0_i32_78 : BitVec 32 := 0#32
  let v150 : BitVec 1 := Scalar.cmpi .eq v149 c0_i32_78
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_79 : BitVec 32 := 1#32
  let v151 : BitVec 32 := Scalar.subi c1_i32_79 v69
  let v152 : BitVec 32 := Scalar.select v150 v69 v151
  let v153 : BitVec 32 := Scalar.addi v139 v152
  let c1_i32_1153 : BitVec 32 := 1#32
  let v1632 : BitVec 32 := Scalar.muli v153 c1_i32_1153
  let v1633 : BitVec 32 := Scalar.addi c0_i32_1154 v1632
  v1633.toNat
def k0_off26 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_168 : BitVec 32 := 1#32
  let v313 : BitVec 32 := Scalar.addi v19 c1_i32_168
  let c4_i32_169 : BitVec 32 := 4#32
  let c0_i32_170 : BitVec 32 := 0#32
  let v314 : BitVec 1 := Scalar.cmpi .eq c4_i32_169 c0_i32_170
  let c1_i32_171 : BitVec 32 := 1#32
  let v315 : BitVec 32 := Scalar.select v314 c1_i32_171 c4_i32_169
  let v316 : BitVec 32 := Scalar.remsi v313 v315
  let c0_i32_173 : BitVec 32 := 0#32
  let v318 : BitVec 1 := Scalar.cmpi .slt v316 c0_i32_173
  let c0_i32_174 : BitVec 32 := 0#32
  let v319 : BitVec 1 := Scalar.cmpi .slt v315 c0_i32_174
  let v320 : BitVec 1 := Scalar.xori v318 v319
  let c0_i32_172 : BitVec 32 := 0#32
  let v317 : BitVec 1 := Scalar.cmpi .ne v316 c0_i32_172
  let v321 : BitVec 1 := Scalar.andi v320 v317
  let v322 : BitVec 32 := Scalar.addi v316 v315
  let v323 : BitVec 32 := Scalar.select v321 v322 v316
  let c256_i32_189 : BitVec 32 := 256#32
  let v347 : BitVec 32 := Scalar.muli v323 c256_i32_189
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c64_i32_1159 : BitVec 32 := 64#32
  let v1642 : BitVec 32 := Scalar.muli v46 c64_i32_1159
  let v1643 : BitVec 32 := Scalar.addi v347 v1642
  let v1644 : Index := Scalar.indexCast v1643
  let c512_1160 : Index := 512#32
  ![v1644.toNat, 512]
def k0_dev23 (d0 : Dev nD) : Nat :=
  let c0_i32_1169 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_37 : BitVec 32 := 8#32
  let v81 : BitVec 32 := Scalar.muli v19 c8_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v70 : BitVec 32 := Scalar.addi v46 c1_i32_31
  let c4_i32 : BitVec 32 := 4#32
  let c0_i32_32 : BitVec 32 := 0#32
  let v71 : BitVec 1 := Scalar.cmpi .eq c4_i32 c0_i32_32
  let c1_i32_33 : BitVec 32 := 1#32
  let v72 : BitVec 32 := Scalar.select v71 c1_i32_33 c4_i32
  let v73 : BitVec 32 := Scalar.remsi v70 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c2_i32_38 : BitVec 32 := 2#32
  let v82 : BitVec 32 := Scalar.muli v80 c2_i32_38
  let v83 : BitVec 32 := Scalar.addi v81 v82
  let c2_i32_39 : BitVec 32 := 2#32
  let c0_i32_40 : BitVec 32 := 0#32
  let v84 : BitVec 1 := Scalar.cmpi .eq c2_i32_39 c0_i32_40
  let c1_i32_41 : BitVec 32 := 1#32
  let v85 : BitVec 32 := Scalar.select v84 c1_i32_41 c2_i32_39
  let v86 : BitVec 32 := Scalar.remsi v80 v85
  let c0_i32_43 : BitVec 32 := 0#32
  let v88 : BitVec 1 := Scalar.cmpi .slt v86 c0_i32_43
  let c0_i32_44 : BitVec 32 := 0#32
  let v89 : BitVec 1 := Scalar.cmpi .slt v85 c0_i32_44
  let v90 : BitVec 1 := Scalar.xori v88 v89
  let c0_i32_42 : BitVec 32 := 0#32
  let v87 : BitVec 1 := Scalar.cmpi .ne v86 c0_i32_42
  let v91 : BitVec 1 := Scalar.andi v90 v87
  let v92 : BitVec 32 := Scalar.addi v86 v85
  let v93 : BitVec 32 := Scalar.select v91 v92 v86
  let c0_i32_45 : BitVec 32 := 0#32
  let v94 : BitVec 1 := Scalar.cmpi .eq v93 c0_i32_45
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_46 : BitVec 32 := 1#32
  let v95 : BitVec 32 := Scalar.subi c1_i32_46 v69
  let v96 : BitVec 32 := Scalar.select v94 v69 v95
  let v97 : BitVec 32 := Scalar.addi v83 v96
  let c1_i32_1168 : BitVec 32 := 1#32
  let v1650 : BitVec 32 := Scalar.muli v97 c1_i32_1168
  let v1651 : BitVec 32 := Scalar.addi c0_i32_1169 v1650
  v1651.toNat
def k0_off27 (d0 : Dev nD) (c0_i32_1174 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_161 : BitVec 32 := 1#32
  let v302 : BitVec 32 := Scalar.addi v46 c1_i32_161
  let c4_i32_162 : BitVec 32 := 4#32
  let c0_i32_163 : BitVec 32 := 0#32
  let v303 : BitVec 1 := Scalar.cmpi .eq c4_i32_162 c0_i32_163
  let c1_i32_164 : BitVec 32 := 1#32
  let v304 : BitVec 32 := Scalar.select v303 c1_i32_164 c4_i32_162
  let v305 : BitVec 32 := Scalar.remsi v302 v304
  let c0_i32_166 : BitVec 32 := 0#32
  let v307 : BitVec 1 := Scalar.cmpi .slt v305 c0_i32_166
  let c0_i32_167 : BitVec 32 := 0#32
  let v308 : BitVec 1 := Scalar.cmpi .slt v304 c0_i32_167
  let v309 : BitVec 1 := Scalar.xori v307 v308
  let c0_i32_165 : BitVec 32 := 0#32
  let v306 : BitVec 1 := Scalar.cmpi .ne v305 c0_i32_165
  let v310 : BitVec 1 := Scalar.andi v309 v306
  let v311 : BitVec 32 := Scalar.addi v305 v304
  let v312 : BitVec 32 := Scalar.select v310 v311 v305
  let c256_i32 : BitVec 32 := 256#32
  let v346 : BitVec 32 := Scalar.muli v312 c256_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1660 : BitVec 32 := Scalar.subi v19 c0_i32_1174
  let c1_i32_1175 : BitVec 32 := 1#32
  let v1661 : BitVec 32 := Scalar.subi v1660 c1_i32_1175
  let c4_i32_1176 : BitVec 32 := 4#32
  let c0_i32_1177 : BitVec 32 := 0#32
  let v1662 : BitVec 1 := Scalar.cmpi .eq c4_i32_1176 c0_i32_1177
  let c1_i32_1178 : BitVec 32 := 1#32
  let v1663 : BitVec 32 := Scalar.select v1662 c1_i32_1178 c4_i32_1176
  let v1664 : BitVec 32 := Scalar.remsi v1661 v1663
  let c0_i32_1180 : BitVec 32 := 0#32
  let v1666 : BitVec 1 := Scalar.cmpi .slt v1664 c0_i32_1180
  let c0_i32_1181 : BitVec 32 := 0#32
  let v1667 : BitVec 1 := Scalar.cmpi .slt v1663 c0_i32_1181
  let v1668 : BitVec 1 := Scalar.xori v1666 v1667
  let c0_i32_1179 : BitVec 32 := 0#32
  let v1665 : BitVec 1 := Scalar.cmpi .ne v1664 c0_i32_1179
  let v1669 : BitVec 1 := Scalar.andi v1668 v1665
  let v1670 : BitVec 32 := Scalar.addi v1664 v1663
  let v1671 : BitVec 32 := Scalar.select v1669 v1670 v1664
  let c64_i32_1182 : BitVec 32 := 64#32
  let v1672 : BitVec 32 := Scalar.muli v1671 c64_i32_1182
  let v1673 : BitVec 32 := Scalar.addi v346 v1672
  let v1674 : Index := Scalar.indexCast v1673
  let c0_1183 : Index := 0#32
  ![v1674.toNat, 0]
def k0_off28 (d0 : Dev nD) (c0_i32_1184 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_168 : BitVec 32 := 1#32
  let v313 : BitVec 32 := Scalar.addi v19 c1_i32_168
  let c4_i32_169 : BitVec 32 := 4#32
  let c0_i32_170 : BitVec 32 := 0#32
  let v314 : BitVec 1 := Scalar.cmpi .eq c4_i32_169 c0_i32_170
  let c1_i32_171 : BitVec 32 := 1#32
  let v315 : BitVec 32 := Scalar.select v314 c1_i32_171 c4_i32_169
  let v316 : BitVec 32 := Scalar.remsi v313 v315
  let c0_i32_173 : BitVec 32 := 0#32
  let v318 : BitVec 1 := Scalar.cmpi .slt v316 c0_i32_173
  let c0_i32_174 : BitVec 32 := 0#32
  let v319 : BitVec 1 := Scalar.cmpi .slt v315 c0_i32_174
  let v320 : BitVec 1 := Scalar.xori v318 v319
  let c0_i32_172 : BitVec 32 := 0#32
  let v317 : BitVec 1 := Scalar.cmpi .ne v316 c0_i32_172
  let v321 : BitVec 1 := Scalar.andi v320 v317
  let v322 : BitVec 32 := Scalar.addi v316 v315
  let v323 : BitVec 32 := Scalar.select v321 v322 v316
  let c256_i32_189 : BitVec 32 := 256#32
  let v347 : BitVec 32 := Scalar.muli v323 c256_i32_189
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v1677 : BitVec 32 := Scalar.subi v46 c0_i32_1184
  let c1_i32_1185 : BitVec 32 := 1#32
  let v1678 : BitVec 32 := Scalar.subi v1677 c1_i32_1185
  let c4_i32_1186 : BitVec 32 := 4#32
  let c0_i32_1187 : BitVec 32 := 0#32
  let v1679 : BitVec 1 := Scalar.cmpi .eq c4_i32_1186 c0_i32_1187
  let c1_i32_1188 : BitVec 32 := 1#32
  let v1680 : BitVec 32 := Scalar.select v1679 c1_i32_1188 c4_i32_1186
  let v1681 : BitVec 32 := Scalar.remsi v1678 v1680
  let c0_i32_1190 : BitVec 32 := 0#32
  let v1683 : BitVec 1 := Scalar.cmpi .slt v1681 c0_i32_1190
  let c0_i32_1191 : BitVec 32 := 0#32
  let v1684 : BitVec 1 := Scalar.cmpi .slt v1680 c0_i32_1191
  let v1685 : BitVec 1 := Scalar.xori v1683 v1684
  let c0_i32_1189 : BitVec 32 := 0#32
  let v1682 : BitVec 1 := Scalar.cmpi .ne v1681 c0_i32_1189
  let v1686 : BitVec 1 := Scalar.andi v1685 v1682
  let v1687 : BitVec 32 := Scalar.addi v1681 v1680
  let v1688 : BitVec 32 := Scalar.select v1686 v1687 v1681
  let c64_i32_1192 : BitVec 32 := 64#32
  let v1689 : BitVec 32 := Scalar.muli v1688 c64_i32_1192
  let v1690 : BitVec 32 := Scalar.addi v347 v1689
  let v1691 : Index := Scalar.indexCast v1690
  let c512_1193 : Index := 512#32
  ![v1691.toNat, 512]
def k0_dev24 (d0 : Dev nD) : Nat :=
  let c0_i32_1231 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_63 : BitVec 32 := 1#32
  let v126 : BitVec 32 := Scalar.addi v19 c1_i32_63
  let c4_i32_64 : BitVec 32 := 4#32
  let c0_i32_65 : BitVec 32 := 0#32
  let v127 : BitVec 1 := Scalar.cmpi .eq c4_i32_64 c0_i32_65
  let c1_i32_66 : BitVec 32 := 1#32
  let v128 : BitVec 32 := Scalar.select v127 c1_i32_66 c4_i32_64
  let v129 : BitVec 32 := Scalar.remsi v126 v128
  let c0_i32_68 : BitVec 32 := 0#32
  let v131 : BitVec 1 := Scalar.cmpi .slt v129 c0_i32_68
  let c0_i32_69 : BitVec 32 := 0#32
  let v132 : BitVec 1 := Scalar.cmpi .slt v128 c0_i32_69
  let v133 : BitVec 1 := Scalar.xori v131 v132
  let c0_i32_67 : BitVec 32 := 0#32
  let v130 : BitVec 1 := Scalar.cmpi .ne v129 c0_i32_67
  let v134 : BitVec 1 := Scalar.andi v133 v130
  let v135 : BitVec 32 := Scalar.addi v129 v128
  let v136 : BitVec 32 := Scalar.select v134 v135 v129
  let c8_i32_70 : BitVec 32 := 8#32
  let v137 : BitVec 32 := Scalar.muli v136 c8_i32_70
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_71 : BitVec 32 := 2#32
  let v138 : BitVec 32 := Scalar.muli v46 c2_i32_71
  let v139 : BitVec 32 := Scalar.addi v137 v138
  let c2_i32_72 : BitVec 32 := 2#32
  let c0_i32_73 : BitVec 32 := 0#32
  let v140 : BitVec 1 := Scalar.cmpi .eq c2_i32_72 c0_i32_73
  let c1_i32_74 : BitVec 32 := 1#32
  let v141 : BitVec 32 := Scalar.select v140 c1_i32_74 c2_i32_72
  let v142 : BitVec 32 := Scalar.remsi v46 v141
  let c0_i32_76 : BitVec 32 := 0#32
  let v144 : BitVec 1 := Scalar.cmpi .slt v142 c0_i32_76
  let c0_i32_77 : BitVec 32 := 0#32
  let v145 : BitVec 1 := Scalar.cmpi .slt v141 c0_i32_77
  let v146 : BitVec 1 := Scalar.xori v144 v145
  let c0_i32_75 : BitVec 32 := 0#32
  let v143 : BitVec 1 := Scalar.cmpi .ne v142 c0_i32_75
  let v147 : BitVec 1 := Scalar.andi v146 v143
  let v148 : BitVec 32 := Scalar.addi v142 v141
  let v149 : BitVec 32 := Scalar.select v147 v148 v142
  let c0_i32_78 : BitVec 32 := 0#32
  let v150 : BitVec 1 := Scalar.cmpi .eq v149 c0_i32_78
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_79 : BitVec 32 := 1#32
  let v151 : BitVec 32 := Scalar.subi c1_i32_79 v69
  let v152 : BitVec 32 := Scalar.select v150 v69 v151
  let v153 : BitVec 32 := Scalar.addi v139 v152
  let c1_i32_1230 : BitVec 32 := 1#32
  let v1722 : BitVec 32 := Scalar.muli v153 c1_i32_1230
  let v1723 : BitVec 32 := Scalar.addi c0_i32_1231 v1722
  v1723.toNat
def k0_dev25 (d0 : Dev nD) : Nat :=
  let c0_i32_1238 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_80 : BitVec 32 := 3#32
  let v154 : BitVec 32 := Scalar.addi v19 c3_i32_80
  let c4_i32_81 : BitVec 32 := 4#32
  let c0_i32_82 : BitVec 32 := 0#32
  let v155 : BitVec 1 := Scalar.cmpi .eq c4_i32_81 c0_i32_82
  let c1_i32_83 : BitVec 32 := 1#32
  let v156 : BitVec 32 := Scalar.select v155 c1_i32_83 c4_i32_81
  let v157 : BitVec 32 := Scalar.remsi v154 v156
  let c0_i32_85 : BitVec 32 := 0#32
  let v159 : BitVec 1 := Scalar.cmpi .slt v157 c0_i32_85
  let c0_i32_86 : BitVec 32 := 0#32
  let v160 : BitVec 1 := Scalar.cmpi .slt v156 c0_i32_86
  let v161 : BitVec 1 := Scalar.xori v159 v160
  let c0_i32_84 : BitVec 32 := 0#32
  let v158 : BitVec 1 := Scalar.cmpi .ne v157 c0_i32_84
  let v162 : BitVec 1 := Scalar.andi v161 v158
  let v163 : BitVec 32 := Scalar.addi v157 v156
  let v164 : BitVec 32 := Scalar.select v162 v163 v157
  let c8_i32_87 : BitVec 32 := 8#32
  let v165 : BitVec 32 := Scalar.muli v164 c8_i32_87
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_88 : BitVec 32 := 2#32
  let v166 : BitVec 32 := Scalar.muli v46 c2_i32_88
  let v167 : BitVec 32 := Scalar.addi v165 v166
  let c2_i32_89 : BitVec 32 := 2#32
  let c0_i32_90 : BitVec 32 := 0#32
  let v168 : BitVec 1 := Scalar.cmpi .eq c2_i32_89 c0_i32_90
  let c1_i32_91 : BitVec 32 := 1#32
  let v169 : BitVec 32 := Scalar.select v168 c1_i32_91 c2_i32_89
  let v170 : BitVec 32 := Scalar.remsi v46 v169
  let c0_i32_93 : BitVec 32 := 0#32
  let v172 : BitVec 1 := Scalar.cmpi .slt v170 c0_i32_93
  let c0_i32_94 : BitVec 32 := 0#32
  let v173 : BitVec 1 := Scalar.cmpi .slt v169 c0_i32_94
  let v174 : BitVec 1 := Scalar.xori v172 v173
  let c0_i32_92 : BitVec 32 := 0#32
  let v171 : BitVec 1 := Scalar.cmpi .ne v170 c0_i32_92
  let v175 : BitVec 1 := Scalar.andi v174 v171
  let v176 : BitVec 32 := Scalar.addi v170 v169
  let v177 : BitVec 32 := Scalar.select v175 v176 v170
  let c0_i32_95 : BitVec 32 := 0#32
  let v178 : BitVec 1 := Scalar.cmpi .eq v177 c0_i32_95
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_96 : BitVec 32 := 1#32
  let v179 : BitVec 32 := Scalar.subi c1_i32_96 v69
  let v180 : BitVec 32 := Scalar.select v178 v69 v179
  let v181 : BitVec 32 := Scalar.addi v167 v180
  let c1_i32_1237 : BitVec 32 := 1#32
  let v1732 : BitVec 32 := Scalar.muli v181 c1_i32_1237
  let v1733 : BitVec 32 := Scalar.addi c0_i32_1238 v1732
  v1733.toNat
def k0_dev26 (d0 : Dev nD) : Nat :=
  let c0_i32_1269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_37 : BitVec 32 := 8#32
  let v81 : BitVec 32 := Scalar.muli v19 c8_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v70 : BitVec 32 := Scalar.addi v46 c1_i32_31
  let c4_i32 : BitVec 32 := 4#32
  let c0_i32_32 : BitVec 32 := 0#32
  let v71 : BitVec 1 := Scalar.cmpi .eq c4_i32 c0_i32_32
  let c1_i32_33 : BitVec 32 := 1#32
  let v72 : BitVec 32 := Scalar.select v71 c1_i32_33 c4_i32
  let v73 : BitVec 32 := Scalar.remsi v70 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c2_i32_38 : BitVec 32 := 2#32
  let v82 : BitVec 32 := Scalar.muli v80 c2_i32_38
  let v83 : BitVec 32 := Scalar.addi v81 v82
  let c2_i32_39 : BitVec 32 := 2#32
  let c0_i32_40 : BitVec 32 := 0#32
  let v84 : BitVec 1 := Scalar.cmpi .eq c2_i32_39 c0_i32_40
  let c1_i32_41 : BitVec 32 := 1#32
  let v85 : BitVec 32 := Scalar.select v84 c1_i32_41 c2_i32_39
  let v86 : BitVec 32 := Scalar.remsi v80 v85
  let c0_i32_43 : BitVec 32 := 0#32
  let v88 : BitVec 1 := Scalar.cmpi .slt v86 c0_i32_43
  let c0_i32_44 : BitVec 32 := 0#32
  let v89 : BitVec 1 := Scalar.cmpi .slt v85 c0_i32_44
  let v90 : BitVec 1 := Scalar.xori v88 v89
  let c0_i32_42 : BitVec 32 := 0#32
  let v87 : BitVec 1 := Scalar.cmpi .ne v86 c0_i32_42
  let v91 : BitVec 1 := Scalar.andi v90 v87
  let v92 : BitVec 32 := Scalar.addi v86 v85
  let v93 : BitVec 32 := Scalar.select v91 v92 v86
  let c0_i32_45 : BitVec 32 := 0#32
  let v94 : BitVec 1 := Scalar.cmpi .eq v93 c0_i32_45
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_46 : BitVec 32 := 1#32
  let v95 : BitVec 32 := Scalar.subi c1_i32_46 v69
  let v96 : BitVec 32 := Scalar.select v94 v69 v95
  let v97 : BitVec 32 := Scalar.addi v83 v96
  let c1_i32_1268 : BitVec 32 := 1#32
  let v1754 : BitVec 32 := Scalar.muli v97 c1_i32_1268
  let v1755 : BitVec 32 := Scalar.addi c0_i32_1269 v1754
  v1755.toNat
def k0_dev27 (d0 : Dev nD) : Nat :=
  let c0_i32_1276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_53 : BitVec 32 := 8#32
  let v109 : BitVec 32 := Scalar.muli v19 c8_i32_53
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v98 : BitVec 32 := Scalar.addi v46 c3_i32
  let c4_i32_47 : BitVec 32 := 4#32
  let c0_i32_48 : BitVec 32 := 0#32
  let v99 : BitVec 1 := Scalar.cmpi .eq c4_i32_47 c0_i32_48
  let c1_i32_49 : BitVec 32 := 1#32
  let v100 : BitVec 32 := Scalar.select v99 c1_i32_49 c4_i32_47
  let v101 : BitVec 32 := Scalar.remsi v98 v100
  let c0_i32_51 : BitVec 32 := 0#32
  let v103 : BitVec 1 := Scalar.cmpi .slt v101 c0_i32_51
  let c0_i32_52 : BitVec 32 := 0#32
  let v104 : BitVec 1 := Scalar.cmpi .slt v100 c0_i32_52
  let v105 : BitVec 1 := Scalar.xori v103 v104
  let c0_i32_50 : BitVec 32 := 0#32
  let v102 : BitVec 1 := Scalar.cmpi .ne v101 c0_i32_50
  let v106 : BitVec 1 := Scalar.andi v105 v102
  let v107 : BitVec 32 := Scalar.addi v101 v100
  let v108 : BitVec 32 := Scalar.select v106 v107 v101
  let c2_i32_54 : BitVec 32 := 2#32
  let v110 : BitVec 32 := Scalar.muli v108 c2_i32_54
  let v111 : BitVec 32 := Scalar.addi v109 v110
  let c2_i32_55 : BitVec 32 := 2#32
  let c0_i32_56 : BitVec 32 := 0#32
  let v112 : BitVec 1 := Scalar.cmpi .eq c2_i32_55 c0_i32_56
  let c1_i32_57 : BitVec 32 := 1#32
  let v113 : BitVec 32 := Scalar.select v112 c1_i32_57 c2_i32_55
  let v114 : BitVec 32 := Scalar.remsi v108 v113
  let c0_i32_59 : BitVec 32 := 0#32
  let v116 : BitVec 1 := Scalar.cmpi .slt v114 c0_i32_59
  let c0_i32_60 : BitVec 32 := 0#32
  let v117 : BitVec 1 := Scalar.cmpi .slt v113 c0_i32_60
  let v118 : BitVec 1 := Scalar.xori v116 v117
  let c0_i32_58 : BitVec 32 := 0#32
  let v115 : BitVec 1 := Scalar.cmpi .ne v114 c0_i32_58
  let v119 : BitVec 1 := Scalar.andi v118 v115
  let v120 : BitVec 32 := Scalar.addi v114 v113
  let v121 : BitVec 32 := Scalar.select v119 v120 v114
  let c0_i32_61 : BitVec 32 := 0#32
  let v122 : BitVec 1 := Scalar.cmpi .eq v121 c0_i32_61
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_62 : BitVec 32 := 1#32
  let v123 : BitVec 32 := Scalar.subi c1_i32_62 v69
  let v124 : BitVec 32 := Scalar.select v122 v69 v123
  let v125 : BitVec 32 := Scalar.addi v111 v124
  let c1_i32_1275 : BitVec 32 := 1#32
  let v1764 : BitVec 32 := Scalar.muli v125 c1_i32_1275
  let v1765 : BitVec 32 := Scalar.addi c0_i32_1276 v1764
  v1765.toNat
def k0_dev28 (d0 : Dev nD) : Nat :=
  let c0_i32_1336 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_63 : BitVec 32 := 1#32
  let v126 : BitVec 32 := Scalar.addi v19 c1_i32_63
  let c4_i32_64 : BitVec 32 := 4#32
  let c0_i32_65 : BitVec 32 := 0#32
  let v127 : BitVec 1 := Scalar.cmpi .eq c4_i32_64 c0_i32_65
  let c1_i32_66 : BitVec 32 := 1#32
  let v128 : BitVec 32 := Scalar.select v127 c1_i32_66 c4_i32_64
  let v129 : BitVec 32 := Scalar.remsi v126 v128
  let c0_i32_68 : BitVec 32 := 0#32
  let v131 : BitVec 1 := Scalar.cmpi .slt v129 c0_i32_68
  let c0_i32_69 : BitVec 32 := 0#32
  let v132 : BitVec 1 := Scalar.cmpi .slt v128 c0_i32_69
  let v133 : BitVec 1 := Scalar.xori v131 v132
  let c0_i32_67 : BitVec 32 := 0#32
  let v130 : BitVec 1 := Scalar.cmpi .ne v129 c0_i32_67
  let v134 : BitVec 1 := Scalar.andi v133 v130
  let v135 : BitVec 32 := Scalar.addi v129 v128
  let v136 : BitVec 32 := Scalar.select v134 v135 v129
  let c8_i32_70 : BitVec 32 := 8#32
  let v137 : BitVec 32 := Scalar.muli v136 c8_i32_70
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_71 : BitVec 32 := 2#32
  let v138 : BitVec 32 := Scalar.muli v46 c2_i32_71
  let v139 : BitVec 32 := Scalar.addi v137 v138
  let c2_i32_72 : BitVec 32 := 2#32
  let c0_i32_73 : BitVec 32 := 0#32
  let v140 : BitVec 1 := Scalar.cmpi .eq c2_i32_72 c0_i32_73
  let c1_i32_74 : BitVec 32 := 1#32
  let v141 : BitVec 32 := Scalar.select v140 c1_i32_74 c2_i32_72
  let v142 : BitVec 32 := Scalar.remsi v46 v141
  let c0_i32_76 : BitVec 32 := 0#32
  let v144 : BitVec 1 := Scalar.cmpi .slt v142 c0_i32_76
  let c0_i32_77 : BitVec 32 := 0#32
  let v145 : BitVec 1 := Scalar.cmpi .slt v141 c0_i32_77
  let v146 : BitVec 1 := Scalar.xori v144 v145
  let c0_i32_75 : BitVec 32 := 0#32
  let v143 : BitVec 1 := Scalar.cmpi .ne v142 c0_i32_75
  let v147 : BitVec 1 := Scalar.andi v146 v143
  let v148 : BitVec 32 := Scalar.addi v142 v141
  let v149 : BitVec 32 := Scalar.select v147 v148 v142
  let c0_i32_78 : BitVec 32 := 0#32
  let v150 : BitVec 1 := Scalar.cmpi .eq v149 c0_i32_78
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_79 : BitVec 32 := 1#32
  let v151 : BitVec 32 := Scalar.subi c1_i32_79 v69
  let v152 : BitVec 32 := Scalar.select v150 v69 v151
  let v153 : BitVec 32 := Scalar.addi v139 v152
  let c1_i32_1335 : BitVec 32 := 1#32
  let v1828 : BitVec 32 := Scalar.muli v153 c1_i32_1335
  let v1829 : BitVec 32 := Scalar.addi c0_i32_1336 v1828
  v1829.toNat
def k0_dev29 (d0 : Dev nD) : Nat :=
  let c0_i32_1373 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_37 : BitVec 32 := 8#32
  let v81 : BitVec 32 := Scalar.muli v19 c8_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v70 : BitVec 32 := Scalar.addi v46 c1_i32_31
  let c4_i32 : BitVec 32 := 4#32
  let c0_i32_32 : BitVec 32 := 0#32
  let v71 : BitVec 1 := Scalar.cmpi .eq c4_i32 c0_i32_32
  let c1_i32_33 : BitVec 32 := 1#32
  let v72 : BitVec 32 := Scalar.select v71 c1_i32_33 c4_i32
  let v73 : BitVec 32 := Scalar.remsi v70 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c2_i32_38 : BitVec 32 := 2#32
  let v82 : BitVec 32 := Scalar.muli v80 c2_i32_38
  let v83 : BitVec 32 := Scalar.addi v81 v82
  let c2_i32_39 : BitVec 32 := 2#32
  let c0_i32_40 : BitVec 32 := 0#32
  let v84 : BitVec 1 := Scalar.cmpi .eq c2_i32_39 c0_i32_40
  let c1_i32_41 : BitVec 32 := 1#32
  let v85 : BitVec 32 := Scalar.select v84 c1_i32_41 c2_i32_39
  let v86 : BitVec 32 := Scalar.remsi v80 v85
  let c0_i32_43 : BitVec 32 := 0#32
  let v88 : BitVec 1 := Scalar.cmpi .slt v86 c0_i32_43
  let c0_i32_44 : BitVec 32 := 0#32
  let v89 : BitVec 1 := Scalar.cmpi .slt v85 c0_i32_44
  let v90 : BitVec 1 := Scalar.xori v88 v89
  let c0_i32_42 : BitVec 32 := 0#32
  let v87 : BitVec 1 := Scalar.cmpi .ne v86 c0_i32_42
  let v91 : BitVec 1 := Scalar.andi v90 v87
  let v92 : BitVec 32 := Scalar.addi v86 v85
  let v93 : BitVec 32 := Scalar.select v91 v92 v86
  let c0_i32_45 : BitVec 32 := 0#32
  let v94 : BitVec 1 := Scalar.cmpi .eq v93 c0_i32_45
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_46 : BitVec 32 := 1#32
  let v95 : BitVec 32 := Scalar.subi c1_i32_46 v69
  let v96 : BitVec 32 := Scalar.select v94 v69 v95
  let v97 : BitVec 32 := Scalar.addi v83 v96
  let c1_i32_1372 : BitVec 32 := 1#32
  let v1858 : BitVec 32 := Scalar.muli v97 c1_i32_1372
  let v1859 : BitVec 32 := Scalar.addi c0_i32_1373 v1858
  v1859.toNat
def k0_off29 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_161 : BitVec 32 := 1#32
  let v302 : BitVec 32 := Scalar.addi v46 c1_i32_161
  let c4_i32_162 : BitVec 32 := 4#32
  let c0_i32_163 : BitVec 32 := 0#32
  let v303 : BitVec 1 := Scalar.cmpi .eq c4_i32_162 c0_i32_163
  let c1_i32_164 : BitVec 32 := 1#32
  let v304 : BitVec 32 := Scalar.select v303 c1_i32_164 c4_i32_162
  let v305 : BitVec 32 := Scalar.remsi v302 v304
  let c0_i32_166 : BitVec 32 := 0#32
  let v307 : BitVec 1 := Scalar.cmpi .slt v305 c0_i32_166
  let c0_i32_167 : BitVec 32 := 0#32
  let v308 : BitVec 1 := Scalar.cmpi .slt v304 c0_i32_167
  let v309 : BitVec 1 := Scalar.xori v307 v308
  let c0_i32_165 : BitVec 32 := 0#32
  let v306 : BitVec 1 := Scalar.cmpi .ne v305 c0_i32_165
  let v310 : BitVec 1 := Scalar.andi v309 v306
  let v311 : BitVec 32 := Scalar.addi v305 v304
  let v312 : BitVec 32 := Scalar.select v310 v311 v305
  let c256_i32 : BitVec 32 := 256#32
  let v346 : BitVec 32 := Scalar.muli v312 c256_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_175 : BitVec 32 := 1#32
  let v324 : BitVec 32 := Scalar.addi v19 c1_i32_175
  let c4_i32_176 : BitVec 32 := 4#32
  let c0_i32_177 : BitVec 32 := 0#32
  let v325 : BitVec 1 := Scalar.cmpi .eq c4_i32_176 c0_i32_177
  let c1_i32_178 : BitVec 32 := 1#32
  let v326 : BitVec 32 := Scalar.select v325 c1_i32_178 c4_i32_176
  let v327 : BitVec 32 := Scalar.remsi v324 v326
  let c0_i32_180 : BitVec 32 := 0#32
  let v329 : BitVec 1 := Scalar.cmpi .slt v327 c0_i32_180
  let c0_i32_181 : BitVec 32 := 0#32
  let v330 : BitVec 1 := Scalar.cmpi .slt v326 c0_i32_181
  let v331 : BitVec 1 := Scalar.xori v329 v330
  let c0_i32_179 : BitVec 32 := 0#32
  let v328 : BitVec 1 := Scalar.cmpi .ne v327 c0_i32_179
  let v332 : BitVec 1 := Scalar.andi v331 v328
  let v333 : BitVec 32 := Scalar.addi v327 v326
  let v334 : BitVec 32 := Scalar.select v332 v333 v327
  let c64_i32 : BitVec 32 := 64#32
  let v348 : BitVec 32 := Scalar.muli v334 c64_i32
  let v349 : BitVec 32 := Scalar.addi v346 v348
  let v1927 : Index := Scalar.indexCast v349
  let c0_1427 : Index := 0#32
  ![v1927.toNat, 0]
def k0_off30 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_168 : BitVec 32 := 1#32
  let v313 : BitVec 32 := Scalar.addi v19 c1_i32_168
  let c4_i32_169 : BitVec 32 := 4#32
  let c0_i32_170 : BitVec 32 := 0#32
  let v314 : BitVec 1 := Scalar.cmpi .eq c4_i32_169 c0_i32_170
  let c1_i32_171 : BitVec 32 := 1#32
  let v315 : BitVec 32 := Scalar.select v314 c1_i32_171 c4_i32_169
  let v316 : BitVec 32 := Scalar.remsi v313 v315
  let c0_i32_173 : BitVec 32 := 0#32
  let v318 : BitVec 1 := Scalar.cmpi .slt v316 c0_i32_173
  let c0_i32_174 : BitVec 32 := 0#32
  let v319 : BitVec 1 := Scalar.cmpi .slt v315 c0_i32_174
  let v320 : BitVec 1 := Scalar.xori v318 v319
  let c0_i32_172 : BitVec 32 := 0#32
  let v317 : BitVec 1 := Scalar.cmpi .ne v316 c0_i32_172
  let v321 : BitVec 1 := Scalar.andi v320 v317
  let v322 : BitVec 32 := Scalar.addi v316 v315
  let v323 : BitVec 32 := Scalar.select v321 v322 v316
  let c256_i32_189 : BitVec 32 := 256#32
  let v347 : BitVec 32 := Scalar.muli v323 c256_i32_189
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_182 : BitVec 32 := 1#32
  let v335 : BitVec 32 := Scalar.addi v46 c1_i32_182
  let c4_i32_183 : BitVec 32 := 4#32
  let c0_i32_184 : BitVec 32 := 0#32
  let v336 : BitVec 1 := Scalar.cmpi .eq c4_i32_183 c0_i32_184
  let c1_i32_185 : BitVec 32 := 1#32
  let v337 : BitVec 32 := Scalar.select v336 c1_i32_185 c4_i32_183
  let v338 : BitVec 32 := Scalar.remsi v335 v337
  let c0_i32_187 : BitVec 32 := 0#32
  let v340 : BitVec 1 := Scalar.cmpi .slt v338 c0_i32_187
  let c0_i32_188 : BitVec 32 := 0#32
  let v341 : BitVec 1 := Scalar.cmpi .slt v337 c0_i32_188
  let v342 : BitVec 1 := Scalar.xori v340 v341
  let c0_i32_186 : BitVec 32 := 0#32
  let v339 : BitVec 1 := Scalar.cmpi .ne v338 c0_i32_186
  let v343 : BitVec 1 := Scalar.andi v342 v339
  let v344 : BitVec 32 := Scalar.addi v338 v337
  let v345 : BitVec 32 := Scalar.select v343 v344 v338
  let c64_i32_190 : BitVec 32 := 64#32
  let v350 : BitVec 32 := Scalar.muli v345 c64_i32_190
  let v351 : BitVec 32 := Scalar.addi v347 v350
  let v1946 : Index := Scalar.indexCast v351
  let c512_1450 : Index := 512#32
  ![v1946.toNat, 512]
def k0_dev30 (d0 : Dev nD) : Nat :=
  let c0_i32_1458 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_98 : BitVec 32 := 8#32
  let v183 : BitVec 32 := Scalar.muli v19 c8_i32_98
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_99 : BitVec 32 := 2#32
  let v184 : BitVec 32 := Scalar.muli v46 c2_i32_99
  let v185 : BitVec 32 := Scalar.addi v183 v184
  let c2_i32_100 : BitVec 32 := 2#32
  let c0_i32_101 : BitVec 32 := 0#32
  let v186 : BitVec 1 := Scalar.cmpi .eq c2_i32_100 c0_i32_101
  let c1_i32_102 : BitVec 32 := 1#32
  let v187 : BitVec 32 := Scalar.select v186 c1_i32_102 c2_i32_100
  let v188 : BitVec 32 := Scalar.remsi v46 v187
  let c0_i32_104 : BitVec 32 := 0#32
  let v190 : BitVec 1 := Scalar.cmpi .slt v188 c0_i32_104
  let c0_i32_105 : BitVec 32 := 0#32
  let v191 : BitVec 1 := Scalar.cmpi .slt v187 c0_i32_105
  let v192 : BitVec 1 := Scalar.xori v190 v191
  let c0_i32_103 : BitVec 32 := 0#32
  let v189 : BitVec 1 := Scalar.cmpi .ne v188 c0_i32_103
  let v193 : BitVec 1 := Scalar.andi v192 v189
  let v194 : BitVec 32 := Scalar.addi v188 v187
  let v195 : BitVec 32 := Scalar.select v193 v194 v188
  let c0_i32_106 : BitVec 32 := 0#32
  let v196 : BitVec 1 := Scalar.cmpi .eq v195 c0_i32_106
  let c1_i32_97 : BitVec 32 := 1#32
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let v182 : BitVec 32 := Scalar.subi c1_i32_97 v69
  let c1_i32_107 : BitVec 32 := 1#32
  let v197 : BitVec 32 := Scalar.subi c1_i32_107 v182
  let v198 : BitVec 32 := Scalar.select v196 v182 v197
  let v199 : BitVec 32 := Scalar.addi v185 v198
  let c1_i32_1457 : BitVec 32 := 1#32
  let v1960 : BitVec 32 := Scalar.muli v199 c1_i32_1457
  let v1961 : BitVec 32 := Scalar.addi c0_i32_1458 v1960
  v1961.toNat
def k0_dev31 (d0 : Dev nD) : Nat :=
  let c0_i32_1460 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_98 : BitVec 32 := 8#32
  let v183 : BitVec 32 := Scalar.muli v19 c8_i32_98
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_99 : BitVec 32 := 2#32
  let v184 : BitVec 32 := Scalar.muli v46 c2_i32_99
  let v185 : BitVec 32 := Scalar.addi v183 v184
  let c2_i32_100 : BitVec 32 := 2#32
  let c0_i32_101 : BitVec 32 := 0#32
  let v186 : BitVec 1 := Scalar.cmpi .eq c2_i32_100 c0_i32_101
  let c1_i32_102 : BitVec 32 := 1#32
  let v187 : BitVec 32 := Scalar.select v186 c1_i32_102 c2_i32_100
  let v188 : BitVec 32 := Scalar.remsi v46 v187
  let c0_i32_104 : BitVec 32 := 0#32
  let v190 : BitVec 1 := Scalar.cmpi .slt v188 c0_i32_104
  let c0_i32_105 : BitVec 32 := 0#32
  let v191 : BitVec 1 := Scalar.cmpi .slt v187 c0_i32_105
  let v192 : BitVec 1 := Scalar.xori v190 v191
  let c0_i32_103 : BitVec 32 := 0#32
  let v189 : BitVec 1 := Scalar.cmpi .ne v188 c0_i32_103
  let v193 : BitVec 1 := Scalar.andi v192 v189
  let v194 : BitVec 32 := Scalar.addi v188 v187
  let v195 : BitVec 32 := Scalar.select v193 v194 v188
  let c0_i32_106 : BitVec 32 := 0#32
  let v196 : BitVec 1 := Scalar.cmpi .eq v195 c0_i32_106
  let c1_i32_97 : BitVec 32 := 1#32
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let v182 : BitVec 32 := Scalar.subi c1_i32_97 v69
  let c1_i32_107 : BitVec 32 := 1#32
  let v197 : BitVec 32 := Scalar.subi c1_i32_107 v182
  let v198 : BitVec 32 := Scalar.select v196 v182 v197
  let v199 : BitVec 32 := Scalar.addi v185 v198
  let c1_i32_1459 : BitVec 32 := 1#32
  let v1962 : BitVec 32 := Scalar.muli v199 c1_i32_1459
  let v1963 : BitVec 32 := Scalar.addi c0_i32_1460 v1962
  v1963.toNat
def k0_dev32 (d0 : Dev nD) : Nat :=
  let c0_i32_1499 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_63 : BitVec 32 := 1#32
  let v126 : BitVec 32 := Scalar.addi v19 c1_i32_63
  let c4_i32_64 : BitVec 32 := 4#32
  let c0_i32_65 : BitVec 32 := 0#32
  let v127 : BitVec 1 := Scalar.cmpi .eq c4_i32_64 c0_i32_65
  let c1_i32_66 : BitVec 32 := 1#32
  let v128 : BitVec 32 := Scalar.select v127 c1_i32_66 c4_i32_64
  let v129 : BitVec 32 := Scalar.remsi v126 v128
  let c0_i32_68 : BitVec 32 := 0#32
  let v131 : BitVec 1 := Scalar.cmpi .slt v129 c0_i32_68
  let c0_i32_69 : BitVec 32 := 0#32
  let v132 : BitVec 1 := Scalar.cmpi .slt v128 c0_i32_69
  let v133 : BitVec 1 := Scalar.xori v131 v132
  let c0_i32_67 : BitVec 32 := 0#32
  let v130 : BitVec 1 := Scalar.cmpi .ne v129 c0_i32_67
  let v134 : BitVec 1 := Scalar.andi v133 v130
  let v135 : BitVec 32 := Scalar.addi v129 v128
  let v136 : BitVec 32 := Scalar.select v134 v135 v129
  let c8_i32_70 : BitVec 32 := 8#32
  let v137 : BitVec 32 := Scalar.muli v136 c8_i32_70
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_71 : BitVec 32 := 2#32
  let v138 : BitVec 32 := Scalar.muli v46 c2_i32_71
  let v139 : BitVec 32 := Scalar.addi v137 v138
  let c2_i32_72 : BitVec 32 := 2#32
  let c0_i32_73 : BitVec 32 := 0#32
  let v140 : BitVec 1 := Scalar.cmpi .eq c2_i32_72 c0_i32_73
  let c1_i32_74 : BitVec 32 := 1#32
  let v141 : BitVec 32 := Scalar.select v140 c1_i32_74 c2_i32_72
  let v142 : BitVec 32 := Scalar.remsi v46 v141
  let c0_i32_76 : BitVec 32 := 0#32
  let v144 : BitVec 1 := Scalar.cmpi .slt v142 c0_i32_76
  let c0_i32_77 : BitVec 32 := 0#32
  let v145 : BitVec 1 := Scalar.cmpi .slt v141 c0_i32_77
  let v146 : BitVec 1 := Scalar.xori v144 v145
  let c0_i32_75 : BitVec 32 := 0#32
  let v143 : BitVec 1 := Scalar.cmpi .ne v142 c0_i32_75
  let v147 : BitVec 1 := Scalar.andi v146 v143
  let v148 : BitVec 32 := Scalar.addi v142 v141
  let v149 : BitVec 32 := Scalar.select v147 v148 v142
  let c0_i32_78 : BitVec 32 := 0#32
  let v150 : BitVec 1 := Scalar.cmpi .eq v149 c0_i32_78
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_79 : BitVec 32 := 1#32
  let v151 : BitVec 32 := Scalar.subi c1_i32_79 v69
  let v152 : BitVec 32 := Scalar.select v150 v69 v151
  let v153 : BitVec 32 := Scalar.addi v139 v152
  let c1_i32_1498 : BitVec 32 := 1#32
  let v2009 : BitVec 32 := Scalar.muli v153 c1_i32_1498
  let v2010 : BitVec 32 := Scalar.addi c0_i32_1499 v2009
  v2010.toNat
def k0_dev33 (d0 : Dev nD) : Nat :=
  let c0_i32_1521 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_37 : BitVec 32 := 8#32
  let v81 : BitVec 32 := Scalar.muli v19 c8_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v70 : BitVec 32 := Scalar.addi v46 c1_i32_31
  let c4_i32 : BitVec 32 := 4#32
  let c0_i32_32 : BitVec 32 := 0#32
  let v71 : BitVec 1 := Scalar.cmpi .eq c4_i32 c0_i32_32
  let c1_i32_33 : BitVec 32 := 1#32
  let v72 : BitVec 32 := Scalar.select v71 c1_i32_33 c4_i32
  let v73 : BitVec 32 := Scalar.remsi v70 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c2_i32_38 : BitVec 32 := 2#32
  let v82 : BitVec 32 := Scalar.muli v80 c2_i32_38
  let v83 : BitVec 32 := Scalar.addi v81 v82
  let c2_i32_39 : BitVec 32 := 2#32
  let c0_i32_40 : BitVec 32 := 0#32
  let v84 : BitVec 1 := Scalar.cmpi .eq c2_i32_39 c0_i32_40
  let c1_i32_41 : BitVec 32 := 1#32
  let v85 : BitVec 32 := Scalar.select v84 c1_i32_41 c2_i32_39
  let v86 : BitVec 32 := Scalar.remsi v80 v85
  let c0_i32_43 : BitVec 32 := 0#32
  let v88 : BitVec 1 := Scalar.cmpi .slt v86 c0_i32_43
  let c0_i32_44 : BitVec 32 := 0#32
  let v89 : BitVec 1 := Scalar.cmpi .slt v85 c0_i32_44
  let v90 : BitVec 1 := Scalar.xori v88 v89
  let c0_i32_42 : BitVec 32 := 0#32
  let v87 : BitVec 1 := Scalar.cmpi .ne v86 c0_i32_42
  let v91 : BitVec 1 := Scalar.andi v90 v87
  let v92 : BitVec 32 := Scalar.addi v86 v85
  let v93 : BitVec 32 := Scalar.select v91 v92 v86
  let c0_i32_45 : BitVec 32 := 0#32
  let v94 : BitVec 1 := Scalar.cmpi .eq v93 c0_i32_45
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_46 : BitVec 32 := 1#32
  let v95 : BitVec 32 := Scalar.subi c1_i32_46 v69
  let v96 : BitVec 32 := Scalar.select v94 v69 v95
  let v97 : BitVec 32 := Scalar.addi v83 v96
  let c1_i32_1520 : BitVec 32 := 1#32
  let v2038 : BitVec 32 := Scalar.muli v97 c1_i32_1520
  let v2039 : BitVec 32 := Scalar.addi c0_i32_1521 v2038
  v2039.toNat
def k0_dev34 (d0 : Dev nD) : Nat :=
  let c0_i32_1556 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_63 : BitVec 32 := 1#32
  let v126 : BitVec 32 := Scalar.addi v19 c1_i32_63
  let c4_i32_64 : BitVec 32 := 4#32
  let c0_i32_65 : BitVec 32 := 0#32
  let v127 : BitVec 1 := Scalar.cmpi .eq c4_i32_64 c0_i32_65
  let c1_i32_66 : BitVec 32 := 1#32
  let v128 : BitVec 32 := Scalar.select v127 c1_i32_66 c4_i32_64
  let v129 : BitVec 32 := Scalar.remsi v126 v128
  let c0_i32_68 : BitVec 32 := 0#32
  let v131 : BitVec 1 := Scalar.cmpi .slt v129 c0_i32_68
  let c0_i32_69 : BitVec 32 := 0#32
  let v132 : BitVec 1 := Scalar.cmpi .slt v128 c0_i32_69
  let v133 : BitVec 1 := Scalar.xori v131 v132
  let c0_i32_67 : BitVec 32 := 0#32
  let v130 : BitVec 1 := Scalar.cmpi .ne v129 c0_i32_67
  let v134 : BitVec 1 := Scalar.andi v133 v130
  let v135 : BitVec 32 := Scalar.addi v129 v128
  let v136 : BitVec 32 := Scalar.select v134 v135 v129
  let c8_i32_70 : BitVec 32 := 8#32
  let v137 : BitVec 32 := Scalar.muli v136 c8_i32_70
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_71 : BitVec 32 := 2#32
  let v138 : BitVec 32 := Scalar.muli v46 c2_i32_71
  let v139 : BitVec 32 := Scalar.addi v137 v138
  let c2_i32_72 : BitVec 32 := 2#32
  let c0_i32_73 : BitVec 32 := 0#32
  let v140 : BitVec 1 := Scalar.cmpi .eq c2_i32_72 c0_i32_73
  let c1_i32_74 : BitVec 32 := 1#32
  let v141 : BitVec 32 := Scalar.select v140 c1_i32_74 c2_i32_72
  let v142 : BitVec 32 := Scalar.remsi v46 v141
  let c0_i32_76 : BitVec 32 := 0#32
  let v144 : BitVec 1 := Scalar.cmpi .slt v142 c0_i32_76
  let c0_i32_77 : BitVec 32 := 0#32
  let v145 : BitVec 1 := Scalar.cmpi .slt v141 c0_i32_77
  let v146 : BitVec 1 := Scalar.xori v144 v145
  let c0_i32_75 : BitVec 32 := 0#32
  let v143 : BitVec 1 := Scalar.cmpi .ne v142 c0_i32_75
  let v147 : BitVec 1 := Scalar.andi v146 v143
  let v148 : BitVec 32 := Scalar.addi v142 v141
  let v149 : BitVec 32 := Scalar.select v147 v148 v142
  let c0_i32_78 : BitVec 32 := 0#32
  let v150 : BitVec 1 := Scalar.cmpi .eq v149 c0_i32_78
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_79 : BitVec 32 := 1#32
  let v151 : BitVec 32 := Scalar.subi c1_i32_79 v69
  let v152 : BitVec 32 := Scalar.select v150 v69 v151
  let v153 : BitVec 32 := Scalar.addi v139 v152
  let c1_i32_1555 : BitVec 32 := 1#32
  let v2067 : BitVec 32 := Scalar.muli v153 c1_i32_1555
  let v2068 : BitVec 32 := Scalar.addi c0_i32_1556 v2067
  v2068.toNat
def k0_off31 (d0 : Dev nD) (c0_i32_1561 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_161 : BitVec 32 := 1#32
  let v302 : BitVec 32 := Scalar.addi v46 c1_i32_161
  let c4_i32_162 : BitVec 32 := 4#32
  let c0_i32_163 : BitVec 32 := 0#32
  let v303 : BitVec 1 := Scalar.cmpi .eq c4_i32_162 c0_i32_163
  let c1_i32_164 : BitVec 32 := 1#32
  let v304 : BitVec 32 := Scalar.select v303 c1_i32_164 c4_i32_162
  let v305 : BitVec 32 := Scalar.remsi v302 v304
  let c0_i32_166 : BitVec 32 := 0#32
  let v307 : BitVec 1 := Scalar.cmpi .slt v305 c0_i32_166
  let c0_i32_167 : BitVec 32 := 0#32
  let v308 : BitVec 1 := Scalar.cmpi .slt v304 c0_i32_167
  let v309 : BitVec 1 := Scalar.xori v307 v308
  let c0_i32_165 : BitVec 32 := 0#32
  let v306 : BitVec 1 := Scalar.cmpi .ne v305 c0_i32_165
  let v310 : BitVec 1 := Scalar.andi v309 v306
  let v311 : BitVec 32 := Scalar.addi v305 v304
  let v312 : BitVec 32 := Scalar.select v310 v311 v305
  let c256_i32 : BitVec 32 := 256#32
  let v346 : BitVec 32 := Scalar.muli v312 c256_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v2077 : BitVec 32 := Scalar.subi v19 c0_i32_1561
  let c4_i32_1562 : BitVec 32 := 4#32
  let c0_i32_1563 : BitVec 32 := 0#32
  let v2078 : BitVec 1 := Scalar.cmpi .eq c4_i32_1562 c0_i32_1563
  let c1_i32_1564 : BitVec 32 := 1#32
  let v2079 : BitVec 32 := Scalar.select v2078 c1_i32_1564 c4_i32_1562
  let v2080 : BitVec 32 := Scalar.remsi v2077 v2079
  let c0_i32_1566 : BitVec 32 := 0#32
  let v2082 : BitVec 1 := Scalar.cmpi .slt v2080 c0_i32_1566
  let c0_i32_1567 : BitVec 32 := 0#32
  let v2083 : BitVec 1 := Scalar.cmpi .slt v2079 c0_i32_1567
  let v2084 : BitVec 1 := Scalar.xori v2082 v2083
  let c0_i32_1565 : BitVec 32 := 0#32
  let v2081 : BitVec 1 := Scalar.cmpi .ne v2080 c0_i32_1565
  let v2085 : BitVec 1 := Scalar.andi v2084 v2081
  let v2086 : BitVec 32 := Scalar.addi v2080 v2079
  let v2087 : BitVec 32 := Scalar.select v2085 v2086 v2080
  let c64_i32_1571 : BitVec 32 := 64#32
  let v2090 : BitVec 32 := Scalar.muli v2087 c64_i32_1571
  let v2091 : BitVec 32 := Scalar.addi v346 v2090
  let v2092 : Index := Scalar.indexCast v2091
  let c0_1572 : Index := 0#32
  ![v2092.toNat, 0]
def k0_dev35 (d0 : Dev nD) : Nat :=
  let c0_i32_1575 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_80 : BitVec 32 := 3#32
  let v154 : BitVec 32 := Scalar.addi v19 c3_i32_80
  let c4_i32_81 : BitVec 32 := 4#32
  let c0_i32_82 : BitVec 32 := 0#32
  let v155 : BitVec 1 := Scalar.cmpi .eq c4_i32_81 c0_i32_82
  let c1_i32_83 : BitVec 32 := 1#32
  let v156 : BitVec 32 := Scalar.select v155 c1_i32_83 c4_i32_81
  let v157 : BitVec 32 := Scalar.remsi v154 v156
  let c0_i32_85 : BitVec 32 := 0#32
  let v159 : BitVec 1 := Scalar.cmpi .slt v157 c0_i32_85
  let c0_i32_86 : BitVec 32 := 0#32
  let v160 : BitVec 1 := Scalar.cmpi .slt v156 c0_i32_86
  let v161 : BitVec 1 := Scalar.xori v159 v160
  let c0_i32_84 : BitVec 32 := 0#32
  let v158 : BitVec 1 := Scalar.cmpi .ne v157 c0_i32_84
  let v162 : BitVec 1 := Scalar.andi v161 v158
  let v163 : BitVec 32 := Scalar.addi v157 v156
  let v164 : BitVec 32 := Scalar.select v162 v163 v157
  let c8_i32_87 : BitVec 32 := 8#32
  let v165 : BitVec 32 := Scalar.muli v164 c8_i32_87
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_88 : BitVec 32 := 2#32
  let v166 : BitVec 32 := Scalar.muli v46 c2_i32_88
  let v167 : BitVec 32 := Scalar.addi v165 v166
  let c2_i32_89 : BitVec 32 := 2#32
  let c0_i32_90 : BitVec 32 := 0#32
  let v168 : BitVec 1 := Scalar.cmpi .eq c2_i32_89 c0_i32_90
  let c1_i32_91 : BitVec 32 := 1#32
  let v169 : BitVec 32 := Scalar.select v168 c1_i32_91 c2_i32_89
  let v170 : BitVec 32 := Scalar.remsi v46 v169
  let c0_i32_93 : BitVec 32 := 0#32
  let v172 : BitVec 1 := Scalar.cmpi .slt v170 c0_i32_93
  let c0_i32_94 : BitVec 32 := 0#32
  let v173 : BitVec 1 := Scalar.cmpi .slt v169 c0_i32_94
  let v174 : BitVec 1 := Scalar.xori v172 v173
  let c0_i32_92 : BitVec 32 := 0#32
  let v171 : BitVec 1 := Scalar.cmpi .ne v170 c0_i32_92
  let v175 : BitVec 1 := Scalar.andi v174 v171
  let v176 : BitVec 32 := Scalar.addi v170 v169
  let v177 : BitVec 32 := Scalar.select v175 v176 v170
  let c0_i32_95 : BitVec 32 := 0#32
  let v178 : BitVec 1 := Scalar.cmpi .eq v177 c0_i32_95
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_96 : BitVec 32 := 1#32
  let v179 : BitVec 32 := Scalar.subi c1_i32_96 v69
  let v180 : BitVec 32 := Scalar.select v178 v69 v179
  let v181 : BitVec 32 := Scalar.addi v167 v180
  let c1_i32_1574 : BitVec 32 := 1#32
  let v2094 : BitVec 32 := Scalar.muli v181 c1_i32_1574
  let v2095 : BitVec 32 := Scalar.addi c0_i32_1575 v2094
  v2095.toNat
def k0_dev36 (d0 : Dev nD) : Nat :=
  let c0_i32_1606 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_37 : BitVec 32 := 8#32
  let v81 : BitVec 32 := Scalar.muli v19 c8_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v70 : BitVec 32 := Scalar.addi v46 c1_i32_31
  let c4_i32 : BitVec 32 := 4#32
  let c0_i32_32 : BitVec 32 := 0#32
  let v71 : BitVec 1 := Scalar.cmpi .eq c4_i32 c0_i32_32
  let c1_i32_33 : BitVec 32 := 1#32
  let v72 : BitVec 32 := Scalar.select v71 c1_i32_33 c4_i32
  let v73 : BitVec 32 := Scalar.remsi v70 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c2_i32_38 : BitVec 32 := 2#32
  let v82 : BitVec 32 := Scalar.muli v80 c2_i32_38
  let v83 : BitVec 32 := Scalar.addi v81 v82
  let c2_i32_39 : BitVec 32 := 2#32
  let c0_i32_40 : BitVec 32 := 0#32
  let v84 : BitVec 1 := Scalar.cmpi .eq c2_i32_39 c0_i32_40
  let c1_i32_41 : BitVec 32 := 1#32
  let v85 : BitVec 32 := Scalar.select v84 c1_i32_41 c2_i32_39
  let v86 : BitVec 32 := Scalar.remsi v80 v85
  let c0_i32_43 : BitVec 32 := 0#32
  let v88 : BitVec 1 := Scalar.cmpi .slt v86 c0_i32_43
  let c0_i32_44 : BitVec 32 := 0#32
  let v89 : BitVec 1 := Scalar.cmpi .slt v85 c0_i32_44
  let v90 : BitVec 1 := Scalar.xori v88 v89
  let c0_i32_42 : BitVec 32 := 0#32
  let v87 : BitVec 1 := Scalar.cmpi .ne v86 c0_i32_42
  let v91 : BitVec 1 := Scalar.andi v90 v87
  let v92 : BitVec 32 := Scalar.addi v86 v85
  let v93 : BitVec 32 := Scalar.select v91 v92 v86
  let c0_i32_45 : BitVec 32 := 0#32
  let v94 : BitVec 1 := Scalar.cmpi .eq v93 c0_i32_45
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_46 : BitVec 32 := 1#32
  let v95 : BitVec 32 := Scalar.subi c1_i32_46 v69
  let v96 : BitVec 32 := Scalar.select v94 v69 v95
  let v97 : BitVec 32 := Scalar.addi v83 v96
  let c1_i32_1605 : BitVec 32 := 1#32
  let v2115 : BitVec 32 := Scalar.muli v97 c1_i32_1605
  let v2116 : BitVec 32 := Scalar.addi c0_i32_1606 v2115
  v2116.toNat
def k0_off32 (d0 : Dev nD) (c0_i32_1611 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_168 : BitVec 32 := 1#32
  let v313 : BitVec 32 := Scalar.addi v19 c1_i32_168
  let c4_i32_169 : BitVec 32 := 4#32
  let c0_i32_170 : BitVec 32 := 0#32
  let v314 : BitVec 1 := Scalar.cmpi .eq c4_i32_169 c0_i32_170
  let c1_i32_171 : BitVec 32 := 1#32
  let v315 : BitVec 32 := Scalar.select v314 c1_i32_171 c4_i32_169
  let v316 : BitVec 32 := Scalar.remsi v313 v315
  let c0_i32_173 : BitVec 32 := 0#32
  let v318 : BitVec 1 := Scalar.cmpi .slt v316 c0_i32_173
  let c0_i32_174 : BitVec 32 := 0#32
  let v319 : BitVec 1 := Scalar.cmpi .slt v315 c0_i32_174
  let v320 : BitVec 1 := Scalar.xori v318 v319
  let c0_i32_172 : BitVec 32 := 0#32
  let v317 : BitVec 1 := Scalar.cmpi .ne v316 c0_i32_172
  let v321 : BitVec 1 := Scalar.andi v320 v317
  let v322 : BitVec 32 := Scalar.addi v316 v315
  let v323 : BitVec 32 := Scalar.select v321 v322 v316
  let c256_i32_189 : BitVec 32 := 256#32
  let v347 : BitVec 32 := Scalar.muli v323 c256_i32_189
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v2125 : BitVec 32 := Scalar.subi v46 c0_i32_1611
  let c4_i32_1612 : BitVec 32 := 4#32
  let c0_i32_1613 : BitVec 32 := 0#32
  let v2126 : BitVec 1 := Scalar.cmpi .eq c4_i32_1612 c0_i32_1613
  let c1_i32_1614 : BitVec 32 := 1#32
  let v2127 : BitVec 32 := Scalar.select v2126 c1_i32_1614 c4_i32_1612
  let v2128 : BitVec 32 := Scalar.remsi v2125 v2127
  let c0_i32_1616 : BitVec 32 := 0#32
  let v2130 : BitVec 1 := Scalar.cmpi .slt v2128 c0_i32_1616
  let c0_i32_1617 : BitVec 32 := 0#32
  let v2131 : BitVec 1 := Scalar.cmpi .slt v2127 c0_i32_1617
  let v2132 : BitVec 1 := Scalar.xori v2130 v2131
  let c0_i32_1615 : BitVec 32 := 0#32
  let v2129 : BitVec 1 := Scalar.cmpi .ne v2128 c0_i32_1615
  let v2133 : BitVec 1 := Scalar.andi v2132 v2129
  let v2134 : BitVec 32 := Scalar.addi v2128 v2127
  let v2135 : BitVec 32 := Scalar.select v2133 v2134 v2128
  let c64_i32_1621 : BitVec 32 := 64#32
  let v2138 : BitVec 32 := Scalar.muli v2135 c64_i32_1621
  let v2139 : BitVec 32 := Scalar.addi v347 v2138
  let v2140 : Index := Scalar.indexCast v2139
  let c512_1622 : Index := 512#32
  ![v2140.toNat, 512]
def k0_dev37 (d0 : Dev nD) : Nat :=
  let c0_i32_1625 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_53 : BitVec 32 := 8#32
  let v109 : BitVec 32 := Scalar.muli v19 c8_i32_53
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v98 : BitVec 32 := Scalar.addi v46 c3_i32
  let c4_i32_47 : BitVec 32 := 4#32
  let c0_i32_48 : BitVec 32 := 0#32
  let v99 : BitVec 1 := Scalar.cmpi .eq c4_i32_47 c0_i32_48
  let c1_i32_49 : BitVec 32 := 1#32
  let v100 : BitVec 32 := Scalar.select v99 c1_i32_49 c4_i32_47
  let v101 : BitVec 32 := Scalar.remsi v98 v100
  let c0_i32_51 : BitVec 32 := 0#32
  let v103 : BitVec 1 := Scalar.cmpi .slt v101 c0_i32_51
  let c0_i32_52 : BitVec 32 := 0#32
  let v104 : BitVec 1 := Scalar.cmpi .slt v100 c0_i32_52
  let v105 : BitVec 1 := Scalar.xori v103 v104
  let c0_i32_50 : BitVec 32 := 0#32
  let v102 : BitVec 1 := Scalar.cmpi .ne v101 c0_i32_50
  let v106 : BitVec 1 := Scalar.andi v105 v102
  let v107 : BitVec 32 := Scalar.addi v101 v100
  let v108 : BitVec 32 := Scalar.select v106 v107 v101
  let c2_i32_54 : BitVec 32 := 2#32
  let v110 : BitVec 32 := Scalar.muli v108 c2_i32_54
  let v111 : BitVec 32 := Scalar.addi v109 v110
  let c2_i32_55 : BitVec 32 := 2#32
  let c0_i32_56 : BitVec 32 := 0#32
  let v112 : BitVec 1 := Scalar.cmpi .eq c2_i32_55 c0_i32_56
  let c1_i32_57 : BitVec 32 := 1#32
  let v113 : BitVec 32 := Scalar.select v112 c1_i32_57 c2_i32_55
  let v114 : BitVec 32 := Scalar.remsi v108 v113
  let c0_i32_59 : BitVec 32 := 0#32
  let v116 : BitVec 1 := Scalar.cmpi .slt v114 c0_i32_59
  let c0_i32_60 : BitVec 32 := 0#32
  let v117 : BitVec 1 := Scalar.cmpi .slt v113 c0_i32_60
  let v118 : BitVec 1 := Scalar.xori v116 v117
  let c0_i32_58 : BitVec 32 := 0#32
  let v115 : BitVec 1 := Scalar.cmpi .ne v114 c0_i32_58
  let v119 : BitVec 1 := Scalar.andi v118 v115
  let v120 : BitVec 32 := Scalar.addi v114 v113
  let v121 : BitVec 32 := Scalar.select v119 v120 v114
  let c0_i32_61 : BitVec 32 := 0#32
  let v122 : BitVec 1 := Scalar.cmpi .eq v121 c0_i32_61
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_62 : BitVec 32 := 1#32
  let v123 : BitVec 32 := Scalar.subi c1_i32_62 v69
  let v124 : BitVec 32 := Scalar.select v122 v69 v123
  let v125 : BitVec 32 := Scalar.addi v111 v124
  let c1_i32_1624 : BitVec 32 := 1#32
  let v2142 : BitVec 32 := Scalar.muli v125 c1_i32_1624
  let v2143 : BitVec 32 := Scalar.addi c0_i32_1625 v2142
  v2143.toNat
def k0_dev38 (d0 : Dev nD) : Nat :=
  let c0_i32_1658 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_63 : BitVec 32 := 1#32
  let v126 : BitVec 32 := Scalar.addi v19 c1_i32_63
  let c4_i32_64 : BitVec 32 := 4#32
  let c0_i32_65 : BitVec 32 := 0#32
  let v127 : BitVec 1 := Scalar.cmpi .eq c4_i32_64 c0_i32_65
  let c1_i32_66 : BitVec 32 := 1#32
  let v128 : BitVec 32 := Scalar.select v127 c1_i32_66 c4_i32_64
  let v129 : BitVec 32 := Scalar.remsi v126 v128
  let c0_i32_68 : BitVec 32 := 0#32
  let v131 : BitVec 1 := Scalar.cmpi .slt v129 c0_i32_68
  let c0_i32_69 : BitVec 32 := 0#32
  let v132 : BitVec 1 := Scalar.cmpi .slt v128 c0_i32_69
  let v133 : BitVec 1 := Scalar.xori v131 v132
  let c0_i32_67 : BitVec 32 := 0#32
  let v130 : BitVec 1 := Scalar.cmpi .ne v129 c0_i32_67
  let v134 : BitVec 1 := Scalar.andi v133 v130
  let v135 : BitVec 32 := Scalar.addi v129 v128
  let v136 : BitVec 32 := Scalar.select v134 v135 v129
  let c8_i32_70 : BitVec 32 := 8#32
  let v137 : BitVec 32 := Scalar.muli v136 c8_i32_70
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_71 : BitVec 32 := 2#32
  let v138 : BitVec 32 := Scalar.muli v46 c2_i32_71
  let v139 : BitVec 32 := Scalar.addi v137 v138
  let c2_i32_72 : BitVec 32 := 2#32
  let c0_i32_73 : BitVec 32 := 0#32
  let v140 : BitVec 1 := Scalar.cmpi .eq c2_i32_72 c0_i32_73
  let c1_i32_74 : BitVec 32 := 1#32
  let v141 : BitVec 32 := Scalar.select v140 c1_i32_74 c2_i32_72
  let v142 : BitVec 32 := Scalar.remsi v46 v141
  let c0_i32_76 : BitVec 32 := 0#32
  let v144 : BitVec 1 := Scalar.cmpi .slt v142 c0_i32_76
  let c0_i32_77 : BitVec 32 := 0#32
  let v145 : BitVec 1 := Scalar.cmpi .slt v141 c0_i32_77
  let v146 : BitVec 1 := Scalar.xori v144 v145
  let c0_i32_75 : BitVec 32 := 0#32
  let v143 : BitVec 1 := Scalar.cmpi .ne v142 c0_i32_75
  let v147 : BitVec 1 := Scalar.andi v146 v143
  let v148 : BitVec 32 := Scalar.addi v142 v141
  let v149 : BitVec 32 := Scalar.select v147 v148 v142
  let c0_i32_78 : BitVec 32 := 0#32
  let v150 : BitVec 1 := Scalar.cmpi .eq v149 c0_i32_78
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_79 : BitVec 32 := 1#32
  let v151 : BitVec 32 := Scalar.subi c1_i32_79 v69
  let v152 : BitVec 32 := Scalar.select v150 v69 v151
  let v153 : BitVec 32 := Scalar.addi v139 v152
  let c1_i32_1657 : BitVec 32 := 1#32
  let v2163 : BitVec 32 := Scalar.muli v153 c1_i32_1657
  let v2164 : BitVec 32 := Scalar.addi c0_i32_1658 v2163
  v2164.toNat
def k0_dev39 (d0 : Dev nD) : Nat :=
  let c0_i32_1707 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_37 : BitVec 32 := 8#32
  let v81 : BitVec 32 := Scalar.muli v19 c8_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v70 : BitVec 32 := Scalar.addi v46 c1_i32_31
  let c4_i32 : BitVec 32 := 4#32
  let c0_i32_32 : BitVec 32 := 0#32
  let v71 : BitVec 1 := Scalar.cmpi .eq c4_i32 c0_i32_32
  let c1_i32_33 : BitVec 32 := 1#32
  let v72 : BitVec 32 := Scalar.select v71 c1_i32_33 c4_i32
  let v73 : BitVec 32 := Scalar.remsi v70 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c2_i32_38 : BitVec 32 := 2#32
  let v82 : BitVec 32 := Scalar.muli v80 c2_i32_38
  let v83 : BitVec 32 := Scalar.addi v81 v82
  let c2_i32_39 : BitVec 32 := 2#32
  let c0_i32_40 : BitVec 32 := 0#32
  let v84 : BitVec 1 := Scalar.cmpi .eq c2_i32_39 c0_i32_40
  let c1_i32_41 : BitVec 32 := 1#32
  let v85 : BitVec 32 := Scalar.select v84 c1_i32_41 c2_i32_39
  let v86 : BitVec 32 := Scalar.remsi v80 v85
  let c0_i32_43 : BitVec 32 := 0#32
  let v88 : BitVec 1 := Scalar.cmpi .slt v86 c0_i32_43
  let c0_i32_44 : BitVec 32 := 0#32
  let v89 : BitVec 1 := Scalar.cmpi .slt v85 c0_i32_44
  let v90 : BitVec 1 := Scalar.xori v88 v89
  let c0_i32_42 : BitVec 32 := 0#32
  let v87 : BitVec 1 := Scalar.cmpi .ne v86 c0_i32_42
  let v91 : BitVec 1 := Scalar.andi v90 v87
  let v92 : BitVec 32 := Scalar.addi v86 v85
  let v93 : BitVec 32 := Scalar.select v91 v92 v86
  let c0_i32_45 : BitVec 32 := 0#32
  let v94 : BitVec 1 := Scalar.cmpi .eq v93 c0_i32_45
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_46 : BitVec 32 := 1#32
  let v95 : BitVec 32 := Scalar.subi c1_i32_46 v69
  let v96 : BitVec 32 := Scalar.select v94 v69 v95
  let v97 : BitVec 32 := Scalar.addi v83 v96
  let c1_i32_1706 : BitVec 32 := 1#32
  let v2209 : BitVec 32 := Scalar.muli v97 c1_i32_1706
  let v2210 : BitVec 32 := Scalar.addi c0_i32_1707 v2209
  v2210.toNat
def k0_dev40 (d0 : Dev nD) : Nat :=
  let c0_i32_1803 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_37 : BitVec 32 := 8#32
  let v81 : BitVec 32 := Scalar.muli v19 c8_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v70 : BitVec 32 := Scalar.addi v46 c1_i32_31
  let c4_i32 : BitVec 32 := 4#32
  let c0_i32_32 : BitVec 32 := 0#32
  let v71 : BitVec 1 := Scalar.cmpi .eq c4_i32 c0_i32_32
  let c1_i32_33 : BitVec 32 := 1#32
  let v72 : BitVec 32 := Scalar.select v71 c1_i32_33 c4_i32
  let v73 : BitVec 32 := Scalar.remsi v70 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c2_i32_38 : BitVec 32 := 2#32
  let v82 : BitVec 32 := Scalar.muli v80 c2_i32_38
  let v83 : BitVec 32 := Scalar.addi v81 v82
  let c2_i32_39 : BitVec 32 := 2#32
  let c0_i32_40 : BitVec 32 := 0#32
  let v84 : BitVec 1 := Scalar.cmpi .eq c2_i32_39 c0_i32_40
  let c1_i32_41 : BitVec 32 := 1#32
  let v85 : BitVec 32 := Scalar.select v84 c1_i32_41 c2_i32_39
  let v86 : BitVec 32 := Scalar.remsi v80 v85
  let c0_i32_43 : BitVec 32 := 0#32
  let v88 : BitVec 1 := Scalar.cmpi .slt v86 c0_i32_43
  let c0_i32_44 : BitVec 32 := 0#32
  let v89 : BitVec 1 := Scalar.cmpi .slt v85 c0_i32_44
  let v90 : BitVec 1 := Scalar.xori v88 v89
  let c0_i32_42 : BitVec 32 := 0#32
  let v87 : BitVec 1 := Scalar.cmpi .ne v86 c0_i32_42
  let v91 : BitVec 1 := Scalar.andi v90 v87
  let v92 : BitVec 32 := Scalar.addi v86 v85
  let v93 : BitVec 32 := Scalar.select v91 v92 v86
  let c0_i32_45 : BitVec 32 := 0#32
  let v94 : BitVec 1 := Scalar.cmpi .eq v93 c0_i32_45
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_46 : BitVec 32 := 1#32
  let v95 : BitVec 32 := Scalar.subi c1_i32_46 v69
  let v96 : BitVec 32 := Scalar.select v94 v69 v95
  let v97 : BitVec 32 := Scalar.addi v83 v96
  let c1_i32_1802 : BitVec 32 := 1#32
  let v2316 : BitVec 32 := Scalar.muli v97 c1_i32_1802
  let v2317 : BitVec 32 := Scalar.addi c0_i32_1803 v2316
  v2317.toNat
def k0_dev41 (d0 : Dev nD) : Nat :=
  let c0_i32_1825 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_37 : BitVec 32 := 8#32
  let v81 : BitVec 32 := Scalar.muli v19 c8_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v70 : BitVec 32 := Scalar.addi v46 c1_i32_31
  let c4_i32 : BitVec 32 := 4#32
  let c0_i32_32 : BitVec 32 := 0#32
  let v71 : BitVec 1 := Scalar.cmpi .eq c4_i32 c0_i32_32
  let c1_i32_33 : BitVec 32 := 1#32
  let v72 : BitVec 32 := Scalar.select v71 c1_i32_33 c4_i32
  let v73 : BitVec 32 := Scalar.remsi v70 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c2_i32_38 : BitVec 32 := 2#32
  let v82 : BitVec 32 := Scalar.muli v80 c2_i32_38
  let v83 : BitVec 32 := Scalar.addi v81 v82
  let c2_i32_39 : BitVec 32 := 2#32
  let c0_i32_40 : BitVec 32 := 0#32
  let v84 : BitVec 1 := Scalar.cmpi .eq c2_i32_39 c0_i32_40
  let c1_i32_41 : BitVec 32 := 1#32
  let v85 : BitVec 32 := Scalar.select v84 c1_i32_41 c2_i32_39
  let v86 : BitVec 32 := Scalar.remsi v80 v85
  let c0_i32_43 : BitVec 32 := 0#32
  let v88 : BitVec 1 := Scalar.cmpi .slt v86 c0_i32_43
  let c0_i32_44 : BitVec 32 := 0#32
  let v89 : BitVec 1 := Scalar.cmpi .slt v85 c0_i32_44
  let v90 : BitVec 1 := Scalar.xori v88 v89
  let c0_i32_42 : BitVec 32 := 0#32
  let v87 : BitVec 1 := Scalar.cmpi .ne v86 c0_i32_42
  let v91 : BitVec 1 := Scalar.andi v90 v87
  let v92 : BitVec 32 := Scalar.addi v86 v85
  let v93 : BitVec 32 := Scalar.select v91 v92 v86
  let c0_i32_45 : BitVec 32 := 0#32
  let v94 : BitVec 1 := Scalar.cmpi .eq v93 c0_i32_45
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_46 : BitVec 32 := 1#32
  let v95 : BitVec 32 := Scalar.subi c1_i32_46 v69
  let v96 : BitVec 32 := Scalar.select v94 v69 v95
  let v97 : BitVec 32 := Scalar.addi v83 v96
  let c1_i32_1824 : BitVec 32 := 1#32
  let v2344 : BitVec 32 := Scalar.muli v97 c1_i32_1824
  let v2345 : BitVec 32 := Scalar.addi c0_i32_1825 v2344
  v2345.toNat
def k0_dev42 (d0 : Dev nD) : Nat :=
  let c0_i32_1847 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_63 : BitVec 32 := 1#32
  let v126 : BitVec 32 := Scalar.addi v19 c1_i32_63
  let c4_i32_64 : BitVec 32 := 4#32
  let c0_i32_65 : BitVec 32 := 0#32
  let v127 : BitVec 1 := Scalar.cmpi .eq c4_i32_64 c0_i32_65
  let c1_i32_66 : BitVec 32 := 1#32
  let v128 : BitVec 32 := Scalar.select v127 c1_i32_66 c4_i32_64
  let v129 : BitVec 32 := Scalar.remsi v126 v128
  let c0_i32_68 : BitVec 32 := 0#32
  let v131 : BitVec 1 := Scalar.cmpi .slt v129 c0_i32_68
  let c0_i32_69 : BitVec 32 := 0#32
  let v132 : BitVec 1 := Scalar.cmpi .slt v128 c0_i32_69
  let v133 : BitVec 1 := Scalar.xori v131 v132
  let c0_i32_67 : BitVec 32 := 0#32
  let v130 : BitVec 1 := Scalar.cmpi .ne v129 c0_i32_67
  let v134 : BitVec 1 := Scalar.andi v133 v130
  let v135 : BitVec 32 := Scalar.addi v129 v128
  let v136 : BitVec 32 := Scalar.select v134 v135 v129
  let c8_i32_70 : BitVec 32 := 8#32
  let v137 : BitVec 32 := Scalar.muli v136 c8_i32_70
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_71 : BitVec 32 := 2#32
  let v138 : BitVec 32 := Scalar.muli v46 c2_i32_71
  let v139 : BitVec 32 := Scalar.addi v137 v138
  let c2_i32_72 : BitVec 32 := 2#32
  let c0_i32_73 : BitVec 32 := 0#32
  let v140 : BitVec 1 := Scalar.cmpi .eq c2_i32_72 c0_i32_73
  let c1_i32_74 : BitVec 32 := 1#32
  let v141 : BitVec 32 := Scalar.select v140 c1_i32_74 c2_i32_72
  let v142 : BitVec 32 := Scalar.remsi v46 v141
  let c0_i32_76 : BitVec 32 := 0#32
  let v144 : BitVec 1 := Scalar.cmpi .slt v142 c0_i32_76
  let c0_i32_77 : BitVec 32 := 0#32
  let v145 : BitVec 1 := Scalar.cmpi .slt v141 c0_i32_77
  let v146 : BitVec 1 := Scalar.xori v144 v145
  let c0_i32_75 : BitVec 32 := 0#32
  let v143 : BitVec 1 := Scalar.cmpi .ne v142 c0_i32_75
  let v147 : BitVec 1 := Scalar.andi v146 v143
  let v148 : BitVec 32 := Scalar.addi v142 v141
  let v149 : BitVec 32 := Scalar.select v147 v148 v142
  let c0_i32_78 : BitVec 32 := 0#32
  let v150 : BitVec 1 := Scalar.cmpi .eq v149 c0_i32_78
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_79 : BitVec 32 := 1#32
  let v151 : BitVec 32 := Scalar.subi c1_i32_79 v69
  let v152 : BitVec 32 := Scalar.select v150 v69 v151
  let v153 : BitVec 32 := Scalar.addi v139 v152
  let c1_i32_1846 : BitVec 32 := 1#32
  let v2372 : BitVec 32 := Scalar.muli v153 c1_i32_1846
  let v2373 : BitVec 32 := Scalar.addi c0_i32_1847 v2372
  v2373.toNat
def k0_dev43 (d0 : Dev nD) : Nat :=
  let c0_i32_1869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_63 : BitVec 32 := 1#32
  let v126 : BitVec 32 := Scalar.addi v19 c1_i32_63
  let c4_i32_64 : BitVec 32 := 4#32
  let c0_i32_65 : BitVec 32 := 0#32
  let v127 : BitVec 1 := Scalar.cmpi .eq c4_i32_64 c0_i32_65
  let c1_i32_66 : BitVec 32 := 1#32
  let v128 : BitVec 32 := Scalar.select v127 c1_i32_66 c4_i32_64
  let v129 : BitVec 32 := Scalar.remsi v126 v128
  let c0_i32_68 : BitVec 32 := 0#32
  let v131 : BitVec 1 := Scalar.cmpi .slt v129 c0_i32_68
  let c0_i32_69 : BitVec 32 := 0#32
  let v132 : BitVec 1 := Scalar.cmpi .slt v128 c0_i32_69
  let v133 : BitVec 1 := Scalar.xori v131 v132
  let c0_i32_67 : BitVec 32 := 0#32
  let v130 : BitVec 1 := Scalar.cmpi .ne v129 c0_i32_67
  let v134 : BitVec 1 := Scalar.andi v133 v130
  let v135 : BitVec 32 := Scalar.addi v129 v128
  let v136 : BitVec 32 := Scalar.select v134 v135 v129
  let c8_i32_70 : BitVec 32 := 8#32
  let v137 : BitVec 32 := Scalar.muli v136 c8_i32_70
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_71 : BitVec 32 := 2#32
  let v138 : BitVec 32 := Scalar.muli v46 c2_i32_71
  let v139 : BitVec 32 := Scalar.addi v137 v138
  let c2_i32_72 : BitVec 32 := 2#32
  let c0_i32_73 : BitVec 32 := 0#32
  let v140 : BitVec 1 := Scalar.cmpi .eq c2_i32_72 c0_i32_73
  let c1_i32_74 : BitVec 32 := 1#32
  let v141 : BitVec 32 := Scalar.select v140 c1_i32_74 c2_i32_72
  let v142 : BitVec 32 := Scalar.remsi v46 v141
  let c0_i32_76 : BitVec 32 := 0#32
  let v144 : BitVec 1 := Scalar.cmpi .slt v142 c0_i32_76
  let c0_i32_77 : BitVec 32 := 0#32
  let v145 : BitVec 1 := Scalar.cmpi .slt v141 c0_i32_77
  let v146 : BitVec 1 := Scalar.xori v144 v145
  let c0_i32_75 : BitVec 32 := 0#32
  let v143 : BitVec 1 := Scalar.cmpi .ne v142 c0_i32_75
  let v147 : BitVec 1 := Scalar.andi v146 v143
  let v148 : BitVec 32 := Scalar.addi v142 v141
  let v149 : BitVec 32 := Scalar.select v147 v148 v142
  let c0_i32_78 : BitVec 32 := 0#32
  let v150 : BitVec 1 := Scalar.cmpi .eq v149 c0_i32_78
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_79 : BitVec 32 := 1#32
  let v151 : BitVec 32 := Scalar.subi c1_i32_79 v69
  let v152 : BitVec 32 := Scalar.select v150 v69 v151
  let v153 : BitVec 32 := Scalar.addi v139 v152
  let c1_i32_1868 : BitVec 32 := 1#32
  let v2400 : BitVec 32 := Scalar.muli v153 c1_i32_1868
  let v2401 : BitVec 32 := Scalar.addi c0_i32_1869 v2400
  v2401.toNat
def k0_dev44 (d0 : Dev nD) : Nat :=
  let c0_i32_1904 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_37 : BitVec 32 := 8#32
  let v81 : BitVec 32 := Scalar.muli v19 c8_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v70 : BitVec 32 := Scalar.addi v46 c1_i32_31
  let c4_i32 : BitVec 32 := 4#32
  let c0_i32_32 : BitVec 32 := 0#32
  let v71 : BitVec 1 := Scalar.cmpi .eq c4_i32 c0_i32_32
  let c1_i32_33 : BitVec 32 := 1#32
  let v72 : BitVec 32 := Scalar.select v71 c1_i32_33 c4_i32
  let v73 : BitVec 32 := Scalar.remsi v70 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c2_i32_38 : BitVec 32 := 2#32
  let v82 : BitVec 32 := Scalar.muli v80 c2_i32_38
  let v83 : BitVec 32 := Scalar.addi v81 v82
  let c2_i32_39 : BitVec 32 := 2#32
  let c0_i32_40 : BitVec 32 := 0#32
  let v84 : BitVec 1 := Scalar.cmpi .eq c2_i32_39 c0_i32_40
  let c1_i32_41 : BitVec 32 := 1#32
  let v85 : BitVec 32 := Scalar.select v84 c1_i32_41 c2_i32_39
  let v86 : BitVec 32 := Scalar.remsi v80 v85
  let c0_i32_43 : BitVec 32 := 0#32
  let v88 : BitVec 1 := Scalar.cmpi .slt v86 c0_i32_43
  let c0_i32_44 : BitVec 32 := 0#32
  let v89 : BitVec 1 := Scalar.cmpi .slt v85 c0_i32_44
  let v90 : BitVec 1 := Scalar.xori v88 v89
  let c0_i32_42 : BitVec 32 := 0#32
  let v87 : BitVec 1 := Scalar.cmpi .ne v86 c0_i32_42
  let v91 : BitVec 1 := Scalar.andi v90 v87
  let v92 : BitVec 32 := Scalar.addi v86 v85
  let v93 : BitVec 32 := Scalar.select v91 v92 v86
  let c0_i32_45 : BitVec 32 := 0#32
  let v94 : BitVec 1 := Scalar.cmpi .eq v93 c0_i32_45
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_46 : BitVec 32 := 1#32
  let v95 : BitVec 32 := Scalar.subi c1_i32_46 v69
  let v96 : BitVec 32 := Scalar.select v94 v69 v95
  let v97 : BitVec 32 := Scalar.addi v83 v96
  let c1_i32_1903 : BitVec 32 := 1#32
  let v2429 : BitVec 32 := Scalar.muli v97 c1_i32_1903
  let v2430 : BitVec 32 := Scalar.addi c0_i32_1904 v2429
  v2430.toNat
def k0_off33 (d0 : Dev nD) (c0_i32_1909 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v2439 : BitVec 32 := Scalar.subi v46 c0_i32_1909
  let c4_i32_1910 : BitVec 32 := 4#32
  let c0_i32_1911 : BitVec 32 := 0#32
  let v2440 : BitVec 1 := Scalar.cmpi .eq c4_i32_1910 c0_i32_1911
  let c1_i32_1912 : BitVec 32 := 1#32
  let v2441 : BitVec 32 := Scalar.select v2440 c1_i32_1912 c4_i32_1910
  let v2442 : BitVec 32 := Scalar.remsi v2439 v2441
  let c0_i32_1914 : BitVec 32 := 0#32
  let v2444 : BitVec 1 := Scalar.cmpi .slt v2442 c0_i32_1914
  let c0_i32_1915 : BitVec 32 := 0#32
  let v2445 : BitVec 1 := Scalar.cmpi .slt v2441 c0_i32_1915
  let v2446 : BitVec 1 := Scalar.xori v2444 v2445
  let c0_i32_1913 : BitVec 32 := 0#32
  let v2443 : BitVec 1 := Scalar.cmpi .ne v2442 c0_i32_1913
  let v2447 : BitVec 1 := Scalar.andi v2446 v2443
  let v2448 : BitVec 32 := Scalar.addi v2442 v2441
  let v2449 : BitVec 32 := Scalar.select v2447 v2448 v2442
  let c256_i32_1919 : BitVec 32 := 256#32
  let v2452 : BitVec 32 := Scalar.muli v2449 c256_i32_1919
  let v2453 : Index := Scalar.indexCast v2452
  let c0_1920 : Index := 0#32
  ![v2453.toNat, 0]
def k0_dev45 (d0 : Dev nD) : Nat :=
  let c0_i32_1924 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_53 : BitVec 32 := 8#32
  let v109 : BitVec 32 := Scalar.muli v19 c8_i32_53
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v98 : BitVec 32 := Scalar.addi v46 c3_i32
  let c4_i32_47 : BitVec 32 := 4#32
  let c0_i32_48 : BitVec 32 := 0#32
  let v99 : BitVec 1 := Scalar.cmpi .eq c4_i32_47 c0_i32_48
  let c1_i32_49 : BitVec 32 := 1#32
  let v100 : BitVec 32 := Scalar.select v99 c1_i32_49 c4_i32_47
  let v101 : BitVec 32 := Scalar.remsi v98 v100
  let c0_i32_51 : BitVec 32 := 0#32
  let v103 : BitVec 1 := Scalar.cmpi .slt v101 c0_i32_51
  let c0_i32_52 : BitVec 32 := 0#32
  let v104 : BitVec 1 := Scalar.cmpi .slt v100 c0_i32_52
  let v105 : BitVec 1 := Scalar.xori v103 v104
  let c0_i32_50 : BitVec 32 := 0#32
  let v102 : BitVec 1 := Scalar.cmpi .ne v101 c0_i32_50
  let v106 : BitVec 1 := Scalar.andi v105 v102
  let v107 : BitVec 32 := Scalar.addi v101 v100
  let v108 : BitVec 32 := Scalar.select v106 v107 v101
  let c2_i32_54 : BitVec 32 := 2#32
  let v110 : BitVec 32 := Scalar.muli v108 c2_i32_54
  let v111 : BitVec 32 := Scalar.addi v109 v110
  let c2_i32_55 : BitVec 32 := 2#32
  let c0_i32_56 : BitVec 32 := 0#32
  let v112 : BitVec 1 := Scalar.cmpi .eq c2_i32_55 c0_i32_56
  let c1_i32_57 : BitVec 32 := 1#32
  let v113 : BitVec 32 := Scalar.select v112 c1_i32_57 c2_i32_55
  let v114 : BitVec 32 := Scalar.remsi v108 v113
  let c0_i32_59 : BitVec 32 := 0#32
  let v116 : BitVec 1 := Scalar.cmpi .slt v114 c0_i32_59
  let c0_i32_60 : BitVec 32 := 0#32
  let v117 : BitVec 1 := Scalar.cmpi .slt v113 c0_i32_60
  let v118 : BitVec 1 := Scalar.xori v116 v117
  let c0_i32_58 : BitVec 32 := 0#32
  let v115 : BitVec 1 := Scalar.cmpi .ne v114 c0_i32_58
  let v119 : BitVec 1 := Scalar.andi v118 v115
  let v120 : BitVec 32 := Scalar.addi v114 v113
  let v121 : BitVec 32 := Scalar.select v119 v120 v114
  let c0_i32_61 : BitVec 32 := 0#32
  let v122 : BitVec 1 := Scalar.cmpi .eq v121 c0_i32_61
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_62 : BitVec 32 := 1#32
  let v123 : BitVec 32 := Scalar.subi c1_i32_62 v69
  let v124 : BitVec 32 := Scalar.select v122 v69 v123
  let v125 : BitVec 32 := Scalar.addi v111 v124
  let c1_i32_1923 : BitVec 32 := 1#32
  let v2458 : BitVec 32 := Scalar.muli v125 c1_i32_1923
  let v2459 : BitVec 32 := Scalar.addi c0_i32_1924 v2458
  v2459.toNat
def k0_dev46 (d0 : Dev nD) : Nat :=
  let c0_i32_1955 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_37 : BitVec 32 := 8#32
  let v81 : BitVec 32 := Scalar.muli v19 c8_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v70 : BitVec 32 := Scalar.addi v46 c1_i32_31
  let c4_i32 : BitVec 32 := 4#32
  let c0_i32_32 : BitVec 32 := 0#32
  let v71 : BitVec 1 := Scalar.cmpi .eq c4_i32 c0_i32_32
  let c1_i32_33 : BitVec 32 := 1#32
  let v72 : BitVec 32 := Scalar.select v71 c1_i32_33 c4_i32
  let v73 : BitVec 32 := Scalar.remsi v70 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c2_i32_38 : BitVec 32 := 2#32
  let v82 : BitVec 32 := Scalar.muli v80 c2_i32_38
  let v83 : BitVec 32 := Scalar.addi v81 v82
  let c2_i32_39 : BitVec 32 := 2#32
  let c0_i32_40 : BitVec 32 := 0#32
  let v84 : BitVec 1 := Scalar.cmpi .eq c2_i32_39 c0_i32_40
  let c1_i32_41 : BitVec 32 := 1#32
  let v85 : BitVec 32 := Scalar.select v84 c1_i32_41 c2_i32_39
  let v86 : BitVec 32 := Scalar.remsi v80 v85
  let c0_i32_43 : BitVec 32 := 0#32
  let v88 : BitVec 1 := Scalar.cmpi .slt v86 c0_i32_43
  let c0_i32_44 : BitVec 32 := 0#32
  let v89 : BitVec 1 := Scalar.cmpi .slt v85 c0_i32_44
  let v90 : BitVec 1 := Scalar.xori v88 v89
  let c0_i32_42 : BitVec 32 := 0#32
  let v87 : BitVec 1 := Scalar.cmpi .ne v86 c0_i32_42
  let v91 : BitVec 1 := Scalar.andi v90 v87
  let v92 : BitVec 32 := Scalar.addi v86 v85
  let v93 : BitVec 32 := Scalar.select v91 v92 v86
  let c0_i32_45 : BitVec 32 := 0#32
  let v94 : BitVec 1 := Scalar.cmpi .eq v93 c0_i32_45
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_46 : BitVec 32 := 1#32
  let v95 : BitVec 32 := Scalar.subi c1_i32_46 v69
  let v96 : BitVec 32 := Scalar.select v94 v69 v95
  let v97 : BitVec 32 := Scalar.addi v83 v96
  let c1_i32_1954 : BitVec 32 := 1#32
  let v2479 : BitVec 32 := Scalar.muli v97 c1_i32_1954
  let v2480 : BitVec 32 := Scalar.addi c0_i32_1955 v2479
  v2480.toNat
def k0_off34 (d0 : Dev nD) (c0_i32_1960 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v2489 : BitVec 32 := Scalar.subi v46 c0_i32_1960
  let c4_i32_1961 : BitVec 32 := 4#32
  let c0_i32_1962 : BitVec 32 := 0#32
  let v2490 : BitVec 1 := Scalar.cmpi .eq c4_i32_1961 c0_i32_1962
  let c1_i32_1963 : BitVec 32 := 1#32
  let v2491 : BitVec 32 := Scalar.select v2490 c1_i32_1963 c4_i32_1961
  let v2492 : BitVec 32 := Scalar.remsi v2489 v2491
  let c0_i32_1965 : BitVec 32 := 0#32
  let v2494 : BitVec 1 := Scalar.cmpi .slt v2492 c0_i32_1965
  let c0_i32_1966 : BitVec 32 := 0#32
  let v2495 : BitVec 1 := Scalar.cmpi .slt v2491 c0_i32_1966
  let v2496 : BitVec 1 := Scalar.xori v2494 v2495
  let c0_i32_1964 : BitVec 32 := 0#32
  let v2493 : BitVec 1 := Scalar.cmpi .ne v2492 c0_i32_1964
  let v2497 : BitVec 1 := Scalar.andi v2496 v2493
  let v2498 : BitVec 32 := Scalar.addi v2492 v2491
  let v2499 : BitVec 32 := Scalar.select v2497 v2498 v2492
  let c256_i32_1970 : BitVec 32 := 256#32
  let v2502 : BitVec 32 := Scalar.muli v2499 c256_i32_1970
  let v2503 : Index := Scalar.indexCast v2502
  let c256_1971 : Index := 256#32
  ![v2503.toNat, 256]
def k0_dev47 (d0 : Dev nD) : Nat :=
  let c0_i32_1975 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_53 : BitVec 32 := 8#32
  let v109 : BitVec 32 := Scalar.muli v19 c8_i32_53
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v98 : BitVec 32 := Scalar.addi v46 c3_i32
  let c4_i32_47 : BitVec 32 := 4#32
  let c0_i32_48 : BitVec 32 := 0#32
  let v99 : BitVec 1 := Scalar.cmpi .eq c4_i32_47 c0_i32_48
  let c1_i32_49 : BitVec 32 := 1#32
  let v100 : BitVec 32 := Scalar.select v99 c1_i32_49 c4_i32_47
  let v101 : BitVec 32 := Scalar.remsi v98 v100
  let c0_i32_51 : BitVec 32 := 0#32
  let v103 : BitVec 1 := Scalar.cmpi .slt v101 c0_i32_51
  let c0_i32_52 : BitVec 32 := 0#32
  let v104 : BitVec 1 := Scalar.cmpi .slt v100 c0_i32_52
  let v105 : BitVec 1 := Scalar.xori v103 v104
  let c0_i32_50 : BitVec 32 := 0#32
  let v102 : BitVec 1 := Scalar.cmpi .ne v101 c0_i32_50
  let v106 : BitVec 1 := Scalar.andi v105 v102
  let v107 : BitVec 32 := Scalar.addi v101 v100
  let v108 : BitVec 32 := Scalar.select v106 v107 v101
  let c2_i32_54 : BitVec 32 := 2#32
  let v110 : BitVec 32 := Scalar.muli v108 c2_i32_54
  let v111 : BitVec 32 := Scalar.addi v109 v110
  let c2_i32_55 : BitVec 32 := 2#32
  let c0_i32_56 : BitVec 32 := 0#32
  let v112 : BitVec 1 := Scalar.cmpi .eq c2_i32_55 c0_i32_56
  let c1_i32_57 : BitVec 32 := 1#32
  let v113 : BitVec 32 := Scalar.select v112 c1_i32_57 c2_i32_55
  let v114 : BitVec 32 := Scalar.remsi v108 v113
  let c0_i32_59 : BitVec 32 := 0#32
  let v116 : BitVec 1 := Scalar.cmpi .slt v114 c0_i32_59
  let c0_i32_60 : BitVec 32 := 0#32
  let v117 : BitVec 1 := Scalar.cmpi .slt v113 c0_i32_60
  let v118 : BitVec 1 := Scalar.xori v116 v117
  let c0_i32_58 : BitVec 32 := 0#32
  let v115 : BitVec 1 := Scalar.cmpi .ne v114 c0_i32_58
  let v119 : BitVec 1 := Scalar.andi v118 v115
  let v120 : BitVec 32 := Scalar.addi v114 v113
  let v121 : BitVec 32 := Scalar.select v119 v120 v114
  let c0_i32_61 : BitVec 32 := 0#32
  let v122 : BitVec 1 := Scalar.cmpi .eq v121 c0_i32_61
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_62 : BitVec 32 := 1#32
  let v123 : BitVec 32 := Scalar.subi c1_i32_62 v69
  let v124 : BitVec 32 := Scalar.select v122 v69 v123
  let v125 : BitVec 32 := Scalar.addi v111 v124
  let c1_i32_1974 : BitVec 32 := 1#32
  let v2508 : BitVec 32 := Scalar.muli v125 c1_i32_1974
  let v2509 : BitVec 32 := Scalar.addi c0_i32_1975 v2508
  v2509.toNat
def k0_dev48 (d0 : Dev nD) : Nat :=
  let c0_i32_2006 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_63 : BitVec 32 := 1#32
  let v126 : BitVec 32 := Scalar.addi v19 c1_i32_63
  let c4_i32_64 : BitVec 32 := 4#32
  let c0_i32_65 : BitVec 32 := 0#32
  let v127 : BitVec 1 := Scalar.cmpi .eq c4_i32_64 c0_i32_65
  let c1_i32_66 : BitVec 32 := 1#32
  let v128 : BitVec 32 := Scalar.select v127 c1_i32_66 c4_i32_64
  let v129 : BitVec 32 := Scalar.remsi v126 v128
  let c0_i32_68 : BitVec 32 := 0#32
  let v131 : BitVec 1 := Scalar.cmpi .slt v129 c0_i32_68
  let c0_i32_69 : BitVec 32 := 0#32
  let v132 : BitVec 1 := Scalar.cmpi .slt v128 c0_i32_69
  let v133 : BitVec 1 := Scalar.xori v131 v132
  let c0_i32_67 : BitVec 32 := 0#32
  let v130 : BitVec 1 := Scalar.cmpi .ne v129 c0_i32_67
  let v134 : BitVec 1 := Scalar.andi v133 v130
  let v135 : BitVec 32 := Scalar.addi v129 v128
  let v136 : BitVec 32 := Scalar.select v134 v135 v129
  let c8_i32_70 : BitVec 32 := 8#32
  let v137 : BitVec 32 := Scalar.muli v136 c8_i32_70
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_71 : BitVec 32 := 2#32
  let v138 : BitVec 32 := Scalar.muli v46 c2_i32_71
  let v139 : BitVec 32 := Scalar.addi v137 v138
  let c2_i32_72 : BitVec 32 := 2#32
  let c0_i32_73 : BitVec 32 := 0#32
  let v140 : BitVec 1 := Scalar.cmpi .eq c2_i32_72 c0_i32_73
  let c1_i32_74 : BitVec 32 := 1#32
  let v141 : BitVec 32 := Scalar.select v140 c1_i32_74 c2_i32_72
  let v142 : BitVec 32 := Scalar.remsi v46 v141
  let c0_i32_76 : BitVec 32 := 0#32
  let v144 : BitVec 1 := Scalar.cmpi .slt v142 c0_i32_76
  let c0_i32_77 : BitVec 32 := 0#32
  let v145 : BitVec 1 := Scalar.cmpi .slt v141 c0_i32_77
  let v146 : BitVec 1 := Scalar.xori v144 v145
  let c0_i32_75 : BitVec 32 := 0#32
  let v143 : BitVec 1 := Scalar.cmpi .ne v142 c0_i32_75
  let v147 : BitVec 1 := Scalar.andi v146 v143
  let v148 : BitVec 32 := Scalar.addi v142 v141
  let v149 : BitVec 32 := Scalar.select v147 v148 v142
  let c0_i32_78 : BitVec 32 := 0#32
  let v150 : BitVec 1 := Scalar.cmpi .eq v149 c0_i32_78
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_79 : BitVec 32 := 1#32
  let v151 : BitVec 32 := Scalar.subi c1_i32_79 v69
  let v152 : BitVec 32 := Scalar.select v150 v69 v151
  let v153 : BitVec 32 := Scalar.addi v139 v152
  let c1_i32_2005 : BitVec 32 := 1#32
  let v2529 : BitVec 32 := Scalar.muli v153 c1_i32_2005
  let v2530 : BitVec 32 := Scalar.addi c0_i32_2006 v2529
  v2530.toNat
def k0_off35 (d0 : Dev nD) (c0_i32_2011 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v2539 : BitVec 32 := Scalar.subi v19 c0_i32_2011
  let c4_i32_2012 : BitVec 32 := 4#32
  let c0_i32_2013 : BitVec 32 := 0#32
  let v2540 : BitVec 1 := Scalar.cmpi .eq c4_i32_2012 c0_i32_2013
  let c1_i32_2014 : BitVec 32 := 1#32
  let v2541 : BitVec 32 := Scalar.select v2540 c1_i32_2014 c4_i32_2012
  let v2542 : BitVec 32 := Scalar.remsi v2539 v2541
  let c0_i32_2016 : BitVec 32 := 0#32
  let v2544 : BitVec 1 := Scalar.cmpi .slt v2542 c0_i32_2016
  let c0_i32_2017 : BitVec 32 := 0#32
  let v2545 : BitVec 1 := Scalar.cmpi .slt v2541 c0_i32_2017
  let v2546 : BitVec 1 := Scalar.xori v2544 v2545
  let c0_i32_2015 : BitVec 32 := 0#32
  let v2543 : BitVec 1 := Scalar.cmpi .ne v2542 c0_i32_2015
  let v2547 : BitVec 1 := Scalar.andi v2546 v2543
  let v2548 : BitVec 32 := Scalar.addi v2542 v2541
  let v2549 : BitVec 32 := Scalar.select v2547 v2548 v2542
  let c256_i32_2021 : BitVec 32 := 256#32
  let v2552 : BitVec 32 := Scalar.muli v2549 c256_i32_2021
  let v2553 : Index := Scalar.indexCast v2552
  let c512_2022 : Index := 512#32
  ![v2553.toNat, 512]
def k0_dev49 (d0 : Dev nD) : Nat :=
  let c0_i32_2026 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_80 : BitVec 32 := 3#32
  let v154 : BitVec 32 := Scalar.addi v19 c3_i32_80
  let c4_i32_81 : BitVec 32 := 4#32
  let c0_i32_82 : BitVec 32 := 0#32
  let v155 : BitVec 1 := Scalar.cmpi .eq c4_i32_81 c0_i32_82
  let c1_i32_83 : BitVec 32 := 1#32
  let v156 : BitVec 32 := Scalar.select v155 c1_i32_83 c4_i32_81
  let v157 : BitVec 32 := Scalar.remsi v154 v156
  let c0_i32_85 : BitVec 32 := 0#32
  let v159 : BitVec 1 := Scalar.cmpi .slt v157 c0_i32_85
  let c0_i32_86 : BitVec 32 := 0#32
  let v160 : BitVec 1 := Scalar.cmpi .slt v156 c0_i32_86
  let v161 : BitVec 1 := Scalar.xori v159 v160
  let c0_i32_84 : BitVec 32 := 0#32
  let v158 : BitVec 1 := Scalar.cmpi .ne v157 c0_i32_84
  let v162 : BitVec 1 := Scalar.andi v161 v158
  let v163 : BitVec 32 := Scalar.addi v157 v156
  let v164 : BitVec 32 := Scalar.select v162 v163 v157
  let c8_i32_87 : BitVec 32 := 8#32
  let v165 : BitVec 32 := Scalar.muli v164 c8_i32_87
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_88 : BitVec 32 := 2#32
  let v166 : BitVec 32 := Scalar.muli v46 c2_i32_88
  let v167 : BitVec 32 := Scalar.addi v165 v166
  let c2_i32_89 : BitVec 32 := 2#32
  let c0_i32_90 : BitVec 32 := 0#32
  let v168 : BitVec 1 := Scalar.cmpi .eq c2_i32_89 c0_i32_90
  let c1_i32_91 : BitVec 32 := 1#32
  let v169 : BitVec 32 := Scalar.select v168 c1_i32_91 c2_i32_89
  let v170 : BitVec 32 := Scalar.remsi v46 v169
  let c0_i32_93 : BitVec 32 := 0#32
  let v172 : BitVec 1 := Scalar.cmpi .slt v170 c0_i32_93
  let c0_i32_94 : BitVec 32 := 0#32
  let v173 : BitVec 1 := Scalar.cmpi .slt v169 c0_i32_94
  let v174 : BitVec 1 := Scalar.xori v172 v173
  let c0_i32_92 : BitVec 32 := 0#32
  let v171 : BitVec 1 := Scalar.cmpi .ne v170 c0_i32_92
  let v175 : BitVec 1 := Scalar.andi v174 v171
  let v176 : BitVec 32 := Scalar.addi v170 v169
  let v177 : BitVec 32 := Scalar.select v175 v176 v170
  let c0_i32_95 : BitVec 32 := 0#32
  let v178 : BitVec 1 := Scalar.cmpi .eq v177 c0_i32_95
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_96 : BitVec 32 := 1#32
  let v179 : BitVec 32 := Scalar.subi c1_i32_96 v69
  let v180 : BitVec 32 := Scalar.select v178 v69 v179
  let v181 : BitVec 32 := Scalar.addi v167 v180
  let c1_i32_2025 : BitVec 32 := 1#32
  let v2558 : BitVec 32 := Scalar.muli v181 c1_i32_2025
  let v2559 : BitVec 32 := Scalar.addi c0_i32_2026 v2558
  v2559.toNat
def k0_dev50 (d0 : Dev nD) : Nat :=
  let c0_i32_2057 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_63 : BitVec 32 := 1#32
  let v126 : BitVec 32 := Scalar.addi v19 c1_i32_63
  let c4_i32_64 : BitVec 32 := 4#32
  let c0_i32_65 : BitVec 32 := 0#32
  let v127 : BitVec 1 := Scalar.cmpi .eq c4_i32_64 c0_i32_65
  let c1_i32_66 : BitVec 32 := 1#32
  let v128 : BitVec 32 := Scalar.select v127 c1_i32_66 c4_i32_64
  let v129 : BitVec 32 := Scalar.remsi v126 v128
  let c0_i32_68 : BitVec 32 := 0#32
  let v131 : BitVec 1 := Scalar.cmpi .slt v129 c0_i32_68
  let c0_i32_69 : BitVec 32 := 0#32
  let v132 : BitVec 1 := Scalar.cmpi .slt v128 c0_i32_69
  let v133 : BitVec 1 := Scalar.xori v131 v132
  let c0_i32_67 : BitVec 32 := 0#32
  let v130 : BitVec 1 := Scalar.cmpi .ne v129 c0_i32_67
  let v134 : BitVec 1 := Scalar.andi v133 v130
  let v135 : BitVec 32 := Scalar.addi v129 v128
  let v136 : BitVec 32 := Scalar.select v134 v135 v129
  let c8_i32_70 : BitVec 32 := 8#32
  let v137 : BitVec 32 := Scalar.muli v136 c8_i32_70
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_71 : BitVec 32 := 2#32
  let v138 : BitVec 32 := Scalar.muli v46 c2_i32_71
  let v139 : BitVec 32 := Scalar.addi v137 v138
  let c2_i32_72 : BitVec 32 := 2#32
  let c0_i32_73 : BitVec 32 := 0#32
  let v140 : BitVec 1 := Scalar.cmpi .eq c2_i32_72 c0_i32_73
  let c1_i32_74 : BitVec 32 := 1#32
  let v141 : BitVec 32 := Scalar.select v140 c1_i32_74 c2_i32_72
  let v142 : BitVec 32 := Scalar.remsi v46 v141
  let c0_i32_76 : BitVec 32 := 0#32
  let v144 : BitVec 1 := Scalar.cmpi .slt v142 c0_i32_76
  let c0_i32_77 : BitVec 32 := 0#32
  let v145 : BitVec 1 := Scalar.cmpi .slt v141 c0_i32_77
  let v146 : BitVec 1 := Scalar.xori v144 v145
  let c0_i32_75 : BitVec 32 := 0#32
  let v143 : BitVec 1 := Scalar.cmpi .ne v142 c0_i32_75
  let v147 : BitVec 1 := Scalar.andi v146 v143
  let v148 : BitVec 32 := Scalar.addi v142 v141
  let v149 : BitVec 32 := Scalar.select v147 v148 v142
  let c0_i32_78 : BitVec 32 := 0#32
  let v150 : BitVec 1 := Scalar.cmpi .eq v149 c0_i32_78
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_79 : BitVec 32 := 1#32
  let v151 : BitVec 32 := Scalar.subi c1_i32_79 v69
  let v152 : BitVec 32 := Scalar.select v150 v69 v151
  let v153 : BitVec 32 := Scalar.addi v139 v152
  let c1_i32_2056 : BitVec 32 := 1#32
  let v2579 : BitVec 32 := Scalar.muli v153 c1_i32_2056
  let v2580 : BitVec 32 := Scalar.addi c0_i32_2057 v2579
  v2580.toNat
def k0_off36 (d0 : Dev nD) (c0_i32_2062 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v2589 : BitVec 32 := Scalar.subi v19 c0_i32_2062
  let c4_i32_2063 : BitVec 32 := 4#32
  let c0_i32_2064 : BitVec 32 := 0#32
  let v2590 : BitVec 1 := Scalar.cmpi .eq c4_i32_2063 c0_i32_2064
  let c1_i32_2065 : BitVec 32 := 1#32
  let v2591 : BitVec 32 := Scalar.select v2590 c1_i32_2065 c4_i32_2063
  let v2592 : BitVec 32 := Scalar.remsi v2589 v2591
  let c0_i32_2067 : BitVec 32 := 0#32
  let v2594 : BitVec 1 := Scalar.cmpi .slt v2592 c0_i32_2067
  let c0_i32_2068 : BitVec 32 := 0#32
  let v2595 : BitVec 1 := Scalar.cmpi .slt v2591 c0_i32_2068
  let v2596 : BitVec 1 := Scalar.xori v2594 v2595
  let c0_i32_2066 : BitVec 32 := 0#32
  let v2593 : BitVec 1 := Scalar.cmpi .ne v2592 c0_i32_2066
  let v2597 : BitVec 1 := Scalar.andi v2596 v2593
  let v2598 : BitVec 32 := Scalar.addi v2592 v2591
  let v2599 : BitVec 32 := Scalar.select v2597 v2598 v2592
  let c256_i32_2072 : BitVec 32 := 256#32
  let v2602 : BitVec 32 := Scalar.muli v2599 c256_i32_2072
  let v2603 : Index := Scalar.indexCast v2602
  let c768_2073 : Index := 768#32
  ![v2603.toNat, 768]
def k0_dev51 (d0 : Dev nD) : Nat :=
  let c0_i32_2077 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_80 : BitVec 32 := 3#32
  let v154 : BitVec 32 := Scalar.addi v19 c3_i32_80
  let c4_i32_81 : BitVec 32 := 4#32
  let c0_i32_82 : BitVec 32 := 0#32
  let v155 : BitVec 1 := Scalar.cmpi .eq c4_i32_81 c0_i32_82
  let c1_i32_83 : BitVec 32 := 1#32
  let v156 : BitVec 32 := Scalar.select v155 c1_i32_83 c4_i32_81
  let v157 : BitVec 32 := Scalar.remsi v154 v156
  let c0_i32_85 : BitVec 32 := 0#32
  let v159 : BitVec 1 := Scalar.cmpi .slt v157 c0_i32_85
  let c0_i32_86 : BitVec 32 := 0#32
  let v160 : BitVec 1 := Scalar.cmpi .slt v156 c0_i32_86
  let v161 : BitVec 1 := Scalar.xori v159 v160
  let c0_i32_84 : BitVec 32 := 0#32
  let v158 : BitVec 1 := Scalar.cmpi .ne v157 c0_i32_84
  let v162 : BitVec 1 := Scalar.andi v161 v158
  let v163 : BitVec 32 := Scalar.addi v157 v156
  let v164 : BitVec 32 := Scalar.select v162 v163 v157
  let c8_i32_87 : BitVec 32 := 8#32
  let v165 : BitVec 32 := Scalar.muli v164 c8_i32_87
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_88 : BitVec 32 := 2#32
  let v166 : BitVec 32 := Scalar.muli v46 c2_i32_88
  let v167 : BitVec 32 := Scalar.addi v165 v166
  let c2_i32_89 : BitVec 32 := 2#32
  let c0_i32_90 : BitVec 32 := 0#32
  let v168 : BitVec 1 := Scalar.cmpi .eq c2_i32_89 c0_i32_90
  let c1_i32_91 : BitVec 32 := 1#32
  let v169 : BitVec 32 := Scalar.select v168 c1_i32_91 c2_i32_89
  let v170 : BitVec 32 := Scalar.remsi v46 v169
  let c0_i32_93 : BitVec 32 := 0#32
  let v172 : BitVec 1 := Scalar.cmpi .slt v170 c0_i32_93
  let c0_i32_94 : BitVec 32 := 0#32
  let v173 : BitVec 1 := Scalar.cmpi .slt v169 c0_i32_94
  let v174 : BitVec 1 := Scalar.xori v172 v173
  let c0_i32_92 : BitVec 32 := 0#32
  let v171 : BitVec 1 := Scalar.cmpi .ne v170 c0_i32_92
  let v175 : BitVec 1 := Scalar.andi v174 v171
  let v176 : BitVec 32 := Scalar.addi v170 v169
  let v177 : BitVec 32 := Scalar.select v175 v176 v170
  let c0_i32_95 : BitVec 32 := 0#32
  let v178 : BitVec 1 := Scalar.cmpi .eq v177 c0_i32_95
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_96 : BitVec 32 := 1#32
  let v179 : BitVec 32 := Scalar.subi c1_i32_96 v69
  let v180 : BitVec 32 := Scalar.select v178 v69 v179
  let v181 : BitVec 32 := Scalar.addi v167 v180
  let c1_i32_2076 : BitVec 32 := 1#32
  let v2608 : BitVec 32 := Scalar.muli v181 c1_i32_2076
  let v2609 : BitVec 32 := Scalar.addi c0_i32_2077 v2608
  v2609.toNat
def k0_dev52 (d0 : Dev nD) : Nat :=
  let c0_i32_2110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_37 : BitVec 32 := 8#32
  let v81 : BitVec 32 := Scalar.muli v19 c8_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v70 : BitVec 32 := Scalar.addi v46 c1_i32_31
  let c4_i32 : BitVec 32 := 4#32
  let c0_i32_32 : BitVec 32 := 0#32
  let v71 : BitVec 1 := Scalar.cmpi .eq c4_i32 c0_i32_32
  let c1_i32_33 : BitVec 32 := 1#32
  let v72 : BitVec 32 := Scalar.select v71 c1_i32_33 c4_i32
  let v73 : BitVec 32 := Scalar.remsi v70 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c2_i32_38 : BitVec 32 := 2#32
  let v82 : BitVec 32 := Scalar.muli v80 c2_i32_38
  let v83 : BitVec 32 := Scalar.addi v81 v82
  let c2_i32_39 : BitVec 32 := 2#32
  let c0_i32_40 : BitVec 32 := 0#32
  let v84 : BitVec 1 := Scalar.cmpi .eq c2_i32_39 c0_i32_40
  let c1_i32_41 : BitVec 32 := 1#32
  let v85 : BitVec 32 := Scalar.select v84 c1_i32_41 c2_i32_39
  let v86 : BitVec 32 := Scalar.remsi v80 v85
  let c0_i32_43 : BitVec 32 := 0#32
  let v88 : BitVec 1 := Scalar.cmpi .slt v86 c0_i32_43
  let c0_i32_44 : BitVec 32 := 0#32
  let v89 : BitVec 1 := Scalar.cmpi .slt v85 c0_i32_44
  let v90 : BitVec 1 := Scalar.xori v88 v89
  let c0_i32_42 : BitVec 32 := 0#32
  let v87 : BitVec 1 := Scalar.cmpi .ne v86 c0_i32_42
  let v91 : BitVec 1 := Scalar.andi v90 v87
  let v92 : BitVec 32 := Scalar.addi v86 v85
  let v93 : BitVec 32 := Scalar.select v91 v92 v86
  let c0_i32_45 : BitVec 32 := 0#32
  let v94 : BitVec 1 := Scalar.cmpi .eq v93 c0_i32_45
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_46 : BitVec 32 := 1#32
  let v95 : BitVec 32 := Scalar.subi c1_i32_46 v69
  let v96 : BitVec 32 := Scalar.select v94 v69 v95
  let v97 : BitVec 32 := Scalar.addi v83 v96
  let c1_i32_2109 : BitVec 32 := 1#32
  let v2629 : BitVec 32 := Scalar.muli v97 c1_i32_2109
  let v2630 : BitVec 32 := Scalar.addi c0_i32_2110 v2629
  v2630.toNat
def k0_dev53 (d0 : Dev nD) : Nat :=
  let c0_i32_2160 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_37 : BitVec 32 := 8#32
  let v81 : BitVec 32 := Scalar.muli v19 c8_i32_37
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_31 : BitVec 32 := 1#32
  let v70 : BitVec 32 := Scalar.addi v46 c1_i32_31
  let c4_i32 : BitVec 32 := 4#32
  let c0_i32_32 : BitVec 32 := 0#32
  let v71 : BitVec 1 := Scalar.cmpi .eq c4_i32 c0_i32_32
  let c1_i32_33 : BitVec 32 := 1#32
  let v72 : BitVec 32 := Scalar.select v71 c1_i32_33 c4_i32
  let v73 : BitVec 32 := Scalar.remsi v70 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c2_i32_38 : BitVec 32 := 2#32
  let v82 : BitVec 32 := Scalar.muli v80 c2_i32_38
  let v83 : BitVec 32 := Scalar.addi v81 v82
  let c2_i32_39 : BitVec 32 := 2#32
  let c0_i32_40 : BitVec 32 := 0#32
  let v84 : BitVec 1 := Scalar.cmpi .eq c2_i32_39 c0_i32_40
  let c1_i32_41 : BitVec 32 := 1#32
  let v85 : BitVec 32 := Scalar.select v84 c1_i32_41 c2_i32_39
  let v86 : BitVec 32 := Scalar.remsi v80 v85
  let c0_i32_43 : BitVec 32 := 0#32
  let v88 : BitVec 1 := Scalar.cmpi .slt v86 c0_i32_43
  let c0_i32_44 : BitVec 32 := 0#32
  let v89 : BitVec 1 := Scalar.cmpi .slt v85 c0_i32_44
  let v90 : BitVec 1 := Scalar.xori v88 v89
  let c0_i32_42 : BitVec 32 := 0#32
  let v87 : BitVec 1 := Scalar.cmpi .ne v86 c0_i32_42
  let v91 : BitVec 1 := Scalar.andi v90 v87
  let v92 : BitVec 32 := Scalar.addi v86 v85
  let v93 : BitVec 32 := Scalar.select v91 v92 v86
  let c0_i32_45 : BitVec 32 := 0#32
  let v94 : BitVec 1 := Scalar.cmpi .eq v93 c0_i32_45
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_46 : BitVec 32 := 1#32
  let v95 : BitVec 32 := Scalar.subi c1_i32_46 v69
  let v96 : BitVec 32 := Scalar.select v94 v69 v95
  let v97 : BitVec 32 := Scalar.addi v83 v96
  let c1_i32_2159 : BitVec 32 := 1#32
  let v2677 : BitVec 32 := Scalar.muli v97 c1_i32_2159
  let v2678 : BitVec 32 := Scalar.addi c0_i32_2160 v2677
  v2678.toNat
def k0_dev54 (d0 : Dev nD) : Nat :=
  let c0_i32_2210 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_63 : BitVec 32 := 1#32
  let v126 : BitVec 32 := Scalar.addi v19 c1_i32_63
  let c4_i32_64 : BitVec 32 := 4#32
  let c0_i32_65 : BitVec 32 := 0#32
  let v127 : BitVec 1 := Scalar.cmpi .eq c4_i32_64 c0_i32_65
  let c1_i32_66 : BitVec 32 := 1#32
  let v128 : BitVec 32 := Scalar.select v127 c1_i32_66 c4_i32_64
  let v129 : BitVec 32 := Scalar.remsi v126 v128
  let c0_i32_68 : BitVec 32 := 0#32
  let v131 : BitVec 1 := Scalar.cmpi .slt v129 c0_i32_68
  let c0_i32_69 : BitVec 32 := 0#32
  let v132 : BitVec 1 := Scalar.cmpi .slt v128 c0_i32_69
  let v133 : BitVec 1 := Scalar.xori v131 v132
  let c0_i32_67 : BitVec 32 := 0#32
  let v130 : BitVec 1 := Scalar.cmpi .ne v129 c0_i32_67
  let v134 : BitVec 1 := Scalar.andi v133 v130
  let v135 : BitVec 32 := Scalar.addi v129 v128
  let v136 : BitVec 32 := Scalar.select v134 v135 v129
  let c8_i32_70 : BitVec 32 := 8#32
  let v137 : BitVec 32 := Scalar.muli v136 c8_i32_70
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_71 : BitVec 32 := 2#32
  let v138 : BitVec 32 := Scalar.muli v46 c2_i32_71
  let v139 : BitVec 32 := Scalar.addi v137 v138
  let c2_i32_72 : BitVec 32 := 2#32
  let c0_i32_73 : BitVec 32 := 0#32
  let v140 : BitVec 1 := Scalar.cmpi .eq c2_i32_72 c0_i32_73
  let c1_i32_74 : BitVec 32 := 1#32
  let v141 : BitVec 32 := Scalar.select v140 c1_i32_74 c2_i32_72
  let v142 : BitVec 32 := Scalar.remsi v46 v141
  let c0_i32_76 : BitVec 32 := 0#32
  let v144 : BitVec 1 := Scalar.cmpi .slt v142 c0_i32_76
  let c0_i32_77 : BitVec 32 := 0#32
  let v145 : BitVec 1 := Scalar.cmpi .slt v141 c0_i32_77
  let v146 : BitVec 1 := Scalar.xori v144 v145
  let c0_i32_75 : BitVec 32 := 0#32
  let v143 : BitVec 1 := Scalar.cmpi .ne v142 c0_i32_75
  let v147 : BitVec 1 := Scalar.andi v146 v143
  let v148 : BitVec 32 := Scalar.addi v142 v141
  let v149 : BitVec 32 := Scalar.select v147 v148 v142
  let c0_i32_78 : BitVec 32 := 0#32
  let v150 : BitVec 1 := Scalar.cmpi .eq v149 c0_i32_78
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_79 : BitVec 32 := 1#32
  let v151 : BitVec 32 := Scalar.subi c1_i32_79 v69
  let v152 : BitVec 32 := Scalar.select v150 v69 v151
  let v153 : BitVec 32 := Scalar.addi v139 v152
  let c1_i32_2209 : BitVec 32 := 1#32
  let v2725 : BitVec 32 := Scalar.muli v153 c1_i32_2209
  let v2726 : BitVec 32 := Scalar.addi c0_i32_2210 v2725
  v2726.toNat
def k0_dev55 (d0 : Dev nD) : Nat :=
  let c0_i32_2260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_63 : BitVec 32 := 1#32
  let v126 : BitVec 32 := Scalar.addi v19 c1_i32_63
  let c4_i32_64 : BitVec 32 := 4#32
  let c0_i32_65 : BitVec 32 := 0#32
  let v127 : BitVec 1 := Scalar.cmpi .eq c4_i32_64 c0_i32_65
  let c1_i32_66 : BitVec 32 := 1#32
  let v128 : BitVec 32 := Scalar.select v127 c1_i32_66 c4_i32_64
  let v129 : BitVec 32 := Scalar.remsi v126 v128
  let c0_i32_68 : BitVec 32 := 0#32
  let v131 : BitVec 1 := Scalar.cmpi .slt v129 c0_i32_68
  let c0_i32_69 : BitVec 32 := 0#32
  let v132 : BitVec 1 := Scalar.cmpi .slt v128 c0_i32_69
  let v133 : BitVec 1 := Scalar.xori v131 v132
  let c0_i32_67 : BitVec 32 := 0#32
  let v130 : BitVec 1 := Scalar.cmpi .ne v129 c0_i32_67
  let v134 : BitVec 1 := Scalar.andi v133 v130
  let v135 : BitVec 32 := Scalar.addi v129 v128
  let v136 : BitVec 32 := Scalar.select v134 v135 v129
  let c8_i32_70 : BitVec 32 := 8#32
  let v137 : BitVec 32 := Scalar.muli v136 c8_i32_70
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_71 : BitVec 32 := 2#32
  let v138 : BitVec 32 := Scalar.muli v46 c2_i32_71
  let v139 : BitVec 32 := Scalar.addi v137 v138
  let c2_i32_72 : BitVec 32 := 2#32
  let c0_i32_73 : BitVec 32 := 0#32
  let v140 : BitVec 1 := Scalar.cmpi .eq c2_i32_72 c0_i32_73
  let c1_i32_74 : BitVec 32 := 1#32
  let v141 : BitVec 32 := Scalar.select v140 c1_i32_74 c2_i32_72
  let v142 : BitVec 32 := Scalar.remsi v46 v141
  let c0_i32_76 : BitVec 32 := 0#32
  let v144 : BitVec 1 := Scalar.cmpi .slt v142 c0_i32_76
  let c0_i32_77 : BitVec 32 := 0#32
  let v145 : BitVec 1 := Scalar.cmpi .slt v141 c0_i32_77
  let v146 : BitVec 1 := Scalar.xori v144 v145
  let c0_i32_75 : BitVec 32 := 0#32
  let v143 : BitVec 1 := Scalar.cmpi .ne v142 c0_i32_75
  let v147 : BitVec 1 := Scalar.andi v146 v143
  let v148 : BitVec 32 := Scalar.addi v142 v141
  let v149 : BitVec 32 := Scalar.select v147 v148 v142
  let c0_i32_78 : BitVec 32 := 0#32
  let v150 : BitVec 1 := Scalar.cmpi .eq v149 c0_i32_78
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_79 : BitVec 32 := 1#32
  let v151 : BitVec 32 := Scalar.subi c1_i32_79 v69
  let v152 : BitVec 32 := Scalar.select v150 v69 v151
  let v153 : BitVec 32 := Scalar.addi v139 v152
  let c1_i32_2259 : BitVec 32 := 1#32
  let v2773 : BitVec 32 := Scalar.muli v153 c1_i32_2259
  let v2774 : BitVec 32 := Scalar.addi c0_i32_2260 v2773
  v2774.toNat
def k0_off37 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_161 : BitVec 32 := 1#32
  let v302 : BitVec 32 := Scalar.addi v46 c1_i32_161
  let c4_i32_162 : BitVec 32 := 4#32
  let c0_i32_163 : BitVec 32 := 0#32
  let v303 : BitVec 1 := Scalar.cmpi .eq c4_i32_162 c0_i32_163
  let c1_i32_164 : BitVec 32 := 1#32
  let v304 : BitVec 32 := Scalar.select v303 c1_i32_164 c4_i32_162
  let v305 : BitVec 32 := Scalar.remsi v302 v304
  let c0_i32_166 : BitVec 32 := 0#32
  let v307 : BitVec 1 := Scalar.cmpi .slt v305 c0_i32_166
  let c0_i32_167 : BitVec 32 := 0#32
  let v308 : BitVec 1 := Scalar.cmpi .slt v304 c0_i32_167
  let v309 : BitVec 1 := Scalar.xori v307 v308
  let c0_i32_165 : BitVec 32 := 0#32
  let v306 : BitVec 1 := Scalar.cmpi .ne v305 c0_i32_165
  let v310 : BitVec 1 := Scalar.andi v309 v306
  let v311 : BitVec 32 := Scalar.addi v305 v304
  let v312 : BitVec 32 := Scalar.select v310 v311 v305
  let c256_i32 : BitVec 32 := 256#32
  let v346 : BitVec 32 := Scalar.muli v312 c256_i32
  let v2934 : Index := Scalar.indexCast v346
  let c0_2406 : Index := 0#32
  ![v2934.toNat, 0]
def k0_off38 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_168 : BitVec 32 := 1#32
  let v313 : BitVec 32 := Scalar.addi v19 c1_i32_168
  let c4_i32_169 : BitVec 32 := 4#32
  let c0_i32_170 : BitVec 32 := 0#32
  let v314 : BitVec 1 := Scalar.cmpi .eq c4_i32_169 c0_i32_170
  let c1_i32_171 : BitVec 32 := 1#32
  let v315 : BitVec 32 := Scalar.select v314 c1_i32_171 c4_i32_169
  let v316 : BitVec 32 := Scalar.remsi v313 v315
  let c0_i32_173 : BitVec 32 := 0#32
  let v318 : BitVec 1 := Scalar.cmpi .slt v316 c0_i32_173
  let c0_i32_174 : BitVec 32 := 0#32
  let v319 : BitVec 1 := Scalar.cmpi .slt v315 c0_i32_174
  let v320 : BitVec 1 := Scalar.xori v318 v319
  let c0_i32_172 : BitVec 32 := 0#32
  let v317 : BitVec 1 := Scalar.cmpi .ne v316 c0_i32_172
  let v321 : BitVec 1 := Scalar.andi v320 v317
  let v322 : BitVec 32 := Scalar.addi v316 v315
  let v323 : BitVec 32 := Scalar.select v321 v322 v316
  let c256_i32_189 : BitVec 32 := 256#32
  let v347 : BitVec 32 := Scalar.muli v323 c256_i32_189
  let v2942 : Index := Scalar.indexCast v347
  let c512_2409 : Index := 512#32
  ![v2942.toNat, 512]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1024x512 : Shape := ⟨2, ![1024, 512]⟩
abbrev S512x128 : Shape := ⟨2, ![512, 128]⟩
abbrev S1024x1 : Shape := ⟨2, ![1024, 1]⟩
abbrev S128x512x1024 : Shape := ⟨3, ![128, 512, 1024]⟩
abbrev S512x1024 : Shape := ⟨2, ![512, 1024]⟩
abbrev S1024x128 : Shape := ⟨2, ![1024, 128]⟩
abbrev S_ : Shape := ⟨0, ![]⟩
abbrev S1024 : Shape := ⟨1, ![1024]⟩
abbrev S1024x1024 : Shape := ⟨2, ![1024, 1024]⟩
abbrev S1 : Shape := ⟨1, ![1]⟩
abbrev S1x1 : Shape := ⟨2, ![1, 1]⟩
abbrev S1024x512x1024 : Shape := ⟨3, ![1024, 512, 1024]⟩
abbrev S1024x1x1 : Shape := ⟨3, ![1024, 1, 1]⟩
abbrev S1x1x1 : Shape := ⟨3, ![1, 1, 1]⟩

abbrev nBuf : Space → Nat
  | .hbm => 61
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x128, .f32⟩
  | .hbm, ⟨2, _⟩ => ⟨S1024x1, .i32⟩
  | .hbm, ⟨3, _⟩ => ⟨S128x512x1024, .f32⟩
  | .hbm, ⟨4, _⟩ => ⟨S512x1024, .f32⟩
  | .hbm, ⟨5, _⟩ => ⟨S1024x128, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S1024x128, .f32⟩
  | .hbm, ⟨10, _⟩ => ⟨S1024x128, .f32⟩
  | .hbm, ⟨11, _⟩ => ⟨S1024x128, .f32⟩
  | .hbm, ⟨12, _⟩ => ⟨S_, .f32⟩
  | .hbm, ⟨13, _⟩ => ⟨S1024, .f32⟩
  | .hbm, ⟨14, _⟩ => ⟨S1024x1, .f32⟩
  | .hbm, ⟨15, _⟩ => ⟨S1024x128, .f32⟩
  | .hbm, ⟨16, _⟩ => ⟨S1024x128, .f32⟩
  | .hbm, ⟨17, _⟩ => ⟨S1024x1024, .f32⟩
  | .hbm, ⟨18, _⟩ => ⟨S1024, .i32⟩
  | .hbm, ⟨19, _⟩ => ⟨S1024x1, .i32⟩
  | .hbm, ⟨20, _⟩ => ⟨S1, .i32⟩
  | .hbm, ⟨21, _⟩ => ⟨S_, .i32⟩
  | .hbm, ⟨22, _⟩ => ⟨S1024x1, .i32⟩
  | .hbm, ⟨23, _⟩ => ⟨S1024x1, .i1⟩
  | .hbm, ⟨24, _⟩ => ⟨S1x1, .i32⟩
  | .hbm, ⟨25, _⟩ => ⟨S1024x1, .i32⟩
  | .hbm, ⟨26, _⟩ => ⟨S1024x1, .i1⟩
  | .hbm, ⟨27, _⟩ => ⟨S1024x1, .i1⟩
  | .hbm, ⟨28, _⟩ => ⟨S_, .i1⟩
  | .hbm, ⟨29, _⟩ => ⟨S1024, .i1⟩
  | .hbm, ⟨30, _⟩ => ⟨S1024x512x1024, .f32⟩
  | .hbm, ⟨31, _⟩ => ⟨S1024x512x1024, .i1⟩
  | .hbm, ⟨32, _⟩ => ⟨S_, .f32⟩
  | .hbm, ⟨33, _⟩ => ⟨S1024x512x1024, .f32⟩
  | .hbm, ⟨34, _⟩ => ⟨S1024x512x1024, .f32⟩
  | .hbm, ⟨35, _⟩ => ⟨S_, .i32⟩
  | .hbm, ⟨36, _⟩ => ⟨S1024x1, .i32⟩
  | .hbm, ⟨37, _⟩ => ⟨S1024x1, .i1⟩
  | .hbm, ⟨38, _⟩ => ⟨S_, .i32⟩
  | .hbm, ⟨39, _⟩ => ⟨S1024x1, .i32⟩
  | .hbm, ⟨40, _⟩ => ⟨S1024x1, .i32⟩
  | .hbm, ⟨41, _⟩ => ⟨S1024x1, .i32⟩
  | .hbm, ⟨42, _⟩ => ⟨S1024x1x1, .i32⟩
  | .hbm, ⟨43, _⟩ => ⟨S1, .i32⟩
  | .hbm, ⟨44, _⟩ => ⟨S_, .i32⟩
  | .hbm, ⟨45, _⟩ => ⟨S1024x1x1, .i32⟩
  | .hbm, ⟨46, _⟩ => ⟨S1024x1x1, .i1⟩
  | .hbm, ⟨47, _⟩ => ⟨S1x1x1, .i32⟩
  | .hbm, ⟨48, _⟩ => ⟨S1024x1x1, .i32⟩
  | .hbm, ⟨49, _⟩ => ⟨S1024x1x1, .i1⟩
  | .hbm, ⟨50, _⟩ => ⟨S1024x1x1, .i1⟩
  | .hbm, ⟨51, _⟩ => ⟨S_, .i1⟩
  | .hbm, ⟨52, _⟩ => ⟨S1024x1, .i1⟩
  | .hbm, ⟨53, _⟩ => ⟨S1024x1, .f32⟩
  | .hbm, ⟨54, _⟩ => ⟨S_, .f32⟩
  | .hbm, ⟨55, _⟩ => ⟨S1024x1, .f32⟩
  | .hbm, ⟨56, _⟩ => ⟨S1024x1, .f32⟩
  | .hbm, ⟨57, _⟩ => ⟨S1024x1024, .f32⟩
  | .hbm, ⟨58, _⟩ => ⟨S1024x1024, .f32⟩
  | .hbm, ⟨59, _⟩ => ⟨S1024x1024, .f32⟩
  | .hbm, ⟨60, _⟩ => ⟨S1024x1024, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_call0_c : Ref sig .tc := ⟨.hbm, 35, rfl⟩
abbrev main_call0_v0 : Ref sig .tc := ⟨.hbm, 36, rfl⟩
abbrev main_call0_v1 : Ref sig .tc := ⟨.hbm, 37, rfl⟩
abbrev main_call0_c_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_c_1 : Ref sig .tc := ⟨.hbm, 43, rfl⟩
abbrev main_call0_c_2 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_c_3 : Ref sig .tc := ⟨.hbm, 51, rfl⟩
abbrev main_call0_v12 : Ref sig .tc := ⟨.hbm, 52, rfl⟩
abbrev main_call0_v13 : Ref sig .tc := ⟨.hbm, 53, rfl⟩
abbrev main_call0_cst : Ref sig .tc := ⟨.hbm, 54, rfl⟩
abbrev main_call0_v14 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩

abbrev nD : Nat := 1
abbrev τ : Topo := Topo.v7x

variable {F : FTy → Type} [FloatOps F]
-- ==== Proof.Proto.lean ====
/-
The protocol of the kernel in plain data: the fourteen chains of remote copies, the neighbours they go to, the
buffers and semaphores they use, the payments in program order, and the rounds of every semaphore.
-/
module

public import proofs.«01_k».proof.KernelIdeal
public import proofs.«01_k».proof.Proof.Gen.KernelIdeal.Launch
public import proofs.«01_k».proof.Proof.Gen.KernelIdeal.Frame
public import Idealize.ShloMosaic.Lib.Rounds
public import Idealize.ShloMosaic.Lib.Memref
public import Idealize.ShloMosaic.Lib.Pipeline.TalkSites
public import Idealize.ShloMosaic.Lib.Pipeline.SiteBlocks
public import Idealize.ShloMosaic.Lib.Tactic

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok launchOf)
open Idealize.ShloMosaic.TalkSites Idealize.ShloMosaic.SiteBlocks

variable {F : FTy → Type} [FloatOps F]

/-- The chains of remote copies: `a` the four rings of the first reduction, `b` the two of the second, `x` the exchange
    between the two devices of a pair, `g` the two rings of the first gathering, `h` the four of the last. -/
inductive Ch where
  | a0
  | a1
  | a2
  | a3
  | b0
  | b1
  | g0
  | g1
  | h0
  | h1
  | h2
  | h3
  | xA
  | xB
  deriving DecidableEq

/-- All chains. -/
def chs : List Ch := [.a0, .a1, .a2, .a3, .b0, .b1, .g0, .g1, .h0, .h1, .h2, .h3, .xA, .xB]
instance : Fintype Ch := ⟨⟨chs, by decide⟩, fun k => by cases k <;> decide⟩

/-! ## Neighbours -/

/-- The device at position (z, y, b). -/
def dv (z y b : ℕ) : Dev nD := ⟨(8 * z + 2 * y + b) % 32, Nat.mod_lt _ (by decide)⟩
/-- The next device around the ring of four within a plane, the one before, the next plane, the plane before, the other of the pair. -/
def yN (c : Dev nD) : Dev nD := dv (c.val / 8) ((c.val % 8 / 2 + 1) % 4) (1 - c.val % 2)
@[inherit_doc yN] def yP (c : Dev nD) : Dev nD := dv (c.val / 8) ((c.val % 8 / 2 + 3) % 4) (1 - c.val % 2)
@[inherit_doc yN] def zN (c : Dev nD) : Dev nD := dv ((c.val / 8 + 1) % 4) (c.val % 8 / 2) (c.val % 2)
@[inherit_doc yN] def zP (c : Dev nD) : Dev nD := dv ((c.val / 8 + 3) % 4) (c.val % 8 / 2) (c.val % 2)
@[inherit_doc yN] def xP (c : Dev nD) : Dev nD := dv (c.val / 8) (c.val % 8 / 2) (1 - c.val % 2)

theorem yN_yP (c : Dev nD) : yN (yP c) = c := by revert c; decide
theorem yP_yN (c : Dev nD) : yP (yN c) = c := by revert c; decide
theorem zN_zP (c : Dev nD) : zN (zP c) = c := by revert c; decide
theorem zP_zN (c : Dev nD) : zP (zN c) = c := by revert c; decide
theorem xP_xP (c : Dev nD) : xP (xP c) = c := by revert c; decide

/-- Where a chain sends. -/
def nxt : Ch → Dev nD → Dev nD
  | .a0 => yN
  | .a1 => yN
  | .a2 => zN
  | .a3 => zN
  | .b0 => zN
  | .b1 => yN
  | .g0 => zN
  | .g1 => yN
  | .h0 => yN
  | .h1 => yN
  | .h2 => zN
  | .h3 => zN
  | .xA => xP
  | .xB => xP
/-- Where a chain receives from. -/
def prv : Ch → Dev nD → Dev nD
  | .a0 => yP
  | .a1 => yP
  | .a2 => zP
  | .a3 => zP
  | .b0 => zP
  | .b1 => yP
  | .g0 => zP
  | .g1 => yP
  | .h0 => yP
  | .h1 => yP
  | .h2 => zP
  | .h3 => zP
  | .xA => xP
  | .xB => xP
theorem nxt_prv (k : Ch) (c : Dev nD) : nxt k (prv k c) = c := by
  cases k <;> first | exact yN_yP c | exact zN_zP c | exact xP_xP c
theorem prv_nxt (k : Ch) (c : Dev nD) : prv k (nxt k c) = c := by
  cases k <;> first | exact yP_yN c | exact zP_zN c | exact xP_xP c

/-- A chain is a ring of three steps (and not the exchange of a pair). -/
def ring : Ch → Bool
  | .xA | .xB => false
  | _ => true

/-! ## Buffers -/

/-- The shape of a slot, and the shape a copy moves. -/
abbrev sh : Ch → Shape
  | .a0 => S1x256x256
  | .a1 => S1x256x256
  | .a2 => S1x256x256
  | .a3 => S1x256x256
  | .b0 => S1x64x512
  | .b1 => S1x64x512
  | .g0 => S1x64x512
  | .g1 => S1x64x512
  | .h0 => S1x256x256
  | .h1 => S1x256x256
  | .h2 => S1x256x256
  | .h3 => S1x256x256
  | .xA => S64x512
  | .xB => S64x512
@[inherit_doc sh] abbrev shq : Ch → Shape
  | .a0 => S256x256
  | .a1 => S256x256
  | .a2 => S256x256
  | .a3 => S256x256
  | .b0 => S64x512
  | .b1 => S64x512
  | .g0 => S64x512
  | .g1 => S64x512
  | .h0 => S256x256
  | .h1 => S256x256
  | .h2 => S256x256
  | .h3 => S256x256
  | .xA => S64x512
  | .xB => S64x512
/-- The sending slots of a chain: two for a ring, one for the exchange. -/
abbrev st : (k : Ch) → Bool → Memref sig .tc .vmem (sh k) .f32
  | .a0, false => (Memref.whole cc0_scratch3).slice (Rect.unit (s := S2x256x256) ![0, 0, 0] S1x256x256.size inb_S2x256x256_S1x256x256_0_0_0) (fun _ => rfl)
  | .a0, true => (Memref.whole cc0_scratch3).slice (Rect.unit (s := S2x256x256) ![1, 0, 0] S1x256x256.size inb_S2x256x256_S1x256x256_1_0_0) (fun _ => rfl)
  | .a1, false => (Memref.whole cc0_scratch5).slice (Rect.unit (s := S2x256x256) ![0, 0, 0] S1x256x256.size inb_S2x256x256_S1x256x256_0_0_0) (fun _ => rfl)
  | .a1, true => (Memref.whole cc0_scratch5).slice (Rect.unit (s := S2x256x256) ![1, 0, 0] S1x256x256.size inb_S2x256x256_S1x256x256_1_0_0) (fun _ => rfl)
  | .a2, false => (Memref.whole cc0_scratch7).slice (Rect.unit (s := S2x256x256) ![0, 0, 0] S1x256x256.size inb_S2x256x256_S1x256x256_0_0_0) (fun _ => rfl)
  | .a2, true => (Memref.whole cc0_scratch7).slice (Rect.unit (s := S2x256x256) ![1, 0, 0] S1x256x256.size inb_S2x256x256_S1x256x256_1_0_0) (fun _ => rfl)
  | .a3, false => (Memref.whole cc0_scratch9).slice (Rect.unit (s := S2x256x256) ![0, 0, 0] S1x256x256.size inb_S2x256x256_S1x256x256_0_0_0) (fun _ => rfl)
  | .a3, true => (Memref.whole cc0_scratch9).slice (Rect.unit (s := S2x256x256) ![1, 0, 0] S1x256x256.size inb_S2x256x256_S1x256x256_1_0_0) (fun _ => rfl)
  | .b0, false => (Memref.whole cc0_scratch11).slice (Rect.unit (s := S2x64x512) ![0, 0, 0] S1x64x512.size inb_S2x64x512_S1x64x512_0_0_0) (fun _ => rfl)
  | .b0, true => (Memref.whole cc0_scratch11).slice (Rect.unit (s := S2x64x512) ![1, 0, 0] S1x64x512.size inb_S2x64x512_S1x64x512_1_0_0) (fun _ => rfl)
  | .b1, false => (Memref.whole cc0_scratch13).slice (Rect.unit (s := S2x64x512) ![0, 0, 0] S1x64x512.size inb_S2x64x512_S1x64x512_0_0_0) (fun _ => rfl)
  | .b1, true => (Memref.whole cc0_scratch13).slice (Rect.unit (s := S2x64x512) ![1, 0, 0] S1x64x512.size inb_S2x64x512_S1x64x512_1_0_0) (fun _ => rfl)
  | .g0, false => (Memref.whole cc0_scratch15).slice (Rect.unit (s := S2x64x512) ![0, 0, 0] S1x64x512.size inb_S2x64x512_S1x64x512_0_0_0) (fun _ => rfl)
  | .g0, true => (Memref.whole cc0_scratch15).slice (Rect.unit (s := S2x64x512) ![1, 0, 0] S1x64x512.size inb_S2x64x512_S1x64x512_1_0_0) (fun _ => rfl)
  | .g1, false => (Memref.whole cc0_scratch17).slice (Rect.unit (s := S2x64x512) ![0, 0, 0] S1x64x512.size inb_S2x64x512_S1x64x512_0_0_0) (fun _ => rfl)
  | .g1, true => (Memref.whole cc0_scratch17).slice (Rect.unit (s := S2x64x512) ![1, 0, 0] S1x64x512.size inb_S2x64x512_S1x64x512_1_0_0) (fun _ => rfl)
  | .h0, false => (Memref.whole cc0_scratch19).slice (Rect.unit (s := S2x256x256) ![0, 0, 0] S1x256x256.size inb_S2x256x256_S1x256x256_0_0_0) (fun _ => rfl)
  | .h0, true => (Memref.whole cc0_scratch19).slice (Rect.unit (s := S2x256x256) ![1, 0, 0] S1x256x256.size inb_S2x256x256_S1x256x256_1_0_0) (fun _ => rfl)
  | .h1, false => (Memref.whole cc0_scratch21).slice (Rect.unit (s := S2x256x256) ![0, 0, 0] S1x256x256.size inb_S2x256x256_S1x256x256_0_0_0) (fun _ => rfl)
  | .h1, true => (Memref.whole cc0_scratch21).slice (Rect.unit (s := S2x256x256) ![1, 0, 0] S1x256x256.size inb_S2x256x256_S1x256x256_1_0_0) (fun _ => rfl)
  | .h2, false => (Memref.whole cc0_scratch23).slice (Rect.unit (s := S2x256x256) ![0, 0, 0] S1x256x256.size inb_S2x256x256_S1x256x256_0_0_0) (fun _ => rfl)
  | .h2, true => (Memref.whole cc0_scratch23).slice (Rect.unit (s := S2x256x256) ![1, 0, 0] S1x256x256.size inb_S2x256x256_S1x256x256_1_0_0) (fun _ => rfl)
  | .h3, false => (Memref.whole cc0_scratch25).slice (Rect.unit (s := S2x256x256) ![0, 0, 0] S1x256x256.size inb_S2x256x256_S1x256x256_0_0_0) (fun _ => rfl)
  | .h3, true => (Memref.whole cc0_scratch25).slice (Rect.unit (s := S2x256x256) ![1, 0, 0] S1x256x256.size inb_S2x256x256_S1x256x256_1_0_0) (fun _ => rfl)
  | .xA, _ => Memref.whole cc0_scratch26
  | .xB, _ => Memref.whole cc0_scratch28
/-- The same slots at the shape a copy moves. -/
abbrev stq : (k : Ch) → Bool → Memref sig .tc .vmem (shq k) .f32
  | .a0, false => (st .a0 false).squeeze S256x256 squeezes_S1x256x256_S256x256
  | .a0, true => (st .a0 true).squeeze S256x256 squeezes_S1x256x256_S256x256
  | .a1, false => (st .a1 false).squeeze S256x256 squeezes_S1x256x256_S256x256
  | .a1, true => (st .a1 true).squeeze S256x256 squeezes_S1x256x256_S256x256
  | .a2, false => (st .a2 false).squeeze S256x256 squeezes_S1x256x256_S256x256
  | .a2, true => (st .a2 true).squeeze S256x256 squeezes_S1x256x256_S256x256
  | .a3, false => (st .a3 false).squeeze S256x256 squeezes_S1x256x256_S256x256
  | .a3, true => (st .a3 true).squeeze S256x256 squeezes_S1x256x256_S256x256
  | .b0, false => (st .b0 false).squeeze S64x512 squeezes_S1x64x512_S64x512
  | .b0, true => (st .b0 true).squeeze S64x512 squeezes_S1x64x512_S64x512
  | .b1, false => (st .b1 false).squeeze S64x512 squeezes_S1x64x512_S64x512
  | .b1, true => (st .b1 true).squeeze S64x512 squeezes_S1x64x512_S64x512
  | .g0, false => (st .g0 false).squeeze S64x512 squeezes_S1x64x512_S64x512
  | .g0, true => (st .g0 true).squeeze S64x512 squeezes_S1x64x512_S64x512
  | .g1, false => (st .g1 false).squeeze S64x512 squeezes_S1x64x512_S64x512
  | .g1, true => (st .g1 true).squeeze S64x512 squeezes_S1x64x512_S64x512
  | .h0, false => (st .h0 false).squeeze S256x256 squeezes_S1x256x256_S256x256
  | .h0, true => (st .h0 true).squeeze S256x256 squeezes_S1x256x256_S256x256
  | .h1, false => (st .h1 false).squeeze S256x256 squeezes_S1x256x256_S256x256
  | .h1, true => (st .h1 true).squeeze S256x256 squeezes_S1x256x256_S256x256
  | .h2, false => (st .h2 false).squeeze S256x256 squeezes_S1x256x256_S256x256
  | .h2, true => (st .h2 true).squeeze S256x256 squeezes_S1x256x256_S256x256
  | .h3, false => (st .h3 false).squeeze S256x256 squeezes_S1x256x256_S256x256
  | .h3, true => (st .h3 true).squeeze S256x256 squeezes_S1x256x256_S256x256
  | .xA, _ => st .xA false
  | .xB, _ => st .xB false
/-- The landing slots of a chain: two for a ring, one for the exchange. -/
abbrev cm : (k : Ch) → Bool → Memref sig .tc .vmem (sh k) .f32
  | .a0, false => (Memref.whole cc0_scratch2).slice (Rect.unit (s := S2x256x256) ![0, 0, 0] S1x256x256.size inb_S2x256x256_S1x256x256_0_0_0) (fun _ => rfl)
  | .a0, true => (Memref.whole cc0_scratch2).slice (Rect.unit (s := S2x256x256) ![1, 0, 0] S1x256x256.size inb_S2x256x256_S1x256x256_1_0_0) (fun _ => rfl)
  | .a1, false => (Memref.whole cc0_scratch4).slice (Rect.unit (s := S2x256x256) ![0, 0, 0] S1x256x256.size inb_S2x256x256_S1x256x256_0_0_0) (fun _ => rfl)
  | .a1, true => (Memref.whole cc0_scratch4).slice (Rect.unit (s := S2x256x256) ![1, 0, 0] S1x256x256.size inb_S2x256x256_S1x256x256_1_0_0) (fun _ => rfl)
  | .a2, false => (Memref.whole cc0_scratch6).slice (Rect.unit (s := S2x256x256) ![0, 0, 0] S1x256x256.size inb_S2x256x256_S1x256x256_0_0_0) (fun _ => rfl)
  | .a2, true => (Memref.whole cc0_scratch6).slice (Rect.unit (s := S2x256x256) ![1, 0, 0] S1x256x256.size inb_S2x256x256_S1x256x256_1_0_0) (fun _ => rfl)
  | .a3, false => (Memref.whole cc0_scratch8).slice (Rect.unit (s := S2x256x256) ![0, 0, 0] S1x256x256.size inb_S2x256x256_S1x256x256_0_0_0) (fun _ => rfl)
  | .a3, true => (Memref.whole cc0_scratch8).slice (Rect.unit (s := S2x256x256) ![1, 0, 0] S1x256x256.size inb_S2x256x256_S1x256x256_1_0_0) (fun _ => rfl)
  | .b0, false => (Memref.whole cc0_scratch10).slice (Rect.unit (s := S2x64x512) ![0, 0, 0] S1x64x512.size inb_S2x64x512_S1x64x512_0_0_0) (fun _ => rfl)
  | .b0, true => (Memref.whole cc0_scratch10).slice (Rect.unit (s := S2x64x512) ![1, 0, 0] S1x64x512.size inb_S2x64x512_S1x64x512_1_0_0) (fun _ => rfl)
  | .b1, false => (Memref.whole cc0_scratch12).slice (Rect.unit (s := S2x64x512) ![0, 0, 0] S1x64x512.size inb_S2x64x512_S1x64x512_0_0_0) (fun _ => rfl)
  | .b1, true => (Memref.whole cc0_scratch12).slice (Rect.unit (s := S2x64x512) ![1, 0, 0] S1x64x512.size inb_S2x64x512_S1x64x512_1_0_0) (fun _ => rfl)
  | .g0, false => (Memref.whole cc0_scratch14).slice (Rect.unit (s := S2x64x512) ![0, 0, 0] S1x64x512.size inb_S2x64x512_S1x64x512_0_0_0) (fun _ => rfl)
  | .g0, true => (Memref.whole cc0_scratch14).slice (Rect.unit (s := S2x64x512) ![1, 0, 0] S1x64x512.size inb_S2x64x512_S1x64x512_1_0_0) (fun _ => rfl)
  | .g1, false => (Memref.whole cc0_scratch16).slice (Rect.unit (s := S2x64x512) ![0, 0, 0] S1x64x512.size inb_S2x64x512_S1x64x512_0_0_0) (fun _ => rfl)
  | .g1, true => (Memref.whole cc0_scratch16).slice (Rect.unit (s := S2x64x512) ![1, 0, 0] S1x64x512.size inb_S2x64x512_S1x64x512_1_0_0) (fun _ => rfl)
  | .h0, false => (Memref.whole cc0_scratch18).slice (Rect.unit (s := S2x256x256) ![0, 0, 0] S1x256x256.size inb_S2x256x256_S1x256x256_0_0_0) (fun _ => rfl)
  | .h0, true => (Memref.whole cc0_scratch18).slice (Rect.unit (s := S2x256x256) ![1, 0, 0] S1x256x256.size inb_S2x256x256_S1x256x256_1_0_0) (fun _ => rfl)
  | .h1, false => (Memref.whole cc0_scratch20).slice (Rect.unit (s := S2x256x256) ![0, 0, 0] S1x256x256.size inb_S2x256x256_S1x256x256_0_0_0) (fun _ => rfl)
  | .h1, true => (Memref.whole cc0_scratch20).slice (Rect.unit (s := S2x256x256) ![1, 0, 0] S1x256x256.size inb_S2x256x256_S1x256x256_1_0_0) (fun _ => rfl)
  | .h2, false => (Memref.whole cc0_scratch22).slice (Rect.unit (s := S2x256x256) ![0, 0, 0] S1x256x256.size inb_S2x256x256_S1x256x256_0_0_0) (fun _ => rfl)
  | .h2, true => (Memref.whole cc0_scratch22).slice (Rect.unit (s := S2x256x256) ![1, 0, 0] S1x256x256.size inb_S2x256x256_S1x256x256_1_0_0) (fun _ => rfl)
  | .h3, false => (Memref.whole cc0_scratch24).slice (Rect.unit (s := S2x256x256) ![0, 0, 0] S1x256x256.size inb_S2x256x256_S1x256x256_0_0_0) (fun _ => rfl)
  | .h3, true => (Memref.whole cc0_scratch24).slice (Rect.unit (s := S2x256x256) ![1, 0, 0] S1x256x256.size inb_S2x256x256_S1x256x256_1_0_0) (fun _ => rfl)
  | .xA, _ => Memref.whole cc0_scratch27
  | .xB, _ => Memref.whole cc0_scratch29
/-- The same slots at the shape a copy moves. -/
abbrev cmq : (k : Ch) → Bool → Memref sig .tc .vmem (shq k) .f32
  | .a0, false => (cm .a0 false).squeeze S256x256 squeezes_S1x256x256_S256x256
  | .a0, true => (cm .a0 true).squeeze S256x256 squeezes_S1x256x256_S256x256
  | .a1, false => (cm .a1 false).squeeze S256x256 squeezes_S1x256x256_S256x256
  | .a1, true => (cm .a1 true).squeeze S256x256 squeezes_S1x256x256_S256x256
  | .a2, false => (cm .a2 false).squeeze S256x256 squeezes_S1x256x256_S256x256
  | .a2, true => (cm .a2 true).squeeze S256x256 squeezes_S1x256x256_S256x256
  | .a3, false => (cm .a3 false).squeeze S256x256 squeezes_S1x256x256_S256x256
  | .a3, true => (cm .a3 true).squeeze S256x256 squeezes_S1x256x256_S256x256
  | .b0, false => (cm .b0 false).squeeze S64x512 squeezes_S1x64x512_S64x512
  | .b0, true => (cm .b0 true).squeeze S64x512 squeezes_S1x64x512_S64x512
  | .b1, false => (cm .b1 false).squeeze S64x512 squeezes_S1x64x512_S64x512
  | .b1, true => (cm .b1 true).squeeze S64x512 squeezes_S1x64x512_S64x512
  | .g0, false => (cm .g0 false).squeeze S64x512 squeezes_S1x64x512_S64x512
  | .g0, true => (cm .g0 true).squeeze S64x512 squeezes_S1x64x512_S64x512
  | .g1, false => (cm .g1 false).squeeze S64x512 squeezes_S1x64x512_S64x512
  | .g1, true => (cm .g1 true).squeeze S64x512 squeezes_S1x64x512_S64x512
  | .h0, false => (cm .h0 false).squeeze S256x256 squeezes_S1x256x256_S256x256
  | .h0, true => (cm .h0 true).squeeze S256x256 squeezes_S1x256x256_S256x256
  | .h1, false => (cm .h1 false).squeeze S256x256 squeezes_S1x256x256_S256x256
  | .h1, true => (cm .h1 true).squeeze S256x256 squeezes_S1x256x256_S256x256
  | .h2, false => (cm .h2 false).squeeze S256x256 squeezes_S1x256x256_S256x256
  | .h2, true => (cm .h2 true).squeeze S256x256 squeezes_S1x256x256_S256x256
  | .h3, false => (cm .h3 false).squeeze S256x256 squeezes_S1x256x256_S256x256
  | .h3, true => (cm .h3 true).squeeze S256x256 squeezes_S1x256x256_S256x256
  | .xA, _ => cm .xA false
  | .xB, _ => cm .xB false

/-! ## Semaphores -/

/-- The first of a chain's DMA semaphores. -/
def base : Ch → ℕ
  | .a0 => 6
  | .a1 => 10
  | .a2 => 14
  | .a3 => 18
  | .b0 => 22
  | .b1 => 26
  | .g0 => 30
  | .g1 => 34
  | .h0 => 38
  | .h1 => 42
  | .h2 => 46
  | .h3 => 50
  | .xA => 54
  | .xB => 56
/-- The sending semaphore of a slot. -/
abbrev sndS : Ch → Bool → DmaSem sig
  | .a0, false => 6
  | .a0, true => 7
  | .a1, false => 10
  | .a1, true => 11
  | .a2, false => 14
  | .a2, true => 15
  | .a3, false => 18
  | .a3, true => 19
  | .b0, false => 22
  | .b0, true => 23
  | .b1, false => 26
  | .b1, true => 27
  | .g0, false => 30
  | .g0, true => 31
  | .g1, false => 34
  | .g1, true => 35
  | .h0, false => 38
  | .h0, true => 39
  | .h1, false => 42
  | .h1, true => 43
  | .h2, false => 46
  | .h2, true => 47
  | .h3, false => 50
  | .h3, true => 51
  | .xA, _ => 54
  | .xB, _ => 56
/-- The receiving semaphore of a slot. -/
abbrev rcvS : Ch → Bool → DmaSem sig
  | .a0, false => 8
  | .a0, true => 9
  | .a1, false => 12
  | .a1, true => 13
  | .a2, false => 16
  | .a2, true => 17
  | .a3, false => 20
  | .a3, true => 21
  | .b0, false => 24
  | .b0, true => 25
  | .b1, false => 28
  | .b1, true => 29
  | .g0, false => 32
  | .g0, true => 33
  | .g1, false => 36
  | .g1, true => 37
  | .h0, false => 40
  | .h0, true => 41
  | .h1, false => 44
  | .h1, true => 45
  | .h2, false => 48
  | .h2, true => 49
  | .h3, false => 52
  | .h3, true => 53
  | .xA, _ => 55
  | .xB, _ => 57
/-- The semaphore by which the receiver returns a slot. -/
abbrev crdS : Ch → SemLoc sig
  | .a0 => .reg 0
  | .a1 => .reg 1
  | .a2 => .reg 2
  | .a3 => .reg 3
  | .b0 => .reg 4
  | .b1 => .reg 5
  | .g0 => .reg 6
  | .g1 => .reg 7
  | .h0 => .reg 8
  | .h1 => .reg 9
  | .h2 => .reg 10
  | .h3 => .reg 11
  | .xA => .dma 55
  | .xB => .dma 57

/-- What a semaphore is for. -/
inductive Cell where
  | bar
  | snd (k : Ch) (s : Bool)
  | rcv (k : Ch) (s : Bool)
  | crd (k : Ch)
  | oth
  deriving DecidableEq

/-- What the DMA semaphore of a number is for. -/
def dmaCell : ℕ → Cell
  | 6 => .snd .a0 false
  | 7 => .snd .a0 true
  | 8 => .rcv .a0 false
  | 9 => .rcv .a0 true
  | 10 => .snd .a1 false
  | 11 => .snd .a1 true
  | 12 => .rcv .a1 false
  | 13 => .rcv .a1 true
  | 14 => .snd .a2 false
  | 15 => .snd .a2 true
  | 16 => .rcv .a2 false
  | 17 => .rcv .a2 true
  | 18 => .snd .a3 false
  | 19 => .snd .a3 true
  | 20 => .rcv .a3 false
  | 21 => .rcv .a3 true
  | 22 => .snd .b0 false
  | 23 => .snd .b0 true
  | 24 => .rcv .b0 false
  | 25 => .rcv .b0 true
  | 26 => .snd .b1 false
  | 27 => .snd .b1 true
  | 28 => .rcv .b1 false
  | 29 => .rcv .b1 true
  | 30 => .snd .g0 false
  | 31 => .snd .g0 true
  | 32 => .rcv .g0 false
  | 33 => .rcv .g0 true
  | 34 => .snd .g1 false
  | 35 => .snd .g1 true
  | 36 => .rcv .g1 false
  | 37 => .rcv .g1 true
  | 38 => .snd .h0 false
  | 39 => .snd .h0 true
  | 40 => .rcv .h0 false
  | 41 => .rcv .h0 true
  | 42 => .snd .h1 false
  | 43 => .snd .h1 true
  | 44 => .rcv .h1 false
  | 45 => .rcv .h1 true
  | 46 => .snd .h2 false
  | 47 => .snd .h2 true
  | 48 => .rcv .h2 false
  | 49 => .rcv .h2 true
  | 50 => .snd .h3 false
  | 51 => .snd .h3 true
  | 52 => .rcv .h3 false
  | 53 => .rcv .h3 true
  | 54 => .snd .xA false
  | 55 => .rcv .xA false
  | 56 => .snd .xB false
  | 57 => .rcv .xB false
  | _ => .oth
/-- What the regular semaphore of a number is for. -/
def regCell : ℕ → Cell
  | 0 => .crd .a0
  | 1 => .crd .a1
  | 2 => .crd .a2
  | 3 => .crd .a3
  | 4 => .crd .b0
  | 5 => .crd .b1
  | 6 => .crd .g0
  | 7 => .crd .g1
  | 8 => .crd .h0
  | 9 => .crd .h1
  | 10 => .crd .h2
  | 11 => .crd .h3
  | 12 => .bar
  | _ => .oth
/-- What a semaphore is for. -/
def dec : SemLoc sig → Cell
  | .dma i => dmaCell i.val
  | .reg i => regCell i.val

/-- The slot and the round of a chain's copy number `t`. -/
def slt (k : Ch) (t : ℕ) : Bool := ring k && t % 2 == 1
@[inherit_doc slt] def rnd (k : Ch) (t : ℕ) : ℕ := if ring k then t / 2 else t
/-- The number of the copy at a slot and round. -/
def num (s : Bool) (r : ℕ) : ℕ := 2 * r + s.toNat
/-- The number of rounds of a slot. -/
def rds : Ch → Bool → ℕ
  | .xA, _ | .xB, _ => 1
  | _, false => 2
  | _, true => 1
/-- The number of copies of a chain. -/
def cnt : Ch → ℕ
  | .xA | .xB => 1
  | _ => 3

theorem dec_snd (k : Ch) (t : ℕ) : dec (.dma (sndS k (slt k t))) = .snd k (slt k t) := by
  unfold slt; cases k <;> cases (t % 2 == 1) <;> rfl
theorem dec_rcv (k : Ch) (t : ℕ) : dec (.dma (rcvS k (slt k t))) = .rcv k (slt k t) := by
  unfold slt; cases k <;> cases (t % 2 == 1) <;> rfl
theorem dec_crd (k : Ch) (h : ring k = true) : dec (crdS k) = .crd k := by cases k <;> first | rfl | cases h
theorem num_slt (k : Ch) (t : ℕ) (h : t < cnt k) : num (slt k t) (rnd k t) = t := by
  cases k <;> (rcases t with _ | _ | _ | t) <;> first | rfl | exact absurd h (by simp only [cnt]; omega)
theorem rnd_lt (k : Ch) (t : ℕ) (h : t < cnt k) : rnd k t < rds k (slt k t) := by
  cases k <;> (rcases t with _ | _ | _ | t) <;> first | decide | exact absurd h (by simp only [cnt]; omega)

/-- The units a copy of a chain carries. -/
def amt (k : Ch) : ℕ := (cmq k false).view.dmaCredit
theorem amt_pos (k : Ch) : 0 < amt k := View.dmaCredit_pos _ (by cases k <;> decide)

/-- The barrier's semaphore. -/
abbrev barL : SemLoc sig := .reg 12

/-- The device that a device's `i`-th barrier signal goes to, and the device that signals with it. -/
def bTo : Fin 5 → Dev nD → Dev nD := ![yN, yP, zN, zP, xP]
@[inherit_doc bTo] def bFrom : Fin 5 → Dev nD → Dev nD := ![yP, yN, zP, zN, xP]
theorem bFrom_bTo (i : Fin 5) (c : Dev nD) : bFrom i (bTo i c) = c := by
  fin_cases i; exacts [yP_yN c, yN_yP c, zP_zN c, zN_zP c, xP_xP c]
theorem bTo_bFrom (i : Fin 5) (c : Dev nD) : bTo i (bFrom i c) = c := by
  fin_cases i; exacts [yN_yP c, yP_yN c, zN_zP c, zP_zN c, xP_xP c]

/-! ## The payments in program order -/

/-- A payment: a barrier signal, the landing of a copy, the return of a slot. -/
inductive Key where
  | bar (i : Fin 5)
  | snd (k : Ch) (t : ℕ)
  | crd (k : Ch)
  deriving DecidableEq

/-- The payments of a device in the order it makes them. -/
def keys : List Key :=
  [.bar 0, .bar 1, .bar 2, .bar 3, .bar 4, .snd .a0 0, .snd .a1 0, .snd .a2 0, .snd .a3 0, .snd .a0 1, .crd .a0, .snd .a1 1, .crd .a1, .snd .a2 1, .crd .a2, .snd .a3 1, .crd .a3, .snd .a0 2, .snd .a1 2, .snd .a2 2, .snd .a3 2, .snd .b0 0, .snd .b1 0, .snd .b0 1, .crd .b0, .snd .b1 1, .crd .b1, .snd .b0 2, .snd .b1 2, .snd .xA 0, .snd .xB 0, .snd .g0 0, .snd .g1 0, .snd .g0 1, .crd .g0, .snd .g1 1, .crd .g1, .snd .g0 2, .snd .g1 2, .snd .h0 0, .snd .h1 0, .snd .h2 0, .snd .h3 0, .snd .h0 1, .crd .h0, .snd .h1 1, .crd .h1, .snd .h2 1, .crd .h2, .snd .h3 1, .crd .h3, .snd .h0 2, .snd .h1 2, .snd .h2 2, .snd .h3 2]
/-- The level of a payment: one more than its place (one for the five barrier signals). -/
def ixS : Ch → ℕ → ℕ
  | .a0, 0 => 6
  | .a0, 1 => 10
  | .a0, _ => 18
  | .a1, 0 => 7
  | .a1, 1 => 12
  | .a1, _ => 19
  | .a2, 0 => 8
  | .a2, 1 => 14
  | .a2, _ => 20
  | .a3, 0 => 9
  | .a3, 1 => 16
  | .a3, _ => 21
  | .b0, 0 => 22
  | .b0, 1 => 24
  | .b0, _ => 28
  | .b1, 0 => 23
  | .b1, 1 => 26
  | .b1, _ => 29
  | .g0, 0 => 32
  | .g0, 1 => 34
  | .g0, _ => 38
  | .g1, 0 => 33
  | .g1, 1 => 36
  | .g1, _ => 39
  | .h0, 0 => 40
  | .h0, 1 => 44
  | .h0, _ => 52
  | .h1, 0 => 41
  | .h1, 1 => 46
  | .h1, _ => 53
  | .h2, 0 => 42
  | .h2, 1 => 48
  | .h2, _ => 54
  | .h3, 0 => 43
  | .h3, 1 => 50
  | .h3, _ => 55
  | .xA, _ => 30
  | .xB, _ => 31
@[inherit_doc ixS] def ixC : Ch → ℕ
  | .a0 => 11
  | .a1 => 13
  | .a2 => 15
  | .a3 => 17
  | .b0 => 25
  | .b1 => 27
  | .g0 => 35
  | .g1 => 37
  | .h0 => 45
  | .h1 => 47
  | .h2 => 49
  | .h3 => 51
  | _ => 0
@[inherit_doc ixS] def ix : Key → ℕ
  | .bar _ => 1
  | .snd k t => ixS k t
  | .crd k => ixC k
/-- All levels lie below this. -/
abbrev NL : ℕ := 60
theorem ix_lt : ∀ x ∈ keys, 0 < ix x ∧ ix x < NL := by decide

/-- Who is paid. -/
def tgt : Key → Dev nD → Dev nD
  | .bar i => bTo i
  | .snd k _ => nxt k
  | .crd k => prv k
/-- Who pays. -/
def src : Key → Dev nD → Dev nD
  | .bar i => bFrom i
  | .snd k _ => prv k
  | .crd k => nxt k
theorem src_tgt (x : Key) (c : Dev nD) : src x (tgt x c) = c := by
  cases x; exacts [bFrom_bTo _ c, prv_nxt _ c, nxt_prv _ c]
theorem tgt_src (x : Key) (c : Dev nD) : tgt x (src x c) = c := by
  cases x; exacts [bTo_bFrom _ c, nxt_prv _ c, prv_nxt _ c]

/-- On which semaphore. -/
def semOf : Key → SemLoc sig
  | .bar _ => barL
  | .snd k t => .dma (rcvS k (slt k t))
  | .crd k => crdS k
/-- How many units. -/
def unitsOf : Key → ℕ
  | .bar _ => 1
  | .snd k _ => amt k
  | .crd _ => 1

/-- The payment as device `d` receives it. -/
def cpay (d : Dev nD) (x : Key) : Pay nD τ sig := (((d : Thread nD τ), semOf x), ix x, unitsOf x)
/-- The payment as device `c` makes it. -/
def pay (c : Dev nD) (x : Key) : Pay nD τ sig := cpay (tgt x c) x
/-- What device `c` owes from its `n`-th payment on. -/
def due (c : Dev nD) (n : ℕ) : CellTallies nD τ sig ℕ := tallyL ((keys.drop n).map (pay c))

theorem drop_of (n : ℕ) {x : Key} (h : keys[n]? = some x) : keys.drop n = x :: keys.drop (n + 1) := by
  obtain ⟨hn, rfl⟩ := List.getElem?_eq_some_iff.mp h
  exact List.drop_eq_getElem_cons hn
/-- The next payment is the first of what is owed. -/
theorem due_step (c : Dev nD) (n : ℕ) {x : Key} (h : keys[n]? = some x) : due c n = due c (n + 1) + (pay c x).tally := by
  unfold due; rw [drop_of n h, List.map_cons, tallyL, add_comm]
/-- Nothing is owed after the last payment. -/
theorem due_end (c : Dev nD) : due c 55 = 0 := rfl

end Cert.KernelIdeal.Moe

end
-- ==== Proof.Sched.lean ====
/-
The rounds of every semaphore, what a device holds of a chain between its steps, and the rules of the steps.
-/
module

public import proofs.«01_k».proof.Proof.Proto

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok launchOf)
open Idealize.ShloMosaic.TalkSites Idealize.ShloMosaic.SiteBlocks

variable {F : FTy → Type} [FloatOps F]

/-! ## The algebra -/

abbrev UU : Type := UR sig nD τ × URounds (GSem nD τ sig) (Fin 5)

local notation "𝕄" => MT nD τ sig ℕ (Elt F) ℕ UU ℕ

abbrev EP : Emb (UR sig nD τ) (MT nD τ sig ℕ (Elt F) ℕ UU ℕ) := embL
abbrev ER : Emb (URounds (GSem nD τ sig) (Fin 5)) (MT nD τ sig ℕ (Elt F) ℕ UU ℕ) := embR

/-- The contents a chain's copies carry, by chain, sender and number of the copy. -/
abbrev EV (F : FTy → Type) [FloatOps F] : Type := ∀ k : Ch, Dev nD → ℕ → (sh k).Idx → Elt F .f32

/-- Device `c` owns a memref whole and reads `X` there. -/
abbrev own (c : Dev nD) {sp : Space} {s : Shape} {e : EltTy} (m : Memref sig .tc sp s e) (X : s.Idx → Elt F e) : sProp 𝕄 :=
  ownsTc c m fullShare X
/-- Device `c` owns a memref whole, whatever it reads. -/
abbrev ownA (c : Dev nD) {sp : Space} {s : Shape} {e : EltTy} (m : Memref sig .tc sp s e) : sProp 𝕄 := iprop(∃ X, own (F := F) c m X)

/-- The landing slots of a chain on device `n`. -/
def land (n : Dev nD) (k : Ch) : sProp 𝕄 :=
  if ring k then iprop(ownA (F := F) n (cm k false) ∗ ownA (F := F) n (cm k true)) else ownA (F := F) n (cm k false)

/-- Round 0 of a chain's receiving and returning semaphores on device `n` is reached. -/
def RZ (n : Dev nD) (k : Ch) : sProp 𝕄 :=
  iprop(reached (ER (F := F)) ((n : Thread nD τ), .dma (rcvS k false)) 0 ∗ reached (ER (F := F)) ((n : Thread nD τ), .dma (rcvS k true)) 0
    ∗ reached (ER (F := F)) ((n : Thread nD τ), crdS k) 0)
instance (n : Dev nD) (k : Ch) : BI.Persistent (RZ (F := F) n k) := by unfold RZ; infer_instance
instance (n : Dev nD) (k : Ch) : BI.Storable (upEmb : UEmb _ 𝕄) (RZ (F := F) n k) := by unfold RZ; infer_instance
instance (n : Dev nD) (k : Ch) : BI.Storable (upEmb : UEmb _ 𝕄) (land (F := F) n k) := by unfold land; split <;> infer_instance

/-- Round 0 is reached on device `n` for every chain. -/
def RA (n : Dev nD) : sProp 𝕄 := bigSep Finset.univ fun k : Ch => RZ (F := F) n k
instance (n : Dev nD) : BI.Persistent (RA (F := F) n) := by unfold RA; infer_instance
instance (n : Dev nD) : BI.Storable (upEmb : UEmb _ 𝕄) (RA (F := F) n) := by unfold RA; infer_instance
theorem RA_elim (n : Dev nD) (k : Ch) : RA (F := F) n ⊢ RZ (F := F) n k := bigSep_elim (Finset.mem_univ k)

/-- What a device's `i`-th barrier signal hands over: its landing slots, to the device that sends into them. -/
def barLand (n : Dev nD) : Fin 5 → sProp 𝕄 := ![iprop(emp),
  iprop(land (F := F) n .a0 ∗ land (F := F) n .a1 ∗ land (F := F) n .b1 ∗ land (F := F) n .g1 ∗ land (F := F) n .h0 ∗ land (F := F) n .h1), iprop(emp),
  iprop(land (F := F) n .a2 ∗ land (F := F) n .a3 ∗ land (F := F) n .b0 ∗ land (F := F) n .g0 ∗ land (F := F) n .h2 ∗ land (F := F) n .h3),
  iprop(land (F := F) n .xA ∗ land (F := F) n .xB)]
instance (n : Dev nD) (i : Fin 5) : BI.Storable (upEmb : UEmb _ 𝕄) (barLand (F := F) n i) := by
  fin_cases i <;> (unfold barLand; simp only [Fin.reduceFinMk, Matrix.cons_val]; infer_instance)
/-- The same with round 0 reached everywhere on the signalling device. -/
def barPay (n : Dev nD) (i : Fin 5) : sProp 𝕄 := iprop(RA (F := F) n ∗ barLand n i)
instance (n : Dev nD) (i : Fin 5) : BI.Storable (upEmb : UEmb _ 𝕄) (barPay (F := F) n i) := by unfold barPay; infer_instance

/-! ## The rounds -/

variable (V : EV F)

/-- The duties of a round. -/
def dutiesOf : Cell → ℕ → Finset (Fin 5)
  | .bar, r => if r = 0 then Finset.univ else ∅
  | .snd k s, r => if r < rds k s then {0} else ∅
  | .rcv k s, r => if r < rds k s then {0} else ∅
  | .crd _, r => if r = 0 then {0} else ∅
  | .oth, _ => ∅
/-- The units of a duty. -/
def amountOf : Cell → ℕ
  | .snd k _ | .rcv k _ => amt k
  | _ => 1
/-- What a duty hands over on device `c`. -/
def payOf (c : Dev nD) : Cell → ℕ → Fin 5 → sProp 𝕄
  | .bar, _, i => barPay (bFrom i c) i
  | .snd k s, r, _ => own c (st k s) (V k c (num s r))
  | .rcv k s, r, _ => own c (cm k s) (V k (prv k c) (num s r))
  | .crd k, _, _ => iprop(ownA (F := F) (nxt k c) (cm k false) ∗ reached (ER (F := F)) ((nxt k c : Thread nD τ), .dma (rcvS k false)) 1)
  | .oth, _, _ => iprop(emp)
instance (c : Dev nD) (x : Cell) (r : ℕ) (i : Fin 5) : BI.Storable (upEmb : UEmb _ 𝕄) (payOf V c x r i) := by
  cases x <;> (simp only [payOf]; infer_instance)

/-- The schedule. -/
def Rd : Schedule (GSem nD τ sig) (Fin 5) 𝕄 where
  duties g r := dutiesOf (dec g.2) r
  amount g _ _ := amountOf (dec g.2)
  payload g r d := payOf V g.1.1 (dec g.2) r d
  amount_pos g r d _ := by
    generalize dec g.2 = x
    cases x <;> first | exact amt_pos _ | exact Nat.one_pos
instance (g : GSem nD τ sig) (r : ℕ) (d : Fin 5) : BI.Storable (upEmb : UEmb _ 𝕄) ((Rd V).payload g r d) := by
  unfold Rd; infer_instance

/-! ## The cells and the tokens -/

/-- The kinds of tokens of a chain: three sends, three landings, one return. -/
inductive TK where
  | snd (t : Fin 3)
  | rcv (t : Fin 3)
  | crd
  deriving DecidableEq
instance : Fintype TK := ⟨⟨([.snd 0, .snd 1, .snd 2, .rcv 0, .rcv 1, .rcv 2, .crd] : List TK), by decide⟩, fun k => by
  cases k <;> first | decide | (rename_i t; fin_cases t <;> decide)⟩

/-- The cell, round and duty of a token that device `c` pays. -/
def tokOf (c : Dev nD) : Fin 5 ⊕ Ch × TK → GSem nD τ sig × ℕ × Fin 5
  | .inl i => (((bTo i c : Thread nD τ), barL), 0, i)
  | .inr (k, .snd t) => (((c : Thread nD τ), .dma (sndS k (slt k t))), rnd k t, 0)
  | .inr (k, .rcv t) => (((nxt k c : Thread nD τ), .dma (rcvS k (slt k t))), rnd k t, 0)
  | .inr (k, .crd) => if ring k then (((prv k c : Thread nD τ), crdS k), 0, 0) else (((c : Thread nD τ), .dma (sndS k false)), 7, 0)

/-- Which token it is, from the cell, round and duty. -/
def tokKind (x : GSem nD τ sig × ℕ × Fin 5) : Fin 5 ⊕ Ch × TK :=
  match dec x.1.2 with
  | .bar => .inl x.2.2
  | .snd k s => if x.2.1 = 7 then .inr (k, .crd) else .inr (k, .snd (if ring k then ⟨(2 * x.2.1 + s.toNat) % 3, Nat.mod_lt _ (by decide)⟩ else ⟨x.2.1 % 3, Nat.mod_lt _ (by decide)⟩))
  | .rcv k s => .inr (k, .rcv (if ring k then ⟨(2 * x.2.1 + s.toNat) % 3, Nat.mod_lt _ (by decide)⟩ else ⟨x.2.1 % 3, Nat.mod_lt _ (by decide)⟩))
  | .crd k => .inr (k, .crd)
  | .oth => .inl 0
/-- Who pays it. -/
def tokPayer (x : GSem nD τ sig × ℕ × Fin 5) : Dev nD :=
  match dec x.1.2 with
  | .bar => bFrom x.2.2 x.1.1.1
  | .rcv k _ => prv k x.1.1.1
  | .crd k => nxt k x.1.1.1
  | _ => x.1.1.1

theorem tokKind_of (c : Dev nD) (y : Fin 5 ⊕ Ch × TK) : tokKind (tokOf c y) = y := by
  rcases y with i | ⟨k, t | t | _⟩
  · rfl
  · fin_cases t <;> cases k <;> rfl
  · fin_cases t <;> cases k <;> rfl
  · cases k <;> rfl
theorem tokPayer_of (c : Dev nD) (y : Fin 5 ⊕ Ch × TK) : tokPayer (tokOf c y) = c := by
  rcases y with i | ⟨k, t | t | _⟩
  · exact bFrom_bTo i c
  · fin_cases t <;> cases k <;> rfl
  · have h : tokPayer (tokOf c (.inr (k, .rcv t))) = prv k (nxt k c) := by fin_cases t <;> cases k <;> rfl
    rw [h, prv_nxt]
  · have h : tokPayer (tokOf c (.inr (k, .crd))) = if ring k then nxt k (prv k c) else c := by cases k <;> rfl
    rw [h, nxt_prv, ite_self]
/-- The tokens of device `c`. -/
def tokE (c : Dev nD) : (Fin 5 ⊕ Ch × TK) ↪ GSem nD τ sig × ℕ × Fin 5 :=
  ⟨tokOf c, fun a b h => by rw [← tokKind_of c a, h, tokKind_of]⟩

/-- The kernel's own semaphores, without the barrier's. -/
def dorms : Finset (SemLoc sig) := ((Finset.univ.filter fun i : Fin 58 => 6 ≤ i.val).map ⟨fun i => (SemLoc.dma (i : DmaSem sig) : SemLoc sig), fun a b h => by injection h⟩)
  ∪ ((Finset.univ.filter fun i : Fin 13 => i.val < 12).map ⟨fun i => (SemLoc.reg (i : Sem sig) : SemLoc sig), fun a b h => by injection h⟩)

/-- The cells and tokens of the launch. -/
def Fm : Fam nD τ sig (Fin 5) 1 where
  bar := barL
  dorm _ := dorms
  toks c _ := Finset.univ.map (tokE c)
  semKey _ := 0
  hsem j _ _ := (Subsingleton.elim _ _)
  hbar _ := by decide
  tokKey x := (tokPayer x, 0)
  htok c j x hx := by
    obtain ⟨y, -, rfl⟩ := Finset.mem_map.mp hx
    exact Prod.ext (tokPayer_of c y) (Subsingleton.elim _ _)

theorem mem_snd (k : Ch) (s : Bool) : (.dma (sndS k s) : SemLoc sig) ∈ dorms := by cases k <;> cases s <;> decide
theorem mem_rcv (k : Ch) (s : Bool) : (.dma (rcvS k s) : SemLoc sig) ∈ dorms := by cases k <;> cases s <;> decide
theorem mem_crd (k : Ch) : (crdS k : SemLoc sig) ∈ dorms := by cases k <;> decide

/-- What every device keeps knowing: the invariants of all cells, at some names, and the levels. -/
def Pers : sProp 𝕄 := iprop((∃ κ, Fm.cellInvs (ER (F := F)) (Rd V) κ) ∗ levAts (L NL) lv)
instance : BI.Persistent (Pers V) := by unfold Pers; infer_instance

end Cert.KernelIdeal.Moe

end
-- ==== Proof.Slots.lean ====
/-
A slot of a chain, at its own shape and at the shape a copy moves.
-/
module

public import proofs.«01_k».proof.Proof.Sched

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok launchOf)
open Idealize.ShloMosaic.TalkSites Idealize.ShloMosaic.SiteBlocks

variable {F : FTy → Type} [FloatOps F]

local notation "𝕄" => MT nD τ sig ℕ (Elt F) ℕ UU ℕ

/-! ## A slot at the shape a copy moves -/

theorem sq_out (c : Dev nD) {s s' : Shape} {e : EltTy} (m : Memref sig .tc .vmem s e) (h : s.Squeezes s') (X : s.Idx → Elt F e) :
    own c m X ⊢ (iprop(∃ f, ⌜(m.squeeze s' h).view.read (Elt F) f = fun i => X (Shape.reshapeEquiv h.numel_eq i)⌝
      ∗ ((m.squeeze s' h).view.loc (c : Thread nD τ) ↦[(m.squeeze s' h).view.set]{fullShare} f)) : sProp 𝕄) := by
  unfold own ownsTc owns
  rw [show (m.squeeze s' h).view.set = m.view.set from View.set_reshape _ _]
  iintro ⟨%f, %hf, H⟩
  iexists f
  isplitr; · ipureintro; subst hf; rfl
  iexact H
theorem sq_in (c : Dev nD) {s s' : Shape} {e : EltTy} (m : Memref sig .tc .vmem s e) (h : s.Squeezes s') {X : s.Idx → Elt F e}
    (f : (m.squeeze s' h).view.ty.Contents (Elt F)) (hX : (m.squeeze s' h).view.read (Elt F) f = fun i => X (Shape.reshapeEquiv h.numel_eq i)) :
    ((m.squeeze s' h).view.loc (c : Thread nD τ) ↦[(m.squeeze s' h).view.set]{fullShare} f) ⊢ (own c m X : sProp 𝕄) := by
  rw [show (m.squeeze s' h).view.set = m.view.set from View.set_reshape _ _]
  have hX' : m.view.read (Elt F) f = X := by
    funext i
    have := congrFun hX ((Shape.reshapeEquiv h.numel_eq).symm i)
    change m.view.read (Elt F) f (Shape.reshapeEquiv h.numel_eq ((Shape.reshapeEquiv h.numel_eq).symm i)) = _ at this
    rwa [Equiv.apply_symm_apply] at this
  rw [← hX']
  exact owns_intro (c : Thread nD τ) m fullShare f

/-- What a slot holds, at the shape a copy moves. -/
def qv : (k : Ch) → ((sh k).Idx → Elt F .f32) → (shq k).Idx → Elt F .f32
  | .xA | .xB => fun X => X
  | .a0 | .a1 | .a2 | .a3 | .h0 | .h1 | .h2 | .h3 => fun X i => X (Shape.reshapeEquiv squeezes_S1x256x256_S256x256.numel_eq i)
  | .b0 | .b1 | .g0 | .g1 => fun X i => X (Shape.reshapeEquiv squeezes_S1x64x512_S64x512.numel_eq i)

theorem nq_out (c : Dev nD) {s : Shape} {e : EltTy} (m : Memref sig .tc .vmem s e) (X : s.Idx → Elt F e) :
    own c m X ⊢ (iprop(∃ f, ⌜m.view.read (Elt F) f = X⌝ ∗ (m.view.loc (c : Thread nD τ) ↦[m.view.set]{fullShare} f)) : sProp 𝕄) := .rfl
theorem nq_in (c : Dev nD) {s : Shape} {e : EltTy} (m : Memref sig .tc .vmem s e) {X : s.Idx → Elt F e}
    (f : m.view.ty.Contents (Elt F)) (hX : m.view.read (Elt F) f = X) :
    (m.view.loc (c : Thread nD τ) ↦[m.view.set]{fullShare} f) ⊢ (own c m X : sProp 𝕄) := by
  rw [← hX]; exact owns_intro (c : Thread nD τ) m fullShare f

variable (F) in
/-- A sending slot's contents, at the shape a copy moves. -/
def StOut (k : Ch) (s : Bool) : Prop := ∀ (c : Dev nD) (X : (sh k).Idx → Elt F .f32),
    (own c (st k s) X ⊢ (iprop(∃ f, ⌜(stq k s).view.read (Elt F) f = qv k X⌝ ∗ ((stq k s).view.loc (c : Thread nD τ) ↦[(stq k s).view.set]{fullShare} f)) : sProp 𝕄))
variable (F) in
/-- A sending slot, out of its contents at the shape a copy moves. -/
def StIn (k : Ch) (s : Bool) : Prop := ∀ (c : Dev nD) (X : (sh k).Idx → Elt F .f32) (f : (stq k s).view.ty.Contents (Elt F)),
    (stq k s).view.read (Elt F) f = qv k X →
    (((stq k s).view.loc (c : Thread nD τ) ↦[(stq k s).view.set]{fullShare} f) ⊢ (own c (st k s) X : sProp 𝕄))
theorem st_out_a0_false : StOut F .a0 false := by
  intro c X; exact sq_out (F := F) c (st .a0 false) squeezes_S1x256x256_S256x256 X
theorem st_in_a0_false : StIn F .a0 false := by
  intro c X f hX; exact sq_in (F := F) c (st .a0 false) squeezes_S1x256x256_S256x256 f hX
theorem st_out_a0_true : StOut F .a0 true := by
  intro c X; exact sq_out (F := F) c (st .a0 true) squeezes_S1x256x256_S256x256 X
theorem st_in_a0_true : StIn F .a0 true := by
  intro c X f hX; exact sq_in (F := F) c (st .a0 true) squeezes_S1x256x256_S256x256 f hX
theorem st_out_a1_false : StOut F .a1 false := by
  intro c X; exact sq_out (F := F) c (st .a1 false) squeezes_S1x256x256_S256x256 X
theorem st_in_a1_false : StIn F .a1 false := by
  intro c X f hX; exact sq_in (F := F) c (st .a1 false) squeezes_S1x256x256_S256x256 f hX
theorem st_out_a1_true : StOut F .a1 true := by
  intro c X; exact sq_out (F := F) c (st .a1 true) squeezes_S1x256x256_S256x256 X
theorem st_in_a1_true : StIn F .a1 true := by
  intro c X f hX; exact sq_in (F := F) c (st .a1 true) squeezes_S1x256x256_S256x256 f hX
theorem st_out_a2_false : StOut F .a2 false := by
  intro c X; exact sq_out (F := F) c (st .a2 false) squeezes_S1x256x256_S256x256 X
theorem st_in_a2_false : StIn F .a2 false := by
  intro c X f hX; exact sq_in (F := F) c (st .a2 false) squeezes_S1x256x256_S256x256 f hX
theorem st_out_a2_true : StOut F .a2 true := by
  intro c X; exact sq_out (F := F) c (st .a2 true) squeezes_S1x256x256_S256x256 X
theorem st_in_a2_true : StIn F .a2 true := by
  intro c X f hX; exact sq_in (F := F) c (st .a2 true) squeezes_S1x256x256_S256x256 f hX
theorem st_out_a3_false : StOut F .a3 false := by
  intro c X; exact sq_out (F := F) c (st .a3 false) squeezes_S1x256x256_S256x256 X
theorem st_in_a3_false : StIn F .a3 false := by
  intro c X f hX; exact sq_in (F := F) c (st .a3 false) squeezes_S1x256x256_S256x256 f hX
theorem st_out_a3_true : StOut F .a3 true := by
  intro c X; exact sq_out (F := F) c (st .a3 true) squeezes_S1x256x256_S256x256 X
theorem st_in_a3_true : StIn F .a3 true := by
  intro c X f hX; exact sq_in (F := F) c (st .a3 true) squeezes_S1x256x256_S256x256 f hX
theorem st_out_b0_false : StOut F .b0 false := by
  intro c X; exact sq_out (F := F) c (st .b0 false) squeezes_S1x64x512_S64x512 X
theorem st_in_b0_false : StIn F .b0 false := by
  intro c X f hX; exact sq_in (F := F) c (st .b0 false) squeezes_S1x64x512_S64x512 f hX
theorem st_out_b0_true : StOut F .b0 true := by
  intro c X; exact sq_out (F := F) c (st .b0 true) squeezes_S1x64x512_S64x512 X
theorem st_in_b0_true : StIn F .b0 true := by
  intro c X f hX; exact sq_in (F := F) c (st .b0 true) squeezes_S1x64x512_S64x512 f hX
theorem st_out_b1_false : StOut F .b1 false := by
  intro c X; exact sq_out (F := F) c (st .b1 false) squeezes_S1x64x512_S64x512 X
theorem st_in_b1_false : StIn F .b1 false := by
  intro c X f hX; exact sq_in (F := F) c (st .b1 false) squeezes_S1x64x512_S64x512 f hX
theorem st_out_b1_true : StOut F .b1 true := by
  intro c X; exact sq_out (F := F) c (st .b1 true) squeezes_S1x64x512_S64x512 X
theorem st_in_b1_true : StIn F .b1 true := by
  intro c X f hX; exact sq_in (F := F) c (st .b1 true) squeezes_S1x64x512_S64x512 f hX
theorem st_out_g0_false : StOut F .g0 false := by
  intro c X; exact sq_out (F := F) c (st .g0 false) squeezes_S1x64x512_S64x512 X
theorem st_in_g0_false : StIn F .g0 false := by
  intro c X f hX; exact sq_in (F := F) c (st .g0 false) squeezes_S1x64x512_S64x512 f hX
theorem st_out_g0_true : StOut F .g0 true := by
  intro c X; exact sq_out (F := F) c (st .g0 true) squeezes_S1x64x512_S64x512 X
theorem st_in_g0_true : StIn F .g0 true := by
  intro c X f hX; exact sq_in (F := F) c (st .g0 true) squeezes_S1x64x512_S64x512 f hX
theorem st_out_g1_false : StOut F .g1 false := by
  intro c X; exact sq_out (F := F) c (st .g1 false) squeezes_S1x64x512_S64x512 X
theorem st_in_g1_false : StIn F .g1 false := by
  intro c X f hX; exact sq_in (F := F) c (st .g1 false) squeezes_S1x64x512_S64x512 f hX
theorem st_out_g1_true : StOut F .g1 true := by
  intro c X; exact sq_out (F := F) c (st .g1 true) squeezes_S1x64x512_S64x512 X
theorem st_in_g1_true : StIn F .g1 true := by
  intro c X f hX; exact sq_in (F := F) c (st .g1 true) squeezes_S1x64x512_S64x512 f hX
theorem st_out_h0_false : StOut F .h0 false := by
  intro c X; exact sq_out (F := F) c (st .h0 false) squeezes_S1x256x256_S256x256 X
theorem st_in_h0_false : StIn F .h0 false := by
  intro c X f hX; exact sq_in (F := F) c (st .h0 false) squeezes_S1x256x256_S256x256 f hX
theorem st_out_h0_true : StOut F .h0 true := by
  intro c X; exact sq_out (F := F) c (st .h0 true) squeezes_S1x256x256_S256x256 X
theorem st_in_h0_true : StIn F .h0 true := by
  intro c X f hX; exact sq_in (F := F) c (st .h0 true) squeezes_S1x256x256_S256x256 f hX
theorem st_out_h1_false : StOut F .h1 false := by
  intro c X; exact sq_out (F := F) c (st .h1 false) squeezes_S1x256x256_S256x256 X
theorem st_in_h1_false : StIn F .h1 false := by
  intro c X f hX; exact sq_in (F := F) c (st .h1 false) squeezes_S1x256x256_S256x256 f hX
theorem st_out_h1_true : StOut F .h1 true := by
  intro c X; exact sq_out (F := F) c (st .h1 true) squeezes_S1x256x256_S256x256 X
theorem st_in_h1_true : StIn F .h1 true := by
  intro c X f hX; exact sq_in (F := F) c (st .h1 true) squeezes_S1x256x256_S256x256 f hX
theorem st_out_h2_false : StOut F .h2 false := by
  intro c X; exact sq_out (F := F) c (st .h2 false) squeezes_S1x256x256_S256x256 X
theorem st_in_h2_false : StIn F .h2 false := by
  intro c X f hX; exact sq_in (F := F) c (st .h2 false) squeezes_S1x256x256_S256x256 f hX
theorem st_out_h2_true : StOut F .h2 true := by
  intro c X; exact sq_out (F := F) c (st .h2 true) squeezes_S1x256x256_S256x256 X
theorem st_in_h2_true : StIn F .h2 true := by
  intro c X f hX; exact sq_in (F := F) c (st .h2 true) squeezes_S1x256x256_S256x256 f hX
theorem st_out_h3_false : StOut F .h3 false := by
  intro c X; exact sq_out (F := F) c (st .h3 false) squeezes_S1x256x256_S256x256 X
theorem st_in_h3_false : StIn F .h3 false := by
  intro c X f hX; exact sq_in (F := F) c (st .h3 false) squeezes_S1x256x256_S256x256 f hX
theorem st_out_h3_true : StOut F .h3 true := by
  intro c X; exact sq_out (F := F) c (st .h3 true) squeezes_S1x256x256_S256x256 X
theorem st_in_h3_true : StIn F .h3 true := by
  intro c X f hX; exact sq_in (F := F) c (st .h3 true) squeezes_S1x256x256_S256x256 f hX
theorem st_out_xA_false : StOut F .xA false := by
  intro c X; exact nq_out (F := F) c (st .xA false) X
theorem st_in_xA_false : StIn F .xA false := by
  intro c X f hX; exact nq_in (F := F) c (st .xA false) f hX
theorem st_out_xA_true : StOut F .xA true := by
  intro c X; exact nq_out (F := F) c (st .xA true) X
theorem st_in_xA_true : StIn F .xA true := by
  intro c X f hX; exact nq_in (F := F) c (st .xA true) f hX
theorem st_out_xB_false : StOut F .xB false := by
  intro c X; exact nq_out (F := F) c (st .xB false) X
theorem st_in_xB_false : StIn F .xB false := by
  intro c X f hX; exact nq_in (F := F) c (st .xB false) f hX
theorem st_out_xB_true : StOut F .xB true := by
  intro c X; exact nq_out (F := F) c (st .xB true) X
theorem st_in_xB_true : StIn F .xB true := by
  intro c X f hX; exact nq_in (F := F) c (st .xB true) f hX
theorem st_out_all : (k : Ch) → (s : Bool) → StOut F k s
  | .a0, .false => st_out_a0_false
  | .a0, .true => st_out_a0_true
  | .a1, .false => st_out_a1_false
  | .a1, .true => st_out_a1_true
  | .a2, .false => st_out_a2_false
  | .a2, .true => st_out_a2_true
  | .a3, .false => st_out_a3_false
  | .a3, .true => st_out_a3_true
  | .b0, .false => st_out_b0_false
  | .b0, .true => st_out_b0_true
  | .b1, .false => st_out_b1_false
  | .b1, .true => st_out_b1_true
  | .g0, .false => st_out_g0_false
  | .g0, .true => st_out_g0_true
  | .g1, .false => st_out_g1_false
  | .g1, .true => st_out_g1_true
  | .h0, .false => st_out_h0_false
  | .h0, .true => st_out_h0_true
  | .h1, .false => st_out_h1_false
  | .h1, .true => st_out_h1_true
  | .h2, .false => st_out_h2_false
  | .h2, .true => st_out_h2_true
  | .h3, .false => st_out_h3_false
  | .h3, .true => st_out_h3_true
  | .xA, .false => st_out_xA_false
  | .xA, .true => st_out_xA_true
  | .xB, .false => st_out_xB_false
  | .xB, .true => st_out_xB_true
theorem st_in_all : (k : Ch) → (s : Bool) → StIn F k s
  | .a0, .false => st_in_a0_false
  | .a0, .true => st_in_a0_true
  | .a1, .false => st_in_a1_false
  | .a1, .true => st_in_a1_true
  | .a2, .false => st_in_a2_false
  | .a2, .true => st_in_a2_true
  | .a3, .false => st_in_a3_false
  | .a3, .true => st_in_a3_true
  | .b0, .false => st_in_b0_false
  | .b0, .true => st_in_b0_true
  | .b1, .false => st_in_b1_false
  | .b1, .true => st_in_b1_true
  | .g0, .false => st_in_g0_false
  | .g0, .true => st_in_g0_true
  | .g1, .false => st_in_g1_false
  | .g1, .true => st_in_g1_true
  | .h0, .false => st_in_h0_false
  | .h0, .true => st_in_h0_true
  | .h1, .false => st_in_h1_false
  | .h1, .true => st_in_h1_true
  | .h2, .false => st_in_h2_false
  | .h2, .true => st_in_h2_true
  | .h3, .false => st_in_h3_false
  | .h3, .true => st_in_h3_true
  | .xA, .false => st_in_xA_false
  | .xA, .true => st_in_xA_true
  | .xB, .false => st_in_xB_false
  | .xB, .true => st_in_xB_true
theorem st_out (c : Dev nD) (k : Ch) (s : Bool) (X : (sh k).Idx → Elt F .f32) :
    (own c (st k s) X ⊢ (iprop(∃ f, ⌜(stq k s).view.read (Elt F) f = qv k X⌝ ∗ ((stq k s).view.loc (c : Thread nD τ) ↦[(stq k s).view.set]{fullShare} f)) : sProp 𝕄)) :=
  st_out_all (F := F) k s c X
theorem st_in (c : Dev nD) (k : Ch) (s : Bool) {X : (sh k).Idx → Elt F .f32} (f : (stq k s).view.ty.Contents (Elt F))
    (hX : (stq k s).view.read (Elt F) f = qv k X) :
    (((stq k s).view.loc (c : Thread nD τ) ↦[(stq k s).view.set]{fullShare} f) ⊢ (own c (st k s) X : sProp 𝕄)) :=
  st_in_all (F := F) k s c X f hX

variable (F) in
/-- A landing slot's contents, at the shape a copy moves. -/
def CmOut (k : Ch) (s : Bool) : Prop := ∀ (c : Dev nD) (X : (sh k).Idx → Elt F .f32),
    (own c (cm k s) X ⊢ (iprop(∃ f, ⌜(cmq k s).view.read (Elt F) f = qv k X⌝ ∗ ((cmq k s).view.loc (c : Thread nD τ) ↦[(cmq k s).view.set]{fullShare} f)) : sProp 𝕄))
variable (F) in
/-- A landing slot, out of its contents at the shape a copy moves. -/
def CmIn (k : Ch) (s : Bool) : Prop := ∀ (c : Dev nD) (X : (sh k).Idx → Elt F .f32) (f : (cmq k s).view.ty.Contents (Elt F)),
    (cmq k s).view.read (Elt F) f = qv k X →
    (((cmq k s).view.loc (c : Thread nD τ) ↦[(cmq k s).view.set]{fullShare} f) ⊢ (own c (cm k s) X : sProp 𝕄))
theorem cm_out_a0_false : CmOut F .a0 false := by
  intro c X; exact sq_out (F := F) c (cm .a0 false) squeezes_S1x256x256_S256x256 X
theorem cm_in_a0_false : CmIn F .a0 false := by
  intro c X f hX; exact sq_in (F := F) c (cm .a0 false) squeezes_S1x256x256_S256x256 f hX
theorem cm_out_a0_true : CmOut F .a0 true := by
  intro c X; exact sq_out (F := F) c (cm .a0 true) squeezes_S1x256x256_S256x256 X
theorem cm_in_a0_true : CmIn F .a0 true := by
  intro c X f hX; exact sq_in (F := F) c (cm .a0 true) squeezes_S1x256x256_S256x256 f hX
theorem cm_out_a1_false : CmOut F .a1 false := by
  intro c X; exact sq_out (F := F) c (cm .a1 false) squeezes_S1x256x256_S256x256 X
theorem cm_in_a1_false : CmIn F .a1 false := by
  intro c X f hX; exact sq_in (F := F) c (cm .a1 false) squeezes_S1x256x256_S256x256 f hX
theorem cm_out_a1_true : CmOut F .a1 true := by
  intro c X; exact sq_out (F := F) c (cm .a1 true) squeezes_S1x256x256_S256x256 X
theorem cm_in_a1_true : CmIn F .a1 true := by
  intro c X f hX; exact sq_in (F := F) c (cm .a1 true) squeezes_S1x256x256_S256x256 f hX
theorem cm_out_a2_false : CmOut F .a2 false := by
  intro c X; exact sq_out (F := F) c (cm .a2 false) squeezes_S1x256x256_S256x256 X
theorem cm_in_a2_false : CmIn F .a2 false := by
  intro c X f hX; exact sq_in (F := F) c (cm .a2 false) squeezes_S1x256x256_S256x256 f hX
theorem cm_out_a2_true : CmOut F .a2 true := by
  intro c X; exact sq_out (F := F) c (cm .a2 true) squeezes_S1x256x256_S256x256 X
theorem cm_in_a2_true : CmIn F .a2 true := by
  intro c X f hX; exact sq_in (F := F) c (cm .a2 true) squeezes_S1x256x256_S256x256 f hX
theorem cm_out_a3_false : CmOut F .a3 false := by
  intro c X; exact sq_out (F := F) c (cm .a3 false) squeezes_S1x256x256_S256x256 X
theorem cm_in_a3_false : CmIn F .a3 false := by
  intro c X f hX; exact sq_in (F := F) c (cm .a3 false) squeezes_S1x256x256_S256x256 f hX
theorem cm_out_a3_true : CmOut F .a3 true := by
  intro c X; exact sq_out (F := F) c (cm .a3 true) squeezes_S1x256x256_S256x256 X
theorem cm_in_a3_true : CmIn F .a3 true := by
  intro c X f hX; exact sq_in (F := F) c (cm .a3 true) squeezes_S1x256x256_S256x256 f hX
theorem cm_out_b0_false : CmOut F .b0 false := by
  intro c X; exact sq_out (F := F) c (cm .b0 false) squeezes_S1x64x512_S64x512 X
theorem cm_in_b0_false : CmIn F .b0 false := by
  intro c X f hX; exact sq_in (F := F) c (cm .b0 false) squeezes_S1x64x512_S64x512 f hX
theorem cm_out_b0_true : CmOut F .b0 true := by
  intro c X; exact sq_out (F := F) c (cm .b0 true) squeezes_S1x64x512_S64x512 X
theorem cm_in_b0_true : CmIn F .b0 true := by
  intro c X f hX; exact sq_in (F := F) c (cm .b0 true) squeezes_S1x64x512_S64x512 f hX
theorem cm_out_b1_false : CmOut F .b1 false := by
  intro c X; exact sq_out (F := F) c (cm .b1 false) squeezes_S1x64x512_S64x512 X
theorem cm_in_b1_false : CmIn F .b1 false := by
  intro c X f hX; exact sq_in (F := F) c (cm .b1 false) squeezes_S1x64x512_S64x512 f hX
theorem cm_out_b1_true : CmOut F .b1 true := by
  intro c X; exact sq_out (F := F) c (cm .b1 true) squeezes_S1x64x512_S64x512 X
theorem cm_in_b1_true : CmIn F .b1 true := by
  intro c X f hX; exact sq_in (F := F) c (cm .b1 true) squeezes_S1x64x512_S64x512 f hX
theorem cm_out_g0_false : CmOut F .g0 false := by
  intro c X; exact sq_out (F := F) c (cm .g0 false) squeezes_S1x64x512_S64x512 X
theorem cm_in_g0_false : CmIn F .g0 false := by
  intro c X f hX; exact sq_in (F := F) c (cm .g0 false) squeezes_S1x64x512_S64x512 f hX
theorem cm_out_g0_true : CmOut F .g0 true := by
  intro c X; exact sq_out (F := F) c (cm .g0 true) squeezes_S1x64x512_S64x512 X
theorem cm_in_g0_true : CmIn F .g0 true := by
  intro c X f hX; exact sq_in (F := F) c (cm .g0 true) squeezes_S1x64x512_S64x512 f hX
theorem cm_out_g1_false : CmOut F .g1 false := by
  intro c X; exact sq_out (F := F) c (cm .g1 false) squeezes_S1x64x512_S64x512 X
theorem cm_in_g1_false : CmIn F .g1 false := by
  intro c X f hX; exact sq_in (F := F) c (cm .g1 false) squeezes_S1x64x512_S64x512 f hX
theorem cm_out_g1_true : CmOut F .g1 true := by
  intro c X; exact sq_out (F := F) c (cm .g1 true) squeezes_S1x64x512_S64x512 X
theorem cm_in_g1_true : CmIn F .g1 true := by
  intro c X f hX; exact sq_in (F := F) c (cm .g1 true) squeezes_S1x64x512_S64x512 f hX
theorem cm_out_h0_false : CmOut F .h0 false := by
  intro c X; exact sq_out (F := F) c (cm .h0 false) squeezes_S1x256x256_S256x256 X
theorem cm_in_h0_false : CmIn F .h0 false := by
  intro c X f hX; exact sq_in (F := F) c (cm .h0 false) squeezes_S1x256x256_S256x256 f hX
theorem cm_out_h0_true : CmOut F .h0 true := by
  intro c X; exact sq_out (F := F) c (cm .h0 true) squeezes_S1x256x256_S256x256 X
theorem cm_in_h0_true : CmIn F .h0 true := by
  intro c X f hX; exact sq_in (F := F) c (cm .h0 true) squeezes_S1x256x256_S256x256 f hX
theorem cm_out_h1_false : CmOut F .h1 false := by
  intro c X; exact sq_out (F := F) c (cm .h1 false) squeezes_S1x256x256_S256x256 X
theorem cm_in_h1_false : CmIn F .h1 false := by
  intro c X f hX; exact sq_in (F := F) c (cm .h1 false) squeezes_S1x256x256_S256x256 f hX
theorem cm_out_h1_true : CmOut F .h1 true := by
  intro c X; exact sq_out (F := F) c (cm .h1 true) squeezes_S1x256x256_S256x256 X
theorem cm_in_h1_true : CmIn F .h1 true := by
  intro c X f hX; exact sq_in (F := F) c (cm .h1 true) squeezes_S1x256x256_S256x256 f hX
theorem cm_out_h2_false : CmOut F .h2 false := by
  intro c X; exact sq_out (F := F) c (cm .h2 false) squeezes_S1x256x256_S256x256 X
theorem cm_in_h2_false : CmIn F .h2 false := by
  intro c X f hX; exact sq_in (F := F) c (cm .h2 false) squeezes_S1x256x256_S256x256 f hX
theorem cm_out_h2_true : CmOut F .h2 true := by
  intro c X; exact sq_out (F := F) c (cm .h2 true) squeezes_S1x256x256_S256x256 X
theorem cm_in_h2_true : CmIn F .h2 true := by
  intro c X f hX; exact sq_in (F := F) c (cm .h2 true) squeezes_S1x256x256_S256x256 f hX
theorem cm_out_h3_false : CmOut F .h3 false := by
  intro c X; exact sq_out (F := F) c (cm .h3 false) squeezes_S1x256x256_S256x256 X
theorem cm_in_h3_false : CmIn F .h3 false := by
  intro c X f hX; exact sq_in (F := F) c (cm .h3 false) squeezes_S1x256x256_S256x256 f hX
theorem cm_out_h3_true : CmOut F .h3 true := by
  intro c X; exact sq_out (F := F) c (cm .h3 true) squeezes_S1x256x256_S256x256 X
theorem cm_in_h3_true : CmIn F .h3 true := by
  intro c X f hX; exact sq_in (F := F) c (cm .h3 true) squeezes_S1x256x256_S256x256 f hX
theorem cm_out_xA_false : CmOut F .xA false := by
  intro c X; exact nq_out (F := F) c (cm .xA false) X
theorem cm_in_xA_false : CmIn F .xA false := by
  intro c X f hX; exact nq_in (F := F) c (cm .xA false) f hX
theorem cm_out_xA_true : CmOut F .xA true := by
  intro c X; exact nq_out (F := F) c (cm .xA true) X
theorem cm_in_xA_true : CmIn F .xA true := by
  intro c X f hX; exact nq_in (F := F) c (cm .xA true) f hX
theorem cm_out_xB_false : CmOut F .xB false := by
  intro c X; exact nq_out (F := F) c (cm .xB false) X
theorem cm_in_xB_false : CmIn F .xB false := by
  intro c X f hX; exact nq_in (F := F) c (cm .xB false) f hX
theorem cm_out_xB_true : CmOut F .xB true := by
  intro c X; exact nq_out (F := F) c (cm .xB true) X
theorem cm_in_xB_true : CmIn F .xB true := by
  intro c X f hX; exact nq_in (F := F) c (cm .xB true) f hX
theorem cm_out_all : (k : Ch) → (s : Bool) → CmOut F k s
  | .a0, .false => cm_out_a0_false
  | .a0, .true => cm_out_a0_true
  | .a1, .false => cm_out_a1_false
  | .a1, .true => cm_out_a1_true
  | .a2, .false => cm_out_a2_false
  | .a2, .true => cm_out_a2_true
  | .a3, .false => cm_out_a3_false
  | .a3, .true => cm_out_a3_true
  | .b0, .false => cm_out_b0_false
  | .b0, .true => cm_out_b0_true
  | .b1, .false => cm_out_b1_false
  | .b1, .true => cm_out_b1_true
  | .g0, .false => cm_out_g0_false
  | .g0, .true => cm_out_g0_true
  | .g1, .false => cm_out_g1_false
  | .g1, .true => cm_out_g1_true
  | .h0, .false => cm_out_h0_false
  | .h0, .true => cm_out_h0_true
  | .h1, .false => cm_out_h1_false
  | .h1, .true => cm_out_h1_true
  | .h2, .false => cm_out_h2_false
  | .h2, .true => cm_out_h2_true
  | .h3, .false => cm_out_h3_false
  | .h3, .true => cm_out_h3_true
  | .xA, .false => cm_out_xA_false
  | .xA, .true => cm_out_xA_true
  | .xB, .false => cm_out_xB_false
  | .xB, .true => cm_out_xB_true
theorem cm_in_all : (k : Ch) → (s : Bool) → CmIn F k s
  | .a0, .false => cm_in_a0_false
  | .a0, .true => cm_in_a0_true
  | .a1, .false => cm_in_a1_false
  | .a1, .true => cm_in_a1_true
  | .a2, .false => cm_in_a2_false
  | .a2, .true => cm_in_a2_true
  | .a3, .false => cm_in_a3_false
  | .a3, .true => cm_in_a3_true
  | .b0, .false => cm_in_b0_false
  | .b0, .true => cm_in_b0_true
  | .b1, .false => cm_in_b1_false
  | .b1, .true => cm_in_b1_true
  | .g0, .false => cm_in_g0_false
  | .g0, .true => cm_in_g0_true
  | .g1, .false => cm_in_g1_false
  | .g1, .true => cm_in_g1_true
  | .h0, .false => cm_in_h0_false
  | .h0, .true => cm_in_h0_true
  | .h1, .false => cm_in_h1_false
  | .h1, .true => cm_in_h1_true
  | .h2, .false => cm_in_h2_false
  | .h2, .true => cm_in_h2_true
  | .h3, .false => cm_in_h3_false
  | .h3, .true => cm_in_h3_true
  | .xA, .false => cm_in_xA_false
  | .xA, .true => cm_in_xA_true
  | .xB, .false => cm_in_xB_false
  | .xB, .true => cm_in_xB_true
theorem cm_out (c : Dev nD) (k : Ch) (s : Bool) (X : (sh k).Idx → Elt F .f32) :
    (own c (cm k s) X ⊢ (iprop(∃ f, ⌜(cmq k s).view.read (Elt F) f = qv k X⌝ ∗ ((cmq k s).view.loc (c : Thread nD τ) ↦[(cmq k s).view.set]{fullShare} f)) : sProp 𝕄)) :=
  cm_out_all (F := F) k s c X
theorem cm_in (c : Dev nD) (k : Ch) (s : Bool) {X : (sh k).Idx → Elt F .f32} (f : (cmq k s).view.ty.Contents (Elt F))
    (hX : (cmq k s).view.read (Elt F) f = qv k X) :
    (((cmq k s).view.loc (c : Thread nD τ) ↦[(cmq k s).view.set]{fullShare} f) ⊢ (own c (cm k s) X : sProp 𝕄)) :=
  cm_in_all (F := F) k s c X f hX

end Cert.KernelIdeal.Moe

end
-- ==== Proof.Rules.lean ====
/-
The rules of the steps of a chain, for every chain and copy at once.
-/
module

public import proofs.«01_k».proof.Proof.Slots

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok launchOf)
open Idealize.ShloMosaic.TalkSites Idealize.ShloMosaic.SiteBlocks

variable {F : FTy → Type} [FloatOps F]

local notation "𝕄" => MT nD τ sig ℕ (Elt F) ℕ UU ℕ

abbrev 𝒱₀ : Variants := Variants.none

/-- The weakest precondition of a piece of the kernel on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The cells of a chain on device `c`: sending, receiving, returning. -/
abbrev gS (c : Dev nD) (k : Ch) (s : Bool) : GSem nD τ sig := ((c : Thread nD τ), .dma (sndS k s))
@[inherit_doc gS] abbrev gR (c : Dev nD) (k : Ch) (s : Bool) : GSem nD τ sig := ((c : Thread nD τ), .dma (rcvS k s))
@[inherit_doc gS] abbrev gC (c : Dev nD) (k : Ch) : GSem nD τ sig := ((c : Thread nD τ), crdS k)
/-- The barrier's cell. -/
abbrev gB (c : Dev nD) : GSem nD τ sig := ((c : Thread nD τ), barL)

/-- Device `c` has `n` payments behind it. -/
def OwN (c : Dev nD) (n : ℕ) : sProp 𝕄 := iprop(∃ W, owes (c : Thread nD τ) (due c n) W)

/-- The position at a cell, the round reached. -/
def Pos (g : GSem nD τ sig) (r : ℕ) : sProp 𝕄 := iprop(atPos (ER (F := F)) g r ∅ 0 ∗ reached (ER (F := F)) g r)
/-- A copy is under way: the credit of its sending semaphore. -/
def Xc (c : Dev nD) (k : Ch) (s : Bool) : sProp 𝕄 := cred (tallyAt (gS c k s) 0 (amt k))
/-- The credit of a copy's landing, and of the slot's return. -/
def Kc (c : Dev nD) (k : Ch) (t : ℕ) : sProp 𝕄 := cred (tallyAt (gR c k (slt k t)) (ixS k t) (amt k))
@[inherit_doc Kc] def KC (c : Dev nD) (k : Ch) : sProp 𝕄 := cred (tallyAt (gC c k) (ixC k) 1)
/-- The tokens of a copy, and of the slot's return. -/
def Tc (c : Dev nD) (k : Ch) (t : ℕ) : sProp 𝕄 :=
  iprop(dutyTok (ER (F := F)) (gS c k (slt k t)) (rnd k t) 0 ∗ dutyTok (ER (F := F)) (gR (nxt k c) k (slt k t)) (rnd k t) 0)
@[inherit_doc Tc] def TC (c : Dev nD) (k : Ch) : sProp 𝕄 := dutyTok (ER (F := F)) (gC (prv k c) k) 0 0

variable (V : EV F)

/-! ## The invariants out of what is known -/

theorem inv_snd (c : Dev nD) (k : Ch) (s : Bool) : Pers V ⊢ (iprop(∃ κ, cellInv ER (Rd V) κ (gS c k s)) : sProp 𝕄) := by
  unfold Pers; iintro ⟨⟨%κ, H⟩, -⟩; iexists _; iapply (Fm.cellInvs_dorm ER (Rd V) κ c (j := 0) (mem_snd k s)); iexact H
theorem inv_rcv (c : Dev nD) (k : Ch) (s : Bool) : Pers V ⊢ (iprop(∃ κ, cellInv ER (Rd V) κ (gR c k s)) : sProp 𝕄) := by
  unfold Pers; iintro ⟨⟨%κ, H⟩, -⟩; iexists _; iapply (Fm.cellInvs_dorm ER (Rd V) κ c (j := 0) (mem_rcv k s)); iexact H
theorem inv_crd (c : Dev nD) (k : Ch) : Pers V ⊢ (iprop(∃ κ, cellInv ER (Rd V) κ (gC c k)) : sProp 𝕄) := by
  unfold Pers; iintro ⟨⟨%κ, H⟩, -⟩; iexists _; iapply (Fm.cellInvs_dorm ER (Rd V) κ c (j := 0) (mem_crd k)); iexact H
theorem inv_bar (c : Dev nD) : Pers V ⊢ (iprop(∃ κ, cellInv ER (Rd V) κ (gB c)) : sProp 𝕄) := by
  unfold Pers; iintro ⟨⟨%κ, H⟩, -⟩; iexists _; iapply (Fm.cellInvs_bar ER (Rd V) κ c); iexact H

/-- A wait at a level below all that is still owed. -/
theorem may (c : Dev nD) (sm : SemLoc sig) (n i : ℕ) (hi : i < NL) (h : ∀ x ∈ keys.drop n, i < ix x) :
    Pers V ⊢ (MayWait (c : Thread nD τ) sm i (due c n) : sProp 𝕄) := by
  have := mayWait_of (Val := Elt F) (U := UU) hi c sm (due c n) fun g j hj => by
    obtain ⟨y, hy, rfl, rfl⟩ := tallyL_pos hj
    obtain ⟨x, hx, rfl⟩ := List.mem_map.mp hy
    exact ⟨mem_L' rfl (ix_lt x (List.mem_of_mem_drop hx)).2, h x hx⟩
  unfold Pers; iintro ⟨-, H⟩; iapply this; iexact H

/-! ## The schedule at the cells -/

theorem duties_snd (c : Dev nD) (k : Ch) (t r : ℕ) : (Rd V).duties (gS c k (slt k t)) r = if r < rds k (slt k t) then {0} else ∅ := by
  change dutiesOf (dec _) r = _; rw [dec_snd]; rfl
theorem duties_rcv (c : Dev nD) (k : Ch) (t r : ℕ) : (Rd V).duties (gR c k (slt k t)) r = if r < rds k (slt k t) then {0} else ∅ := by
  change dutiesOf (dec _) r = _; rw [dec_rcv]; rfl
theorem amount_snd (c : Dev nD) (k : Ch) (t r : ℕ) (d : Fin 5) : (Rd V).amount (gS c k (slt k t)) r d = amt k := by
  change amountOf (dec _) = _; rw [dec_snd]; rfl
theorem amount_rcv (c : Dev nD) (k : Ch) (t r : ℕ) (d : Fin 5) : (Rd V).amount (gR c k (slt k t)) r d = amt k := by
  change amountOf (dec _) = _; rw [dec_rcv]; rfl
theorem payload_snd (c : Dev nD) (k : Ch) (t r : ℕ) (d : Fin 5) :
    (Rd V).payload (gS c k (slt k t)) r d = own c (st k (slt k t)) (V k c (num (slt k t) r)) := by
  change payOf V c (dec _) r d = _; rw [dec_snd]; rfl
theorem payload_rcv (c : Dev nD) (k : Ch) (t r : ℕ) (d : Fin 5) :
    (Rd V).payload (gR c k (slt k t)) r d = own c (cm k (slt k t)) (V k (prv k c) (num (slt k t) r)) := by
  change payOf V c (dec _) r d = _; rw [dec_rcv]; rfl

theorem amt_q (k : Ch) (s : Bool) : (cmq k s).view.dmaCredit = amt k := by cases k <;> cases s <;> rfl

/-! ## The rules -/

/-- Copy number `t` of chain `k` is started: the sending slot holds its contents, the landing slot on the next device is at
    hand. -/
theorem r_send (c : Dev nD) (k : Ch) (t : ℕ) (s : Bool) (hs : slt k t = s) (ρ : ℕ) (hρ : rnd k t = ρ) (ht : t < cnt k) (n : ℕ) (hk : keys[n]? = some (.snd k t))
    (c' : Dev nD) (hc : c' = nxt k c)
    {hsc : (cmq k s : Memref sig (Dev.tc c' : Thread nD τ).2.kind .vmem (shq k) .f32).view.ref.isScScratch = false}
    {hsrc : (stq k s).view.WordExact} {hdst : (cmq k s).view.WordExact}
    {hsem : DmaTarget.Typed .vmem (.dma (rcvS k s)) (.remote (Dev.tc c' : Thread nD τ) (cmq k s : Memref sig .tc .vmem (shq k) .f32) (.dma (sndS k s)) hsc)}
    {α : Type} {Q : α → sProp 𝕄} {kk : PUnit → Prog (TpuEff nD τ sig (Elt F) Λ₀ .tc) α} :
    iprop(Pers V ∗ OwN c n ∗ own c (st k s) (V k c t) ∗ ownA (F := F) (nxt k c) (cm k s) ∗ Tc c k t
        ∗ reached (ER (F := F)) (gS c k s) ρ ∗ reached (ER (F := F)) (gR (nxt k c) k s) ρ)
      ⊢ iprop(((Xc c k s ∗ OwN c (n + 1)) -∗ WP c (kk ⟨⟩) Q)
          -∗ WP c (.op (.enqueueDma (stq k s) (.remote (Dev.tc c' : Thread nD τ) (cmq k s) (.dma (sndS k s)) hsc) (.dma (rcvS k s)) hsrc hdst hsem) kk) Q) := by
  subst hc hs hρ
  unfold OwN Tc Xc
  iintro ⟨#HP, ⟨%W, HO⟩, Hst, ⟨%Y, Hcm⟩, ⟨Ht1, Ht2⟩, Hr1, Hr2⟩ Hk
  ihave H1 := (inv_snd V c k (slt k t)) $$ HP
  icases H1 with ⟨%κ₁, H1⟩
  ihave H2 := (inv_rcv V (nxt k c) k (slt k t)) $$ HP
  icases H2 with ⟨%κ₂, H2⟩
  ihave Hst := (st_out c k (slt k t) (V k c t)) $$ Hst
  icases Hst with ⟨%fs, %hfs, Hst⟩
  ihave Hcm := (cm_out (nxt k c) k (slt k t) Y) $$ Hcm
  icases Hcm with ⟨%fd, -, Hcm⟩
  iapply (Rounds.wp_send_pointsTo 𝒱₀ (ER (F := F)) (Rd V) (c : Thread nD τ) none (κ₁ := κ₁) (κ₂ := κ₂) (c' := (Dev.tc (nxt k c) : Thread nD τ))
    (src := stq k (slt k t)) (dst := (cmq k (slt k t) : Memref sig (Dev.tc (nxt k c) : Thread nD τ).2.kind .vmem (shq k) .f32))
    (r₁ := rnd k t) (r₂ := rnd k t) (d₁ := 0) (d₂ := 0) (fs := fs) (fd := fd)
    (by rw [duties_snd, if_pos (rnd_lt k t ht)]; exact Finset.mem_singleton_self _)
    (by rw [duties_rcv, if_pos (rnd_lt k t ht)]; exact Finset.mem_singleton_self _)
    (sem := .dma (rcvS k (slt k t))) (ixS k t) 0 (amt k) (amt_q k _) (amount_snd V c k t _ _) (amount_rcv V _ k t _ _) (due c (n + 1)) (due_step c n hk) (W := W)
    (by rw [payload_snd, num_slt k t ht]; exact st_in c k _ fs hfs)
    (by rw [payload_rcv, num_slt k t ht, prv_nxt]; exact cm_in (nxt k c) k _ _ ((View.read_write_univ (v := (cmq k (slt k t)).view) fd _).trans hfs))) $$ [H1 H2 Hst Hcm HO Ht1 Ht2 Hr1 Hr2]
  · isplitl [H1]; · iexact H1
    isplitl [H2]; · iexact H2
    isplitl [Hst]; · iexact Hst
    isplitl [Hcm]; · iexact Hcm
    isplitl [HO]; · iexact HO
    isplitl [Ht1]; · iexact Ht1
    isplitl [Hr1]; · iexact Hr1
    isplitl [Ht2]; · iexact Ht2
    iexact Hr2
  iintro ⟨HX, HO⟩
  iapply Hk
  isplitl [HX]; · iexact HX
  iexists W; iexact HO

/-- The sending slot of copy number `t` comes back. -/
theorem r_waitS (c : Dev nD) (k : Ch) (t : ℕ) (s : Bool) (hs : slt k t = s) (ρ : ℕ) (hρ : rnd k t = ρ) (ht : t < cnt k) (n : ℕ)
    {sp sp' : Space} {s₁ s₂ : Shape} {e₁ e₂ : EltTy} {src : Memref sig .tc sp' s₁ e₁} {dst : Memref sig .tc sp s₂ e₂}
    (ha : dst.view.dmaCredit = amt k) {h1 : src.view.WordExact} {h2 : dst.view.WordExact}
    {α : Type} {Q : α → sProp 𝕄} {kk : PUnit → Prog (TpuEff nD τ sig (Elt F) Λ₀ .tc) α} :
    iprop(Pers V ∗ OwN c n ∗ Xc c k s ∗ Pos (F := F) (gS c k s) ρ)
      ⊢ iprop(((OwN c n ∗ own c (st k s) (V k c t) ∗ Pos (F := F) (gS c k s) (ρ + 1)) -∗ WP c (kk ⟨⟩) Q)
          -∗ WP c (.op (.waitDma2 (sndS k s) src dst h1 h2) kk) Q) := by
  subst hs hρ
  have hw := wpE_waitDma2_eq (defs := defs₀ (F := F)) (Ix := ℕ) (Name := ℕ) (U := UU) (Lvl := ℕ) (sem := sndS k (slt k t)) (src := src) (dst := dst) (hsrc := h1) (hdst := h2) 𝒱₀ (c : Thread nD τ) none Set.univ
  rw [ha] at hw
  unfold OwN Xc Pos
  iintro ⟨#HP, ⟨%W, HO⟩, HX, ⟨Hat, -⟩⟩ Hk
  ihave H1 := (inv_snd V c k (slt k t)) $$ HP
  icases H1 with ⟨%κ, H1⟩
  ihave Hm := (may V c (.dma (sndS k (slt k t))) n 0 (by decide) fun x hx => (ix_lt x (List.mem_of_mem_drop hx)).1) $$ HP
  iapply (Rounds.wp_wait_rest_token 𝒱₀ (ER (F := F)) (Rd V) (c : Thread nD τ) none (κ := κ) hw (Set.mem_univ _) 0 (O := due c n) (W := W) (R := rnd k t) (m := 0) (T := ∅)
    (by unfold Schedule.expect Schedule.amountOf; rw [duties_snd, if_pos (rnd_lt k t ht), Finset.sum_singleton, amount_snd, Nat.zero_add])) $$ [H1 HX HO Hm Hat]
  · isplitl [H1]; · iexact H1
    isplitl [HX]; · iexact HX
    isplitl [HO]; · iexact HO
    isplitl [Hm]; · iexact Hm
    iexact Hat
  rw [duties_snd, if_pos (rnd_lt k t ht), Finset.sdiff_empty, bigSep_singleton, payload_snd, num_slt k t ht]
  iintro ⟨HO, Hat, Hr, Hpay⟩
  iapply Hk
  isplitl [HO]; · iexists _; iexact HO
  isplitl [Hpay]; · iexact Hpay
  isplitl [Hat]; · iexact Hat
  iexact Hr

/-- Copy number `t` of the device before has landed. -/
theorem r_waitR (c : Dev nD) (k : Ch) (t : ℕ) (s : Bool) (hs : slt k t = s) (ρ : ℕ) (hρ : rnd k t = ρ) (ht : t < cnt k) (n : ℕ) (hi : ∀ x ∈ keys.drop n, ixS k t < ix x) (hN : ixS k t < NL)
    {sp sp' : Space} {s₁ s₂ : Shape} {e₁ e₂ : EltTy} {src : Memref sig .tc sp' s₁ e₁} {dst : Memref sig .tc sp s₂ e₂}
    (ha : dst.view.dmaCredit = amt k) {h1 : src.view.WordExact} {h2 : dst.view.WordExact}
    {α : Type} {Q : α → sProp 𝕄} {kk : PUnit → Prog (TpuEff nD τ sig (Elt F) Λ₀ .tc) α} :
    iprop(Pers V ∗ OwN c n ∗ Kc c k t ∗ Pos (F := F) (gR c k s) ρ)
      ⊢ iprop(((OwN c n ∗ own c (cm k s) (V k (prv k c) t) ∗ Pos (F := F) (gR c k s) (ρ + 1)) -∗ WP c (kk ⟨⟩) Q)
          -∗ WP c (.op (.waitDma2 (rcvS k s) src dst h1 h2) kk) Q) := by
  subst hs hρ
  have hw := wpE_waitDma2_eq (defs := defs₀ (F := F)) (Ix := ℕ) (Name := ℕ) (U := UU) (Lvl := ℕ) (sem := rcvS k (slt k t)) (src := src) (dst := dst) (hsrc := h1) (hdst := h2) 𝒱₀ (c : Thread nD τ) none Set.univ
  rw [ha] at hw
  unfold OwN Kc Pos
  iintro ⟨#HP, ⟨%W, HO⟩, HX, ⟨Hat, -⟩⟩ Hk
  ihave H1 := (inv_rcv V c k (slt k t)) $$ HP
  icases H1 with ⟨%κ, H1⟩
  ihave Hm := (may V c (.dma (rcvS k (slt k t))) n (ixS k t) hN hi) $$ HP
  iapply (Rounds.wp_wait_rest_token 𝒱₀ (ER (F := F)) (Rd V) (c : Thread nD τ) none (κ := κ) hw (Set.mem_univ _) (ixS k t) (O := due c n) (W := W) (R := rnd k t) (m := 0) (T := ∅)
    (by unfold Schedule.expect Schedule.amountOf; rw [duties_rcv, if_pos (rnd_lt k t ht), Finset.sum_singleton, amount_rcv, Nat.zero_add])) $$ [H1 HX HO Hm Hat]
  · isplitl [H1]; · iexact H1
    isplitl [HX]; · iexact HX
    isplitl [HO]; · iexact HO
    isplitl [Hm]; · iexact Hm
    iexact Hat
  rw [duties_rcv, if_pos (rnd_lt k t ht), Finset.sdiff_empty, bigSep_singleton, payload_rcv, num_slt k t ht]
  iintro ⟨HO, Hat, Hr, Hpay⟩
  iapply Hk
  isplitl [HO]; · iexists _; iexact HO
  isplitl [Hpay]; · iexact Hpay
  isplitl [Hat]; · iexact Hat
  iexact Hr

theorem crd_reg (k : Ch) (hr : ring k = true) (i : Sem sig) (h : crdS k = .reg i) (c : Dev nD) (r : ℕ) :
    (Rd V).duties ((c : Thread nD τ), .reg i) r = (if r = 0 then {0} else ∅) ∧ (∀ r d, (Rd V).amount ((c : Thread nD τ), .reg i) r d = 1)
      ∧ ∀ r d, (Rd V).payload ((c : Thread nD τ), .reg i) r d = iprop(ownA (F := F) (nxt k c) (cm k false) ∗ reached (ER (F := F)) (gR (nxt k c) k false) 1) := by
  rw [← h]
  refine ⟨?_, fun r d => ?_, fun r d => ?_⟩
  · change dutiesOf (dec _) r = _; rw [dec_crd k hr]; rfl
  · change amountOf (dec _) = _; rw [dec_crd k hr]; rfl
  · change payOf V c (dec _) r d = _; rw [dec_crd k hr]; rfl

/-- A landing slot is returned to the device before. -/
theorem r_sigC (c : Dev nD) (k : Ch) (hr : ring k = true) (i : Sem sig) (hi : crdS k = .reg i) (n : ℕ) (hk : keys[n]? = some (.crd k))
    (c' : Dev nD) (hc : c' = prv k c) (X : (sh k).Idx → Elt F .f32)
    {α : Type} {Q : α → sProp 𝕄} {kk : PUnit → Prog (TpuEff nD τ sig (Elt F) Λ₀ .tc) α} :
    iprop(Pers V ∗ OwN c n ∗ own c (cm k false) X ∗ TC c k ∗ reached (ER (F := F)) (gC (prv k c) k) 0 ∗ reached (ER (F := F)) (gR c k false) 1)
      ⊢ iprop((OwN c (n + 1) -∗ WP c (kk ⟨⟩) Q) -∗ WP c (.op (.semSignal (Dev.tc c' : Thread nD τ) i 1) kk) Q) := by
  subst hc
  obtain ⟨h1, h2, h3⟩ := crd_reg V k hr i hi (prv k c) 0
  have hst := due_step c n hk
  change _ = _ + tallyAt ((prv k c : Thread nD τ), crdS k) (ixC k) 1 at hst
  rw [hi] at hst
  unfold OwN TC gC
  rw [hi]
  iintro ⟨#HP, ⟨%W, HO⟩, Hcm, Ht, Hr1, Hr2⟩ Hk
  ihave H1 := (inv_crd V (prv k c) k) $$ HP
  unfold gC; rw [hi]
  icases H1 with ⟨%κ, H1⟩
  iapply (Rounds.wp_signal 𝒱₀ (ER (F := F)) (Rd V) (c : Thread nD τ) none (dst := (Dev.tc (prv k c) : Thread nD τ)) (sem := i) (r := 0) (d := 0) (κ := κ)
    (by rw [h1, if_pos rfl]; exact Finset.mem_singleton_self _) (h2 _ _) (ixC k) (due c (n + 1)) hst (W := W)) $$ [H1 HO Ht Hcm Hr1 Hr2]
  · rw [h3, nxt_prv]
    isplitl [H1]; · iexact H1
    isplitl [HO]; · iexact HO
    isplitl [Ht]; · iexact Ht
    isplitl [Hcm Hr2]
    · isplitl [Hcm]; · iexists X; iexact Hcm
      iexact Hr2
    iexact Hr1
  iintro HO
  iapply Hk
  iexists W; iexact HO

/-- The next device has returned its landing slot. -/
theorem r_waitC (c : Dev nD) (k : Ch) (hr : ring k = true) (i : Sem sig) (hi : crdS k = .reg i) (n : ℕ) (hx : ∀ x ∈ keys.drop n, ixC k < ix x) (hN : ixC k < NL)
    {α : Type} {Q : α → sProp 𝕄} {kk : PUnit → Prog (TpuEff nD τ sig (Elt F) Λ₀ .tc) α} :
    iprop(Pers V ∗ OwN c n ∗ KC c k ∗ Pos (F := F) (gC c k) 0)
      ⊢ iprop(((OwN c n ∗ ownA (F := F) (nxt k c) (cm k false) ∗ reached (ER (F := F)) (gR (nxt k c) k false) 1 ∗ Pos (F := F) (gC c k) 1) -∗ WP c (kk ⟨⟩) Q)
          -∗ WP c (.op (.semWait i 1) kk) Q) := by
  obtain ⟨h1, h2, h3⟩ := crd_reg V k hr i hi c 0
  unfold OwN KC Pos gC
  rw [hi]
  iintro ⟨#HP, ⟨%W, HO⟩, HX, ⟨Hat, -⟩⟩ Hk
  ihave H1 := (inv_crd V c k) $$ HP
  unfold gC; rw [hi]
  icases H1 with ⟨%κ, H1⟩
  ihave Hm := (may V c (.reg i) n (ixC k) hN hx) $$ HP
  iapply (Rounds.wp_wait_rest_token 𝒱₀ (ER (F := F)) (Rd V) (c : Thread nD τ) none (κ := κ) (wpE_semWait_eq 𝒱₀ (c : Thread nD τ) none Set.univ) (Set.mem_univ _) (ixC k) (O := due c n) (W := W) (R := 0) (m := 0) (T := ∅)
    (by unfold Schedule.expect Schedule.amountOf; rw [h1, if_pos rfl, Finset.sum_singleton, h2])) $$ [H1 HX HO Hm Hat]
  · isplitl [H1]; · iexact H1
    isplitl [HX]; · iexact HX
    isplitl [HO]; · iexact HO
    isplitl [Hm]; · iexact Hm
    iexact Hat
  rw [h1, if_pos rfl, Finset.sdiff_empty, bigSep_singleton, h3]
  iintro ⟨HO, Hat, Hr, ⟨Hcm, Hr2⟩⟩
  iapply Hk
  isplitl [HO]; · iexists _; iexact HO
  isplitl [Hcm]; · iexact Hcm
  isplitl [Hr2]; · iexact Hr2
  isplitl [Hat]; · iexact Hat
  iexact Hr

/-- The `i`-th barrier signal. -/
theorem r_sigB (c : Dev nD) (i : Fin 5) (hk : keys[i.val]? = some (.bar i)) (c' : Dev nD) (hc : c' = bTo i c)
    {α : Type} {Q : α → sProp 𝕄} {kk : PUnit → Prog (TpuEff nD τ sig (Elt F) Λ₀ .tc) α} :
    iprop(Pers V ∗ OwN c i.val ∗ dutyTok (ER (F := F)) (gB (bTo i c)) 0 i ∗ barPay c i ∗ reached (ER (F := F)) (gB (bTo i c)) 0)
      ⊢ iprop((OwN c (i.val + 1) -∗ WP c (kk ⟨⟩) Q) -∗ WP c (.op (.semSignal (Dev.tc c' : Thread nD τ) (12 : Sem sig) 1) kk) Q) := by
  subst hc
  unfold OwN
  iintro ⟨#HP, ⟨%W, HO⟩, Ht, Hp, Hr⟩ Hk
  ihave H1 := (inv_bar V (bTo i c)) $$ HP
  icases H1 with ⟨%κ, H1⟩
  iapply (Rounds.wp_signal 𝒱₀ (ER (F := F)) (Rd V) (c : Thread nD τ) none (dst := (Dev.tc (bTo i c) : Thread nD τ)) (sem := 12) (r := 0) (d := i) (κ := κ)
    (Finset.mem_univ i) rfl 1 (due c (i.val + 1)) (due_step c i.val hk) (W := W)) $$ [H1 HO Ht Hp Hr]
  · rw [show (Rd V).payload ((Dev.tc (bTo i c) : Thread nD τ), .reg 12) 0 i = barPay c i from by
      change barPay (bFrom i (bTo i c)) i = _; rw [bFrom_bTo]]
    isplitl [H1]; · iexact H1
    isplitl [HO]; · iexact HO
    isplitl [Ht]; · iexact Ht
    isplitl [Hp]; · iexact Hp
    iexact Hr
  iintro HO
  iapply Hk
  iexists W; iexact HO

/-- The barrier: all five signals have come, with what they hand over. -/
theorem r_waitB (c : Dev nD) {α : Type} {Q : α → sProp 𝕄} {kk : PUnit → Prog (TpuEff nD τ sig (Elt F) Λ₀ .tc) α} :
    iprop(Pers V ∗ OwN c 5 ∗ cred (tallyAt (gB c) 1 5) ∗ Pos (F := F) (gB c) 0)
      ⊢ iprop(((OwN c 5 ∗ (bigSep Finset.univ fun i : Fin 5 => barPay (bFrom i c) i) ∗ Pos (F := F) (gB c) 1) -∗ WP c (kk ⟨⟩) Q)
          -∗ WP c (.op (.semWait (12 : Sem sig) 5) kk) Q) := by
  unfold OwN Pos
  iintro ⟨#HP, ⟨%W, HO⟩, HX, ⟨Hat, -⟩⟩ Hk
  ihave H1 := (inv_bar V c) $$ HP
  icases H1 with ⟨%κ, H1⟩
  ihave Hm := (may V c (.reg 12) 5 1 (by decide) (by decide)) $$ HP
  iapply (Rounds.wp_wait_rest_token 𝒱₀ (ER (F := F)) (Rd V) (c : Thread nD τ) none (κ := κ) (wpE_semWait_eq 𝒱₀ (c : Thread nD τ) none Set.univ) (Set.mem_univ _) 1 (O := due c 5) (W := W) (R := 0) (m := 0) (T := ∅)
    (by rfl)) $$ [H1 HX HO Hm Hat]
  · isplitl [H1]; · iexact H1
    isplitl [HX]; · iexact HX
    isplitl [HO]; · iexact HO
    isplitl [Hm]; · iexact Hm
    iexact Hat
  rw [Finset.sdiff_empty, show (Rd V).duties ((c : Thread nD τ), .reg 12) 0 = Finset.univ from rfl]
  iintro ⟨HO, Hat, Hr, Hp⟩
  iapply Hk
  isplitl [HO]; · iexists _; iexact HO
  isplitl [Hp]; · iexact Hp
  isplitl [Hat]; · iexact Hat
  iexact Hr

/-- A cell past its last round is closed, its counter at zero. -/
theorem r_close (g : GSem nD τ sig) (R : ℕ) (hR : ∀ r, R ≤ r → (Rd V).duties g r = ∅) :
    iprop((∃ κ, cellInv ER (Rd V) κ g) ∗ Pos (F := F) g R) ⊢ (|={Set.univ}=> semVal g 0 : sProp 𝕄) := by
  unfold Pos
  iintro ⟨⟨%κ, H⟩, ⟨Hat, -⟩⟩
  iapply (Rounds.cell_close ER (Rd V) (Set.mem_univ κ) id hR)
  isplitl [H]; · iexact H
  iexact Hat

end Cert.KernelIdeal.Moe

end
-- ==== Proof.Chain.lean ====
/-
The states of a chain on a device, and what each step of the kernel does to them.
-/
module

public import proofs.«01_k».proof.Proof.Rules

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok launchOf)
open Idealize.ShloMosaic.TalkSites Idealize.ShloMosaic.SiteBlocks

variable {F : FTy → Type} [FloatOps F]

local notation "𝕄" => MT nD τ sig ℕ (Elt F) ℕ UU ℕ

theorem slt_ring {k : Ch} (h : ring k = true) (t : ℕ) : slt k t = (t % 2 == 1) := by unfold slt; rw [h]; rfl
theorem rnd_ring {k : Ch} (h : ring k = true) (t : ℕ) : rnd k t = t / 2 := by unfold rnd; rw [if_pos h]
theorem cnt_ring {k : Ch} (h : ring k = true) : cnt k = 3 := by cases k <;> first | rfl | cases h
theorem slt_x {k : Ch} (h : ring k = false) (t : ℕ) : slt k t = false := by unfold slt; rw [h]; rfl
theorem rnd_x {k : Ch} (h : ring k = false) (t : ℕ) : rnd k t = t := by unfold rnd; rw [h]; rfl
theorem cnt_x {k : Ch} (h : ring k = false) : cnt k = 1 := by cases k <;> first | rfl | cases h

variable (V : EV F)

/-- The states of a ring's chain: what device `c` holds after each step. -/
def CH (k : Ch) (c : Dev nD) : ℕ → sProp 𝕄
  | 0 => iprop(Tc c k 0 ∗ Tc c k 1 ∗ Tc c k 2 ∗ TC c k ∗ ownA (F := F) (nxt k c) (cm k false) ∗ ownA (F := F) (nxt k c) (cm k true) ∗ Kc c k 0 ∗ Kc c k 1 ∗ Kc c k 2 ∗ KC c k ∗ Pos (F := F) (gS c k false) 0 ∗ Pos (F := F) (gS c k true) 0 ∗ Pos (F := F) (gR c k false) 0 ∗ Pos (F := F) (gR c k true) 0 ∗ Pos (F := F) (gC c k) 0 ∗ (RZ (F := F) (nxt k c) k ∗ RZ (F := F) (prv k c) k) ∗ ownA (F := F) c (st k false) ∗ ownA (F := F) c (st k true))
  | 1 => iprop(Tc c k 0 ∗ Tc c k 1 ∗ Tc c k 2 ∗ TC c k ∗ ownA (F := F) (nxt k c) (cm k false) ∗ ownA (F := F) (nxt k c) (cm k true) ∗ Kc c k 0 ∗ Kc c k 1 ∗ Kc c k 2 ∗ KC c k ∗ Pos (F := F) (gS c k false) 0 ∗ Pos (F := F) (gS c k true) 0 ∗ Pos (F := F) (gR c k false) 0 ∗ Pos (F := F) (gR c k true) 0 ∗ Pos (F := F) (gC c k) 0 ∗ (RZ (F := F) (nxt k c) k ∗ RZ (F := F) (prv k c) k) ∗ ownA (F := F) c (st k true) ∗ own c (st k false) (V k c 0))
  | 2 => iprop(Tc c k 1 ∗ Tc c k 2 ∗ TC c k ∗ ownA (F := F) (nxt k c) (cm k true) ∗ Kc c k 0 ∗ Kc c k 1 ∗ Kc c k 2 ∗ KC c k ∗ Pos (F := F) (gS c k false) 0 ∗ Pos (F := F) (gS c k true) 0 ∗ Pos (F := F) (gR c k false) 0 ∗ Pos (F := F) (gR c k true) 0 ∗ Pos (F := F) (gC c k) 0 ∗ (RZ (F := F) (nxt k c) k ∗ RZ (F := F) (prv k c) k) ∗ ownA (F := F) c (st k true) ∗ Xc c k false)
  | 3 => iprop(Tc c k 1 ∗ Tc c k 2 ∗ TC c k ∗ ownA (F := F) (nxt k c) (cm k true) ∗ Kc c k 0 ∗ Kc c k 1 ∗ Kc c k 2 ∗ KC c k ∗ Pos (F := F) (gS c k true) 0 ∗ Pos (F := F) (gR c k false) 0 ∗ Pos (F := F) (gR c k true) 0 ∗ Pos (F := F) (gC c k) 0 ∗ (RZ (F := F) (nxt k c) k ∗ RZ (F := F) (prv k c) k) ∗ ownA (F := F) c (st k true) ∗ Pos (F := F) (gS c k false) 1 ∗ ownA (F := F) c (st k false))
  | 4 => iprop(Tc c k 1 ∗ Tc c k 2 ∗ TC c k ∗ ownA (F := F) (nxt k c) (cm k true) ∗ Kc c k 1 ∗ Kc c k 2 ∗ KC c k ∗ Pos (F := F) (gS c k true) 0 ∗ Pos (F := F) (gR c k true) 0 ∗ Pos (F := F) (gC c k) 0 ∗ (RZ (F := F) (nxt k c) k ∗ RZ (F := F) (prv k c) k) ∗ ownA (F := F) c (st k true) ∗ Pos (F := F) (gS c k false) 1 ∗ ownA (F := F) c (st k false) ∗ Pos (F := F) (gR c k false) 1 ∗ own c (cm k false) (V k (prv k c) 0))
  | 5 => iprop(Tc c k 1 ∗ Tc c k 2 ∗ TC c k ∗ ownA (F := F) (nxt k c) (cm k true) ∗ Kc c k 1 ∗ Kc c k 2 ∗ KC c k ∗ Pos (F := F) (gS c k true) 0 ∗ Pos (F := F) (gR c k true) 0 ∗ Pos (F := F) (gC c k) 0 ∗ (RZ (F := F) (nxt k c) k ∗ RZ (F := F) (prv k c) k) ∗ Pos (F := F) (gS c k false) 1 ∗ ownA (F := F) c (st k false) ∗ Pos (F := F) (gR c k false) 1 ∗ own c (cm k false) (V k (prv k c) 0) ∗ own c (st k true) (V k c 1))
  | 6 => iprop(Tc c k 2 ∗ TC c k ∗ Kc c k 1 ∗ Kc c k 2 ∗ KC c k ∗ Pos (F := F) (gS c k true) 0 ∗ Pos (F := F) (gR c k true) 0 ∗ Pos (F := F) (gC c k) 0 ∗ (RZ (F := F) (nxt k c) k ∗ RZ (F := F) (prv k c) k) ∗ Pos (F := F) (gS c k false) 1 ∗ ownA (F := F) c (st k false) ∗ Pos (F := F) (gR c k false) 1 ∗ own c (cm k false) (V k (prv k c) 0) ∗ Xc c k true)
  | 7 => iprop(Tc c k 2 ∗ Kc c k 1 ∗ Kc c k 2 ∗ KC c k ∗ Pos (F := F) (gS c k true) 0 ∗ Pos (F := F) (gR c k true) 0 ∗ Pos (F := F) (gC c k) 0 ∗ (RZ (F := F) (nxt k c) k ∗ RZ (F := F) (prv k c) k) ∗ Pos (F := F) (gS c k false) 1 ∗ ownA (F := F) c (st k false) ∗ Pos (F := F) (gR c k false) 1 ∗ Xc c k true)
  | 8 => iprop(Tc c k 2 ∗ Kc c k 1 ∗ Kc c k 2 ∗ KC c k ∗ Pos (F := F) (gR c k true) 0 ∗ Pos (F := F) (gC c k) 0 ∗ (RZ (F := F) (nxt k c) k ∗ RZ (F := F) (prv k c) k) ∗ Pos (F := F) (gS c k false) 1 ∗ ownA (F := F) c (st k false) ∗ Pos (F := F) (gR c k false) 1 ∗ Pos (F := F) (gS c k true) 1 ∗ ownA (F := F) c (st k true))
  | 9 => iprop(Tc c k 2 ∗ Kc c k 2 ∗ KC c k ∗ Pos (F := F) (gC c k) 0 ∗ (RZ (F := F) (nxt k c) k ∗ RZ (F := F) (prv k c) k) ∗ Pos (F := F) (gS c k false) 1 ∗ ownA (F := F) c (st k false) ∗ Pos (F := F) (gR c k false) 1 ∗ Pos (F := F) (gS c k true) 1 ∗ ownA (F := F) c (st k true) ∗ Pos (F := F) (gR c k true) 1 ∗ own c (cm k true) (V k (prv k c) 1))
  | 10 => iprop(Tc c k 2 ∗ Kc c k 2 ∗ KC c k ∗ Pos (F := F) (gC c k) 0 ∗ (RZ (F := F) (nxt k c) k ∗ RZ (F := F) (prv k c) k) ∗ Pos (F := F) (gS c k false) 1 ∗ Pos (F := F) (gR c k false) 1 ∗ Pos (F := F) (gS c k true) 1 ∗ ownA (F := F) c (st k true) ∗ Pos (F := F) (gR c k true) 1 ∗ own c (cm k true) (V k (prv k c) 1) ∗ own c (st k false) (V k c 2))
  | 11 => iprop(Tc c k 2 ∗ Kc c k 2 ∗ (RZ (F := F) (nxt k c) k ∗ RZ (F := F) (prv k c) k) ∗ Pos (F := F) (gS c k false) 1 ∗ Pos (F := F) (gR c k false) 1 ∗ Pos (F := F) (gS c k true) 1 ∗ ownA (F := F) c (st k true) ∗ Pos (F := F) (gR c k true) 1 ∗ own c (cm k true) (V k (prv k c) 1) ∗ own c (st k false) (V k c 2) ∗ Pos (F := F) (gC c k) 1 ∗ (ownA (F := F) (nxt k c) (cm k false) ∗ reached (ER (F := F)) (gR (nxt k c) k false) 1))
  | 12 => iprop(Kc c k 2 ∗ (RZ (F := F) (nxt k c) k ∗ RZ (F := F) (prv k c) k) ∗ Pos (F := F) (gS c k false) 1 ∗ Pos (F := F) (gR c k false) 1 ∗ Pos (F := F) (gS c k true) 1 ∗ ownA (F := F) c (st k true) ∗ Pos (F := F) (gR c k true) 1 ∗ own c (cm k true) (V k (prv k c) 1) ∗ Pos (F := F) (gC c k) 1 ∗ Xc c k false)
  | 13 => iprop(Kc c k 2 ∗ (RZ (F := F) (nxt k c) k ∗ RZ (F := F) (prv k c) k) ∗ Pos (F := F) (gR c k false) 1 ∗ Pos (F := F) (gS c k true) 1 ∗ ownA (F := F) c (st k true) ∗ Pos (F := F) (gR c k true) 1 ∗ own c (cm k true) (V k (prv k c) 1) ∗ Pos (F := F) (gC c k) 1 ∗ Pos (F := F) (gS c k false) 2 ∗ ownA (F := F) c (st k false))
  | 14 => iprop((RZ (F := F) (nxt k c) k ∗ RZ (F := F) (prv k c) k) ∗ Pos (F := F) (gS c k true) 1 ∗ ownA (F := F) c (st k true) ∗ Pos (F := F) (gR c k true) 1 ∗ own c (cm k true) (V k (prv k c) 1) ∗ Pos (F := F) (gC c k) 1 ∗ Pos (F := F) (gS c k false) 2 ∗ ownA (F := F) c (st k false) ∗ Pos (F := F) (gR c k false) 2 ∗ own c (cm k false) (V k (prv k c) 2))
  | _ => iprop(emp)
/-- The states of an exchange. -/
def XH (k : Ch) (c : Dev nD) : ℕ → sProp 𝕄
  | 0 => iprop(Tc c k 0 ∗ ownA (F := F) (nxt k c) (cm k false) ∗ Kc c k 0 ∗ Pos (F := F) (gS c k false) 0 ∗ Pos (F := F) (gR c k false) 0 ∗ (RZ (F := F) (nxt k c) k ∗ RZ (F := F) (prv k c) k) ∗ ownA (F := F) c (st k false))
  | 1 => iprop(Tc c k 0 ∗ ownA (F := F) (nxt k c) (cm k false) ∗ Kc c k 0 ∗ Pos (F := F) (gS c k false) 0 ∗ Pos (F := F) (gR c k false) 0 ∗ (RZ (F := F) (nxt k c) k ∗ RZ (F := F) (prv k c) k) ∗ own c (st k false) (V k c 0))
  | 2 => iprop(Kc c k 0 ∗ Pos (F := F) (gS c k false) 0 ∗ Pos (F := F) (gR c k false) 0 ∗ (RZ (F := F) (nxt k c) k ∗ RZ (F := F) (prv k c) k) ∗ Xc c k false)
  | 3 => iprop(Kc c k 0 ∗ Pos (F := F) (gR c k false) 0 ∗ (RZ (F := F) (nxt k c) k ∗ RZ (F := F) (prv k c) k) ∗ Pos (F := F) (gS c k false) 1 ∗ ownA (F := F) c (st k false))
  | 4 => iprop((RZ (F := F) (nxt k c) k ∗ RZ (F := F) (prv k c) k) ∗ Pos (F := F) (gS c k false) 1 ∗ ownA (F := F) c (st k false) ∗ Pos (F := F) (gR c k false) 1 ∗ own c (cm k false) (V k (prv k c) 0))
  | _ => iprop(emp)

/-- Copy number 0 is started. -/
theorem ch_send0 (c : Dev nD) (k : Ch) (hr : ring k = true) (n : ℕ) (hk : keys[n]? = some (.snd k 0)) (c' : Dev nD) (hc : c' = nxt k c)
    {hsc : (cmq k false : Memref sig (Dev.tc c' : Thread nD τ).2.kind .vmem (shq k) .f32).view.ref.isScScratch = false}
    {hsrc : (stq k false).view.WordExact} {hdst : (cmq k false).view.WordExact}
    {hsem : DmaTarget.Typed .vmem (.dma (rcvS k false)) (.remote (Dev.tc c' : Thread nD τ) (cmq k false : Memref sig .tc .vmem (shq k) .f32) (.dma (sndS k false)) hsc)}
    {α : Type} {Q : α → sProp 𝕄} {kk : PUnit → Prog (TpuEff nD τ sig (Elt F) Λ₀ .tc) α} :
    iprop(Pers V ∗ OwN c n ∗ CH V k c 1)
      ⊢ iprop(((OwN c (n + 1) ∗ CH V k c 2) -∗ WP c (kk ⟨⟩) Q)
          -∗ WP c (.op (.enqueueDma (stq k false) (.remote (Dev.tc c' : Thread nD τ) (cmq k false) (.dma (sndS k false)) hsc) (.dma (rcvS k false)) hsrc hdst hsem) kk) Q) := by
  simp only [CH]
  iintro ⟨HP, HO, ⟨HT0, HT1, HT2, HTC, HL0, HL1, HK0, HK1, HK2, HKC, HSf0, HSt0, HRf0, HRt0, HC0, HZ, Hstt, Hsf0⟩⟩ Hk
  unfold Pos RZ
  icases HSf0 with ⟨Hat, #Hsr⟩
  icases HZ with ⟨⟨#Hz1, #Hz2, #Hz3⟩, HZ⟩
  iapply (r_send V c k 0 false (slt_ring hr 0) 0 (rnd_ring hr 0) (by rw [cnt_ring hr]; decide) n hk c' hc) $$ [HP HO Hsf0 HL0 HT0]
  · isplitl [HP]; · iexact HP
    isplitl [HO]; · iexact HO
    isplitl [Hsf0]; · iexact Hsf0
    isplitl [HL0]; · iexact HL0
    isplitl [HT0]; · iexact HT0
    isplitl []; · iexact Hsr
    iexact Hz1
  iintro ⟨HXf, HO⟩
  iapply Hk
  isplitl [HO]; · iexact HO
  isplitl [HT1]; · iexact HT1
  isplitl [HT2]; · iexact HT2
  isplitl [HTC]; · iexact HTC
  isplitl [HL1]; · iexact HL1
  isplitl [HK0]; · iexact HK0
  isplitl [HK1]; · iexact HK1
  isplitl [HK2]; · iexact HK2
  isplitl [HKC]; · iexact HKC
  isplitl [Hat]
  · isplitl [Hat]; · iexact Hat
    iexact Hsr
  isplitl [HSt0]; · iexact HSt0
  isplitl [HRf0]; · iexact HRf0
  isplitl [HRt0]; · iexact HRt0
  isplitl [HC0]; · iexact HC0
  isplitl [HZ]
  · isplitl []
    · isplitl []; · iexact Hz1
      isplitl []; · iexact Hz2
      iexact Hz3
    iexact HZ
  isplitl [Hstt]; · iexact Hstt
  iexact HXf

/-- Copy number 1 is started. -/
theorem ch_send1 (c : Dev nD) (k : Ch) (hr : ring k = true) (n : ℕ) (hk : keys[n]? = some (.snd k 1)) (c' : Dev nD) (hc : c' = nxt k c)
    {hsc : (cmq k true : Memref sig (Dev.tc c' : Thread nD τ).2.kind .vmem (shq k) .f32).view.ref.isScScratch = false}
    {hsrc : (stq k true).view.WordExact} {hdst : (cmq k true).view.WordExact}
    {hsem : DmaTarget.Typed .vmem (.dma (rcvS k true)) (.remote (Dev.tc c' : Thread nD τ) (cmq k true : Memref sig .tc .vmem (shq k) .f32) (.dma (sndS k true)) hsc)}
    {α : Type} {Q : α → sProp 𝕄} {kk : PUnit → Prog (TpuEff nD τ sig (Elt F) Λ₀ .tc) α} :
    iprop(Pers V ∗ OwN c n ∗ CH V k c 5)
      ⊢ iprop(((OwN c (n + 1) ∗ CH V k c 6) -∗ WP c (kk ⟨⟩) Q)
          -∗ WP c (.op (.enqueueDma (stq k true) (.remote (Dev.tc c' : Thread nD τ) (cmq k true) (.dma (sndS k true)) hsc) (.dma (rcvS k true)) hsrc hdst hsem) kk) Q) := by
  simp only [CH]
  iintro ⟨HP, HO, ⟨HT1, HT2, HTC, HL1, HK1, HK2, HKC, HSt0, HRt0, HC0, HZ, HSf1, Hsf, HRf1, Hcf0, Hst1⟩⟩ Hk
  unfold Pos RZ
  icases HSt0 with ⟨Hat, #Hsr⟩
  icases HZ with ⟨⟨#Hz1, #Hz2, #Hz3⟩, HZ⟩
  iapply (r_send V c k 1 true (slt_ring hr 1) 0 (rnd_ring hr 1) (by rw [cnt_ring hr]; decide) n hk c' hc) $$ [HP HO Hst1 HL1 HT1]
  · isplitl [HP]; · iexact HP
    isplitl [HO]; · iexact HO
    isplitl [Hst1]; · iexact Hst1
    isplitl [HL1]; · iexact HL1
    isplitl [HT1]; · iexact HT1
    isplitl []; · iexact Hsr
    iexact Hz2
  iintro ⟨HXt, HO⟩
  iapply Hk
  isplitl [HO]; · iexact HO
  isplitl [HT2]; · iexact HT2
  isplitl [HTC]; · iexact HTC
  isplitl [HK1]; · iexact HK1
  isplitl [HK2]; · iexact HK2
  isplitl [HKC]; · iexact HKC
  isplitl [Hat]
  · isplitl [Hat]; · iexact Hat
    iexact Hsr
  isplitl [HRt0]; · iexact HRt0
  isplitl [HC0]; · iexact HC0
  isplitl [HZ]
  · isplitl []
    · isplitl []; · iexact Hz1
      isplitl []; · iexact Hz2
      iexact Hz3
    iexact HZ
  isplitl [HSf1]; · iexact HSf1
  isplitl [Hsf]; · iexact Hsf
  isplitl [HRf1]; · iexact HRf1
  isplitl [Hcf0]; · iexact Hcf0
  iexact HXt

/-- Copy number 2 is started. -/
theorem ch_send2 (c : Dev nD) (k : Ch) (hr : ring k = true) (n : ℕ) (hk : keys[n]? = some (.snd k 2)) (c' : Dev nD) (hc : c' = nxt k c)
    {hsc : (cmq k false : Memref sig (Dev.tc c' : Thread nD τ).2.kind .vmem (shq k) .f32).view.ref.isScScratch = false}
    {hsrc : (stq k false).view.WordExact} {hdst : (cmq k false).view.WordExact}
    {hsem : DmaTarget.Typed .vmem (.dma (rcvS k false)) (.remote (Dev.tc c' : Thread nD τ) (cmq k false : Memref sig .tc .vmem (shq k) .f32) (.dma (sndS k false)) hsc)}
    {α : Type} {Q : α → sProp 𝕄} {kk : PUnit → Prog (TpuEff nD τ sig (Elt F) Λ₀ .tc) α} :
    iprop(Pers V ∗ OwN c n ∗ CH V k c 11)
      ⊢ iprop(((OwN c (n + 1) ∗ CH V k c 12) -∗ WP c (kk ⟨⟩) Q)
          -∗ WP c (.op (.enqueueDma (stq k false) (.remote (Dev.tc c' : Thread nD τ) (cmq k false) (.dma (sndS k false)) hsc) (.dma (rcvS k false)) hsrc hdst hsem) kk) Q) := by
  simp only [CH]
  iintro ⟨HP, HO, ⟨HT2, HK2, HZ, HSf1, HRf1, HSt1, Hstt, HRt1, Hct1, Hsf2, HC1, HL2⟩⟩ Hk
  unfold Pos RZ
  icases HSf1 with ⟨Hat, #Hsr⟩
  icases HL2 with ⟨HL2, #Hz1⟩
  iapply (r_send V c k 2 false (slt_ring hr 2) 1 (rnd_ring hr 2) (by rw [cnt_ring hr]; decide) n hk c' hc) $$ [HP HO Hsf2 HL2 HT2]
  · isplitl [HP]; · iexact HP
    isplitl [HO]; · iexact HO
    isplitl [Hsf2]; · iexact Hsf2
    isplitl [HL2]; · iexact HL2
    isplitl [HT2]; · iexact HT2
    isplitl []; · iexact Hsr
    iexact Hz1
  iintro ⟨HXf, HO⟩
  iapply Hk
  isplitl [HO]; · iexact HO
  isplitl [HK2]; · iexact HK2
  isplitl [HZ]; · iexact HZ
  isplitl [Hat]
  · isplitl [Hat]; · iexact Hat
    iexact Hsr
  isplitl [HRf1]; · iexact HRf1
  isplitl [HSt1]; · iexact HSt1
  isplitl [Hstt]; · iexact Hstt
  isplitl [HRt1]; · iexact HRt1
  isplitl [Hct1]; · iexact Hct1
  isplitl [HC1]; · iexact HC1
  iexact HXf

/-- Copy number 0 is started. -/
theorem xh_send (c : Dev nD) (k : Ch) (hr : ring k = false) (n : ℕ) (hk : keys[n]? = some (.snd k 0)) (c' : Dev nD) (hc : c' = nxt k c)
    {hsc : (cmq k false : Memref sig (Dev.tc c' : Thread nD τ).2.kind .vmem (shq k) .f32).view.ref.isScScratch = false}
    {hsrc : (stq k false).view.WordExact} {hdst : (cmq k false).view.WordExact}
    {hsem : DmaTarget.Typed .vmem (.dma (rcvS k false)) (.remote (Dev.tc c' : Thread nD τ) (cmq k false : Memref sig .tc .vmem (shq k) .f32) (.dma (sndS k false)) hsc)}
    {α : Type} {Q : α → sProp 𝕄} {kk : PUnit → Prog (TpuEff nD τ sig (Elt F) Λ₀ .tc) α} :
    iprop(Pers V ∗ OwN c n ∗ XH V k c 1)
      ⊢ iprop(((OwN c (n + 1) ∗ XH V k c 2) -∗ WP c (kk ⟨⟩) Q)
          -∗ WP c (.op (.enqueueDma (stq k false) (.remote (Dev.tc c' : Thread nD τ) (cmq k false) (.dma (sndS k false)) hsc) (.dma (rcvS k false)) hsrc hdst hsem) kk) Q) := by
  simp only [XH]
  iintro ⟨HP, HO, ⟨HT0, HL0, HK0, HSf0, HRf0, HZ, Hsf0⟩⟩ Hk
  unfold Pos RZ
  icases HSf0 with ⟨Hat, #Hsr⟩
  icases HZ with ⟨⟨#Hz1, #Hz2, #Hz3⟩, HZ⟩
  iapply (r_send V c k 0 false (slt_x hr 0) 0 (rnd_x hr 0) (by rw [cnt_x hr]; decide) n hk c' hc) $$ [HP HO Hsf0 HL0 HT0]
  · isplitl [HP]; · iexact HP
    isplitl [HO]; · iexact HO
    isplitl [Hsf0]; · iexact Hsf0
    isplitl [HL0]; · iexact HL0
    isplitl [HT0]; · iexact HT0
    isplitl []; · iexact Hsr
    iexact Hz1
  iintro ⟨HXf, HO⟩
  iapply Hk
  isplitl [HO]; · iexact HO
  isplitl [HK0]; · iexact HK0
  isplitl [Hat]
  · isplitl [Hat]; · iexact Hat
    iexact Hsr
  isplitl [HRf0]; · iexact HRf0
  isplitl [HZ]
  · isplitl []
    · isplitl []; · iexact Hz1
      isplitl []; · iexact Hz2
      iexact Hz3
    iexact HZ
  iexact HXf

/-- The sending slot of copy number 0 is free again. -/
theorem ch_waitS0 (c : Dev nD) (k : Ch) (hr : ring k = true) (n : ℕ)
    {sp sp' : Space} {s₁ s₂ : Shape} {e₁ e₂ : EltTy} {src : Memref sig .tc sp' s₁ e₁} {dst : Memref sig .tc sp s₂ e₂}
    (ha : dst.view.dmaCredit = amt k) {h1 : src.view.WordExact} {h2 : dst.view.WordExact}
    {α : Type} {Q : α → sProp 𝕄} {kk : PUnit → Prog (TpuEff nD τ sig (Elt F) Λ₀ .tc) α} :
    iprop(Pers V ∗ OwN c n ∗ CH V k c 2)
      ⊢ iprop(((OwN c n ∗ CH V k c 3) -∗ WP c (kk ⟨⟩) Q)
          -∗ WP c (.op (.waitDma2 (sndS k false) src dst h1 h2) kk) Q) := by
  simp only [CH]
  iintro ⟨HP, HO, ⟨HT1, HT2, HTC, HL1, HK0, HK1, HK2, HKC, HSf0, HSt0, HRf0, HRt0, HC0, HZ, Hstt, HXf⟩⟩ Hk
  iapply (r_waitS V c k 0 false (slt_ring hr 0) 0 (rnd_ring hr 0) (by rw [cnt_ring hr]; decide) n ha) $$ [HP HO HXf HSf0]
  · isplitl [HP]; · iexact HP
    isplitl [HO]; · iexact HO
    isplitl [HXf]; · iexact HXf
    iexact HSf0
  iintro ⟨HO, Hsf, HSf1⟩
  iapply Hk
  isplitl [HO]; · iexact HO
  isplitl [HT1]; · iexact HT1
  isplitl [HT2]; · iexact HT2
  isplitl [HTC]; · iexact HTC
  isplitl [HL1]; · iexact HL1
  isplitl [HK0]; · iexact HK0
  isplitl [HK1]; · iexact HK1
  isplitl [HK2]; · iexact HK2
  isplitl [HKC]; · iexact HKC
  isplitl [HSt0]; · iexact HSt0
  isplitl [HRf0]; · iexact HRf0
  isplitl [HRt0]; · iexact HRt0
  isplitl [HC0]; · iexact HC0
  isplitl [HZ]; · iexact HZ
  isplitl [Hstt]; · iexact Hstt
  isplitl [HSf1]; · iexact HSf1
  iexists _; iexact Hsf

/-- The sending slot of copy number 1 is free again. -/
theorem ch_waitS1 (c : Dev nD) (k : Ch) (hr : ring k = true) (n : ℕ)
    {sp sp' : Space} {s₁ s₂ : Shape} {e₁ e₂ : EltTy} {src : Memref sig .tc sp' s₁ e₁} {dst : Memref sig .tc sp s₂ e₂}
    (ha : dst.view.dmaCredit = amt k) {h1 : src.view.WordExact} {h2 : dst.view.WordExact}
    {α : Type} {Q : α → sProp 𝕄} {kk : PUnit → Prog (TpuEff nD τ sig (Elt F) Λ₀ .tc) α} :
    iprop(Pers V ∗ OwN c n ∗ CH V k c 7)
      ⊢ iprop(((OwN c n ∗ CH V k c 8) -∗ WP c (kk ⟨⟩) Q)
          -∗ WP c (.op (.waitDma2 (sndS k true) src dst h1 h2) kk) Q) := by
  simp only [CH]
  iintro ⟨HP, HO, ⟨HT2, HK1, HK2, HKC, HSt0, HRt0, HC0, HZ, HSf1, Hsf, HRf1, HXt⟩⟩ Hk
  iapply (r_waitS V c k 1 true (slt_ring hr 1) 0 (rnd_ring hr 1) (by rw [cnt_ring hr]; decide) n ha) $$ [HP HO HXt HSt0]
  · isplitl [HP]; · iexact HP
    isplitl [HO]; · iexact HO
    isplitl [HXt]; · iexact HXt
    iexact HSt0
  iintro ⟨HO, Hstt, HSt1⟩
  iapply Hk
  isplitl [HO]; · iexact HO
  isplitl [HT2]; · iexact HT2
  isplitl [HK1]; · iexact HK1
  isplitl [HK2]; · iexact HK2
  isplitl [HKC]; · iexact HKC
  isplitl [HRt0]; · iexact HRt0
  isplitl [HC0]; · iexact HC0
  isplitl [HZ]; · iexact HZ
  isplitl [HSf1]; · iexact HSf1
  isplitl [Hsf]; · iexact Hsf
  isplitl [HRf1]; · iexact HRf1
  isplitl [HSt1]; · iexact HSt1
  iexists _; iexact Hstt

/-- The sending slot of copy number 2 is free again. -/
theorem ch_waitS2 (c : Dev nD) (k : Ch) (hr : ring k = true) (n : ℕ)
    {sp sp' : Space} {s₁ s₂ : Shape} {e₁ e₂ : EltTy} {src : Memref sig .tc sp' s₁ e₁} {dst : Memref sig .tc sp s₂ e₂}
    (ha : dst.view.dmaCredit = amt k) {h1 : src.view.WordExact} {h2 : dst.view.WordExact}
    {α : Type} {Q : α → sProp 𝕄} {kk : PUnit → Prog (TpuEff nD τ sig (Elt F) Λ₀ .tc) α} :
    iprop(Pers V ∗ OwN c n ∗ CH V k c 12)
      ⊢ iprop(((OwN c n ∗ CH V k c 13) -∗ WP c (kk ⟨⟩) Q)
          -∗ WP c (.op (.waitDma2 (sndS k false) src dst h1 h2) kk) Q) := by
  simp only [CH]
  iintro ⟨HP, HO, ⟨HK2, HZ, HSf1, HRf1, HSt1, Hstt, HRt1, Hct1, HC1, HXf⟩⟩ Hk
  iapply (r_waitS V c k 2 false (slt_ring hr 2) 1 (rnd_ring hr 2) (by rw [cnt_ring hr]; decide) n ha) $$ [HP HO HXf HSf1]
  · isplitl [HP]; · iexact HP
    isplitl [HO]; · iexact HO
    isplitl [HXf]; · iexact HXf
    iexact HSf1
  iintro ⟨HO, Hsf, HSf2⟩
  iapply Hk
  isplitl [HO]; · iexact HO
  isplitl [HK2]; · iexact HK2
  isplitl [HZ]; · iexact HZ
  isplitl [HRf1]; · iexact HRf1
  isplitl [HSt1]; · iexact HSt1
  isplitl [Hstt]; · iexact Hstt
  isplitl [HRt1]; · iexact HRt1
  isplitl [Hct1]; · iexact Hct1
  isplitl [HC1]; · iexact HC1
  isplitl [HSf2]; · iexact HSf2
  iexists _; iexact Hsf

/-- The sending slot of copy number 0 is free again. -/
theorem xh_waitS (c : Dev nD) (k : Ch) (hr : ring k = false) (n : ℕ)
    {sp sp' : Space} {s₁ s₂ : Shape} {e₁ e₂ : EltTy} {src : Memref sig .tc sp' s₁ e₁} {dst : Memref sig .tc sp s₂ e₂}
    (ha : dst.view.dmaCredit = amt k) {h1 : src.view.WordExact} {h2 : dst.view.WordExact}
    {α : Type} {Q : α → sProp 𝕄} {kk : PUnit → Prog (TpuEff nD τ sig (Elt F) Λ₀ .tc) α} :
    iprop(Pers V ∗ OwN c n ∗ XH V k c 2)
      ⊢ iprop(((OwN c n ∗ XH V k c 3) -∗ WP c (kk ⟨⟩) Q)
          -∗ WP c (.op (.waitDma2 (sndS k false) src dst h1 h2) kk) Q) := by
  simp only [XH]
  iintro ⟨HP, HO, ⟨HK0, HSf0, HRf0, HZ, HXf⟩⟩ Hk
  iapply (r_waitS V c k 0 false (slt_x hr 0) 0 (rnd_x hr 0) (by rw [cnt_x hr]; decide) n ha) $$ [HP HO HXf HSf0]
  · isplitl [HP]; · iexact HP
    isplitl [HO]; · iexact HO
    isplitl [HXf]; · iexact HXf
    iexact HSf0
  iintro ⟨HO, Hsf, HSf1⟩
  iapply Hk
  isplitl [HO]; · iexact HO
  isplitl [HK0]; · iexact HK0
  isplitl [HRf0]; · iexact HRf0
  isplitl [HZ]; · iexact HZ
  isplitl [HSf1]; · iexact HSf1
  iexists _; iexact Hsf

/-- The copy number 0 of the device before has landed. -/
theorem ch_waitR0 (c : Dev nD) (k : Ch) (hr : ring k = true) (n : ℕ) (hi : ∀ x ∈ keys.drop n, ixS k 0 < ix x) (hN : ixS k 0 < NL)
    {sp sp' : Space} {s₁ s₂ : Shape} {e₁ e₂ : EltTy} {src : Memref sig .tc sp' s₁ e₁} {dst : Memref sig .tc sp s₂ e₂}
    (ha : dst.view.dmaCredit = amt k) {h1 : src.view.WordExact} {h2 : dst.view.WordExact}
    {α : Type} {Q : α → sProp 𝕄} {kk : PUnit → Prog (TpuEff nD τ sig (Elt F) Λ₀ .tc) α} :
    iprop(Pers V ∗ OwN c n ∗ CH V k c 3)
      ⊢ iprop(((OwN c n ∗ CH V k c 4) -∗ WP c (kk ⟨⟩) Q)
          -∗ WP c (.op (.waitDma2 (rcvS k false) src dst h1 h2) kk) Q) := by
  simp only [CH]
  iintro ⟨HP, HO, ⟨HT1, HT2, HTC, HL1, HK0, HK1, HK2, HKC, HSt0, HRf0, HRt0, HC0, HZ, Hstt, HSf1, Hsf⟩⟩ Hk
  iapply (r_waitR V c k 0 false (slt_ring hr 0) 0 (rnd_ring hr 0) (by rw [cnt_ring hr]; decide) n hi hN ha) $$ [HP HO HK0 HRf0]
  · isplitl [HP]; · iexact HP
    isplitl [HO]; · iexact HO
    isplitl [HK0]; · iexact HK0
    iexact HRf0
  iintro ⟨HO, Hcf0, HRf1⟩
  iapply Hk
  isplitl [HO]; · iexact HO
  isplitl [HT1]; · iexact HT1
  isplitl [HT2]; · iexact HT2
  isplitl [HTC]; · iexact HTC
  isplitl [HL1]; · iexact HL1
  isplitl [HK1]; · iexact HK1
  isplitl [HK2]; · iexact HK2
  isplitl [HKC]; · iexact HKC
  isplitl [HSt0]; · iexact HSt0
  isplitl [HRt0]; · iexact HRt0
  isplitl [HC0]; · iexact HC0
  isplitl [HZ]; · iexact HZ
  isplitl [Hstt]; · iexact Hstt
  isplitl [HSf1]; · iexact HSf1
  isplitl [Hsf]; · iexact Hsf
  isplitl [HRf1]; · iexact HRf1
  iexact Hcf0

/-- The copy number 1 of the device before has landed. -/
theorem ch_waitR1 (c : Dev nD) (k : Ch) (hr : ring k = true) (n : ℕ) (hi : ∀ x ∈ keys.drop n, ixS k 1 < ix x) (hN : ixS k 1 < NL)
    {sp sp' : Space} {s₁ s₂ : Shape} {e₁ e₂ : EltTy} {src : Memref sig .tc sp' s₁ e₁} {dst : Memref sig .tc sp s₂ e₂}
    (ha : dst.view.dmaCredit = amt k) {h1 : src.view.WordExact} {h2 : dst.view.WordExact}
    {α : Type} {Q : α → sProp 𝕄} {kk : PUnit → Prog (TpuEff nD τ sig (Elt F) Λ₀ .tc) α} :
    iprop(Pers V ∗ OwN c n ∗ CH V k c 8)
      ⊢ iprop(((OwN c n ∗ CH V k c 9) -∗ WP c (kk ⟨⟩) Q)
          -∗ WP c (.op (.waitDma2 (rcvS k true) src dst h1 h2) kk) Q) := by
  simp only [CH]
  iintro ⟨HP, HO, ⟨HT2, HK1, HK2, HKC, HRt0, HC0, HZ, HSf1, Hsf, HRf1, HSt1, Hstt⟩⟩ Hk
  iapply (r_waitR V c k 1 true (slt_ring hr 1) 0 (rnd_ring hr 1) (by rw [cnt_ring hr]; decide) n hi hN ha) $$ [HP HO HK1 HRt0]
  · isplitl [HP]; · iexact HP
    isplitl [HO]; · iexact HO
    isplitl [HK1]; · iexact HK1
    iexact HRt0
  iintro ⟨HO, Hct1, HRt1⟩
  iapply Hk
  isplitl [HO]; · iexact HO
  isplitl [HT2]; · iexact HT2
  isplitl [HK2]; · iexact HK2
  isplitl [HKC]; · iexact HKC
  isplitl [HC0]; · iexact HC0
  isplitl [HZ]; · iexact HZ
  isplitl [HSf1]; · iexact HSf1
  isplitl [Hsf]; · iexact Hsf
  isplitl [HRf1]; · iexact HRf1
  isplitl [HSt1]; · iexact HSt1
  isplitl [Hstt]; · iexact Hstt
  isplitl [HRt1]; · iexact HRt1
  iexact Hct1

/-- The copy number 2 of the device before has landed. -/
theorem ch_waitR2 (c : Dev nD) (k : Ch) (hr : ring k = true) (n : ℕ) (hi : ∀ x ∈ keys.drop n, ixS k 2 < ix x) (hN : ixS k 2 < NL)
    {sp sp' : Space} {s₁ s₂ : Shape} {e₁ e₂ : EltTy} {src : Memref sig .tc sp' s₁ e₁} {dst : Memref sig .tc sp s₂ e₂}
    (ha : dst.view.dmaCredit = amt k) {h1 : src.view.WordExact} {h2 : dst.view.WordExact}
    {α : Type} {Q : α → sProp 𝕄} {kk : PUnit → Prog (TpuEff nD τ sig (Elt F) Λ₀ .tc) α} :
    iprop(Pers V ∗ OwN c n ∗ CH V k c 13)
      ⊢ iprop(((OwN c n ∗ CH V k c 14) -∗ WP c (kk ⟨⟩) Q)
          -∗ WP c (.op (.waitDma2 (rcvS k false) src dst h1 h2) kk) Q) := by
  simp only [CH]
  iintro ⟨HP, HO, ⟨HK2, HZ, HRf1, HSt1, Hstt, HRt1, Hct1, HC1, HSf2, Hsf⟩⟩ Hk
  iapply (r_waitR V c k 2 false (slt_ring hr 2) 1 (rnd_ring hr 2) (by rw [cnt_ring hr]; decide) n hi hN ha) $$ [HP HO HK2 HRf1]
  · isplitl [HP]; · iexact HP
    isplitl [HO]; · iexact HO
    isplitl [HK2]; · iexact HK2
    iexact HRf1
  iintro ⟨HO, Hcf2, HRf2⟩
  iapply Hk
  isplitl [HO]; · iexact HO
  isplitl [HZ]; · iexact HZ
  isplitl [HSt1]; · iexact HSt1
  isplitl [Hstt]; · iexact Hstt
  isplitl [HRt1]; · iexact HRt1
  isplitl [Hct1]; · iexact Hct1
  isplitl [HC1]; · iexact HC1
  isplitl [HSf2]; · iexact HSf2
  isplitl [Hsf]; · iexact Hsf
  isplitl [HRf2]; · iexact HRf2
  iexact Hcf2

/-- The copy number 0 of the device before has landed. -/
theorem xh_waitR (c : Dev nD) (k : Ch) (hr : ring k = false) (n : ℕ) (hi : ∀ x ∈ keys.drop n, ixS k 0 < ix x) (hN : ixS k 0 < NL)
    {sp sp' : Space} {s₁ s₂ : Shape} {e₁ e₂ : EltTy} {src : Memref sig .tc sp' s₁ e₁} {dst : Memref sig .tc sp s₂ e₂}
    (ha : dst.view.dmaCredit = amt k) {h1 : src.view.WordExact} {h2 : dst.view.WordExact}
    {α : Type} {Q : α → sProp 𝕄} {kk : PUnit → Prog (TpuEff nD τ sig (Elt F) Λ₀ .tc) α} :
    iprop(Pers V ∗ OwN c n ∗ XH V k c 3)
      ⊢ iprop(((OwN c n ∗ XH V k c 4) -∗ WP c (kk ⟨⟩) Q)
          -∗ WP c (.op (.waitDma2 (rcvS k false) src dst h1 h2) kk) Q) := by
  simp only [XH]
  iintro ⟨HP, HO, ⟨HK0, HRf0, HZ, HSf1, Hsf⟩⟩ Hk
  iapply (r_waitR V c k 0 false (slt_x hr 0) 0 (rnd_x hr 0) (by rw [cnt_x hr]; decide) n hi hN ha) $$ [HP HO HK0 HRf0]
  · isplitl [HP]; · iexact HP
    isplitl [HO]; · iexact HO
    isplitl [HK0]; · iexact HK0
    iexact HRf0
  iintro ⟨HO, Hcf0, HRf1⟩
  iapply Hk
  isplitl [HO]; · iexact HO
  isplitl [HZ]; · iexact HZ
  isplitl [HSf1]; · iexact HSf1
  isplitl [Hsf]; · iexact Hsf
  isplitl [HRf1]; · iexact HRf1
  iexact Hcf0

/-- The landing slot is returned to the device before. -/
theorem ch_sigC (c : Dev nD) (k : Ch) (hr : ring k = true) (i : Sem sig) (hi : crdS k = .reg i) (n : ℕ) (hk : keys[n]? = some (.crd k))
    (c' : Dev nD) (hc : c' = prv k c) {α : Type} {Q : α → sProp 𝕄} {kk : PUnit → Prog (TpuEff nD τ sig (Elt F) Λ₀ .tc) α} :
    iprop(Pers V ∗ OwN c n ∗ CH V k c 6)
      ⊢ iprop(((OwN c (n + 1) ∗ CH V k c 7) -∗ WP c (kk ⟨⟩) Q) -∗ WP c (.op (.semSignal (Dev.tc c' : Thread nD τ) i 1) kk) Q) := by
  simp only [CH]
  iintro ⟨HP, HO, ⟨HT2, HTC, HK1, HK2, HKC, HSt0, HRt0, HC0, HZ, HSf1, Hsf, HRf1, Hcf0, HXt⟩⟩ Hk
  unfold Pos RZ
  icases HRf1 with ⟨Hat, #Hr⟩
  icases HZ with ⟨HZ, ⟨#Hz1, #Hz2, #Hz3⟩⟩
  iapply (r_sigC V c k hr i hi n hk c' hc (V k (prv k c) 0)) $$ [HP HO Hcf0 HTC]
  · isplitl [HP]; · iexact HP
    isplitl [HO]; · iexact HO
    isplitl [Hcf0]; · iexact Hcf0
    isplitl [HTC]; · iexact HTC
    isplitl []; · iexact Hz3
    iexact Hr
  iintro HO
  iapply Hk
  isplitl [HO]; · iexact HO
  isplitl [HT2]; · iexact HT2
  isplitl [HK1]; · iexact HK1
  isplitl [HK2]; · iexact HK2
  isplitl [HKC]; · iexact HKC
  isplitl [HSt0]; · iexact HSt0
  isplitl [HRt0]; · iexact HRt0
  isplitl [HC0]; · iexact HC0
  isplitl [HZ]
  · isplitl [HZ]; · iexact HZ
    isplitl []; · iexact Hz1
    isplitl []; · iexact Hz2
    iexact Hz3
  isplitl [HSf1]; · iexact HSf1
  isplitl [Hsf]; · iexact Hsf
  isplitl [Hat]
  · isplitl [Hat]; · iexact Hat
    iexact Hr
  iexact HXt

/-- The next device has returned its landing slot. -/
theorem ch_waitC (c : Dev nD) (k : Ch) (hr : ring k = true) (i : Sem sig) (hi : crdS k = .reg i) (n : ℕ) (hx : ∀ x ∈ keys.drop n, ixC k < ix x) (hN : ixC k < NL)
    {α : Type} {Q : α → sProp 𝕄} {kk : PUnit → Prog (TpuEff nD τ sig (Elt F) Λ₀ .tc) α} :
    iprop(Pers V ∗ OwN c n ∗ CH V k c 10)
      ⊢ iprop(((OwN c n ∗ CH V k c 11) -∗ WP c (kk ⟨⟩) Q) -∗ WP c (.op (.semWait i 1) kk) Q) := by
  simp only [CH]
  iintro ⟨HP, HO, ⟨HT2, HK2, HKC, HC0, HZ, HSf1, HRf1, HSt1, Hstt, HRt1, Hct1, Hsf2⟩⟩ Hk
  iapply (r_waitC V c k hr i hi n hx hN) $$ [HP HO HKC HC0]
  · isplitl [HP]; · iexact HP
    isplitl [HO]; · iexact HO
    isplitl [HKC]; · iexact HKC
    iexact HC0
  iintro ⟨HO, HL, Hr, HC1⟩
  iapply Hk
  isplitl [HO]; · iexact HO
  isplitl [HT2]; · iexact HT2
  isplitl [HK2]; · iexact HK2
  isplitl [HZ]; · iexact HZ
  isplitl [HSf1]; · iexact HSf1
  isplitl [HRf1]; · iexact HRf1
  isplitl [HSt1]; · iexact HSt1
  isplitl [Hstt]; · iexact Hstt
  isplitl [HRt1]; · iexact HRt1
  isplitl [Hct1]; · iexact Hct1
  isplitl [Hsf2]; · iexact Hsf2
  isplitl [HC1]; · iexact HC1
  isplitl [HL]; · iexact HL
  iexact Hr

/-- The sending slot, to be filled with the first contents. -/
theorem ch_st0 (c : Dev nD) (k : Ch) : CH V k c 0 ⊢ (iprop(ownA (F := F) c (st k false) ∗ (own c (st k false) (V k c 0) -∗ CH V k c 1)) : sProp 𝕄) := by
  simp only [CH]
  iintro ⟨HT0, HT1, HT2, HTC, HL0, HL1, HK0, HK1, HK2, HKC, HSf0, HSt0, HRf0, HRt0, HC0, HZ, Hsf, Hstt⟩
  isplitl [Hsf]; · iexact Hsf
  iintro Hsf0
  isplitl [HT0]; · iexact HT0
  isplitl [HT1]; · iexact HT1
  isplitl [HT2]; · iexact HT2
  isplitl [HTC]; · iexact HTC
  isplitl [HL0]; · iexact HL0
  isplitl [HL1]; · iexact HL1
  isplitl [HK0]; · iexact HK0
  isplitl [HK1]; · iexact HK1
  isplitl [HK2]; · iexact HK2
  isplitl [HKC]; · iexact HKC
  isplitl [HSf0]; · iexact HSf0
  isplitl [HSt0]; · iexact HSt0
  isplitl [HRf0]; · iexact HRf0
  isplitl [HRt0]; · iexact HRt0
  isplitl [HC0]; · iexact HC0
  isplitl [HZ]; · iexact HZ
  isplitl [Hstt]; · iexact Hstt
  iexact Hsf0

/-- The sending slot, whatever it holds. -/
theorem ch_std0 (c : Dev nD) (k : Ch) : CH V k c 0 ⊢ (iprop(ownA (F := F) c (st k false) ∗ (ownA (F := F) c (st k false) -∗ CH V k c 0)) : sProp 𝕄) := by
  simp only [CH]
  iintro ⟨HT0, HT1, HT2, HTC, HL0, HL1, HK0, HK1, HK2, HKC, HSf0, HSt0, HRf0, HRt0, HC0, HZ, Hsf, Hstt⟩
  isplitl [Hsf]; · iexact Hsf
  iintro Hsf
  isplitl [HT0]; · iexact HT0
  isplitl [HT1]; · iexact HT1
  isplitl [HT2]; · iexact HT2
  isplitl [HTC]; · iexact HTC
  isplitl [HL0]; · iexact HL0
  isplitl [HL1]; · iexact HL1
  isplitl [HK0]; · iexact HK0
  isplitl [HK1]; · iexact HK1
  isplitl [HK2]; · iexact HK2
  isplitl [HKC]; · iexact HKC
  isplitl [HSf0]; · iexact HSf0
  isplitl [HSt0]; · iexact HSt0
  isplitl [HRf0]; · iexact HRf0
  isplitl [HRt0]; · iexact HRt0
  isplitl [HC0]; · iexact HC0
  isplitl [HZ]; · iexact HZ
  isplitl [Hsf]; · iexact Hsf
  iexact Hstt

/-- The sending slot, whatever it holds. -/
theorem ch_std4 (c : Dev nD) (k : Ch) : CH V k c 4 ⊢ (iprop(ownA (F := F) c (st k true) ∗ (ownA (F := F) c (st k true) -∗ CH V k c 4)) : sProp 𝕄) := by
  simp only [CH]
  iintro ⟨HT1, HT2, HTC, HL1, HK1, HK2, HKC, HSt0, HRt0, HC0, HZ, Hstt, HSf1, Hsf, HRf1, Hcf0⟩
  isplitl [Hstt]; · iexact Hstt
  iintro Hstt
  isplitl [HT1]; · iexact HT1
  isplitl [HT2]; · iexact HT2
  isplitl [HTC]; · iexact HTC
  isplitl [HL1]; · iexact HL1
  isplitl [HK1]; · iexact HK1
  isplitl [HK2]; · iexact HK2
  isplitl [HKC]; · iexact HKC
  isplitl [HSt0]; · iexact HSt0
  isplitl [HRt0]; · iexact HRt0
  isplitl [HC0]; · iexact HC0
  isplitl [HZ]; · iexact HZ
  isplitl [Hstt]; · iexact Hstt
  isplitl [HSf1]; · iexact HSf1
  isplitl [Hsf]; · iexact Hsf
  isplitl [HRf1]; · iexact HRf1
  iexact Hcf0

/-- The sending slot, whatever it holds. -/
theorem ch_std9 (c : Dev nD) (k : Ch) : CH V k c 9 ⊢ (iprop(ownA (F := F) c (st k false) ∗ (ownA (F := F) c (st k false) -∗ CH V k c 9)) : sProp 𝕄) := by
  simp only [CH]
  iintro ⟨HT2, HK2, HKC, HC0, HZ, HSf1, Hsf, HRf1, HSt1, Hstt, HRt1, Hct1⟩
  isplitl [Hsf]; · iexact Hsf
  iintro Hsf
  isplitl [HT2]; · iexact HT2
  isplitl [HK2]; · iexact HK2
  isplitl [HKC]; · iexact HKC
  isplitl [HC0]; · iexact HC0
  isplitl [HZ]; · iexact HZ
  isplitl [HSf1]; · iexact HSf1
  isplitl [Hsf]; · iexact Hsf
  isplitl [HRf1]; · iexact HRf1
  isplitl [HSt1]; · iexact HSt1
  isplitl [Hstt]; · iexact Hstt
  isplitl [HRt1]; · iexact HRt1
  iexact Hct1

/-- The sending slot, whatever it holds. -/
theorem xh_std0 (c : Dev nD) (k : Ch) : XH V k c 0 ⊢ (iprop(ownA (F := F) c (st k false) ∗ (ownA (F := F) c (st k false) -∗ XH V k c 0)) : sProp 𝕄) := by
  simp only [XH]
  iintro ⟨HT0, HL0, HK0, HSf0, HRf0, HZ, Hsf⟩
  isplitl [Hsf]; · iexact Hsf
  iintro Hsf
  isplitl [HT0]; · iexact HT0
  isplitl [HL0]; · iexact HL0
  isplitl [HK0]; · iexact HK0
  isplitl [HSf0]; · iexact HSf0
  isplitl [HRf0]; · iexact HRf0
  isplitl [HZ]; · iexact HZ
  iexact Hsf

/-- The sending slot, to be filled with the second contents. -/
theorem ch_st1 (c : Dev nD) (k : Ch) : CH V k c 4 ⊢ (iprop(ownA (F := F) c (st k true) ∗ (own c (st k true) (V k c 1) -∗ CH V k c 5)) : sProp 𝕄) := by
  simp only [CH]
  iintro ⟨HT1, HT2, HTC, HL1, HK1, HK2, HKC, HSt0, HRt0, HC0, HZ, Hstt, HSf1, Hsf, HRf1, Hcf0⟩
  isplitl [Hstt]; · iexact Hstt
  iintro Hst1
  isplitl [HT1]; · iexact HT1
  isplitl [HT2]; · iexact HT2
  isplitl [HTC]; · iexact HTC
  isplitl [HL1]; · iexact HL1
  isplitl [HK1]; · iexact HK1
  isplitl [HK2]; · iexact HK2
  isplitl [HKC]; · iexact HKC
  isplitl [HSt0]; · iexact HSt0
  isplitl [HRt0]; · iexact HRt0
  isplitl [HC0]; · iexact HC0
  isplitl [HZ]; · iexact HZ
  isplitl [HSf1]; · iexact HSf1
  isplitl [Hsf]; · iexact Hsf
  isplitl [HRf1]; · iexact HRf1
  isplitl [Hcf0]; · iexact Hcf0
  iexact Hst1

/-- The sending slot, to be filled with the third contents. -/
theorem ch_st2 (c : Dev nD) (k : Ch) : CH V k c 9 ⊢ (iprop(ownA (F := F) c (st k false) ∗ (own c (st k false) (V k c 2) -∗ CH V k c 10)) : sProp 𝕄) := by
  simp only [CH]
  iintro ⟨HT2, HK2, HKC, HC0, HZ, HSf1, Hsf, HRf1, HSt1, Hstt, HRt1, Hct1⟩
  isplitl [Hsf]; · iexact Hsf
  iintro Hsf2
  isplitl [HT2]; · iexact HT2
  isplitl [HK2]; · iexact HK2
  isplitl [HKC]; · iexact HKC
  isplitl [HC0]; · iexact HC0
  isplitl [HZ]; · iexact HZ
  isplitl [HSf1]; · iexact HSf1
  isplitl [HRf1]; · iexact HRf1
  isplitl [HSt1]; · iexact HSt1
  isplitl [Hstt]; · iexact Hstt
  isplitl [HRt1]; · iexact HRt1
  isplitl [Hct1]; · iexact Hct1
  iexact Hsf2

/-- The sending slot, to be filled. -/
theorem xh_st (c : Dev nD) (k : Ch) : XH V k c 0 ⊢ (iprop(ownA (F := F) c (st k false) ∗ (own c (st k false) (V k c 0) -∗ XH V k c 1)) : sProp 𝕄) := by
  simp only [XH]
  iintro ⟨HT0, HL0, HK0, HSf0, HRf0, HZ, Hsf⟩
  isplitl [Hsf]; · iexact Hsf
  iintro Hsf0
  isplitl [HT0]; · iexact HT0
  isplitl [HL0]; · iexact HL0
  isplitl [HK0]; · iexact HK0
  isplitl [HSf0]; · iexact HSf0
  isplitl [HRf0]; · iexact HRf0
  isplitl [HZ]; · iexact HZ
  iexact Hsf0

/-- What has landed. -/
theorem ch_cm4 (c : Dev nD) (k : Ch) : CH V k c 4 ⊢ (iprop(own c (cm k false) (V k (prv k c) 0) ∗ (own c (cm k false) (V k (prv k c) 0) -∗ CH V k c 4)) : sProp 𝕄) := by
  simp only [CH]
  iintro ⟨HT1, HT2, HTC, HL1, HK1, HK2, HKC, HSt0, HRt0, HC0, HZ, Hstt, HSf1, Hsf, HRf1, Hcf0⟩
  isplitl [Hcf0]; · iexact Hcf0
  iintro Hcf0
  isplitl [HT1]; · iexact HT1
  isplitl [HT2]; · iexact HT2
  isplitl [HTC]; · iexact HTC
  isplitl [HL1]; · iexact HL1
  isplitl [HK1]; · iexact HK1
  isplitl [HK2]; · iexact HK2
  isplitl [HKC]; · iexact HKC
  isplitl [HSt0]; · iexact HSt0
  isplitl [HRt0]; · iexact HRt0
  isplitl [HC0]; · iexact HC0
  isplitl [HZ]; · iexact HZ
  isplitl [Hstt]; · iexact Hstt
  isplitl [HSf1]; · iexact HSf1
  isplitl [Hsf]; · iexact Hsf
  isplitl [HRf1]; · iexact HRf1
  iexact Hcf0

/-- What has landed. -/
theorem ch_cm5 (c : Dev nD) (k : Ch) : CH V k c 5 ⊢ (iprop(own c (cm k false) (V k (prv k c) 0) ∗ (own c (cm k false) (V k (prv k c) 0) -∗ CH V k c 5)) : sProp 𝕄) := by
  simp only [CH]
  iintro ⟨HT1, HT2, HTC, HL1, HK1, HK2, HKC, HSt0, HRt0, HC0, HZ, HSf1, Hsf, HRf1, Hcf0, Hst1⟩
  isplitl [Hcf0]; · iexact Hcf0
  iintro Hcf0
  isplitl [HT1]; · iexact HT1
  isplitl [HT2]; · iexact HT2
  isplitl [HTC]; · iexact HTC
  isplitl [HL1]; · iexact HL1
  isplitl [HK1]; · iexact HK1
  isplitl [HK2]; · iexact HK2
  isplitl [HKC]; · iexact HKC
  isplitl [HSt0]; · iexact HSt0
  isplitl [HRt0]; · iexact HRt0
  isplitl [HC0]; · iexact HC0
  isplitl [HZ]; · iexact HZ
  isplitl [HSf1]; · iexact HSf1
  isplitl [Hsf]; · iexact Hsf
  isplitl [HRf1]; · iexact HRf1
  isplitl [Hcf0]; · iexact Hcf0
  iexact Hst1

/-- What has landed. -/
theorem ch_cm6 (c : Dev nD) (k : Ch) : CH V k c 6 ⊢ (iprop(own c (cm k false) (V k (prv k c) 0) ∗ (own c (cm k false) (V k (prv k c) 0) -∗ CH V k c 6)) : sProp 𝕄) := by
  simp only [CH]
  iintro ⟨HT2, HTC, HK1, HK2, HKC, HSt0, HRt0, HC0, HZ, HSf1, Hsf, HRf1, Hcf0, HXt⟩
  isplitl [Hcf0]; · iexact Hcf0
  iintro Hcf0
  isplitl [HT2]; · iexact HT2
  isplitl [HTC]; · iexact HTC
  isplitl [HK1]; · iexact HK1
  isplitl [HK2]; · iexact HK2
  isplitl [HKC]; · iexact HKC
  isplitl [HSt0]; · iexact HSt0
  isplitl [HRt0]; · iexact HRt0
  isplitl [HC0]; · iexact HC0
  isplitl [HZ]; · iexact HZ
  isplitl [HSf1]; · iexact HSf1
  isplitl [Hsf]; · iexact Hsf
  isplitl [HRf1]; · iexact HRf1
  isplitl [Hcf0]; · iexact Hcf0
  iexact HXt

/-- What has landed. -/
theorem ch_cm9 (c : Dev nD) (k : Ch) : CH V k c 9 ⊢ (iprop(own c (cm k true) (V k (prv k c) 1) ∗ (own c (cm k true) (V k (prv k c) 1) -∗ CH V k c 9)) : sProp 𝕄) := by
  simp only [CH]
  iintro ⟨HT2, HK2, HKC, HC0, HZ, HSf1, Hsf, HRf1, HSt1, Hstt, HRt1, Hct1⟩
  isplitl [Hct1]; · iexact Hct1
  iintro Hct1
  isplitl [HT2]; · iexact HT2
  isplitl [HK2]; · iexact HK2
  isplitl [HKC]; · iexact HKC
  isplitl [HC0]; · iexact HC0
  isplitl [HZ]; · iexact HZ
  isplitl [HSf1]; · iexact HSf1
  isplitl [Hsf]; · iexact Hsf
  isplitl [HRf1]; · iexact HRf1
  isplitl [HSt1]; · iexact HSt1
  isplitl [Hstt]; · iexact Hstt
  isplitl [HRt1]; · iexact HRt1
  iexact Hct1

/-- What has landed. -/
theorem ch_cm10 (c : Dev nD) (k : Ch) : CH V k c 10 ⊢ (iprop(own c (cm k true) (V k (prv k c) 1) ∗ (own c (cm k true) (V k (prv k c) 1) -∗ CH V k c 10)) : sProp 𝕄) := by
  simp only [CH]
  iintro ⟨HT2, HK2, HKC, HC0, HZ, HSf1, HRf1, HSt1, Hstt, HRt1, Hct1, Hsf2⟩
  isplitl [Hct1]; · iexact Hct1
  iintro Hct1
  isplitl [HT2]; · iexact HT2
  isplitl [HK2]; · iexact HK2
  isplitl [HKC]; · iexact HKC
  isplitl [HC0]; · iexact HC0
  isplitl [HZ]; · iexact HZ
  isplitl [HSf1]; · iexact HSf1
  isplitl [HRf1]; · iexact HRf1
  isplitl [HSt1]; · iexact HSt1
  isplitl [Hstt]; · iexact Hstt
  isplitl [HRt1]; · iexact HRt1
  isplitl [Hct1]; · iexact Hct1
  iexact Hsf2

/-- What has landed. -/
theorem ch_cm11 (c : Dev nD) (k : Ch) : CH V k c 11 ⊢ (iprop(own c (cm k true) (V k (prv k c) 1) ∗ (own c (cm k true) (V k (prv k c) 1) -∗ CH V k c 11)) : sProp 𝕄) := by
  simp only [CH]
  iintro ⟨HT2, HK2, HZ, HSf1, HRf1, HSt1, Hstt, HRt1, Hct1, Hsf2, HC1, HL2⟩
  isplitl [Hct1]; · iexact Hct1
  iintro Hct1
  isplitl [HT2]; · iexact HT2
  isplitl [HK2]; · iexact HK2
  isplitl [HZ]; · iexact HZ
  isplitl [HSf1]; · iexact HSf1
  isplitl [HRf1]; · iexact HRf1
  isplitl [HSt1]; · iexact HSt1
  isplitl [Hstt]; · iexact Hstt
  isplitl [HRt1]; · iexact HRt1
  isplitl [Hct1]; · iexact Hct1
  isplitl [Hsf2]; · iexact Hsf2
  isplitl [HC1]; · iexact HC1
  iexact HL2

/-- What has landed. -/
theorem ch_cm12 (c : Dev nD) (k : Ch) : CH V k c 12 ⊢ (iprop(own c (cm k true) (V k (prv k c) 1) ∗ (own c (cm k true) (V k (prv k c) 1) -∗ CH V k c 12)) : sProp 𝕄) := by
  simp only [CH]
  iintro ⟨HK2, HZ, HSf1, HRf1, HSt1, Hstt, HRt1, Hct1, HC1, HXf⟩
  isplitl [Hct1]; · iexact Hct1
  iintro Hct1
  isplitl [HK2]; · iexact HK2
  isplitl [HZ]; · iexact HZ
  isplitl [HSf1]; · iexact HSf1
  isplitl [HRf1]; · iexact HRf1
  isplitl [HSt1]; · iexact HSt1
  isplitl [Hstt]; · iexact Hstt
  isplitl [HRt1]; · iexact HRt1
  isplitl [Hct1]; · iexact Hct1
  isplitl [HC1]; · iexact HC1
  iexact HXf

/-- What has landed. -/
theorem ch_cm13 (c : Dev nD) (k : Ch) : CH V k c 13 ⊢ (iprop(own c (cm k true) (V k (prv k c) 1) ∗ (own c (cm k true) (V k (prv k c) 1) -∗ CH V k c 13)) : sProp 𝕄) := by
  simp only [CH]
  iintro ⟨HK2, HZ, HRf1, HSt1, Hstt, HRt1, Hct1, HC1, HSf2, Hsf⟩
  isplitl [Hct1]; · iexact Hct1
  iintro Hct1
  isplitl [HK2]; · iexact HK2
  isplitl [HZ]; · iexact HZ
  isplitl [HRf1]; · iexact HRf1
  isplitl [HSt1]; · iexact HSt1
  isplitl [Hstt]; · iexact Hstt
  isplitl [HRt1]; · iexact HRt1
  isplitl [Hct1]; · iexact Hct1
  isplitl [HC1]; · iexact HC1
  isplitl [HSf2]; · iexact HSf2
  iexact Hsf

/-- What has landed. -/
theorem ch_cm14 (c : Dev nD) (k : Ch) : CH V k c 14 ⊢ (iprop(own c (cm k true) (V k (prv k c) 1) ∗ (own c (cm k true) (V k (prv k c) 1) -∗ CH V k c 14)) : sProp 𝕄) := by
  simp only [CH]
  iintro ⟨HZ, HSt1, Hstt, HRt1, Hct1, HC1, HSf2, Hsf, HRf2, Hcf2⟩
  isplitl [Hct1]; · iexact Hct1
  iintro Hct1
  isplitl [HZ]; · iexact HZ
  isplitl [HSt1]; · iexact HSt1
  isplitl [Hstt]; · iexact Hstt
  isplitl [HRt1]; · iexact HRt1
  isplitl [Hct1]; · iexact Hct1
  isplitl [HC1]; · iexact HC1
  isplitl [HSf2]; · iexact HSf2
  isplitl [Hsf]; · iexact Hsf
  isplitl [HRf2]; · iexact HRf2
  iexact Hcf2

/-- What has landed last. -/
theorem ch_cm14f (c : Dev nD) (k : Ch) : CH V k c 14 ⊢ (iprop(own c (cm k false) (V k (prv k c) 2) ∗ (own c (cm k false) (V k (prv k c) 2) -∗ CH V k c 14)) : sProp 𝕄) := by
  simp only [CH]
  iintro ⟨HZ, HSt1, Hstt, HRt1, Hct1, HC1, HSf2, Hsf, HRf2, Hcf2⟩
  isplitl [Hcf2]; · iexact Hcf2
  iintro Hcf2
  isplitl [HZ]; · iexact HZ
  isplitl [HSt1]; · iexact HSt1
  isplitl [Hstt]; · iexact Hstt
  isplitl [HRt1]; · iexact HRt1
  isplitl [Hct1]; · iexact Hct1
  isplitl [HC1]; · iexact HC1
  isplitl [HSf2]; · iexact HSf2
  isplitl [Hsf]; · iexact Hsf
  isplitl [HRf2]; · iexact HRf2
  iexact Hcf2

/-- What has landed. -/
theorem xh_cm (c : Dev nD) (k : Ch) : XH V k c 4 ⊢ (iprop(own c (cm k false) (V k (prv k c) 0) ∗ (own c (cm k false) (V k (prv k c) 0) -∗ XH V k c 4)) : sProp 𝕄) := by
  simp only [XH]
  iintro ⟨HZ, HSf1, Hsf, HRf1, Hcf0⟩
  isplitl [Hcf0]; · iexact Hcf0
  iintro Hcf0
  isplitl [HZ]; · iexact HZ
  isplitl [HSf1]; · iexact HSf1
  isplitl [Hsf]; · iexact Hsf
  isplitl [HRf1]; · iexact HRf1
  iexact Hcf0

/-! ## Loads and stores -/

/-- What a buffer's contents are through a rectangle. -/
def ld {s : Shape} {α : Type} (X : s.Idx → α) (r : Rect s) : r.shape.Idx → α := fun i => X (r.emb i)

/-- A load of a whole slot. -/
theorem r_load (c : Dev nD) {cs : CoreSpace} {s : Shape} {e : EltTy} (m : Memref sig .tc cs s e) (r : Rect s) (hr : ∀ a, r.stride a = 1)
    (X : r.shape.Idx → Elt F e) {hl : m.view.LoadsAt r.toLoadRect}
    {α : Type} {Q : α → sProp 𝕄} {kk : (r.shape.Idx → Elt F e) → Prog (TpuEff nD τ sig (Elt F) Λ₀ .tc) α} :
    own c (m.slice r hr) X ⊢ iprop((own c (m.slice r hr) X -∗ WP c (kk X) Q) -∗ WP c (.op (.load m r.toLoadRect hl) kk) Q) := by
  unfold own ownsTc owns
  iintro ⟨%f, %hf, H⟩ Hk
  iapply (wp_load_rect 𝒱₀ (c : Thread nD τ) none Set.univ (S := (m.slice r hr).view.set) (f := f) (r := r) (m := m) subset_rfl) $$ H
  iintro H
  rw [show (m.access r).read (Elt F) f = X from hf]
  iapply Hk
  iexists f
  isplitr; · ipureintro; exact hf
  iexact H

/-- A store over a whole slot. -/
theorem r_store (c : Dev nD) {cs : CoreSpace} {s : Shape} {e : EltTy} (m : Memref sig .tc cs s e) (r : Rect s) (hr : ∀ a, r.stride a = 1)
    (X w Y : r.shape.Idx → Elt F e) (hw : w = Y) {hx : (m.access r).Stores Finset.univ} {hm : Finset.univ = Finset.univ ∨ ∀ a, r.stride a = 1}
    {α : Type} {Q : α → sProp 𝕄} {kk : PUnit → Prog (TpuEff nD τ sig (Elt F) Λ₀ .tc) α} :
    own c (m.slice r hr) X ⊢ iprop((own c (m.slice r hr) Y -∗ WP c (kk ⟨⟩) Q) -∗ WP c (.op (.store m r w Finset.univ hx hm) kk) Q) := by
  subst hw
  unfold own ownsTc owns
  iintro ⟨%f, %hf, H⟩ Hk
  iapply (wp_store 𝒱₀ (c : Thread nD τ) none Set.univ (S := (m.slice r hr).view.set) (f := f) (r := r) (m := m) (w := w) (Mk := Finset.univ) subset_rfl) $$ H
  iintro H
  iapply Hk
  iexists _
  isplitr
  rotate_left
  · iexact H
  · ipureintro; exact View.read_write_univ (v := (m.slice r hr).view) f w

/-- A load from a memref held whole. -/
theorem m_load (c : Dev nD) {cs : CoreSpace} {s : Shape} {e : EltTy} (m : Memref sig .tc cs s e) (r : Rect s)
    (X : s.Idx → Elt F e) {hl : m.view.LoadsAt r.toLoadRect}
    {α : Type} {Q : α → sProp 𝕄} {kk : (r.shape.Idx → Elt F e) → Prog (TpuEff nD τ sig (Elt F) Λ₀ .tc) α} :
    own c m X ⊢ iprop((own c m X -∗ WP c (kk (ld X r)) Q) -∗ WP c (.op (.load m r.toLoadRect hl) kk) Q) := by
  unfold own ownsTc owns
  iintro ⟨%f, %hf, H⟩ Hk
  iapply (wp_load_rect 𝒱₀ (c : Thread nD τ) none Set.univ (S := m.view.set) (f := f) (r := r) (m := m) (m.view.set_slice_subset r)) $$ H
  iintro H
  rw [show (m.access r).read (Elt F) f = ld X r from by rw [← hf]; rfl]
  iapply Hk
  iexists f
  isplitr; · ipureintro; exact hf
  iexact H

/-- A store into a memref held whole. -/
theorem m_store (c : Dev nD) {cs : CoreSpace} {s : Shape} {e : EltTy} (m : Memref sig .tc cs s e) (r : Rect s)
    (X : s.Idx → Elt F e) (w : r.shape.Idx → Elt F e) {hx : (m.access r).Stores Finset.univ} {hm : Finset.univ = Finset.univ ∨ ∀ a, r.stride a = 1}
    {α : Type} {Q : α → sProp 𝕄} {kk : PUnit → Prog (TpuEff nD τ sig (Elt F) Λ₀ .tc) α} :
    own c m X ⊢ iprop((own c m (r.overlay X w) -∗ WP c (kk ⟨⟩) Q) -∗ WP c (.op (.store m r w Finset.univ hx hm) kk) Q) := by
  unfold own ownsTc owns
  iintro ⟨%f, %hf, H⟩ Hk
  iapply (wp_store 𝒱₀ (c : Thread nD τ) none Set.univ (S := m.view.set) (f := f) (r := r) (m := m) (w := w) (Mk := Finset.univ) (m.view.set_slice_subset r)) $$ H
  iintro H
  iapply Hk
  iexists _
  isplitr
  rotate_left
  · iexact H
  · ipureintro
    funext j
    by_cases hj : j ∈ r.set
    · rw [← Rect.map_emb_univ] at hj
      obtain ⟨i, -, rfl⟩ := Finset.mem_map.mp hj
      rw [Rect.overlay_emb]
      exact View.read_slice_write_emb (v := m.view) r f w (Finset.mem_univ i)
    · rw [Rect.overlay_of_not_mem r X w hj, ← hf]
      exact View.read_slice_write_of_not_mem (v := m.view) r f w Finset.univ (by rw [Rect.map_emb_univ]; exact hj)

/-! ## A buffer written piece by piece

The pieces are a list of rectangles, the contents after each piece a model; the buffer agrees with the model on the pieces
written. -/

/-- The buffer agrees with the model on the first `n` pieces. -/
def Agr (c : Dev nD) {sp : Space} {s : Shape} {e : EltTy} (m : Memref sig .tc sp s e) (wr : List (Rect s)) (O : ℕ → s.Idx → Elt F e) (n : ℕ) : sProp 𝕄 :=
  iprop(∃ g, ⌜∀ j, (∃ r ∈ wr.take n, j ∈ r.set) → g j = O n j⌝ ∗ own c m g)

theorem agr_init (c : Dev nD) {sp : Space} {s : Shape} {e : EltTy} (m : Memref sig .tc sp s e) (wr : List (Rect s)) (O : ℕ → s.Idx → Elt F e) :
    ownA (F := F) c m ⊢ (Agr c m wr O 0 : sProp 𝕄) := by
  unfold Agr
  iintro ⟨%g, H⟩
  iexists g
  isplitr; · ipureintro; rintro j ⟨r, hr, -⟩; simp at hr
  iexact H

/-- All pieces written, and these cover the buffer: the contents are the model's. -/
theorem agr_done (c : Dev nD) {sp : Space} {s : Shape} {e : EltTy} (m : Memref sig .tc sp s e) (wr : List (Rect s)) (O : ℕ → s.Idx → Elt F e) (n : ℕ)
    (h : ∀ j, ∃ r ∈ wr.take n, j ∈ r.set) : Agr c m wr O n ⊢ (own c m (O n) : sProp 𝕄) := by
  unfold Agr
  iintro ⟨%g, %hg, H⟩
  rw [show O n = g from funext fun j => (hg j (h j)).symm]
  iexact H

/-- A load of what has been written. -/
theorem a_load (c : Dev nD) {cs : CoreSpace} {s : Shape} {e : EltTy} (m : Memref sig .tc cs s e) (r : Rect s)
    (wr : List (Rect s)) (O : ℕ → s.Idx → Elt F e) (n : ℕ) (h : ∀ j ∈ r.set, ∃ r' ∈ wr.take n, j ∈ r'.set) {hl : m.view.LoadsAt r.toLoadRect}
    {α : Type} {Q : α → sProp 𝕄} {kk : (r.shape.Idx → Elt F e) → Prog (TpuEff nD τ sig (Elt F) Λ₀ .tc) α} :
    Agr c m wr O n ⊢ iprop((Agr c m wr O n -∗ WP c (kk (ld (O n) r)) Q) -∗ WP c (.op (.load m r.toLoadRect hl) kk) Q) := by
  unfold Agr
  iintro ⟨%g, %hg, H⟩ Hk
  iapply (m_load c m r g) $$ H
  iintro H
  rw [show ld (O n) r = ld g r from funext fun i => (hg _ (h _ (by rw [← Rect.map_emb_univ]; exact Finset.mem_map_of_mem _ (Finset.mem_univ i)))).symm]
  iapply Hk
  iexists g
  isplitr; · ipureintro; exact hg
  iexact H

/-- A load whose value is not used. -/
theorem a_dead (c : Dev nD) {cs : CoreSpace} {s : Shape} {e : EltTy} (m : Memref sig .tc cs s e) (r : Rect s)
    (wr : List (Rect s)) (O : ℕ → s.Idx → Elt F e) (n : ℕ) {hl : m.view.LoadsAt r.toLoadRect}
    {α : Type} {Q : α → sProp 𝕄} {kk : Prog (TpuEff nD τ sig (Elt F) Λ₀ .tc) α} :
    Agr c m wr O n ⊢ iprop((Agr c m wr O n -∗ WP c kk Q) -∗ WP c (.op (.load m r.toLoadRect hl) fun _ => kk) Q) := by
  unfold Agr
  iintro ⟨%g, %hg, H⟩ Hk
  iapply (m_load c m r g) $$ H
  iintro H
  iapply Hk
  iexists g
  isplitr; · ipureintro; exact hg
  iexact H

/-- The next piece is written. -/
theorem a_store (c : Dev nD) {cs : CoreSpace} {s : Shape} {e : EltTy} (m : Memref sig .tc cs s e) (r : Rect s) (w : r.shape.Idx → Elt F e)
    (wr : List (Rect s)) (O : ℕ → s.Idx → Elt F e) (n : ℕ) (hr : wr[n]? = some r) (hO : O (n + 1) = r.overlay (O n) w)
    {hx : (m.access r).Stores Finset.univ} {hm : Finset.univ = Finset.univ ∨ ∀ a, r.stride a = 1}
    {α : Type} {Q : α → sProp 𝕄} {kk : PUnit → Prog (TpuEff nD τ sig (Elt F) Λ₀ .tc) α} :
    Agr c m wr O n ⊢ iprop((Agr c m wr O (n + 1) -∗ WP c (kk ⟨⟩) Q) -∗ WP c (.op (.store m r w Finset.univ hx hm) kk) Q) := by
  unfold Agr
  iintro ⟨%g, %hg, H⟩ Hk
  iapply (m_store c m r g w) $$ H
  iintro H
  iapply Hk
  iexists _
  isplitr
  rotate_left
  · iexact H
  · ipureintro
    rintro j ⟨r', hr', hj⟩
    rw [hO]
    by_cases hj' : j ∈ r.set
    · rw [← Rect.map_emb_univ] at hj'
      obtain ⟨i, -, rfl⟩ := Finset.mem_map.mp hj'
      rw [Rect.overlay_emb, Rect.overlay_emb]
    · rw [Rect.overlay_of_not_mem r _ w hj', Rect.overlay_of_not_mem r _ w hj']
      refine hg j ⟨r', ?_, hj⟩
      rw [List.take_add_one, hr] at hr'
      rcases List.mem_append.mp hr' with h | h
      · exact h
      · simp at h; subst h; exact absurd hj hj'

end Cert.KernelIdeal.Moe

end
-- ==== Proof.Vals.lean ====
/-
The values the kernel computes, over any float values: the coefficients, the products of the own experts, what the
copies carry, and the contents of the result buffer after each store.
-/
module

public import proofs.«01_k».proof.Proof.Chain
public import proofs.«01_k».proof.Proof.Gen.KernelIdeal.Skeleton

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok launchOf)
open Idealize.ShloMosaic.TalkSites Idealize.ShloMosaic.SiteBlocks

variable {F : FTy → Type} [FloatOps F]

/-- What the devices hold when the kernel starts: tokens, router weights, chosen experts, expert weights, shared weights. -/
structure Inp (F : FTy → Type) [FloatOps F] where
  x : Dev nD → S1024x512.Idx → Elt F .f32
  rw : Dev nD → S512x128.Idx → Elt F .f32
  ri : Dev nD → S1x1024.Idx → Elt F .i32
  ew : Dev nD → S4x512x1024.Idx → Elt F .f32
  sw : Dev nD → S512x1024.Idx → Elt F .f32

/-- The position of the device in the mesh, as a word. -/
def w2 (c : Dev nD) : BitVec 32 := Scalar.remsi (Scalar.divsi (Dev.word c) 1#32) 32#32

/-! ## Casts between a slot and a block -/

def upA (v : FVec F S256x256 .f32) : FVec F S1x256x256 .f32 := shapeCast S1x256x256 v shapeCasts_S256x256_S1x256x256
def dnA (v : FVec F S1x256x256 .f32) : FVec F S256x256 .f32 := shapeCast S256x256 v shapeCasts_S1x256x256_S256x256
def idA (v : FVec F S256x256 .f32) : FVec F S256x256 .f32 := shapeCast S256x256 v shapeCasts_S256x256_S256x256
def upB (v : FVec F S64x512 .f32) : FVec F S1x64x512 .f32 := shapeCast S1x64x512 v shapeCasts_S64x512_S1x64x512
def dnB (v : FVec F S1x64x512 .f32) : FVec F S64x512 .f32 := shapeCast S64x512 v shapeCasts_S1x64x512_S64x512
def idB (v : FVec F S64x512 .f32) : FVec F S64x512 .f32 := shapeCast S64x512 v shapeCasts_S64x512_S64x512
def idH (v : FVec F S256x512 .f32) : FVec F S256x512 .f32 := shapeCast S256x512 v shapeCasts_S256x512_S256x512

/-! ## Rectangles -/

abbrev rO21 (c : Dev nD) : Rect S1024x1024 := Rect.unit (s := S1024x1024) (k0_off21 c) S256x256.size (k0_off21_inb c)
abbrev rO22 (c : Dev nD) : Rect S1024x1024 := Rect.unit (s := S1024x1024) (k0_off22 c) S256x256.size (k0_off22_inb c)
abbrev rO23 (c : Dev nD) : Rect S1024x1024 := Rect.unit (s := S1024x1024) (k0_off23 c) S256x256.size (k0_off23_inb c)
abbrev rO24 (c : Dev nD) : Rect S1024x1024 := Rect.unit (s := S1024x1024) (k0_off24 c) S256x256.size (k0_off24_inb c)
abbrev rO25 (c : Dev nD) : Rect S1024x1024 := Rect.unit (s := S1024x1024) (k0_off25 c) S64x512.size (k0_off25_inb c)
abbrev rO26 (c : Dev nD) : Rect S1024x1024 := Rect.unit (s := S1024x1024) (k0_off26 c) S64x512.size (k0_off26_inb c)
abbrev rO29 (c : Dev nD) : Rect S1024x1024 := Rect.unit (s := S1024x1024) (k0_off29 c) S64x512.size (k0_off29_inb c)
abbrev rO30 (c : Dev nD) : Rect S1024x1024 := Rect.unit (s := S1024x1024) (k0_off30 c) S64x512.size (k0_off30_inb c)
abbrev rO27_0 (c : Dev nD) : Rect S1024x1024 := Rect.unit (s := S1024x1024) (k0_off27 c 0#32) S64x512.size (k0_off27_inb c 0)
abbrev rO27_1 (c : Dev nD) : Rect S1024x1024 := Rect.unit (s := S1024x1024) (k0_off27 c 1#32) S64x512.size (k0_off27_inb c 1)
abbrev rO27_2 (c : Dev nD) : Rect S1024x1024 := Rect.unit (s := S1024x1024) (k0_off27 c 2#32) S64x512.size (k0_off27_inb c 2)
abbrev rO28_0 (c : Dev nD) : Rect S1024x1024 := Rect.unit (s := S1024x1024) (k0_off28 c 0#32) S64x512.size (k0_off28_inb c 0)
abbrev rO28_1 (c : Dev nD) : Rect S1024x1024 := Rect.unit (s := S1024x1024) (k0_off28 c 1#32) S64x512.size (k0_off28_inb c 1)
abbrev rO28_2 (c : Dev nD) : Rect S1024x1024 := Rect.unit (s := S1024x1024) (k0_off28 c 2#32) S64x512.size (k0_off28_inb c 2)
abbrev rO31_0 (c : Dev nD) : Rect S1024x1024 := Rect.unit (s := S1024x1024) (k0_off31 c 0#32) S64x512.size (k0_off31_inb c 0)
abbrev rO31_1 (c : Dev nD) : Rect S1024x1024 := Rect.unit (s := S1024x1024) (k0_off31 c 1#32) S64x512.size (k0_off31_inb c 1)
abbrev rO31_2 (c : Dev nD) : Rect S1024x1024 := Rect.unit (s := S1024x1024) (k0_off31 c 2#32) S64x512.size (k0_off31_inb c 2)
abbrev rO32_0 (c : Dev nD) : Rect S1024x1024 := Rect.unit (s := S1024x1024) (k0_off32 c 0#32) S64x512.size (k0_off32_inb c 0)
abbrev rO32_1 (c : Dev nD) : Rect S1024x1024 := Rect.unit (s := S1024x1024) (k0_off32 c 1#32) S64x512.size (k0_off32_inb c 1)
abbrev rO32_2 (c : Dev nD) : Rect S1024x1024 := Rect.unit (s := S1024x1024) (k0_off32 c 2#32) S64x512.size (k0_off32_inb c 2)
abbrev rO33_0 (c : Dev nD) : Rect S1024x1024 := Rect.unit (s := S1024x1024) (k0_off33 c 0#32) S256x256.size (k0_off33_inb c 0)
abbrev rO33_1 (c : Dev nD) : Rect S1024x1024 := Rect.unit (s := S1024x1024) (k0_off33 c 1#32) S256x256.size (k0_off33_inb c 1)
abbrev rO33_2 (c : Dev nD) : Rect S1024x1024 := Rect.unit (s := S1024x1024) (k0_off33 c 2#32) S256x256.size (k0_off33_inb c 2)
abbrev rO34_0 (c : Dev nD) : Rect S1024x1024 := Rect.unit (s := S1024x1024) (k0_off34 c 0#32) S256x256.size (k0_off34_inb c 0)
abbrev rO34_1 (c : Dev nD) : Rect S1024x1024 := Rect.unit (s := S1024x1024) (k0_off34 c 1#32) S256x256.size (k0_off34_inb c 1)
abbrev rO34_2 (c : Dev nD) : Rect S1024x1024 := Rect.unit (s := S1024x1024) (k0_off34 c 2#32) S256x256.size (k0_off34_inb c 2)
abbrev rO35_0 (c : Dev nD) : Rect S1024x1024 := Rect.unit (s := S1024x1024) (k0_off35 c 0#32) S256x256.size (k0_off35_inb c 0)
abbrev rO35_1 (c : Dev nD) : Rect S1024x1024 := Rect.unit (s := S1024x1024) (k0_off35 c 1#32) S256x256.size (k0_off35_inb c 1)
abbrev rO35_2 (c : Dev nD) : Rect S1024x1024 := Rect.unit (s := S1024x1024) (k0_off35 c 2#32) S256x256.size (k0_off35_inb c 2)
abbrev rO36_0 (c : Dev nD) : Rect S1024x1024 := Rect.unit (s := S1024x1024) (k0_off36 c 0#32) S256x256.size (k0_off36_inb c 0)
abbrev rO36_1 (c : Dev nD) : Rect S1024x1024 := Rect.unit (s := S1024x1024) (k0_off36 c 1#32) S256x256.size (k0_off36_inb c 1)
abbrev rO36_2 (c : Dev nD) : Rect S1024x1024 := Rect.unit (s := S1024x1024) (k0_off36 c 2#32) S256x256.size (k0_off36_inb c 2)
abbrev rO37 (c : Dev nD) : Rect S1024x1024 := Rect.unit (s := S1024x1024) (k0_off37 c) S256x512.size (k0_off37_inb c)
abbrev rO38 (c : Dev nD) : Rect S1024x1024 := Rect.unit (s := S1024x1024) (k0_off38 c) S256x512.size (k0_off38_inb c)
abbrev rM0 (c : Dev nD) : Rect S1024x1024 := Rect.unit (s := S1024x1024) ![0, 0] S256x1024.size inb_S1024x1024_S256x1024_0_0
abbrev rM1 (c : Dev nD) : Rect S1024x1024 := Rect.unit (s := S1024x1024) ![256, 0] S256x1024.size inb_S1024x1024_S256x1024_256_0
abbrev rM2 (c : Dev nD) : Rect S1024x1024 := Rect.unit (s := S1024x1024) ![512, 0] S256x1024.size inb_S1024x1024_S256x1024_512_0
abbrev rM3 (c : Dev nD) : Rect S1024x1024 := Rect.unit (s := S1024x1024) ![768, 0] S256x1024.size inb_S1024x1024_S256x1024_768_0
abbrev rC0 (c : Dev nD) : Rect S4x1024 := Rect.unit (s := S4x1024) ![0, 0] S1x1024.size inb_S4x1024_S1x1024_0_0
abbrev rC1 (c : Dev nD) : Rect S4x1024 := Rect.unit (s := S4x1024) ![1, 0] S1x1024.size inb_S4x1024_S1x1024_1_0
abbrev rC2 (c : Dev nD) : Rect S4x1024 := Rect.unit (s := S4x1024) ![2, 0] S1x1024.size inb_S4x1024_S1x1024_2_0
abbrev rC3 (c : Dev nD) : Rect S4x1024 := Rect.unit (s := S4x1024) ![3, 0] S1x1024.size inb_S4x1024_S1x1024_3_0
abbrev rX0 (c : Dev nD) : Rect S1024x512 := Rect.unit (s := S1024x512) ![0, 0] S256x512.size inb_S1024x512_S256x512_0_0
abbrev rX1 (c : Dev nD) : Rect S1024x512 := Rect.unit (s := S1024x512) ![256, 0] S256x512.size inb_S1024x512_S256x512_256_0
abbrev rX2 (c : Dev nD) : Rect S1024x512 := Rect.unit (s := S1024x512) ![512, 0] S256x512.size inb_S1024x512_S256x512_512_0
abbrev rX3 (c : Dev nD) : Rect S1024x512 := Rect.unit (s := S1024x512) ![768, 0] S256x512.size inb_S1024x512_S256x512_768_0
abbrev rXX (c : Dev nD) : Rect S1024x512 := Rect.unit (s := S1024x512) ![0, 0] S1024x512.size inb_S1024x512_S1024x512_0_0
abbrev rRW (c : Dev nD) : Rect S512x128 := Rect.unit (s := S512x128) ![0, 0] S512x128.size inb_S512x128_S512x128_0_0
abbrev rRI (c : Dev nD) : Rect S1x1024 := Rect.unit (s := S1x1024) ![0, 0] S1x1024.size inb_S1x1024_S1x1024_0_0
abbrev rSW (c : Dev nD) : Rect S512x1024 := Rect.unit (s := S512x1024) ![0, 0] S512x1024.size inb_S512x1024_S512x1024_0_0
abbrev rE0_0 (c : Dev nD) : Rect S4x512x1024 := Rect.unit (s := S4x512x1024) ![0, 0, 0] S1x512x256.size inb_S4x512x1024_S1x512x256_0_0_0
abbrev rE0_1 (c : Dev nD) : Rect S4x512x1024 := Rect.unit (s := S4x512x1024) ![0, 0, 256] S1x512x256.size inb_S4x512x1024_S1x512x256_0_0_256
abbrev rE0_2 (c : Dev nD) : Rect S4x512x1024 := Rect.unit (s := S4x512x1024) ![0, 0, 512] S1x512x256.size inb_S4x512x1024_S1x512x256_0_0_512
abbrev rE0_3 (c : Dev nD) : Rect S4x512x1024 := Rect.unit (s := S4x512x1024) ![0, 0, 768] S1x512x256.size inb_S4x512x1024_S1x512x256_0_0_768
abbrev rE1_0 (c : Dev nD) : Rect S4x512x1024 := Rect.unit (s := S4x512x1024) ![1, 0, 0] S1x512x256.size inb_S4x512x1024_S1x512x256_1_0_0
abbrev rE1_1 (c : Dev nD) : Rect S4x512x1024 := Rect.unit (s := S4x512x1024) ![1, 0, 256] S1x512x256.size inb_S4x512x1024_S1x512x256_1_0_256
abbrev rE1_2 (c : Dev nD) : Rect S4x512x1024 := Rect.unit (s := S4x512x1024) ![1, 0, 512] S1x512x256.size inb_S4x512x1024_S1x512x256_1_0_512
abbrev rE1_3 (c : Dev nD) : Rect S4x512x1024 := Rect.unit (s := S4x512x1024) ![1, 0, 768] S1x512x256.size inb_S4x512x1024_S1x512x256_1_0_768
abbrev rE2_0 (c : Dev nD) : Rect S4x512x1024 := Rect.unit (s := S4x512x1024) ![2, 0, 0] S1x512x256.size inb_S4x512x1024_S1x512x256_2_0_0
abbrev rE2_1 (c : Dev nD) : Rect S4x512x1024 := Rect.unit (s := S4x512x1024) ![2, 0, 256] S1x512x256.size inb_S4x512x1024_S1x512x256_2_0_256
abbrev rE2_2 (c : Dev nD) : Rect S4x512x1024 := Rect.unit (s := S4x512x1024) ![2, 0, 512] S1x512x256.size inb_S4x512x1024_S1x512x256_2_0_512
abbrev rE2_3 (c : Dev nD) : Rect S4x512x1024 := Rect.unit (s := S4x512x1024) ![2, 0, 768] S1x512x256.size inb_S4x512x1024_S1x512x256_2_0_768
abbrev rE3_0 (c : Dev nD) : Rect S4x512x1024 := Rect.unit (s := S4x512x1024) ![3, 0, 0] S1x512x256.size inb_S4x512x1024_S1x512x256_3_0_0
abbrev rE3_1 (c : Dev nD) : Rect S4x512x1024 := Rect.unit (s := S4x512x1024) ![3, 0, 256] S1x512x256.size inb_S4x512x1024_S1x512x256_3_0_256
abbrev rE3_2 (c : Dev nD) : Rect S4x512x1024 := Rect.unit (s := S4x512x1024) ![3, 0, 512] S1x512x256.size inb_S4x512x1024_S1x512x256_3_0_512
abbrev rE3_3 (c : Dev nD) : Rect S4x512x1024 := Rect.unit (s := S4x512x1024) ![3, 0, 768] S1x512x256.size inb_S4x512x1024_S1x512x256_3_0_768
abbrev rPyx (c : Dev nD) : Rect S1024x512 := Rect.unit (s := S1024x512) (k0_off1 c) S256x512.size (k0_off1_inb c)
abbrev rPyc0 (c : Dev nD) : Rect S4x1024 := Rect.unit (s := S4x1024) (k0_off2 c) S1x256.size (k0_off2_inb c)
abbrev rPyc1 (c : Dev nD) : Rect S4x1024 := Rect.unit (s := S4x1024) (k0_off3 c) S1x256.size (k0_off3_inb c)
abbrev rPyc2 (c : Dev nD) : Rect S4x1024 := Rect.unit (s := S4x1024) (k0_off4 c) S1x256.size (k0_off4_inb c)
abbrev rPyc3 (c : Dev nD) : Rect S4x1024 := Rect.unit (s := S4x1024) (k0_off5 c) S1x256.size (k0_off5_inb c)
abbrev rPzx (c : Dev nD) : Rect S1024x512 := Rect.unit (s := S1024x512) (k0_off6 c) S256x512.size (k0_off6_inb c)
abbrev rPzc0 (c : Dev nD) : Rect S4x1024 := Rect.unit (s := S4x1024) (k0_off7 c) S1x256.size (k0_off7_inb c)
abbrev rPzc1 (c : Dev nD) : Rect S4x1024 := Rect.unit (s := S4x1024) (k0_off8 c) S1x256.size (k0_off8_inb c)
abbrev rPzc2 (c : Dev nD) : Rect S4x1024 := Rect.unit (s := S4x1024) (k0_off9 c) S1x256.size (k0_off9_inb c)
abbrev rPzc3 (c : Dev nD) : Rect S4x1024 := Rect.unit (s := S4x1024) (k0_off10 c) S1x256.size (k0_off10_inb c)
abbrev rPyx_0 (c : Dev nD) : Rect S1024x512 := Rect.unit (s := S1024x512) (k0_off11 c 0#32) S256x512.size (k0_off11_inb c 0)
abbrev rPyc0_0 (c : Dev nD) : Rect S4x1024 := Rect.unit (s := S4x1024) (k0_off12 c 0#32) S1x256.size (k0_off12_inb c 0)
abbrev rPyc1_0 (c : Dev nD) : Rect S4x1024 := Rect.unit (s := S4x1024) (k0_off13 c 0#32) S1x256.size (k0_off13_inb c 0)
abbrev rPyc2_0 (c : Dev nD) : Rect S4x1024 := Rect.unit (s := S4x1024) (k0_off14 c 0#32) S1x256.size (k0_off14_inb c 0)
abbrev rPyc3_0 (c : Dev nD) : Rect S4x1024 := Rect.unit (s := S4x1024) (k0_off15 c 0#32) S1x256.size (k0_off15_inb c 0)
abbrev rPyx_1 (c : Dev nD) : Rect S1024x512 := Rect.unit (s := S1024x512) (k0_off11 c 1#32) S256x512.size (k0_off11_inb c 1)
abbrev rPyc0_1 (c : Dev nD) : Rect S4x1024 := Rect.unit (s := S4x1024) (k0_off12 c 1#32) S1x256.size (k0_off12_inb c 1)
abbrev rPyc1_1 (c : Dev nD) : Rect S4x1024 := Rect.unit (s := S4x1024) (k0_off13 c 1#32) S1x256.size (k0_off13_inb c 1)
abbrev rPyc2_1 (c : Dev nD) : Rect S4x1024 := Rect.unit (s := S4x1024) (k0_off14 c 1#32) S1x256.size (k0_off14_inb c 1)
abbrev rPyc3_1 (c : Dev nD) : Rect S4x1024 := Rect.unit (s := S4x1024) (k0_off15 c 1#32) S1x256.size (k0_off15_inb c 1)
abbrev rPyx_2 (c : Dev nD) : Rect S1024x512 := Rect.unit (s := S1024x512) (k0_off11 c 2#32) S256x512.size (k0_off11_inb c 2)
abbrev rPyc0_2 (c : Dev nD) : Rect S4x1024 := Rect.unit (s := S4x1024) (k0_off12 c 2#32) S1x256.size (k0_off12_inb c 2)
abbrev rPyc1_2 (c : Dev nD) : Rect S4x1024 := Rect.unit (s := S4x1024) (k0_off13 c 2#32) S1x256.size (k0_off13_inb c 2)
abbrev rPyc2_2 (c : Dev nD) : Rect S4x1024 := Rect.unit (s := S4x1024) (k0_off14 c 2#32) S1x256.size (k0_off14_inb c 2)
abbrev rPyc3_2 (c : Dev nD) : Rect S4x1024 := Rect.unit (s := S4x1024) (k0_off15 c 2#32) S1x256.size (k0_off15_inb c 2)
abbrev rPzx_0 (c : Dev nD) : Rect S1024x512 := Rect.unit (s := S1024x512) (k0_off16 c 0#32) S256x512.size (k0_off16_inb c 0)
abbrev rPzc0_0 (c : Dev nD) : Rect S4x1024 := Rect.unit (s := S4x1024) (k0_off17 c 0#32) S1x256.size (k0_off17_inb c 0)
abbrev rPzc1_0 (c : Dev nD) : Rect S4x1024 := Rect.unit (s := S4x1024) (k0_off18 c 0#32) S1x256.size (k0_off18_inb c 0)
abbrev rPzc2_0 (c : Dev nD) : Rect S4x1024 := Rect.unit (s := S4x1024) (k0_off19 c 0#32) S1x256.size (k0_off19_inb c 0)
abbrev rPzc3_0 (c : Dev nD) : Rect S4x1024 := Rect.unit (s := S4x1024) (k0_off20 c 0#32) S1x256.size (k0_off20_inb c 0)
abbrev rPzx_1 (c : Dev nD) : Rect S1024x512 := Rect.unit (s := S1024x512) (k0_off16 c 1#32) S256x512.size (k0_off16_inb c 1)
abbrev rPzc0_1 (c : Dev nD) : Rect S4x1024 := Rect.unit (s := S4x1024) (k0_off17 c 1#32) S1x256.size (k0_off17_inb c 1)
abbrev rPzc1_1 (c : Dev nD) : Rect S4x1024 := Rect.unit (s := S4x1024) (k0_off18 c 1#32) S1x256.size (k0_off18_inb c 1)
abbrev rPzc2_1 (c : Dev nD) : Rect S4x1024 := Rect.unit (s := S4x1024) (k0_off19 c 1#32) S1x256.size (k0_off19_inb c 1)
abbrev rPzc3_1 (c : Dev nD) : Rect S4x1024 := Rect.unit (s := S4x1024) (k0_off20 c 1#32) S1x256.size (k0_off20_inb c 1)
abbrev rPzx_2 (c : Dev nD) : Rect S1024x512 := Rect.unit (s := S1024x512) (k0_off16 c 2#32) S256x512.size (k0_off16_inb c 2)
abbrev rPzc0_2 (c : Dev nD) : Rect S4x1024 := Rect.unit (s := S4x1024) (k0_off17 c 2#32) S1x256.size (k0_off17_inb c 2)
abbrev rPzc1_2 (c : Dev nD) : Rect S4x1024 := Rect.unit (s := S4x1024) (k0_off18 c 2#32) S1x256.size (k0_off18_inb c 2)
abbrev rPzc2_2 (c : Dev nD) : Rect S4x1024 := Rect.unit (s := S4x1024) (k0_off19 c 2#32) S1x256.size (k0_off19_inb c 2)
abbrev rPzc3_2 (c : Dev nD) : Rect S4x1024 := Rect.unit (s := S4x1024) (k0_off20 c 2#32) S1x256.size (k0_off20_inb c 2)

/-! ## The coefficients -/

variable (I : Inp F)

/-- The logits, transposed, and their greatest per token. -/
def lgt (c : Dev nD) : FVec F S128x1024 .f32 := k0_pay3 (ld (I.rw c) (rRW c)) (ld (I.x c) (rXX c))
@[inherit_doc lgt] def lmx (c : Dev nD) : FVec F S1x1024 .f32 := k0_pay4 (ld (I.rw c) (rRW c)) (ld (I.x c) (rXX c))
/-- The softmax over the experts. -/
def prb (c : Dev nD) : FVec F S128x1024 .f32 := k0_pay5 (lgt I c) (lmx I c)
/-- The coefficient rows of the four experts of device `c`. -/
def cw0 (c : Dev nD) : FVec F S1x1024 .f32 := k0_pay6 (w2 c) (lgt I c) (lmx I c) (ld (I.ri c) (rRI c))
@[inherit_doc cw0] def cw1 (c : Dev nD) : FVec F S1x1024 .f32 := k0_pay10 (k0_pay7 (w2 c) (lgt I c) (lmx I c)) (k0_pay8 (w2 c) (ld (I.ri c) (rRI c))) (k0_pay9 (F := F))
@[inherit_doc cw0] def cw2 (c : Dev nD) : FVec F S1x1024 .f32 := k0_pay11 (w2 c) (prb I c) (iota .tc S128x1 32 [0] iota_S128x1_d0_w32) (ld (I.ri c) (rRI c))
@[inherit_doc cw0] def cw3 (c : Dev nD) : FVec F S1x1024 .f32 := k0_pay13 (k0_pay12 (w2 c) (prb I c) (iota .tc S128x1 32 [0] iota_S128x1_d0_w32) (ld (I.ri c) (rRI c)))

/-- The coefficient buffer after its stores. -/
def cf0 (c : Dev nD) : S4x1024.Idx → Elt F .f32 := fun _ => Scalar.ofBits .f32 0x00000000#32
def cf1 (c : Dev nD) : S4x1024.Idx → Elt F .f32 := (rC0 c).overlay (cf0 (F := F) c) (cw0 I c)
def cf2 (c : Dev nD) : S4x1024.Idx → Elt F .f32 := (rC1 c).overlay (cf1 I c) (cw1 I c)
def cf3 (c : Dev nD) : S4x1024.Idx → Elt F .f32 := (rC2 c).overlay (cf2 I c) (cw2 I c)
def cf4 (c : Dev nD) : S4x1024.Idx → Elt F .f32 := (rC3 c).overlay (cf3 I c) (cw3 I c)
def cfM (c : Dev nD) : ℕ → S4x1024.Idx → Elt F .f32
  | 0 => cf0 c
  | 1 => cf1 I c
  | 2 => cf2 I c
  | 3 => cf3 I c
  | _ => cf4 I c
def cfW (c : Dev nD) : List (Rect S4x1024) := [rC0 c, rC1 c, rC2 c, rC3 c]

/-! ## The products of the own experts -/

/-- One expert's product on a block of tokens and a quarter of the columns. -/
def pex (x : FVec F S256x512 .f32) (k : Vec F S1x256 .f32) (w : Vec F S1x512x256 .f32) : FVec F S256x256 .f32 :=
  matmul dot_S256x512_S512x256_S256x256_1_0_0_1_n_n none
    (mulf x (broadcastTo S256x512 (shapeCast S256x1 (shapeCast S256 k shapeCasts_S1x256_S256) shapeCasts_S256_S256x1) broadcasts_S256x1_S256x512))
    (shapeCast S512x256 w shapeCasts_S1x512x256_S512x256) (constant S256x256 .f32 0x00000000#32)
/-- The four experts' products, added up. -/
def pbv (x : Vec F S256x512 .f32) (k0 : Vec F S1x256 .f32) (u0 : Vec F S1x512x256 .f32) (k1 : Vec F S1x256 .f32) (u1 : Vec F S1x512x256 .f32)
    (k2 : Vec F S1x256 .f32) (u2 : Vec F S1x512x256 .f32) (k3 : Vec F S1x256 .f32) (u3 : Vec F S1x512x256 .f32) : FVec F S256x256 .f32 :=
  addf (addf (addf (pex (idH x) k0 u0) (pex (idH x) k1 u1)) (pex (idH x) k2 u2)) (pex (idH x) k3 u3)
def pa0_0 (c : Dev nD) : FVec F S256x256 .f32 := pbv (ld (I.x c) (rPyx c)) (ld (cf4 I c) (rPyc0 c)) (ld (I.ew c) (rE0_0 c)) (ld (cf4 I c) (rPyc1 c)) (ld (I.ew c) (rE1_0 c)) (ld (cf4 I c) (rPyc2 c)) (ld (I.ew c) (rE2_0 c)) (ld (cf4 I c) (rPyc3 c)) (ld (I.ew c) (rE3_0 c))
def pa0_1 (c : Dev nD) : FVec F S256x256 .f32 := pbv (ld (I.x c) (rPyx_0 c)) (ld (cf4 I c) (rPyc0_0 c)) (ld (I.ew c) (rE0_0 c)) (ld (cf4 I c) (rPyc1_0 c)) (ld (I.ew c) (rE1_0 c)) (ld (cf4 I c) (rPyc2_0 c)) (ld (I.ew c) (rE2_0 c)) (ld (cf4 I c) (rPyc3_0 c)) (ld (I.ew c) (rE3_0 c))
def pa0_2 (c : Dev nD) : FVec F S256x256 .f32 := pbv (ld (I.x c) (rPyx_1 c)) (ld (cf4 I c) (rPyc0_1 c)) (ld (I.ew c) (rE0_0 c)) (ld (cf4 I c) (rPyc1_1 c)) (ld (I.ew c) (rE1_0 c)) (ld (cf4 I c) (rPyc2_1 c)) (ld (I.ew c) (rE2_0 c)) (ld (cf4 I c) (rPyc3_1 c)) (ld (I.ew c) (rE3_0 c))
def pa0_3 (c : Dev nD) : FVec F S256x256 .f32 := pbv (ld (I.x c) (rPyx_2 c)) (ld (cf4 I c) (rPyc0_2 c)) (ld (I.ew c) (rE0_0 c)) (ld (cf4 I c) (rPyc1_2 c)) (ld (I.ew c) (rE1_0 c)) (ld (cf4 I c) (rPyc2_2 c)) (ld (I.ew c) (rE2_0 c)) (ld (cf4 I c) (rPyc3_2 c)) (ld (I.ew c) (rE3_0 c))
def pa1_0 (c : Dev nD) : FVec F S256x256 .f32 := pbv (ld (I.x c) (rPyx c)) (ld (cf4 I c) (rPyc0 c)) (ld (I.ew c) (rE0_1 c)) (ld (cf4 I c) (rPyc1 c)) (ld (I.ew c) (rE1_1 c)) (ld (cf4 I c) (rPyc2 c)) (ld (I.ew c) (rE2_1 c)) (ld (cf4 I c) (rPyc3 c)) (ld (I.ew c) (rE3_1 c))
def pa1_1 (c : Dev nD) : FVec F S256x256 .f32 := pbv (ld (I.x c) (rPyx_0 c)) (ld (cf4 I c) (rPyc0_0 c)) (ld (I.ew c) (rE0_1 c)) (ld (cf4 I c) (rPyc1_0 c)) (ld (I.ew c) (rE1_1 c)) (ld (cf4 I c) (rPyc2_0 c)) (ld (I.ew c) (rE2_1 c)) (ld (cf4 I c) (rPyc3_0 c)) (ld (I.ew c) (rE3_1 c))
def pa1_2 (c : Dev nD) : FVec F S256x256 .f32 := pbv (ld (I.x c) (rPyx_1 c)) (ld (cf4 I c) (rPyc0_1 c)) (ld (I.ew c) (rE0_1 c)) (ld (cf4 I c) (rPyc1_1 c)) (ld (I.ew c) (rE1_1 c)) (ld (cf4 I c) (rPyc2_1 c)) (ld (I.ew c) (rE2_1 c)) (ld (cf4 I c) (rPyc3_1 c)) (ld (I.ew c) (rE3_1 c))
def pa1_3 (c : Dev nD) : FVec F S256x256 .f32 := pbv (ld (I.x c) (rPyx_2 c)) (ld (cf4 I c) (rPyc0_2 c)) (ld (I.ew c) (rE0_1 c)) (ld (cf4 I c) (rPyc1_2 c)) (ld (I.ew c) (rE1_1 c)) (ld (cf4 I c) (rPyc2_2 c)) (ld (I.ew c) (rE2_1 c)) (ld (cf4 I c) (rPyc3_2 c)) (ld (I.ew c) (rE3_1 c))
def pa2_0 (c : Dev nD) : FVec F S256x256 .f32 := pbv (ld (I.x c) (rPzx c)) (ld (cf4 I c) (rPzc0 c)) (ld (I.ew c) (rE0_2 c)) (ld (cf4 I c) (rPzc1 c)) (ld (I.ew c) (rE1_2 c)) (ld (cf4 I c) (rPzc2 c)) (ld (I.ew c) (rE2_2 c)) (ld (cf4 I c) (rPzc3 c)) (ld (I.ew c) (rE3_2 c))
def pa2_1 (c : Dev nD) : FVec F S256x256 .f32 := pbv (ld (I.x c) (rPzx_0 c)) (ld (cf4 I c) (rPzc0_0 c)) (ld (I.ew c) (rE0_2 c)) (ld (cf4 I c) (rPzc1_0 c)) (ld (I.ew c) (rE1_2 c)) (ld (cf4 I c) (rPzc2_0 c)) (ld (I.ew c) (rE2_2 c)) (ld (cf4 I c) (rPzc3_0 c)) (ld (I.ew c) (rE3_2 c))
def pa2_2 (c : Dev nD) : FVec F S256x256 .f32 := pbv (ld (I.x c) (rPzx_1 c)) (ld (cf4 I c) (rPzc0_1 c)) (ld (I.ew c) (rE0_2 c)) (ld (cf4 I c) (rPzc1_1 c)) (ld (I.ew c) (rE1_2 c)) (ld (cf4 I c) (rPzc2_1 c)) (ld (I.ew c) (rE2_2 c)) (ld (cf4 I c) (rPzc3_1 c)) (ld (I.ew c) (rE3_2 c))
def pa2_3 (c : Dev nD) : FVec F S256x256 .f32 := pbv (ld (I.x c) (rPzx_2 c)) (ld (cf4 I c) (rPzc0_2 c)) (ld (I.ew c) (rE0_2 c)) (ld (cf4 I c) (rPzc1_2 c)) (ld (I.ew c) (rE1_2 c)) (ld (cf4 I c) (rPzc2_2 c)) (ld (I.ew c) (rE2_2 c)) (ld (cf4 I c) (rPzc3_2 c)) (ld (I.ew c) (rE3_2 c))
def pa3_0 (c : Dev nD) : FVec F S256x256 .f32 := pbv (ld (I.x c) (rPzx c)) (ld (cf4 I c) (rPzc0 c)) (ld (I.ew c) (rE0_3 c)) (ld (cf4 I c) (rPzc1 c)) (ld (I.ew c) (rE1_3 c)) (ld (cf4 I c) (rPzc2 c)) (ld (I.ew c) (rE2_3 c)) (ld (cf4 I c) (rPzc3 c)) (ld (I.ew c) (rE3_3 c))
def pa3_1 (c : Dev nD) : FVec F S256x256 .f32 := pbv (ld (I.x c) (rPzx_0 c)) (ld (cf4 I c) (rPzc0_0 c)) (ld (I.ew c) (rE0_3 c)) (ld (cf4 I c) (rPzc1_0 c)) (ld (I.ew c) (rE1_3 c)) (ld (cf4 I c) (rPzc2_0 c)) (ld (I.ew c) (rE2_3 c)) (ld (cf4 I c) (rPzc3_0 c)) (ld (I.ew c) (rE3_3 c))
def pa3_2 (c : Dev nD) : FVec F S256x256 .f32 := pbv (ld (I.x c) (rPzx_1 c)) (ld (cf4 I c) (rPzc0_1 c)) (ld (I.ew c) (rE0_3 c)) (ld (cf4 I c) (rPzc1_1 c)) (ld (I.ew c) (rE1_3 c)) (ld (cf4 I c) (rPzc2_1 c)) (ld (I.ew c) (rE2_3 c)) (ld (cf4 I c) (rPzc3_1 c)) (ld (I.ew c) (rE3_3 c))
def pa3_3 (c : Dev nD) : FVec F S256x256 .f32 := pbv (ld (I.x c) (rPzx_2 c)) (ld (cf4 I c) (rPzc0_2 c)) (ld (I.ew c) (rE0_3 c)) (ld (cf4 I c) (rPzc1_2 c)) (ld (I.ew c) (rE1_3 c)) (ld (cf4 I c) (rPzc2_2 c)) (ld (I.ew c) (rE2_3 c)) (ld (cf4 I c) (rPzc3_2 c)) (ld (I.ew c) (rE3_3 c))

/-! ## What the copies carry -/

/-- A reduction around a ring: what is sent first, then what has come plus the own part. -/
def rsA (p : Dev nD → Dev nD) (a b d : Dev nD → FVec F S256x256 .f32) : ℕ → Dev nD → FVec F S1x256x256 .f32
  | 0, c => upA (a c)
  | 1, c => upA (addf (dnA (upA (a (p c)))) (b c))
  | _, c => upA (addf (dnA (upA (addf (dnA (upA (a (p (p c))))) (b (p c))))) (d c))
@[inherit_doc rsA] def rsB (p : Dev nD → Dev nD) (a b d : Dev nD → FVec F S64x512 .f32) : ℕ → Dev nD → FVec F S1x64x512 .f32
  | 0, c => upB (a c)
  | 1, c => upB (addf (dnB (upB (a (p c)))) (b c))
  | _, c => upB (addf (dnB (upB (addf (dnB (upB (a (p (p c))))) (b (p c))))) (d c))
/-- A gathering around a ring: what has come is sent on. -/
def agA (p : Dev nD → Dev nD) (a : Dev nD → FVec F S256x256 .f32) : ℕ → Dev nD → FVec F S1x256x256 .f32
  | 0, c => upA (a c)
  | 1, c => upA (dnA (upA (a (p c))))
  | _, c => upA (dnA (upA (dnA (upA (a (p (p c)))))))
@[inherit_doc agA] def agB (p : Dev nD → Dev nD) (a : Dev nD → FVec F S64x512 .f32) : ℕ → Dev nD → FVec F S1x64x512 .f32
  | 0, c => upB (a c)
  | 1, c => upB (dnB (upB (a (p c))))
  | _, c => upB (dnB (upB (dnB (upB (a (p (p c)))))))

def va0 : ℕ → Dev nD → FVec F S1x256x256 .f32 := rsA (prv .a0) (pa0_0 I) (pa0_1 I) (pa0_2 I)
def va1 : ℕ → Dev nD → FVec F S1x256x256 .f32 := rsA (prv .a1) (pa1_0 I) (pa1_1 I) (pa1_2 I)
def va2 : ℕ → Dev nD → FVec F S1x256x256 .f32 := rsA (prv .a2) (pa2_0 I) (pa2_1 I) (pa2_2 I)
def va3 : ℕ → Dev nD → FVec F S1x256x256 .f32 := rsA (prv .a3) (pa3_0 I) (pa3_1 I) (pa3_2 I)

/-- The result buffer after its stores. -/
def o0 (c : Dev nD) : S1024x1024.Idx → Elt F .f32 := fun _ => Scalar.ofBits .f32 0x00000000#32
def o1 (c : Dev nD) : S1024x1024.Idx → Elt F .f32 := (rO21 c).overlay (o0 (F := F) c) (addf (dnA (va0 I 2 (prv .a0 c))) (pa0_3 I c))
def o2 (c : Dev nD) : S1024x1024.Idx → Elt F .f32 := (rO22 c).overlay (o1 I c) (addf (dnA (va1 I 2 (prv .a1 c))) (pa1_3 I c))
def o3 (c : Dev nD) : S1024x1024.Idx → Elt F .f32 := (rO23 c).overlay (o2 I c) (addf (dnA (va2 I 2 (prv .a2 c))) (pa2_3 I c))
def o4 (c : Dev nD) : S1024x1024.Idx → Elt F .f32 := (rO24 c).overlay (o3 I c) (addf (dnA (va3 I 2 (prv .a3 c))) (pa3_3 I c))
def pb0_0 (c : Dev nD) : FVec F S64x512 .f32 := idB (ld (o4 I c) (rO25 c))
def pb0_1 (c : Dev nD) : FVec F S64x512 .f32 := idB (ld (o4 I c) (rO27_0 c))
def pb0_2 (c : Dev nD) : FVec F S64x512 .f32 := idB (ld (o4 I c) (rO27_1 c))
def pb0_3 (c : Dev nD) : FVec F S64x512 .f32 := idB (ld (o4 I c) (rO27_2 c))
def vb0 : ℕ → Dev nD → FVec F S1x64x512 .f32 := rsB (prv .b0) (pb0_0 I) (pb0_1 I) (pb0_2 I)
def pb1_0 (c : Dev nD) : FVec F S64x512 .f32 := idB (ld (o4 I c) (rO26 c))
def pb1_1 (c : Dev nD) : FVec F S64x512 .f32 := idB (ld (o4 I c) (rO28_0 c))
def pb1_2 (c : Dev nD) : FVec F S64x512 .f32 := idB (ld (o4 I c) (rO28_1 c))
def pb1_3 (c : Dev nD) : FVec F S64x512 .f32 := idB (ld (o4 I c) (rO28_2 c))
def vb1 : ℕ → Dev nD → FVec F S1x64x512 .f32 := rsB (prv .b1) (pb1_0 I) (pb1_1 I) (pb1_2 I)
def o5 (c : Dev nD) : S1024x1024.Idx → Elt F .f32 := (rO29 c).overlay (o4 I c) (addf (dnB (vb0 I 2 (prv .b0 c))) (pb0_3 I c))
def o6 (c : Dev nD) : S1024x1024.Idx → Elt F .f32 := (rO30 c).overlay (o5 I c) (addf (dnB (vb1 I 2 (prv .b1 c))) (pb1_3 I c))
def vxA : ℕ → Dev nD → FVec F S64x512 .f32 := fun _ c => idB (idB (ld (o6 I c) (rO29 c)))
def vxB : ℕ → Dev nD → FVec F S64x512 .f32 := fun _ c => idB (idB (ld (o6 I c) (rO30 c)))
def o7 (c : Dev nD) : S1024x1024.Idx → Elt F .f32 := (rO29 c).overlay (o6 I c) (addf (idB (ld (o6 I c) (rO29 c))) (vxA I 0 (prv .xA c)))
def o8 (c : Dev nD) : S1024x1024.Idx → Elt F .f32 := (rO30 c).overlay (o7 I c) (addf (idB (ld (o7 I c) (rO30 c))) (vxB I 0 (prv .xB c)))
def qg0 (c : Dev nD) : FVec F S64x512 .f32 := idB (ld (o8 I c) (rO29 c))
def vg0 : ℕ → Dev nD → FVec F S1x64x512 .f32 := agB (prv .g0) (qg0 I)
def qg1 (c : Dev nD) : FVec F S64x512 .f32 := idB (ld (o8 I c) (rO30 c))
def vg1 : ℕ → Dev nD → FVec F S1x64x512 .f32 := agB (prv .g1) (qg1 I)
def o9 (c : Dev nD) : S1024x1024.Idx → Elt F .f32 := (rO31_0 c).overlay (o8 I c) (dnB (vg0 I 0 (prv .g0 c)))
def o10 (c : Dev nD) : S1024x1024.Idx → Elt F .f32 := (rO32_0 c).overlay (o9 I c) (dnB (vg1 I 0 (prv .g1 c)))
def o11 (c : Dev nD) : S1024x1024.Idx → Elt F .f32 := (rO31_1 c).overlay (o10 I c) (dnB (vg0 I 1 (prv .g0 c)))
def o12 (c : Dev nD) : S1024x1024.Idx → Elt F .f32 := (rO32_1 c).overlay (o11 I c) (dnB (vg1 I 1 (prv .g1 c)))
def o13 (c : Dev nD) : S1024x1024.Idx → Elt F .f32 := (rO31_2 c).overlay (o12 I c) (dnB (vg0 I 2 (prv .g0 c)))
def o14 (c : Dev nD) : S1024x1024.Idx → Elt F .f32 := (rO32_2 c).overlay (o13 I c) (dnB (vg1 I 2 (prv .g1 c)))
def qh0 (c : Dev nD) : FVec F S256x256 .f32 := idA (ld (o14 I c) (rO21 c))
def vh0 : ℕ → Dev nD → FVec F S1x256x256 .f32 := agA (prv .h0) (qh0 I)
def qh1 (c : Dev nD) : FVec F S256x256 .f32 := idA (ld (o14 I c) (rO22 c))
def vh1 : ℕ → Dev nD → FVec F S1x256x256 .f32 := agA (prv .h1) (qh1 I)
def qh2 (c : Dev nD) : FVec F S256x256 .f32 := idA (ld (o14 I c) (rO23 c))
def vh2 : ℕ → Dev nD → FVec F S1x256x256 .f32 := agA (prv .h2) (qh2 I)
def qh3 (c : Dev nD) : FVec F S256x256 .f32 := idA (ld (o14 I c) (rO24 c))
def vh3 : ℕ → Dev nD → FVec F S1x256x256 .f32 := agA (prv .h3) (qh3 I)

/-- The shared expert's product, block of tokens by block. -/
def smb (x : Vec F S256x512 .f32) (w : Vec F S512x1024 .f32) : FVec F S256x1024 .f32 := k0_pay90 x w
def sm0 (c : Dev nD) : S1024x1024.Idx → Elt F .f32 := fun _ => Scalar.ofBits .f32 0x00000000#32
def sm1 (c : Dev nD) : S1024x1024.Idx → Elt F .f32 := (rM0 c).overlay (sm0 (F := F) c) (smb (ld (I.x c) (rX0 c)) (ld (I.sw c) (rSW c)))
def sm2 (c : Dev nD) : S1024x1024.Idx → Elt F .f32 := (rM1 c).overlay (sm1 I c) (smb (ld (I.x c) (rX1 c)) (ld (I.sw c) (rSW c)))
def sm3 (c : Dev nD) : S1024x1024.Idx → Elt F .f32 := (rM2 c).overlay (sm2 I c) (smb (ld (I.x c) (rX2 c)) (ld (I.sw c) (rSW c)))
def sm4 (c : Dev nD) : S1024x1024.Idx → Elt F .f32 := (rM3 c).overlay (sm3 I c) (smb (ld (I.x c) (rX3 c)) (ld (I.sw c) (rSW c)))
def smM (c : Dev nD) : ℕ → S1024x1024.Idx → Elt F .f32
  | 0 => sm0 c
  | 1 => sm1 I c
  | 2 => sm2 I c
  | 3 => sm3 I c
  | _ => sm4 I c
def smW (c : Dev nD) : List (Rect S1024x1024) := [rM0 c, rM1 c, rM2 c, rM3 c]

def o15 (c : Dev nD) : S1024x1024.Idx → Elt F .f32 := (rO33_0 c).overlay (o14 I c) (addf (dnA (vh0 I 0 (prv .h0 c))) (ld (sm4 I c) (rO33_0 c)))
def o16 (c : Dev nD) : S1024x1024.Idx → Elt F .f32 := (rO34_0 c).overlay (o15 I c) (addf (dnA (vh1 I 0 (prv .h1 c))) (ld (sm4 I c) (rO34_0 c)))
def o17 (c : Dev nD) : S1024x1024.Idx → Elt F .f32 := (rO35_0 c).overlay (o16 I c) (addf (dnA (vh2 I 0 (prv .h2 c))) (ld (sm4 I c) (rO35_0 c)))
def o18 (c : Dev nD) : S1024x1024.Idx → Elt F .f32 := (rO36_0 c).overlay (o17 I c) (addf (dnA (vh3 I 0 (prv .h3 c))) (ld (sm4 I c) (rO36_0 c)))
def o19 (c : Dev nD) : S1024x1024.Idx → Elt F .f32 := (rO33_1 c).overlay (o18 I c) (addf (dnA (vh0 I 1 (prv .h0 c))) (ld (sm4 I c) (rO33_1 c)))
def o20 (c : Dev nD) : S1024x1024.Idx → Elt F .f32 := (rO34_1 c).overlay (o19 I c) (addf (dnA (vh1 I 1 (prv .h1 c))) (ld (sm4 I c) (rO34_1 c)))
def o21 (c : Dev nD) : S1024x1024.Idx → Elt F .f32 := (rO35_1 c).overlay (o20 I c) (addf (dnA (vh2 I 1 (prv .h2 c))) (ld (sm4 I c) (rO35_1 c)))
def o22 (c : Dev nD) : S1024x1024.Idx → Elt F .f32 := (rO36_1 c).overlay (o21 I c) (addf (dnA (vh3 I 1 (prv .h3 c))) (ld (sm4 I c) (rO36_1 c)))
def o23 (c : Dev nD) : S1024x1024.Idx → Elt F .f32 := (rO33_2 c).overlay (o22 I c) (addf (dnA (vh0 I 2 (prv .h0 c))) (ld (sm4 I c) (rO33_2 c)))
def o24 (c : Dev nD) : S1024x1024.Idx → Elt F .f32 := (rO34_2 c).overlay (o23 I c) (addf (dnA (vh1 I 2 (prv .h1 c))) (ld (sm4 I c) (rO34_2 c)))
def o25 (c : Dev nD) : S1024x1024.Idx → Elt F .f32 := (rO35_2 c).overlay (o24 I c) (addf (dnA (vh2 I 2 (prv .h2 c))) (ld (sm4 I c) (rO35_2 c)))
def o26 (c : Dev nD) : S1024x1024.Idx → Elt F .f32 := (rO36_2 c).overlay (o25 I c) (addf (dnA (vh3 I 2 (prv .h3 c))) (ld (sm4 I c) (rO36_2 c)))
def o27 (c : Dev nD) : S1024x1024.Idx → Elt F .f32 := (rO37 c).overlay (o26 I c) (addf (idH (ld (o26 I c) (rO37 c))) (ld (sm4 I c) (rO37 c)))
def o28 (c : Dev nD) : S1024x1024.Idx → Elt F .f32 := (rO38 c).overlay (o27 I c) (addf (idH (ld (o27 I c) (rO38 c))) (ld (sm4 I c) (rO38 c)))
def oM (c : Dev nD) : ℕ → S1024x1024.Idx → Elt F .f32
  | 0 => o0 c
  | 1 => o1 I c
  | 2 => o2 I c
  | 3 => o3 I c
  | 4 => o4 I c
  | 5 => o5 I c
  | 6 => o6 I c
  | 7 => o7 I c
  | 8 => o8 I c
  | 9 => o9 I c
  | 10 => o10 I c
  | 11 => o11 I c
  | 12 => o12 I c
  | 13 => o13 I c
  | 14 => o14 I c
  | 15 => o15 I c
  | 16 => o16 I c
  | 17 => o17 I c
  | 18 => o18 I c
  | 19 => o19 I c
  | 20 => o20 I c
  | 21 => o21 I c
  | 22 => o22 I c
  | 23 => o23 I c
  | 24 => o24 I c
  | 25 => o25 I c
  | 26 => o26 I c
  | 27 => o27 I c
  | _ => o28 I c
def oW (c : Dev nD) : List (Rect S1024x1024) := [rO21 c, rO22 c, rO23 c, rO24 c, rO29 c, rO30 c, rO29 c, rO30 c, rO31_0 c, rO32_0 c, rO31_1 c, rO32_1 c, rO31_2 c, rO32_2 c, rO33_0 c, rO34_0 c, rO35_0 c, rO36_0 c, rO33_1 c, rO34_1 c, rO35_1 c, rO36_1 c, rO33_2 c, rO34_2 c, rO35_2 c, rO36_2 c, rO37 c, rO38 c]

/-- What every chain carries. -/
def evs : EV F
  | .a0 => fun c t => va0 I t c
  | .a1 => fun c t => va1 I t c
  | .a2 => fun c t => va2 I t c
  | .a3 => fun c t => va3 I t c
  | .b0 => fun c t => vb0 I t c
  | .b1 => fun c t => vb1 I t c
  | .g0 => fun c t => vg0 I t c
  | .g1 => fun c t => vg1 I t c
  | .h0 => fun c t => vh0 I t c
  | .h1 => fun c t => vh1 I t c
  | .h2 => fun c t => vh2 I t c
  | .h3 => fun c t => vh3 I t c
  | .xA => fun c t => vxA I t c
  | .xB => fun c t => vxB I t c

/-! ## What has been written covers what is read -/

theorem cov_unit {s : Shape} {o1 o2 z1 z2 : Fin s.rank → ℕ} {h1 : ∀ a, o1 a + z1 a ≤ s.size a} {h2 : ∀ a, o2 a + z2 a ≤ s.size a}
    (h : ∀ a, o2 a ≤ o1 a ∧ o1 a + z1 a ≤ o2 a + z2 a) (j : s.Idx) (hj : j ∈ (Rect.unit o1 z1 h1).set) : j ∈ (Rect.unit o2 z2 h2).set := by
  rw [Rect.mem_set_unit] at hj ⊢
  intro a
  have := h a; have := hj a
  omega

end Cert.KernelIdeal.Moe

end
-- ==== Proof.St.lean ====
/-
The states of the kernel on a device between two steps, and each step as a rule between two states.
-/
module

public import proofs.«01_k».proof.Proof.Vals

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok launchOf)
open Idealize.ShloMosaic.TalkSites Idealize.ShloMosaic.SiteBlocks

variable {F : FTy → Type} [FloatOps F]

local notation "𝕄" => MT nD τ sig ℕ (Elt F) ℕ UU ℕ

/-! ## Steps of a program, over any state -/

theorem c_bind (c : Dev nD) {R : sProp 𝕄} {α β : Type} {p : Prog (TpuEff nD τ sig (Elt F) Λ₀ .tc) α} {k : α → Prog (TpuEff nD τ sig (Elt F) Λ₀ .tc) β}
    {Q : β → sProp 𝕄} (h : R ⊢ WP c p fun a => WP c (k a) Q) : R ⊢ WP c (p >>= k) Q := by
  rw [WP, wp_bind]; exact h
theorem lift_bind {α β : Type} (e : TpuEff nD τ sig (Elt F) Λ₀ .tc α) (k : α → Prog (TpuEff nD τ sig (Elt F) Λ₀ .tc) β) :
    (Prog.lift e >>= k) = .op e k := rfl
theorem c_ret (c : Dev nD) {R : sProp 𝕄} {α : Type} {a : α} {Q : α → sProp 𝕄} (h : R ⊢ Q a) :
    R ⊢ WP c (pure a) Q := by
  rw [show (pure a : Prog (TpuEff nD τ sig (Elt F) Λ₀ .tc) α) = .ret a from rfl, WP, wp_ret]; exact h.trans (fupd_intro (P := Q a))
theorem c_dev (c : Dev nD) {R : sProp 𝕄} {α : Type} {kk : Dev nD → Prog (TpuEff nD τ sig (Elt F) Λ₀ .tc) α} {Q : α → sProp 𝕄}
    (h : R ⊢ WP c (kk c) Q) : R ⊢ WP c (Prog.lift .deviceId >>= kk) Q := by
  rw [lift_bind, WP, wp_deviceId]; exact h

/-- A load out of a memref held whole. -/
theorem w_load (c : Dev nD) {cs : CoreSpace} {s : Shape} {e : EltTy} {m : Memref sig .tc cs s e} {r : Rect s} {X : s.Idx → Elt F e} {R : sProp 𝕄}
    (hf : R ⊢ iprop(own c m X ∗ (own c m X -∗ R))) {hl : m.view.LoadsAt r.toLoadRect}
    {α : Type} {Q : α → sProp 𝕄} {kk : (r.shape.Idx → Elt F e) → Prog (TpuEff nD τ sig (Elt F) Λ₀ .tc) α}
    (hk : R ⊢ WP c (kk (ld X r)) Q) : R ⊢ WP c (Prog.lift (.load m r.toLoadRect hl) >>= kk) Q := by
  rw [lift_bind]
  refine hf.trans ?_
  iintro ⟨H, Hf⟩
  iapply (m_load c m r X) $$ H
  iintro H
  ihave HR := Hf $$ H
  iapply hk $$ HR
/-- A load of a slot. -/
theorem s_load (c : Dev nD) {cs : CoreSpace} {s : Shape} {e : EltTy} {m : Memref sig .tc cs s e} {r : Rect s} (hr : ∀ a, r.stride a = 1)
    {X : r.shape.Idx → Elt F e} {R : sProp 𝕄} (hf : R ⊢ iprop(own c (m.slice r hr) X ∗ (own c (m.slice r hr) X -∗ R))) {hl : m.view.LoadsAt r.toLoadRect}
    {α : Type} {Q : α → sProp 𝕄} {kk : (r.shape.Idx → Elt F e) → Prog (TpuEff nD τ sig (Elt F) Λ₀ .tc) α}
    (hk : R ⊢ WP c (kk X) Q) : R ⊢ WP c (Prog.lift (.load m r.toLoadRect hl) >>= kk) Q := by
  rw [lift_bind]
  refine hf.trans ?_
  iintro ⟨H, Hf⟩
  iapply (r_load c m r hr X) $$ H
  iintro H
  ihave HR := Hf $$ H
  iapply hk $$ HR
/-- A load of a slot whose value is not used. -/
theorem s_dead (c : Dev nD) {cs : CoreSpace} {s : Shape} {e : EltTy} {m : Memref sig .tc cs s e} {r : Rect s} (hr : ∀ a, r.stride a = 1)
    {R : sProp 𝕄} (hf : R ⊢ iprop(ownA (F := F) c (m.slice r hr) ∗ (ownA (F := F) c (m.slice r hr) -∗ R))) {hl : m.view.LoadsAt r.toLoadRect}
    {α : Type} {Q : α → sProp 𝕄} {kk : Prog (TpuEff nD τ sig (Elt F) Λ₀ .tc) α}
    (hk : R ⊢ WP c kk Q) : R ⊢ WP c (Prog.lift (.load m r.toLoadRect hl) >>= fun _ => kk) Q := by
  rw [lift_bind]
  refine hf.trans ?_
  iintro ⟨⟨%X, H⟩, Hf⟩
  iapply (r_load c m r hr X) $$ H
  iintro H
  ihave HR := Hf $$ [H]
  · iexists X; iexact H
  iapply hk $$ HR
/-- A store over a slot. -/
theorem s_store (c : Dev nD) {cs : CoreSpace} {s : Shape} {e : EltTy} {m : Memref sig .tc cs s e} {r : Rect s} (hr : ∀ a, r.stride a = 1)
    {Y w : r.shape.Idx → Elt F e} (hw : w = Y) {R R' : sProp 𝕄} (hf : R ⊢ iprop(ownA (F := F) c (m.slice r hr) ∗ (own c (m.slice r hr) Y -∗ R')))
    {hx : (m.access r).Stores Finset.univ} {hm : Finset.univ = Finset.univ ∨ ∀ a, r.stride a = 1}
    {α : Type} {Q : α → sProp 𝕄} {kk : PUnit → Prog (TpuEff nD τ sig (Elt F) Λ₀ .tc) α}
    (hk : R' ⊢ WP c (kk ⟨⟩) Q) : R ⊢ WP c (Prog.lift (.store m r w Finset.univ hx hm) >>= kk) Q := by
  rw [lift_bind]
  refine hf.trans ?_
  iintro ⟨⟨%X, H⟩, Hf⟩
  iapply (r_store c m r hr X w Y hw) $$ H
  iintro H
  ihave HR := Hf $$ H
  iapply hk $$ HR
theorem emb_full {s : Shape} {off : Fin s.rank → ℕ} (inb : ∀ a, off a + s.size a ≤ s.size a) (z : s.Idx) :
    (Rect.unit off s.size inb).emb z = z := by
  funext a
  apply Fin.ext
  have h1 := inb a
  change off a + 1 * (z a : ℕ) = _
  omega
theorem ld_full {s : Shape} {α : Type} (X : s.Idx → α) {off : Fin s.rank → ℕ} (inb : ∀ a, off a + s.size a ≤ s.size a) : ld X (Rect.unit off s.size inb) = X :=
  funext fun z => congrArg X (emb_full inb z)
/-- A load, at its full rectangle, of a memref held whole. -/
theorem f_load (c : Dev nD) {cs : CoreSpace} {s : Shape} {e : EltTy} {m : Memref sig .tc cs s e} {off : Fin s.rank → ℕ} {inb : ∀ a, off a + s.size a ≤ s.size a}
    {X : s.Idx → Elt F e} {R : sProp 𝕄} (hf : R ⊢ iprop(own c m X ∗ (own c m X -∗ R))) {hl : m.view.LoadsAt (Rect.unit off s.size inb).toLoadRect}
    {α : Type} {Q : α → sProp 𝕄} {kk : (s.Idx → Elt F e) → Prog (TpuEff nD τ sig (Elt F) Λ₀ .tc) α}
    (hk : R ⊢ WP c (kk X) Q) : R ⊢ WP c (Prog.lift (.load m (Rect.unit off s.size inb).toLoadRect hl) >>= kk) Q :=
  w_load c hf (by rw [ld_full X inb]; exact hk)
theorem f_dead (c : Dev nD) {cs : CoreSpace} {s : Shape} {e : EltTy} {m : Memref sig .tc cs s e} {r : Rect s}
    {R : sProp 𝕄} (hf : R ⊢ iprop(ownA (F := F) c m ∗ (ownA (F := F) c m -∗ R))) {hl : m.view.LoadsAt r.toLoadRect}
    {α : Type} {Q : α → sProp 𝕄} {kk : Prog (TpuEff nD τ sig (Elt F) Λ₀ .tc) α}
    (hk : R ⊢ WP c kk Q) : R ⊢ WP c (Prog.lift (.load m r.toLoadRect hl) >>= fun _ => kk) Q := by
  rw [lift_bind]
  refine hf.trans ?_
  iintro ⟨⟨%X, H⟩, Hf⟩
  iapply (m_load c m r X) $$ H
  iintro H
  ihave HR := Hf $$ [H]
  · iexists X; iexact H
  iapply hk $$ HR
/-- A store, at its full rectangle, into a memref held whole. -/
theorem f_store (c : Dev nD) {cs : CoreSpace} {s : Shape} {e : EltTy} {m : Memref sig .tc cs s e} {off : Fin s.rank → ℕ} {inb : ∀ a, off a + s.size a ≤ s.size a}
    {Y w : s.Idx → Elt F e} (hw : w = Y) {R R' : sProp 𝕄} (hf : R ⊢ iprop(ownA (F := F) c m ∗ (own c m Y -∗ R')))
    {hx : (m.access (Rect.unit off s.size inb)).Stores Finset.univ} {hm : Finset.univ = Finset.univ ∨ ∀ a, (Rect.unit off s.size inb).stride a = 1}
    {α : Type} {Q : α → sProp 𝕄} {kk : PUnit → Prog (TpuEff nD τ sig (Elt F) Λ₀ .tc) α}
    (hk : R' ⊢ WP c (kk ⟨⟩) Q) : R ⊢ WP c (Prog.lift (.store m (Rect.unit off s.size inb) w Finset.univ hx hm) >>= kk) Q := by
  rw [lift_bind]
  refine hf.trans ?_
  iintro ⟨⟨%X, H⟩, Hf⟩
  iapply (m_store c m (Rect.unit off s.size inb) X w) $$ H
  iintro H
  rw [show (Rect.unit off s.size inb).overlay X w = Y from by
    funext z
    conv_lhs => rw [← emb_full inb z]
    rw [Rect.overlay_emb, hw]]
  ihave HR := Hf $$ H
  iapply hk $$ HR
/-- A load of what has been written of a buffer. -/
theorem g_load (c : Dev nD) {cs : CoreSpace} {s : Shape} {e : EltTy} {m : Memref sig .tc cs s e} {r : Rect s}
    {wr : List (Rect s)} {O : ℕ → s.Idx → Elt F e} {n : ℕ} {R : sProp 𝕄} (hf : R ⊢ iprop(Agr c m wr O n ∗ (Agr c m wr O n -∗ R)))
    (h : ∀ j ∈ r.set, ∃ r' ∈ wr.take n, j ∈ r'.set) {hl : m.view.LoadsAt r.toLoadRect}
    {α : Type} {Q : α → sProp 𝕄} {kk : (r.shape.Idx → Elt F e) → Prog (TpuEff nD τ sig (Elt F) Λ₀ .tc) α}
    (hk : R ⊢ WP c (kk (ld (O n) r)) Q) : R ⊢ WP c (Prog.lift (.load m r.toLoadRect hl) >>= kk) Q := by
  rw [lift_bind]
  refine hf.trans ?_
  iintro ⟨H, Hf⟩
  iapply (a_load c m r wr O n h) $$ H
  iintro H
  ihave HR := Hf $$ H
  iapply hk $$ HR
theorem g_dead (c : Dev nD) {cs : CoreSpace} {s : Shape} {e : EltTy} {m : Memref sig .tc cs s e} {r : Rect s}
    {wr : List (Rect s)} {O : ℕ → s.Idx → Elt F e} {n : ℕ} {R : sProp 𝕄} (hf : R ⊢ iprop(Agr c m wr O n ∗ (Agr c m wr O n -∗ R)))
    {hl : m.view.LoadsAt r.toLoadRect}
    {α : Type} {Q : α → sProp 𝕄} {kk : Prog (TpuEff nD τ sig (Elt F) Λ₀ .tc) α}
    (hk : R ⊢ WP c kk Q) : R ⊢ WP c (Prog.lift (.load m r.toLoadRect hl) >>= fun _ => kk) Q := by
  rw [lift_bind]
  refine hf.trans ?_
  iintro ⟨H, Hf⟩
  iapply (a_dead c m r wr O n) $$ H
  iintro H
  ihave HR := Hf $$ H
  iapply hk $$ HR
theorem g_store (c : Dev nD) {cs : CoreSpace} {s : Shape} {e : EltTy} {m : Memref sig .tc cs s e} {r : Rect s} {w : r.shape.Idx → Elt F e}
    {wr : List (Rect s)} {O : ℕ → s.Idx → Elt F e} {n : ℕ} {R R' : sProp 𝕄} (hf : R ⊢ iprop(Agr c m wr O n ∗ (Agr c m wr O (n + 1) -∗ R')))
    (hr : wr[n]? = some r) (hO : O (n + 1) = r.overlay (O n) w)
    {hx : (m.access r).Stores Finset.univ} {hm : Finset.univ = Finset.univ ∨ ∀ a, r.stride a = 1}
    {α : Type} {Q : α → sProp 𝕄} {kk : PUnit → Prog (TpuEff nD τ sig (Elt F) Λ₀ .tc) α}
    (hk : R' ⊢ WP c (kk ⟨⟩) Q) : R ⊢ WP c (Prog.lift (.store m r w Finset.univ hx hm) >>= kk) Q := by
  rw [lift_bind]
  refine hf.trans ?_
  iintro ⟨H, Hf⟩
  iapply (a_store c m r w wr O n hr hO) $$ H
  iintro H
  ihave HR := Hf $$ H
  iapply hk $$ HR

/-! ## The states -/

/-- The staging memrefs. -/
structure Ins where
  m0 : Memref sig .tc .vmem S1024x512 .f32
  h0 : m0.IsWhole
  m1 : Memref sig .tc .vmem S512x128 .f32
  h1 : m1.IsWhole
  m2 : Memref sig .tc .vmem S1x1024 .i32
  h2 : m2.IsWhole
  m3 : Memref sig .tc .vmem S4x512x1024 .f32
  h3 : m3.IsWhole
  m4 : Memref sig .tc .vmem S512x1024 .f32
  h4 : m4.IsWhole
  m5 : Memref sig .tc .vmem S1024x1024 .f32
  h5 : m5.IsWhole

variable (I : Inp F) (A : Ins) (c : Dev nD)

/-- The state of a device: what it owes, its inputs, its three buffers as far as written, and the rest. -/
def SX (X : sProp 𝕄) (n o s q : ℕ) : sProp 𝕄 :=
  iprop(Pers (evs I) ∗ OwN c n ∗ own c A.m0 (I.x c) ∗ own c A.m1 (I.rw c) ∗ own c A.m2 (I.ri c) ∗ own c A.m3 (I.ew c) ∗ own c A.m4 (I.sw c)
    ∗ Agr c A.m5 (oW c) (oM I c) o ∗ Agr c (Memref.whole cc0_scratch0) (smW c) (smM I c) s ∗ Agr c (Memref.whole cc0_scratch1) (cfW c) (cfM I c) q ∗ X)

/-- The states of all chains. -/
def CHS (l : List ℕ) : sProp 𝕄 :=
  iprop(CH (evs I) .a0 c (l.getD 0 0) ∗ CH (evs I) .a1 c (l.getD 1 0) ∗ CH (evs I) .a2 c (l.getD 2 0) ∗ CH (evs I) .a3 c (l.getD 3 0) ∗ CH (evs I) .b0 c (l.getD 4 0) ∗ CH (evs I) .b1 c (l.getD 5 0) ∗ CH (evs I) .g0 c (l.getD 6 0) ∗ CH (evs I) .g1 c (l.getD 7 0) ∗ CH (evs I) .h0 c (l.getD 8 0) ∗ CH (evs I) .h1 c (l.getD 9 0) ∗ CH (evs I) .h2 c (l.getD 10 0) ∗ CH (evs I) .h3 c (l.getD 11 0) ∗ XH (evs I) .xA c (l.getD 12 0) ∗ XH (evs I) .xB c (l.getD 13 0))
/-- The place of a chain. -/
def ci : Ch → ℕ
  | .a0 => 0
  | .a1 => 1
  | .a2 => 2
  | .a3 => 3
  | .b0 => 4
  | .b1 => 5
  | .g0 => 6
  | .g1 => 7
  | .h0 => 8
  | .h1 => 9
  | .h2 => 10
  | .h3 => 11
  | .xA => 12
  | .xB => 13
/-- The state of a device after the barrier. -/
abbrev ST (n o s q : ℕ) (l : List ℕ) : sProp 𝕄 := SX I A c iprop(Pos (F := F) (gB c) 1 ∗ CHS I c l) n o s q

variable {X : sProp (MT nD τ sig ℕ (Elt F) ℕ UU ℕ)} {n o s q : ℕ} {l : List ℕ}
theorem fo0 : SX I A c X n o s q ⊢ iprop(own c A.m0 (I.x c) ∗ (own c A.m0 (I.x c) -∗ SX I A c X n o s q)) := by
  unfold SX
  iintro ⟨HP, HO, H0, H1, H2, H3, H4, H5, H6, H7, HX⟩
  isplitl [H0]; · iexact H0
  iintro H0
  isplitl [HP]; · iexact HP
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact HX
theorem fo1 : SX I A c X n o s q ⊢ iprop(own c A.m1 (I.rw c) ∗ (own c A.m1 (I.rw c) -∗ SX I A c X n o s q)) := by
  unfold SX
  iintro ⟨HP, HO, H0, H1, H2, H3, H4, H5, H6, H7, HX⟩
  isplitl [H1]; · iexact H1
  iintro H1
  isplitl [HP]; · iexact HP
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact HX
theorem fo2 : SX I A c X n o s q ⊢ iprop(own c A.m2 (I.ri c) ∗ (own c A.m2 (I.ri c) -∗ SX I A c X n o s q)) := by
  unfold SX
  iintro ⟨HP, HO, H0, H1, H2, H3, H4, H5, H6, H7, HX⟩
  isplitl [H2]; · iexact H2
  iintro H2
  isplitl [HP]; · iexact HP
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact HX
theorem fo3 : SX I A c X n o s q ⊢ iprop(own c A.m3 (I.ew c) ∗ (own c A.m3 (I.ew c) -∗ SX I A c X n o s q)) := by
  unfold SX
  iintro ⟨HP, HO, H0, H1, H2, H3, H4, H5, H6, H7, HX⟩
  isplitl [H3]; · iexact H3
  iintro H3
  isplitl [HP]; · iexact HP
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact HX
theorem fo4 : SX I A c X n o s q ⊢ iprop(own c A.m4 (I.sw c) ∗ (own c A.m4 (I.sw c) -∗ SX I A c X n o s q)) := by
  unfold SX
  iintro ⟨HP, HO, H0, H1, H2, H3, H4, H5, H6, H7, HX⟩
  isplitl [H4]; · iexact H4
  iintro H4
  isplitl [HP]; · iexact HP
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact HX
theorem fo : SX I A c X n o s q ⊢ iprop(Agr c A.m5 (oW c) (oM I c) o ∗ (Agr c A.m5 (oW c) (oM I c) o -∗ SX I A c X n o s q)) := by
  unfold SX
  iintro ⟨HP, HO, H0, H1, H2, H3, H4, H5, H6, H7, HX⟩
  isplitl [H5]; · iexact H5
  iintro H5
  isplitl [HP]; · iexact HP
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact HX
theorem foS : SX I A c X n o s q ⊢ iprop(Agr c A.m5 (oW c) (oM I c) o ∗ (Agr c A.m5 (oW c) (oM I c) (o + 1) -∗ SX I A c X n (o + 1) s q)) := by
  unfold SX
  iintro ⟨HP, HO, H0, H1, H2, H3, H4, H5, H6, H7, HX⟩
  isplitl [H5]; · iexact H5
  iintro H5
  isplitl [HP]; · iexact HP
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact HX
theorem fs : SX I A c X n o s q ⊢ iprop(Agr c (Memref.whole cc0_scratch0) (smW c) (smM I c) s ∗ (Agr c (Memref.whole cc0_scratch0) (smW c) (smM I c) s -∗ SX I A c X n o s q)) := by
  unfold SX
  iintro ⟨HP, HO, H0, H1, H2, H3, H4, H5, H6, H7, HX⟩
  isplitl [H6]; · iexact H6
  iintro H6
  isplitl [HP]; · iexact HP
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact HX
theorem fsS : SX I A c X n o s q ⊢ iprop(Agr c (Memref.whole cc0_scratch0) (smW c) (smM I c) s ∗ (Agr c (Memref.whole cc0_scratch0) (smW c) (smM I c) (s + 1) -∗ SX I A c X n o (s + 1) q)) := by
  unfold SX
  iintro ⟨HP, HO, H0, H1, H2, H3, H4, H5, H6, H7, HX⟩
  isplitl [H6]; · iexact H6
  iintro H6
  isplitl [HP]; · iexact HP
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact HX
theorem fq : SX I A c X n o s q ⊢ iprop(Agr c (Memref.whole cc0_scratch1) (cfW c) (cfM I c) q ∗ (Agr c (Memref.whole cc0_scratch1) (cfW c) (cfM I c) q -∗ SX I A c X n o s q)) := by
  unfold SX
  iintro ⟨HP, HO, H0, H1, H2, H3, H4, H5, H6, H7, HX⟩
  isplitl [H7]; · iexact H7
  iintro H7
  isplitl [HP]; · iexact HP
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact HX
theorem fqS : SX I A c X n o s q ⊢ iprop(Agr c (Memref.whole cc0_scratch1) (cfW c) (cfM I c) q ∗ (Agr c (Memref.whole cc0_scratch1) (cfW c) (cfM I c) (q + 1) -∗ SX I A c X n o s (q + 1))) := by
  unfold SX
  iintro ⟨HP, HO, H0, H1, H2, H3, H4, H5, H6, H7, HX⟩
  isplitl [H7]; · iexact H7
  iintro H7
  isplitl [HP]; · iexact HP
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact HX

/-- What a step of a chain touches, and what remains. -/
theorem fo_ch : SX I A c X n o s q ⊢ iprop((Pers (evs I) ∗ OwN c n ∗ X) ∗ (∀ n' X', OwN c n' ∗ X' -∗ SX I A c X' n' o s q)) := by
  unfold SX
  iintro ⟨#HP, HO, H0, H1, H2, H3, H4, H5, H6, H7, HX⟩
  isplitl [HO HX]
  · isplitl []; · iexact HP
    isplitl [HO]; · iexact HO
    iexact HX
  iintro %n' %X' ⟨HO, HX⟩
  isplitl []; · iexact HP
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact HX

/-- One chain out of all, put back in another state. -/
def CX (k : Ch) (v : ℕ) : sProp 𝕄 := if ring k then CH (evs I) k c v else XH (evs I) k c v
theorem CX_ring {k : Ch} (h : ring k = true) (v : ℕ) : CX I c k v = CH (evs I) k c v := by unfold CX; rw [h]; rfl
theorem CX_x {k : Ch} (h : ring k = false) (v : ℕ) : CX I c k v = XH (evs I) k c v := by unfold CX; rw [h]; rfl
theorem foc (k : Ch) (h : l.length = 14) : CHS I c l ⊢ iprop(CX I c k (l.getD (ci k) 0) ∗ (∀ v, CX I c k v -∗ CHS I c (l.set (ci k) v))) := by
  obtain ⟨v0, v1, v2, v3, v4, v5, v6, v7, v8, v9, v10, v11, v12, v13, rfl⟩ : ∃ v0 v1 v2 v3 v4 v5 v6 v7 v8 v9 v10 v11 v12 v13, l = [v0, v1, v2, v3, v4, v5, v6, v7, v8, v9, v10, v11, v12, v13] := by
    match l, h with
    | [v0, v1, v2, v3, v4, v5, v6, v7, v8, v9, v10, v11, v12, v13], _ => exact ⟨v0, v1, v2, v3, v4, v5, v6, v7, v8, v9, v10, v11, v12, v13, rfl⟩
  cases k
  · change (iprop(CH (evs I) .a0 c v0 ∗ CH (evs I) .a1 c v1 ∗ CH (evs I) .a2 c v2 ∗ CH (evs I) .a3 c v3 ∗ CH (evs I) .b0 c v4 ∗ CH (evs I) .b1 c v5 ∗ CH (evs I) .g0 c v6 ∗ CH (evs I) .g1 c v7 ∗ CH (evs I) .h0 c v8 ∗ CH (evs I) .h1 c v9 ∗ CH (evs I) .h2 c v10 ∗ CH (evs I) .h3 c v11 ∗ XH (evs I) .xA c v12 ∗ XH (evs I) .xB c v13) : sProp 𝕄) ⊢ iprop(CH (evs I) .a0 c v0 ∗ (∀ v, CH (evs I) .a0 c v -∗ (CH (evs I) .a0 c v ∗ CH (evs I) .a1 c v1 ∗ CH (evs I) .a2 c v2 ∗ CH (evs I) .a3 c v3 ∗ CH (evs I) .b0 c v4 ∗ CH (evs I) .b1 c v5 ∗ CH (evs I) .g0 c v6 ∗ CH (evs I) .g1 c v7 ∗ CH (evs I) .h0 c v8 ∗ CH (evs I) .h1 c v9 ∗ CH (evs I) .h2 c v10 ∗ CH (evs I) .h3 c v11 ∗ XH (evs I) .xA c v12 ∗ XH (evs I) .xB c v13)))
    iintro ⟨Ha0, Ha1, Ha2, Ha3, Hb0, Hb1, Hg0, Hg1, Hh0, Hh1, Hh2, Hh3, HxA, HxB⟩
    isplitl [Ha0]; · iexact Ha0
    iintro %v Ha0
    isplitl [Ha0]; · iexact Ha0
    isplitl [Ha1]; · iexact Ha1
    isplitl [Ha2]; · iexact Ha2
    isplitl [Ha3]; · iexact Ha3
    isplitl [Hb0]; · iexact Hb0
    isplitl [Hb1]; · iexact Hb1
    isplitl [Hg0]; · iexact Hg0
    isplitl [Hg1]; · iexact Hg1
    isplitl [Hh0]; · iexact Hh0
    isplitl [Hh1]; · iexact Hh1
    isplitl [Hh2]; · iexact Hh2
    isplitl [Hh3]; · iexact Hh3
    isplitl [HxA]; · iexact HxA
    iexact HxB
  · change (iprop(CH (evs I) .a0 c v0 ∗ CH (evs I) .a1 c v1 ∗ CH (evs I) .a2 c v2 ∗ CH (evs I) .a3 c v3 ∗ CH (evs I) .b0 c v4 ∗ CH (evs I) .b1 c v5 ∗ CH (evs I) .g0 c v6 ∗ CH (evs I) .g1 c v7 ∗ CH (evs I) .h0 c v8 ∗ CH (evs I) .h1 c v9 ∗ CH (evs I) .h2 c v10 ∗ CH (evs I) .h3 c v11 ∗ XH (evs I) .xA c v12 ∗ XH (evs I) .xB c v13) : sProp 𝕄) ⊢ iprop(CH (evs I) .a1 c v1 ∗ (∀ v, CH (evs I) .a1 c v -∗ (CH (evs I) .a0 c v0 ∗ CH (evs I) .a1 c v ∗ CH (evs I) .a2 c v2 ∗ CH (evs I) .a3 c v3 ∗ CH (evs I) .b0 c v4 ∗ CH (evs I) .b1 c v5 ∗ CH (evs I) .g0 c v6 ∗ CH (evs I) .g1 c v7 ∗ CH (evs I) .h0 c v8 ∗ CH (evs I) .h1 c v9 ∗ CH (evs I) .h2 c v10 ∗ CH (evs I) .h3 c v11 ∗ XH (evs I) .xA c v12 ∗ XH (evs I) .xB c v13)))
    iintro ⟨Ha0, Ha1, Ha2, Ha3, Hb0, Hb1, Hg0, Hg1, Hh0, Hh1, Hh2, Hh3, HxA, HxB⟩
    isplitl [Ha1]; · iexact Ha1
    iintro %v Ha1
    isplitl [Ha0]; · iexact Ha0
    isplitl [Ha1]; · iexact Ha1
    isplitl [Ha2]; · iexact Ha2
    isplitl [Ha3]; · iexact Ha3
    isplitl [Hb0]; · iexact Hb0
    isplitl [Hb1]; · iexact Hb1
    isplitl [Hg0]; · iexact Hg0
    isplitl [Hg1]; · iexact Hg1
    isplitl [Hh0]; · iexact Hh0
    isplitl [Hh1]; · iexact Hh1
    isplitl [Hh2]; · iexact Hh2
    isplitl [Hh3]; · iexact Hh3
    isplitl [HxA]; · iexact HxA
    iexact HxB
  · change (iprop(CH (evs I) .a0 c v0 ∗ CH (evs I) .a1 c v1 ∗ CH (evs I) .a2 c v2 ∗ CH (evs I) .a3 c v3 ∗ CH (evs I) .b0 c v4 ∗ CH (evs I) .b1 c v5 ∗ CH (evs I) .g0 c v6 ∗ CH (evs I) .g1 c v7 ∗ CH (evs I) .h0 c v8 ∗ CH (evs I) .h1 c v9 ∗ CH (evs I) .h2 c v10 ∗ CH (evs I) .h3 c v11 ∗ XH (evs I) .xA c v12 ∗ XH (evs I) .xB c v13) : sProp 𝕄) ⊢ iprop(CH (evs I) .a2 c v2 ∗ (∀ v, CH (evs I) .a2 c v -∗ (CH (evs I) .a0 c v0 ∗ CH (evs I) .a1 c v1 ∗ CH (evs I) .a2 c v ∗ CH (evs I) .a3 c v3 ∗ CH (evs I) .b0 c v4 ∗ CH (evs I) .b1 c v5 ∗ CH (evs I) .g0 c v6 ∗ CH (evs I) .g1 c v7 ∗ CH (evs I) .h0 c v8 ∗ CH (evs I) .h1 c v9 ∗ CH (evs I) .h2 c v10 ∗ CH (evs I) .h3 c v11 ∗ XH (evs I) .xA c v12 ∗ XH (evs I) .xB c v13)))
    iintro ⟨Ha0, Ha1, Ha2, Ha3, Hb0, Hb1, Hg0, Hg1, Hh0, Hh1, Hh2, Hh3, HxA, HxB⟩
    isplitl [Ha2]; · iexact Ha2
    iintro %v Ha2
    isplitl [Ha0]; · iexact Ha0
    isplitl [Ha1]; · iexact Ha1
    isplitl [Ha2]; · iexact Ha2
    isplitl [Ha3]; · iexact Ha3
    isplitl [Hb0]; · iexact Hb0
    isplitl [Hb1]; · iexact Hb1
    isplitl [Hg0]; · iexact Hg0
    isplitl [Hg1]; · iexact Hg1
    isplitl [Hh0]; · iexact Hh0
    isplitl [Hh1]; · iexact Hh1
    isplitl [Hh2]; · iexact Hh2
    isplitl [Hh3]; · iexact Hh3
    isplitl [HxA]; · iexact HxA
    iexact HxB
  · change (iprop(CH (evs I) .a0 c v0 ∗ CH (evs I) .a1 c v1 ∗ CH (evs I) .a2 c v2 ∗ CH (evs I) .a3 c v3 ∗ CH (evs I) .b0 c v4 ∗ CH (evs I) .b1 c v5 ∗ CH (evs I) .g0 c v6 ∗ CH (evs I) .g1 c v7 ∗ CH (evs I) .h0 c v8 ∗ CH (evs I) .h1 c v9 ∗ CH (evs I) .h2 c v10 ∗ CH (evs I) .h3 c v11 ∗ XH (evs I) .xA c v12 ∗ XH (evs I) .xB c v13) : sProp 𝕄) ⊢ iprop(CH (evs I) .a3 c v3 ∗ (∀ v, CH (evs I) .a3 c v -∗ (CH (evs I) .a0 c v0 ∗ CH (evs I) .a1 c v1 ∗ CH (evs I) .a2 c v2 ∗ CH (evs I) .a3 c v ∗ CH (evs I) .b0 c v4 ∗ CH (evs I) .b1 c v5 ∗ CH (evs I) .g0 c v6 ∗ CH (evs I) .g1 c v7 ∗ CH (evs I) .h0 c v8 ∗ CH (evs I) .h1 c v9 ∗ CH (evs I) .h2 c v10 ∗ CH (evs I) .h3 c v11 ∗ XH (evs I) .xA c v12 ∗ XH (evs I) .xB c v13)))
    iintro ⟨Ha0, Ha1, Ha2, Ha3, Hb0, Hb1, Hg0, Hg1, Hh0, Hh1, Hh2, Hh3, HxA, HxB⟩
    isplitl [Ha3]; · iexact Ha3
    iintro %v Ha3
    isplitl [Ha0]; · iexact Ha0
    isplitl [Ha1]; · iexact Ha1
    isplitl [Ha2]; · iexact Ha2
    isplitl [Ha3]; · iexact Ha3
    isplitl [Hb0]; · iexact Hb0
    isplitl [Hb1]; · iexact Hb1
    isplitl [Hg0]; · iexact Hg0
    isplitl [Hg1]; · iexact Hg1
    isplitl [Hh0]; · iexact Hh0
    isplitl [Hh1]; · iexact Hh1
    isplitl [Hh2]; · iexact Hh2
    isplitl [Hh3]; · iexact Hh3
    isplitl [HxA]; · iexact HxA
    iexact HxB
  · change (iprop(CH (evs I) .a0 c v0 ∗ CH (evs I) .a1 c v1 ∗ CH (evs I) .a2 c v2 ∗ CH (evs I) .a3 c v3 ∗ CH (evs I) .b0 c v4 ∗ CH (evs I) .b1 c v5 ∗ CH (evs I) .g0 c v6 ∗ CH (evs I) .g1 c v7 ∗ CH (evs I) .h0 c v8 ∗ CH (evs I) .h1 c v9 ∗ CH (evs I) .h2 c v10 ∗ CH (evs I) .h3 c v11 ∗ XH (evs I) .xA c v12 ∗ XH (evs I) .xB c v13) : sProp 𝕄) ⊢ iprop(CH (evs I) .b0 c v4 ∗ (∀ v, CH (evs I) .b0 c v -∗ (CH (evs I) .a0 c v0 ∗ CH (evs I) .a1 c v1 ∗ CH (evs I) .a2 c v2 ∗ CH (evs I) .a3 c v3 ∗ CH (evs I) .b0 c v ∗ CH (evs I) .b1 c v5 ∗ CH (evs I) .g0 c v6 ∗ CH (evs I) .g1 c v7 ∗ CH (evs I) .h0 c v8 ∗ CH (evs I) .h1 c v9 ∗ CH (evs I) .h2 c v10 ∗ CH (evs I) .h3 c v11 ∗ XH (evs I) .xA c v12 ∗ XH (evs I) .xB c v13)))
    iintro ⟨Ha0, Ha1, Ha2, Ha3, Hb0, Hb1, Hg0, Hg1, Hh0, Hh1, Hh2, Hh3, HxA, HxB⟩
    isplitl [Hb0]; · iexact Hb0
    iintro %v Hb0
    isplitl [Ha0]; · iexact Ha0
    isplitl [Ha1]; · iexact Ha1
    isplitl [Ha2]; · iexact Ha2
    isplitl [Ha3]; · iexact Ha3
    isplitl [Hb0]; · iexact Hb0
    isplitl [Hb1]; · iexact Hb1
    isplitl [Hg0]; · iexact Hg0
    isplitl [Hg1]; · iexact Hg1
    isplitl [Hh0]; · iexact Hh0
    isplitl [Hh1]; · iexact Hh1
    isplitl [Hh2]; · iexact Hh2
    isplitl [Hh3]; · iexact Hh3
    isplitl [HxA]; · iexact HxA
    iexact HxB
  · change (iprop(CH (evs I) .a0 c v0 ∗ CH (evs I) .a1 c v1 ∗ CH (evs I) .a2 c v2 ∗ CH (evs I) .a3 c v3 ∗ CH (evs I) .b0 c v4 ∗ CH (evs I) .b1 c v5 ∗ CH (evs I) .g0 c v6 ∗ CH (evs I) .g1 c v7 ∗ CH (evs I) .h0 c v8 ∗ CH (evs I) .h1 c v9 ∗ CH (evs I) .h2 c v10 ∗ CH (evs I) .h3 c v11 ∗ XH (evs I) .xA c v12 ∗ XH (evs I) .xB c v13) : sProp 𝕄) ⊢ iprop(CH (evs I) .b1 c v5 ∗ (∀ v, CH (evs I) .b1 c v -∗ (CH (evs I) .a0 c v0 ∗ CH (evs I) .a1 c v1 ∗ CH (evs I) .a2 c v2 ∗ CH (evs I) .a3 c v3 ∗ CH (evs I) .b0 c v4 ∗ CH (evs I) .b1 c v ∗ CH (evs I) .g0 c v6 ∗ CH (evs I) .g1 c v7 ∗ CH (evs I) .h0 c v8 ∗ CH (evs I) .h1 c v9 ∗ CH (evs I) .h2 c v10 ∗ CH (evs I) .h3 c v11 ∗ XH (evs I) .xA c v12 ∗ XH (evs I) .xB c v13)))
    iintro ⟨Ha0, Ha1, Ha2, Ha3, Hb0, Hb1, Hg0, Hg1, Hh0, Hh1, Hh2, Hh3, HxA, HxB⟩
    isplitl [Hb1]; · iexact Hb1
    iintro %v Hb1
    isplitl [Ha0]; · iexact Ha0
    isplitl [Ha1]; · iexact Ha1
    isplitl [Ha2]; · iexact Ha2
    isplitl [Ha3]; · iexact Ha3
    isplitl [Hb0]; · iexact Hb0
    isplitl [Hb1]; · iexact Hb1
    isplitl [Hg0]; · iexact Hg0
    isplitl [Hg1]; · iexact Hg1
    isplitl [Hh0]; · iexact Hh0
    isplitl [Hh1]; · iexact Hh1
    isplitl [Hh2]; · iexact Hh2
    isplitl [Hh3]; · iexact Hh3
    isplitl [HxA]; · iexact HxA
    iexact HxB
  · change (iprop(CH (evs I) .a0 c v0 ∗ CH (evs I) .a1 c v1 ∗ CH (evs I) .a2 c v2 ∗ CH (evs I) .a3 c v3 ∗ CH (evs I) .b0 c v4 ∗ CH (evs I) .b1 c v5 ∗ CH (evs I) .g0 c v6 ∗ CH (evs I) .g1 c v7 ∗ CH (evs I) .h0 c v8 ∗ CH (evs I) .h1 c v9 ∗ CH (evs I) .h2 c v10 ∗ CH (evs I) .h3 c v11 ∗ XH (evs I) .xA c v12 ∗ XH (evs I) .xB c v13) : sProp 𝕄) ⊢ iprop(CH (evs I) .g0 c v6 ∗ (∀ v, CH (evs I) .g0 c v -∗ (CH (evs I) .a0 c v0 ∗ CH (evs I) .a1 c v1 ∗ CH (evs I) .a2 c v2 ∗ CH (evs I) .a3 c v3 ∗ CH (evs I) .b0 c v4 ∗ CH (evs I) .b1 c v5 ∗ CH (evs I) .g0 c v ∗ CH (evs I) .g1 c v7 ∗ CH (evs I) .h0 c v8 ∗ CH (evs I) .h1 c v9 ∗ CH (evs I) .h2 c v10 ∗ CH (evs I) .h3 c v11 ∗ XH (evs I) .xA c v12 ∗ XH (evs I) .xB c v13)))
    iintro ⟨Ha0, Ha1, Ha2, Ha3, Hb0, Hb1, Hg0, Hg1, Hh0, Hh1, Hh2, Hh3, HxA, HxB⟩
    isplitl [Hg0]; · iexact Hg0
    iintro %v Hg0
    isplitl [Ha0]; · iexact Ha0
    isplitl [Ha1]; · iexact Ha1
    isplitl [Ha2]; · iexact Ha2
    isplitl [Ha3]; · iexact Ha3
    isplitl [Hb0]; · iexact Hb0
    isplitl [Hb1]; · iexact Hb1
    isplitl [Hg0]; · iexact Hg0
    isplitl [Hg1]; · iexact Hg1
    isplitl [Hh0]; · iexact Hh0
    isplitl [Hh1]; · iexact Hh1
    isplitl [Hh2]; · iexact Hh2
    isplitl [Hh3]; · iexact Hh3
    isplitl [HxA]; · iexact HxA
    iexact HxB
  · change (iprop(CH (evs I) .a0 c v0 ∗ CH (evs I) .a1 c v1 ∗ CH (evs I) .a2 c v2 ∗ CH (evs I) .a3 c v3 ∗ CH (evs I) .b0 c v4 ∗ CH (evs I) .b1 c v5 ∗ CH (evs I) .g0 c v6 ∗ CH (evs I) .g1 c v7 ∗ CH (evs I) .h0 c v8 ∗ CH (evs I) .h1 c v9 ∗ CH (evs I) .h2 c v10 ∗ CH (evs I) .h3 c v11 ∗ XH (evs I) .xA c v12 ∗ XH (evs I) .xB c v13) : sProp 𝕄) ⊢ iprop(CH (evs I) .g1 c v7 ∗ (∀ v, CH (evs I) .g1 c v -∗ (CH (evs I) .a0 c v0 ∗ CH (evs I) .a1 c v1 ∗ CH (evs I) .a2 c v2 ∗ CH (evs I) .a3 c v3 ∗ CH (evs I) .b0 c v4 ∗ CH (evs I) .b1 c v5 ∗ CH (evs I) .g0 c v6 ∗ CH (evs I) .g1 c v ∗ CH (evs I) .h0 c v8 ∗ CH (evs I) .h1 c v9 ∗ CH (evs I) .h2 c v10 ∗ CH (evs I) .h3 c v11 ∗ XH (evs I) .xA c v12 ∗ XH (evs I) .xB c v13)))
    iintro ⟨Ha0, Ha1, Ha2, Ha3, Hb0, Hb1, Hg0, Hg1, Hh0, Hh1, Hh2, Hh3, HxA, HxB⟩
    isplitl [Hg1]; · iexact Hg1
    iintro %v Hg1
    isplitl [Ha0]; · iexact Ha0
    isplitl [Ha1]; · iexact Ha1
    isplitl [Ha2]; · iexact Ha2
    isplitl [Ha3]; · iexact Ha3
    isplitl [Hb0]; · iexact Hb0
    isplitl [Hb1]; · iexact Hb1
    isplitl [Hg0]; · iexact Hg0
    isplitl [Hg1]; · iexact Hg1
    isplitl [Hh0]; · iexact Hh0
    isplitl [Hh1]; · iexact Hh1
    isplitl [Hh2]; · iexact Hh2
    isplitl [Hh3]; · iexact Hh3
    isplitl [HxA]; · iexact HxA
    iexact HxB
  · change (iprop(CH (evs I) .a0 c v0 ∗ CH (evs I) .a1 c v1 ∗ CH (evs I) .a2 c v2 ∗ CH (evs I) .a3 c v3 ∗ CH (evs I) .b0 c v4 ∗ CH (evs I) .b1 c v5 ∗ CH (evs I) .g0 c v6 ∗ CH (evs I) .g1 c v7 ∗ CH (evs I) .h0 c v8 ∗ CH (evs I) .h1 c v9 ∗ CH (evs I) .h2 c v10 ∗ CH (evs I) .h3 c v11 ∗ XH (evs I) .xA c v12 ∗ XH (evs I) .xB c v13) : sProp 𝕄) ⊢ iprop(CH (evs I) .h0 c v8 ∗ (∀ v, CH (evs I) .h0 c v -∗ (CH (evs I) .a0 c v0 ∗ CH (evs I) .a1 c v1 ∗ CH (evs I) .a2 c v2 ∗ CH (evs I) .a3 c v3 ∗ CH (evs I) .b0 c v4 ∗ CH (evs I) .b1 c v5 ∗ CH (evs I) .g0 c v6 ∗ CH (evs I) .g1 c v7 ∗ CH (evs I) .h0 c v ∗ CH (evs I) .h1 c v9 ∗ CH (evs I) .h2 c v10 ∗ CH (evs I) .h3 c v11 ∗ XH (evs I) .xA c v12 ∗ XH (evs I) .xB c v13)))
    iintro ⟨Ha0, Ha1, Ha2, Ha3, Hb0, Hb1, Hg0, Hg1, Hh0, Hh1, Hh2, Hh3, HxA, HxB⟩
    isplitl [Hh0]; · iexact Hh0
    iintro %v Hh0
    isplitl [Ha0]; · iexact Ha0
    isplitl [Ha1]; · iexact Ha1
    isplitl [Ha2]; · iexact Ha2
    isplitl [Ha3]; · iexact Ha3
    isplitl [Hb0]; · iexact Hb0
    isplitl [Hb1]; · iexact Hb1
    isplitl [Hg0]; · iexact Hg0
    isplitl [Hg1]; · iexact Hg1
    isplitl [Hh0]; · iexact Hh0
    isplitl [Hh1]; · iexact Hh1
    isplitl [Hh2]; · iexact Hh2
    isplitl [Hh3]; · iexact Hh3
    isplitl [HxA]; · iexact HxA
    iexact HxB
  · change (iprop(CH (evs I) .a0 c v0 ∗ CH (evs I) .a1 c v1 ∗ CH (evs I) .a2 c v2 ∗ CH (evs I) .a3 c v3 ∗ CH (evs I) .b0 c v4 ∗ CH (evs I) .b1 c v5 ∗ CH (evs I) .g0 c v6 ∗ CH (evs I) .g1 c v7 ∗ CH (evs I) .h0 c v8 ∗ CH (evs I) .h1 c v9 ∗ CH (evs I) .h2 c v10 ∗ CH (evs I) .h3 c v11 ∗ XH (evs I) .xA c v12 ∗ XH (evs I) .xB c v13) : sProp 𝕄) ⊢ iprop(CH (evs I) .h1 c v9 ∗ (∀ v, CH (evs I) .h1 c v -∗ (CH (evs I) .a0 c v0 ∗ CH (evs I) .a1 c v1 ∗ CH (evs I) .a2 c v2 ∗ CH (evs I) .a3 c v3 ∗ CH (evs I) .b0 c v4 ∗ CH (evs I) .b1 c v5 ∗ CH (evs I) .g0 c v6 ∗ CH (evs I) .g1 c v7 ∗ CH (evs I) .h0 c v8 ∗ CH (evs I) .h1 c v ∗ CH (evs I) .h2 c v10 ∗ CH (evs I) .h3 c v11 ∗ XH (evs I) .xA c v12 ∗ XH (evs I) .xB c v13)))
    iintro ⟨Ha0, Ha1, Ha2, Ha3, Hb0, Hb1, Hg0, Hg1, Hh0, Hh1, Hh2, Hh3, HxA, HxB⟩
    isplitl [Hh1]; · iexact Hh1
    iintro %v Hh1
    isplitl [Ha0]; · iexact Ha0
    isplitl [Ha1]; · iexact Ha1
    isplitl [Ha2]; · iexact Ha2
    isplitl [Ha3]; · iexact Ha3
    isplitl [Hb0]; · iexact Hb0
    isplitl [Hb1]; · iexact Hb1
    isplitl [Hg0]; · iexact Hg0
    isplitl [Hg1]; · iexact Hg1
    isplitl [Hh0]; · iexact Hh0
    isplitl [Hh1]; · iexact Hh1
    isplitl [Hh2]; · iexact Hh2
    isplitl [Hh3]; · iexact Hh3
    isplitl [HxA]; · iexact HxA
    iexact HxB
  · change (iprop(CH (evs I) .a0 c v0 ∗ CH (evs I) .a1 c v1 ∗ CH (evs I) .a2 c v2 ∗ CH (evs I) .a3 c v3 ∗ CH (evs I) .b0 c v4 ∗ CH (evs I) .b1 c v5 ∗ CH (evs I) .g0 c v6 ∗ CH (evs I) .g1 c v7 ∗ CH (evs I) .h0 c v8 ∗ CH (evs I) .h1 c v9 ∗ CH (evs I) .h2 c v10 ∗ CH (evs I) .h3 c v11 ∗ XH (evs I) .xA c v12 ∗ XH (evs I) .xB c v13) : sProp 𝕄) ⊢ iprop(CH (evs I) .h2 c v10 ∗ (∀ v, CH (evs I) .h2 c v -∗ (CH (evs I) .a0 c v0 ∗ CH (evs I) .a1 c v1 ∗ CH (evs I) .a2 c v2 ∗ CH (evs I) .a3 c v3 ∗ CH (evs I) .b0 c v4 ∗ CH (evs I) .b1 c v5 ∗ CH (evs I) .g0 c v6 ∗ CH (evs I) .g1 c v7 ∗ CH (evs I) .h0 c v8 ∗ CH (evs I) .h1 c v9 ∗ CH (evs I) .h2 c v ∗ CH (evs I) .h3 c v11 ∗ XH (evs I) .xA c v12 ∗ XH (evs I) .xB c v13)))
    iintro ⟨Ha0, Ha1, Ha2, Ha3, Hb0, Hb1, Hg0, Hg1, Hh0, Hh1, Hh2, Hh3, HxA, HxB⟩
    isplitl [Hh2]; · iexact Hh2
    iintro %v Hh2
    isplitl [Ha0]; · iexact Ha0
    isplitl [Ha1]; · iexact Ha1
    isplitl [Ha2]; · iexact Ha2
    isplitl [Ha3]; · iexact Ha3
    isplitl [Hb0]; · iexact Hb0
    isplitl [Hb1]; · iexact Hb1
    isplitl [Hg0]; · iexact Hg0
    isplitl [Hg1]; · iexact Hg1
    isplitl [Hh0]; · iexact Hh0
    isplitl [Hh1]; · iexact Hh1
    isplitl [Hh2]; · iexact Hh2
    isplitl [Hh3]; · iexact Hh3
    isplitl [HxA]; · iexact HxA
    iexact HxB
  · change (iprop(CH (evs I) .a0 c v0 ∗ CH (evs I) .a1 c v1 ∗ CH (evs I) .a2 c v2 ∗ CH (evs I) .a3 c v3 ∗ CH (evs I) .b0 c v4 ∗ CH (evs I) .b1 c v5 ∗ CH (evs I) .g0 c v6 ∗ CH (evs I) .g1 c v7 ∗ CH (evs I) .h0 c v8 ∗ CH (evs I) .h1 c v9 ∗ CH (evs I) .h2 c v10 ∗ CH (evs I) .h3 c v11 ∗ XH (evs I) .xA c v12 ∗ XH (evs I) .xB c v13) : sProp 𝕄) ⊢ iprop(CH (evs I) .h3 c v11 ∗ (∀ v, CH (evs I) .h3 c v -∗ (CH (evs I) .a0 c v0 ∗ CH (evs I) .a1 c v1 ∗ CH (evs I) .a2 c v2 ∗ CH (evs I) .a3 c v3 ∗ CH (evs I) .b0 c v4 ∗ CH (evs I) .b1 c v5 ∗ CH (evs I) .g0 c v6 ∗ CH (evs I) .g1 c v7 ∗ CH (evs I) .h0 c v8 ∗ CH (evs I) .h1 c v9 ∗ CH (evs I) .h2 c v10 ∗ CH (evs I) .h3 c v ∗ XH (evs I) .xA c v12 ∗ XH (evs I) .xB c v13)))
    iintro ⟨Ha0, Ha1, Ha2, Ha3, Hb0, Hb1, Hg0, Hg1, Hh0, Hh1, Hh2, Hh3, HxA, HxB⟩
    isplitl [Hh3]; · iexact Hh3
    iintro %v Hh3
    isplitl [Ha0]; · iexact Ha0
    isplitl [Ha1]; · iexact Ha1
    isplitl [Ha2]; · iexact Ha2
    isplitl [Ha3]; · iexact Ha3
    isplitl [Hb0]; · iexact Hb0
    isplitl [Hb1]; · iexact Hb1
    isplitl [Hg0]; · iexact Hg0
    isplitl [Hg1]; · iexact Hg1
    isplitl [Hh0]; · iexact Hh0
    isplitl [Hh1]; · iexact Hh1
    isplitl [Hh2]; · iexact Hh2
    isplitl [Hh3]; · iexact Hh3
    isplitl [HxA]; · iexact HxA
    iexact HxB
  · change (iprop(CH (evs I) .a0 c v0 ∗ CH (evs I) .a1 c v1 ∗ CH (evs I) .a2 c v2 ∗ CH (evs I) .a3 c v3 ∗ CH (evs I) .b0 c v4 ∗ CH (evs I) .b1 c v5 ∗ CH (evs I) .g0 c v6 ∗ CH (evs I) .g1 c v7 ∗ CH (evs I) .h0 c v8 ∗ CH (evs I) .h1 c v9 ∗ CH (evs I) .h2 c v10 ∗ CH (evs I) .h3 c v11 ∗ XH (evs I) .xA c v12 ∗ XH (evs I) .xB c v13) : sProp 𝕄) ⊢ iprop(XH (evs I) .xA c v12 ∗ (∀ v, XH (evs I) .xA c v -∗ (CH (evs I) .a0 c v0 ∗ CH (evs I) .a1 c v1 ∗ CH (evs I) .a2 c v2 ∗ CH (evs I) .a3 c v3 ∗ CH (evs I) .b0 c v4 ∗ CH (evs I) .b1 c v5 ∗ CH (evs I) .g0 c v6 ∗ CH (evs I) .g1 c v7 ∗ CH (evs I) .h0 c v8 ∗ CH (evs I) .h1 c v9 ∗ CH (evs I) .h2 c v10 ∗ CH (evs I) .h3 c v11 ∗ XH (evs I) .xA c v ∗ XH (evs I) .xB c v13)))
    iintro ⟨Ha0, Ha1, Ha2, Ha3, Hb0, Hb1, Hg0, Hg1, Hh0, Hh1, Hh2, Hh3, HxA, HxB⟩
    isplitl [HxA]; · iexact HxA
    iintro %v HxA
    isplitl [Ha0]; · iexact Ha0
    isplitl [Ha1]; · iexact Ha1
    isplitl [Ha2]; · iexact Ha2
    isplitl [Ha3]; · iexact Ha3
    isplitl [Hb0]; · iexact Hb0
    isplitl [Hb1]; · iexact Hb1
    isplitl [Hg0]; · iexact Hg0
    isplitl [Hg1]; · iexact Hg1
    isplitl [Hh0]; · iexact Hh0
    isplitl [Hh1]; · iexact Hh1
    isplitl [Hh2]; · iexact Hh2
    isplitl [Hh3]; · iexact Hh3
    isplitl [HxA]; · iexact HxA
    iexact HxB
  · change (iprop(CH (evs I) .a0 c v0 ∗ CH (evs I) .a1 c v1 ∗ CH (evs I) .a2 c v2 ∗ CH (evs I) .a3 c v3 ∗ CH (evs I) .b0 c v4 ∗ CH (evs I) .b1 c v5 ∗ CH (evs I) .g0 c v6 ∗ CH (evs I) .g1 c v7 ∗ CH (evs I) .h0 c v8 ∗ CH (evs I) .h1 c v9 ∗ CH (evs I) .h2 c v10 ∗ CH (evs I) .h3 c v11 ∗ XH (evs I) .xA c v12 ∗ XH (evs I) .xB c v13) : sProp 𝕄) ⊢ iprop(XH (evs I) .xB c v13 ∗ (∀ v, XH (evs I) .xB c v -∗ (CH (evs I) .a0 c v0 ∗ CH (evs I) .a1 c v1 ∗ CH (evs I) .a2 c v2 ∗ CH (evs I) .a3 c v3 ∗ CH (evs I) .b0 c v4 ∗ CH (evs I) .b1 c v5 ∗ CH (evs I) .g0 c v6 ∗ CH (evs I) .g1 c v7 ∗ CH (evs I) .h0 c v8 ∗ CH (evs I) .h1 c v9 ∗ CH (evs I) .h2 c v10 ∗ CH (evs I) .h3 c v11 ∗ XH (evs I) .xA c v12 ∗ XH (evs I) .xB c v)))
    iintro ⟨Ha0, Ha1, Ha2, Ha3, Hb0, Hb1, Hg0, Hg1, Hh0, Hh1, Hh2, Hh3, HxA, HxB⟩
    isplitl [HxB]; · iexact HxB
    iintro %v HxB
    isplitl [Ha0]; · iexact Ha0
    isplitl [Ha1]; · iexact Ha1
    isplitl [Ha2]; · iexact Ha2
    isplitl [Ha3]; · iexact Ha3
    isplitl [Hb0]; · iexact Hb0
    isplitl [Hb1]; · iexact Hb1
    isplitl [Hg0]; · iexact Hg0
    isplitl [Hg1]; · iexact Hg1
    isplitl [Hh0]; · iexact Hh0
    isplitl [Hh1]; · iexact Hh1
    isplitl [Hh2]; · iexact Hh2
    isplitl [Hh3]; · iexact Hh3
    isplitl [HxA]; · iexact HxA
    iexact HxB

theorem fo_k (k : Ch) (h : l.length = 14) : ST I A c n o s q l ⊢ iprop((Pers (evs I) ∗ OwN c n ∗ CX I c k (l.getD (ci k) 0))
    ∗ (∀ n' v, OwN c n' ∗ CX I c k v -∗ ST I A c n' o s q (l.set (ci k) v))) := by
  refine (fo_ch I A c).trans ?_
  iintro ⟨⟨HP, HO, HB, HC⟩, Hf⟩
  ihave HC := (foc I c k h) $$ HC
  icases HC with ⟨HC, Hc⟩
  isplitl [HP HO HC]
  · isplitl [HP]; · iexact HP
    isplitl [HO]; · iexact HO
    iexact HC
  iintro %n' %v ⟨HO, HC⟩
  ihave HC := Hc $$ %v HC
  iapply Hf
  isplitl [HO]; · iexact HO
  isplitl [HB]; · iexact HB
  iexact HC
theorem fo_c (k : Ch) (h : l.length = 14) : ST I A c n o s q l ⊢ iprop(CX I c k (l.getD (ci k) 0) ∗ (∀ v, CX I c k v -∗ ST I A c n o s q (l.set (ci k) v))) := by
  refine (fo_k I A c k h).trans ?_
  iintro ⟨⟨-, HO, HC⟩, Hf⟩
  isplitl [HC]; · iexact HC
  iintro %v HC
  iapply Hf
  isplitl [HO]; · iexact HO
  iexact HC

theorem set_self (l : List ℕ) (i v : ℕ) (h : l.getD i 0 = v) (hl : i < l.length) : l.set i v = l := by
  apply List.ext_getElem?
  intro j
  rw [List.getElem?_set]
  split
  · rename_i e; subst e
    rw [← h, List.getD_eq_getElem?_getD, List.getElem?_eq_getElem hl]; rfl
  · rfl
theorem ci_lt (k : Ch) (h : l.length = 14) : ci k < l.length := by rw [h]; cases k <;> decide

/-- Copy number 0 is started. -/
theorem st_send0 (k : Ch) (hr : ring k = true) (hk : keys[n]? = some (.snd k 0)) {c' : Dev nD} (hc : c' = nxt k c)
    {hsc : (cmq k false : Memref sig (Dev.tc c' : Thread nD τ).2.kind .vmem (shq k) .f32).view.ref.isScScratch = false}
    {hsrc : (stq k false).view.WordExact} {hdst : (cmq k false).view.WordExact}
    {hsem : DmaTarget.Typed .vmem (.dma (rcvS k false)) (.remote (Dev.tc c' : Thread nD τ) (cmq k false : Memref sig .tc .vmem (shq k) .f32) (.dma (sndS k false)) hsc)}
    (hl : l.length = 14) (hv : l.getD (ci k) 0 = 1)
    {α : Type} {Q : α → sProp 𝕄} {kk : PUnit → Prog (TpuEff nD τ sig (Elt F) Λ₀ .tc) α}
    (hk' : ST I A c (n + 1) o s q (l.set (ci k) 2) ⊢ WP c (kk ⟨⟩) Q) :
    ST I A c n o s q l ⊢ WP c (Prog.lift (.enqueueDma (stq k false) (.remote (Dev.tc c' : Thread nD τ) (cmq k false) (.dma (sndS k false)) hsc) (.dma (rcvS k false)) hsrc hdst hsem) >>= kk) Q := by
  refine (fo_k I A c k hl).trans ?_
  rw [hv, CX_ring I c hr]
  iintro ⟨H, Hf⟩
  iapply (ch_send0 (evs I) c k hr n hk c' hc (kk := kk)) $$ H
  iintro H
  iapply hk'
  rw [← CX_ring I c hr]
  iapply Hf $$ %_ %_ H

/-- Copy number 1 is started. -/
theorem st_send1 (k : Ch) (hr : ring k = true) (hk : keys[n]? = some (.snd k 1)) {c' : Dev nD} (hc : c' = nxt k c)
    {hsc : (cmq k true : Memref sig (Dev.tc c' : Thread nD τ).2.kind .vmem (shq k) .f32).view.ref.isScScratch = false}
    {hsrc : (stq k true).view.WordExact} {hdst : (cmq k true).view.WordExact}
    {hsem : DmaTarget.Typed .vmem (.dma (rcvS k true)) (.remote (Dev.tc c' : Thread nD τ) (cmq k true : Memref sig .tc .vmem (shq k) .f32) (.dma (sndS k true)) hsc)}
    (hl : l.length = 14) (hv : l.getD (ci k) 0 = 5)
    {α : Type} {Q : α → sProp 𝕄} {kk : PUnit → Prog (TpuEff nD τ sig (Elt F) Λ₀ .tc) α}
    (hk' : ST I A c (n + 1) o s q (l.set (ci k) 6) ⊢ WP c (kk ⟨⟩) Q) :
    ST I A c n o s q l ⊢ WP c (Prog.lift (.enqueueDma (stq k true) (.remote (Dev.tc c' : Thread nD τ) (cmq k true) (.dma (sndS k true)) hsc) (.dma (rcvS k true)) hsrc hdst hsem) >>= kk) Q := by
  refine (fo_k I A c k hl).trans ?_
  rw [hv, CX_ring I c hr]
  iintro ⟨H, Hf⟩
  iapply (ch_send1 (evs I) c k hr n hk c' hc (kk := kk)) $$ H
  iintro H
  iapply hk'
  rw [← CX_ring I c hr]
  iapply Hf $$ %_ %_ H

/-- Copy number 2 is started. -/
theorem st_send2 (k : Ch) (hr : ring k = true) (hk : keys[n]? = some (.snd k 2)) {c' : Dev nD} (hc : c' = nxt k c)
    {hsc : (cmq k false : Memref sig (Dev.tc c' : Thread nD τ).2.kind .vmem (shq k) .f32).view.ref.isScScratch = false}
    {hsrc : (stq k false).view.WordExact} {hdst : (cmq k false).view.WordExact}
    {hsem : DmaTarget.Typed .vmem (.dma (rcvS k false)) (.remote (Dev.tc c' : Thread nD τ) (cmq k false : Memref sig .tc .vmem (shq k) .f32) (.dma (sndS k false)) hsc)}
    (hl : l.length = 14) (hv : l.getD (ci k) 0 = 11)
    {α : Type} {Q : α → sProp 𝕄} {kk : PUnit → Prog (TpuEff nD τ sig (Elt F) Λ₀ .tc) α}
    (hk' : ST I A c (n + 1) o s q (l.set (ci k) 12) ⊢ WP c (kk ⟨⟩) Q) :
    ST I A c n o s q l ⊢ WP c (Prog.lift (.enqueueDma (stq k false) (.remote (Dev.tc c' : Thread nD τ) (cmq k false) (.dma (sndS k false)) hsc) (.dma (rcvS k false)) hsrc hdst hsem) >>= kk) Q := by
  refine (fo_k I A c k hl).trans ?_
  rw [hv, CX_ring I c hr]
  iintro ⟨H, Hf⟩
  iapply (ch_send2 (evs I) c k hr n hk c' hc (kk := kk)) $$ H
  iintro H
  iapply hk'
  rw [← CX_ring I c hr]
  iapply Hf $$ %_ %_ H

/-- The copy of the exchange is started. -/
theorem sx_send (k : Ch) (hr : ring k = false) (hk : keys[n]? = some (.snd k 0)) {c' : Dev nD} (hc : c' = nxt k c)
    {hsc : (cmq k false : Memref sig (Dev.tc c' : Thread nD τ).2.kind .vmem (shq k) .f32).view.ref.isScScratch = false}
    {hsrc : (stq k false).view.WordExact} {hdst : (cmq k false).view.WordExact}
    {hsem : DmaTarget.Typed .vmem (.dma (rcvS k false)) (.remote (Dev.tc c' : Thread nD τ) (cmq k false : Memref sig .tc .vmem (shq k) .f32) (.dma (sndS k false)) hsc)}
    (hl : l.length = 14) (hv : l.getD (ci k) 0 = 1)
    {α : Type} {Q : α → sProp 𝕄} {kk : PUnit → Prog (TpuEff nD τ sig (Elt F) Λ₀ .tc) α}
    (hk' : ST I A c (n + 1) o s q (l.set (ci k) 2) ⊢ WP c (kk ⟨⟩) Q) :
    ST I A c n o s q l ⊢ WP c (Prog.lift (.enqueueDma (stq k false) (.remote (Dev.tc c' : Thread nD τ) (cmq k false) (.dma (sndS k false)) hsc) (.dma (rcvS k false)) hsrc hdst hsem) >>= kk) Q := by
  refine (fo_k I A c k hl).trans ?_
  rw [hv, CX_x I c hr]
  iintro ⟨H, Hf⟩
  iapply (xh_send (evs I) c k hr n hk c' hc (kk := kk)) $$ H
  iintro H
  iapply hk'
  rw [← CX_x I c hr]
  iapply Hf $$ %_ %_ H

/-- The sending slot of copy number 0 is free. -/
theorem st_waitS0 (k : Ch) (hr : ring k = true) {sp sp' : Space} {s₁ s₂ : Shape} {e₁ e₂ : EltTy} {src : Memref sig .tc sp' s₁ e₁} {dst : Memref sig .tc sp s₂ e₂}
    (ha : dst.view.dmaCredit = amt k) {h1 : src.view.WordExact} {h2 : dst.view.WordExact}
    (hl : l.length = 14) (hv : l.getD (ci k) 0 = 2)
    {α : Type} {Q : α → sProp 𝕄} {kk : PUnit → Prog (TpuEff nD τ sig (Elt F) Λ₀ .tc) α}
    (hk' : ST I A c n o s q (l.set (ci k) 3) ⊢ WP c (kk ⟨⟩) Q) :
    ST I A c n o s q l ⊢ WP c (Prog.lift (.waitDma2 (sndS k false) src dst h1 h2) >>= kk) Q := by
  refine (fo_k I A c k hl).trans ?_
  rw [hv, CX_ring I c hr]
  iintro ⟨H, Hf⟩
  iapply (ch_waitS0 (evs I) c k hr n ha (kk := kk)) $$ H
  iintro H
  iapply hk'
  rw [← CX_ring I c hr]
  iapply Hf $$ %_ %_ H

/-- The sending slot of copy number 1 is free. -/
theorem st_waitS1 (k : Ch) (hr : ring k = true) {sp sp' : Space} {s₁ s₂ : Shape} {e₁ e₂ : EltTy} {src : Memref sig .tc sp' s₁ e₁} {dst : Memref sig .tc sp s₂ e₂}
    (ha : dst.view.dmaCredit = amt k) {h1 : src.view.WordExact} {h2 : dst.view.WordExact}
    (hl : l.length = 14) (hv : l.getD (ci k) 0 = 7)
    {α : Type} {Q : α → sProp 𝕄} {kk : PUnit → Prog (TpuEff nD τ sig (Elt F) Λ₀ .tc) α}
    (hk' : ST I A c n o s q (l.set (ci k) 8) ⊢ WP c (kk ⟨⟩) Q) :
    ST I A c n o s q l ⊢ WP c (Prog.lift (.waitDma2 (sndS k true) src dst h1 h2) >>= kk) Q := by
  refine (fo_k I A c k hl).trans ?_
  rw [hv, CX_ring I c hr]
  iintro ⟨H, Hf⟩
  iapply (ch_waitS1 (evs I) c k hr n ha (kk := kk)) $$ H
  iintro H
  iapply hk'
  rw [← CX_ring I c hr]
  iapply Hf $$ %_ %_ H

/-- The sending slot of copy number 2 is free. -/
theorem st_waitS2 (k : Ch) (hr : ring k = true) {sp sp' : Space} {s₁ s₂ : Shape} {e₁ e₂ : EltTy} {src : Memref sig .tc sp' s₁ e₁} {dst : Memref sig .tc sp s₂ e₂}
    (ha : dst.view.dmaCredit = amt k) {h1 : src.view.WordExact} {h2 : dst.view.WordExact}
    (hl : l.length = 14) (hv : l.getD (ci k) 0 = 12)
    {α : Type} {Q : α → sProp 𝕄} {kk : PUnit → Prog (TpuEff nD τ sig (Elt F) Λ₀ .tc) α}
    (hk' : ST I A c n o s q (l.set (ci k) 13) ⊢ WP c (kk ⟨⟩) Q) :
    ST I A c n o s q l ⊢ WP c (Prog.lift (.waitDma2 (sndS k false) src dst h1 h2) >>= kk) Q := by
  refine (fo_k I A c k hl).trans ?_
  rw [hv, CX_ring I c hr]
  iintro ⟨H, Hf⟩
  iapply (ch_waitS2 (evs I) c k hr n ha (kk := kk)) $$ H
  iintro H
  iapply hk'
  rw [← CX_ring I c hr]
  iapply Hf $$ %_ %_ H

/-- The sending slot of the exchange is free. -/
theorem sx_waitS (k : Ch) (hr : ring k = false) {sp sp' : Space} {s₁ s₂ : Shape} {e₁ e₂ : EltTy} {src : Memref sig .tc sp' s₁ e₁} {dst : Memref sig .tc sp s₂ e₂}
    (ha : dst.view.dmaCredit = amt k) {h1 : src.view.WordExact} {h2 : dst.view.WordExact}
    (hl : l.length = 14) (hv : l.getD (ci k) 0 = 2)
    {α : Type} {Q : α → sProp 𝕄} {kk : PUnit → Prog (TpuEff nD τ sig (Elt F) Λ₀ .tc) α}
    (hk' : ST I A c n o s q (l.set (ci k) 3) ⊢ WP c (kk ⟨⟩) Q) :
    ST I A c n o s q l ⊢ WP c (Prog.lift (.waitDma2 (sndS k false) src dst h1 h2) >>= kk) Q := by
  refine (fo_k I A c k hl).trans ?_
  rw [hv, CX_x I c hr]
  iintro ⟨H, Hf⟩
  iapply (xh_waitS (evs I) c k hr n ha (kk := kk)) $$ H
  iintro H
  iapply hk'
  rw [← CX_x I c hr]
  iapply Hf $$ %_ %_ H

/-- Copy number 0 has landed. -/
theorem st_waitR0 (k : Ch) (hr : ring k = true) (hi : ∀ x ∈ keys.drop n, ixS k 0 < ix x) (hN : ixS k 0 < NL) {sp sp' : Space} {s₁ s₂ : Shape} {e₁ e₂ : EltTy} {src : Memref sig .tc sp' s₁ e₁} {dst : Memref sig .tc sp s₂ e₂}
    (ha : dst.view.dmaCredit = amt k) {h1 : src.view.WordExact} {h2 : dst.view.WordExact}
    (hl : l.length = 14) (hv : l.getD (ci k) 0 = 3)
    {α : Type} {Q : α → sProp 𝕄} {kk : PUnit → Prog (TpuEff nD τ sig (Elt F) Λ₀ .tc) α}
    (hk' : ST I A c n o s q (l.set (ci k) 4) ⊢ WP c (kk ⟨⟩) Q) :
    ST I A c n o s q l ⊢ WP c (Prog.lift (.waitDma2 (rcvS k false) src dst h1 h2) >>= kk) Q := by
  refine (fo_k I A c k hl).trans ?_
  rw [hv, CX_ring I c hr]
  iintro ⟨H, Hf⟩
  iapply (ch_waitR0 (evs I) c k hr n hi hN ha (kk := kk)) $$ H
  iintro H
  iapply hk'
  rw [← CX_ring I c hr]
  iapply Hf $$ %_ %_ H

/-- Copy number 1 has landed. -/
theorem st_waitR1 (k : Ch) (hr : ring k = true) (hi : ∀ x ∈ keys.drop n, ixS k 1 < ix x) (hN : ixS k 1 < NL) {sp sp' : Space} {s₁ s₂ : Shape} {e₁ e₂ : EltTy} {src : Memref sig .tc sp' s₁ e₁} {dst : Memref sig .tc sp s₂ e₂}
    (ha : dst.view.dmaCredit = amt k) {h1 : src.view.WordExact} {h2 : dst.view.WordExact}
    (hl : l.length = 14) (hv : l.getD (ci k) 0 = 8)
    {α : Type} {Q : α → sProp 𝕄} {kk : PUnit → Prog (TpuEff nD τ sig (Elt F) Λ₀ .tc) α}
    (hk' : ST I A c n o s q (l.set (ci k) 9) ⊢ WP c (kk ⟨⟩) Q) :
    ST I A c n o s q l ⊢ WP c (Prog.lift (.waitDma2 (rcvS k true) src dst h1 h2) >>= kk) Q := by
  refine (fo_k I A c k hl).trans ?_
  rw [hv, CX_ring I c hr]
  iintro ⟨H, Hf⟩
  iapply (ch_waitR1 (evs I) c k hr n hi hN ha (kk := kk)) $$ H
  iintro H
  iapply hk'
  rw [← CX_ring I c hr]
  iapply Hf $$ %_ %_ H

/-- Copy number 2 has landed. -/
theorem st_waitR2 (k : Ch) (hr : ring k = true) (hi : ∀ x ∈ keys.drop n, ixS k 2 < ix x) (hN : ixS k 2 < NL) {sp sp' : Space} {s₁ s₂ : Shape} {e₁ e₂ : EltTy} {src : Memref sig .tc sp' s₁ e₁} {dst : Memref sig .tc sp s₂ e₂}
    (ha : dst.view.dmaCredit = amt k) {h1 : src.view.WordExact} {h2 : dst.view.WordExact}
    (hl : l.length = 14) (hv : l.getD (ci k) 0 = 13)
    {α : Type} {Q : α → sProp 𝕄} {kk : PUnit → Prog (TpuEff nD τ sig (Elt F) Λ₀ .tc) α}
    (hk' : ST I A c n o s q (l.set (ci k) 14) ⊢ WP c (kk ⟨⟩) Q) :
    ST I A c n o s q l ⊢ WP c (Prog.lift (.waitDma2 (rcvS k false) src dst h1 h2) >>= kk) Q := by
  refine (fo_k I A c k hl).trans ?_
  rw [hv, CX_ring I c hr]
  iintro ⟨H, Hf⟩
  iapply (ch_waitR2 (evs I) c k hr n hi hN ha (kk := kk)) $$ H
  iintro H
  iapply hk'
  rw [← CX_ring I c hr]
  iapply Hf $$ %_ %_ H

/-- The copy of the exchange has landed. -/
theorem sx_waitR (k : Ch) (hr : ring k = false) (hi : ∀ x ∈ keys.drop n, ixS k 0 < ix x) (hN : ixS k 0 < NL) {sp sp' : Space} {s₁ s₂ : Shape} {e₁ e₂ : EltTy} {src : Memref sig .tc sp' s₁ e₁} {dst : Memref sig .tc sp s₂ e₂}
    (ha : dst.view.dmaCredit = amt k) {h1 : src.view.WordExact} {h2 : dst.view.WordExact}
    (hl : l.length = 14) (hv : l.getD (ci k) 0 = 3)
    {α : Type} {Q : α → sProp 𝕄} {kk : PUnit → Prog (TpuEff nD τ sig (Elt F) Λ₀ .tc) α}
    (hk' : ST I A c n o s q (l.set (ci k) 4) ⊢ WP c (kk ⟨⟩) Q) :
    ST I A c n o s q l ⊢ WP c (Prog.lift (.waitDma2 (rcvS k false) src dst h1 h2) >>= kk) Q := by
  refine (fo_k I A c k hl).trans ?_
  rw [hv, CX_x I c hr]
  iintro ⟨H, Hf⟩
  iapply (xh_waitR (evs I) c k hr n hi hN ha (kk := kk)) $$ H
  iintro H
  iapply hk'
  rw [← CX_x I c hr]
  iapply Hf $$ %_ %_ H

/-- The first landing slot is given back. -/
theorem st_sigC (k : Ch) (hr : ring k = true) {i : Sem sig} (hi : crdS k = .reg i) (hk : keys[n]? = some (.crd k)) {c' : Dev nD} (hc : c' = prv k c)
    (hl : l.length = 14) (hv : l.getD (ci k) 0 = 6)
    {α : Type} {Q : α → sProp 𝕄} {kk : PUnit → Prog (TpuEff nD τ sig (Elt F) Λ₀ .tc) α}
    (hk' : ST I A c (n + 1) o s q (l.set (ci k) 7) ⊢ WP c (kk ⟨⟩) Q) :
    ST I A c n o s q l ⊢ WP c (semSignalWord c' i 1#32 >>= kk) Q := by
  refine (fo_k I A c k hl).trans ?_
  rw [hv, CX_ring I c hr]
  iintro ⟨H, Hf⟩
  iapply (ch_sigC (evs I) c k hr i hi n hk c' hc (kk := kk)) $$ H
  iintro H
  iapply hk'
  rw [← CX_ring I c hr]
  iapply Hf $$ %_ %_ H

/-- The first landing slot of the next device is free again. -/
theorem st_waitC (k : Ch) (hr : ring k = true) {i : Sem sig} (hi : crdS k = .reg i) (hx : ∀ x ∈ keys.drop n, ixC k < ix x) (hN : ixC k < NL)
    (hl : l.length = 14) (hv : l.getD (ci k) 0 = 10)
    {α : Type} {Q : α → sProp 𝕄} {kk : PUnit → Prog (TpuEff nD τ sig (Elt F) Λ₀ .tc) α}
    (hk' : ST I A c n o s q (l.set (ci k) 11) ⊢ WP c (kk ⟨⟩) Q) :
    ST I A c n o s q l ⊢ WP c (semWaitWord i 1#32 >>= kk) Q := by
  refine (fo_k I A c k hl).trans ?_
  rw [hv, CX_ring I c hr]
  iintro ⟨H, Hf⟩
  iapply (ch_waitC (evs I) c k hr i hi n hx hN (kk := kk)) $$ H
  iintro H
  iapply hk'
  rw [← CX_ring I c hr]
  iapply Hf $$ %_ %_ H

theorem fch_st0 (k : Ch) (hr : ring k = true) (hl : l.length = 14) (hv : l.getD (ci k) 0 = 0) :
    ST I A c n o s q l ⊢ iprop(ownA (F := F) c (st k false) ∗ (own c (st k false) (evs I k c 0) -∗ ST I A c n o s q (l.set (ci k) 1))) := by
  refine (fo_c I A c k hl).trans ?_
  rw [hv, CX_ring I c hr]
  iintro ⟨H, Hf⟩
  ihave H := (ch_st0 (evs I) c k) $$ H
  icases H with ⟨H, Hg⟩
  isplitl [H]; · iexact H
  iintro H
  ihave H := Hg $$ H
  ihave H := (show CH (evs I) k c 1 ⊢ CX I c k 1 from by rw [CX_ring I c hr]) $$ H
  ihave H := Hf $$ %1 H
  iexact H

theorem fch_st1 (k : Ch) (hr : ring k = true) (hl : l.length = 14) (hv : l.getD (ci k) 0 = 4) :
    ST I A c n o s q l ⊢ iprop(ownA (F := F) c (st k true) ∗ (own c (st k true) (evs I k c 1) -∗ ST I A c n o s q (l.set (ci k) 5))) := by
  refine (fo_c I A c k hl).trans ?_
  rw [hv, CX_ring I c hr]
  iintro ⟨H, Hf⟩
  ihave H := (ch_st1 (evs I) c k) $$ H
  icases H with ⟨H, Hg⟩
  isplitl [H]; · iexact H
  iintro H
  ihave H := Hg $$ H
  ihave H := (show CH (evs I) k c 5 ⊢ CX I c k 5 from by rw [CX_ring I c hr]) $$ H
  ihave H := Hf $$ %5 H
  iexact H

theorem fch_st2 (k : Ch) (hr : ring k = true) (hl : l.length = 14) (hv : l.getD (ci k) 0 = 9) :
    ST I A c n o s q l ⊢ iprop(ownA (F := F) c (st k false) ∗ (own c (st k false) (evs I k c 2) -∗ ST I A c n o s q (l.set (ci k) 10))) := by
  refine (fo_c I A c k hl).trans ?_
  rw [hv, CX_ring I c hr]
  iintro ⟨H, Hf⟩
  ihave H := (ch_st2 (evs I) c k) $$ H
  icases H with ⟨H, Hg⟩
  isplitl [H]; · iexact H
  iintro H
  ihave H := Hg $$ H
  ihave H := (show CH (evs I) k c 10 ⊢ CX I c k 10 from by rw [CX_ring I c hr]) $$ H
  ihave H := Hf $$ %10 H
  iexact H

theorem fxh_st (k : Ch) (hr : ring k = false) (hl : l.length = 14) (hv : l.getD (ci k) 0 = 0) :
    ST I A c n o s q l ⊢ iprop(ownA (F := F) c (st k false) ∗ (own c (st k false) (evs I k c 0) -∗ ST I A c n o s q (l.set (ci k) 1))) := by
  refine (fo_c I A c k hl).trans ?_
  rw [hv, CX_x I c hr]
  iintro ⟨H, Hf⟩
  ihave H := (xh_st (evs I) c k) $$ H
  icases H with ⟨H, Hg⟩
  isplitl [H]; · iexact H
  iintro H
  ihave H := Hg $$ H
  ihave H := (show XH (evs I) k c 1 ⊢ CX I c k 1 from by rw [CX_x I c hr]) $$ H
  ihave H := Hf $$ %1 H
  iexact H

theorem fch_std0 (k : Ch) (hr : ring k = true) (hl : l.length = 14) (hv : l.getD (ci k) 0 = 0) :
    ST I A c n o s q l ⊢ iprop(ownA (F := F) c (st k false) ∗ (ownA (F := F) c (st k false) -∗ ST I A c n o s q l)) := by
  suffices h : ST I A c n o s q l ⊢ iprop(ownA (F := F) c (st k false) ∗ (ownA (F := F) c (st k false) -∗ ST I A c n o s q (l.set (ci k) 0))) by
    rwa [set_self l (ci k) 0 hv (ci_lt k hl)] at h
  refine (fo_c I A c k hl).trans ?_
  rw [hv, CX_ring I c hr]
  iintro ⟨H, Hf⟩
  ihave H := (ch_std0 (evs I) c k) $$ H
  icases H with ⟨H, Hg⟩
  isplitl [H]; · iexact H
  iintro H
  ihave H := Hg $$ H
  ihave H := (show CH (evs I) k c 0 ⊢ CX I c k 0 from by rw [CX_ring I c hr]) $$ H
  ihave H := Hf $$ %0 H
  iexact H

theorem fch_std4 (k : Ch) (hr : ring k = true) (hl : l.length = 14) (hv : l.getD (ci k) 0 = 4) :
    ST I A c n o s q l ⊢ iprop(ownA (F := F) c (st k true) ∗ (ownA (F := F) c (st k true) -∗ ST I A c n o s q l)) := by
  suffices h : ST I A c n o s q l ⊢ iprop(ownA (F := F) c (st k true) ∗ (ownA (F := F) c (st k true) -∗ ST I A c n o s q (l.set (ci k) 4))) by
    rwa [set_self l (ci k) 4 hv (ci_lt k hl)] at h
  refine (fo_c I A c k hl).trans ?_
  rw [hv, CX_ring I c hr]
  iintro ⟨H, Hf⟩
  ihave H := (ch_std4 (evs I) c k) $$ H
  icases H with ⟨H, Hg⟩
  isplitl [H]; · iexact H
  iintro H
  ihave H := Hg $$ H
  ihave H := (show CH (evs I) k c 4 ⊢ CX I c k 4 from by rw [CX_ring I c hr]) $$ H
  ihave H := Hf $$ %4 H
  iexact H

theorem fch_std9 (k : Ch) (hr : ring k = true) (hl : l.length = 14) (hv : l.getD (ci k) 0 = 9) :
    ST I A c n o s q l ⊢ iprop(ownA (F := F) c (st k false) ∗ (ownA (F := F) c (st k false) -∗ ST I A c n o s q l)) := by
  suffices h : ST I A c n o s q l ⊢ iprop(ownA (F := F) c (st k false) ∗ (ownA (F := F) c (st k false) -∗ ST I A c n o s q (l.set (ci k) 9))) by
    rwa [set_self l (ci k) 9 hv (ci_lt k hl)] at h
  refine (fo_c I A c k hl).trans ?_
  rw [hv, CX_ring I c hr]
  iintro ⟨H, Hf⟩
  ihave H := (ch_std9 (evs I) c k) $$ H
  icases H with ⟨H, Hg⟩
  isplitl [H]; · iexact H
  iintro H
  ihave H := Hg $$ H
  ihave H := (show CH (evs I) k c 9 ⊢ CX I c k 9 from by rw [CX_ring I c hr]) $$ H
  ihave H := Hf $$ %9 H
  iexact H

theorem fxh_std0 (k : Ch) (hr : ring k = false) (hl : l.length = 14) (hv : l.getD (ci k) 0 = 0) :
    ST I A c n o s q l ⊢ iprop(ownA (F := F) c (st k false) ∗ (ownA (F := F) c (st k false) -∗ ST I A c n o s q l)) := by
  suffices h : ST I A c n o s q l ⊢ iprop(ownA (F := F) c (st k false) ∗ (ownA (F := F) c (st k false) -∗ ST I A c n o s q (l.set (ci k) 0))) by
    rwa [set_self l (ci k) 0 hv (ci_lt k hl)] at h
  refine (fo_c I A c k hl).trans ?_
  rw [hv, CX_x I c hr]
  iintro ⟨H, Hf⟩
  ihave H := (xh_std0 (evs I) c k) $$ H
  icases H with ⟨H, Hg⟩
  isplitl [H]; · iexact H
  iintro H
  ihave H := Hg $$ H
  ihave H := (show XH (evs I) k c 0 ⊢ CX I c k 0 from by rw [CX_x I c hr]) $$ H
  ihave H := Hf $$ %0 H
  iexact H

theorem fch_cm4 (k : Ch) (hr : ring k = true) (hl : l.length = 14) (hv : l.getD (ci k) 0 = 4) :
    ST I A c n o s q l ⊢ iprop(own c (cm k false) (evs I k (prv k c) 0) ∗ (own c (cm k false) (evs I k (prv k c) 0) -∗ ST I A c n o s q l)) := by
  suffices h : ST I A c n o s q l ⊢ iprop(own c (cm k false) (evs I k (prv k c) 0) ∗ (own c (cm k false) (evs I k (prv k c) 0) -∗ ST I A c n o s q (l.set (ci k) 4))) by
    rwa [set_self l (ci k) 4 hv (ci_lt k hl)] at h
  refine (fo_c I A c k hl).trans ?_
  rw [hv, CX_ring I c hr]
  iintro ⟨H, Hf⟩
  ihave H := (ch_cm4 (evs I) c k) $$ H
  icases H with ⟨H, Hg⟩
  isplitl [H]; · iexact H
  iintro H
  ihave H := Hg $$ H
  ihave H := (show CH (evs I) k c 4 ⊢ CX I c k 4 from by rw [CX_ring I c hr]) $$ H
  ihave H := Hf $$ %4 H
  iexact H

theorem fch_cm5 (k : Ch) (hr : ring k = true) (hl : l.length = 14) (hv : l.getD (ci k) 0 = 5) :
    ST I A c n o s q l ⊢ iprop(own c (cm k false) (evs I k (prv k c) 0) ∗ (own c (cm k false) (evs I k (prv k c) 0) -∗ ST I A c n o s q l)) := by
  suffices h : ST I A c n o s q l ⊢ iprop(own c (cm k false) (evs I k (prv k c) 0) ∗ (own c (cm k false) (evs I k (prv k c) 0) -∗ ST I A c n o s q (l.set (ci k) 5))) by
    rwa [set_self l (ci k) 5 hv (ci_lt k hl)] at h
  refine (fo_c I A c k hl).trans ?_
  rw [hv, CX_ring I c hr]
  iintro ⟨H, Hf⟩
  ihave H := (ch_cm5 (evs I) c k) $$ H
  icases H with ⟨H, Hg⟩
  isplitl [H]; · iexact H
  iintro H
  ihave H := Hg $$ H
  ihave H := (show CH (evs I) k c 5 ⊢ CX I c k 5 from by rw [CX_ring I c hr]) $$ H
  ihave H := Hf $$ %5 H
  iexact H

theorem fch_cm6 (k : Ch) (hr : ring k = true) (hl : l.length = 14) (hv : l.getD (ci k) 0 = 6) :
    ST I A c n o s q l ⊢ iprop(own c (cm k false) (evs I k (prv k c) 0) ∗ (own c (cm k false) (evs I k (prv k c) 0) -∗ ST I A c n o s q l)) := by
  suffices h : ST I A c n o s q l ⊢ iprop(own c (cm k false) (evs I k (prv k c) 0) ∗ (own c (cm k false) (evs I k (prv k c) 0) -∗ ST I A c n o s q (l.set (ci k) 6))) by
    rwa [set_self l (ci k) 6 hv (ci_lt k hl)] at h
  refine (fo_c I A c k hl).trans ?_
  rw [hv, CX_ring I c hr]
  iintro ⟨H, Hf⟩
  ihave H := (ch_cm6 (evs I) c k) $$ H
  icases H with ⟨H, Hg⟩
  isplitl [H]; · iexact H
  iintro H
  ihave H := Hg $$ H
  ihave H := (show CH (evs I) k c 6 ⊢ CX I c k 6 from by rw [CX_ring I c hr]) $$ H
  ihave H := Hf $$ %6 H
  iexact H

theorem fch_cm9 (k : Ch) (hr : ring k = true) (hl : l.length = 14) (hv : l.getD (ci k) 0 = 9) :
    ST I A c n o s q l ⊢ iprop(own c (cm k true) (evs I k (prv k c) 1) ∗ (own c (cm k true) (evs I k (prv k c) 1) -∗ ST I A c n o s q l)) := by
  suffices h : ST I A c n o s q l ⊢ iprop(own c (cm k true) (evs I k (prv k c) 1) ∗ (own c (cm k true) (evs I k (prv k c) 1) -∗ ST I A c n o s q (l.set (ci k) 9))) by
    rwa [set_self l (ci k) 9 hv (ci_lt k hl)] at h
  refine (fo_c I A c k hl).trans ?_
  rw [hv, CX_ring I c hr]
  iintro ⟨H, Hf⟩
  ihave H := (ch_cm9 (evs I) c k) $$ H
  icases H with ⟨H, Hg⟩
  isplitl [H]; · iexact H
  iintro H
  ihave H := Hg $$ H
  ihave H := (show CH (evs I) k c 9 ⊢ CX I c k 9 from by rw [CX_ring I c hr]) $$ H
  ihave H := Hf $$ %9 H
  iexact H

theorem fch_cm10 (k : Ch) (hr : ring k = true) (hl : l.length = 14) (hv : l.getD (ci k) 0 = 10) :
    ST I A c n o s q l ⊢ iprop(own c (cm k true) (evs I k (prv k c) 1) ∗ (own c (cm k true) (evs I k (prv k c) 1) -∗ ST I A c n o s q l)) := by
  suffices h : ST I A c n o s q l ⊢ iprop(own c (cm k true) (evs I k (prv k c) 1) ∗ (own c (cm k true) (evs I k (prv k c) 1) -∗ ST I A c n o s q (l.set (ci k) 10))) by
    rwa [set_self l (ci k) 10 hv (ci_lt k hl)] at h
  refine (fo_c I A c k hl).trans ?_
  rw [hv, CX_ring I c hr]
  iintro ⟨H, Hf⟩
  ihave H := (ch_cm10 (evs I) c k) $$ H
  icases H with ⟨H, Hg⟩
  isplitl [H]; · iexact H
  iintro H
  ihave H := Hg $$ H
  ihave H := (show CH (evs I) k c 10 ⊢ CX I c k 10 from by rw [CX_ring I c hr]) $$ H
  ihave H := Hf $$ %10 H
  iexact H

theorem fch_cm11 (k : Ch) (hr : ring k = true) (hl : l.length = 14) (hv : l.getD (ci k) 0 = 11) :
    ST I A c n o s q l ⊢ iprop(own c (cm k true) (evs I k (prv k c) 1) ∗ (own c (cm k true) (evs I k (prv k c) 1) -∗ ST I A c n o s q l)) := by
  suffices h : ST I A c n o s q l ⊢ iprop(own c (cm k true) (evs I k (prv k c) 1) ∗ (own c (cm k true) (evs I k (prv k c) 1) -∗ ST I A c n o s q (l.set (ci k) 11))) by
    rwa [set_self l (ci k) 11 hv (ci_lt k hl)] at h
  refine (fo_c I A c k hl).trans ?_
  rw [hv, CX_ring I c hr]
  iintro ⟨H, Hf⟩
  ihave H := (ch_cm11 (evs I) c k) $$ H
  icases H with ⟨H, Hg⟩
  isplitl [H]; · iexact H
  iintro H
  ihave H := Hg $$ H
  ihave H := (show CH (evs I) k c 11 ⊢ CX I c k 11 from by rw [CX_ring I c hr]) $$ H
  ihave H := Hf $$ %11 H
  iexact H

theorem fch_cm12 (k : Ch) (hr : ring k = true) (hl : l.length = 14) (hv : l.getD (ci k) 0 = 12) :
    ST I A c n o s q l ⊢ iprop(own c (cm k true) (evs I k (prv k c) 1) ∗ (own c (cm k true) (evs I k (prv k c) 1) -∗ ST I A c n o s q l)) := by
  suffices h : ST I A c n o s q l ⊢ iprop(own c (cm k true) (evs I k (prv k c) 1) ∗ (own c (cm k true) (evs I k (prv k c) 1) -∗ ST I A c n o s q (l.set (ci k) 12))) by
    rwa [set_self l (ci k) 12 hv (ci_lt k hl)] at h
  refine (fo_c I A c k hl).trans ?_
  rw [hv, CX_ring I c hr]
  iintro ⟨H, Hf⟩
  ihave H := (ch_cm12 (evs I) c k) $$ H
  icases H with ⟨H, Hg⟩
  isplitl [H]; · iexact H
  iintro H
  ihave H := Hg $$ H
  ihave H := (show CH (evs I) k c 12 ⊢ CX I c k 12 from by rw [CX_ring I c hr]) $$ H
  ihave H := Hf $$ %12 H
  iexact H

theorem fch_cm13 (k : Ch) (hr : ring k = true) (hl : l.length = 14) (hv : l.getD (ci k) 0 = 13) :
    ST I A c n o s q l ⊢ iprop(own c (cm k true) (evs I k (prv k c) 1) ∗ (own c (cm k true) (evs I k (prv k c) 1) -∗ ST I A c n o s q l)) := by
  suffices h : ST I A c n o s q l ⊢ iprop(own c (cm k true) (evs I k (prv k c) 1) ∗ (own c (cm k true) (evs I k (prv k c) 1) -∗ ST I A c n o s q (l.set (ci k) 13))) by
    rwa [set_self l (ci k) 13 hv (ci_lt k hl)] at h
  refine (fo_c I A c k hl).trans ?_
  rw [hv, CX_ring I c hr]
  iintro ⟨H, Hf⟩
  ihave H := (ch_cm13 (evs I) c k) $$ H
  icases H with ⟨H, Hg⟩
  isplitl [H]; · iexact H
  iintro H
  ihave H := Hg $$ H
  ihave H := (show CH (evs I) k c 13 ⊢ CX I c k 13 from by rw [CX_ring I c hr]) $$ H
  ihave H := Hf $$ %13 H
  iexact H

theorem fch_cm14 (k : Ch) (hr : ring k = true) (hl : l.length = 14) (hv : l.getD (ci k) 0 = 14) :
    ST I A c n o s q l ⊢ iprop(own c (cm k true) (evs I k (prv k c) 1) ∗ (own c (cm k true) (evs I k (prv k c) 1) -∗ ST I A c n o s q l)) := by
  suffices h : ST I A c n o s q l ⊢ iprop(own c (cm k true) (evs I k (prv k c) 1) ∗ (own c (cm k true) (evs I k (prv k c) 1) -∗ ST I A c n o s q (l.set (ci k) 14))) by
    rwa [set_self l (ci k) 14 hv (ci_lt k hl)] at h
  refine (fo_c I A c k hl).trans ?_
  rw [hv, CX_ring I c hr]
  iintro ⟨H, Hf⟩
  ihave H := (ch_cm14 (evs I) c k) $$ H
  icases H with ⟨H, Hg⟩
  isplitl [H]; · iexact H
  iintro H
  ihave H := Hg $$ H
  ihave H := (show CH (evs I) k c 14 ⊢ CX I c k 14 from by rw [CX_ring I c hr]) $$ H
  ihave H := Hf $$ %14 H
  iexact H

theorem fch_cm14f (k : Ch) (hr : ring k = true) (hl : l.length = 14) (hv : l.getD (ci k) 0 = 14) :
    ST I A c n o s q l ⊢ iprop(own c (cm k false) (evs I k (prv k c) 2) ∗ (own c (cm k false) (evs I k (prv k c) 2) -∗ ST I A c n o s q l)) := by
  suffices h : ST I A c n o s q l ⊢ iprop(own c (cm k false) (evs I k (prv k c) 2) ∗ (own c (cm k false) (evs I k (prv k c) 2) -∗ ST I A c n o s q (l.set (ci k) 14))) by
    rwa [set_self l (ci k) 14 hv (ci_lt k hl)] at h
  refine (fo_c I A c k hl).trans ?_
  rw [hv, CX_ring I c hr]
  iintro ⟨H, Hf⟩
  ihave H := (ch_cm14f (evs I) c k) $$ H
  icases H with ⟨H, Hg⟩
  isplitl [H]; · iexact H
  iintro H
  ihave H := Hg $$ H
  ihave H := (show CH (evs I) k c 14 ⊢ CX I c k 14 from by rw [CX_ring I c hr]) $$ H
  ihave H := Hf $$ %14 H
  iexact H

theorem fxh_cm (k : Ch) (hr : ring k = false) (hl : l.length = 14) (hv : l.getD (ci k) 0 = 4) :
    ST I A c n o s q l ⊢ iprop(own c (cm k false) (evs I k (prv k c) 0) ∗ (own c (cm k false) (evs I k (prv k c) 0) -∗ ST I A c n o s q l)) := by
  suffices h : ST I A c n o s q l ⊢ iprop(own c (cm k false) (evs I k (prv k c) 0) ∗ (own c (cm k false) (evs I k (prv k c) 0) -∗ ST I A c n o s q (l.set (ci k) 4))) by
    rwa [set_self l (ci k) 4 hv (ci_lt k hl)] at h
  refine (fo_c I A c k hl).trans ?_
  rw [hv, CX_x I c hr]
  iintro ⟨H, Hf⟩
  ihave H := (xh_cm (evs I) c k) $$ H
  icases H with ⟨H, Hg⟩
  isplitl [H]; · iexact H
  iintro H
  ihave H := Hg $$ H
  ihave H := (show XH (evs I) k c 4 ⊢ CX I c k 4 from by rw [CX_x I c hr]) $$ H
  ihave H := Hf $$ %4 H
  iexact H

/-! ## The barrier -/

/-- What the `i`-th barrier signal spends. -/
def sg (i : Fin 5) : sProp 𝕄 := iprop(dutyTok (ER (F := F)) (gB (bTo i c)) 0 i ∗ barPay (F := F) c i ∗ reached (ER (F := F)) (gB (bTo i c)) 0)
theorem st_sigB (i : Fin 5) (hn : n = i.val) (hk : keys[i.val]? = some (.bar i)) {sm : Sem sig} (hs : sm = (12 : Sem sig)) {c' : Dev nD} (hc : c' = bTo i c)
    {α : Type} {Q : α → sProp 𝕄} {kk : PUnit → Prog (TpuEff nD τ sig (Elt F) Λ₀ .tc) α}
    (hk' : SX I A c X (i.val + 1) o s q ⊢ WP c (kk ⟨⟩) Q) :
    SX I A c iprop(sg c i ∗ X) n o s q ⊢ WP c (semSignalWord c' sm 1#32 >>= kk) Q := by
  subst hn hs
  refine (fo_ch I A c).trans ?_
  iintro ⟨⟨HP, HO, Hs, HX⟩, Hf⟩
  unfold sg
  iapply (r_sigB (evs I) c i hk c' hc (kk := kk)) $$ [HP HO Hs]
  · isplitl [HP]; · iexact HP
    isplitl [HO]; · iexact HO
    iexact Hs
  iintro HO
  iapply hk'
  iapply Hf
  isplitl [HO]; · iexact HO
  iexact HX
theorem st_waitB {sm : Sem sig} (hs : sm = (12 : Sem sig))
    {α : Type} {Q : α → sProp 𝕄} {kk : PUnit → Prog (TpuEff nD τ sig (Elt F) Λ₀ .tc) α}
    (hk' : SX I A c iprop(((bigSep Finset.univ fun i : Fin 5 => barPay (F := F) (bFrom i c) i) ∗ Pos (F := F) (gB c) 1) ∗ X) 5 o s q ⊢ WP c (kk ⟨⟩) Q) :
    SX I A c iprop((cred (tallyAt (gB c) 1 5) ∗ Pos (F := F) (gB c) 0) ∗ X) 5 o s q ⊢ WP c (semWaitWord sm 5#32 >>= kk) Q := by
  subst hs
  refine (fo_ch I A c).trans ?_
  iintro ⟨⟨HP, HO, Hs, HX⟩, Hf⟩
  iapply (r_waitB (evs I) c (kk := kk)) $$ [HP HO Hs]
  · isplitl [HP]; · iexact HP
    isplitl [HO]; · iexact HO
    iexact Hs
  iintro ⟨HO, Hb, Hp⟩
  iapply hk'
  iapply Hf
  isplitl [HO]; · iexact HO
  isplitr [HX]
  · isplitl [Hb]; · iexact Hb
    iexact Hp
  iexact HX

/-! ## Calls of a part of the body -/

/-- A part of the body at the device's memrefs. -/
abbrev call {β : Type 1} (A : Ins) (f : (arg0 : Memref sig .tc .vmem S1024x512 .f32) → (harg0 : arg0.IsWhole) → (arg1 : Memref sig .tc .vmem S512x128 .f32) → (harg1 : arg1.IsWhole) → (arg2 : Memref sig .tc .vmem S1x1024 .i32) → (harg2 : arg2.IsWhole) → (arg3 : Memref sig .tc .vmem S4x512x1024 .f32) → (harg3 : arg3.IsWhole) → (arg4 : Memref sig .tc .vmem S512x1024 .f32) → (harg4 : arg4.IsWhole) → (arg5 : Memref sig .tc .vmem S1024x1024 .f32) → (harg5 : arg5.IsWhole) → (arg6 : Memref sig .tc .vmem S1024x1024 .f32) → (harg6 : arg6.IsWhole) → (arg7 : Memref sig .tc .vmem S4x1024 .f32) → (harg7 : arg7.IsWhole) → (arg8 : Memref sig .tc .vmem S2x256x256 .f32) → (harg8 : arg8.IsWhole) → (arg9 : Memref sig .tc .vmem S2x256x256 .f32) → (harg9 : arg9.IsWhole) → (arg10 : Memref sig .tc .vmem S2x256x256 .f32) → (harg10 : arg10.IsWhole) → (arg11 : Memref sig .tc .vmem S2x256x256 .f32) → (harg11 : arg11.IsWhole) → (arg12 : Memref sig .tc .vmem S2x256x256 .f32) → (harg12 : arg12.IsWhole) → (arg13 : Memref sig .tc .vmem S2x256x256 .f32) → (harg13 : arg13.IsWhole) → (arg14 : Memref sig .tc .vmem S2x256x256 .f32) → (harg14 : arg14.IsWhole) → (arg15 : Memref sig .tc .vmem S2x256x256 .f32) → (harg15 : arg15.IsWhole) → (arg16 : Memref sig .tc .vmem S2x64x512 .f32) → (harg16 : arg16.IsWhole) → (arg17 : Memref sig .tc .vmem S2x64x512 .f32) → (harg17 : arg17.IsWhole) → (arg18 : Memref sig .tc .vmem S2x64x512 .f32) → (harg18 : arg18.IsWhole) → (arg19 : Memref sig .tc .vmem S2x64x512 .f32) → (harg19 : arg19.IsWhole) → (arg20 : Memref sig .tc .vmem S2x64x512 .f32) → (harg20 : arg20.IsWhole) → (arg21 : Memref sig .tc .vmem S2x64x512 .f32) → (harg21 : arg21.IsWhole) → (arg22 : Memref sig .tc .vmem S2x64x512 .f32) → (harg22 : arg22.IsWhole) → (arg23 : Memref sig .tc .vmem S2x64x512 .f32) → (harg23 : arg23.IsWhole) → (arg24 : Memref sig .tc .vmem S2x256x256 .f32) → (harg24 : arg24.IsWhole) → (arg25 : Memref sig .tc .vmem S2x256x256 .f32) → (harg25 : arg25.IsWhole) → (arg26 : Memref sig .tc .vmem S2x256x256 .f32) → (harg26 : arg26.IsWhole) → (arg27 : Memref sig .tc .vmem S2x256x256 .f32) → (harg27 : arg27.IsWhole) → (arg28 : Memref sig .tc .vmem S2x256x256 .f32) → (harg28 : arg28.IsWhole) → (arg29 : Memref sig .tc .vmem S2x256x256 .f32) → (harg29 : arg29.IsWhole) → (arg30 : Memref sig .tc .vmem S2x256x256 .f32) → (harg30 : arg30.IsWhole) → (arg31 : Memref sig .tc .vmem S2x256x256 .f32) → (harg31 : arg31.IsWhole) → (arg32 : Memref sig .tc .vmem S64x512 .f32) → (harg32 : arg32.IsWhole) → (arg33 : Memref sig .tc .vmem S64x512 .f32) → (harg33 : arg33.IsWhole) → (arg34 : Memref sig .tc .vmem S64x512 .f32) → (harg34 : arg34.IsWhole) → (arg35 : Memref sig .tc .vmem S64x512 .f32) → (harg35 : arg35.IsWhole) → (arg36 : DmaSems sig S2) → (arg37 : DmaSems sig S2) → (arg38 : DmaSems sig S2) → (arg39 : DmaSems sig S2) → (arg40 : DmaSems sig S2) → (arg41 : DmaSems sig S2) → (arg42 : DmaSems sig S2) → (arg43 : DmaSems sig S2) → (arg44 : DmaSems sig S2) → (arg45 : DmaSems sig S2) → (arg46 : DmaSems sig S2) → (arg47 : DmaSems sig S2) → (arg48 : DmaSems sig S2) → (arg49 : DmaSems sig S2) → (arg50 : DmaSems sig S2) → (arg51 : DmaSems sig S2) → (arg52 : DmaSems sig S2) → (arg53 : DmaSems sig S2) → (arg54 : DmaSems sig S2) → (arg55 : DmaSems sig S2) → (arg56 : DmaSems sig S2) → (arg57 : DmaSems sig S2) → (arg58 : DmaSems sig S2) → (arg59 : DmaSems sig S2) → (arg60 : DmaSems sig S_) → (arg61 : DmaSems sig S_) → (arg62 : DmaSems sig S_) → (arg63 : DmaSems sig S_) → (arg64 : Sems sig S_) → (arg65 : Sems sig S_) → (arg66 : Sems sig S_) → (arg67 : Sems sig S_) → (arg68 : Sems sig S_) → (arg69 : Sems sig S_) → (arg70 : Sems sig S_) → (arg71 : Sems sig S_) → (arg72 : Sems sig S_) → (arg73 : Sems sig S_) → (arg74 : Sems sig S_) → (arg75 : Sems sig S_) → β) : β :=
  f A.m0 A.h0 A.m1 A.h1 A.m2 A.h2 A.m3 A.h3 A.m4 A.h4 A.m5 A.h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _) (Memref.whole cc0_scratch28) (Memref.isWhole_whole _) (Memref.whole cc0_scratch29) (Memref.isWhole_whole _) cc0_scratch30 cc0_scratch31 cc0_scratch32 cc0_scratch33 cc0_scratch34 cc0_scratch35 cc0_scratch36 cc0_scratch37 cc0_scratch38 cc0_scratch39 cc0_scratch40 cc0_scratch41 cc0_scratch42 cc0_scratch43 cc0_scratch44 cc0_scratch45 cc0_scratch46 cc0_scratch47 cc0_scratch48 cc0_scratch49 cc0_scratch50 cc0_scratch51 cc0_scratch52 cc0_scratch53 cc0_scratch54 cc0_scratch55 cc0_scratch56 cc0_scratch57 cc0_scratch58 cc0_scratch59 cc0_scratch60 cc0_scratch61 cc0_scratch62 cc0_scratch63 cc0_scratch64 cc0_scratch65 cc0_scratch66 cc0_scratch67 cc0_scratch68 cc0_scratch69

/-! ## The neighbours the kernel computes -/

theorem dv1 (c : Dev nD) : (⟨k0_dev1 c, k0_dev1_lt c⟩ : Dev nD) = bTo 0 c := by revert c; decide +kernel
theorem dv2 (c : Dev nD) : (⟨k0_dev2 c, k0_dev2_lt c⟩ : Dev nD) = bTo 1 c := by revert c; decide +kernel
theorem dv3 (c : Dev nD) : (⟨k0_dev3 c, k0_dev3_lt c⟩ : Dev nD) = bTo 2 c := by revert c; decide +kernel
theorem dv4 (c : Dev nD) : (⟨k0_dev4 c, k0_dev4_lt c⟩ : Dev nD) = bTo 3 c := by revert c; decide +kernel
theorem dv5 (c : Dev nD) : (⟨k0_dev5 c, k0_dev5_lt c⟩ : Dev nD) = bTo 4 c := by revert c; decide +kernel
theorem dv6 (c : Dev nD) : (⟨k0_dev6 c, k0_dev6_lt c⟩ : Dev nD) = nxt .a0 c := by revert c; decide +kernel
theorem dv7 (c : Dev nD) : (⟨k0_dev7 c, k0_dev7_lt c⟩ : Dev nD) = nxt .a1 c := by revert c; decide +kernel
theorem dv8 (c : Dev nD) : (⟨k0_dev8 c, k0_dev8_lt c⟩ : Dev nD) = nxt .a2 c := by revert c; decide +kernel
theorem dv9 (c : Dev nD) : (⟨k0_dev9 c, k0_dev9_lt c⟩ : Dev nD) = nxt .a3 c := by revert c; decide +kernel
theorem dv10 (c : Dev nD) : (⟨k0_dev10 c, k0_dev10_lt c⟩ : Dev nD) = nxt .a0 c := by revert c; decide +kernel
theorem dv11 (c : Dev nD) : (⟨k0_dev11 c, k0_dev11_lt c⟩ : Dev nD) = prv .a0 c := by revert c; decide +kernel
theorem dv12 (c : Dev nD) : (⟨k0_dev12 c, k0_dev12_lt c⟩ : Dev nD) = nxt .a1 c := by revert c; decide +kernel
theorem dv13 (c : Dev nD) : (⟨k0_dev13 c, k0_dev13_lt c⟩ : Dev nD) = prv .a1 c := by revert c; decide +kernel
theorem dv14 (c : Dev nD) : (⟨k0_dev14 c, k0_dev14_lt c⟩ : Dev nD) = nxt .a2 c := by revert c; decide +kernel
theorem dv15 (c : Dev nD) : (⟨k0_dev15 c, k0_dev15_lt c⟩ : Dev nD) = prv .a2 c := by revert c; decide +kernel
theorem dv16 (c : Dev nD) : (⟨k0_dev16 c, k0_dev16_lt c⟩ : Dev nD) = nxt .a3 c := by revert c; decide +kernel
theorem dv17 (c : Dev nD) : (⟨k0_dev17 c, k0_dev17_lt c⟩ : Dev nD) = prv .a3 c := by revert c; decide +kernel
theorem dv18 (c : Dev nD) : (⟨k0_dev18 c, k0_dev18_lt c⟩ : Dev nD) = nxt .a0 c := by revert c; decide +kernel
theorem dv19 (c : Dev nD) : (⟨k0_dev19 c, k0_dev19_lt c⟩ : Dev nD) = nxt .a1 c := by revert c; decide +kernel
theorem dv20 (c : Dev nD) : (⟨k0_dev20 c, k0_dev20_lt c⟩ : Dev nD) = nxt .a2 c := by revert c; decide +kernel
theorem dv21 (c : Dev nD) : (⟨k0_dev21 c, k0_dev21_lt c⟩ : Dev nD) = nxt .a3 c := by revert c; decide +kernel
theorem dv22 (c : Dev nD) : (⟨k0_dev22 c, k0_dev22_lt c⟩ : Dev nD) = nxt .b0 c := by revert c; decide +kernel
theorem dv23 (c : Dev nD) : (⟨k0_dev23 c, k0_dev23_lt c⟩ : Dev nD) = nxt .b1 c := by revert c; decide +kernel
theorem dv24 (c : Dev nD) : (⟨k0_dev24 c, k0_dev24_lt c⟩ : Dev nD) = nxt .b0 c := by revert c; decide +kernel
theorem dv25 (c : Dev nD) : (⟨k0_dev25 c, k0_dev25_lt c⟩ : Dev nD) = prv .b0 c := by revert c; decide +kernel
theorem dv26 (c : Dev nD) : (⟨k0_dev26 c, k0_dev26_lt c⟩ : Dev nD) = nxt .b1 c := by revert c; decide +kernel
theorem dv27 (c : Dev nD) : (⟨k0_dev27 c, k0_dev27_lt c⟩ : Dev nD) = prv .b1 c := by revert c; decide +kernel
theorem dv28 (c : Dev nD) : (⟨k0_dev28 c, k0_dev28_lt c⟩ : Dev nD) = nxt .b0 c := by revert c; decide +kernel
theorem dv29 (c : Dev nD) : (⟨k0_dev29 c, k0_dev29_lt c⟩ : Dev nD) = nxt .b1 c := by revert c; decide +kernel
theorem dv30 (c : Dev nD) : (⟨k0_dev30 c, k0_dev30_lt c⟩ : Dev nD) = nxt .xA c := by revert c; decide +kernel
theorem dv31 (c : Dev nD) : (⟨k0_dev31 c, k0_dev31_lt c⟩ : Dev nD) = nxt .xB c := by revert c; decide +kernel
theorem dv32 (c : Dev nD) : (⟨k0_dev32 c, k0_dev32_lt c⟩ : Dev nD) = nxt .g0 c := by revert c; decide +kernel
theorem dv33 (c : Dev nD) : (⟨k0_dev33 c, k0_dev33_lt c⟩ : Dev nD) = nxt .g1 c := by revert c; decide +kernel
theorem dv34 (c : Dev nD) : (⟨k0_dev34 c, k0_dev34_lt c⟩ : Dev nD) = nxt .g0 c := by revert c; decide +kernel
theorem dv35 (c : Dev nD) : (⟨k0_dev35 c, k0_dev35_lt c⟩ : Dev nD) = prv .g0 c := by revert c; decide +kernel
theorem dv36 (c : Dev nD) : (⟨k0_dev36 c, k0_dev36_lt c⟩ : Dev nD) = nxt .g1 c := by revert c; decide +kernel
theorem dv37 (c : Dev nD) : (⟨k0_dev37 c, k0_dev37_lt c⟩ : Dev nD) = prv .g1 c := by revert c; decide +kernel
theorem dv38 (c : Dev nD) : (⟨k0_dev38 c, k0_dev38_lt c⟩ : Dev nD) = nxt .g0 c := by revert c; decide +kernel
theorem dv39 (c : Dev nD) : (⟨k0_dev39 c, k0_dev39_lt c⟩ : Dev nD) = nxt .g1 c := by revert c; decide +kernel
theorem dv40 (c : Dev nD) : (⟨k0_dev40 c, k0_dev40_lt c⟩ : Dev nD) = nxt .h0 c := by revert c; decide +kernel
theorem dv41 (c : Dev nD) : (⟨k0_dev41 c, k0_dev41_lt c⟩ : Dev nD) = nxt .h1 c := by revert c; decide +kernel
theorem dv42 (c : Dev nD) : (⟨k0_dev42 c, k0_dev42_lt c⟩ : Dev nD) = nxt .h2 c := by revert c; decide +kernel
theorem dv43 (c : Dev nD) : (⟨k0_dev43 c, k0_dev43_lt c⟩ : Dev nD) = nxt .h3 c := by revert c; decide +kernel
theorem dv44 (c : Dev nD) : (⟨k0_dev44 c, k0_dev44_lt c⟩ : Dev nD) = nxt .h0 c := by revert c; decide +kernel
theorem dv45 (c : Dev nD) : (⟨k0_dev45 c, k0_dev45_lt c⟩ : Dev nD) = prv .h0 c := by revert c; decide +kernel
theorem dv46 (c : Dev nD) : (⟨k0_dev46 c, k0_dev46_lt c⟩ : Dev nD) = nxt .h1 c := by revert c; decide +kernel
theorem dv47 (c : Dev nD) : (⟨k0_dev47 c, k0_dev47_lt c⟩ : Dev nD) = prv .h1 c := by revert c; decide +kernel
theorem dv48 (c : Dev nD) : (⟨k0_dev48 c, k0_dev48_lt c⟩ : Dev nD) = nxt .h2 c := by revert c; decide +kernel
theorem dv49 (c : Dev nD) : (⟨k0_dev49 c, k0_dev49_lt c⟩ : Dev nD) = prv .h2 c := by revert c; decide +kernel
theorem dv50 (c : Dev nD) : (⟨k0_dev50 c, k0_dev50_lt c⟩ : Dev nD) = nxt .h3 c := by revert c; decide +kernel
theorem dv51 (c : Dev nD) : (⟨k0_dev51 c, k0_dev51_lt c⟩ : Dev nD) = prv .h3 c := by revert c; decide +kernel
theorem dv52 (c : Dev nD) : (⟨k0_dev52 c, k0_dev52_lt c⟩ : Dev nD) = nxt .h0 c := by revert c; decide +kernel
theorem dv53 (c : Dev nD) : (⟨k0_dev53 c, k0_dev53_lt c⟩ : Dev nD) = nxt .h1 c := by revert c; decide +kernel
theorem dv54 (c : Dev nD) : (⟨k0_dev54 c, k0_dev54_lt c⟩ : Dev nD) = nxt .h2 c := by revert c; decide +kernel
theorem dv55 (c : Dev nD) : (⟨k0_dev55 c, k0_dev55_lt c⟩ : Dev nD) = nxt .h3 c := by revert c; decide +kernel

/-! ## Where the rectangles lie -/

/-- The residues of the device's coordinates. -/
def yR (c : Dev nD) (i : ℕ) : ℕ := (c.val % 8 / 2 + i) % 4
@[inherit_doc yR] def zR (c : Dev nD) (i : ℕ) : ℕ := (c.val / 8 + i) % 4
theorem yR_lt (c : Dev nD) (i : ℕ) : yR c i < 4 := Nat.mod_lt _ (by decide)
theorem zR_lt (c : Dev nD) (i : ℕ) : zR c i < 4 := Nat.mod_lt _ (by decide)
theorem yR_cases (c : Dev nD) (n : ℕ) (h : n < 4) : yR c 0 = n ∨ yR c 1 = n ∨ yR c 2 = n ∨ yR c 3 = n := by unfold yR; omega
theorem zR_cases (c : Dev nD) (n : ℕ) (h : n < 4) : zR c 0 = n ∨ zR c 1 = n ∨ zR c 2 = n ∨ zR c 3 = n := by unfold zR; omega
theorem off1 (c : Dev nD) : k0_off1 c = ![256 * yR c 0, 0] := by revert c; decide +kernel
theorem off2 (c : Dev nD) : k0_off2 c = ![0, 256 * yR c 0] := by revert c; decide +kernel
theorem off3 (c : Dev nD) : k0_off3 c = ![1, 256 * yR c 0] := by revert c; decide +kernel
theorem off4 (c : Dev nD) : k0_off4 c = ![2, 256 * yR c 0] := by revert c; decide +kernel
theorem off5 (c : Dev nD) : k0_off5 c = ![3, 256 * yR c 0] := by revert c; decide +kernel
theorem off6 (c : Dev nD) : k0_off6 c = ![256 * zR c 0, 0] := by revert c; decide +kernel
theorem off7 (c : Dev nD) : k0_off7 c = ![0, 256 * zR c 0] := by revert c; decide +kernel
theorem off8 (c : Dev nD) : k0_off8 c = ![1, 256 * zR c 0] := by revert c; decide +kernel
theorem off9 (c : Dev nD) : k0_off9 c = ![2, 256 * zR c 0] := by revert c; decide +kernel
theorem off10 (c : Dev nD) : k0_off10 c = ![3, 256 * zR c 0] := by revert c; decide +kernel
theorem off11_0 (c : Dev nD) : k0_off11 c 0#32 = ![256 * yR c 3, 0] := by revert c; decide +kernel
theorem off11_1 (c : Dev nD) : k0_off11 c 1#32 = ![256 * yR c 2, 0] := by revert c; decide +kernel
theorem off11_2 (c : Dev nD) : k0_off11 c 2#32 = ![256 * yR c 1, 0] := by revert c; decide +kernel
theorem off12_0 (c : Dev nD) : k0_off12 c 0#32 = ![0, 256 * yR c 3] := by revert c; decide +kernel
theorem off12_1 (c : Dev nD) : k0_off12 c 1#32 = ![0, 256 * yR c 2] := by revert c; decide +kernel
theorem off12_2 (c : Dev nD) : k0_off12 c 2#32 = ![0, 256 * yR c 1] := by revert c; decide +kernel
theorem off13_0 (c : Dev nD) : k0_off13 c 0#32 = ![1, 256 * yR c 3] := by revert c; decide +kernel
theorem off13_1 (c : Dev nD) : k0_off13 c 1#32 = ![1, 256 * yR c 2] := by revert c; decide +kernel
theorem off13_2 (c : Dev nD) : k0_off13 c 2#32 = ![1, 256 * yR c 1] := by revert c; decide +kernel
theorem off14_0 (c : Dev nD) : k0_off14 c 0#32 = ![2, 256 * yR c 3] := by revert c; decide +kernel
theorem off14_1 (c : Dev nD) : k0_off14 c 1#32 = ![2, 256 * yR c 2] := by revert c; decide +kernel
theorem off14_2 (c : Dev nD) : k0_off14 c 2#32 = ![2, 256 * yR c 1] := by revert c; decide +kernel
theorem off15_0 (c : Dev nD) : k0_off15 c 0#32 = ![3, 256 * yR c 3] := by revert c; decide +kernel
theorem off15_1 (c : Dev nD) : k0_off15 c 1#32 = ![3, 256 * yR c 2] := by revert c; decide +kernel
theorem off15_2 (c : Dev nD) : k0_off15 c 2#32 = ![3, 256 * yR c 1] := by revert c; decide +kernel
theorem off16_0 (c : Dev nD) : k0_off16 c 0#32 = ![256 * zR c 3, 0] := by revert c; decide +kernel
theorem off16_1 (c : Dev nD) : k0_off16 c 1#32 = ![256 * zR c 2, 0] := by revert c; decide +kernel
theorem off16_2 (c : Dev nD) : k0_off16 c 2#32 = ![256 * zR c 1, 0] := by revert c; decide +kernel
theorem off17_0 (c : Dev nD) : k0_off17 c 0#32 = ![0, 256 * zR c 3] := by revert c; decide +kernel
theorem off17_1 (c : Dev nD) : k0_off17 c 1#32 = ![0, 256 * zR c 2] := by revert c; decide +kernel
theorem off17_2 (c : Dev nD) : k0_off17 c 2#32 = ![0, 256 * zR c 1] := by revert c; decide +kernel
theorem off18_0 (c : Dev nD) : k0_off18 c 0#32 = ![1, 256 * zR c 3] := by revert c; decide +kernel
theorem off18_1 (c : Dev nD) : k0_off18 c 1#32 = ![1, 256 * zR c 2] := by revert c; decide +kernel
theorem off18_2 (c : Dev nD) : k0_off18 c 2#32 = ![1, 256 * zR c 1] := by revert c; decide +kernel
theorem off19_0 (c : Dev nD) : k0_off19 c 0#32 = ![2, 256 * zR c 3] := by revert c; decide +kernel
theorem off19_1 (c : Dev nD) : k0_off19 c 1#32 = ![2, 256 * zR c 2] := by revert c; decide +kernel
theorem off19_2 (c : Dev nD) : k0_off19 c 2#32 = ![2, 256 * zR c 1] := by revert c; decide +kernel
theorem off20_0 (c : Dev nD) : k0_off20 c 0#32 = ![3, 256 * zR c 3] := by revert c; decide +kernel
theorem off20_1 (c : Dev nD) : k0_off20 c 1#32 = ![3, 256 * zR c 2] := by revert c; decide +kernel
theorem off20_2 (c : Dev nD) : k0_off20 c 2#32 = ![3, 256 * zR c 1] := by revert c; decide +kernel
theorem off21 (c : Dev nD) : k0_off21 c = ![256 * yR c 1, 0] := by revert c; decide +kernel
theorem off22 (c : Dev nD) : k0_off22 c = ![256 * yR c 1, 256] := by revert c; decide +kernel
theorem off23 (c : Dev nD) : k0_off23 c = ![256 * zR c 1, 512] := by revert c; decide +kernel
theorem off24 (c : Dev nD) : k0_off24 c = ![256 * zR c 1, 768] := by revert c; decide +kernel
theorem off25 (c : Dev nD) : k0_off25 c = ![256 * yR c 1 + 64 * zR c 0, 0] := by revert c; decide +kernel
theorem off26 (c : Dev nD) : k0_off26 c = ![256 * zR c 1 + 64 * yR c 0, 512] := by revert c; decide +kernel
theorem off27_0 (c : Dev nD) : k0_off27 c 0#32 = ![256 * yR c 1 + 64 * zR c 3, 0] := by revert c; decide +kernel
theorem off27_1 (c : Dev nD) : k0_off27 c 1#32 = ![256 * yR c 1 + 64 * zR c 2, 0] := by revert c; decide +kernel
theorem off27_2 (c : Dev nD) : k0_off27 c 2#32 = ![256 * yR c 1 + 64 * zR c 1, 0] := by revert c; decide +kernel
theorem off28_0 (c : Dev nD) : k0_off28 c 0#32 = ![256 * zR c 1 + 64 * yR c 3, 512] := by revert c; decide +kernel
theorem off28_1 (c : Dev nD) : k0_off28 c 1#32 = ![256 * zR c 1 + 64 * yR c 2, 512] := by revert c; decide +kernel
theorem off28_2 (c : Dev nD) : k0_off28 c 2#32 = ![256 * zR c 1 + 64 * yR c 1, 512] := by revert c; decide +kernel
theorem off29 (c : Dev nD) : k0_off29 c = ![256 * yR c 1 + 64 * zR c 1, 0] := by revert c; decide +kernel
theorem off30 (c : Dev nD) : k0_off30 c = ![256 * zR c 1 + 64 * yR c 1, 512] := by revert c; decide +kernel
theorem off31_0 (c : Dev nD) : k0_off31 c 0#32 = ![256 * yR c 1 + 64 * zR c 0, 0] := by revert c; decide +kernel
theorem off31_1 (c : Dev nD) : k0_off31 c 1#32 = ![256 * yR c 1 + 64 * zR c 3, 0] := by revert c; decide +kernel
theorem off31_2 (c : Dev nD) : k0_off31 c 2#32 = ![256 * yR c 1 + 64 * zR c 2, 0] := by revert c; decide +kernel
theorem off32_0 (c : Dev nD) : k0_off32 c 0#32 = ![256 * zR c 1 + 64 * yR c 0, 512] := by revert c; decide +kernel
theorem off32_1 (c : Dev nD) : k0_off32 c 1#32 = ![256 * zR c 1 + 64 * yR c 3, 512] := by revert c; decide +kernel
theorem off32_2 (c : Dev nD) : k0_off32 c 2#32 = ![256 * zR c 1 + 64 * yR c 2, 512] := by revert c; decide +kernel
theorem off33_0 (c : Dev nD) : k0_off33 c 0#32 = ![256 * yR c 0, 0] := by revert c; decide +kernel
theorem off33_1 (c : Dev nD) : k0_off33 c 1#32 = ![256 * yR c 3, 0] := by revert c; decide +kernel
theorem off33_2 (c : Dev nD) : k0_off33 c 2#32 = ![256 * yR c 2, 0] := by revert c; decide +kernel
theorem off34_0 (c : Dev nD) : k0_off34 c 0#32 = ![256 * yR c 0, 256] := by revert c; decide +kernel
theorem off34_1 (c : Dev nD) : k0_off34 c 1#32 = ![256 * yR c 3, 256] := by revert c; decide +kernel
theorem off34_2 (c : Dev nD) : k0_off34 c 2#32 = ![256 * yR c 2, 256] := by revert c; decide +kernel
theorem off35_0 (c : Dev nD) : k0_off35 c 0#32 = ![256 * zR c 0, 512] := by revert c; decide +kernel
theorem off35_1 (c : Dev nD) : k0_off35 c 1#32 = ![256 * zR c 3, 512] := by revert c; decide +kernel
theorem off35_2 (c : Dev nD) : k0_off35 c 2#32 = ![256 * zR c 2, 512] := by revert c; decide +kernel
theorem off36_0 (c : Dev nD) : k0_off36 c 0#32 = ![256 * zR c 0, 768] := by revert c; decide +kernel
theorem off36_1 (c : Dev nD) : k0_off36 c 1#32 = ![256 * zR c 3, 768] := by revert c; decide +kernel
theorem off36_2 (c : Dev nD) : k0_off36 c 2#32 = ![256 * zR c 2, 768] := by revert c; decide +kernel
theorem off37 (c : Dev nD) : k0_off37 c = ![256 * yR c 1, 0] := by revert c; decide +kernel
theorem off38 (c : Dev nD) : k0_off38 c = ![256 * zR c 1, 512] := by revert c; decide +kernel

end Cert.KernelIdeal.Moe

end
-- ==== Proof.Cov.lean ====
/-
Which cells the earlier writes have covered: a load inside cells already written
is a load of the known contents.
-/
module

public import proofs.«01_k».proof.Proof.St

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok launchOf)
open Idealize.ShloMosaic.TalkSites Idealize.ShloMosaic.SiteBlocks

variable {F : FTy → Type} [FloatOps F]

theorem S64x512_z : S64x512.size 0 = 64 := rfl
theorem S256x512_z : S256x512.size 0 = 256 := rfl

/-- A rectangle among the first writes is covered by them. -/
theorem cov_at {s : Shape} {wr : List (Rect s)} {r : Rect s} {n : ℕ} (i : ℕ) (h : wr[i]? = some r) (hi : i < n) :
    ∀ j ∈ r.set, ∃ r' ∈ wr.take n, j ∈ r'.set := fun j hj =>
  ⟨r, List.mem_of_getElem? (i := i) (by rw [List.getElem?_take_of_lt hi]; exact h), hj⟩

/-- A cell of an earlier write is covered. -/
theorem cov_in {s : Shape} {wr : List (Rect s)} {r' : Rect s} {n : ℕ} (i : ℕ) (h : wr[i]? = some r') (hi : i < n)
    {j : s.Idx} (hj : j ∈ r'.set) : ∃ r' ∈ wr.take n, j ∈ r'.set :=
  ⟨r', List.mem_of_getElem? (i := i) (by rw [List.getElem?_take_of_lt hi]; exact h), hj⟩

variable {F : FTy → Type} [FloatOps F]
variable (I : Inp F) (c : Dev nD)

/-- A piece of one row of the coefficients is covered once all four rows are written. -/
theorem cov_cf (e : ℕ) (he : e < 4) (v : ℕ) {off : Fin 2 → ℕ} {inb : ∀ a, off a + S1x256.size a ≤ S4x1024.size a}
    (hoff : off = ![e, v]) : ∀ j ∈ (Rect.unit (s := S4x1024) off S1x256.size inb).set, ∃ r' ∈ (cfW c).take 4, j ∈ r'.set := by
  subst hoff
  have hv : v + 256 ≤ 1024 := inb 1
  intro j hj
  rcases (by omega : e = 0 ∨ e = 1 ∨ e = 2 ∨ e = 3) with rfl | rfl | rfl | rfl
  · refine cov_in 0 (r' := rC0 c) rfl (by decide) (cov_unit ?_ j hj)
    intro a; fin_cases a
    · exact ⟨le_rfl, le_rfl⟩
    · exact ⟨Nat.zero_le _, hv.trans (by decide)⟩
  · refine cov_in 1 (r' := rC1 c) rfl (by decide) (cov_unit ?_ j hj)
    intro a; fin_cases a
    · exact ⟨le_rfl, le_rfl⟩
    · exact ⟨Nat.zero_le _, hv.trans (by decide)⟩
  · refine cov_in 2 (r' := rC2 c) rfl (by decide) (cov_unit ?_ j hj)
    intro a; fin_cases a
    · exact ⟨le_rfl, le_rfl⟩
    · exact ⟨Nat.zero_le _, hv.trans (by decide)⟩
  · refine cov_in 3 (r' := rC3 c) rfl (by decide) (cov_unit ?_ j hj)
    intro a; fin_cases a
    · exact ⟨le_rfl, le_rfl⟩
    · exact ⟨Nat.zero_le _, hv.trans (by decide)⟩

/-- The shared product is covered once its four row blocks are written. -/
theorem cov_sm (j : S1024x1024.Idx) : ∃ r' ∈ (smW c).take 4, j ∈ r'.set := by
  have h0 : (j 0).val < 1024 := (j 0).isLt
  have h1 : (j 1).val < 1024 := (j 1).isLt
  have key : ∀ (b : ℕ) (inb : ∀ a, (![b, 0] : Fin 2 → ℕ) a + S256x1024.size a ≤ S1024x1024.size a), b ≤ (j 0).val → (j 0).val < b + 256 →
      j ∈ (Rect.unit (s := S1024x1024) ![b, 0] S256x1024.size inb).set := by
    intro b inb hb hb'
    rw [Rect.mem_set_unit]
    intro a; fin_cases a
    · exact ⟨hb, hb'⟩
    · exact ⟨Nat.zero_le _, by simpa using h1⟩
  rcases (by omega : (j 0).val < 256 ∨ (256 ≤ (j 0).val ∧ (j 0).val < 512) ∨ (512 ≤ (j 0).val ∧ (j 0).val < 768) ∨ 768 ≤ (j 0).val) with h | h | h | h
  · exact cov_in 0 (r' := rM0 c) rfl (by decide) (key 0 _ (Nat.zero_le _) (by omega))
  · exact cov_in 1 (r' := rM1 c) rfl (by decide) (key 256 _ h.1 (by omega))
  · exact cov_in 2 (r' := rM2 c) rfl (by decide) (key 512 _ h.1 (by omega))
  · exact cov_in 3 (r' := rM3 c) rfl (by decide) (key 768 _ h (by omega))

/-- A cell by its two coordinates lies in a 256 by 256 block. -/
theorem mem_blk {off : Fin 2 → ℕ} {inb : ∀ a, off a + S256x256.size a ≤ S1024x1024.size a} {a b : ℕ} (hoff : off = ![a, b])
    (j : S1024x1024.Idx) (h : a ≤ (j 0).val ∧ (j 0).val < a + 256) (h' : b ≤ (j 1).val ∧ (j 1).val < b + 256) :
    j ∈ (Rect.unit (s := S1024x1024) off S256x256.size inb).set := by
  subst hoff
  rw [Rect.mem_set_unit]
  intro i; fin_cases i
  · exact h
  · exact h'

/-- Rows of the device's own left half are covered by its first two writes. -/
theorem cov_L (n : ℕ) (hn : 2 ≤ n) (a : ℕ) {z : Fin 2 → ℕ} {off : Fin 2 → ℕ} {inb : ∀ a, off a + z a ≤ S1024x1024.size a}
    (hoff : off = ![a, 0]) (hz : z 1 = 512) (h : 256 * yR c 1 ≤ a ∧ a + z 0 ≤ 256 * yR c 1 + 256) :
    ∀ j ∈ (Rect.unit (s := S1024x1024) off z inb).set, ∃ r' ∈ (oW c).take n, j ∈ r'.set := by
  subst hoff
  intro j hj
  rw [Rect.mem_set_unit] at hj
  have hj0 : a ≤ (j 0).val ∧ (j 0).val < a + z 0 := hj 0
  have hj1 : 0 ≤ (j 1).val ∧ (j 1).val < 0 + z 1 := hj 1
  by_cases h5 : (j 1).val < 256
  · exact cov_in 0 (r' := rO21 c) rfl (by omega) (mem_blk (off21 c) j (by omega) (by omega))
  · exact cov_in 1 (r' := rO22 c) rfl (by omega) (mem_blk (off22 c) j (by omega) (by omega))

/-- Rows of the device's own right half are covered by its next two writes. -/
theorem cov_R (n : ℕ) (hn : 4 ≤ n) (a : ℕ) {z : Fin 2 → ℕ} {off : Fin 2 → ℕ} {inb : ∀ a, off a + z a ≤ S1024x1024.size a}
    (hoff : off = ![a, 512]) (hz : z 1 = 512) (h : 256 * zR c 1 ≤ a ∧ a + z 0 ≤ 256 * zR c 1 + 256) :
    ∀ j ∈ (Rect.unit (s := S1024x1024) off z inb).set, ∃ r' ∈ (oW c).take n, j ∈ r'.set := by
  subst hoff
  intro j hj
  rw [Rect.mem_set_unit] at hj
  have hj0 : a ≤ (j 0).val ∧ (j 0).val < a + z 0 := hj 0
  have hj1 : 512 ≤ (j 1).val ∧ (j 1).val < 512 + z 1 := hj 1
  by_cases h5 : (j 1).val < 768
  · exact cov_in 2 (r' := rO23 c) rfl (by omega) (mem_blk (off23 c) j (by omega) (by omega))
  · exact cov_in 3 (r' := rO24 c) rfl (by omega) (mem_blk (off24 c) j (by omega) (by omega))

end Cert.KernelIdeal.Moe

end
-- ==== Proof.Pt0.lean ====
/-
The parts 1 to 9 of the body, each as a step of the walk.
-/
module

public import proofs.«01_k».proof.Proof.Cov

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok launchOf)
open Idealize.ShloMosaic.TalkSites Idealize.ShloMosaic.SiteBlocks

variable {F : FTy → Type} [FloatOps F]

local notation "𝕄" => MT nD τ sig ℕ (Elt F) ℕ UU ℕ

variable (I : Inp F) (A : Ins) (c : Dev nD)

set_option synthInstance.maxSize 4096
set_option maxRecDepth 65536

/-- Part 1 of the body. -/
theorem p1 {X : sProp 𝕄}
    {Q : (Σ' (d0 : Dev nD) (v2 : BitVec 32) (v19 : BitVec 32) (v29 : BitVec 32) (c2_i32 : BitVec 32) (v30 : BitVec 32) (v35 : BitVec 32) (v37 : BitVec 32), BitVec 1) → sProp 𝕄}
    (hk : ∀ (u0 : BitVec 32) (u1 : BitVec 32) (u2 : BitVec 32) (u3 : BitVec 32) (u4 : BitVec 32) (u5 : BitVec 1), SX I A c X 0 0 0 0 ⊢ Q ⟨c, (w2 c), u0, u1, 2#32, u2, u3, u4, u5⟩) :
    SX I A c X 0 0 0 0 ⊢ WP c (call A (k0_part1 (F := F)) ) Q := by
  rw [k0_part1_eq_skeleton]
  unfold call k0_part1_skel
  refine c_dev c ?_
  exact c_ret c (hk _ _ _ _ _ _)

/-- Part 2 of the body. -/
theorem p2 {X : sProp 𝕄} {v29 : BitVec 32} {c2_i32 : BitVec 32} {v30 : BitVec 32} {v35 : BitVec 32} {v37 : BitVec 32} {v38 : BitVec 1}
    {Q : (Σ' (v46 : BitVec 32) (v69 : BitVec 32) (v72 : BitVec 32) (v73 : BitVec 32) (v74 : BitVec 1) (v75 : BitVec 1), BitVec 32) → sProp 𝕄}
    (hk : ∀ (u0 : BitVec 32) (u1 : BitVec 32) (u2 : BitVec 32) (u3 : BitVec 32) (u4 : BitVec 1) (u5 : BitVec 1), SX I A c X 0 0 0 0 ⊢ Q ⟨u0, u1, u2, u3, u4, u5, 0#32⟩) :
    SX I A c X 0 0 0 0 ⊢ WP c (call A (k0_part2 (F := F)) v29 c2_i32 v30 v35 v37 v38) Q := by
  rw [k0_part2_eq_skeleton]
  unfold call k0_part2_skel
  exact c_ret c (hk _ _ _ _ _ _)

/-- Part 3 of the body. -/
theorem p3 {X : sProp 𝕄} {v19 : BitVec 32} {v46 : BitVec 32} {v69 : BitVec 32} {v72 : BitVec 32} {v73 : BitVec 32} {v74 : BitVec 1} {v75 : BitVec 1} {c0_i32_36 : BitVec 32}
    {Q : (Σ' (v97 : BitVec 32) (v108 : BitVec 32) (v111 : BitVec 32), BitVec 32) → sProp 𝕄}
    (hk : ∀ (u0 : BitVec 32) (u1 : BitVec 32) (u2 : BitVec 32) (u3 : BitVec 32), SX I A c X 0 0 0 0 ⊢ Q ⟨u0, u1, u2, u3⟩) :
    SX I A c X 0 0 0 0 ⊢ WP c (call A (k0_part3 (F := F)) v19 v46 v69 v72 v73 v74 v75 c0_i32_36) Q := by
  rw [k0_part3_eq_skeleton]
  unfold call k0_part3_skel
  exact c_ret c (hk _ _ _ _)

/-- Part 4 of the body. -/
theorem p4 {X : sProp 𝕄} {v19 : BitVec 32} {v46 : BitVec 32} {v69 : BitVec 32} {v108 : BitVec 32} {v111 : BitVec 32} {v113 : BitVec 32}
    {Q : (Σ' (v125 : BitVec 32) (v139 : BitVec 32) (v150 : BitVec 1), BitVec 32) → sProp 𝕄}
    (hk : ∀ (u0 : BitVec 32) (u1 : BitVec 32) (u2 : BitVec 1) (u3 : BitVec 32), SX I A c X 0 0 0 0 ⊢ Q ⟨u0, u1, u2, u3⟩) :
    SX I A c X 0 0 0 0 ⊢ WP c (call A (k0_part4 (F := F)) v19 v46 v69 v108 v111 v113) Q := by
  rw [k0_part4_eq_skeleton]
  unfold call k0_part4_skel
  exact c_ret c (hk _ _ _ _)

/-- Part 5 of the body. -/
theorem p5 {X : sProp 𝕄} {v19 : BitVec 32} {v46 : BitVec 32} {v69 : BitVec 32} {v139 : BitVec 32} {v150 : BitVec 1} {v151 : BitVec 32}
    {Q : (Σ' (v153 : BitVec 32) (v181 : BitVec 32) (v182 : BitVec 32) (v185 : BitVec 32) (v187 : BitVec 32), BitVec 32) → sProp 𝕄}
    (hk : ∀ (u0 : BitVec 32) (u1 : BitVec 32) (u2 : BitVec 32) (u3 : BitVec 32) (u4 : BitVec 32) (u5 : BitVec 32), SX I A c X 0 0 0 0 ⊢ Q ⟨u0, u1, u2, u3, u4, u5⟩) :
    SX I A c X 0 0 0 0 ⊢ WP c (call A (k0_part5 (F := F)) v19 v46 v69 v139 v150 v151) Q := by
  rw [k0_part5_eq_skeleton]
  unfold call k0_part5_skel
  exact c_ret c (hk _ _ _ _ _ _)

/-- Part 6 of the body. -/
theorem p6 {X : sProp 𝕄} {v97 : BitVec 32} {v125 : BitVec 32} {v153 : BitVec 32} {v181 : BitVec 32} {v182 : BitVec 32} {v185 : BitVec 32} {v187 : BitVec 32} {v188 : BitVec 32}
    {Q : (Σ' (v199 : BitVec 32) (v200 : Sems sig S_) (v215 : FVec F S128x1024 .f32), FVec F S1x1024 .f32) → sProp 𝕄}
    (hk : ∀ (u0 : BitVec 32), SX I A c X 5 0 0 0 ⊢ Q ⟨u0, SemArray.scalar (sig.barrier 0 rfl), k0_pay3 (ld (I.rw c) (Rect.unit (s := S512x128) ![0, 0] S512x128.size inb_S512x128_S512x128_0_0)) (ld (I.x c) (Rect.unit (s := S1024x512) ![0, 0] S1024x512.size inb_S1024x512_S1024x512_0_0)), k0_pay4 (ld (I.rw c) (Rect.unit (s := S512x128) ![0, 0] S512x128.size inb_S512x128_S512x128_0_0)) (ld (I.x c) (Rect.unit (s := S1024x512) ![0, 0] S1024x512.size inb_S1024x512_S1024x512_0_0))⟩) :
    SX I A c iprop(sg c 0 ∗ sg c 1 ∗ sg c 2 ∗ sg c 3 ∗ sg c 4 ∗ X) 0 0 0 0 ⊢ WP c (call A (k0_part6 (F := F)) c v97 v125 v153 v181 v182 v185 v187 v188) Q := by
  rw [k0_part6_eq_skeleton]
  unfold call k0_part6_skel
  refine st_sigB I A c 0 (by rfl) (by rfl) (by rfl) (dv1 c) ?_
  refine st_sigB I A c 1 (by rfl) (by rfl) (by rfl) (dv2 c) ?_
  refine st_sigB I A c 2 (by rfl) (by rfl) (by rfl) (dv3 c) ?_
  refine st_sigB I A c 3 (by rfl) (by rfl) (by rfl) (dv4 c) ?_
  refine st_sigB I A c 4 (by rfl) (by rfl) (by rfl) (dv5 c) ?_
  refine w_load c (fo1 I A c) ?_
  refine w_load c (fo0 I A c) ?_
  exact c_ret c (hk _)

/-- Part 7 of the body. -/
theorem p7 {X : sProp 𝕄} {v2 : BitVec 32} {v215 : FVec F S128x1024 .f32} {v217 : FVec F S1x1024 .f32}
    {Q : (Σ' (v224 : FVec F S128x1024 .f32) (v225 : IVec S128x1 32) (v254 : FVec F S1x1024 .f32) (v258 : IVec S1x1024 1), FVec F S1x1024 .f32) → sProp 𝕄}
    (e0 : cfM I c 1 = Rect.overlay (Rect.unit (s := S4x1024) ![0, 0] S1x1024.size inb_S4x1024_S1x1024_0_0) (cfM I c 0) (k0_pay6 v2 v215 v217 (ld (I.ri c) (Rect.unit (s := S1x1024) ![0, 0] S1x1024.size inb_S1x1024_S1x1024_0_0))))
    (hk : SX I A c X 5 0 0 1 ⊢ Q ⟨k0_pay5 v215 v217, iota .tc S128x1 32 [0] iota_S128x1_d0_w32, k0_pay7 v2 v215 v217, k0_pay8 v2 (ld (I.ri c) (Rect.unit (s := S1x1024) ![0, 0] S1x1024.size inb_S1x1024_S1x1024_0_0)), k0_pay9 (F := F)⟩) :
    SX I A c X 5 0 0 0 ⊢ WP c (call A (k0_part7 (F := F)) v2 v215 v217) Q := by
  rw [k0_part7_eq_skeleton]
  unfold call k0_part7_skel
  refine w_load c (fo2 I A c) ?_
  refine g_dead c (fq I A c) ?_
  refine g_store c (fqS I A c) (by rfl) e0 ?_
  refine w_load c (fo2 I A c) ?_
  exact c_ret c (hk)

/-- Part 8 of the body. -/
theorem p8 {X : sProp 𝕄} {v2 : BitVec 32} {v224 : FVec F S128x1024 .f32} {v225 : IVec S128x1 32} {v254 : FVec F S1x1024 .f32} {v258 : IVec S1x1024 1} {v259 : FVec F S1x1024 .f32}
    {Q : FVec F S1x1024 .f32 → sProp 𝕄}
    (e0 : cfM I c 2 = Rect.overlay (Rect.unit (s := S4x1024) ![1, 0] S1x1024.size inb_S4x1024_S1x1024_1_0) (cfM I c 1) (k0_pay10 v254 v258 v259))
    (e1 : cfM I c 3 = Rect.overlay (Rect.unit (s := S4x1024) ![2, 0] S1x1024.size inb_S4x1024_S1x1024_2_0) (cfM I c 2) (k0_pay11 v2 v224 v225 (ld (I.ri c) (Rect.unit (s := S1x1024) ![0, 0] S1x1024.size inb_S1x1024_S1x1024_0_0))))
    (hk : SX I A c X 5 0 0 3 ⊢ Q (k0_pay12 v2 v224 v225 (ld (I.ri c) (Rect.unit (s := S1x1024) ![0, 0] S1x1024.size inb_S1x1024_S1x1024_0_0)))) :
    SX I A c X 5 0 0 1 ⊢ WP c (call A (k0_part8 (F := F)) v2 v224 v225 v254 v258 v259) Q := by
  rw [k0_part8_eq_skeleton]
  unfold call k0_part8_skel
  refine g_dead c (fq I A c) ?_
  refine g_store c (fqS I A c) (by rfl) e0 ?_
  refine w_load c (fo2 I A c) ?_
  refine g_dead c (fq I A c) ?_
  refine g_store c (fqS I A c) (by rfl) e1 ?_
  refine w_load c (fo2 I A c) ?_
  exact c_ret c (hk)

/-- Part 9 of the body. -/
theorem p9 {X : sProp 𝕄} {v19 : BitVec 32} {v46 : BitVec 32} {v200 : Sems sig S_} {v298 : FVec F S1x1024 .f32}
    {Q : (Σ' (v312 : BitVec 32) (v323 : BitVec 32) (v326 : BitVec 32) (v327 : BitVec 32), BitVec 1) → sProp 𝕄}
    (e0 : cfM I c 4 = Rect.overlay (Rect.unit (s := S4x1024) ![3, 0] S1x1024.size inb_S4x1024_S1x1024_3_0) (cfM I c 3) (k0_pay13 v298))
    (hv : v200.sem = (12 : Sem sig))
    (hk : ∀ (u0 : BitVec 32) (u1 : BitVec 32) (u2 : BitVec 32) (u3 : BitVec 32) (u4 : BitVec 1), SX I A c iprop(((bigSep Finset.univ fun i : Fin 5 => barPay (F := F) (bFrom i c) i) ∗ Pos (F := F) (gB c) 1) ∗ X) 5 0 0 4 ⊢ Q ⟨u0, u1, u2, u3, u4⟩) :
    SX I A c iprop((cred (tallyAt (gB c) 1 5) ∗ Pos (F := F) (gB c) 0) ∗ X) 5 0 0 3 ⊢ WP c (call A (k0_part9 (F := F)) v19 v46 v200 v298) Q := by
  rw [k0_part9_eq_skeleton]
  unfold call k0_part9_skel
  refine g_dead c (fq I A c) ?_
  refine g_store c (fqS I A c) (by rfl) e0 ?_
  refine st_waitB I A c hv ?_
  exact c_ret c (hk _ _ _ _ _)

end Cert.KernelIdeal.Moe

end
-- ==== Proof.Pt1.lean ====
/-
The parts 10 to 29 of the body, each as a step of the walk.
-/
module

public import proofs.«01_k».proof.Proof.Cov

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok launchOf)
open Idealize.ShloMosaic.TalkSites Idealize.ShloMosaic.SiteBlocks

variable {F : FTy → Type} [FloatOps F]

local notation "𝕄" => MT nD τ sig ℕ (Elt F) ℕ UU ℕ

variable (I : Inp F) (A : Ins) (c : Dev nD)

set_option synthInstance.maxSize 4096
set_option maxRecDepth 65536

/-- Part 10 of the body. -/
theorem p10 {v46 : BitVec 32} {v312 : BitVec 32} {v323 : BitVec 32} {v326 : BitVec 32} {v327 : BitVec 32} {v332 : BitVec 1}
    {Q : (Σ' (v346 : BitVec 32) (v347 : BitVec 32) (v349 : BitVec 32) (v351 : BitVec 32) (v355 : FVec F S256x512 .f32) (v365 : FVec F S256x256 .f32), FVec F S256x512 .f32) → sProp 𝕄}
    (hk : ∀ (u0 : BitVec 32) (u1 : BitVec 32) (u2 : BitVec 32) (u3 : BitVec 32), ST I A c 5 0 0 4 [0, 0, 0, 0, 0, 0, 0, 0, 0, 0, 0, 0, 0, 0] ⊢ Q ⟨u0, u1, u2, u3, k0_pay14 (ld (I.x c) (Rect.unit (s := S1024x512) (k0_off1 c) S256x512.size (k0_off1_inb c))), k0_pay15 (ld (I.x c) (Rect.unit (s := S1024x512) (k0_off1 c) S256x512.size (k0_off1_inb c))) (ld (cfM I c 4) (Rect.unit (s := S4x1024) (k0_off2 c) S1x256.size (k0_off2_inb c))) (ld (I.ew c) (Rect.unit (s := S4x512x1024) ![0, 0, 0] S1x512x256.size inb_S4x512x1024_S1x512x256_0_0_0)), k0_pay16 (ld (cfM I c 4) (Rect.unit (s := S4x1024) (k0_off3 c) S1x256.size (k0_off3_inb c)))⟩) :
    ST I A c 5 0 0 4 [0, 0, 0, 0, 0, 0, 0, 0, 0, 0, 0, 0, 0, 0] ⊢ WP c (call A (k0_part10 (F := F)) c v46 v312 v323 v326 v327 v332) Q := by
  rw [k0_part10_eq_skeleton]
  unfold call k0_part10_skel
  refine w_load c (fo0 I A c) ?_
  refine g_load c (fq I A c) (cov_cf c 0 (by decide) _ (off2 c)) ?_
  refine w_load c (fo3 I A c) ?_
  refine g_load c (fq I A c) (cov_cf c 1 (by decide) _ (off3 c)) ?_
  exact c_ret c (hk _ _ _ _)

/-- Part 11 of the body. -/
theorem p11 {v46 : BitVec 32} {v97 : BitVec 32} {v355 : FVec F S256x512 .f32} {v365 : FVec F S256x256 .f32} {v371 : FVec F S256x512 .f32}
    {Q : PUnit → sProp 𝕄}
    (e0 : (k0_pay17 v355 v365 v371 (ld (I.ew c) (Rect.unit (s := S4x512x1024) ![1, 0, 0] S1x512x256.size inb_S4x512x1024_S1x512x256_1_0_0)) (ld (cfM I c 4) (Rect.unit (s := S4x1024) (k0_off4 c) S1x256.size (k0_off4_inb c))) (ld (I.ew c) (Rect.unit (s := S4x512x1024) ![2, 0, 0] S1x512x256.size inb_S4x512x1024_S1x512x256_2_0_0)) (ld (cfM I c 4) (Rect.unit (s := S4x1024) (k0_off5 c) S1x256.size (k0_off5_inb c))) (ld (I.ew c) (Rect.unit (s := S4x512x1024) ![3, 0, 0] S1x512x256.size inb_S4x512x1024_S1x512x256_3_0_0))) = evs I .a0 c 0)
    (hk : ST I A c 5 0 0 4 [1, 0, 0, 0, 0, 0, 0, 0, 0, 0, 0, 0, 0, 0] ⊢ Q ⟨⟩) :
    ST I A c 5 0 0 4 [0, 0, 0, 0, 0, 0, 0, 0, 0, 0, 0, 0, 0, 0] ⊢ WP c (call A (k0_part11 (F := F)) c v46 v97 v355 v365 v371) Q := by
  rw [k0_part11_eq_skeleton]
  unfold call k0_part11_skel
  refine w_load c (fo3 I A c) ?_
  refine g_load c (fq I A c) (cov_cf c 2 (by decide) _ (off4 c)) ?_
  refine w_load c (fo3 I A c) ?_
  refine g_load c (fq I A c) (cov_cf c 3 (by decide) _ (off5 c)) ?_
  refine w_load c (fo3 I A c) ?_
  refine s_dead c (fun _ => rfl) (fch_std0 I A c .a0 (by rfl) (by rfl) (by rfl)) ?_
  refine s_store c (fun _ => rfl) e0 (fch_st0 I A c .a0 (by rfl) (by rfl) (by rfl)) ?_
  exact c_ret c (hk)

/-- Part 12 of the body. -/
theorem p12 {v46 : BitVec 32}
    {Q : (Σ' (v415 : FVec F S256x512 .f32) (v436 : FVec F S256x256 .f32), FVec F S256x512 .f32) → sProp 𝕄}
    (hk : ST I A c 6 0 0 4 [2, 0, 0, 0, 0, 0, 0, 0, 0, 0, 0, 0, 0, 0] ⊢ Q ⟨k0_pay18 (ld (I.x c) (Rect.unit (s := S1024x512) (k0_off1 c) S256x512.size (k0_off1_inb c))), k0_pay19 (ld (I.x c) (Rect.unit (s := S1024x512) (k0_off1 c) S256x512.size (k0_off1_inb c))) (ld (cfM I c 4) (Rect.unit (s := S4x1024) (k0_off2 c) S1x256.size (k0_off2_inb c))) (ld (I.ew c) (Rect.unit (s := S4x512x1024) ![0, 0, 256] S1x512x256.size inb_S4x512x1024_S1x512x256_0_0_256)) (ld (cfM I c 4) (Rect.unit (s := S4x1024) (k0_off3 c) S1x256.size (k0_off3_inb c))) (ld (I.ew c) (Rect.unit (s := S4x512x1024) ![1, 0, 256] S1x512x256.size inb_S4x512x1024_S1x512x256_1_0_256)), k0_pay20 (ld (I.x c) (Rect.unit (s := S1024x512) (k0_off1 c) S256x512.size (k0_off1_inb c))) (ld (cfM I c 4) (Rect.unit (s := S4x1024) (k0_off4 c) S1x256.size (k0_off4_inb c)))⟩) :
    ST I A c 5 0 0 4 [1, 0, 0, 0, 0, 0, 0, 0, 0, 0, 0, 0, 0, 0] ⊢ WP c (call A (k0_part12 (F := F)) c v46) Q := by
  rw [k0_part12_eq_skeleton]
  unfold call k0_part12_skel
  refine st_send0 I A c .a0 (by rfl) (by rfl) (dv6 c) (by rfl) (by rfl) ?_
  refine w_load c (fo0 I A c) ?_
  refine g_load c (fq I A c) (cov_cf c 0 (by decide) _ (off2 c)) ?_
  refine w_load c (fo3 I A c) ?_
  refine g_load c (fq I A c) (cov_cf c 1 (by decide) _ (off3 c)) ?_
  refine w_load c (fo3 I A c) ?_
  refine g_load c (fq I A c) (cov_cf c 2 (by decide) _ (off4 c)) ?_
  exact c_ret c (hk)

/-- Part 13 of the body. -/
theorem p13 {v19 : BitVec 32} {v46 : BitVec 32} {v97 : BitVec 32} {v415 : FVec F S256x512 .f32} {v436 : FVec F S256x256 .f32} {v443 : FVec F S256x512 .f32}
    {Q : (Σ' (v475 : FVec F S256x512 .f32), BitVec 32) → sProp 𝕄}
    (e0 : (k0_pay21 v415 v436 v443 (ld (I.ew c) (Rect.unit (s := S4x512x1024) ![2, 0, 256] S1x512x256.size inb_S4x512x1024_S1x512x256_2_0_256)) (ld (cfM I c 4) (Rect.unit (s := S4x1024) (k0_off5 c) S1x256.size (k0_off5_inb c))) (ld (I.ew c) (Rect.unit (s := S4x512x1024) ![3, 0, 256] S1x512x256.size inb_S4x512x1024_S1x512x256_3_0_256))) = evs I .a1 c 0)
    (hk : ∀ (u0 : BitVec 32), ST I A c 7 0 0 4 [2, 2, 0, 0, 0, 0, 0, 0, 0, 0, 0, 0, 0, 0] ⊢ Q ⟨k0_pay22 (ld (I.x c) (Rect.unit (s := S1024x512) (k0_off6 c) S256x512.size (k0_off6_inb c))), u0⟩) :
    ST I A c 6 0 0 4 [2, 0, 0, 0, 0, 0, 0, 0, 0, 0, 0, 0, 0, 0] ⊢ WP c (call A (k0_part13 (F := F)) c v19 v46 v97 v415 v436 v443) Q := by
  rw [k0_part13_eq_skeleton]
  unfold call k0_part13_skel
  refine w_load c (fo3 I A c) ?_
  refine g_load c (fq I A c) (cov_cf c 3 (by decide) _ (off5 c)) ?_
  refine w_load c (fo3 I A c) ?_
  refine s_dead c (fun _ => rfl) (fch_std0 I A c .a1 (by rfl) (by rfl) (by rfl)) ?_
  refine s_store c (fun _ => rfl) e0 (fch_st0 I A c .a1 (by rfl) (by rfl) (by rfl)) ?_
  refine st_send0 I A c .a1 (by rfl) (by rfl) (dv7 c) (by rfl) (by rfl) ?_
  refine w_load c (fo0 I A c) ?_
  exact c_ret c (hk _)

/-- Part 14 of the body. -/
theorem p14 {v19 : BitVec 32} {v475 : FVec F S256x512 .f32} {v476 : BitVec 32}
    {Q : (Σ' (v507 : FVec F S256x256 .f32), FVec F S256x512 .f32) → sProp 𝕄}
    (hk : ST I A c 7 0 0 4 [2, 2, 0, 0, 0, 0, 0, 0, 0, 0, 0, 0, 0, 0] ⊢ Q ⟨k0_pay23 v475 (ld (cfM I c 4) (Rect.unit (s := S4x1024) (k0_off7 c) S1x256.size (k0_off7_inb c))) (ld (I.ew c) (Rect.unit (s := S4x512x1024) ![0, 0, 512] S1x512x256.size inb_S4x512x1024_S1x512x256_0_0_512)) (ld (cfM I c 4) (Rect.unit (s := S4x1024) (k0_off8 c) S1x256.size (k0_off8_inb c))) (ld (I.ew c) (Rect.unit (s := S4x512x1024) ![1, 0, 512] S1x512x256.size inb_S4x512x1024_S1x512x256_1_0_512)) (ld (cfM I c 4) (Rect.unit (s := S4x1024) (k0_off9 c) S1x256.size (k0_off9_inb c))) (ld (I.ew c) (Rect.unit (s := S4x512x1024) ![2, 0, 512] S1x512x256.size inb_S4x512x1024_S1x512x256_2_0_512)), k0_pay24 v475 (ld (cfM I c 4) (Rect.unit (s := S4x1024) (k0_off10 c) S1x256.size (k0_off10_inb c)))⟩) :
    ST I A c 7 0 0 4 [2, 2, 0, 0, 0, 0, 0, 0, 0, 0, 0, 0, 0, 0] ⊢ WP c (call A (k0_part14 (F := F)) c v19 v475 v476) Q := by
  rw [k0_part14_eq_skeleton]
  unfold call k0_part14_skel
  refine g_load c (fq I A c) (cov_cf c 0 (by decide) _ (off7 c)) ?_
  refine w_load c (fo3 I A c) ?_
  refine g_load c (fq I A c) (cov_cf c 1 (by decide) _ (off8 c)) ?_
  refine w_load c (fo3 I A c) ?_
  refine g_load c (fq I A c) (cov_cf c 2 (by decide) _ (off9 c)) ?_
  refine w_load c (fo3 I A c) ?_
  refine g_load c (fq I A c) (cov_cf c 3 (by decide) _ (off10 c)) ?_
  exact c_ret c (hk)

/-- Part 15 of the body. -/
theorem p15 {v19 : BitVec 32} {v153 : BitVec 32} {v507 : FVec F S256x256 .f32} {v514 : FVec F S256x512 .f32}
    {Q : (Σ' (v535 : FVec F S256x512 .f32) (v545 : FVec F S256x256 .f32), Vec F S1x256 .f32) → sProp 𝕄}
    (e0 : (k0_pay25 v507 v514 (ld (I.ew c) (Rect.unit (s := S4x512x1024) ![3, 0, 512] S1x512x256.size inb_S4x512x1024_S1x512x256_3_0_512))) = evs I .a2 c 0)
    (hk : ST I A c 8 0 0 4 [2, 2, 2, 0, 0, 0, 0, 0, 0, 0, 0, 0, 0, 0] ⊢ Q ⟨k0_pay26 (ld (I.x c) (Rect.unit (s := S1024x512) (k0_off6 c) S256x512.size (k0_off6_inb c))), k0_pay27 (ld (I.x c) (Rect.unit (s := S1024x512) (k0_off6 c) S256x512.size (k0_off6_inb c))) (ld (cfM I c 4) (Rect.unit (s := S4x1024) (k0_off7 c) S1x256.size (k0_off7_inb c))) (ld (I.ew c) (Rect.unit (s := S4x512x1024) ![0, 0, 768] S1x512x256.size inb_S4x512x1024_S1x512x256_0_0_768)), (ld (cfM I c 4) (Rect.unit (s := S4x1024) (k0_off8 c) S1x256.size (k0_off8_inb c)))⟩) :
    ST I A c 7 0 0 4 [2, 2, 0, 0, 0, 0, 0, 0, 0, 0, 0, 0, 0, 0] ⊢ WP c (call A (k0_part15 (F := F)) c v19 v153 v507 v514) Q := by
  rw [k0_part15_eq_skeleton]
  unfold call k0_part15_skel
  refine w_load c (fo3 I A c) ?_
  refine s_dead c (fun _ => rfl) (fch_std0 I A c .a2 (by rfl) (by rfl) (by rfl)) ?_
  refine s_store c (fun _ => rfl) e0 (fch_st0 I A c .a2 (by rfl) (by rfl) (by rfl)) ?_
  refine st_send0 I A c .a2 (by rfl) (by rfl) (dv8 c) (by rfl) (by rfl) ?_
  refine w_load c (fo0 I A c) ?_
  refine g_load c (fq I A c) (cov_cf c 0 (by decide) _ (off7 c)) ?_
  refine w_load c (fo3 I A c) ?_
  refine g_load c (fq I A c) (cov_cf c 1 (by decide) _ (off8 c)) ?_
  exact c_ret c (hk)

/-- Part 16 of the body. -/
theorem p16 {v19 : BitVec 32} {v153 : BitVec 32} {v535 : FVec F S256x512 .f32} {v545 : FVec F S256x256 .f32} {v548 : Vec F S1x256 .f32}
    {Q : (Σ' (v582 : BitVec 32), BitVec 32) → sProp 𝕄}
    (e0 : (k0_pay28 v535 v545 v548 (ld (I.ew c) (Rect.unit (s := S4x512x1024) ![1, 0, 768] S1x512x256.size inb_S4x512x1024_S1x512x256_1_0_768)) (ld (cfM I c 4) (Rect.unit (s := S4x1024) (k0_off9 c) S1x256.size (k0_off9_inb c))) (ld (I.ew c) (Rect.unit (s := S4x512x1024) ![2, 0, 768] S1x512x256.size inb_S4x512x1024_S1x512x256_2_0_768)) (ld (cfM I c 4) (Rect.unit (s := S4x1024) (k0_off10 c) S1x256.size (k0_off10_inb c))) (ld (I.ew c) (Rect.unit (s := S4x512x1024) ![3, 0, 768] S1x512x256.size inb_S4x512x1024_S1x512x256_3_0_768))) = evs I .a3 c 0)
    (hk : ∀ (u0 : BitVec 32), ST I A c 8 0 0 4 [2, 2, 2, 1, 0, 0, 0, 0, 0, 0, 0, 0, 0, 0] ⊢ Q ⟨u0, 0#32⟩) :
    ST I A c 8 0 0 4 [2, 2, 2, 0, 0, 0, 0, 0, 0, 0, 0, 0, 0, 0] ⊢ WP c (call A (k0_part16 (F := F)) c v19 v153 v535 v545 v548) Q := by
  rw [k0_part16_eq_skeleton]
  unfold call k0_part16_skel
  refine w_load c (fo3 I A c) ?_
  refine g_load c (fq I A c) (cov_cf c 2 (by decide) _ (off9 c)) ?_
  refine w_load c (fo3 I A c) ?_
  refine g_load c (fq I A c) (cov_cf c 3 (by decide) _ (off10 c)) ?_
  refine w_load c (fo3 I A c) ?_
  refine s_dead c (fun _ => rfl) (fch_std0 I A c .a3 (by rfl) (by rfl) (by rfl)) ?_
  refine s_store c (fun _ => rfl) e0 (fch_st0 I A c .a3 (by rfl) (by rfl) (by rfl)) ?_
  exact c_ret c (hk _)

/-- Part 17 of the body. -/
theorem p17 {v46 : BitVec 32} {v582 : BitVec 32} {c0_i32_339 : BitVec 32}
    {Q : (Σ' (v603 : BitVec 32) (v607 : FVec F S256x512 .f32), FVec F S256x256 .f32) → sProp 𝕄}
    (hk : ∀ (u0 : BitVec 32), ST I A c 9 0 0 4 [2, 2, 2, 2, 0, 0, 0, 0, 0, 0, 0, 0, 0, 0] ⊢ Q ⟨u0, k0_pay29 (ld (I.x c) (Rect.unit (s := S1024x512) (k0_off11 c 0#32) S256x512.size (k0_off11_inb c 0))), k0_pay30 (ld (I.x c) (Rect.unit (s := S1024x512) (k0_off11 c 0#32) S256x512.size (k0_off11_inb c 0))) (ld (cfM I c 4) (Rect.unit (s := S4x1024) (k0_off12 c 0#32) S1x256.size (k0_off12_inb c 0))) (ld (I.ew c) (Rect.unit (s := S4x512x1024) ![0, 0, 0] S1x512x256.size inb_S4x512x1024_S1x512x256_0_0_0))⟩) :
    ST I A c 8 0 0 4 [2, 2, 2, 1, 0, 0, 0, 0, 0, 0, 0, 0, 0, 0] ⊢ WP c (call A (k0_part17 (F := F)) c v46 v582 c0_i32_339) Q := by
  rw [k0_part17_eq_skeleton]
  unfold call k0_part17_skel
  refine st_send0 I A c .a3 (by rfl) (by rfl) (dv9 c) (by rfl) (by rfl) ?_
  refine w_load c (fo0 I A c) ?_
  refine g_load c (fq I A c) (cov_cf c 0 (by decide) _ (off12_0 c)) ?_
  refine w_load c (fo3 I A c) ?_
  exact c_ret c (hk _)

/-- Part 18 of the body. -/
theorem p18 {v46 : BitVec 32} {v603 : BitVec 32} {v607 : FVec F S256x512 .f32} {v617 : FVec F S256x256 .f32}
    {Q : (Σ' (v650 : FVec F S256x256 .f32) (v654 : BitVec 32) (v655 : BitVec 32) (v656 : BitVec 1), BitVec 32) → sProp 𝕄}
    (hk : ∀ (u0 : BitVec 32) (u1 : BitVec 32) (u2 : BitVec 1), ST I A c 9 0 0 4 [2, 2, 2, 2, 0, 0, 0, 0, 0, 0, 0, 0, 0, 0] ⊢ Q ⟨k0_pay31 v607 v617 (ld (cfM I c 4) (Rect.unit (s := S4x1024) (k0_off13 c 0#32) S1x256.size (k0_off13_inb c 0))) (ld (I.ew c) (Rect.unit (s := S4x512x1024) ![1, 0, 0] S1x512x256.size inb_S4x512x1024_S1x512x256_1_0_0)) (ld (cfM I c 4) (Rect.unit (s := S4x1024) (k0_off14 c 0#32) S1x256.size (k0_off14_inb c 0))) (ld (I.ew c) (Rect.unit (s := S4x512x1024) ![2, 0, 0] S1x512x256.size inb_S4x512x1024_S1x512x256_2_0_0)) (ld (cfM I c 4) (Rect.unit (s := S4x1024) (k0_off15 c 0#32) S1x256.size (k0_off15_inb c 0))) (ld (I.ew c) (Rect.unit (s := S4x512x1024) ![3, 0, 0] S1x512x256.size inb_S4x512x1024_S1x512x256_3_0_0)), u0, u1, u2, 0#32⟩) :
    ST I A c 9 0 0 4 [2, 2, 2, 2, 0, 0, 0, 0, 0, 0, 0, 0, 0, 0] ⊢ WP c (call A (k0_part18 (F := F)) c v46 v603 v607 v617) Q := by
  rw [k0_part18_eq_skeleton]
  unfold call k0_part18_skel
  refine g_load c (fq I A c) (cov_cf c 1 (by decide) _ (off13_0 c)) ?_
  refine w_load c (fo3 I A c) ?_
  refine g_load c (fq I A c) (cov_cf c 2 (by decide) _ (off14_0 c)) ?_
  refine w_load c (fo3 I A c) ?_
  refine g_load c (fq I A c) (cov_cf c 3 (by decide) _ (off15_0 c)) ?_
  refine w_load c (fo3 I A c) ?_
  exact c_ret c (hk _ _ _)

/-- Part 19 of the body. -/
theorem p19 {v654 : BitVec 32} {v655 : BitVec 32} {v656 : BitVec 1} {c0_i32_384 : BitVec 32}
    {Q : (Σ' (v662 : BitVec 32) (v666 : FVec F S256x512 .f32) (v687 : FVec F S256x256 .f32) (v694 : FVec F S256x512 .f32), FVec F S512x256 .f32) → sProp 𝕄}
    (hk : ∀ (u0 : BitVec 32), ST I A c 9 0 0 4 [2, 2, 2, 2, 0, 0, 0, 0, 0, 0, 0, 0, 0, 0] ⊢ Q ⟨u0, k0_pay32 (ld (I.x c) (Rect.unit (s := S1024x512) (k0_off11 c 0#32) S256x512.size (k0_off11_inb c 0))), k0_pay33 (ld (I.x c) (Rect.unit (s := S1024x512) (k0_off11 c 0#32) S256x512.size (k0_off11_inb c 0))) (ld (cfM I c 4) (Rect.unit (s := S4x1024) (k0_off12 c 0#32) S1x256.size (k0_off12_inb c 0))) (ld (I.ew c) (Rect.unit (s := S4x512x1024) ![0, 0, 256] S1x512x256.size inb_S4x512x1024_S1x512x256_0_0_256)) (ld (cfM I c 4) (Rect.unit (s := S4x1024) (k0_off13 c 0#32) S1x256.size (k0_off13_inb c 0))) (ld (I.ew c) (Rect.unit (s := S4x512x1024) ![1, 0, 256] S1x512x256.size inb_S4x512x1024_S1x512x256_1_0_256)), k0_pay34 (ld (I.x c) (Rect.unit (s := S1024x512) (k0_off11 c 0#32) S256x512.size (k0_off11_inb c 0))) (ld (cfM I c 4) (Rect.unit (s := S4x1024) (k0_off14 c 0#32) S1x256.size (k0_off14_inb c 0))), k0_pay35 (ld (I.ew c) (Rect.unit (s := S4x512x1024) ![2, 0, 256] S1x512x256.size inb_S4x512x1024_S1x512x256_2_0_256))⟩) :
    ST I A c 9 0 0 4 [2, 2, 2, 2, 0, 0, 0, 0, 0, 0, 0, 0, 0, 0] ⊢ WP c (call A (k0_part19 (F := F)) c v654 v655 v656 c0_i32_384) Q := by
  rw [k0_part19_eq_skeleton]
  unfold call k0_part19_skel
  refine w_load c (fo0 I A c) ?_
  refine g_load c (fq I A c) (cov_cf c 0 (by decide) _ (off12_0 c)) ?_
  refine w_load c (fo3 I A c) ?_
  refine g_load c (fq I A c) (cov_cf c 1 (by decide) _ (off13_0 c)) ?_
  refine w_load c (fo3 I A c) ?_
  refine g_load c (fq I A c) (cov_cf c 2 (by decide) _ (off14_0 c)) ?_
  refine w_load c (fo3 I A c) ?_
  exact c_ret c (hk _)

/-- Part 20 of the body. -/
theorem p20 {v19 : BitVec 32} {v662 : BitVec 32} {v666 : FVec F S256x512 .f32} {v687 : FVec F S256x256 .f32} {v694 : FVec F S256x512 .f32} {v696 : FVec F S512x256 .f32}
    {Q : (Σ' (v709 : FVec F S256x256 .f32) (v721 : BitVec 32) (v725 : FVec F S256x512 .f32) (v732 : FVec F S256x512 .f32), FVec F S512x256 .f32) → sProp 𝕄}
    (hk : ∀ (u0 : BitVec 32), ST I A c 9 0 0 4 [2, 2, 2, 2, 0, 0, 0, 0, 0, 0, 0, 0, 0, 0] ⊢ Q ⟨k0_pay36 v666 v687 v694 v696 (ld (cfM I c 4) (Rect.unit (s := S4x1024) (k0_off15 c 0#32) S1x256.size (k0_off15_inb c 0))) (ld (I.ew c) (Rect.unit (s := S4x512x1024) ![3, 0, 256] S1x512x256.size inb_S4x512x1024_S1x512x256_3_0_256)), u0, k0_pay37 (ld (I.x c) (Rect.unit (s := S1024x512) (k0_off16 c 0#32) S256x512.size (k0_off16_inb c 0))), k0_pay38 (ld (I.x c) (Rect.unit (s := S1024x512) (k0_off16 c 0#32) S256x512.size (k0_off16_inb c 0))) (ld (cfM I c 4) (Rect.unit (s := S4x1024) (k0_off17 c 0#32) S1x256.size (k0_off17_inb c 0))), k0_pay39 (ld (I.ew c) (Rect.unit (s := S4x512x1024) ![0, 0, 512] S1x512x256.size inb_S4x512x1024_S1x512x256_0_0_512))⟩) :
    ST I A c 9 0 0 4 [2, 2, 2, 2, 0, 0, 0, 0, 0, 0, 0, 0, 0, 0] ⊢ WP c (call A (k0_part20 (F := F)) c v19 v662 v666 v687 v694 v696) Q := by
  rw [k0_part20_eq_skeleton]
  unfold call k0_part20_skel
  refine g_load c (fq I A c) (cov_cf c 3 (by decide) _ (off15_0 c)) ?_
  refine w_load c (fo3 I A c) ?_
  refine w_load c (fo0 I A c) ?_
  refine g_load c (fq I A c) (cov_cf c 0 (by decide) _ (off17_0 c)) ?_
  refine w_load c (fo3 I A c) ?_
  exact c_ret c (hk _)

/-- Part 21 of the body. -/
theorem p21 {v19 : BitVec 32} {v721 : BitVec 32} {v725 : FVec F S256x512 .f32} {v732 : FVec F S256x512 .f32} {v734 : FVec F S512x256 .f32}
    {Q : (Σ' (v768 : FVec F S256x256 .f32) (v770 : BitVec 32) (c4_i32_448 : BitVec 32), BitVec 1) → sProp 𝕄}
    (hk : ∀ (u0 : BitVec 32) (u1 : BitVec 1), ST I A c 9 0 0 4 [2, 2, 2, 2, 0, 0, 0, 0, 0, 0, 0, 0, 0, 0] ⊢ Q ⟨k0_pay40 v725 v732 v734 (ld (cfM I c 4) (Rect.unit (s := S4x1024) (k0_off18 c 0#32) S1x256.size (k0_off18_inb c 0))) (ld (I.ew c) (Rect.unit (s := S4x512x1024) ![1, 0, 512] S1x512x256.size inb_S4x512x1024_S1x512x256_1_0_512)) (ld (cfM I c 4) (Rect.unit (s := S4x1024) (k0_off19 c 0#32) S1x256.size (k0_off19_inb c 0))) (ld (I.ew c) (Rect.unit (s := S4x512x1024) ![2, 0, 512] S1x512x256.size inb_S4x512x1024_S1x512x256_2_0_512)) (ld (cfM I c 4) (Rect.unit (s := S4x1024) (k0_off20 c 0#32) S1x256.size (k0_off20_inb c 0))) (ld (I.ew c) (Rect.unit (s := S4x512x1024) ![3, 0, 512] S1x512x256.size inb_S4x512x1024_S1x512x256_3_0_512)), u0, 4#32, u1⟩) :
    ST I A c 9 0 0 4 [2, 2, 2, 2, 0, 0, 0, 0, 0, 0, 0, 0, 0, 0] ⊢ WP c (call A (k0_part21 (F := F)) c v19 v721 v725 v732 v734) Q := by
  rw [k0_part21_eq_skeleton]
  unfold call k0_part21_skel
  refine g_load c (fq I A c) (cov_cf c 1 (by decide) _ (off18_0 c)) ?_
  refine w_load c (fo3 I A c) ?_
  refine g_load c (fq I A c) (cov_cf c 2 (by decide) _ (off19_0 c)) ?_
  refine w_load c (fo3 I A c) ?_
  refine g_load c (fq I A c) (cov_cf c 3 (by decide) _ (off20_0 c)) ?_
  refine w_load c (fo3 I A c) ?_
  exact c_ret c (hk _ _)

/-- Part 22 of the body. -/
theorem p22 {v770 : BitVec 32} {c4_i32_448 : BitVec 32} {v771 : BitVec 1}
    {Q : (Σ' (v780 : BitVec 32) (v784 : FVec F S256x512 .f32) (v805 : FVec F S256x256 .f32), FVec F S256x512 .f32) → sProp 𝕄}
    (hk : ∀ (u0 : BitVec 32), ST I A c 9 0 0 4 [2, 2, 2, 2, 0, 0, 0, 0, 0, 0, 0, 0, 0, 0] ⊢ Q ⟨u0, k0_pay41 (ld (I.x c) (Rect.unit (s := S1024x512) (k0_off16 c 0#32) S256x512.size (k0_off16_inb c 0))), k0_pay42 (ld (I.x c) (Rect.unit (s := S1024x512) (k0_off16 c 0#32) S256x512.size (k0_off16_inb c 0))) (ld (cfM I c 4) (Rect.unit (s := S4x1024) (k0_off17 c 0#32) S1x256.size (k0_off17_inb c 0))) (ld (I.ew c) (Rect.unit (s := S4x512x1024) ![0, 0, 768] S1x512x256.size inb_S4x512x1024_S1x512x256_0_0_768)) (ld (cfM I c 4) (Rect.unit (s := S4x1024) (k0_off18 c 0#32) S1x256.size (k0_off18_inb c 0))) (ld (I.ew c) (Rect.unit (s := S4x512x1024) ![1, 0, 768] S1x512x256.size inb_S4x512x1024_S1x512x256_1_0_768)), k0_pay43 (ld (cfM I c 4) (Rect.unit (s := S4x1024) (k0_off19 c 0#32) S1x256.size (k0_off19_inb c 0)))⟩) :
    ST I A c 9 0 0 4 [2, 2, 2, 2, 0, 0, 0, 0, 0, 0, 0, 0, 0, 0] ⊢ WP c (call A (k0_part22 (F := F)) c v770 c4_i32_448 v771) Q := by
  rw [k0_part22_eq_skeleton]
  unfold call k0_part22_skel
  refine w_load c (fo0 I A c) ?_
  refine g_load c (fq I A c) (cov_cf c 0 (by decide) _ (off17_0 c)) ?_
  refine w_load c (fo3 I A c) ?_
  refine g_load c (fq I A c) (cov_cf c 1 (by decide) _ (off18_0 c)) ?_
  refine w_load c (fo3 I A c) ?_
  refine g_load c (fq I A c) (cov_cf c 2 (by decide) _ (off19_0 c)) ?_
  exact c_ret c (hk _)

/-- Part 23 of the body. -/
theorem p23 {v97 : BitVec 32} {v780 : BitVec 32} {v784 : FVec F S256x512 .f32} {v805 : FVec F S256x256 .f32} {v811 : FVec F S256x512 .f32}
    {Q : FVec F S256x256 .f32 → sProp 𝕄}
    (hk : ST I A c 9 0 0 4 [3, 2, 2, 2, 0, 0, 0, 0, 0, 0, 0, 0, 0, 0] ⊢ Q (k0_pay44 v784 v805 v811 (ld (I.ew c) (Rect.unit (s := S4x512x1024) ![2, 0, 768] S1x512x256.size inb_S4x512x1024_S1x512x256_2_0_768)) (ld (cfM I c 4) (Rect.unit (s := S4x1024) (k0_off20 c 0#32) S1x256.size (k0_off20_inb c 0))) (ld (I.ew c) (Rect.unit (s := S4x512x1024) ![3, 0, 768] S1x512x256.size inb_S4x512x1024_S1x512x256_3_0_768)))) :
    ST I A c 9 0 0 4 [2, 2, 2, 2, 0, 0, 0, 0, 0, 0, 0, 0, 0, 0] ⊢ WP c (call A (k0_part23 (F := F)) c v97 v780 v784 v805 v811) Q := by
  rw [k0_part23_eq_skeleton]
  unfold call k0_part23_skel
  refine w_load c (fo3 I A c) ?_
  refine g_load c (fq I A c) (cov_cf c 3 (by decide) _ (off20_0 c)) ?_
  refine w_load c (fo3 I A c) ?_
  refine st_waitS0 I A c .a0 (by rfl) (by rfl) (by rfl) (by rfl) ?_
  exact c_ret c (hk)

/-- Part 24 of the body. -/
theorem p24 {v97 : BitVec 32} {v125 : BitVec 32} {v650 : FVec F S256x256 .f32}
    {Q : PUnit → sProp 𝕄}
    (e0 : (k0_pay45 v650 (evs I .a0 (prv .a0 c) 0)) = evs I .a0 c 1)
    (hk : ST I A c 11 0 0 4 [7, 3, 2, 2, 0, 0, 0, 0, 0, 0, 0, 0, 0, 0] ⊢ Q ⟨⟩) :
    ST I A c 9 0 0 4 [3, 2, 2, 2, 0, 0, 0, 0, 0, 0, 0, 0, 0, 0] ⊢ WP c (call A (k0_part24 (F := F)) c v97 v125 v650) Q := by
  rw [k0_part24_eq_skeleton]
  unfold call k0_part24_skel
  refine st_waitR0 I A c .a0 (by rfl) (by decide) (by decide) (by rfl) (by rfl) (by rfl) ?_
  refine s_load c (fun _ => rfl) (fch_cm4 I A c .a0 (by rfl) (by rfl) (by rfl)) ?_
  refine s_dead c (fun _ => rfl) (fch_std4 I A c .a0 (by rfl) (by rfl) (by rfl)) ?_
  refine s_store c (fun _ => rfl) e0 (fch_st1 I A c .a0 (by rfl) (by rfl) (by rfl)) ?_
  refine st_send1 I A c .a0 (by rfl) (by rfl) (dv10 c) (by rfl) (by rfl) ?_
  refine st_sigC I A c .a0 (by rfl) (by rfl) (by rfl) (dv11 c) (by rfl) (by rfl) ?_
  refine st_waitS0 I A c .a1 (by rfl) (by rfl) (by rfl) (by rfl) ?_
  exact c_ret c (hk)

/-- Part 25 of the body. -/
theorem p25 {v97 : BitVec 32} {v125 : BitVec 32} {v709 : FVec F S256x256 .f32}
    {Q : PUnit → sProp 𝕄}
    (e0 : (k0_pay46 v709 (evs I .a1 (prv .a1 c) 0)) = evs I .a1 c 1)
    (hk : ST I A c 13 0 0 4 [7, 7, 2, 2, 0, 0, 0, 0, 0, 0, 0, 0, 0, 0] ⊢ Q ⟨⟩) :
    ST I A c 11 0 0 4 [7, 3, 2, 2, 0, 0, 0, 0, 0, 0, 0, 0, 0, 0] ⊢ WP c (call A (k0_part25 (F := F)) c v97 v125 v709) Q := by
  rw [k0_part25_eq_skeleton]
  unfold call k0_part25_skel
  refine st_waitR0 I A c .a1 (by rfl) (by decide) (by decide) (by rfl) (by rfl) (by rfl) ?_
  refine s_load c (fun _ => rfl) (fch_cm4 I A c .a1 (by rfl) (by rfl) (by rfl)) ?_
  refine s_dead c (fun _ => rfl) (fch_std4 I A c .a1 (by rfl) (by rfl) (by rfl)) ?_
  refine s_store c (fun _ => rfl) e0 (fch_st1 I A c .a1 (by rfl) (by rfl) (by rfl)) ?_
  refine st_send1 I A c .a1 (by rfl) (by rfl) (dv12 c) (by rfl) (by rfl) ?_
  refine st_sigC I A c .a1 (by rfl) (by rfl) (by rfl) (dv13 c) (by rfl) (by rfl) ?_
  exact c_ret c (hk)

/-- Part 26 of the body. -/
theorem p26 {v153 : BitVec 32} {v768 : FVec F S256x256 .f32}
    {Q : PUnit → sProp 𝕄}
    (e0 : (k0_pay47 v768 (evs I .a2 (prv .a2 c) 0)) = evs I .a2 c 1)
    (hk : ST I A c 13 0 0 4 [7, 7, 5, 2, 0, 0, 0, 0, 0, 0, 0, 0, 0, 0] ⊢ Q ⟨⟩) :
    ST I A c 13 0 0 4 [7, 7, 2, 2, 0, 0, 0, 0, 0, 0, 0, 0, 0, 0] ⊢ WP c (call A (k0_part26 (F := F)) v153 v768) Q := by
  rw [k0_part26_eq_skeleton]
  unfold call k0_part26_skel
  refine st_waitS0 I A c .a2 (by rfl) (by rfl) (by rfl) (by rfl) ?_
  refine st_waitR0 I A c .a2 (by rfl) (by decide) (by decide) (by rfl) (by rfl) (by rfl) ?_
  refine s_load c (fun _ => rfl) (fch_cm4 I A c .a2 (by rfl) (by rfl) (by rfl)) ?_
  refine s_dead c (fun _ => rfl) (fch_std4 I A c .a2 (by rfl) (by rfl) (by rfl)) ?_
  refine s_store c (fun _ => rfl) e0 (fch_st1 I A c .a2 (by rfl) (by rfl) (by rfl)) ?_
  exact c_ret c (hk)

/-- Part 27 of the body. -/
theorem p27 {v153 : BitVec 32} {v181 : BitVec 32} {v827 : FVec F S256x256 .f32}
    {Q : PUnit → sProp 𝕄}
    (e0 : (k0_pay48 v827 (evs I .a3 (prv .a3 c) 0)) = evs I .a3 c 1)
    (hk : ST I A c 15 0 0 4 [7, 7, 7, 5, 0, 0, 0, 0, 0, 0, 0, 0, 0, 0] ⊢ Q ⟨⟩) :
    ST I A c 13 0 0 4 [7, 7, 5, 2, 0, 0, 0, 0, 0, 0, 0, 0, 0, 0] ⊢ WP c (call A (k0_part27 (F := F)) c v153 v181 v827) Q := by
  rw [k0_part27_eq_skeleton]
  unfold call k0_part27_skel
  refine st_send1 I A c .a2 (by rfl) (by rfl) (dv14 c) (by rfl) (by rfl) ?_
  refine st_sigC I A c .a2 (by rfl) (by rfl) (by rfl) (dv15 c) (by rfl) (by rfl) ?_
  refine st_waitS0 I A c .a3 (by rfl) (by rfl) (by rfl) (by rfl) ?_
  refine st_waitR0 I A c .a3 (by rfl) (by decide) (by decide) (by rfl) (by rfl) (by rfl) ?_
  refine s_load c (fun _ => rfl) (fch_cm4 I A c .a3 (by rfl) (by rfl) (by rfl)) ?_
  refine s_dead c (fun _ => rfl) (fch_std4 I A c .a3 (by rfl) (by rfl) (by rfl)) ?_
  refine s_store c (fun _ => rfl) e0 (fch_st1 I A c .a3 (by rfl) (by rfl) (by rfl)) ?_
  exact c_ret c (hk)

/-- Part 28 of the body. -/
theorem p28 {v46 : BitVec 32} {v153 : BitVec 32} {v181 : BitVec 32}
    {Q : (Σ' (v967 : BitVec 32) (v971 : FVec F S256x512 .f32), FVec F S256x512 .f32) → sProp 𝕄}
    (hk : ∀ (u0 : BitVec 32), ST I A c 17 0 0 4 [7, 7, 7, 7, 0, 0, 0, 0, 0, 0, 0, 0, 0, 0] ⊢ Q ⟨u0, k0_pay49 (ld (I.x c) (Rect.unit (s := S1024x512) (k0_off11 c 1#32) S256x512.size (k0_off11_inb c 1))), k0_pay50 (ld (cfM I c 4) (Rect.unit (s := S4x1024) (k0_off12 c 1#32) S1x256.size (k0_off12_inb c 1)))⟩) :
    ST I A c 15 0 0 4 [7, 7, 7, 5, 0, 0, 0, 0, 0, 0, 0, 0, 0, 0] ⊢ WP c (call A (k0_part28 (F := F)) c v46 v153 v181) Q := by
  rw [k0_part28_eq_skeleton]
  unfold call k0_part28_skel
  refine st_send1 I A c .a3 (by rfl) (by rfl) (dv16 c) (by rfl) (by rfl) ?_
  refine st_sigC I A c .a3 (by rfl) (by rfl) (by rfl) (dv17 c) (by rfl) (by rfl) ?_
  refine w_load c (fo0 I A c) ?_
  refine g_load c (fq I A c) (cov_cf c 0 (by decide) _ (off12_1 c)) ?_
  exact c_ret c (hk _)

/-- Part 29 of the body. -/
theorem p29 {v967 : BitVec 32} {v971 : FVec F S256x512 .f32} {v977 : FVec F S256x512 .f32}
    {Q : (Σ' (v1014 : FVec F S256x256 .f32), BitVec 32) → sProp 𝕄}
    (hk : ST I A c 17 0 0 4 [7, 7, 7, 7, 0, 0, 0, 0, 0, 0, 0, 0, 0, 0] ⊢ Q ⟨k0_pay51 v971 v977 (ld (I.ew c) (Rect.unit (s := S4x512x1024) ![0, 0, 0] S1x512x256.size inb_S4x512x1024_S1x512x256_0_0_0)) (ld (cfM I c 4) (Rect.unit (s := S4x1024) (k0_off13 c 1#32) S1x256.size (k0_off13_inb c 1))) (ld (I.ew c) (Rect.unit (s := S4x512x1024) ![1, 0, 0] S1x512x256.size inb_S4x512x1024_S1x512x256_1_0_0)) (ld (cfM I c 4) (Rect.unit (s := S4x1024) (k0_off14 c 1#32) S1x256.size (k0_off14_inb c 1))) (ld (I.ew c) (Rect.unit (s := S4x512x1024) ![2, 0, 0] S1x512x256.size inb_S4x512x1024_S1x512x256_2_0_0)) (ld (cfM I c 4) (Rect.unit (s := S4x1024) (k0_off15 c 1#32) S1x256.size (k0_off15_inb c 1))) (ld (I.ew c) (Rect.unit (s := S4x512x1024) ![3, 0, 0] S1x512x256.size inb_S4x512x1024_S1x512x256_3_0_0)), 1#32⟩) :
    ST I A c 17 0 0 4 [7, 7, 7, 7, 0, 0, 0, 0, 0, 0, 0, 0, 0, 0] ⊢ WP c (call A (k0_part29 (F := F)) c v967 v971 v977) Q := by
  rw [k0_part29_eq_skeleton]
  unfold call k0_part29_skel
  refine w_load c (fo3 I A c) ?_
  refine g_load c (fq I A c) (cov_cf c 1 (by decide) _ (off13_1 c)) ?_
  refine w_load c (fo3 I A c) ?_
  refine g_load c (fq I A c) (cov_cf c 2 (by decide) _ (off14_1 c)) ?_
  refine w_load c (fo3 I A c) ?_
  refine g_load c (fq I A c) (cov_cf c 3 (by decide) _ (off15_1 c)) ?_
  refine w_load c (fo3 I A c) ?_
  exact c_ret c (hk)

end Cert.KernelIdeal.Moe

end
-- ==== Proof.Pt2.lean ====
/-
The parts 30 to 44 of the body, each as a step of the walk.
-/
module

public import proofs.«01_k».proof.Proof.Cov

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok launchOf)
open Idealize.ShloMosaic.TalkSites Idealize.ShloMosaic.SiteBlocks

variable {F : FTy → Type} [FloatOps F]

local notation "𝕄" => MT nD τ sig ℕ (Elt F) ℕ UU ℕ

variable (I : Inp F) (A : Ins) (c : Dev nD)

set_option synthInstance.maxSize 4096
set_option maxRecDepth 65536

/-- Part 30 of the body. -/
theorem p30 {v46 : BitVec 32} {c1_i32_666 : BitVec 32}
    {Q : (Σ' (v1026 : BitVec 32) (v1030 : FVec F S256x512 .f32) (v1051 : FVec F S256x256 .f32), BitVec 32) → sProp 𝕄}
    (hk : ∀ (u0 : BitVec 32) (u1 : BitVec 32), ST I A c 17 0 0 4 [7, 7, 7, 7, 0, 0, 0, 0, 0, 0, 0, 0, 0, 0] ⊢ Q ⟨u0, k0_pay52 (ld (I.x c) (Rect.unit (s := S1024x512) (k0_off11 c 1#32) S256x512.size (k0_off11_inb c 1))), k0_pay53 (ld (I.x c) (Rect.unit (s := S1024x512) (k0_off11 c 1#32) S256x512.size (k0_off11_inb c 1))) (ld (cfM I c 4) (Rect.unit (s := S4x1024) (k0_off12 c 1#32) S1x256.size (k0_off12_inb c 1))) (ld (I.ew c) (Rect.unit (s := S4x512x1024) ![0, 0, 256] S1x512x256.size inb_S4x512x1024_S1x512x256_0_0_256)) (ld (cfM I c 4) (Rect.unit (s := S4x1024) (k0_off13 c 1#32) S1x256.size (k0_off13_inb c 1))) (ld (I.ew c) (Rect.unit (s := S4x512x1024) ![1, 0, 256] S1x512x256.size inb_S4x512x1024_S1x512x256_1_0_256)), u1⟩) :
    ST I A c 17 0 0 4 [7, 7, 7, 7, 0, 0, 0, 0, 0, 0, 0, 0, 0, 0] ⊢ WP c (call A (k0_part30 (F := F)) c v46 c1_i32_666) Q := by
  rw [k0_part30_eq_skeleton]
  unfold call k0_part30_skel
  refine w_load c (fo0 I A c) ?_
  refine g_load c (fq I A c) (cov_cf c 0 (by decide) _ (off12_1 c)) ?_
  refine w_load c (fo3 I A c) ?_
  refine g_load c (fq I A c) (cov_cf c 1 (by decide) _ (off13_1 c)) ?_
  refine w_load c (fo3 I A c) ?_
  exact c_ret c (hk _ _)

/-- Part 31 of the body. -/
theorem p31 {v19 : BitVec 32} {v1026 : BitVec 32} {v1030 : FVec F S256x512 .f32} {v1051 : FVec F S256x256 .f32} {v1052 : BitVec 32}
    {Q : (Σ' (v1073 : FVec F S256x256 .f32) (v1085 : BitVec 32) (v1089 : FVec F S256x512 .f32), BitVec 32) → sProp 𝕄}
    (hk : ∀ (u0 : BitVec 32) (u1 : BitVec 32), ST I A c 17 0 0 4 [7, 7, 7, 7, 0, 0, 0, 0, 0, 0, 0, 0, 0, 0] ⊢ Q ⟨k0_pay54 v1030 v1051 (ld (cfM I c 4) (Rect.unit (s := S4x1024) (k0_off14 c 1#32) S1x256.size (k0_off14_inb c 1))) (ld (I.ew c) (Rect.unit (s := S4x512x1024) ![2, 0, 256] S1x512x256.size inb_S4x512x1024_S1x512x256_2_0_256)) (ld (cfM I c 4) (Rect.unit (s := S4x1024) (k0_off15 c 1#32) S1x256.size (k0_off15_inb c 1))) (ld (I.ew c) (Rect.unit (s := S4x512x1024) ![3, 0, 256] S1x512x256.size inb_S4x512x1024_S1x512x256_3_0_256)), u0, k0_pay55 (ld (I.x c) (Rect.unit (s := S1024x512) (k0_off16 c 1#32) S256x512.size (k0_off16_inb c 1))), u1⟩) :
    ST I A c 17 0 0 4 [7, 7, 7, 7, 0, 0, 0, 0, 0, 0, 0, 0, 0, 0] ⊢ WP c (call A (k0_part31 (F := F)) c v19 v1026 v1030 v1051 v1052) Q := by
  rw [k0_part31_eq_skeleton]
  unfold call k0_part31_skel
  refine g_load c (fq I A c) (cov_cf c 2 (by decide) _ (off14_1 c)) ?_
  refine w_load c (fo3 I A c) ?_
  refine g_load c (fq I A c) (cov_cf c 3 (by decide) _ (off15_1 c)) ?_
  refine w_load c (fo3 I A c) ?_
  refine w_load c (fo0 I A c) ?_
  exact c_ret c (hk _ _)

/-- Part 32 of the body. -/
theorem p32 {v1085 : BitVec 32} {v1089 : FVec F S256x512 .f32} {v1090 : BitVec 32}
    {Q : (Σ' (v1121 : FVec F S256x256 .f32), FVec F S256x512 .f32) → sProp 𝕄}
    (hk : ST I A c 17 0 0 4 [7, 7, 7, 7, 0, 0, 0, 0, 0, 0, 0, 0, 0, 0] ⊢ Q ⟨k0_pay56 v1089 (ld (cfM I c 4) (Rect.unit (s := S4x1024) (k0_off17 c 1#32) S1x256.size (k0_off17_inb c 1))) (ld (I.ew c) (Rect.unit (s := S4x512x1024) ![0, 0, 512] S1x512x256.size inb_S4x512x1024_S1x512x256_0_0_512)) (ld (cfM I c 4) (Rect.unit (s := S4x1024) (k0_off18 c 1#32) S1x256.size (k0_off18_inb c 1))) (ld (I.ew c) (Rect.unit (s := S4x512x1024) ![1, 0, 512] S1x512x256.size inb_S4x512x1024_S1x512x256_1_0_512)) (ld (cfM I c 4) (Rect.unit (s := S4x1024) (k0_off19 c 1#32) S1x256.size (k0_off19_inb c 1))) (ld (I.ew c) (Rect.unit (s := S4x512x1024) ![2, 0, 512] S1x512x256.size inb_S4x512x1024_S1x512x256_2_0_512)), k0_pay57 v1089 (ld (cfM I c 4) (Rect.unit (s := S4x1024) (k0_off20 c 1#32) S1x256.size (k0_off20_inb c 1)))⟩) :
    ST I A c 17 0 0 4 [7, 7, 7, 7, 0, 0, 0, 0, 0, 0, 0, 0, 0, 0] ⊢ WP c (call A (k0_part32 (F := F)) c v1085 v1089 v1090) Q := by
  rw [k0_part32_eq_skeleton]
  unfold call k0_part32_skel
  refine g_load c (fq I A c) (cov_cf c 0 (by decide) _ (off17_1 c)) ?_
  refine w_load c (fo3 I A c) ?_
  refine g_load c (fq I A c) (cov_cf c 1 (by decide) _ (off18_1 c)) ?_
  refine w_load c (fo3 I A c) ?_
  refine g_load c (fq I A c) (cov_cf c 2 (by decide) _ (off19_1 c)) ?_
  refine w_load c (fo3 I A c) ?_
  refine g_load c (fq I A c) (cov_cf c 3 (by decide) _ (off20_1 c)) ?_
  exact c_ret c (hk)

/-- Part 33 of the body. -/
theorem p33 {v19 : BitVec 32} {v1121 : FVec F S256x256 .f32} {v1128 : FVec F S256x512 .f32}
    {Q : (Σ' (v1132 : FVec F S256x256 .f32) (v1144 : BitVec 32) (v1148 : FVec F S256x512 .f32) (v1158 : FVec F S256x256 .f32) (v1165 : FVec F S256x512 .f32), Vec F S1x512x256 .f32) → sProp 𝕄}
    (hk : ∀ (u0 : BitVec 32), ST I A c 17 0 0 4 [7, 7, 7, 7, 0, 0, 0, 0, 0, 0, 0, 0, 0, 0] ⊢ Q ⟨k0_pay58 v1121 v1128 (ld (I.ew c) (Rect.unit (s := S4x512x1024) ![3, 0, 512] S1x512x256.size inb_S4x512x1024_S1x512x256_3_0_512)), u0, k0_pay59 (ld (I.x c) (Rect.unit (s := S1024x512) (k0_off16 c 1#32) S256x512.size (k0_off16_inb c 1))), k0_pay60 (ld (I.x c) (Rect.unit (s := S1024x512) (k0_off16 c 1#32) S256x512.size (k0_off16_inb c 1))) (ld (cfM I c 4) (Rect.unit (s := S4x1024) (k0_off17 c 1#32) S1x256.size (k0_off17_inb c 1))) (ld (I.ew c) (Rect.unit (s := S4x512x1024) ![0, 0, 768] S1x512x256.size inb_S4x512x1024_S1x512x256_0_0_768)), k0_pay61 (ld (I.x c) (Rect.unit (s := S1024x512) (k0_off16 c 1#32) S256x512.size (k0_off16_inb c 1))) (ld (cfM I c 4) (Rect.unit (s := S4x1024) (k0_off18 c 1#32) S1x256.size (k0_off18_inb c 1))), (ld (I.ew c) (Rect.unit (s := S4x512x1024) ![1, 0, 768] S1x512x256.size inb_S4x512x1024_S1x512x256_1_0_768))⟩) :
    ST I A c 17 0 0 4 [7, 7, 7, 7, 0, 0, 0, 0, 0, 0, 0, 0, 0, 0] ⊢ WP c (call A (k0_part33 (F := F)) c v19 v1121 v1128) Q := by
  rw [k0_part33_eq_skeleton]
  unfold call k0_part33_skel
  refine w_load c (fo3 I A c) ?_
  refine w_load c (fo0 I A c) ?_
  refine g_load c (fq I A c) (cov_cf c 0 (by decide) _ (off17_1 c)) ?_
  refine w_load c (fo3 I A c) ?_
  refine g_load c (fq I A c) (cov_cf c 1 (by decide) _ (off18_1 c)) ?_
  refine w_load c (fo3 I A c) ?_
  exact c_ret c (hk _)

/-- Part 34 of the body. -/
theorem p34 {v97 : BitVec 32} {v1144 : BitVec 32} {v1148 : FVec F S256x512 .f32} {v1158 : FVec F S256x256 .f32} {v1165 : FVec F S256x512 .f32} {v1166 : Vec F S1x512x256 .f32}
    {Q : (Σ' (v1191 : FVec F S256x256 .f32), BitVec 32) → sProp 𝕄}
    (hk : ∀ (u0 : BitVec 32), ST I A c 17 0 0 4 [8, 7, 7, 7, 0, 0, 0, 0, 0, 0, 0, 0, 0, 0] ⊢ Q ⟨k0_pay62 v1148 v1158 v1165 v1166 (ld (cfM I c 4) (Rect.unit (s := S4x1024) (k0_off19 c 1#32) S1x256.size (k0_off19_inb c 1))) (ld (I.ew c) (Rect.unit (s := S4x512x1024) ![2, 0, 768] S1x512x256.size inb_S4x512x1024_S1x512x256_2_0_768)) (ld (cfM I c 4) (Rect.unit (s := S4x1024) (k0_off20 c 1#32) S1x256.size (k0_off20_inb c 1))) (ld (I.ew c) (Rect.unit (s := S4x512x1024) ![3, 0, 768] S1x512x256.size inb_S4x512x1024_S1x512x256_3_0_768)), u0⟩) :
    ST I A c 17 0 0 4 [7, 7, 7, 7, 0, 0, 0, 0, 0, 0, 0, 0, 0, 0] ⊢ WP c (call A (k0_part34 (F := F)) c v97 v1144 v1148 v1158 v1165 v1166) Q := by
  rw [k0_part34_eq_skeleton]
  unfold call k0_part34_skel
  refine g_load c (fq I A c) (cov_cf c 2 (by decide) _ (off19_1 c)) ?_
  refine w_load c (fo3 I A c) ?_
  refine g_load c (fq I A c) (cov_cf c 3 (by decide) _ (off20_1 c)) ?_
  refine w_load c (fo3 I A c) ?_
  refine st_waitS1 I A c .a0 (by rfl) (by rfl) (by rfl) (by rfl) ?_
  exact c_ret c (hk _)

/-- Part 35 of the body. -/
theorem p35 {v97 : BitVec 32} {v1014 : FVec F S256x256 .f32} {v1198 : BitVec 32}
    {Q : PUnit → sProp 𝕄}
    (e0 : (k0_pay63 v1014 (evs I .a0 (prv .a0 c) 1)) = evs I .a0 c 2)
    (hk : ST I A c 18 0 0 4 [12, 7, 7, 7, 0, 0, 0, 0, 0, 0, 0, 0, 0, 0] ⊢ Q ⟨⟩) :
    ST I A c 17 0 0 4 [8, 7, 7, 7, 0, 0, 0, 0, 0, 0, 0, 0, 0, 0] ⊢ WP c (call A (k0_part35 (F := F)) c v97 v1014 v1198) Q := by
  rw [k0_part35_eq_skeleton]
  unfold call k0_part35_skel
  refine st_waitR1 I A c .a0 (by rfl) (by decide) (by decide) (by rfl) (by rfl) (by rfl) ?_
  refine s_load c (fun _ => rfl) (fch_cm9 I A c .a0 (by rfl) (by rfl) (by rfl)) ?_
  refine s_dead c (fun _ => rfl) (fch_std9 I A c .a0 (by rfl) (by rfl) (by rfl)) ?_
  refine s_store c (fun _ => rfl) e0 (fch_st2 I A c .a0 (by rfl) (by rfl) (by rfl)) ?_
  refine st_waitC I A c .a0 (by rfl) (by rfl) (by decide) (by decide) (by rfl) (by rfl) ?_
  refine st_send2 I A c .a0 (by rfl) (by rfl) (dv18 c) (by rfl) (by rfl) ?_
  exact c_ret c (hk)

/-- Part 36 of the body. -/
theorem p36 {v97 : BitVec 32} {v1073 : FVec F S256x256 .f32}
    {Q : PUnit → sProp 𝕄}
    (e0 : (k0_pay64 v1073 (evs I .a1 (prv .a1 c) 1)) = evs I .a1 c 2)
    (hk : ST I A c 18 0 0 4 [12, 11, 7, 7, 0, 0, 0, 0, 0, 0, 0, 0, 0, 0] ⊢ Q ⟨⟩) :
    ST I A c 18 0 0 4 [12, 7, 7, 7, 0, 0, 0, 0, 0, 0, 0, 0, 0, 0] ⊢ WP c (call A (k0_part36 (F := F)) v97 v1073) Q := by
  rw [k0_part36_eq_skeleton]
  unfold call k0_part36_skel
  refine st_waitS1 I A c .a1 (by rfl) (by rfl) (by rfl) (by rfl) ?_
  refine st_waitR1 I A c .a1 (by rfl) (by decide) (by decide) (by rfl) (by rfl) (by rfl) ?_
  refine s_load c (fun _ => rfl) (fch_cm9 I A c .a1 (by rfl) (by rfl) (by rfl)) ?_
  refine s_dead c (fun _ => rfl) (fch_std9 I A c .a1 (by rfl) (by rfl) (by rfl)) ?_
  refine s_store c (fun _ => rfl) e0 (fch_st2 I A c .a1 (by rfl) (by rfl) (by rfl)) ?_
  refine st_waitC I A c .a1 (by rfl) (by rfl) (by decide) (by decide) (by rfl) (by rfl) ?_
  exact c_ret c (hk)

/-- Part 37 of the body. -/
theorem p37 {v153 : BitVec 32} {v1132 : FVec F S256x256 .f32}
    {Q : (Σ' (v1272 : BitVec 32), BitVec 32) → sProp 𝕄}
    (e0 : (k0_pay65 v1132 (evs I .a2 (prv .a2 c) 1)) = evs I .a2 c 2)
    (hk : ∀ (u0 : BitVec 32), ST I A c 19 0 0 4 [12, 12, 11, 7, 0, 0, 0, 0, 0, 0, 0, 0, 0, 0] ⊢ Q ⟨u0, 0#32⟩) :
    ST I A c 18 0 0 4 [12, 11, 7, 7, 0, 0, 0, 0, 0, 0, 0, 0, 0, 0] ⊢ WP c (call A (k0_part37 (F := F)) c v153 v1132) Q := by
  rw [k0_part37_eq_skeleton]
  unfold call k0_part37_skel
  refine st_send2 I A c .a1 (by rfl) (by rfl) (dv19 c) (by rfl) (by rfl) ?_
  refine st_waitS1 I A c .a2 (by rfl) (by rfl) (by rfl) (by rfl) ?_
  refine st_waitR1 I A c .a2 (by rfl) (by decide) (by decide) (by rfl) (by rfl) (by rfl) ?_
  refine s_load c (fun _ => rfl) (fch_cm9 I A c .a2 (by rfl) (by rfl) (by rfl)) ?_
  refine s_dead c (fun _ => rfl) (fch_std9 I A c .a2 (by rfl) (by rfl) (by rfl)) ?_
  refine s_store c (fun _ => rfl) e0 (fch_st2 I A c .a2 (by rfl) (by rfl) (by rfl)) ?_
  refine st_waitC I A c .a2 (by rfl) (by rfl) (by decide) (by decide) (by rfl) (by rfl) ?_
  exact c_ret c (hk _)

/-- Part 38 of the body. -/
theorem p38 {v153 : BitVec 32} {v1191 : FVec F S256x256 .f32} {v1272 : BitVec 32} {c0_i32_874 : BitVec 32}
    {Q : FVec F S256x256 .f32 → sProp 𝕄}
    (hk : ST I A c 20 0 0 4 [12, 12, 12, 9, 0, 0, 0, 0, 0, 0, 0, 0, 0, 0] ⊢ Q (k0_pay66 v1191 (evs I .a3 (prv .a3 c) 1))) :
    ST I A c 19 0 0 4 [12, 12, 11, 7, 0, 0, 0, 0, 0, 0, 0, 0, 0, 0] ⊢ WP c (call A (k0_part38 (F := F)) c v153 v1191 v1272 c0_i32_874) Q := by
  rw [k0_part38_eq_skeleton]
  unfold call k0_part38_skel
  refine st_send2 I A c .a2 (by rfl) (by rfl) (dv20 c) (by rfl) (by rfl) ?_
  refine st_waitS1 I A c .a3 (by rfl) (by rfl) (by rfl) (by rfl) ?_
  refine st_waitR1 I A c .a3 (by rfl) (by decide) (by decide) (by rfl) (by rfl) (by rfl) ?_
  refine s_load c (fun _ => rfl) (fch_cm9 I A c .a3 (by rfl) (by rfl) (by rfl)) ?_
  refine s_dead c (fun _ => rfl) (fch_std9 I A c .a3 (by rfl) (by rfl) (by rfl)) ?_
  exact c_ret c (hk)

/-- Part 39 of the body. -/
theorem p39 {v46 : BitVec 32} {v153 : BitVec 32} {v1298 : FVec F S256x256 .f32}
    {Q : (Σ' (v1323 : BitVec 32) (v1327 : FVec F S256x512 .f32), FVec F S256x512 .f32) → sProp 𝕄}
    (e0 : (k0_pay67 v1298) = evs I .a3 c 2)
    (hk : ∀ (u0 : BitVec 32), ST I A c 21 0 0 4 [12, 12, 12, 12, 0, 0, 0, 0, 0, 0, 0, 0, 0, 0] ⊢ Q ⟨u0, k0_pay68 (ld (I.x c) (Rect.unit (s := S1024x512) (k0_off11 c 2#32) S256x512.size (k0_off11_inb c 2))), k0_pay69 (ld (cfM I c 4) (Rect.unit (s := S4x1024) (k0_off12 c 2#32) S1x256.size (k0_off12_inb c 2)))⟩) :
    ST I A c 20 0 0 4 [12, 12, 12, 9, 0, 0, 0, 0, 0, 0, 0, 0, 0, 0] ⊢ WP c (call A (k0_part39 (F := F)) c v46 v153 v1298) Q := by
  rw [k0_part39_eq_skeleton]
  unfold call k0_part39_skel
  refine s_store c (fun _ => rfl) e0 (fch_st2 I A c .a3 (by rfl) (by rfl) (by rfl)) ?_
  refine st_waitC I A c .a3 (by rfl) (by rfl) (by decide) (by decide) (by rfl) (by rfl) ?_
  refine st_send2 I A c .a3 (by rfl) (by rfl) (dv21 c) (by rfl) (by rfl) ?_
  refine w_load c (fo0 I A c) ?_
  refine g_load c (fq I A c) (cov_cf c 0 (by decide) _ (off12_2 c)) ?_
  exact c_ret c (hk _)

/-- Part 40 of the body. -/
theorem p40 {v1323 : BitVec 32} {v1327 : FVec F S256x512 .f32} {v1333 : FVec F S256x512 .f32}
    {Q : (Σ' (v1370 : FVec F S256x256 .f32), BitVec 32) → sProp 𝕄}
    (hk : ST I A c 21 0 0 4 [12, 12, 12, 12, 0, 0, 0, 0, 0, 0, 0, 0, 0, 0] ⊢ Q ⟨k0_pay70 v1327 v1333 (ld (I.ew c) (Rect.unit (s := S4x512x1024) ![0, 0, 0] S1x512x256.size inb_S4x512x1024_S1x512x256_0_0_0)) (ld (cfM I c 4) (Rect.unit (s := S4x1024) (k0_off13 c 2#32) S1x256.size (k0_off13_inb c 2))) (ld (I.ew c) (Rect.unit (s := S4x512x1024) ![1, 0, 0] S1x512x256.size inb_S4x512x1024_S1x512x256_1_0_0)) (ld (cfM I c 4) (Rect.unit (s := S4x1024) (k0_off14 c 2#32) S1x256.size (k0_off14_inb c 2))) (ld (I.ew c) (Rect.unit (s := S4x512x1024) ![2, 0, 0] S1x512x256.size inb_S4x512x1024_S1x512x256_2_0_0)) (ld (cfM I c 4) (Rect.unit (s := S4x1024) (k0_off15 c 2#32) S1x256.size (k0_off15_inb c 2))) (ld (I.ew c) (Rect.unit (s := S4x512x1024) ![3, 0, 0] S1x512x256.size inb_S4x512x1024_S1x512x256_3_0_0)), 2#32⟩) :
    ST I A c 21 0 0 4 [12, 12, 12, 12, 0, 0, 0, 0, 0, 0, 0, 0, 0, 0] ⊢ WP c (call A (k0_part40 (F := F)) c v1323 v1327 v1333) Q := by
  rw [k0_part40_eq_skeleton]
  unfold call k0_part40_skel
  refine w_load c (fo3 I A c) ?_
  refine g_load c (fq I A c) (cov_cf c 1 (by decide) _ (off13_2 c)) ?_
  refine w_load c (fo3 I A c) ?_
  refine g_load c (fq I A c) (cov_cf c 2 (by decide) _ (off14_2 c)) ?_
  refine w_load c (fo3 I A c) ?_
  refine g_load c (fq I A c) (cov_cf c 3 (by decide) _ (off15_2 c)) ?_
  refine w_load c (fo3 I A c) ?_
  exact c_ret c (hk)

/-- Part 41 of the body. -/
theorem p41 {v46 : BitVec 32} {c2_i32_950 : BitVec 32}
    {Q : (Σ' (v1382 : BitVec 32) (v1386 : FVec F S256x512 .f32) (v1407 : FVec F S256x256 .f32), BitVec 32) → sProp 𝕄}
    (hk : ∀ (u0 : BitVec 32) (u1 : BitVec 32), ST I A c 21 0 0 4 [12, 12, 12, 12, 0, 0, 0, 0, 0, 0, 0, 0, 0, 0] ⊢ Q ⟨u0, k0_pay71 (ld (I.x c) (Rect.unit (s := S1024x512) (k0_off11 c 2#32) S256x512.size (k0_off11_inb c 2))), k0_pay72 (ld (I.x c) (Rect.unit (s := S1024x512) (k0_off11 c 2#32) S256x512.size (k0_off11_inb c 2))) (ld (cfM I c 4) (Rect.unit (s := S4x1024) (k0_off12 c 2#32) S1x256.size (k0_off12_inb c 2))) (ld (I.ew c) (Rect.unit (s := S4x512x1024) ![0, 0, 256] S1x512x256.size inb_S4x512x1024_S1x512x256_0_0_256)) (ld (cfM I c 4) (Rect.unit (s := S4x1024) (k0_off13 c 2#32) S1x256.size (k0_off13_inb c 2))) (ld (I.ew c) (Rect.unit (s := S4x512x1024) ![1, 0, 256] S1x512x256.size inb_S4x512x1024_S1x512x256_1_0_256)), u1⟩) :
    ST I A c 21 0 0 4 [12, 12, 12, 12, 0, 0, 0, 0, 0, 0, 0, 0, 0, 0] ⊢ WP c (call A (k0_part41 (F := F)) c v46 c2_i32_950) Q := by
  rw [k0_part41_eq_skeleton]
  unfold call k0_part41_skel
  refine w_load c (fo0 I A c) ?_
  refine g_load c (fq I A c) (cov_cf c 0 (by decide) _ (off12_2 c)) ?_
  refine w_load c (fo3 I A c) ?_
  refine g_load c (fq I A c) (cov_cf c 1 (by decide) _ (off13_2 c)) ?_
  refine w_load c (fo3 I A c) ?_
  exact c_ret c (hk _ _)

/-- Part 42 of the body. -/
theorem p42 {v19 : BitVec 32} {v1382 : BitVec 32} {v1386 : FVec F S256x512 .f32} {v1407 : FVec F S256x256 .f32} {v1408 : BitVec 32}
    {Q : (Σ' (v1429 : FVec F S256x256 .f32) (v1441 : BitVec 32) (v1445 : FVec F S256x512 .f32), BitVec 32) → sProp 𝕄}
    (hk : ∀ (u0 : BitVec 32) (u1 : BitVec 32), ST I A c 21 0 0 4 [12, 12, 12, 12, 0, 0, 0, 0, 0, 0, 0, 0, 0, 0] ⊢ Q ⟨k0_pay73 v1386 v1407 (ld (cfM I c 4) (Rect.unit (s := S4x1024) (k0_off14 c 2#32) S1x256.size (k0_off14_inb c 2))) (ld (I.ew c) (Rect.unit (s := S4x512x1024) ![2, 0, 256] S1x512x256.size inb_S4x512x1024_S1x512x256_2_0_256)) (ld (cfM I c 4) (Rect.unit (s := S4x1024) (k0_off15 c 2#32) S1x256.size (k0_off15_inb c 2))) (ld (I.ew c) (Rect.unit (s := S4x512x1024) ![3, 0, 256] S1x512x256.size inb_S4x512x1024_S1x512x256_3_0_256)), u0, k0_pay74 (ld (I.x c) (Rect.unit (s := S1024x512) (k0_off16 c 2#32) S256x512.size (k0_off16_inb c 2))), u1⟩) :
    ST I A c 21 0 0 4 [12, 12, 12, 12, 0, 0, 0, 0, 0, 0, 0, 0, 0, 0] ⊢ WP c (call A (k0_part42 (F := F)) c v19 v1382 v1386 v1407 v1408) Q := by
  rw [k0_part42_eq_skeleton]
  unfold call k0_part42_skel
  refine g_load c (fq I A c) (cov_cf c 2 (by decide) _ (off14_2 c)) ?_
  refine w_load c (fo3 I A c) ?_
  refine g_load c (fq I A c) (cov_cf c 3 (by decide) _ (off15_2 c)) ?_
  refine w_load c (fo3 I A c) ?_
  refine w_load c (fo0 I A c) ?_
  exact c_ret c (hk _ _)

/-- Part 43 of the body. -/
theorem p43 {v1441 : BitVec 32} {v1445 : FVec F S256x512 .f32} {v1446 : BitVec 32}
    {Q : (Σ' (v1477 : FVec F S256x256 .f32), FVec F S256x512 .f32) → sProp 𝕄}
    (hk : ST I A c 21 0 0 4 [12, 12, 12, 12, 0, 0, 0, 0, 0, 0, 0, 0, 0, 0] ⊢ Q ⟨k0_pay75 v1445 (ld (cfM I c 4) (Rect.unit (s := S4x1024) (k0_off17 c 2#32) S1x256.size (k0_off17_inb c 2))) (ld (I.ew c) (Rect.unit (s := S4x512x1024) ![0, 0, 512] S1x512x256.size inb_S4x512x1024_S1x512x256_0_0_512)) (ld (cfM I c 4) (Rect.unit (s := S4x1024) (k0_off18 c 2#32) S1x256.size (k0_off18_inb c 2))) (ld (I.ew c) (Rect.unit (s := S4x512x1024) ![1, 0, 512] S1x512x256.size inb_S4x512x1024_S1x512x256_1_0_512)) (ld (cfM I c 4) (Rect.unit (s := S4x1024) (k0_off19 c 2#32) S1x256.size (k0_off19_inb c 2))) (ld (I.ew c) (Rect.unit (s := S4x512x1024) ![2, 0, 512] S1x512x256.size inb_S4x512x1024_S1x512x256_2_0_512)), k0_pay76 v1445 (ld (cfM I c 4) (Rect.unit (s := S4x1024) (k0_off20 c 2#32) S1x256.size (k0_off20_inb c 2)))⟩) :
    ST I A c 21 0 0 4 [12, 12, 12, 12, 0, 0, 0, 0, 0, 0, 0, 0, 0, 0] ⊢ WP c (call A (k0_part43 (F := F)) c v1441 v1445 v1446) Q := by
  rw [k0_part43_eq_skeleton]
  unfold call k0_part43_skel
  refine g_load c (fq I A c) (cov_cf c 0 (by decide) _ (off17_2 c)) ?_
  refine w_load c (fo3 I A c) ?_
  refine g_load c (fq I A c) (cov_cf c 1 (by decide) _ (off18_2 c)) ?_
  refine w_load c (fo3 I A c) ?_
  refine g_load c (fq I A c) (cov_cf c 2 (by decide) _ (off19_2 c)) ?_
  refine w_load c (fo3 I A c) ?_
  refine g_load c (fq I A c) (cov_cf c 3 (by decide) _ (off20_2 c)) ?_
  exact c_ret c (hk)

/-- Part 44 of the body. -/
theorem p44 {v19 : BitVec 32} {v1477 : FVec F S256x256 .f32} {v1484 : FVec F S256x512 .f32}
    {Q : (Σ' (v1488 : FVec F S256x256 .f32) (v1500 : BitVec 32) (v1504 : FVec F S256x512 .f32) (v1514 : FVec F S256x256 .f32) (v1521 : FVec F S256x512 .f32), Vec F S1x512x256 .f32) → sProp 𝕄}
    (hk : ∀ (u0 : BitVec 32), ST I A c 21 0 0 4 [12, 12, 12, 12, 0, 0, 0, 0, 0, 0, 0, 0, 0, 0] ⊢ Q ⟨k0_pay77 v1477 v1484 (ld (I.ew c) (Rect.unit (s := S4x512x1024) ![3, 0, 512] S1x512x256.size inb_S4x512x1024_S1x512x256_3_0_512)), u0, k0_pay78 (ld (I.x c) (Rect.unit (s := S1024x512) (k0_off16 c 2#32) S256x512.size (k0_off16_inb c 2))), k0_pay79 (ld (I.x c) (Rect.unit (s := S1024x512) (k0_off16 c 2#32) S256x512.size (k0_off16_inb c 2))) (ld (cfM I c 4) (Rect.unit (s := S4x1024) (k0_off17 c 2#32) S1x256.size (k0_off17_inb c 2))) (ld (I.ew c) (Rect.unit (s := S4x512x1024) ![0, 0, 768] S1x512x256.size inb_S4x512x1024_S1x512x256_0_0_768)), k0_pay80 (ld (I.x c) (Rect.unit (s := S1024x512) (k0_off16 c 2#32) S256x512.size (k0_off16_inb c 2))) (ld (cfM I c 4) (Rect.unit (s := S4x1024) (k0_off18 c 2#32) S1x256.size (k0_off18_inb c 2))), (ld (I.ew c) (Rect.unit (s := S4x512x1024) ![1, 0, 768] S1x512x256.size inb_S4x512x1024_S1x512x256_1_0_768))⟩) :
    ST I A c 21 0 0 4 [12, 12, 12, 12, 0, 0, 0, 0, 0, 0, 0, 0, 0, 0] ⊢ WP c (call A (k0_part44 (F := F)) c v19 v1477 v1484) Q := by
  rw [k0_part44_eq_skeleton]
  unfold call k0_part44_skel
  refine w_load c (fo3 I A c) ?_
  refine w_load c (fo0 I A c) ?_
  refine g_load c (fq I A c) (cov_cf c 0 (by decide) _ (off17_2 c)) ?_
  refine w_load c (fo3 I A c) ?_
  refine g_load c (fq I A c) (cov_cf c 1 (by decide) _ (off18_2 c)) ?_
  refine w_load c (fo3 I A c) ?_
  exact c_ret c (hk _)

end Cert.KernelIdeal.Moe

end
-- ==== Proof.Pt3.lean ====
/-
The parts 45 to 60 of the body, each as a step of the walk.
-/
module

public import proofs.«01_k».proof.Proof.Cov

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok launchOf)
open Idealize.ShloMosaic.TalkSites Idealize.ShloMosaic.SiteBlocks

variable {F : FTy → Type} [FloatOps F]

local notation "𝕄" => MT nD τ sig ℕ (Elt F) ℕ UU ℕ

variable (I : Inp F) (A : Ins) (c : Dev nD)

set_option synthInstance.maxSize 4096
set_option maxRecDepth 65536

/-- Part 45 of the body. -/
theorem p45 {v97 : BitVec 32} {v1500 : BitVec 32} {v1504 : FVec F S256x512 .f32} {v1514 : FVec F S256x256 .f32} {v1521 : FVec F S256x512 .f32} {v1522 : Vec F S1x512x256 .f32}
    {Q : (Σ' (v1547 : FVec F S256x256 .f32), BitVec 32) → sProp 𝕄}
    (hk : ∀ (u0 : BitVec 32), ST I A c 21 0 0 4 [13, 12, 12, 12, 0, 0, 0, 0, 0, 0, 0, 0, 0, 0] ⊢ Q ⟨k0_pay81 v1504 v1514 v1521 v1522 (ld (cfM I c 4) (Rect.unit (s := S4x1024) (k0_off19 c 2#32) S1x256.size (k0_off19_inb c 2))) (ld (I.ew c) (Rect.unit (s := S4x512x1024) ![2, 0, 768] S1x512x256.size inb_S4x512x1024_S1x512x256_2_0_768)) (ld (cfM I c 4) (Rect.unit (s := S4x1024) (k0_off20 c 2#32) S1x256.size (k0_off20_inb c 2))) (ld (I.ew c) (Rect.unit (s := S4x512x1024) ![3, 0, 768] S1x512x256.size inb_S4x512x1024_S1x512x256_3_0_768)), u0⟩) :
    ST I A c 21 0 0 4 [12, 12, 12, 12, 0, 0, 0, 0, 0, 0, 0, 0, 0, 0] ⊢ WP c (call A (k0_part45 (F := F)) c v97 v1500 v1504 v1514 v1521 v1522) Q := by
  rw [k0_part45_eq_skeleton]
  unfold call k0_part45_skel
  refine g_load c (fq I A c) (cov_cf c 2 (by decide) _ (off19_2 c)) ?_
  refine w_load c (fo3 I A c) ?_
  refine g_load c (fq I A c) (cov_cf c 3 (by decide) _ (off20_2 c)) ?_
  refine w_load c (fo3 I A c) ?_
  refine st_waitS2 I A c .a0 (by rfl) (by rfl) (by rfl) (by rfl) ?_
  exact c_ret c (hk _)

/-- Part 46 of the body. -/
theorem p46 {v97 : BitVec 32} {v346 : BitVec 32} {v1370 : FVec F S256x256 .f32} {v1554 : BitVec 32}
    {Q : PUnit → sProp 𝕄}
    (e0 : oM I c 1 = Rect.overlay (Rect.unit (s := S1024x1024) (k0_off21 c) S256x256.size (k0_off21_inb c)) (oM I c 0) (k0_pay82 v1370 (evs I .a0 (prv .a0 c) 2)))
    (hk : ST I A c 21 1 0 4 [14, 14, 12, 12, 0, 0, 0, 0, 0, 0, 0, 0, 0, 0] ⊢ Q ⟨⟩) :
    ST I A c 21 0 0 4 [13, 12, 12, 12, 0, 0, 0, 0, 0, 0, 0, 0, 0, 0] ⊢ WP c (call A (k0_part46 (F := F)) c v97 v346 v1370 v1554) Q := by
  rw [k0_part46_eq_skeleton]
  unfold call k0_part46_skel
  refine st_waitR2 I A c .a0 (by rfl) (by decide) (by decide) (by rfl) (by rfl) (by rfl) ?_
  refine s_load c (fun _ => rfl) (fch_cm14f I A c .a0 (by rfl) (by rfl) (by rfl)) ?_
  refine g_dead c (fo I A c) ?_
  refine g_store c (foS I A c) (by rfl) e0 ?_
  refine st_waitS2 I A c .a1 (by rfl) (by rfl) (by rfl) (by rfl) ?_
  refine st_waitR2 I A c .a1 (by rfl) (by decide) (by decide) (by rfl) (by rfl) (by rfl) ?_
  exact c_ret c (hk)

/-- Part 47 of the body. -/
theorem p47 {v153 : BitVec 32} {v346 : BitVec 32} {v347 : BitVec 32} {v1429 : FVec F S256x256 .f32} {v1488 : FVec F S256x256 .f32}
    {Q : PUnit → sProp 𝕄}
    (e0 : oM I c 2 = Rect.overlay (Rect.unit (s := S1024x1024) (k0_off22 c) S256x256.size (k0_off22_inb c)) (oM I c 1) (k0_pay83 v1429 (evs I .a1 (prv .a1 c) 2)))
    (e1 : oM I c 3 = Rect.overlay (Rect.unit (s := S1024x1024) (k0_off23 c) S256x256.size (k0_off23_inb c)) (oM I c 2) (k0_pay84 v1488 (evs I .a2 (prv .a2 c) 2)))
    (hk : ST I A c 21 3 0 4 [14, 14, 14, 12, 0, 0, 0, 0, 0, 0, 0, 0, 0, 0] ⊢ Q ⟨⟩) :
    ST I A c 21 1 0 4 [14, 14, 12, 12, 0, 0, 0, 0, 0, 0, 0, 0, 0, 0] ⊢ WP c (call A (k0_part47 (F := F)) c v153 v346 v347 v1429 v1488) Q := by
  rw [k0_part47_eq_skeleton]
  unfold call k0_part47_skel
  refine s_load c (fun _ => rfl) (fch_cm14f I A c .a1 (by rfl) (by rfl) (by rfl)) ?_
  refine g_dead c (fo I A c) ?_
  refine g_store c (foS I A c) (by rfl) e0 ?_
  refine st_waitS2 I A c .a2 (by rfl) (by rfl) (by rfl) (by rfl) ?_
  refine st_waitR2 I A c .a2 (by rfl) (by decide) (by decide) (by rfl) (by rfl) (by rfl) ?_
  refine s_load c (fun _ => rfl) (fch_cm14f I A c .a2 (by rfl) (by rfl) (by rfl)) ?_
  refine g_dead c (fo I A c) ?_
  refine g_store c (foS I A c) (by rfl) e1 ?_
  exact c_ret c (hk)

/-- Part 48 of the body. -/
theorem p48 {v19 : BitVec 32} {v153 : BitVec 32} {v346 : BitVec 32} {v347 : BitVec 32} {v1547 : FVec F S256x256 .f32}
    {Q : PUnit → sProp 𝕄}
    (e0 : oM I c 4 = Rect.overlay (Rect.unit (s := S1024x1024) (k0_off24 c) S256x256.size (k0_off24_inb c)) (oM I c 3) (k0_pay85 v1547 (evs I .a3 (prv .a3 c) 2)))
    (e1 : (k0_pay86 (ld (oM I c 4) (Rect.unit (s := S1024x1024) (k0_off25 c) S64x512.size (k0_off25_inb c)))) = evs I .b0 c 0)
    (hk : ST I A c 21 4 0 4 [14, 14, 14, 14, 1, 0, 0, 0, 0, 0, 0, 0, 0, 0] ⊢ Q ⟨⟩) :
    ST I A c 21 3 0 4 [14, 14, 14, 12, 0, 0, 0, 0, 0, 0, 0, 0, 0, 0] ⊢ WP c (call A (k0_part48 (F := F)) c v19 v153 v346 v347 v1547) Q := by
  rw [k0_part48_eq_skeleton]
  unfold call k0_part48_skel
  refine st_waitS2 I A c .a3 (by rfl) (by rfl) (by rfl) (by rfl) ?_
  refine st_waitR2 I A c .a3 (by rfl) (by decide) (by decide) (by rfl) (by rfl) (by rfl) ?_
  refine s_load c (fun _ => rfl) (fch_cm14f I A c .a3 (by rfl) (by rfl) (by rfl)) ?_
  refine g_dead c (fo I A c) ?_
  refine g_store c (foS I A c) (by rfl) e0 ?_
  refine g_load c (fo I A c) (cov_L c 4 (by decide) _ (off25 c) (by rfl) (by simp only [S64x512_z, S256x512_z, Matrix.cons_val_zero]; have := yR_lt c 1; have := zR_lt c 0; have := zR_lt c 1; have := zR_lt c 2; have := zR_lt c 3; omega)) ?_
  refine s_dead c (fun _ => rfl) (fch_std0 I A c .b0 (by rfl) (by rfl) (by rfl)) ?_
  refine s_store c (fun _ => rfl) e1 (fch_st0 I A c .b0 (by rfl) (by rfl) (by rfl)) ?_
  exact c_ret c (hk)

/-- Part 49 of the body. -/
theorem p49 {v19 : BitVec 32} {v46 : BitVec 32} {v97 : BitVec 32} {v347 : BitVec 32}
    {Q : (Σ' (v1663 : BitVec 32) (v1664 : BitVec 32), BitVec 1) → sProp 𝕄}
    (e0 : (k0_pay87 (ld (oM I c 4) (Rect.unit (s := S1024x1024) (k0_off26 c) S64x512.size (k0_off26_inb c)))) = evs I .b1 c 0)
    (hk : ∀ (u0 : BitVec 32) (u1 : BitVec 32) (u2 : BitVec 1), ST I A c 23 4 0 4 [14, 14, 14, 14, 2, 2, 0, 0, 0, 0, 0, 0, 0, 0] ⊢ Q ⟨u0, u1, u2⟩) :
    ST I A c 21 4 0 4 [14, 14, 14, 14, 1, 0, 0, 0, 0, 0, 0, 0, 0, 0] ⊢ WP c (call A (k0_part49 (F := F)) c v19 v46 v97 v347) Q := by
  rw [k0_part49_eq_skeleton]
  unfold call k0_part49_skel
  refine st_send0 I A c .b0 (by rfl) (by rfl) (dv22 c) (by rfl) (by rfl) ?_
  refine g_load c (fo I A c) (cov_R c 4 (by decide) _ (off26 c) (by rfl) (by simp only [S64x512_z, S256x512_z, Matrix.cons_val_zero]; have := zR_lt c 1; have := yR_lt c 0; have := yR_lt c 1; have := yR_lt c 2; have := yR_lt c 3; omega)) ?_
  refine s_dead c (fun _ => rfl) (fch_std0 I A c .b1 (by rfl) (by rfl) (by rfl)) ?_
  refine s_store c (fun _ => rfl) e0 (fch_st0 I A c .b1 (by rfl) (by rfl) (by rfl)) ?_
  refine st_send0 I A c .b1 (by rfl) (by rfl) (dv23 c) (by rfl) (by rfl) ?_
  exact c_ret c (hk _ _ _)

/-- Part 50 of the body. -/
theorem p50 {v46 : BitVec 32} {v346 : BitVec 32} {v347 : BitVec 32} {v1663 : BitVec 32} {v1664 : BitVec 32} {v1665 : BitVec 1}
    {Q : (Σ' (v1676 : FVec F S64x512 .f32), FVec F S64x512 .f32) → sProp 𝕄}
    (e0 : smM I c 1 = Rect.overlay (Rect.unit (s := S1024x1024) ![0, 0] S256x1024.size inb_S1024x1024_S256x1024_0_0) (smM I c 0) (k0_pay90 (ld (I.x c) (Rect.unit (s := S1024x512) ![0, 0] S256x512.size inb_S1024x512_S256x512_0_0)) (ld (I.sw c) (Rect.unit (s := S512x1024) ![0, 0] S512x1024.size inb_S512x1024_S512x1024_0_0))))
    (hk : ST I A c 23 4 1 4 [14, 14, 14, 14, 2, 2, 0, 0, 0, 0, 0, 0, 0, 0] ⊢ Q ⟨k0_pay88 (ld (oM I c 4) (Rect.unit (s := S1024x1024) (k0_off27 c 0#32) S64x512.size (k0_off27_inb c 0))), k0_pay89 (ld (oM I c 4) (Rect.unit (s := S1024x1024) (k0_off28 c 0#32) S64x512.size (k0_off28_inb c 0)))⟩) :
    ST I A c 23 4 0 4 [14, 14, 14, 14, 2, 2, 0, 0, 0, 0, 0, 0, 0, 0] ⊢ WP c (call A (k0_part50 (F := F)) c v46 v346 v347 v1663 v1664 v1665) Q := by
  rw [k0_part50_eq_skeleton]
  unfold call k0_part50_skel
  refine g_load c (fo I A c) (cov_L c 4 (by decide) _ (off27_0 c) (by rfl) (by simp only [S64x512_z, S256x512_z, Matrix.cons_val_zero]; have := yR_lt c 1; have := zR_lt c 0; have := zR_lt c 1; have := zR_lt c 2; have := zR_lt c 3; omega)) ?_
  refine g_load c (fo I A c) (cov_R c 4 (by decide) _ (off28_0 c) (by rfl) (by simp only [S64x512_z, S256x512_z, Matrix.cons_val_zero]; have := zR_lt c 1; have := yR_lt c 0; have := yR_lt c 1; have := yR_lt c 2; have := yR_lt c 3; omega)) ?_
  refine w_load c (fo0 I A c) ?_
  refine w_load c (fo4 I A c) ?_
  refine g_dead c (fs I A c) ?_
  refine g_store c (fsS I A c) (by rfl) e0 ?_
  exact c_ret c (hk)

/-- Part 51 of the body. -/
theorem p51 {v153 : BitVec 32} {v1676 : FVec F S64x512 .f32}
    {Q : PUnit → sProp 𝕄}
    (e0 : (k0_pay91 v1676 (evs I .b0 (prv .b0 c) 0)) = evs I .b0 c 1)
    (hk : ST I A c 23 4 1 4 [14, 14, 14, 14, 5, 2, 0, 0, 0, 0, 0, 0, 0, 0] ⊢ Q ⟨⟩) :
    ST I A c 23 4 1 4 [14, 14, 14, 14, 2, 2, 0, 0, 0, 0, 0, 0, 0, 0] ⊢ WP c (call A (k0_part51 (F := F)) v153 v1676) Q := by
  rw [k0_part51_eq_skeleton]
  unfold call k0_part51_skel
  refine st_waitS0 I A c .b0 (by rfl) (by rfl) (by rfl) (by rfl) ?_
  refine st_waitR0 I A c .b0 (by rfl) (by decide) (by decide) (by rfl) (by rfl) (by rfl) ?_
  refine s_load c (fun _ => rfl) (fch_cm4 I A c .b0 (by rfl) (by rfl) (by rfl)) ?_
  refine s_dead c (fun _ => rfl) (fch_std4 I A c .b0 (by rfl) (by rfl) (by rfl)) ?_
  refine s_store c (fun _ => rfl) e0 (fch_st1 I A c .b0 (by rfl) (by rfl) (by rfl)) ?_
  exact c_ret c (hk)

/-- Part 52 of the body. -/
theorem p52 {v97 : BitVec 32} {v181 : BitVec 32} {v1693 : FVec F S64x512 .f32}
    {Q : FVec F S1x64x512 .f32 → sProp 𝕄}
    (hk : ST I A c 25 4 1 4 [14, 14, 14, 14, 7, 4, 0, 0, 0, 0, 0, 0, 0, 0] ⊢ Q (k0_pay92 v1693 (evs I .b1 (prv .b1 c) 0))) :
    ST I A c 23 4 1 4 [14, 14, 14, 14, 5, 2, 0, 0, 0, 0, 0, 0, 0, 0] ⊢ WP c (call A (k0_part52 (F := F)) c v97 v181 v1693) Q := by
  rw [k0_part52_eq_skeleton]
  unfold call k0_part52_skel
  refine st_send1 I A c .b0 (by rfl) (by rfl) (dv24 c) (by rfl) (by rfl) ?_
  refine st_sigC I A c .b0 (by rfl) (by rfl) (by rfl) (dv25 c) (by rfl) (by rfl) ?_
  refine st_waitS0 I A c .b1 (by rfl) (by rfl) (by rfl) (by rfl) ?_
  refine st_waitR0 I A c .b1 (by rfl) (by decide) (by decide) (by rfl) (by rfl) (by rfl) ?_
  refine s_load c (fun _ => rfl) (fch_cm4 I A c .b1 (by rfl) (by rfl) (by rfl)) ?_
  refine s_dead c (fun _ => rfl) (fch_std4 I A c .b1 (by rfl) (by rfl) (by rfl)) ?_
  exact c_ret c (hk)

/-- Part 53 of the body. -/
theorem p53 {v19 : BitVec 32} {v46 : BitVec 32} {v97 : BitVec 32} {v125 : BitVec 32} {v346 : BitVec 32} {v1753 : FVec F S1x64x512 .f32}
    {Q : (Σ' (v1782 : FVec F S64x512 .f32) (v1784 : BitVec 32), BitVec 32) → sProp 𝕄}
    (e0 : v1753 = evs I .b1 c 1)
    (hk : ∀ (u0 : BitVec 32), ST I A c 27 4 1 4 [14, 14, 14, 14, 7, 7, 0, 0, 0, 0, 0, 0, 0, 0] ⊢ Q ⟨k0_pay93 (ld (oM I c 4) (Rect.unit (s := S1024x1024) (k0_off27 c 1#32) S64x512.size (k0_off27_inb c 1))), u0, 4#32⟩) :
    ST I A c 25 4 1 4 [14, 14, 14, 14, 7, 4, 0, 0, 0, 0, 0, 0, 0, 0] ⊢ WP c (call A (k0_part53 (F := F)) c v19 v46 v97 v125 v346 v1753) Q := by
  rw [k0_part53_eq_skeleton]
  unfold call k0_part53_skel
  refine s_store c (fun _ => rfl) e0 (fch_st1 I A c .b1 (by rfl) (by rfl) (by rfl)) ?_
  refine st_send1 I A c .b1 (by rfl) (by rfl) (dv26 c) (by rfl) (by rfl) ?_
  refine st_sigC I A c .b1 (by rfl) (by rfl) (by rfl) (dv27 c) (by rfl) (by rfl) ?_
  refine g_load c (fo I A c) (cov_L c 4 (by decide) _ (off27_1 c) (by rfl) (by simp only [S64x512_z, S256x512_z, Matrix.cons_val_zero]; have := yR_lt c 1; have := zR_lt c 0; have := zR_lt c 1; have := zR_lt c 2; have := zR_lt c 3; omega)) ?_
  exact c_ret c (hk _)

/-- Part 54 of the body. -/
theorem p54 {v153 : BitVec 32} {v347 : BitVec 32} {v1784 : BitVec 32} {c4_i32_1289 : BitVec 32}
    {Q : (Σ' (v1799 : FVec F S64x512 .f32), BitVec 32) → sProp 𝕄}
    (e0 : smM I c 2 = Rect.overlay (Rect.unit (s := S1024x1024) ![256, 0] S256x1024.size inb_S1024x1024_S256x1024_256_0) (smM I c 1) (k0_pay95 (ld (I.x c) (Rect.unit (s := S1024x512) ![256, 0] S256x512.size inb_S1024x512_S256x512_256_0)) (ld (I.sw c) (Rect.unit (s := S512x1024) ![0, 0] S512x1024.size inb_S512x1024_S512x1024_0_0))))
    (hk : ∀ (u0 : BitVec 32), ST I A c 27 4 2 4 [14, 14, 14, 14, 8, 7, 0, 0, 0, 0, 0, 0, 0, 0] ⊢ Q ⟨k0_pay94 (ld (oM I c 4) (Rect.unit (s := S1024x1024) (k0_off28 c 1#32) S64x512.size (k0_off28_inb c 1))), u0⟩) :
    ST I A c 27 4 1 4 [14, 14, 14, 14, 7, 7, 0, 0, 0, 0, 0, 0, 0, 0] ⊢ WP c (call A (k0_part54 (F := F)) c v153 v347 v1784 c4_i32_1289) Q := by
  rw [k0_part54_eq_skeleton]
  unfold call k0_part54_skel
  refine g_load c (fo I A c) (cov_R c 4 (by decide) _ (off28_1 c) (by rfl) (by simp only [S64x512_z, S256x512_z, Matrix.cons_val_zero]; have := zR_lt c 1; have := yR_lt c 0; have := yR_lt c 1; have := yR_lt c 2; have := yR_lt c 3; omega)) ?_
  refine w_load c (fo0 I A c) ?_
  refine w_load c (fo4 I A c) ?_
  refine g_dead c (fs I A c) ?_
  refine g_store c (fsS I A c) (by rfl) e0 ?_
  refine st_waitS1 I A c .b0 (by rfl) (by rfl) (by rfl) (by rfl) ?_
  exact c_ret c (hk _)

/-- Part 55 of the body. -/
theorem p55 {v153 : BitVec 32} {v1782 : FVec F S64x512 .f32} {v1814 : BitVec 32}
    {Q : PUnit → sProp 𝕄}
    (e0 : (k0_pay96 v1782 (evs I .b0 (prv .b0 c) 1)) = evs I .b0 c 2)
    (hk : ST I A c 28 4 2 4 [14, 14, 14, 14, 12, 7, 0, 0, 0, 0, 0, 0, 0, 0] ⊢ Q ⟨⟩) :
    ST I A c 27 4 2 4 [14, 14, 14, 14, 8, 7, 0, 0, 0, 0, 0, 0, 0, 0] ⊢ WP c (call A (k0_part55 (F := F)) c v153 v1782 v1814) Q := by
  rw [k0_part55_eq_skeleton]
  unfold call k0_part55_skel
  refine st_waitR1 I A c .b0 (by rfl) (by decide) (by decide) (by rfl) (by rfl) (by rfl) ?_
  refine s_load c (fun _ => rfl) (fch_cm9 I A c .b0 (by rfl) (by rfl) (by rfl)) ?_
  refine s_dead c (fun _ => rfl) (fch_std9 I A c .b0 (by rfl) (by rfl) (by rfl)) ?_
  refine s_store c (fun _ => rfl) e0 (fch_st2 I A c .b0 (by rfl) (by rfl) (by rfl)) ?_
  refine st_waitC I A c .b0 (by rfl) (by rfl) (by decide) (by decide) (by rfl) (by rfl) ?_
  refine st_send2 I A c .b0 (by rfl) (by rfl) (dv28 c) (by rfl) (by rfl) ?_
  exact c_ret c (hk)

/-- Part 56 of the body. -/
theorem p56 {v97 : BitVec 32} {v1799 : FVec F S64x512 .f32}
    {Q : PUnit → sProp 𝕄}
    (e0 : (k0_pay97 v1799 (evs I .b1 (prv .b1 c) 1)) = evs I .b1 c 2)
    (hk : ST I A c 28 4 2 4 [14, 14, 14, 14, 12, 11, 0, 0, 0, 0, 0, 0, 0, 0] ⊢ Q ⟨⟩) :
    ST I A c 28 4 2 4 [14, 14, 14, 14, 12, 7, 0, 0, 0, 0, 0, 0, 0, 0] ⊢ WP c (call A (k0_part56 (F := F)) v97 v1799) Q := by
  rw [k0_part56_eq_skeleton]
  unfold call k0_part56_skel
  refine st_waitS1 I A c .b1 (by rfl) (by rfl) (by rfl) (by rfl) ?_
  refine st_waitR1 I A c .b1 (by rfl) (by decide) (by decide) (by rfl) (by rfl) (by rfl) ?_
  refine s_load c (fun _ => rfl) (fch_cm9 I A c .b1 (by rfl) (by rfl) (by rfl)) ?_
  refine s_dead c (fun _ => rfl) (fch_std9 I A c .b1 (by rfl) (by rfl) (by rfl)) ?_
  refine s_store c (fun _ => rfl) e0 (fch_st2 I A c .b1 (by rfl) (by rfl) (by rfl)) ?_
  refine st_waitC I A c .b1 (by rfl) (by rfl) (by decide) (by decide) (by rfl) (by rfl) ?_
  exact c_ret c (hk)

/-- Part 57 of the body. -/
theorem p57 {v19 : BitVec 32} {v46 : BitVec 32} {v346 : BitVec 32} {v347 : BitVec 32}
    {Q : (Σ' (v1884 : FVec F S64x512 .f32) (v1901 : FVec F S64x512 .f32), FVec F S256x512 .f32) → sProp 𝕄}
    (hk : ST I A c 29 4 2 4 [14, 14, 14, 14, 12, 12, 0, 0, 0, 0, 0, 0, 0, 0] ⊢ Q ⟨k0_pay98 (ld (oM I c 4) (Rect.unit (s := S1024x1024) (k0_off27 c 2#32) S64x512.size (k0_off27_inb c 2))), k0_pay99 (ld (oM I c 4) (Rect.unit (s := S1024x1024) (k0_off28 c 2#32) S64x512.size (k0_off28_inb c 2))), k0_pay100 (ld (I.x c) (Rect.unit (s := S1024x512) ![512, 0] S256x512.size inb_S1024x512_S256x512_512_0))⟩) :
    ST I A c 28 4 2 4 [14, 14, 14, 14, 12, 11, 0, 0, 0, 0, 0, 0, 0, 0] ⊢ WP c (call A (k0_part57 (F := F)) c v19 v46 v346 v347) Q := by
  rw [k0_part57_eq_skeleton]
  unfold call k0_part57_skel
  refine st_send2 I A c .b1 (by rfl) (by rfl) (dv29 c) (by rfl) (by rfl) ?_
  refine g_load c (fo I A c) (cov_L c 4 (by decide) _ (off27_2 c) (by rfl) (by simp only [S64x512_z, S256x512_z, Matrix.cons_val_zero]; have := yR_lt c 1; have := zR_lt c 0; have := zR_lt c 1; have := zR_lt c 2; have := zR_lt c 3; omega)) ?_
  refine g_load c (fo I A c) (cov_R c 4 (by decide) _ (off28_2 c) (by rfl) (by simp only [S64x512_z, S256x512_z, Matrix.cons_val_zero]; have := zR_lt c 1; have := yR_lt c 0; have := yR_lt c 1; have := yR_lt c 2; have := yR_lt c 3; omega)) ?_
  refine w_load c (fo0 I A c) ?_
  exact c_ret c (hk)

/-- Part 58 of the body. -/
theorem p58 {v153 : BitVec 32} {v349 : BitVec 32} {v1884 : FVec F S64x512 .f32} {v1903 : FVec F S256x512 .f32}
    {Q : PUnit → sProp 𝕄}
    (e0 : smM I c 3 = Rect.overlay (Rect.unit (s := S1024x1024) ![512, 0] S256x1024.size inb_S1024x1024_S256x1024_512_0) (smM I c 2) (k0_pay101 v1903 (ld (I.sw c) (Rect.unit (s := S512x1024) ![0, 0] S512x1024.size inb_S512x1024_S512x1024_0_0))))
    (e1 : oM I c 5 = Rect.overlay (Rect.unit (s := S1024x1024) (k0_off29 c) S64x512.size (k0_off29_inb c)) (oM I c 4) (k0_pay102 v1884 (evs I .b0 (prv .b0 c) 2)))
    (hk : ST I A c 29 5 3 4 [14, 14, 14, 14, 14, 12, 0, 0, 0, 0, 0, 0, 0, 0] ⊢ Q ⟨⟩) :
    ST I A c 29 4 2 4 [14, 14, 14, 14, 12, 12, 0, 0, 0, 0, 0, 0, 0, 0] ⊢ WP c (call A (k0_part58 (F := F)) c v153 v349 v1884 v1903) Q := by
  rw [k0_part58_eq_skeleton]
  unfold call k0_part58_skel
  refine w_load c (fo4 I A c) ?_
  refine g_dead c (fs I A c) ?_
  refine g_store c (fsS I A c) (by rfl) e0 ?_
  refine st_waitS2 I A c .b0 (by rfl) (by rfl) (by rfl) (by rfl) ?_
  refine st_waitR2 I A c .b0 (by rfl) (by decide) (by decide) (by rfl) (by rfl) (by rfl) ?_
  refine s_load c (fun _ => rfl) (fch_cm14f I A c .b0 (by rfl) (by rfl) (by rfl)) ?_
  refine g_dead c (fo I A c) ?_
  refine g_store c (foS I A c) (by rfl) e1 ?_
  exact c_ret c (hk)

/-- Part 59 of the body. -/
theorem p59 {v97 : BitVec 32} {v349 : BitVec 32} {v351 : BitVec 32} {v1901 : FVec F S64x512 .f32}
    {Q : FVec F S64x512 .f32 → sProp 𝕄}
    (e0 : oM I c 6 = Rect.overlay (Rect.unit (s := S1024x1024) (k0_off30 c) S64x512.size (k0_off30_inb c)) (oM I c 5) (k0_pay103 v1901 (evs I .b1 (prv .b1 c) 2)))
    (e1 : (k0_pay104 (ld (oM I c 6) (Rect.unit (s := S1024x1024) (k0_off29 c) S64x512.size (k0_off29_inb c)))) = evs I .xA c 0)
    (hk : ST I A c 29 6 3 4 [14, 14, 14, 14, 14, 14, 0, 0, 0, 0, 0, 0, 1, 0] ⊢ Q (k0_pay105 (ld (oM I c 6) (Rect.unit (s := S1024x1024) (k0_off30 c) S64x512.size (k0_off30_inb c))))) :
    ST I A c 29 5 3 4 [14, 14, 14, 14, 14, 12, 0, 0, 0, 0, 0, 0, 0, 0] ⊢ WP c (call A (k0_part59 (F := F)) c v97 v349 v351 v1901) Q := by
  rw [k0_part59_eq_skeleton]
  unfold call k0_part59_skel
  refine st_waitS2 I A c .b1 (by rfl) (by rfl) (by rfl) (by rfl) ?_
  refine st_waitR2 I A c .b1 (by rfl) (by decide) (by decide) (by rfl) (by rfl) (by rfl) ?_
  refine s_load c (fun _ => rfl) (fch_cm14f I A c .b1 (by rfl) (by rfl) (by rfl)) ?_
  refine g_dead c (fo I A c) ?_
  refine g_store c (foS I A c) (by rfl) e0 ?_
  refine g_load c (fo I A c) (cov_at 4 (by rfl) (by decide)) ?_
  refine f_dead c (fxh_std0 I A c .xA (by rfl) (by rfl) (by rfl)) ?_
  refine f_store c e1 (fxh_st I A c .xA (by rfl) (by rfl) (by rfl)) ?_
  refine g_load c (fo I A c) (cov_at 5 (by rfl) (by decide)) ?_
  refine f_dead c (fxh_std0 I A c .xB (by rfl) (by rfl) (by rfl)) ?_
  exact c_ret c (hk)

/-- Part 60 of the body. -/
theorem p60 {v199 : BitVec 32} {v349 : BitVec 32} {v351 : BitVec 32} {v1956 : FVec F S64x512 .f32}
    {Q : FVec F S64x512 .f32 → sProp 𝕄}
    (e0 : (k0_pay106 v1956) = evs I .xB c 0)
    (e1 : smM I c 4 = Rect.overlay (Rect.unit (s := S1024x1024) ![768, 0] S256x1024.size inb_S1024x1024_S256x1024_768_0) (smM I c 3) (k0_pay107 (ld (I.x c) (Rect.unit (s := S1024x512) ![768, 0] S256x512.size inb_S1024x512_S256x512_768_0)) (ld (I.sw c) (Rect.unit (s := S512x1024) ![0, 0] S512x1024.size inb_S512x1024_S512x1024_0_0))))
    (e2 : oM I c 7 = Rect.overlay (Rect.unit (s := S1024x1024) (k0_off29 c) S64x512.size (k0_off29_inb c)) (oM I c 6) (k0_pay108 (ld (oM I c 6) (Rect.unit (s := S1024x1024) (k0_off29 c) S64x512.size (k0_off29_inb c))) (evs I .xA (prv .xA c) 0)))
    (hk : ST I A c 31 7 4 4 [14, 14, 14, 14, 14, 14, 0, 0, 0, 0, 0, 0, 4, 4] ⊢ Q (k0_pay109 (ld (oM I c 7) (Rect.unit (s := S1024x1024) (k0_off30 c) S64x512.size (k0_off30_inb c))))) :
    ST I A c 29 6 3 4 [14, 14, 14, 14, 14, 14, 0, 0, 0, 0, 0, 0, 1, 0] ⊢ WP c (call A (k0_part60 (F := F)) c v199 v349 v351 v1956) Q := by
  rw [k0_part60_eq_skeleton]
  unfold call k0_part60_skel
  refine f_store c e0 (fxh_st I A c .xB (by rfl) (by rfl) (by rfl)) ?_
  refine sx_send I A c .xA (by rfl) (by rfl) (dv30 c) (by rfl) (by rfl) ?_
  refine sx_send I A c .xB (by rfl) (by rfl) (dv31 c) (by rfl) (by rfl) ?_
  refine w_load c (fo0 I A c) ?_
  refine w_load c (fo4 I A c) ?_
  refine g_dead c (fs I A c) ?_
  refine g_store c (fsS I A c) (by rfl) e1 ?_
  refine sx_waitS I A c .xA (by rfl) (by rfl) (by rfl) (by rfl) ?_
  refine sx_waitR I A c .xA (by rfl) (by decide) (by decide) (by rfl) (by rfl) (by rfl) ?_
  refine sx_waitS I A c .xB (by rfl) (by rfl) (by rfl) (by rfl) ?_
  refine sx_waitR I A c .xB (by rfl) (by decide) (by decide) (by rfl) (by rfl) (by rfl) ?_
  refine g_load c (fo I A c) (cov_at 4 (by rfl) (by decide)) ?_
  refine f_load c (fxh_cm I A c .xA (by rfl) (by rfl) (by rfl)) ?_
  refine g_dead c (fo I A c) ?_
  refine g_store c (foS I A c) (by rfl) e2 ?_
  refine g_load c (fo I A c) (cov_at 5 (by rfl) (by decide)) ?_
  exact c_ret c (hk)

end Cert.KernelIdeal.Moe

end
-- ==== Proof.Pt4.lean ====
/-
The parts 61 to 77 of the body, each as a step of the walk.
-/
module

public import proofs.«01_k».proof.Proof.Cov

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok launchOf)
open Idealize.ShloMosaic.TalkSites Idealize.ShloMosaic.SiteBlocks

variable {F : FTy → Type} [FloatOps F]

local notation "𝕄" => MT nD τ sig ℕ (Elt F) ℕ UU ℕ

variable (I : Inp F) (A : Ins) (c : Dev nD)

set_option synthInstance.maxSize 4096
set_option maxRecDepth 65536

/-- Part 61 of the body. -/
theorem p61 {v19 : BitVec 32} {v153 : BitVec 32} {v346 : BitVec 32} {v351 : BitVec 32} {v1985 : FVec F S64x512 .f32}
    {Q : BitVec 32 → sProp 𝕄}
    (e0 : oM I c 8 = Rect.overlay (Rect.unit (s := S1024x1024) (k0_off30 c) S64x512.size (k0_off30_inb c)) (oM I c 7) (k0_pay110 v1985 (evs I .xB (prv .xB c) 0)))
    (e1 : (k0_pay111 (ld (oM I c 8) (Rect.unit (s := S1024x1024) (k0_off29 c) S64x512.size (k0_off29_inb c)))) = evs I .g0 c 0)
    (hk : ST I A c 32 8 4 4 [14, 14, 14, 14, 14, 14, 2, 0, 0, 0, 0, 0, 4, 4] ⊢ Q (1#32)) :
    ST I A c 31 7 4 4 [14, 14, 14, 14, 14, 14, 0, 0, 0, 0, 0, 0, 4, 4] ⊢ WP c (call A (k0_part61 (F := F)) c v19 v153 v346 v351 v1985) Q := by
  rw [k0_part61_eq_skeleton]
  unfold call k0_part61_skel
  refine f_load c (fxh_cm I A c .xB (by rfl) (by rfl) (by rfl)) ?_
  refine g_dead c (fo I A c) ?_
  refine g_store c (foS I A c) (by rfl) e0 ?_
  refine g_load c (fo I A c) (cov_at 4 (by rfl) (by decide)) ?_
  refine s_dead c (fun _ => rfl) (fch_std0 I A c .g0 (by rfl) (by rfl) (by rfl)) ?_
  refine s_store c (fun _ => rfl) e1 (fch_st0 I A c .g0 (by rfl) (by rfl) (by rfl)) ?_
  refine st_send0 I A c .g0 (by rfl) (by rfl) (dv32 c) (by rfl) (by rfl) ?_
  exact c_ret c (hk)

/-- Part 62 of the body. -/
theorem p62 {v46 : BitVec 32} {v97 : BitVec 32} {v347 : BitVec 32} {c1_i32_1504 : BitVec 32}
    {Q : PUnit → sProp 𝕄}
    (e0 : (k0_pay112 (ld (oM I c 8) (Rect.unit (s := S1024x1024) (k0_off30 c) S64x512.size (k0_off30_inb c)))) = evs I .g1 c 0)
    (hk : ST I A c 33 8 4 4 [14, 14, 14, 14, 14, 14, 2, 2, 0, 0, 0, 0, 4, 4] ⊢ Q ⟨⟩) :
    ST I A c 32 8 4 4 [14, 14, 14, 14, 14, 14, 2, 0, 0, 0, 0, 0, 4, 4] ⊢ WP c (call A (k0_part62 (F := F)) c v46 v97 v347 c1_i32_1504) Q := by
  rw [k0_part62_eq_skeleton]
  unfold call k0_part62_skel
  refine g_load c (fo I A c) (cov_at 5 (by rfl) (by decide)) ?_
  refine s_dead c (fun _ => rfl) (fch_std0 I A c .g1 (by rfl) (by rfl) (by rfl)) ?_
  refine s_store c (fun _ => rfl) e0 (fch_st0 I A c .g1 (by rfl) (by rfl) (by rfl)) ?_
  refine st_send0 I A c .g1 (by rfl) (by rfl) (dv33 c) (by rfl) (by rfl) ?_
  exact c_ret c (hk)

/-- Part 63 of the body. -/
theorem p63 {v153 : BitVec 32}
    {Q : PUnit → sProp 𝕄}
    (e0 : (k0_pay113 (evs I .g0 (prv .g0 c) 0)) = evs I .g0 c 1)
    (hk : ST I A c 34 8 4 4 [14, 14, 14, 14, 14, 14, 6, 2, 0, 0, 0, 0, 4, 4] ⊢ Q ⟨⟩) :
    ST I A c 33 8 4 4 [14, 14, 14, 14, 14, 14, 2, 2, 0, 0, 0, 0, 4, 4] ⊢ WP c (call A (k0_part63 (F := F)) c v153) Q := by
  rw [k0_part63_eq_skeleton]
  unfold call k0_part63_skel
  refine st_waitS0 I A c .g0 (by rfl) (by rfl) (by rfl) (by rfl) ?_
  refine st_waitR0 I A c .g0 (by rfl) (by decide) (by decide) (by rfl) (by rfl) (by rfl) ?_
  refine s_load c (fun _ => rfl) (fch_cm4 I A c .g0 (by rfl) (by rfl) (by rfl)) ?_
  refine s_dead c (fun _ => rfl) (fch_std4 I A c .g0 (by rfl) (by rfl) (by rfl)) ?_
  refine s_store c (fun _ => rfl) e0 (fch_st1 I A c .g0 (by rfl) (by rfl) (by rfl)) ?_
  refine st_send1 I A c .g0 (by rfl) (by rfl) (dv34 c) (by rfl) (by rfl) ?_
  exact c_ret c (hk)

/-- Part 64 of the body. -/
theorem p64 {v19 : BitVec 32} {v97 : BitVec 32} {v181 : BitVec 32} {v346 : BitVec 32}
    {Q : PUnit → sProp 𝕄}
    (e0 : oM I c 9 = Rect.overlay (Rect.unit (s := S1024x1024) (k0_off31 c 0#32) S64x512.size (k0_off31_inb c 0)) (oM I c 8) (k0_pay114 (evs I .g0 (prv .g0 c) 0)))
    (hk : ST I A c 35 9 4 4 [14, 14, 14, 14, 14, 14, 7, 3, 0, 0, 0, 0, 4, 4] ⊢ Q ⟨⟩) :
    ST I A c 34 8 4 4 [14, 14, 14, 14, 14, 14, 6, 2, 0, 0, 0, 0, 4, 4] ⊢ WP c (call A (k0_part64 (F := F)) c v19 v97 v181 v346) Q := by
  rw [k0_part64_eq_skeleton]
  unfold call k0_part64_skel
  refine s_load c (fun _ => rfl) (fch_cm6 I A c .g0 (by rfl) (by rfl) (by rfl)) ?_
  refine g_dead c (fo I A c) ?_
  refine g_store c (foS I A c) (by rfl) e0 ?_
  refine st_sigC I A c .g0 (by rfl) (by rfl) (by rfl) (dv35 c) (by rfl) (by rfl) ?_
  refine st_waitS0 I A c .g1 (by rfl) (by rfl) (by rfl) (by rfl) ?_
  exact c_ret c (hk)

/-- Part 65 of the body. -/
theorem p65 {v46 : BitVec 32} {v97 : BitVec 32}
    {Q : (Σ' (v2127 : BitVec 32) (v2128 : BitVec 32), BitVec 1) → sProp 𝕄}
    (e0 : (k0_pay115 (evs I .g1 (prv .g1 c) 0)) = evs I .g1 c 1)
    (hk : ∀ (u0 : BitVec 32) (u1 : BitVec 32) (u2 : BitVec 1), ST I A c 36 9 4 4 [14, 14, 14, 14, 14, 14, 7, 6, 0, 0, 0, 0, 4, 4] ⊢ Q ⟨u0, u1, u2⟩) :
    ST I A c 35 9 4 4 [14, 14, 14, 14, 14, 14, 7, 3, 0, 0, 0, 0, 4, 4] ⊢ WP c (call A (k0_part65 (F := F)) c v46 v97) Q := by
  rw [k0_part65_eq_skeleton]
  unfold call k0_part65_skel
  refine st_waitR0 I A c .g1 (by rfl) (by decide) (by decide) (by rfl) (by rfl) (by rfl) ?_
  refine s_load c (fun _ => rfl) (fch_cm4 I A c .g1 (by rfl) (by rfl) (by rfl)) ?_
  refine s_dead c (fun _ => rfl) (fch_std4 I A c .g1 (by rfl) (by rfl) (by rfl)) ?_
  refine s_store c (fun _ => rfl) e0 (fch_st1 I A c .g1 (by rfl) (by rfl) (by rfl)) ?_
  refine st_send1 I A c .g1 (by rfl) (by rfl) (dv36 c) (by rfl) (by rfl) ?_
  exact c_ret c (hk _ _ _)

/-- Part 66 of the body. -/
theorem p66 {v125 : BitVec 32} {v153 : BitVec 32} {v347 : BitVec 32} {v2127 : BitVec 32} {v2128 : BitVec 32} {v2133 : BitVec 1}
    {Q : FVec F S64x512 .f32 → sProp 𝕄}
    (e0 : oM I c 10 = Rect.overlay (Rect.unit (s := S1024x1024) (k0_off32 c 0#32) S64x512.size (k0_off32_inb c 0)) (oM I c 9) (k0_pay116 (evs I .g1 (prv .g1 c) 0)))
    (hk : ST I A c 37 10 4 4 [14, 14, 14, 14, 14, 14, 9, 7, 0, 0, 0, 0, 4, 4] ⊢ Q (k0_pay117 (evs I .g0 (prv .g0 c) 1))) :
    ST I A c 36 9 4 4 [14, 14, 14, 14, 14, 14, 7, 6, 0, 0, 0, 0, 4, 4] ⊢ WP c (call A (k0_part66 (F := F)) c v125 v153 v347 v2127 v2128 v2133) Q := by
  rw [k0_part66_eq_skeleton]
  unfold call k0_part66_skel
  refine s_load c (fun _ => rfl) (fch_cm6 I A c .g1 (by rfl) (by rfl) (by rfl)) ?_
  refine g_dead c (fo I A c) ?_
  refine g_store c (foS I A c) (by rfl) e0 ?_
  refine st_sigC I A c .g1 (by rfl) (by rfl) (by rfl) (dv37 c) (by rfl) (by rfl) ?_
  refine st_waitS1 I A c .g0 (by rfl) (by rfl) (by rfl) (by rfl) ?_
  refine st_waitR1 I A c .g0 (by rfl) (by decide) (by decide) (by rfl) (by rfl) (by rfl) ?_
  refine s_load c (fun _ => rfl) (fch_cm9 I A c .g0 (by rfl) (by rfl) (by rfl)) ?_
  exact c_ret c (hk)

/-- Part 67 of the body. -/
theorem p67 {v19 : BitVec 32} {v153 : BitVec 32} {v346 : BitVec 32} {v2159 : FVec F S64x512 .f32}
    {Q : FVec F S64x512 .f32 → sProp 𝕄}
    (e0 : (k0_pay118 v2159) = evs I .g0 c 2)
    (hk : ST I A c 38 10 4 4 [14, 14, 14, 14, 14, 14, 12, 7, 0, 0, 0, 0, 4, 4] ⊢ Q (k0_pay119 (evs I .g0 (prv .g0 c) 1))) :
    ST I A c 37 10 4 4 [14, 14, 14, 14, 14, 14, 9, 7, 0, 0, 0, 0, 4, 4] ⊢ WP c (call A (k0_part67 (F := F)) c v19 v153 v346 v2159) Q := by
  rw [k0_part67_eq_skeleton]
  unfold call k0_part67_skel
  refine s_dead c (fun _ => rfl) (fch_std9 I A c .g0 (by rfl) (by rfl) (by rfl)) ?_
  refine s_store c (fun _ => rfl) e0 (fch_st2 I A c .g0 (by rfl) (by rfl) (by rfl)) ?_
  refine st_waitC I A c .g0 (by rfl) (by rfl) (by decide) (by decide) (by rfl) (by rfl) ?_
  refine st_send2 I A c .g0 (by rfl) (by rfl) (dv38 c) (by rfl) (by rfl) ?_
  refine s_load c (fun _ => rfl) (fch_cm12 I A c .g0 (by rfl) (by rfl) (by rfl)) ?_
  refine g_dead c (fo I A c) ?_
  exact c_ret c (hk)

/-- Part 68 of the body. -/
theorem p68 {v97 : BitVec 32} {v2185 : FVec F S64x512 .f32}
    {Q : PUnit → sProp 𝕄}
    (e0 : oM I c 11 = Rect.overlay (Rect.unit (s := S1024x1024) (k0_off31 c 1#32) S64x512.size (k0_off31_inb c 1)) (oM I c 10) v2185)
    (e1 : (k0_pay120 (evs I .g1 (prv .g1 c) 1)) = evs I .g1 c 2)
    (hk : ST I A c 38 11 4 4 [14, 14, 14, 14, 14, 14, 12, 11, 0, 0, 0, 0, 4, 4] ⊢ Q ⟨⟩) :
    ST I A c 38 10 4 4 [14, 14, 14, 14, 14, 14, 12, 7, 0, 0, 0, 0, 4, 4] ⊢ WP c (call A (k0_part68 (F := F)) c v97 v2185) Q := by
  rw [k0_part68_eq_skeleton]
  unfold call k0_part68_skel
  refine g_store c (foS I A c) (by rfl) e0 ?_
  refine st_waitS1 I A c .g1 (by rfl) (by rfl) (by rfl) (by rfl) ?_
  refine st_waitR1 I A c .g1 (by rfl) (by decide) (by decide) (by rfl) (by rfl) (by rfl) ?_
  refine s_load c (fun _ => rfl) (fch_cm9 I A c .g1 (by rfl) (by rfl) (by rfl)) ?_
  refine s_dead c (fun _ => rfl) (fch_std9 I A c .g1 (by rfl) (by rfl) (by rfl)) ?_
  refine s_store c (fun _ => rfl) e1 (fch_st2 I A c .g1 (by rfl) (by rfl) (by rfl)) ?_
  refine st_waitC I A c .g1 (by rfl) (by rfl) (by decide) (by decide) (by rfl) (by rfl) ?_
  exact c_ret c (hk)

/-- Part 69 of the body. -/
theorem p69 {v46 : BitVec 32} {v347 : BitVec 32}
    {Q : PUnit → sProp 𝕄}
    (e0 : oM I c 12 = Rect.overlay (Rect.unit (s := S1024x1024) (k0_off32 c 1#32) S64x512.size (k0_off32_inb c 1)) (oM I c 11) (k0_pay121 (evs I .g1 (prv .g1 c) 1)))
    (hk : ST I A c 39 12 4 4 [14, 14, 14, 14, 14, 14, 13, 12, 0, 0, 0, 0, 4, 4] ⊢ Q ⟨⟩) :
    ST I A c 38 11 4 4 [14, 14, 14, 14, 14, 14, 12, 11, 0, 0, 0, 0, 4, 4] ⊢ WP c (call A (k0_part69 (F := F)) c v46 v347) Q := by
  rw [k0_part69_eq_skeleton]
  unfold call k0_part69_skel
  refine st_send2 I A c .g1 (by rfl) (by rfl) (dv39 c) (by rfl) (by rfl) ?_
  refine s_load c (fun _ => rfl) (fch_cm12 I A c .g1 (by rfl) (by rfl) (by rfl)) ?_
  refine g_dead c (fo I A c) ?_
  refine g_store c (foS I A c) (by rfl) e0 ?_
  refine st_waitS2 I A c .g0 (by rfl) (by rfl) (by rfl) (by rfl) ?_
  exact c_ret c (hk)

/-- Part 70 of the body. -/
theorem p70 {v19 : BitVec 32} {v153 : BitVec 32} {v346 : BitVec 32}
    {Q : PUnit → sProp 𝕄}
    (e0 : oM I c 13 = Rect.overlay (Rect.unit (s := S1024x1024) (k0_off31 c 2#32) S64x512.size (k0_off31_inb c 2)) (oM I c 12) (k0_pay122 (evs I .g0 (prv .g0 c) 2)))
    (hk : ST I A c 39 13 4 4 [14, 14, 14, 14, 14, 14, 14, 12, 0, 0, 0, 0, 4, 4] ⊢ Q ⟨⟩) :
    ST I A c 39 12 4 4 [14, 14, 14, 14, 14, 14, 13, 12, 0, 0, 0, 0, 4, 4] ⊢ WP c (call A (k0_part70 (F := F)) c v19 v153 v346) Q := by
  rw [k0_part70_eq_skeleton]
  unfold call k0_part70_skel
  refine st_waitR2 I A c .g0 (by rfl) (by decide) (by decide) (by rfl) (by rfl) (by rfl) ?_
  refine s_load c (fun _ => rfl) (fch_cm14f I A c .g0 (by rfl) (by rfl) (by rfl)) ?_
  refine g_dead c (fo I A c) ?_
  refine g_store c (foS I A c) (by rfl) e0 ?_
  exact c_ret c (hk)

/-- Part 71 of the body. -/
theorem p71 {v46 : BitVec 32} {v97 : BitVec 32} {v347 : BitVec 32}
    {Q : (Σ' (v2300 : BitVec 32), BitVec 32) → sProp 𝕄}
    (e0 : oM I c 14 = Rect.overlay (Rect.unit (s := S1024x1024) (k0_off32 c 2#32) S64x512.size (k0_off32_inb c 2)) (oM I c 13) (k0_pay123 (evs I .g1 (prv .g1 c) 2)))
    (hk : ∀ (u0 : BitVec 32) (u1 : BitVec 32), ST I A c 39 14 4 4 [14, 14, 14, 14, 14, 14, 14, 14, 0, 0, 0, 0, 4, 4] ⊢ Q ⟨u0, u1⟩) :
    ST I A c 39 13 4 4 [14, 14, 14, 14, 14, 14, 14, 12, 0, 0, 0, 0, 4, 4] ⊢ WP c (call A (k0_part71 (F := F)) c v46 v97 v347) Q := by
  rw [k0_part71_eq_skeleton]
  unfold call k0_part71_skel
  refine st_waitS2 I A c .g1 (by rfl) (by rfl) (by rfl) (by rfl) ?_
  refine st_waitR2 I A c .g1 (by rfl) (by decide) (by decide) (by rfl) (by rfl) (by rfl) ?_
  refine s_load c (fun _ => rfl) (fch_cm14f I A c .g1 (by rfl) (by rfl) (by rfl)) ?_
  refine g_dead c (fo I A c) ?_
  refine g_store c (foS I A c) (by rfl) e0 ?_
  exact c_ret c (hk _ _)

/-- Part 72 of the body. -/
theorem p72 {v46 : BitVec 32} {v97 : BitVec 32} {v2300 : BitVec 32} {v2301 : BitVec 32}
    {Q : (Σ' (v2328 : BitVec 32) (v2329 : BitVec 32), BitVec 1) → sProp 𝕄}
    (e0 : (k0_pay124 (ld (oM I c 14) (Rect.unit (s := S1024x1024) (k0_off21 c) S256x256.size (k0_off21_inb c)))) = evs I .h0 c 0)
    (hk : ∀ (u0 : BitVec 32) (u1 : BitVec 32) (u2 : BitVec 1), ST I A c 40 14 4 4 [14, 14, 14, 14, 14, 14, 14, 14, 2, 0, 0, 0, 4, 4] ⊢ Q ⟨u0, u1, u2⟩) :
    ST I A c 39 14 4 4 [14, 14, 14, 14, 14, 14, 14, 14, 0, 0, 0, 0, 4, 4] ⊢ WP c (call A (k0_part72 (F := F)) c v46 v97 v2300 v2301) Q := by
  rw [k0_part72_eq_skeleton]
  unfold call k0_part72_skel
  refine g_load c (fo I A c) (cov_at 0 (by rfl) (by decide)) ?_
  refine s_dead c (fun _ => rfl) (fch_std0 I A c .h0 (by rfl) (by rfl) (by rfl)) ?_
  refine s_store c (fun _ => rfl) e0 (fch_st0 I A c .h0 (by rfl) (by rfl) (by rfl)) ?_
  refine st_send0 I A c .h0 (by rfl) (by rfl) (dv40 c) (by rfl) (by rfl) ?_
  exact c_ret c (hk _ _ _)

/-- Part 73 of the body. -/
theorem p73 {v19 : BitVec 32} {v97 : BitVec 32} {v2328 : BitVec 32} {v2329 : BitVec 32} {v2334 : BitVec 1}
    {Q : FVec F S256x256 .f32 → sProp 𝕄}
    (e0 : (k0_pay125 (ld (oM I c 14) (Rect.unit (s := S1024x1024) (k0_off22 c) S256x256.size (k0_off22_inb c)))) = evs I .h1 c 0)
    (hk : ST I A c 41 14 4 4 [14, 14, 14, 14, 14, 14, 14, 14, 2, 2, 0, 0, 4, 4] ⊢ Q (k0_pay126 (ld (oM I c 14) (Rect.unit (s := S1024x1024) (k0_off23 c) S256x256.size (k0_off23_inb c))))) :
    ST I A c 40 14 4 4 [14, 14, 14, 14, 14, 14, 14, 14, 2, 0, 0, 0, 4, 4] ⊢ WP c (call A (k0_part73 (F := F)) c v19 v97 v2328 v2329 v2334) Q := by
  rw [k0_part73_eq_skeleton]
  unfold call k0_part73_skel
  refine g_load c (fo I A c) (cov_at 1 (by rfl) (by decide)) ?_
  refine s_dead c (fun _ => rfl) (fch_std0 I A c .h1 (by rfl) (by rfl) (by rfl)) ?_
  refine s_store c (fun _ => rfl) e0 (fch_st0 I A c .h1 (by rfl) (by rfl) (by rfl)) ?_
  refine st_send0 I A c .h1 (by rfl) (by rfl) (dv41 c) (by rfl) (by rfl) ?_
  refine g_load c (fo I A c) (cov_at 2 (by rfl) (by decide)) ?_
  exact c_ret c (hk)

/-- Part 74 of the body. -/
theorem p74 {v19 : BitVec 32} {v153 : BitVec 32} {v2368 : FVec F S256x256 .f32}
    {Q : PUnit → sProp 𝕄}
    (e0 : (k0_pay127 v2368) = evs I .h2 c 0)
    (e1 : (k0_pay128 (ld (oM I c 14) (Rect.unit (s := S1024x1024) (k0_off24 c) S256x256.size (k0_off24_inb c)))) = evs I .h3 c 0)
    (hk : ST I A c 42 14 4 4 [14, 14, 14, 14, 14, 14, 14, 14, 2, 2, 2, 1, 4, 4] ⊢ Q ⟨⟩) :
    ST I A c 41 14 4 4 [14, 14, 14, 14, 14, 14, 14, 14, 2, 2, 0, 0, 4, 4] ⊢ WP c (call A (k0_part74 (F := F)) c v19 v153 v2368) Q := by
  rw [k0_part74_eq_skeleton]
  unfold call k0_part74_skel
  refine s_dead c (fun _ => rfl) (fch_std0 I A c .h2 (by rfl) (by rfl) (by rfl)) ?_
  refine s_store c (fun _ => rfl) e0 (fch_st0 I A c .h2 (by rfl) (by rfl) (by rfl)) ?_
  refine st_send0 I A c .h2 (by rfl) (by rfl) (dv42 c) (by rfl) (by rfl) ?_
  refine g_load c (fo I A c) (cov_at 3 (by rfl) (by decide)) ?_
  refine s_dead c (fun _ => rfl) (fch_std0 I A c .h3 (by rfl) (by rfl) (by rfl)) ?_
  refine s_store c (fun _ => rfl) e1 (fch_st0 I A c .h3 (by rfl) (by rfl) (by rfl)) ?_
  exact c_ret c (hk)

/-- Part 75 of the body. -/
theorem p75 {v97 : BitVec 32} {v153 : BitVec 32}
    {Q : FVec F S256x256 .f32 → sProp 𝕄}
    (hk : ST I A c 43 14 4 4 [14, 14, 14, 14, 14, 14, 14, 14, 4, 2, 2, 2, 4, 4] ⊢ Q (k0_pay129 (evs I .h0 (prv .h0 c) 0))) :
    ST I A c 42 14 4 4 [14, 14, 14, 14, 14, 14, 14, 14, 2, 2, 2, 1, 4, 4] ⊢ WP c (call A (k0_part75 (F := F)) c v97 v153) Q := by
  rw [k0_part75_eq_skeleton]
  unfold call k0_part75_skel
  refine st_send0 I A c .h3 (by rfl) (by rfl) (dv43 c) (by rfl) (by rfl) ?_
  refine st_waitS0 I A c .h0 (by rfl) (by rfl) (by rfl) (by rfl) ?_
  refine st_waitR0 I A c .h0 (by rfl) (by decide) (by decide) (by rfl) (by rfl) (by rfl) ?_
  refine s_load c (fun _ => rfl) (fch_cm4 I A c .h0 (by rfl) (by rfl) (by rfl)) ?_
  exact c_ret c (hk)

/-- Part 76 of the body. -/
theorem p76 {v46 : BitVec 32} {v97 : BitVec 32} {v2425 : FVec F S256x256 .f32}
    {Q : FVec F S256x256 .f32 → sProp 𝕄}
    (e0 : (k0_pay130 v2425) = evs I .h0 c 1)
    (hk : ST I A c 44 14 4 4 [14, 14, 14, 14, 14, 14, 14, 14, 6, 2, 2, 2, 4, 4] ⊢ Q (k0_pay131 (evs I .h0 (prv .h0 c) 0) (ld (smM I c 4) (Rect.unit (s := S1024x1024) (k0_off33 c 0#32) S256x256.size (k0_off33_inb c 0))))) :
    ST I A c 43 14 4 4 [14, 14, 14, 14, 14, 14, 14, 14, 4, 2, 2, 2, 4, 4] ⊢ WP c (call A (k0_part76 (F := F)) c v46 v97 v2425) Q := by
  rw [k0_part76_eq_skeleton]
  unfold call k0_part76_skel
  refine s_dead c (fun _ => rfl) (fch_std4 I A c .h0 (by rfl) (by rfl) (by rfl)) ?_
  refine s_store c (fun _ => rfl) e0 (fch_st1 I A c .h0 (by rfl) (by rfl) (by rfl)) ?_
  refine st_send1 I A c .h0 (by rfl) (by rfl) (dv44 c) (by rfl) (by rfl) ?_
  refine s_load c (fun _ => rfl) (fch_cm6 I A c .h0 (by rfl) (by rfl) (by rfl)) ?_
  refine g_load c (fs I A c) (fun j _ => cov_sm c j) ?_
  refine g_dead c (fo I A c) ?_
  exact c_ret c (hk)

/-- Part 77 of the body. -/
theorem p77 {v97 : BitVec 32} {v125 : BitVec 32} {v2455 : FVec F S256x256 .f32}
    {Q : BitVec 32 → sProp 𝕄}
    (e0 : oM I c 15 = Rect.overlay (Rect.unit (s := S1024x1024) (k0_off33 c 0#32) S256x256.size (k0_off33_inb c 0)) (oM I c 14) v2455)
    (e1 : (k0_pay132 (evs I .h1 (prv .h1 c) 0)) = evs I .h1 c 1)
    (hk : ∀ (u0 : BitVec 32), ST I A c 45 15 4 4 [14, 14, 14, 14, 14, 14, 14, 14, 7, 5, 2, 2, 4, 4] ⊢ Q (u0)) :
    ST I A c 44 14 4 4 [14, 14, 14, 14, 14, 14, 14, 14, 6, 2, 2, 2, 4, 4] ⊢ WP c (call A (k0_part77 (F := F)) c v97 v125 v2455) Q := by
  rw [k0_part77_eq_skeleton]
  unfold call k0_part77_skel
  refine g_store c (foS I A c) (by rfl) e0 ?_
  refine st_sigC I A c .h0 (by rfl) (by rfl) (by rfl) (dv45 c) (by rfl) (by rfl) ?_
  refine st_waitS0 I A c .h1 (by rfl) (by rfl) (by rfl) (by rfl) ?_
  refine st_waitR0 I A c .h1 (by rfl) (by decide) (by decide) (by rfl) (by rfl) (by rfl) ?_
  refine s_load c (fun _ => rfl) (fch_cm4 I A c .h1 (by rfl) (by rfl) (by rfl)) ?_
  refine s_dead c (fun _ => rfl) (fch_std4 I A c .h1 (by rfl) (by rfl) (by rfl)) ?_
  refine s_store c (fun _ => rfl) e1 (fch_st1 I A c .h1 (by rfl) (by rfl) (by rfl)) ?_
  exact c_ret c (hk _)

end Cert.KernelIdeal.Moe

end
-- ==== Proof.Pt5.lean ====
/-
The parts 78 to 93 of the body, each as a step of the walk.
-/
module

public import proofs.«01_k».proof.Proof.Cov

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok launchOf)
open Idealize.ShloMosaic.TalkSites Idealize.ShloMosaic.SiteBlocks

variable {F : FTy → Type} [FloatOps F]

local notation "𝕄" => MT nD τ sig ℕ (Elt F) ℕ UU ℕ

variable (I : Inp F) (A : Ins) (c : Dev nD)

set_option synthInstance.maxSize 4096
set_option maxRecDepth 65536

/-- Part 78 of the body. -/
theorem p78 {v46 : BitVec 32} {v125 : BitVec 32} {v2479 : BitVec 32}
    {Q : PUnit → sProp 𝕄}
    (e0 : oM I c 16 = Rect.overlay (Rect.unit (s := S1024x1024) (k0_off34 c 0#32) S256x256.size (k0_off34_inb c 0)) (oM I c 15) (k0_pay133 (evs I .h1 (prv .h1 c) 0) (ld (smM I c 4) (Rect.unit (s := S1024x1024) (k0_off34 c 0#32) S256x256.size (k0_off34_inb c 0)))))
    (hk : ST I A c 47 16 4 4 [14, 14, 14, 14, 14, 14, 14, 14, 7, 7, 2, 2, 4, 4] ⊢ Q ⟨⟩) :
    ST I A c 45 15 4 4 [14, 14, 14, 14, 14, 14, 14, 14, 7, 5, 2, 2, 4, 4] ⊢ WP c (call A (k0_part78 (F := F)) c v46 v125 v2479) Q := by
  rw [k0_part78_eq_skeleton]
  unfold call k0_part78_skel
  refine st_send1 I A c .h1 (by rfl) (by rfl) (dv46 c) (by rfl) (by rfl) ?_
  refine s_load c (fun _ => rfl) (fch_cm6 I A c .h1 (by rfl) (by rfl) (by rfl)) ?_
  refine g_load c (fs I A c) (fun j _ => cov_sm c j) ?_
  refine g_dead c (fo I A c) ?_
  refine g_store c (foS I A c) (by rfl) e0 ?_
  refine st_sigC I A c .h1 (by rfl) (by rfl) (by rfl) (dv47 c) (by rfl) (by rfl) ?_
  exact c_ret c (hk)

/-- Part 79 of the body. -/
theorem p79 {v153 : BitVec 32}
    {Q : PUnit → sProp 𝕄}
    (e0 : (k0_pay134 (evs I .h2 (prv .h2 c) 0)) = evs I .h2 c 1)
    (hk : ST I A c 47 16 4 4 [14, 14, 14, 14, 14, 14, 14, 14, 7, 7, 5, 2, 4, 4] ⊢ Q ⟨⟩) :
    ST I A c 47 16 4 4 [14, 14, 14, 14, 14, 14, 14, 14, 7, 7, 2, 2, 4, 4] ⊢ WP c (call A (k0_part79 (F := F)) v153) Q := by
  rw [k0_part79_eq_skeleton]
  unfold call k0_part79_skel
  refine st_waitS0 I A c .h2 (by rfl) (by rfl) (by rfl) (by rfl) ?_
  refine st_waitR0 I A c .h2 (by rfl) (by decide) (by decide) (by rfl) (by rfl) (by rfl) ?_
  refine s_load c (fun _ => rfl) (fch_cm4 I A c .h2 (by rfl) (by rfl) (by rfl)) ?_
  refine s_dead c (fun _ => rfl) (fch_std4 I A c .h2 (by rfl) (by rfl) (by rfl)) ?_
  refine s_store c (fun _ => rfl) e0 (fch_st1 I A c .h2 (by rfl) (by rfl) (by rfl)) ?_
  exact c_ret c (hk)

/-- Part 80 of the body. -/
theorem p80 {v19 : BitVec 32} {v181 : BitVec 32}
    {Q : PUnit → sProp 𝕄}
    (e0 : oM I c 17 = Rect.overlay (Rect.unit (s := S1024x1024) (k0_off35 c 0#32) S256x256.size (k0_off35_inb c 0)) (oM I c 16) (k0_pay135 (evs I .h2 (prv .h2 c) 0) (ld (smM I c 4) (Rect.unit (s := S1024x1024) (k0_off35 c 0#32) S256x256.size (k0_off35_inb c 0)))))
    (hk : ST I A c 49 17 4 4 [14, 14, 14, 14, 14, 14, 14, 14, 7, 7, 7, 3, 4, 4] ⊢ Q ⟨⟩) :
    ST I A c 47 16 4 4 [14, 14, 14, 14, 14, 14, 14, 14, 7, 7, 5, 2, 4, 4] ⊢ WP c (call A (k0_part80 (F := F)) c v19 v181) Q := by
  rw [k0_part80_eq_skeleton]
  unfold call k0_part80_skel
  refine st_send1 I A c .h2 (by rfl) (by rfl) (dv48 c) (by rfl) (by rfl) ?_
  refine s_load c (fun _ => rfl) (fch_cm6 I A c .h2 (by rfl) (by rfl) (by rfl)) ?_
  refine g_load c (fs I A c) (fun j _ => cov_sm c j) ?_
  refine g_dead c (fo I A c) ?_
  refine g_store c (foS I A c) (by rfl) e0 ?_
  refine st_sigC I A c .h2 (by rfl) (by rfl) (by rfl) (dv49 c) (by rfl) (by rfl) ?_
  refine st_waitS0 I A c .h3 (by rfl) (by rfl) (by rfl) (by rfl) ?_
  exact c_ret c (hk)

/-- Part 81 of the body. -/
theorem p81 {v19 : BitVec 32} {v153 : BitVec 32}
    {Q : (Σ' (v2591 : BitVec 32) (v2592 : BitVec 32) (v2593 : BitVec 1), BitVec 32) → sProp 𝕄}
    (e0 : (k0_pay136 (evs I .h3 (prv .h3 c) 0)) = evs I .h3 c 1)
    (hk : ∀ (u0 : BitVec 32) (u1 : BitVec 32) (u2 : BitVec 1), ST I A c 50 17 4 4 [14, 14, 14, 14, 14, 14, 14, 14, 7, 7, 7, 6, 4, 4] ⊢ Q ⟨u0, u1, u2, 0#32⟩) :
    ST I A c 49 17 4 4 [14, 14, 14, 14, 14, 14, 14, 14, 7, 7, 7, 3, 4, 4] ⊢ WP c (call A (k0_part81 (F := F)) c v19 v153) Q := by
  rw [k0_part81_eq_skeleton]
  unfold call k0_part81_skel
  refine st_waitR0 I A c .h3 (by rfl) (by decide) (by decide) (by rfl) (by rfl) (by rfl) ?_
  refine s_load c (fun _ => rfl) (fch_cm4 I A c .h3 (by rfl) (by rfl) (by rfl)) ?_
  refine s_dead c (fun _ => rfl) (fch_std4 I A c .h3 (by rfl) (by rfl) (by rfl)) ?_
  refine s_store c (fun _ => rfl) e0 (fch_st1 I A c .h3 (by rfl) (by rfl) (by rfl)) ?_
  refine st_send1 I A c .h3 (by rfl) (by rfl) (dv50 c) (by rfl) (by rfl) ?_
  exact c_ret c (hk _ _ _)

/-- Part 82 of the body. -/
theorem p82 {v97 : BitVec 32} {v181 : BitVec 32} {v2591 : BitVec 32} {v2592 : BitVec 32} {v2593 : BitVec 1} {c0_i32_2067 : BitVec 32}
    {Q : PUnit → sProp 𝕄}
    (e0 : oM I c 18 = Rect.overlay (Rect.unit (s := S1024x1024) (k0_off36 c 0#32) S256x256.size (k0_off36_inb c 0)) (oM I c 17) (k0_pay137 (evs I .h3 (prv .h3 c) 0) (ld (smM I c 4) (Rect.unit (s := S1024x1024) (k0_off36 c 0#32) S256x256.size (k0_off36_inb c 0)))))
    (hk : ST I A c 51 18 4 4 [14, 14, 14, 14, 14, 14, 14, 14, 8, 7, 7, 7, 4, 4] ⊢ Q ⟨⟩) :
    ST I A c 50 17 4 4 [14, 14, 14, 14, 14, 14, 14, 14, 7, 7, 7, 6, 4, 4] ⊢ WP c (call A (k0_part82 (F := F)) c v97 v181 v2591 v2592 v2593 c0_i32_2067) Q := by
  rw [k0_part82_eq_skeleton]
  unfold call k0_part82_skel
  refine s_load c (fun _ => rfl) (fch_cm6 I A c .h3 (by rfl) (by rfl) (by rfl)) ?_
  refine g_load c (fs I A c) (fun j _ => cov_sm c j) ?_
  refine g_dead c (fo I A c) ?_
  refine g_store c (foS I A c) (by rfl) e0 ?_
  refine st_sigC I A c .h3 (by rfl) (by rfl) (by rfl) (dv51 c) (by rfl) (by rfl) ?_
  refine st_waitS1 I A c .h0 (by rfl) (by rfl) (by rfl) (by rfl) ?_
  exact c_ret c (hk)

/-- Part 83 of the body. -/
theorem p83 {v46 : BitVec 32} {v97 : BitVec 32}
    {Q : BitVec 32 → sProp 𝕄}
    (e0 : (k0_pay138 (evs I .h0 (prv .h0 c) 1)) = evs I .h0 c 2)
    (hk : ∀ (u0 : BitVec 32), ST I A c 52 18 4 4 [14, 14, 14, 14, 14, 14, 14, 14, 12, 7, 7, 7, 4, 4] ⊢ Q (u0)) :
    ST I A c 51 18 4 4 [14, 14, 14, 14, 14, 14, 14, 14, 8, 7, 7, 7, 4, 4] ⊢ WP c (call A (k0_part83 (F := F)) c v46 v97) Q := by
  rw [k0_part83_eq_skeleton]
  unfold call k0_part83_skel
  refine st_waitR1 I A c .h0 (by rfl) (by decide) (by decide) (by rfl) (by rfl) (by rfl) ?_
  refine s_load c (fun _ => rfl) (fch_cm9 I A c .h0 (by rfl) (by rfl) (by rfl)) ?_
  refine s_dead c (fun _ => rfl) (fch_std9 I A c .h0 (by rfl) (by rfl) (by rfl)) ?_
  refine s_store c (fun _ => rfl) e0 (fch_st2 I A c .h0 (by rfl) (by rfl) (by rfl)) ?_
  refine st_waitC I A c .h0 (by rfl) (by rfl) (by decide) (by decide) (by rfl) (by rfl) ?_
  refine st_send2 I A c .h0 (by rfl) (by rfl) (dv52 c) (by rfl) (by rfl) ?_
  exact c_ret c (hk _)

/-- Part 84 of the body. -/
theorem p84 {v97 : BitVec 32} {v2649 : BitVec 32}
    {Q : PUnit → sProp 𝕄}
    (e0 : oM I c 19 = Rect.overlay (Rect.unit (s := S1024x1024) (k0_off33 c 1#32) S256x256.size (k0_off33_inb c 1)) (oM I c 18) (k0_pay139 (evs I .h0 (prv .h0 c) 1) (ld (smM I c 4) (Rect.unit (s := S1024x1024) (k0_off33 c 1#32) S256x256.size (k0_off33_inb c 1)))))
    (e1 : (k0_pay140 (evs I .h1 (prv .h1 c) 1)) = evs I .h1 c 2)
    (hk : ST I A c 52 19 4 4 [14, 14, 14, 14, 14, 14, 14, 14, 12, 10, 7, 7, 4, 4] ⊢ Q ⟨⟩) :
    ST I A c 52 18 4 4 [14, 14, 14, 14, 14, 14, 14, 14, 12, 7, 7, 7, 4, 4] ⊢ WP c (call A (k0_part84 (F := F)) c v97 v2649) Q := by
  rw [k0_part84_eq_skeleton]
  unfold call k0_part84_skel
  refine s_load c (fun _ => rfl) (fch_cm12 I A c .h0 (by rfl) (by rfl) (by rfl)) ?_
  refine g_load c (fs I A c) (fun j _ => cov_sm c j) ?_
  refine g_dead c (fo I A c) ?_
  refine g_store c (foS I A c) (by rfl) e0 ?_
  refine st_waitS1 I A c .h1 (by rfl) (by rfl) (by rfl) (by rfl) ?_
  refine st_waitR1 I A c .h1 (by rfl) (by decide) (by decide) (by rfl) (by rfl) (by rfl) ?_
  refine s_load c (fun _ => rfl) (fch_cm9 I A c .h1 (by rfl) (by rfl) (by rfl)) ?_
  refine s_dead c (fun _ => rfl) (fch_std9 I A c .h1 (by rfl) (by rfl) (by rfl)) ?_
  refine s_store c (fun _ => rfl) e1 (fch_st2 I A c .h1 (by rfl) (by rfl) (by rfl)) ?_
  exact c_ret c (hk)

/-- Part 85 of the body. -/
theorem p85 {v46 : BitVec 32} {v97 : BitVec 32}
    {Q : PUnit → sProp 𝕄}
    (e0 : oM I c 20 = Rect.overlay (Rect.unit (s := S1024x1024) (k0_off34 c 1#32) S256x256.size (k0_off34_inb c 1)) (oM I c 19) (k0_pay141 (evs I .h1 (prv .h1 c) 1) (ld (smM I c 4) (Rect.unit (s := S1024x1024) (k0_off34 c 1#32) S256x256.size (k0_off34_inb c 1)))))
    (hk : ST I A c 53 20 4 4 [14, 14, 14, 14, 14, 14, 14, 14, 12, 12, 7, 7, 4, 4] ⊢ Q ⟨⟩) :
    ST I A c 52 19 4 4 [14, 14, 14, 14, 14, 14, 14, 14, 12, 10, 7, 7, 4, 4] ⊢ WP c (call A (k0_part85 (F := F)) c v46 v97) Q := by
  rw [k0_part85_eq_skeleton]
  unfold call k0_part85_skel
  refine st_waitC I A c .h1 (by rfl) (by rfl) (by decide) (by decide) (by rfl) (by rfl) ?_
  refine st_send2 I A c .h1 (by rfl) (by rfl) (dv53 c) (by rfl) (by rfl) ?_
  refine s_load c (fun _ => rfl) (fch_cm12 I A c .h1 (by rfl) (by rfl) (by rfl)) ?_
  refine g_load c (fs I A c) (fun j _ => cov_sm c j) ?_
  refine g_dead c (fo I A c) ?_
  refine g_store c (foS I A c) (by rfl) e0 ?_
  exact c_ret c (hk)

/-- Part 86 of the body. -/
theorem p86 {v153 : BitVec 32}
    {Q : PUnit → sProp 𝕄}
    (e0 : (k0_pay142 (evs I .h2 (prv .h2 c) 1)) = evs I .h2 c 2)
    (hk : ST I A c 53 20 4 4 [14, 14, 14, 14, 14, 14, 14, 14, 12, 12, 11, 7, 4, 4] ⊢ Q ⟨⟩) :
    ST I A c 53 20 4 4 [14, 14, 14, 14, 14, 14, 14, 14, 12, 12, 7, 7, 4, 4] ⊢ WP c (call A (k0_part86 (F := F)) v153) Q := by
  rw [k0_part86_eq_skeleton]
  unfold call k0_part86_skel
  refine st_waitS1 I A c .h2 (by rfl) (by rfl) (by rfl) (by rfl) ?_
  refine st_waitR1 I A c .h2 (by rfl) (by decide) (by decide) (by rfl) (by rfl) (by rfl) ?_
  refine s_load c (fun _ => rfl) (fch_cm9 I A c .h2 (by rfl) (by rfl) (by rfl)) ?_
  refine s_dead c (fun _ => rfl) (fch_std9 I A c .h2 (by rfl) (by rfl) (by rfl)) ?_
  refine s_store c (fun _ => rfl) e0 (fch_st2 I A c .h2 (by rfl) (by rfl) (by rfl)) ?_
  refine st_waitC I A c .h2 (by rfl) (by rfl) (by decide) (by decide) (by rfl) (by rfl) ?_
  exact c_ret c (hk)

/-- Part 87 of the body. -/
theorem p87 {v19 : BitVec 32}
    {Q : PUnit → sProp 𝕄}
    (e0 : oM I c 21 = Rect.overlay (Rect.unit (s := S1024x1024) (k0_off35 c 1#32) S256x256.size (k0_off35_inb c 1)) (oM I c 20) (k0_pay143 (evs I .h2 (prv .h2 c) 1) (ld (smM I c 4) (Rect.unit (s := S1024x1024) (k0_off35 c 1#32) S256x256.size (k0_off35_inb c 1)))))
    (hk : ST I A c 54 21 4 4 [14, 14, 14, 14, 14, 14, 14, 14, 12, 12, 12, 8, 4, 4] ⊢ Q ⟨⟩) :
    ST I A c 53 20 4 4 [14, 14, 14, 14, 14, 14, 14, 14, 12, 12, 11, 7, 4, 4] ⊢ WP c (call A (k0_part87 (F := F)) c v19) Q := by
  rw [k0_part87_eq_skeleton]
  unfold call k0_part87_skel
  refine st_send2 I A c .h2 (by rfl) (by rfl) (dv54 c) (by rfl) (by rfl) ?_
  refine s_load c (fun _ => rfl) (fch_cm12 I A c .h2 (by rfl) (by rfl) (by rfl)) ?_
  refine g_load c (fs I A c) (fun j _ => cov_sm c j) ?_
  refine g_dead c (fo I A c) ?_
  refine g_store c (foS I A c) (by rfl) e0 ?_
  refine st_waitS1 I A c .h3 (by rfl) (by rfl) (by rfl) (by rfl) ?_
  exact c_ret c (hk)

/-- Part 88 of the body. -/
theorem p88 {v19 : BitVec 32} {v153 : BitVec 32}
    {Q : (Σ' (v2785 : BitVec 32) (v2786 : BitVec 32), BitVec 32) → sProp 𝕄}
    (e0 : (k0_pay144 (evs I .h3 (prv .h3 c) 1)) = evs I .h3 c 2)
    (hk : ∀ (u0 : BitVec 32) (u1 : BitVec 32), ST I A c 55 21 4 4 [14, 14, 14, 14, 14, 14, 14, 14, 12, 12, 12, 12, 4, 4] ⊢ Q ⟨u0, u1, 0#32⟩) :
    ST I A c 54 21 4 4 [14, 14, 14, 14, 14, 14, 14, 14, 12, 12, 12, 8, 4, 4] ⊢ WP c (call A (k0_part88 (F := F)) c v19 v153) Q := by
  rw [k0_part88_eq_skeleton]
  unfold call k0_part88_skel
  refine st_waitR1 I A c .h3 (by rfl) (by decide) (by decide) (by rfl) (by rfl) (by rfl) ?_
  refine s_load c (fun _ => rfl) (fch_cm9 I A c .h3 (by rfl) (by rfl) (by rfl)) ?_
  refine s_dead c (fun _ => rfl) (fch_std9 I A c .h3 (by rfl) (by rfl) (by rfl)) ?_
  refine s_store c (fun _ => rfl) e0 (fch_st2 I A c .h3 (by rfl) (by rfl) (by rfl)) ?_
  refine st_waitC I A c .h3 (by rfl) (by rfl) (by decide) (by decide) (by rfl) (by rfl) ?_
  refine st_send2 I A c .h3 (by rfl) (by rfl) (dv55 c) (by rfl) (by rfl) ?_
  exact c_ret c (hk _ _)

/-- Part 89 of the body. -/
theorem p89 {v97 : BitVec 32} {v2785 : BitVec 32} {v2786 : BitVec 32} {c0_i32_2269 : BitVec 32}
    {Q : BitVec 32 → sProp 𝕄}
    (e0 : oM I c 22 = Rect.overlay (Rect.unit (s := S1024x1024) (k0_off36 c 1#32) S256x256.size (k0_off36_inb c 1)) (oM I c 21) (k0_pay145 (evs I .h3 (prv .h3 c) 1) (ld (smM I c 4) (Rect.unit (s := S1024x1024) (k0_off36 c 1#32) S256x256.size (k0_off36_inb c 1)))))
    (hk : ST I A c 55 22 4 4 [14, 14, 14, 14, 14, 14, 14, 14, 14, 12, 12, 12, 4, 4] ⊢ Q (2#32)) :
    ST I A c 55 21 4 4 [14, 14, 14, 14, 14, 14, 14, 14, 12, 12, 12, 12, 4, 4] ⊢ WP c (call A (k0_part89 (F := F)) c v97 v2785 v2786 c0_i32_2269) Q := by
  rw [k0_part89_eq_skeleton]
  unfold call k0_part89_skel
  refine s_load c (fun _ => rfl) (fch_cm12 I A c .h3 (by rfl) (by rfl) (by rfl)) ?_
  refine g_load c (fs I A c) (fun j _ => cov_sm c j) ?_
  refine g_dead c (fo I A c) ?_
  refine g_store c (foS I A c) (by rfl) e0 ?_
  refine st_waitS2 I A c .h0 (by rfl) (by rfl) (by rfl) (by rfl) ?_
  refine st_waitR2 I A c .h0 (by rfl) (by decide) (by decide) (by rfl) (by rfl) (by rfl) ?_
  exact c_ret c (hk)

/-- Part 90 of the body. -/
theorem p90 {v46 : BitVec 32} {v97 : BitVec 32} {c2_i32_2297 : BitVec 32}
    {Q : PUnit → sProp 𝕄}
    (e0 : oM I c 23 = Rect.overlay (Rect.unit (s := S1024x1024) (k0_off33 c 2#32) S256x256.size (k0_off33_inb c 2)) (oM I c 22) (k0_pay146 (evs I .h0 (prv .h0 c) 2) (ld (smM I c 4) (Rect.unit (s := S1024x1024) (k0_off33 c 2#32) S256x256.size (k0_off33_inb c 2)))))
    (hk : ST I A c 55 23 4 4 [14, 14, 14, 14, 14, 14, 14, 14, 14, 13, 12, 12, 4, 4] ⊢ Q ⟨⟩) :
    ST I A c 55 22 4 4 [14, 14, 14, 14, 14, 14, 14, 14, 14, 12, 12, 12, 4, 4] ⊢ WP c (call A (k0_part90 (F := F)) c v46 v97 c2_i32_2297) Q := by
  rw [k0_part90_eq_skeleton]
  unfold call k0_part90_skel
  refine s_load c (fun _ => rfl) (fch_cm14f I A c .h0 (by rfl) (by rfl) (by rfl)) ?_
  refine g_load c (fs I A c) (fun j _ => cov_sm c j) ?_
  refine g_dead c (fo I A c) ?_
  refine g_store c (foS I A c) (by rfl) e0 ?_
  refine st_waitS2 I A c .h1 (by rfl) (by rfl) (by rfl) (by rfl) ?_
  exact c_ret c (hk)

/-- Part 91 of the body. -/
theorem p91 {v46 : BitVec 32}
    {Q : PUnit → sProp 𝕄}
    (e0 : oM I c 24 = Rect.overlay (Rect.unit (s := S1024x1024) (k0_off34 c 2#32) S256x256.size (k0_off34_inb c 2)) (oM I c 23) (k0_pay147 (evs I .h1 (prv .h1 c) 2) (ld (smM I c 4) (Rect.unit (s := S1024x1024) (k0_off34 c 2#32) S256x256.size (k0_off34_inb c 2)))))
    (hk : ST I A c 55 24 4 4 [14, 14, 14, 14, 14, 14, 14, 14, 14, 14, 13, 12, 4, 4] ⊢ Q ⟨⟩) :
    ST I A c 55 23 4 4 [14, 14, 14, 14, 14, 14, 14, 14, 14, 13, 12, 12, 4, 4] ⊢ WP c (call A (k0_part91 (F := F)) c v46) Q := by
  rw [k0_part91_eq_skeleton]
  unfold call k0_part91_skel
  refine st_waitR2 I A c .h1 (by rfl) (by decide) (by decide) (by rfl) (by rfl) (by rfl) ?_
  refine s_load c (fun _ => rfl) (fch_cm14f I A c .h1 (by rfl) (by rfl) (by rfl)) ?_
  refine g_load c (fs I A c) (fun j _ => cov_sm c j) ?_
  refine g_dead c (fo I A c) ?_
  refine g_store c (foS I A c) (by rfl) e0 ?_
  refine st_waitS2 I A c .h2 (by rfl) (by rfl) (by rfl) (by rfl) ?_
  exact c_ret c (hk)

/-- Part 92 of the body. -/
theorem p92 {v19 : BitVec 32} {v153 : BitVec 32}
    {Q : PUnit → sProp 𝕄}
    (e0 : oM I c 25 = Rect.overlay (Rect.unit (s := S1024x1024) (k0_off35 c 2#32) S256x256.size (k0_off35_inb c 2)) (oM I c 24) (k0_pay148 (evs I .h2 (prv .h2 c) 2) (ld (smM I c 4) (Rect.unit (s := S1024x1024) (k0_off35 c 2#32) S256x256.size (k0_off35_inb c 2)))))
    (hk : ST I A c 55 25 4 4 [14, 14, 14, 14, 14, 14, 14, 14, 14, 14, 14, 12, 4, 4] ⊢ Q ⟨⟩) :
    ST I A c 55 24 4 4 [14, 14, 14, 14, 14, 14, 14, 14, 14, 14, 13, 12, 4, 4] ⊢ WP c (call A (k0_part92 (F := F)) c v19 v153) Q := by
  rw [k0_part92_eq_skeleton]
  unfold call k0_part92_skel
  refine st_waitR2 I A c .h2 (by rfl) (by decide) (by decide) (by rfl) (by rfl) (by rfl) ?_
  refine s_load c (fun _ => rfl) (fch_cm14f I A c .h2 (by rfl) (by rfl) (by rfl)) ?_
  refine g_load c (fs I A c) (fun j _ => cov_sm c j) ?_
  refine g_dead c (fo I A c) ?_
  refine g_store c (foS I A c) (by rfl) e0 ?_
  exact c_ret c (hk)

/-- Part 93 of the body. -/
theorem p93 {v19 : BitVec 32} {v153 : BitVec 32} {v346 : BitVec 32}
    {Q : FVec F S256x512 .f32 → sProp 𝕄}
    (e0 : oM I c 26 = Rect.overlay (Rect.unit (s := S1024x1024) (k0_off36 c 2#32) S256x256.size (k0_off36_inb c 2)) (oM I c 25) (k0_pay149 (evs I .h3 (prv .h3 c) 2) (ld (smM I c 4) (Rect.unit (s := S1024x1024) (k0_off36 c 2#32) S256x256.size (k0_off36_inb c 2)))))
    (hk : ST I A c 55 26 4 4 [14, 14, 14, 14, 14, 14, 14, 14, 14, 14, 14, 14, 4, 4] ⊢ Q (k0_pay150 (ld (oM I c 26) (Rect.unit (s := S1024x1024) (k0_off37 c) S256x512.size (k0_off37_inb c))))) :
    ST I A c 55 25 4 4 [14, 14, 14, 14, 14, 14, 14, 14, 14, 14, 14, 12, 4, 4] ⊢ WP c (call A (k0_part93 (F := F)) c v19 v153 v346) Q := by
  rw [k0_part93_eq_skeleton]
  unfold call k0_part93_skel
  refine st_waitS2 I A c .h3 (by rfl) (by rfl) (by rfl) (by rfl) ?_
  refine st_waitR2 I A c .h3 (by rfl) (by decide) (by decide) (by rfl) (by rfl) (by rfl) ?_
  refine s_load c (fun _ => rfl) (fch_cm14f I A c .h3 (by rfl) (by rfl) (by rfl)) ?_
  refine g_load c (fs I A c) (fun j _ => cov_sm c j) ?_
  refine g_dead c (fo I A c) ?_
  refine g_store c (foS I A c) (by rfl) e0 ?_
  refine g_load c (fo I A c) (cov_L c 26 (by decide) _ (off37 c) (by rfl) (by simp only [S64x512_z, S256x512_z, Matrix.cons_val_zero]; have := yR_lt c 1; have := zR_lt c 0; have := zR_lt c 1; have := zR_lt c 2; have := zR_lt c 3; omega)) ?_
  exact c_ret c (hk)

end Cert.KernelIdeal.Moe

end
-- ==== Proof.Body.lean ====
/-
The whole body walked, part by part.
-/
module

public import proofs.«01_k».proof.Proof.Pt0
public import proofs.«01_k».proof.Proof.Pt1
public import proofs.«01_k».proof.Proof.Pt2
public import proofs.«01_k».proof.Proof.Pt3
public import proofs.«01_k».proof.Proof.Pt4
public import proofs.«01_k».proof.Proof.Pt5

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok launchOf)
open Idealize.ShloMosaic.TalkSites Idealize.ShloMosaic.SiteBlocks

variable {F : FTy → Type} [FloatOps F]

local notation "𝕄" => MT nD τ sig ℕ (Elt F) ℕ UU ℕ

variable (I : Inp F) (A : Ins) (c : Dev nD)

set_option synthInstance.maxSize 4096
set_option maxRecDepth 65536

/-- The state is monotone in what rides along. -/
theorem SX_mono {X Y : sProp 𝕄} {n o s q : ℕ} (h : X ⊢ Y) : SX I A c X n o s q ⊢ SX I A c Y n o s q := by
  unfold SX
  iintro ⟨#H0, H1, H2, H3, H4, H5, H6, H7, H8, H9, HX⟩
  iframe H0 H1 H2 H3 H4 H5 H6 H7 H8 H9
  iapply h $$ HX

set_option maxHeartbeats 4000000 in
/-- The body from the opening signals to the last store: every write is the intended one, every chain runs its course. -/
theorem body_walk {Y : sProp 𝕄} (hY : iprop(((bigSep Finset.univ fun i : Fin 5 => barPay (F := F) (bFrom i c) i) ∗ Pos (F := F) (gB c) 1) ∗ Y)
      ⊢ iprop(Pos (F := F) (gB c) 1 ∗ CHS I c [0, 0, 0, 0, 0, 0, 0, 0, 0, 0, 0, 0, 0, 0])) {Q : PUnit → sProp 𝕄}
    (hk : ST I A c 55 28 4 4 [14, 14, 14, 14, 14, 14, 14, 14, 14, 14, 14, 14, 4, 4] ⊢ Q ⟨⟩) :
    SX I A c iprop(sg c 0 ∗ sg c 1 ∗ sg c 2 ∗ sg c 3 ∗ sg c 4 ∗ ((cred (tallyAt (gB c) 1 5) ∗ Pos (F := F) (gB c) 0) ∗ Y)) 0 0 0 0
      ⊢ WP c (Moe.call A (cc0_body (F := F))) Q := by
  rw [cc0_body_eq_skeleton]
  unfold Moe.call cc0_body_skel
  refine c_bind c ?_
  rw [k0_part94_eq_skeleton]
  unfold k0_part94_skel
  refine c_bind c (p1 I A c (fun _ _ _ _ _ _ => ?_))
  refine c_bind c (p2 I A c (fun _ _ _ _ _ _ => ?_))
  refine c_bind c (p3 I A c (fun _ _ _ _ => ?_))
  refine c_bind c (p4 I A c (fun _ _ _ _ => ?_))
  refine c_bind c (p5 I A c (fun _ _ _ _ _ _ => ?_))
  refine c_bind c (p6 I A c (fun _ => ?_))
  refine c_bind c (p7 I A c ?_ ?_)
  · rfl
  refine c_bind c (p8 I A c ?_ ?_ ?_)
  · rfl
  · rfl
  refine c_bind c (p9 I A c ?_ ?_ (fun _ _ _ _ _ => ?_))
  · rfl
  · rfl
  refine (SX_mono I A c hY).trans ?_
  refine c_bind c (p10 I A c (fun _ _ _ _ => ?_))
  refine c_bind c (p11 I A c ?_ ?_)
  · rfl
  refine c_bind c (p12 I A c ?_)
  refine c_bind c (p13 I A c ?_ (fun _ => ?_))
  · rfl
  refine c_bind c (p14 I A c ?_)
  refine c_bind c (p15 I A c ?_ ?_)
  · rfl
  refine c_bind c (p16 I A c ?_ (fun _ => ?_))
  · rfl
  refine c_bind c (p17 I A c (fun _ => ?_))
  refine c_bind c (p18 I A c (fun _ _ _ => ?_))
  refine c_bind c (p19 I A c (fun _ => ?_))
  refine c_bind c (p20 I A c (fun _ => ?_))
  refine c_bind c (p21 I A c (fun _ _ => ?_))
  refine c_bind c (p22 I A c (fun _ => ?_))
  refine c_bind c (p23 I A c ?_)
  refine c_bind c (p24 I A c ?_ ?_)
  · rfl
  refine c_bind c (p25 I A c ?_ ?_)
  · rfl
  refine c_bind c (p26 I A c ?_ ?_)
  · rfl
  refine c_bind c (p27 I A c ?_ ?_)
  · rfl
  refine c_bind c (p28 I A c (fun _ => ?_))
  refine c_bind c (p29 I A c ?_)
  refine c_bind c (p30 I A c (fun _ _ => ?_))
  refine c_bind c (p31 I A c (fun _ _ => ?_))
  refine c_bind c (p32 I A c ?_)
  refine c_bind c (p33 I A c (fun _ => ?_))
  refine c_bind c (p34 I A c (fun _ => ?_))
  refine c_bind c (p35 I A c ?_ ?_)
  · rfl
  refine c_bind c (p36 I A c ?_ ?_)
  · rfl
  refine c_bind c (p37 I A c ?_ (fun _ => ?_))
  · rfl
  refine c_bind c (p38 I A c ?_)
  refine c_bind c (p39 I A c ?_ (fun _ => ?_))
  · rfl
  refine c_bind c (p40 I A c ?_)
  refine c_bind c (p41 I A c (fun _ _ => ?_))
  refine c_bind c (p42 I A c (fun _ _ => ?_))
  refine c_bind c (p43 I A c ?_)
  refine c_bind c (p44 I A c (fun _ => ?_))
  refine c_bind c (p45 I A c (fun _ => ?_))
  refine c_bind c (p46 I A c ?_ ?_)
  · rfl
  refine c_bind c (p47 I A c ?_ ?_ ?_)
  · rfl
  · rfl
  refine c_bind c (p48 I A c ?_ ?_ ?_)
  · rfl
  · rfl
  refine c_bind c (p49 I A c ?_ (fun _ _ _ => ?_))
  · rfl
  refine c_bind c (p50 I A c ?_ ?_)
  · rfl
  refine c_bind c (p51 I A c ?_ ?_)
  · rfl
  refine c_bind c (p52 I A c ?_)
  refine c_bind c (p53 I A c ?_ (fun _ => ?_))
  · rfl
  refine c_bind c (p54 I A c ?_ (fun _ => ?_))
  · rfl
  refine c_bind c (p55 I A c ?_ ?_)
  · rfl
  refine c_bind c (p56 I A c ?_ ?_)
  · rfl
  refine c_bind c (p57 I A c ?_)
  refine c_bind c (p58 I A c ?_ ?_ ?_)
  · rfl
  · rfl
  refine c_bind c (p59 I A c ?_ ?_ ?_)
  · rfl
  · rfl
  refine c_bind c (p60 I A c ?_ ?_ ?_ ?_)
  · rfl
  · rfl
  · rfl
  refine c_ret c ?_
  refine c_bind c (p61 I A c ?_ ?_ ?_)
  · rfl
  · rfl
  refine c_bind c (p62 I A c ?_ ?_)
  · rfl
  refine c_bind c (p63 I A c ?_ ?_)
  · rfl
  refine c_bind c (p64 I A c ?_ ?_)
  · rfl
  refine c_bind c (p65 I A c ?_ (fun _ _ _ => ?_))
  · rfl
  refine c_bind c (p66 I A c ?_ ?_)
  · rfl
  refine c_bind c (p67 I A c ?_ ?_)
  · rfl
  refine c_bind c (p68 I A c ?_ ?_ ?_)
  · rfl
  · rfl
  refine c_bind c (p69 I A c ?_ ?_)
  · rfl
  refine c_bind c (p70 I A c ?_ ?_)
  · rfl
  refine c_bind c (p71 I A c ?_ (fun _ _ => ?_))
  · rfl
  refine c_bind c (p72 I A c ?_ (fun _ _ _ => ?_))
  · rfl
  refine c_bind c (p73 I A c ?_ ?_)
  · rfl
  refine c_bind c (p74 I A c ?_ ?_ ?_)
  · rfl
  · rfl
  refine c_bind c (p75 I A c ?_)
  refine c_bind c (p76 I A c ?_ ?_)
  · rfl
  refine c_bind c (p77 I A c ?_ ?_ (fun _ => ?_))
  · rfl
  · rfl
  refine c_bind c (p78 I A c ?_ ?_)
  · rfl
  refine c_bind c (p79 I A c ?_ ?_)
  · rfl
  refine c_bind c (p80 I A c ?_ ?_)
  · rfl
  refine c_bind c (p81 I A c ?_ (fun _ _ _ => ?_))
  · rfl
  refine c_bind c (p82 I A c ?_ ?_)
  · rfl
  refine c_bind c (p83 I A c ?_ (fun _ => ?_))
  · rfl
  refine c_bind c (p84 I A c ?_ ?_ ?_)
  · rfl
  · rfl
  refine c_bind c (p85 I A c ?_ ?_)
  · rfl
  refine c_bind c (p86 I A c ?_ ?_)
  · rfl
  refine c_bind c (p87 I A c ?_ ?_)
  · rfl
  refine c_bind c (p88 I A c ?_ (fun _ _ => ?_))
  · rfl
  refine c_bind c (p89 I A c ?_ ?_)
  · rfl
  refine c_bind c (p90 I A c ?_ ?_)
  · rfl
  refine c_bind c (p91 I A c ?_ ?_)
  · rfl
  refine c_bind c (p92 I A c ?_ ?_)
  · rfl
  refine c_bind c (p93 I A c ?_ ?_)
  · rfl
  refine g_load c (fs I A c) (fun j _ => cov_sm c j) ?_
  refine g_dead c (fo I A c) ?_
  refine g_store c (foS I A c) (by rfl) ?_ ?_
  · rfl
  refine g_load c (fo I A c) (cov_R c 27 (by decide) _ (off38 c) (by rfl) (by simp only [S64x512_z, S256x512_z, Matrix.cons_val_zero]; have := zR_lt c 1; have := yR_lt c 1; omega)) ?_
  refine g_load c (fs I A c) (fun j _ => cov_sm c j) ?_
  refine g_dead c (fo I A c) ?_
  refine g_store c (foS I A c) (by rfl) ?_ ?_
  · rfl
  exact c_ret c hk

end Cert.KernelIdeal.Moe

end
-- ==== Proof.Open.lean ====
/-
What a device holds at its launch, dealt out to the fourteen chains and to the five barrier signals.
-/
module

public import proofs.«01_k».proof.Proof.Body
public import Idealize.ShloMosaic.Lib.Pipeline.BigSepL
public import Idealize.ShloMosaic.Lib.Pipeline.TalkSched

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok launchOf)
open Idealize.ShloMosaic.TalkSites Idealize.ShloMosaic.SiteBlocks

variable {F : FTy → Type} [FloatOps F]

local notation "𝕄" => MT nD τ sig ℕ (Elt F) ℕ UU ℕ

/-! ## The parts of a chain's first state -/

/-- The tokens of a chain. -/
def Tin (c : Dev nD) (k : Ch) : sProp 𝕄 :=
  if ring k then iprop(Tc (F := F) c k 0 ∗ Tc (F := F) c k 1 ∗ Tc (F := F) c k 2 ∗ TC (F := F) c k) else Tc (F := F) c k 0
/-- The credits of a chain. -/
def Kin (c : Dev nD) (k : Ch) : sProp 𝕄 :=
  if ring k then iprop(Kc (F := F) c k 0 ∗ Kc (F := F) c k 1 ∗ Kc (F := F) c k 2 ∗ KC (F := F) c k) else Kc (F := F) c k 0
/-- The positions of a chain. -/
def Pin (c : Dev nD) (k : Ch) : sProp 𝕄 :=
  if ring k then iprop(Pos (F := F) (gS c k false) 0 ∗ Pos (F := F) (gS c k true) 0 ∗ Pos (F := F) (gR c k false) 0 ∗ Pos (F := F) (gR c k true) 0 ∗ Pos (F := F) (gC c k) 0)
  else iprop(Pos (F := F) (gS c k false) 0 ∗ Pos (F := F) (gR c k false) 0)
/-- The sending slots of a chain. -/
def Sin (c : Dev nD) (k : Ch) : sProp 𝕄 :=
  if ring k then iprop(ownA (F := F) c (st k false) ∗ ownA (F := F) c (st k true)) else ownA (F := F) c (st k false)

theorem cx_in (I : Inp F) (c : Dev nD) (k : Ch) :
    iprop(Tin (F := F) c k ∗ Kin (F := F) c k ∗ Pin (F := F) c k ∗ Sin (F := F) c k ∗ land (F := F) (nxt k c) k ∗ RZ (F := F) (nxt k c) k ∗ RZ (F := F) (prv k c) k)
      ⊢ (CX I c k 0 : sProp 𝕄) := by
  unfold CX Tin Kin Pin Sin land
  by_cases h : ring k
  · simp only [if_pos h, CH]
    iintro ⟨⟨T0, T1, T2, T3⟩, ⟨K0, K1, K2, K3⟩, ⟨P0, P1, P2, P3, P4⟩, ⟨S0, S1⟩, ⟨L0, L1⟩, R0, R1⟩
    isplitl [T0]; · iexact T0
    isplitl [T1]; · iexact T1
    isplitl [T2]; · iexact T2
    isplitl [T3]; · iexact T3
    isplitl [L0]; · iexact L0
    isplitl [L1]; · iexact L1
    isplitl [K0]; · iexact K0
    isplitl [K1]; · iexact K1
    isplitl [K2]; · iexact K2
    isplitl [K3]; · iexact K3
    isplitl [P0]; · iexact P0
    isplitl [P1]; · iexact P1
    isplitl [P2]; · iexact P2
    isplitl [P3]; · iexact P3
    isplitl [P4]; · iexact P4
    isplitl [R0 R1]; · isplitl [R0]; · iexact R0
                       iexact R1
    isplitl [S0]; · iexact S0
    iexact S1
  · simp only [if_neg h, XH]
    iintro ⟨T0, K0, ⟨P0, P1⟩, S0, L0, R0, R1⟩
    isplitl [T0]; · iexact T0
    isplitl [L0]; · iexact L0
    isplitl [K0]; · iexact K0
    isplitl [P0]; · iexact P0
    isplitl [P1]; · iexact P1
    isplitl [R0 R1]; · isplitl [R0]; · iexact R0
                       iexact R1
    iexact S0

theorem big_mono {A : Type} [Fintype A] {Φ Ψ : A → sProp 𝕄} (h : ∀ a, Φ a ⊢ Ψ a) : bigSep Finset.univ Φ ⊢ bigSep Finset.univ Ψ :=
  bigSep_mono fun a _ => h a

theorem chs_univ : (Finset.univ : Finset Ch) = chs.toFinset := by decide
theorem chs_nodup : chs.Nodup := by decide

theorem chs_in (I : Inp F) (c : Dev nD) : (bigSep Finset.univ fun k : Ch => (CX I c k 0 : sProp 𝕄)) ⊢ CHS I c [0, 0, 0, 0, 0, 0, 0, 0, 0, 0, 0, 0, 0, 0] :=
  Entails.of_eq ((bigSep_univ_eq_bigSepL chs chs_univ chs_nodup _).trans (by rfl))
theorem chs_out (I : Inp F) (c : Dev nD) : CHS I c [14, 14, 14, 14, 14, 14, 14, 14, 14, 14, 14, 14, 4, 4]
    ⊢ (bigSep Finset.univ fun k : Ch => (CX I c k (if ring k then 14 else 4) : sProp 𝕄)) :=
  Entails.of_eq (((bigSep_univ_eq_bigSepL chs chs_univ chs_nodup _).trans (by rfl)).symm)

/-! ## What the barrier hands over -/

theorem bar_eq (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem ch_eq (Φ : Ch → sProp 𝕄) : bigSep Finset.univ Φ = iprop(Φ .a0 ∗ Φ .a1 ∗ Φ .a2 ∗ Φ .a3 ∗ Φ .b0 ∗ Φ .b1 ∗ Φ .g0 ∗ Φ .g1 ∗ Φ .h0 ∗ Φ .h1 ∗ Φ .h2 ∗ Φ .h3 ∗ Φ .xA ∗ Φ .xB) :=
  (bigSep_univ_eq_bigSepL chs chs_univ chs_nodup _).trans (by rfl)

theorem bar_hand (c : Dev nD) : (bigSep Finset.univ fun i : Fin 5 => barPay (F := F) (bFrom i c) i)
    ⊢ iprop((bigSep Finset.univ fun k : Ch => land (F := F) (nxt k c) k) ∗ bigSep Finset.univ fun k : Ch => iprop(RZ (F := F) (nxt k c) k ∗ RZ (F := F) (prv k c) k)) := by
  rw [bar_eq, ch_eq, ch_eq]
  simp only [barPay]
  iintro ⟨⟨#R0, -⟩, ⟨#R1, L1⟩, ⟨#R2, -⟩, ⟨#R3, L3⟩, ⟨#R4, L4⟩⟩
  ihave L1' := (show barLand (F := F) (bFrom 1 c) 1 ⊢ iprop(land (F := F) (nxt .a0 c) .a0 ∗ land (F := F) (nxt .a1 c) .a1 ∗ land (F := F) (nxt .b1 c) .b1 ∗ land (F := F) (nxt .g1 c) .g1 ∗ land (F := F) (nxt .h0 c) .h0 ∗ land (F := F) (nxt .h1 c) .h1) from .rfl) $$ L1
  icases L1' with ⟨La0, La1, Lb1, Lg1, Lh0, Lh1⟩
  ihave L3' := (show barLand (F := F) (bFrom 3 c) 3 ⊢ iprop(land (F := F) (nxt .a2 c) .a2 ∗ land (F := F) (nxt .a3 c) .a3 ∗ land (F := F) (nxt .b0 c) .b0 ∗ land (F := F) (nxt .g0 c) .g0 ∗ land (F := F) (nxt .h2 c) .h2 ∗ land (F := F) (nxt .h3 c) .h3) from .rfl) $$ L3
  icases L3' with ⟨La2, La3, Lb0, Lg0, Lh2, Lh3⟩
  ihave L4' := (show barLand (F := F) (bFrom 4 c) 4 ⊢ iprop(land (F := F) (nxt .xA c) .xA ∗ land (F := F) (nxt .xB c) .xB) from .rfl) $$ L4
  icases L4' with ⟨LxA, LxB⟩
  isplitl [La0 La1 La2 La3 Lb0 Lb1 Lg0 Lg1 Lh0 Lh1 Lh2 Lh3 LxA LxB]
  · isplitl [La0]; · iexact La0
    isplitl [La1]; · iexact La1
    isplitl [La2]; · iexact La2
    isplitl [La3]; · iexact La3
    isplitl [Lb0]; · iexact Lb0
    isplitl [Lb1]; · iexact Lb1
    isplitl [Lg0]; · iexact Lg0
    isplitl [Lg1]; · iexact Lg1
    isplitl [Lh0]; · iexact Lh0
    isplitl [Lh1]; · iexact Lh1
    isplitl [Lh2]; · iexact Lh2
    isplitl [Lh3]; · iexact Lh3
    isplitl [LxA]; · iexact LxA
    iexact LxB
  isplitl []
  · isplitl []; · iapply (show RA (F := F) (bFrom 1 c) ⊢ RZ (F := F) (nxt .a0 c) .a0 from RA_elim _ _); iexact R1
    iapply (show RA (F := F) (bFrom 0 c) ⊢ RZ (F := F) (prv .a0 c) .a0 from RA_elim _ _); iexact R0
  isplitl []
  · isplitl []; · iapply (show RA (F := F) (bFrom 1 c) ⊢ RZ (F := F) (nxt .a1 c) .a1 from RA_elim _ _); iexact R1
    iapply (show RA (F := F) (bFrom 0 c) ⊢ RZ (F := F) (prv .a1 c) .a1 from RA_elim _ _); iexact R0
  isplitl []
  · isplitl []; · iapply (show RA (F := F) (bFrom 3 c) ⊢ RZ (F := F) (nxt .a2 c) .a2 from RA_elim _ _); iexact R3
    iapply (show RA (F := F) (bFrom 2 c) ⊢ RZ (F := F) (prv .a2 c) .a2 from RA_elim _ _); iexact R2
  isplitl []
  · isplitl []; · iapply (show RA (F := F) (bFrom 3 c) ⊢ RZ (F := F) (nxt .a3 c) .a3 from RA_elim _ _); iexact R3
    iapply (show RA (F := F) (bFrom 2 c) ⊢ RZ (F := F) (prv .a3 c) .a3 from RA_elim _ _); iexact R2
  isplitl []
  · isplitl []; · iapply (show RA (F := F) (bFrom 3 c) ⊢ RZ (F := F) (nxt .b0 c) .b0 from RA_elim _ _); iexact R3
    iapply (show RA (F := F) (bFrom 2 c) ⊢ RZ (F := F) (prv .b0 c) .b0 from RA_elim _ _); iexact R2
  isplitl []
  · isplitl []; · iapply (show RA (F := F) (bFrom 1 c) ⊢ RZ (F := F) (nxt .b1 c) .b1 from RA_elim _ _); iexact R1
    iapply (show RA (F := F) (bFrom 0 c) ⊢ RZ (F := F) (prv .b1 c) .b1 from RA_elim _ _); iexact R0
  isplitl []
  · isplitl []; · iapply (show RA (F := F) (bFrom 3 c) ⊢ RZ (F := F) (nxt .g0 c) .g0 from RA_elim _ _); iexact R3
    iapply (show RA (F := F) (bFrom 2 c) ⊢ RZ (F := F) (prv .g0 c) .g0 from RA_elim _ _); iexact R2
  isplitl []
  · isplitl []; · iapply (show RA (F := F) (bFrom 1 c) ⊢ RZ (F := F) (nxt .g1 c) .g1 from RA_elim _ _); iexact R1
    iapply (show RA (F := F) (bFrom 0 c) ⊢ RZ (F := F) (prv .g1 c) .g1 from RA_elim _ _); iexact R0
  isplitl []
  · isplitl []; · iapply (show RA (F := F) (bFrom 1 c) ⊢ RZ (F := F) (nxt .h0 c) .h0 from RA_elim _ _); iexact R1
    iapply (show RA (F := F) (bFrom 0 c) ⊢ RZ (F := F) (prv .h0 c) .h0 from RA_elim _ _); iexact R0
  isplitl []
  · isplitl []; · iapply (show RA (F := F) (bFrom 1 c) ⊢ RZ (F := F) (nxt .h1 c) .h1 from RA_elim _ _); iexact R1
    iapply (show RA (F := F) (bFrom 0 c) ⊢ RZ (F := F) (prv .h1 c) .h1 from RA_elim _ _); iexact R0
  isplitl []
  · isplitl []; · iapply (show RA (F := F) (bFrom 3 c) ⊢ RZ (F := F) (nxt .h2 c) .h2 from RA_elim _ _); iexact R3
    iapply (show RA (F := F) (bFrom 2 c) ⊢ RZ (F := F) (prv .h2 c) .h2 from RA_elim _ _); iexact R2
  isplitl []
  · isplitl []; · iapply (show RA (F := F) (bFrom 3 c) ⊢ RZ (F := F) (nxt .h3 c) .h3 from RA_elim _ _); iexact R3
    iapply (show RA (F := F) (bFrom 2 c) ⊢ RZ (F := F) (prv .h3 c) .h3 from RA_elim _ _); iexact R2
  isplitl []
  · isplitl []; · iapply (show RA (F := F) (bFrom 4 c) ⊢ RZ (F := F) (nxt .xA c) .xA from RA_elim _ _); iexact R4
    iapply (show RA (F := F) (bFrom 4 c) ⊢ RZ (F := F) (prv .xA c) .xA from RA_elim _ _); iexact R4
  isplitl []; · iapply (show RA (F := F) (bFrom 4 c) ⊢ RZ (F := F) (nxt .xB c) .xB from RA_elim _ _); iexact R4
  iapply (show RA (F := F) (bFrom 4 c) ⊢ RZ (F := F) (prv .xB c) .xB from RA_elim _ _); iexact R4

/-- From the barrier's hand-over and the own parts, all chains at their first state. -/
theorem hY_in (I : Inp F) (c : Dev nD) :
    iprop(((bigSep Finset.univ fun i : Fin 5 => barPay (F := F) (bFrom i c) i) ∗ Pos (F := F) (gB c) 1)
        ∗ (bigSep Finset.univ fun k => Tin (F := F) c k) ∗ (bigSep Finset.univ fun k => Kin (F := F) c k) ∗ (bigSep Finset.univ fun k => Pin (F := F) c k) ∗ bigSep Finset.univ fun k => Sin (F := F) c k)
      ⊢ iprop(Pos (F := F) (gB c) 1 ∗ CHS I c [0, 0, 0, 0, 0, 0, 0, 0, 0, 0, 0, 0, 0, 0]) := by
  iintro ⟨⟨HB, HP⟩, HT, HK, HPs, HS⟩
  isplitl [HP]; · iexact HP
  iapply (chs_in I c)
  iapply (big_mono fun k => cx_in I c k)
  ihave HB' := (bar_hand c) $$ HB
  simp only [bigSep_sep']
  icases HB' with ⟨HL, HR⟩
  isplitl [HT]; · iexact HT
  isplitl [HK]; · iexact HK
  isplitl [HPs]; · iexact HPs
  isplitl [HS]; · iexact HS
  isplitl [HL]; · iexact HL
  iexact HR

/-! ## The credits -/

/-- The payments a chain receives. -/
def kk (k : Ch) : List Key := if ring k then [.snd k 0, .snd k 1, .snd k 2, .crd k] else [.snd k 0]

theorem keys_perm : keys.Perm ([.bar 0, .bar 1, .bar 2, .bar 3, .bar 4] ++ chs.flatMap kk) := by decide
theorem keys_nodup : keys.Nodup := by decide

theorem bigSepL_flatMap {A B : Type} (l : List A) (f : A → List B) (Φ : B → sProp 𝕄) :
    bigSepL (l.flatMap f) Φ = bigSepL l fun a => bigSepL (f a) Φ := by
  induction l with
  | nil => rfl
  | cons a l ih => rw [List.flatMap_cons, bigSepL_append, bigSepL_cons', ih]

theorem kin_eq (c : Dev nD) (k : Ch) : (bigSepL (kk k) fun x => (cred (cpay c x).tally : sProp 𝕄)) = Kin (F := F) c k := by
  unfold kk Kin
  by_cases h : ring k
  · simp only [if_pos h]; rfl
  · simp only [if_neg h]; rfl

/-- Five units of one index are the five single ones. -/
theorem cred_five (g : GSem nD τ sig) : iprop(cred (tallyAt g 1 1) ∗ cred (tallyAt g 1 1) ∗ cred (tallyAt g 1 1) ∗ cred (tallyAt g 1 1) ∗ cred (tallyAt g 1 1))
    ⊢ (cred (tallyAt g 1 5) : sProp 𝕄) := by
  rw [show (tallyAt g 1 5 : CellTallies nD τ sig ℕ) = tallyAt g 1 1 + (tallyAt g 1 1 + (tallyAt g 1 1 + (tallyAt g 1 1 + tallyAt g 1 1))) from by
    simp only [tallyAt_add]]
  refine BIBase.Entails.trans ?_ (cred_add _ _).2
  refine sep_mono .rfl (BIBase.Entails.trans ?_ (cred_add _ _).2)
  refine sep_mono .rfl (BIBase.Entails.trans ?_ (cred_add _ _).2)
  exact sep_mono .rfl (cred_add _ _).2

theorem cred_in (c : Dev nD) : (cred (tallyL (keys.map (cpay c))) : sProp 𝕄)
    ⊢ iprop(cred (tallyAt (gB c) 1 5) ∗ bigSep Finset.univ fun k => Kin (F := F) c k) := by
  rw [cred_tallyL, bigSepL_map, bigSepL_perm keys_perm keys_nodup, bigSepL_append, bigSepL_flatMap, bigSep_univ_eq_bigSepL chs chs_univ chs_nodup]
  refine sep_mono (cred_five (gB c)) (Entails.of_eq ?_)
  congr 1; funext k; exact kin_eq c k

theorem sum_list {A : Type} (l : List A) (f : Dev nD → A → Pay nD τ sig) :
    (∑ d, tallyL (l.map (f d)) : CellTallies nD τ sig ℕ) = (l.map fun x => ∑ d, (f d x).tally).sum := by
  induction l with
  | nil => simp only [List.map_nil, tallyL, Finset.sum_const_zero, List.sum_nil]
  | cons a l ih => simp only [List.map_cons, tallyL, Finset.sum_add_distrib, List.sum_cons, ih]

/-- What all owe together is what all are owed together. -/
theorem due_sum : (∑ d, due d 0) = ∑ d, (tallyL (keys.map (cpay d)) : CellTallies nD τ sig ℕ) := by
  change (∑ d, tallyL (keys.map (pay d))) = _
  rw [sum_list, sum_list]
  congr 1
  refine List.map_congr_left fun x _ => ?_
  exact Equiv.sum_comp ⟨tgt x, src x, src_tgt x, tgt_src x⟩ fun d => (cpay d x).tally

theorem launch_cred (c : Dev nD) : (Pipeline.launchCred (fun d => due d 0) c : sProp 𝕄)
    ⊢ iprop(cred (tallyAt (gB c) 1 5) ∗ bigSep Finset.univ fun k => Kin (F := F) c k) := by
  rw [Pipeline.launchCred_of_sum _ (fun d => tallyL (keys.map (cpay d))) due_sum]
  · exact cred_in c
  · intro d g hg
    have : ∃ i, 0 < (tallyL (keys.map (cpay d)) : CellTallies nD τ sig ℕ) g i := by
      by_contra hc
      push Not at hc
      exact hg (Finsupp.ext fun i => Nat.le_zero.mp (hc i))
    obtain ⟨i, hi⟩ := this
    obtain ⟨x, hx, rfl, -⟩ := tallyL_pos hi
    obtain ⟨y, -, rfl⟩ := List.mem_map.mp hx
    rfl

/-! ## The tokens -/

theorem tk_eq (Φ : TK → sProp 𝕄) : bigSep Finset.univ Φ = iprop(Φ (.snd 0) ∗ Φ (.snd 1) ∗ Φ (.snd 2) ∗ Φ (.rcv 0) ∗ Φ (.rcv 1) ∗ Φ (.rcv 2) ∗ Φ .crd) :=
  bigSep_univ_eq_bigSepL ([.snd 0, .snd 1, .snd 2, .rcv 0, .rcv 1, .rcv 2, .crd] : List TK) (by decide) (by decide) Φ

theorem tok_in (c : Dev nD) : (bigSep (Fm.toks c 0) fun x => dutyTok (ER (F := F)) x.1 x.2.1 x.2.2)
    ⊢ iprop((bigSep Finset.univ fun i : Fin 5 => dutyTok (ER (F := F)) (gB (bTo i c)) 0 i) ∗ bigSep Finset.univ fun k => Tin (F := F) c k) := by
  change bigSep (Finset.univ.map (tokE c)) _ ⊢ _
  rw [bigSep_map, BI.bigSep_univ_sum, BI.bigSep_univ_prod]
  refine sep_mono (Entails.of_eq (by rfl)) (big_mono fun k => ?_)
  rw [tk_eq]
  change iprop(dutyTok (ER (F := F)) (tokOf c (.inr (k, .snd 0))).1 (tokOf c (.inr (k, .snd 0))).2.1 (tokOf c (.inr (k, .snd 0))).2.2 ∗ dutyTok (ER (F := F)) (tokOf c (.inr (k, .snd 1))).1 (tokOf c (.inr (k, .snd 1))).2.1 (tokOf c (.inr (k, .snd 1))).2.2 ∗ dutyTok (ER (F := F)) (tokOf c (.inr (k, .snd 2))).1 (tokOf c (.inr (k, .snd 2))).2.1 (tokOf c (.inr (k, .snd 2))).2.2
    ∗ dutyTok (ER (F := F)) (tokOf c (.inr (k, .rcv 0))).1 (tokOf c (.inr (k, .rcv 0))).2.1 (tokOf c (.inr (k, .rcv 0))).2.2 ∗ dutyTok (ER (F := F)) (tokOf c (.inr (k, .rcv 1))).1 (tokOf c (.inr (k, .rcv 1))).2.1 (tokOf c (.inr (k, .rcv 1))).2.2 ∗ dutyTok (ER (F := F)) (tokOf c (.inr (k, .rcv 2))).1 (tokOf c (.inr (k, .rcv 2))).2.1 (tokOf c (.inr (k, .rcv 2))).2.2
    ∗ dutyTok (ER (F := F)) (tokOf c (.inr (k, .crd))).1 (tokOf c (.inr (k, .crd))).2.1 (tokOf c (.inr (k, .crd))).2.2) ⊢ _
  unfold Tin Tc TC
  by_cases h : ring k
  · simp only [if_pos h]
    iintro ⟨A0, A1, A2, B0, B1, B2, C⟩
    isplitl [A0 B0]; · isplitl [A0]; · iexact A0
                       iexact B0
    isplitl [A1 B1]; · isplitl [A1]; · iexact A1
                       iexact B1
    isplitl [A2 B2]; · isplitl [A2]; · iexact A2
                       iexact B2
    rw [show tokOf c (.inr (k, .crd)) = (((prv k c : Thread nD τ), crdS k), 0, 0) from if_pos h]
    iexact C
  · simp only [if_neg h]
    iintro ⟨A0, -, -, B0, -, -, -⟩
    isplitl [A0]; · iexact A0
    iexact B0

/-! ## The semaphores -/

/-- The semaphores of a chain. -/
def sms (k : Ch) : List (SemLoc sig) := if ring k then [.dma (sndS k false), .dma (sndS k true), .dma (rcvS k false), .dma (rcvS k true), crdS k]
  else [.dma (sndS k false), .dma (rcvS k false)]

theorem dorms_eq : dorms = (chs.flatMap sms).toFinset := by decide
theorem sms_nodup : (chs.flatMap sms).Nodup := by decide

theorem dorm_split (Φ : SemLoc sig → sProp 𝕄) : bigSep dorms Φ = bigSep Finset.univ fun k => bigSepL (sms k) Φ := by
  rw [dorms_eq, bigSep_eq_bigSepL _ sms_nodup, bigSepL_flatMap, bigSep_univ_eq_bigSepL chs chs_univ chs_nodup]

theorem pin_in (c : Dev nD) : (bigSep dorms fun s => Pos (F := F) ((c : Thread nD τ), s) 0) ⊢ bigSep Finset.univ fun k => Pin (F := F) c k := by
  rw [dorm_split]
  refine big_mono fun k => ?_
  unfold sms Pin
  by_cases h : ring k
  · simp only [if_pos h]; exact .rfl
  · simp only [if_neg h]; exact .rfl

theorem ra_in (c : Dev nD) : (bigSep dorms fun s => reached (ER (F := F)) ((c : Thread nD τ), s) 0) ⊢ RA (F := F) c := by
  unfold RA
  refine (bigSep_of_persistent Finset.univ _).trans (big_mono fun k => ?_)
  unfold RZ
  iintro #H
  isplitl []
  · iapply (show (bigSep dorms fun s => reached (ER (F := F)) ((c : Thread nD τ), s) 0) ⊢ reached (ER (F := F)) (gR c k false) 0 from bigSep_elim (mem_rcv k false)); iexact H
  isplitl []
  · iapply (show (bigSep dorms fun s => reached (ER (F := F)) ((c : Thread nD τ), s) 0) ⊢ reached (ER (F := F)) (gR c k true) 0 from bigSep_elim (mem_rcv k true)); iexact H
  iapply (show (bigSep dorms fun s => reached (ER (F := F)) ((c : Thread nD τ), s) 0) ⊢ reached (ER (F := F)) (gC c k) 0 from bigSep_elim (mem_crd k)); iexact H

end Cert.KernelIdeal.Moe

end
-- ==== Proof.Close.lean ====
/-
The end of the kernel on a device: its cells closed, its buffers put together, its result complete; and the scratch
buffers as slots.
-/
module

public import proofs.«01_k».proof.Proof.Open
public import proofs.«01_k».proof.Proof.Cov

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok launchOf)
open Idealize.ShloMosaic.TalkSites Idealize.ShloMosaic.SiteBlocks

variable {F : FTy → Type} [FloatOps F]

local notation "𝕄" => MT nD τ sig ℕ (Elt F) ℕ UU ℕ

/-! ## A buffer as its two slots -/

theorem slot_set {sp : Space} {s : Shape} {e : EltTy} (m : Memref sig .tc sp s e) (r0 r1 : Rect s) (h0 : ∀ a, r0.stride a = 1) (h1 : ∀ a, r1.stride a = 1)
    (hd : ∀ j, j ∈ r1.set ↔ j ∉ r0.set) : m.view.set \ (m.slice r0 h0).view.set = (m.slice r1 h1).view.set := by
  change m.view.set \ (m.view.slice r0).set = (m.view.slice r1).set
  rw [View.set_slice, View.set_slice]
  ext x
  simp only [Finset.mem_sdiff, Finset.mem_map, View.set]
  constructor
  · rintro ⟨⟨j, -, rfl⟩, hn⟩
    exact ⟨j, (hd j).mpr fun hj => hn ⟨j, hj, rfl⟩, rfl⟩
  · rintro ⟨j, hj, rfl⟩
    refine ⟨⟨j, Finset.mem_univ j, rfl⟩, ?_⟩
    rintro ⟨j', hj', he⟩
    rw [m.view.emb.injective he] at hj'
    exact (hd j).mp hj hj'

theorem two_split (c : Dev nD) {sp : Space} {s : Shape} {e : EltTy} (m : Memref sig .tc sp s e) (r0 r1 : Rect s) (h0 : ∀ a, r0.stride a = 1) (h1 : ∀ a, r1.stride a = 1)
    (hd : ∀ j, j ∈ r1.set ↔ j ∉ r0.set) : (ownA (F := F) c m : sProp 𝕄) ⊢ iprop(ownA (F := F) c (m.slice r0 h0) ∗ ownA (F := F) c (m.slice r1 h1)) := by
  iintro ⟨%X, H⟩
  ihave H' := (owns_slice_split (c : Thread nD τ) m fullShare r0 h0 X) $$ H
  icases H' with ⟨H0, %f, -, H1⟩
  isplitl [H0]; · iexists _; iexact H0
  iexists _
  iapply (owns_intro (c : Thread nD τ) (m.slice r1 h1) fullShare f)
  rw [← slot_set m r0 r1 h0 h1 hd]
  iexact H1

theorem two_join (c : Dev nD) {sp : Space} {s : Shape} {e : EltTy} (m : Memref sig .tc sp s e) (r0 r1 : Rect s) (h0 : ∀ a, r0.stride a = 1) (h1 : ∀ a, r1.stride a = 1)
    (hd : ∀ j, j ∈ r1.set ↔ j ∉ r0.set) : iprop(ownA (F := F) c (m.slice r0 h0) ∗ ownA (F := F) c (m.slice r1 h1)) ⊢ (ownA (F := F) c m : sProp 𝕄) := by
  iintro ⟨⟨%X, H0⟩, %Y, H1⟩
  ihave H' := (show owns (c : Thread nD τ) (m.slice r1 h1) fullShare Y ⊢ iprop(∃ g, ⌜(m.slice r1 h1).view.read (Elt F) g = Y⌝ ∗ (m.slice r1 h1).view.loc (c : Thread nD τ) ↦[(m.slice r1 h1).view.set]{fullShare} g) from .rfl) $$ H1
  icases H' with ⟨%g, -, H1⟩
  iexists _
  iapply (owns_slice_join (c : Thread nD τ) m fullShare r0 h0 X g)
  isplitl [H0]; · iexact H0
  rw [slot_set m r0 r1 h0 h1 hd]
  iexact H1

theorem hd256 (j : S2x256x256.Idx) : j ∈ (Rect.unit (s := S2x256x256) ![1, 0, 0] S1x256x256.size inb_S2x256x256_S1x256x256_1_0_0).set
    ↔ j ∉ (Rect.unit (s := S2x256x256) ![0, 0, 0] S1x256x256.size inb_S2x256x256_S1x256x256_0_0_0).set := by
  rw [Rect.mem_set_unit, Rect.mem_set_unit]
  have a0 : (j 0).val < 2 := (j 0).isLt
  have a1 : (j 1).val < 256 := (j 1).isLt
  have a2 : (j 2).val < 256 := (j 2).isLt
  constructor
  · intro h h'
    have h0 : 1 ≤ (j 0).val ∧ (j 0).val < 1 + 1 := h 0
    have h1 : 0 ≤ (j 0).val ∧ (j 0).val < 0 + 1 := h' 0
    omega
  · intro h a
    have hn : ¬ (j 0).val < 1 := fun hl => h fun a => by
      fin_cases a
      · exact ⟨Nat.zero_le _, by simpa using hl⟩
      · exact ⟨Nat.zero_le _, by simpa using a1⟩
      · exact ⟨Nat.zero_le _, by simpa using a2⟩
    fin_cases a
    · exact ⟨by simp only [Fin.zero_eta, Matrix.cons_val_zero]; omega, by simpa using a0⟩
    · exact ⟨Nat.zero_le _, by simpa using a1⟩
    · exact ⟨Nat.zero_le _, by simpa using a2⟩

theorem hd64 (j : S2x64x512.Idx) : j ∈ (Rect.unit (s := S2x64x512) ![1, 0, 0] S1x64x512.size inb_S2x64x512_S1x64x512_1_0_0).set
    ↔ j ∉ (Rect.unit (s := S2x64x512) ![0, 0, 0] S1x64x512.size inb_S2x64x512_S1x64x512_0_0_0).set := by
  rw [Rect.mem_set_unit, Rect.mem_set_unit]
  have a0 : (j 0).val < 2 := (j 0).isLt
  have a1 : (j 1).val < 64 := (j 1).isLt
  have a2 : (j 2).val < 512 := (j 2).isLt
  constructor
  · intro h h'
    have h0 : 1 ≤ (j 0).val ∧ (j 0).val < 1 + 1 := h 0
    have h1 : 0 ≤ (j 0).val ∧ (j 0).val < 0 + 1 := h' 0
    omega
  · intro h a
    have hn : ¬ (j 0).val < 1 := fun hl => h fun a => by
      fin_cases a
      · exact ⟨Nat.zero_le _, by simpa using hl⟩
      · exact ⟨Nat.zero_le _, by simpa using a1⟩
      · exact ⟨Nat.zero_le _, by simpa using a2⟩
    fin_cases a
    · exact ⟨by simp only [Fin.zero_eta, Matrix.cons_val_zero]; omega, by simpa using a0⟩
    · exact ⟨Nat.zero_le _, by simpa using a1⟩
    · exact ⟨Nat.zero_le _, by simpa using a2⟩

/-- A scratch buffer at some contents. -/
theorem whole_eq (c : Dev nD) (b : Ref sig .tc) : (iprop(∃ f : Buf (Elt F) ((c : Thread nD τ).loc b), ((c : Thread nD τ).loc b) ↦{fullShare} f) : sProp 𝕄)
    = ownA (F := F) c (Memref.whole b) := by
  unfold ownA own ownsTc
  simp only [owns_whole]

theorem cm_a0 (c : Dev nD) : (iprop(∃ f : Buf (Elt F) ((c : Thread nD τ).loc cc0_scratch2), ((c : Thread nD τ).loc cc0_scratch2) ↦{fullShare} f) : sProp 𝕄)
    = land (F := F) c .a0 := by
  rw [whole_eq]
  exact equiv_iff.mp ⟨two_split c (Memref.whole cc0_scratch2) _ _ (fun _ => rfl) (fun _ => rfl) hd256, two_join c (Memref.whole cc0_scratch2) _ _ (fun _ => rfl) (fun _ => rfl) hd256⟩
theorem st_a0 (c : Dev nD) : (iprop(∃ f : Buf (Elt F) ((c : Thread nD τ).loc cc0_scratch3), ((c : Thread nD τ).loc cc0_scratch3) ↦{fullShare} f) : sProp 𝕄)
    = Sin (F := F) c .a0 := by
  rw [whole_eq]
  exact equiv_iff.mp ⟨two_split c (Memref.whole cc0_scratch3) _ _ (fun _ => rfl) (fun _ => rfl) hd256, two_join c (Memref.whole cc0_scratch3) _ _ (fun _ => rfl) (fun _ => rfl) hd256⟩
theorem cm_a1 (c : Dev nD) : (iprop(∃ f : Buf (Elt F) ((c : Thread nD τ).loc cc0_scratch4), ((c : Thread nD τ).loc cc0_scratch4) ↦{fullShare} f) : sProp 𝕄)
    = land (F := F) c .a1 := by
  rw [whole_eq]
  exact equiv_iff.mp ⟨two_split c (Memref.whole cc0_scratch4) _ _ (fun _ => rfl) (fun _ => rfl) hd256, two_join c (Memref.whole cc0_scratch4) _ _ (fun _ => rfl) (fun _ => rfl) hd256⟩
theorem st_a1 (c : Dev nD) : (iprop(∃ f : Buf (Elt F) ((c : Thread nD τ).loc cc0_scratch5), ((c : Thread nD τ).loc cc0_scratch5) ↦{fullShare} f) : sProp 𝕄)
    = Sin (F := F) c .a1 := by
  rw [whole_eq]
  exact equiv_iff.mp ⟨two_split c (Memref.whole cc0_scratch5) _ _ (fun _ => rfl) (fun _ => rfl) hd256, two_join c (Memref.whole cc0_scratch5) _ _ (fun _ => rfl) (fun _ => rfl) hd256⟩
theorem cm_a2 (c : Dev nD) : (iprop(∃ f : Buf (Elt F) ((c : Thread nD τ).loc cc0_scratch6), ((c : Thread nD τ).loc cc0_scratch6) ↦{fullShare} f) : sProp 𝕄)
    = land (F := F) c .a2 := by
  rw [whole_eq]
  exact equiv_iff.mp ⟨two_split c (Memref.whole cc0_scratch6) _ _ (fun _ => rfl) (fun _ => rfl) hd256, two_join c (Memref.whole cc0_scratch6) _ _ (fun _ => rfl) (fun _ => rfl) hd256⟩
theorem st_a2 (c : Dev nD) : (iprop(∃ f : Buf (Elt F) ((c : Thread nD τ).loc cc0_scratch7), ((c : Thread nD τ).loc cc0_scratch7) ↦{fullShare} f) : sProp 𝕄)
    = Sin (F := F) c .a2 := by
  rw [whole_eq]
  exact equiv_iff.mp ⟨two_split c (Memref.whole cc0_scratch7) _ _ (fun _ => rfl) (fun _ => rfl) hd256, two_join c (Memref.whole cc0_scratch7) _ _ (fun _ => rfl) (fun _ => rfl) hd256⟩
theorem cm_a3 (c : Dev nD) : (iprop(∃ f : Buf (Elt F) ((c : Thread nD τ).loc cc0_scratch8), ((c : Thread nD τ).loc cc0_scratch8) ↦{fullShare} f) : sProp 𝕄)
    = land (F := F) c .a3 := by
  rw [whole_eq]
  exact equiv_iff.mp ⟨two_split c (Memref.whole cc0_scratch8) _ _ (fun _ => rfl) (fun _ => rfl) hd256, two_join c (Memref.whole cc0_scratch8) _ _ (fun _ => rfl) (fun _ => rfl) hd256⟩
theorem st_a3 (c : Dev nD) : (iprop(∃ f : Buf (Elt F) ((c : Thread nD τ).loc cc0_scratch9), ((c : Thread nD τ).loc cc0_scratch9) ↦{fullShare} f) : sProp 𝕄)
    = Sin (F := F) c .a3 := by
  rw [whole_eq]
  exact equiv_iff.mp ⟨two_split c (Memref.whole cc0_scratch9) _ _ (fun _ => rfl) (fun _ => rfl) hd256, two_join c (Memref.whole cc0_scratch9) _ _ (fun _ => rfl) (fun _ => rfl) hd256⟩
theorem cm_b0 (c : Dev nD) : (iprop(∃ f : Buf (Elt F) ((c : Thread nD τ).loc cc0_scratch10), ((c : Thread nD τ).loc cc0_scratch10) ↦{fullShare} f) : sProp 𝕄)
    = land (F := F) c .b0 := by
  rw [whole_eq]
  exact equiv_iff.mp ⟨two_split c (Memref.whole cc0_scratch10) _ _ (fun _ => rfl) (fun _ => rfl) hd64, two_join c (Memref.whole cc0_scratch10) _ _ (fun _ => rfl) (fun _ => rfl) hd64⟩
theorem st_b0 (c : Dev nD) : (iprop(∃ f : Buf (Elt F) ((c : Thread nD τ).loc cc0_scratch11), ((c : Thread nD τ).loc cc0_scratch11) ↦{fullShare} f) : sProp 𝕄)
    = Sin (F := F) c .b0 := by
  rw [whole_eq]
  exact equiv_iff.mp ⟨two_split c (Memref.whole cc0_scratch11) _ _ (fun _ => rfl) (fun _ => rfl) hd64, two_join c (Memref.whole cc0_scratch11) _ _ (fun _ => rfl) (fun _ => rfl) hd64⟩
theorem cm_b1 (c : Dev nD) : (iprop(∃ f : Buf (Elt F) ((c : Thread nD τ).loc cc0_scratch12), ((c : Thread nD τ).loc cc0_scratch12) ↦{fullShare} f) : sProp 𝕄)
    = land (F := F) c .b1 := by
  rw [whole_eq]
  exact equiv_iff.mp ⟨two_split c (Memref.whole cc0_scratch12) _ _ (fun _ => rfl) (fun _ => rfl) hd64, two_join c (Memref.whole cc0_scratch12) _ _ (fun _ => rfl) (fun _ => rfl) hd64⟩
theorem st_b1 (c : Dev nD) : (iprop(∃ f : Buf (Elt F) ((c : Thread nD τ).loc cc0_scratch13), ((c : Thread nD τ).loc cc0_scratch13) ↦{fullShare} f) : sProp 𝕄)
    = Sin (F := F) c .b1 := by
  rw [whole_eq]
  exact equiv_iff.mp ⟨two_split c (Memref.whole cc0_scratch13) _ _ (fun _ => rfl) (fun _ => rfl) hd64, two_join c (Memref.whole cc0_scratch13) _ _ (fun _ => rfl) (fun _ => rfl) hd64⟩
theorem cm_g0 (c : Dev nD) : (iprop(∃ f : Buf (Elt F) ((c : Thread nD τ).loc cc0_scratch14), ((c : Thread nD τ).loc cc0_scratch14) ↦{fullShare} f) : sProp 𝕄)
    = land (F := F) c .g0 := by
  rw [whole_eq]
  exact equiv_iff.mp ⟨two_split c (Memref.whole cc0_scratch14) _ _ (fun _ => rfl) (fun _ => rfl) hd64, two_join c (Memref.whole cc0_scratch14) _ _ (fun _ => rfl) (fun _ => rfl) hd64⟩
theorem st_g0 (c : Dev nD) : (iprop(∃ f : Buf (Elt F) ((c : Thread nD τ).loc cc0_scratch15), ((c : Thread nD τ).loc cc0_scratch15) ↦{fullShare} f) : sProp 𝕄)
    = Sin (F := F) c .g0 := by
  rw [whole_eq]
  exact equiv_iff.mp ⟨two_split c (Memref.whole cc0_scratch15) _ _ (fun _ => rfl) (fun _ => rfl) hd64, two_join c (Memref.whole cc0_scratch15) _ _ (fun _ => rfl) (fun _ => rfl) hd64⟩
theorem cm_g1 (c : Dev nD) : (iprop(∃ f : Buf (Elt F) ((c : Thread nD τ).loc cc0_scratch16), ((c : Thread nD τ).loc cc0_scratch16) ↦{fullShare} f) : sProp 𝕄)
    = land (F := F) c .g1 := by
  rw [whole_eq]
  exact equiv_iff.mp ⟨two_split c (Memref.whole cc0_scratch16) _ _ (fun _ => rfl) (fun _ => rfl) hd64, two_join c (Memref.whole cc0_scratch16) _ _ (fun _ => rfl) (fun _ => rfl) hd64⟩
theorem st_g1 (c : Dev nD) : (iprop(∃ f : Buf (Elt F) ((c : Thread nD τ).loc cc0_scratch17), ((c : Thread nD τ).loc cc0_scratch17) ↦{fullShare} f) : sProp 𝕄)
    = Sin (F := F) c .g1 := by
  rw [whole_eq]
  exact equiv_iff.mp ⟨two_split c (Memref.whole cc0_scratch17) _ _ (fun _ => rfl) (fun _ => rfl) hd64, two_join c (Memref.whole cc0_scratch17) _ _ (fun _ => rfl) (fun _ => rfl) hd64⟩
theorem cm_h0 (c : Dev nD) : (iprop(∃ f : Buf (Elt F) ((c : Thread nD τ).loc cc0_scratch18), ((c : Thread nD τ).loc cc0_scratch18) ↦{fullShare} f) : sProp 𝕄)
    = land (F := F) c .h0 := by
  rw [whole_eq]
  exact equiv_iff.mp ⟨two_split c (Memref.whole cc0_scratch18) _ _ (fun _ => rfl) (fun _ => rfl) hd256, two_join c (Memref.whole cc0_scratch18) _ _ (fun _ => rfl) (fun _ => rfl) hd256⟩
theorem st_h0 (c : Dev nD) : (iprop(∃ f : Buf (Elt F) ((c : Thread nD τ).loc cc0_scratch19), ((c : Thread nD τ).loc cc0_scratch19) ↦{fullShare} f) : sProp 𝕄)
    = Sin (F := F) c .h0 := by
  rw [whole_eq]
  exact equiv_iff.mp ⟨two_split c (Memref.whole cc0_scratch19) _ _ (fun _ => rfl) (fun _ => rfl) hd256, two_join c (Memref.whole cc0_scratch19) _ _ (fun _ => rfl) (fun _ => rfl) hd256⟩
theorem cm_h1 (c : Dev nD) : (iprop(∃ f : Buf (Elt F) ((c : Thread nD τ).loc cc0_scratch20), ((c : Thread nD τ).loc cc0_scratch20) ↦{fullShare} f) : sProp 𝕄)
    = land (F := F) c .h1 := by
  rw [whole_eq]
  exact equiv_iff.mp ⟨two_split c (Memref.whole cc0_scratch20) _ _ (fun _ => rfl) (fun _ => rfl) hd256, two_join c (Memref.whole cc0_scratch20) _ _ (fun _ => rfl) (fun _ => rfl) hd256⟩
theorem st_h1 (c : Dev nD) : (iprop(∃ f : Buf (Elt F) ((c : Thread nD τ).loc cc0_scratch21), ((c : Thread nD τ).loc cc0_scratch21) ↦{fullShare} f) : sProp 𝕄)
    = Sin (F := F) c .h1 := by
  rw [whole_eq]
  exact equiv_iff.mp ⟨two_split c (Memref.whole cc0_scratch21) _ _ (fun _ => rfl) (fun _ => rfl) hd256, two_join c (Memref.whole cc0_scratch21) _ _ (fun _ => rfl) (fun _ => rfl) hd256⟩
theorem cm_h2 (c : Dev nD) : (iprop(∃ f : Buf (Elt F) ((c : Thread nD τ).loc cc0_scratch22), ((c : Thread nD τ).loc cc0_scratch22) ↦{fullShare} f) : sProp 𝕄)
    = land (F := F) c .h2 := by
  rw [whole_eq]
  exact equiv_iff.mp ⟨two_split c (Memref.whole cc0_scratch22) _ _ (fun _ => rfl) (fun _ => rfl) hd256, two_join c (Memref.whole cc0_scratch22) _ _ (fun _ => rfl) (fun _ => rfl) hd256⟩
theorem st_h2 (c : Dev nD) : (iprop(∃ f : Buf (Elt F) ((c : Thread nD τ).loc cc0_scratch23), ((c : Thread nD τ).loc cc0_scratch23) ↦{fullShare} f) : sProp 𝕄)
    = Sin (F := F) c .h2 := by
  rw [whole_eq]
  exact equiv_iff.mp ⟨two_split c (Memref.whole cc0_scratch23) _ _ (fun _ => rfl) (fun _ => rfl) hd256, two_join c (Memref.whole cc0_scratch23) _ _ (fun _ => rfl) (fun _ => rfl) hd256⟩
theorem cm_h3 (c : Dev nD) : (iprop(∃ f : Buf (Elt F) ((c : Thread nD τ).loc cc0_scratch24), ((c : Thread nD τ).loc cc0_scratch24) ↦{fullShare} f) : sProp 𝕄)
    = land (F := F) c .h3 := by
  rw [whole_eq]
  exact equiv_iff.mp ⟨two_split c (Memref.whole cc0_scratch24) _ _ (fun _ => rfl) (fun _ => rfl) hd256, two_join c (Memref.whole cc0_scratch24) _ _ (fun _ => rfl) (fun _ => rfl) hd256⟩
theorem st_h3 (c : Dev nD) : (iprop(∃ f : Buf (Elt F) ((c : Thread nD τ).loc cc0_scratch25), ((c : Thread nD τ).loc cc0_scratch25) ↦{fullShare} f) : sProp 𝕄)
    = Sin (F := F) c .h3 := by
  rw [whole_eq]
  exact equiv_iff.mp ⟨two_split c (Memref.whole cc0_scratch25) _ _ (fun _ => rfl) (fun _ => rfl) hd256, two_join c (Memref.whole cc0_scratch25) _ _ (fun _ => rfl) (fun _ => rfl) hd256⟩
theorem w_eqSxA (c : Dev nD) : (iprop(∃ f : Buf (Elt F) ((c : Thread nD τ).loc cc0_scratch26), ((c : Thread nD τ).loc cc0_scratch26) ↦{fullShare} f) : sProp 𝕄)
    = Sin (F := F) c .xA := whole_eq c cc0_scratch26
theorem w_eqCxA (c : Dev nD) : (iprop(∃ f : Buf (Elt F) ((c : Thread nD τ).loc cc0_scratch27), ((c : Thread nD τ).loc cc0_scratch27) ↦{fullShare} f) : sProp 𝕄)
    = land (F := F) c .xA := whole_eq c cc0_scratch27
theorem w_eqSxB (c : Dev nD) : (iprop(∃ f : Buf (Elt F) ((c : Thread nD τ).loc cc0_scratch28), ((c : Thread nD τ).loc cc0_scratch28) ↦{fullShare} f) : sProp 𝕄)
    = Sin (F := F) c .xB := whole_eq c cc0_scratch28
theorem w_eqCxB (c : Dev nD) : (iprop(∃ f : Buf (Elt F) ((c : Thread nD τ).loc cc0_scratch29), ((c : Thread nD τ).loc cc0_scratch29) ↦{fullShare} f) : sProp 𝕄)
    = land (F := F) c .xB := whole_eq c cc0_scratch29

/-- The scratch buffers: the two work buffers, the landing slots and the sending slots of every chain. -/
theorem scratch_eq (c : Dev nD) : (Pipeline.scopedRest (Ix := ℕ) (Name := ℕ) (U := UU) (Lvl := ℕ) (Val := Elt F) spec0 c : sProp 𝕄)
    ⊣⊢ iprop(ownA (F := F) c (Memref.whole cc0_scratch0) ∗ ownA (F := F) c (Memref.whole cc0_scratch1) ∗ (bigSep Finset.univ fun k => land (F := F) c k) ∗ bigSep Finset.univ fun k => Sin (F := F) c k) := by
  rw [scopedRest0_eq, ch_eq, ch_eq]
  constructor
  · iintro ⟨W0, W1, Ca0, Sa0, Ca1, Sa1, Ca2, Sa2, Ca3, Sa3, Cb0, Sb0, Cb1, Sb1, Cg0, Sg0, Cg1, Sg1, Ch0, Sh0, Ch1, Sh1, Ch2, Sh2, Ch3, Sh3, SxA, CxA, SxB, CxB⟩
    isplitl [W0]; · iapply (Entails.of_eq (whole_eq c cc0_scratch0)); iexact W0
    isplitl [W1]; · iapply (Entails.of_eq (whole_eq c cc0_scratch1)); iexact W1
    isplitl [Ca0 Ca1 Ca2 Ca3 Cb0 Cb1 Cg0 Cg1 Ch0 Ch1 Ch2 Ch3 CxA CxB]
    · isplitl [Ca0]; · iapply (Entails.of_eq (cm_a0 c)); iexact Ca0
      isplitl [Ca1]; · iapply (Entails.of_eq (cm_a1 c)); iexact Ca1
      isplitl [Ca2]; · iapply (Entails.of_eq (cm_a2 c)); iexact Ca2
      isplitl [Ca3]; · iapply (Entails.of_eq (cm_a3 c)); iexact Ca3
      isplitl [Cb0]; · iapply (Entails.of_eq (cm_b0 c)); iexact Cb0
      isplitl [Cb1]; · iapply (Entails.of_eq (cm_b1 c)); iexact Cb1
      isplitl [Cg0]; · iapply (Entails.of_eq (cm_g0 c)); iexact Cg0
      isplitl [Cg1]; · iapply (Entails.of_eq (cm_g1 c)); iexact Cg1
      isplitl [Ch0]; · iapply (Entails.of_eq (cm_h0 c)); iexact Ch0
      isplitl [Ch1]; · iapply (Entails.of_eq (cm_h1 c)); iexact Ch1
      isplitl [Ch2]; · iapply (Entails.of_eq (cm_h2 c)); iexact Ch2
      isplitl [Ch3]; · iapply (Entails.of_eq (cm_h3 c)); iexact Ch3
      isplitl [CxA]; · iapply (Entails.of_eq (w_eqCxA c)); iexact CxA
      iapply (Entails.of_eq (w_eqCxB c)); iexact CxB
    isplitl [Sa0]; · iapply (Entails.of_eq (st_a0 c)); iexact Sa0
    isplitl [Sa1]; · iapply (Entails.of_eq (st_a1 c)); iexact Sa1
    isplitl [Sa2]; · iapply (Entails.of_eq (st_a2 c)); iexact Sa2
    isplitl [Sa3]; · iapply (Entails.of_eq (st_a3 c)); iexact Sa3
    isplitl [Sb0]; · iapply (Entails.of_eq (st_b0 c)); iexact Sb0
    isplitl [Sb1]; · iapply (Entails.of_eq (st_b1 c)); iexact Sb1
    isplitl [Sg0]; · iapply (Entails.of_eq (st_g0 c)); iexact Sg0
    isplitl [Sg1]; · iapply (Entails.of_eq (st_g1 c)); iexact Sg1
    isplitl [Sh0]; · iapply (Entails.of_eq (st_h0 c)); iexact Sh0
    isplitl [Sh1]; · iapply (Entails.of_eq (st_h1 c)); iexact Sh1
    isplitl [Sh2]; · iapply (Entails.of_eq (st_h2 c)); iexact Sh2
    isplitl [Sh3]; · iapply (Entails.of_eq (st_h3 c)); iexact Sh3
    isplitl [SxA]; · iapply (Entails.of_eq (w_eqSxA c)); iexact SxA
    iapply (Entails.of_eq (w_eqSxB c)); iexact SxB
  · iintro ⟨W0, W1, ⟨Ca0, Ca1, Ca2, Ca3, Cb0, Cb1, Cg0, Cg1, Ch0, Ch1, Ch2, Ch3, CxA, CxB⟩, Sa0, Sa1, Sa2, Sa3, Sb0, Sb1, Sg0, Sg1, Sh0, Sh1, Sh2, Sh3, SxA, SxB⟩
    isplitl [W0]; · iapply (Entails.of_eq (whole_eq c cc0_scratch0).symm); iexact W0
    isplitl [W1]; · iapply (Entails.of_eq (whole_eq c cc0_scratch1).symm); iexact W1
    isplitl [Ca0]; · iapply (Entails.of_eq (cm_a0 c).symm); iexact Ca0
    isplitl [Sa0]; · iapply (Entails.of_eq (st_a0 c).symm); iexact Sa0
    isplitl [Ca1]; · iapply (Entails.of_eq (cm_a1 c).symm); iexact Ca1
    isplitl [Sa1]; · iapply (Entails.of_eq (st_a1 c).symm); iexact Sa1
    isplitl [Ca2]; · iapply (Entails.of_eq (cm_a2 c).symm); iexact Ca2
    isplitl [Sa2]; · iapply (Entails.of_eq (st_a2 c).symm); iexact Sa2
    isplitl [Ca3]; · iapply (Entails.of_eq (cm_a3 c).symm); iexact Ca3
    isplitl [Sa3]; · iapply (Entails.of_eq (st_a3 c).symm); iexact Sa3
    isplitl [Cb0]; · iapply (Entails.of_eq (cm_b0 c).symm); iexact Cb0
    isplitl [Sb0]; · iapply (Entails.of_eq (st_b0 c).symm); iexact Sb0
    isplitl [Cb1]; · iapply (Entails.of_eq (cm_b1 c).symm); iexact Cb1
    isplitl [Sb1]; · iapply (Entails.of_eq (st_b1 c).symm); iexact Sb1
    isplitl [Cg0]; · iapply (Entails.of_eq (cm_g0 c).symm); iexact Cg0
    isplitl [Sg0]; · iapply (Entails.of_eq (st_g0 c).symm); iexact Sg0
    isplitl [Cg1]; · iapply (Entails.of_eq (cm_g1 c).symm); iexact Cg1
    isplitl [Sg1]; · iapply (Entails.of_eq (st_g1 c).symm); iexact Sg1
    isplitl [Ch0]; · iapply (Entails.of_eq (cm_h0 c).symm); iexact Ch0
    isplitl [Sh0]; · iapply (Entails.of_eq (st_h0 c).symm); iexact Sh0
    isplitl [Ch1]; · iapply (Entails.of_eq (cm_h1 c).symm); iexact Ch1
    isplitl [Sh1]; · iapply (Entails.of_eq (st_h1 c).symm); iexact Sh1
    isplitl [Ch2]; · iapply (Entails.of_eq (cm_h2 c).symm); iexact Ch2
    isplitl [Sh2]; · iapply (Entails.of_eq (st_h2 c).symm); iexact Sh2
    isplitl [Ch3]; · iapply (Entails.of_eq (cm_h3 c).symm); iexact Ch3
    isplitl [Sh3]; · iapply (Entails.of_eq (st_h3 c).symm); iexact Sh3
    isplitl [SxA]; · iapply (Entails.of_eq (w_eqSxA c).symm); iexact SxA
    isplitl [CxA]; · iapply (Entails.of_eq (w_eqCxA c).symm); iexact CxA
    isplitl [SxB]; · iapply (Entails.of_eq (w_eqSxB c).symm); iexact SxB
    iapply (Entails.of_eq (w_eqCxB c).symm); iexact CxB

/-! ## The cells closed -/

variable (V : EV F)

theorem none_snd (c : Dev nD) (k : Ch) (s : Bool) : ∀ r, rds k s ≤ r → (Rd V).duties (gS c k s) r = ∅ := by
  intro r hr
  change dutiesOf (dec (.dma (sndS k s))) r = ∅
  cases k <;> cases s <;> exact if_neg (Nat.not_lt.mpr hr)
theorem none_rcv (c : Dev nD) (k : Ch) (s : Bool) : ∀ r, rds k s ≤ r → (Rd V).duties (gR c k s) r = ∅ := by
  intro r hr
  change dutiesOf (dec (.dma (rcvS k s))) r = ∅
  cases k <;> cases s <;> exact if_neg (Nat.not_lt.mpr hr)
theorem none_crd (c : Dev nD) (k : Ch) : ∀ r, 1 ≤ r → (Rd V).duties (gC c k) r = ∅ := by
  intro r hr
  change dutiesOf (dec (crdS k)) r = ∅
  cases k <;> first | exact if_neg (Nat.pos_iff_ne_zero.mp hr) | exact if_neg (Nat.not_lt.mpr hr)
theorem none_bar (c : Dev nD) : ∀ r, 1 ≤ r → (Rd V).duties (gB c) r = ∅ := by
  intro r hr
  exact if_neg (Nat.pos_iff_ne_zero.mp hr)

theorem cl_snd (c : Dev nD) (k : Ch) (s : Bool) (n : ℕ) (hn : rds k s = n) : iprop(Pers V ∗ Pos (F := F) (gS c k s) n) ⊢ (|={Set.univ}=> semVal (gS c k s) 0 : sProp 𝕄) := by
  subst hn
  iintro ⟨HP, H⟩
  iapply (r_close V (gS c k s) _ (none_snd V c k s))
  isplitl [HP]; · iapply (inv_snd V c k s); iexact HP
  iexact H
theorem cl_rcv (c : Dev nD) (k : Ch) (s : Bool) (n : ℕ) (hn : rds k s = n) : iprop(Pers V ∗ Pos (F := F) (gR c k s) n) ⊢ (|={Set.univ}=> semVal (gR c k s) 0 : sProp 𝕄) := by
  subst hn
  iintro ⟨HP, H⟩
  iapply (r_close V (gR c k s) _ (none_rcv V c k s))
  isplitl [HP]; · iapply (inv_rcv V c k s); iexact HP
  iexact H
theorem cl_crd (c : Dev nD) (k : Ch) : iprop(Pers V ∗ Pos (F := F) (gC c k) 1) ⊢ (|={Set.univ}=> semVal (gC c k) 0 : sProp 𝕄) := by
  iintro ⟨HP, H⟩
  iapply (r_close V (gC c k) _ (none_crd V c k))
  isplitl [HP]; · iapply (inv_crd V c k); iexact HP
  iexact H
theorem cl_bar (c : Dev nD) : iprop(Pers V ∗ Pos (F := F) (gB c) 1) ⊢ (|={Set.univ}=> semVal (gB c) 0 : sProp 𝕄) := by
  iintro ⟨HP, H⟩
  iapply (r_close V (gB c) _ (none_bar V c))
  isplitl [HP]; · iapply (inv_bar V c); iexact HP
  iexact H

theorem rds_f {k : Ch} (h : ring k = true) : rds k false = 2 := by cases k <;> first | rfl | cases h
theorem rds_t {k : Ch} (h : ring k = true) : rds k true = 1 := by cases k <;> first | rfl | cases h
theorem rds_x {k : Ch} (h : ¬ ring k = true) : rds k false = 1 := by cases k <;> first | rfl | exact absurd rfl h

theorem sem5 (c : Dev nD) (k : Ch) : iprop(semVal (gS c k false) 0 ∗ semVal (gS c k true) 0 ∗ semVal (gR c k false) 0 ∗ semVal (gR c k true) 0 ∗ semVal (gC c k) 0)
    ⊢ (bigSepL [.dma (sndS k false), .dma (sndS k true), .dma (rcvS k false), .dma (rcvS k true), crdS k] fun s : SemLoc sig => semVal ((c : Thread nD τ), s) 0 : sProp 𝕄) := BIBase.Entails.rfl
theorem sem2 (c : Dev nD) (k : Ch) : iprop(semVal (gS c k false) 0 ∗ semVal (gR c k false) 0)
    ⊢ (bigSepL [.dma (sndS k false), .dma (rcvS k false)] fun s : SemLoc sig => semVal ((c : Thread nD τ), s) 0 : sProp 𝕄) := BIBase.Entails.rfl

/-- A chain at its end: its semaphores at zero, its slots free. -/
theorem cx_out (I : Inp F) (c : Dev nD) (k : Ch) : iprop(Pers (evs I) ∗ CX I c k (if ring k then 14 else 4))
    ⊢ (|={Set.univ}=> ((bigSepL (sms k) fun s => semVal ((c : Thread nD τ), s) 0) ∗ land (F := F) c k ∗ Sin (F := F) c k) : sProp 𝕄) := by
  unfold CX land Sin sms
  by_cases h : ring k
  · simp only [if_pos h, CH]
    iintro ⟨#HP, -, P1, S1, P3, C1, P4, P0, S0, P2, C0⟩
    ihave Q0 := (cl_snd (evs I) c k false 2 (rds_f h)) $$ [P0]
    · isplitl []; · iexact HP
      iexact P0
    ihave Q1 := (cl_snd (evs I) c k true 1 (rds_t h)) $$ [P1]
    · isplitl []; · iexact HP
      iexact P1
    ihave Q2 := (cl_rcv (evs I) c k false 2 (rds_f h)) $$ [P2]
    · isplitl []; · iexact HP
      iexact P2
    ihave Q3 := (cl_rcv (evs I) c k true 1 (rds_t h)) $$ [P3]
    · isplitl []; · iexact HP
      iexact P3
    ihave Q4 := (cl_crd (evs I) c k) $$ [P4]
    · isplitl []; · iexact HP
      iexact P4
    imod Q0; imod Q1; imod Q2; imod Q3; imod Q4
    imodintro
    isplitl [Q0 Q1 Q2 Q3 Q4]
    · iapply (sem5 c k)
      isplitl [Q0]; · iexact Q0
      isplitl [Q1]; · iexact Q1
      isplitl [Q2]; · iexact Q2
      isplitl [Q3]; · iexact Q3
      iexact Q4
    isplitl [C0 C1]
    · isplitl [C0]; · iexists _; iexact C0
      iexists _; iexact C1
    isplitl [S0]; · iexact S0
    iexact S1
  · simp only [if_neg h, XH]
    iintro ⟨#HP, -, P0, S0, P2, C0⟩
    ihave Q0 := (cl_snd (evs I) c k false 1 (rds_x h)) $$ [P0]
    · isplitl []; · iexact HP
      iexact P0
    ihave Q2 := (cl_rcv (evs I) c k false 1 (rds_x h)) $$ [P2]
    · isplitl []; · iexact HP
      iexact P2
    imod Q0; imod Q2
    imodintro
    isplitl [Q0 Q2]
    · iapply (sem2 c k)
      isplitl [Q0]; · iexact Q0
      iexact Q2
    isplitl [C0]; · iexists _; iexact C0
    iexact S0

/-- All chains at their end. -/
theorem chs_close (I : Inp F) (c : Dev nD) : iprop(Pers (evs I) ∗ CHS I c [14, 14, 14, 14, 14, 14, 14, 14, 14, 14, 14, 14, 4, 4])
    ⊢ (|={Set.univ}=> ((bigSep dorms fun s => semVal ((c : Thread nD τ), s) 0) ∗ (bigSep Finset.univ fun k => land (F := F) c k) ∗ bigSep Finset.univ fun k => Sin (F := F) c k) : sProp 𝕄) := by
  rw [dorm_split, ← bigSep_sep', ← bigSep_sep']
  refine BIBase.Entails.trans ?_ (bigSep_fupd Finset.univ _)
  refine BIBase.Entails.trans (sep_mono .rfl (chs_out I c)) ?_
  exact bigSep_with_persistent fun k _ => cx_out I c k

/-! ## The result is complete -/

theorem cov_o (c : Dev nD) (j : S1024x1024.Idx) : ∃ r' ∈ (oW c).take 28, j ∈ r'.set := by
  have h0 : (j 0).val < 1024 := (j 0).isLt
  have h1 : (j 1).val < 1024 := (j 1).isLt
  by_cases hc : (j 1).val < 512
  · rcases yR_cases c ((j 0).val / 256) (by omega) with h | h | h | h <;> by_cases h5 : (j 1).val < 256
    · exact cov_in 14 (r' := rO33_0 c) rfl (by decide) (mem_blk (off33_0 c) j (by omega) (by omega))
    · exact cov_in 15 (r' := rO34_0 c) rfl (by decide) (mem_blk (off34_0 c) j (by omega) (by omega))
    · exact cov_in 0 (r' := rO21 c) rfl (by decide) (mem_blk (off21 c) j (by omega) (by omega))
    · exact cov_in 1 (r' := rO22 c) rfl (by decide) (mem_blk (off22 c) j (by omega) (by omega))
    · exact cov_in 22 (r' := rO33_2 c) rfl (by decide) (mem_blk (off33_2 c) j (by omega) (by omega))
    · exact cov_in 23 (r' := rO34_2 c) rfl (by decide) (mem_blk (off34_2 c) j (by omega) (by omega))
    · exact cov_in 18 (r' := rO33_1 c) rfl (by decide) (mem_blk (off33_1 c) j (by omega) (by omega))
    · exact cov_in 19 (r' := rO34_1 c) rfl (by decide) (mem_blk (off34_1 c) j (by omega) (by omega))
  · rcases zR_cases c ((j 0).val / 256) (by omega) with h | h | h | h <;> by_cases h5 : (j 1).val < 768
    · exact cov_in 16 (r' := rO35_0 c) rfl (by decide) (mem_blk (off35_0 c) j (by omega) (by omega))
    · exact cov_in 17 (r' := rO36_0 c) rfl (by decide) (mem_blk (off36_0 c) j (by omega) (by omega))
    · exact cov_in 2 (r' := rO23 c) rfl (by decide) (mem_blk (off23 c) j (by omega) (by omega))
    · exact cov_in 3 (r' := rO24 c) rfl (by decide) (mem_blk (off24 c) j (by omega) (by omega))
    · exact cov_in 24 (r' := rO35_2 c) rfl (by decide) (mem_blk (off35_2 c) j (by omega) (by omega))
    · exact cov_in 25 (r' := rO36_2 c) rfl (by decide) (mem_blk (off36_2 c) j (by omega) (by omega))
    · exact cov_in 20 (r' := rO35_1 c) rfl (by decide) (mem_blk (off35_1 c) j (by omega) (by omega))
    · exact cov_in 21 (r' := rO36_1 c) rfl (by decide) (mem_blk (off36_1 c) j (by omega) (by omega))

end Cert.KernelIdeal.Moe

end
-- ==== Proof.Walk.lean ====
/-
The body of the kernel from what a device enters it with to what it leaves, and the proof data of the launch.
-/
module

public import proofs.«01_k».proof.Proof.Close
public import Idealize.ShloMosaic.Lib.Pipeline.RegionTalk
public import Idealize.ShloMosaic.Lib.Pipeline.FrameBody

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok launchOf)
open Idealize.ShloMosaic.TalkSites Idealize.ShloMosaic.SiteBlocks

variable {F : FTy → Type} [FloatOps F]

local notation "𝕄" => MT nD τ sig ℕ (Elt F) ℕ UU ℕ

theorem bl_0 (c : Dev nD) : (barLand (F := F) c 0 : sProp 𝕄) = iprop(emp) := rfl
theorem bl_1 (c : Dev nD) : (barLand (F := F) c 1 : sProp 𝕄) = iprop(land (F := F) c .a0 ∗ land (F := F) c .a1 ∗ land (F := F) c .b1 ∗ land (F := F) c .g1 ∗ land (F := F) c .h0 ∗ land (F := F) c .h1) := rfl
theorem bl_2 (c : Dev nD) : (barLand (F := F) c 2 : sProp 𝕄) = iprop(emp) := rfl
theorem bl_3 (c : Dev nD) : (barLand (F := F) c 3 : sProp 𝕄) = iprop(land (F := F) c .a2 ∗ land (F := F) c .a3 ∗ land (F := F) c .b0 ∗ land (F := F) c .g0 ∗ land (F := F) c .h2 ∗ land (F := F) c .h3) := rfl
theorem bl_4 (c : Dev nD) : (barLand (F := F) c 4 : sProp 𝕄) = iprop(land (F := F) c .xA ∗ land (F := F) c .xB) := rfl

/-- What a device enters the kernel with beside its buffers. -/
def Xin (I : Inp F) (c : Dev nD) : sProp 𝕄 :=
  iprop(Pers (evs I) ∗ ((bigSep Finset.univ fun i : Fin 5 => dutyTok (ER (F := F)) (gB (bTo i c)) 0 i) ∗ bigSep Finset.univ fun k => Tin (F := F) c k)
    ∗ (bigSep Finset.univ fun k => Kin (F := F) c k) ∗ (bigSep Finset.univ fun k => Pin (F := F) c k) ∗ RA (F := F) c
    ∗ cred (tallyAt (gB c) 1 5) ∗ Pos (F := F) (gB c) 0 ∗ bigSep Finset.univ fun i : Fin 5 => reached (ER (F := F)) (gB (bTo i c)) 0)

/-- The scratch buffers. -/
def Sc (c : Dev nD) : sProp 𝕄 :=
  iprop(ownA (F := F) c (Memref.whole cc0_scratch0) ∗ ownA (F := F) c (Memref.whole cc0_scratch1) ∗ (bigSep Finset.univ fun k => land (F := F) c k) ∗ bigSep Finset.univ fun k => Sin (F := F) c k)

/-- What a device leaves the kernel with beside its windows. -/
def Xout (c : Dev nD) : sProp 𝕄 :=
  iprop(Sc (F := F) c ∗ (bigSep dorms fun s => semVal ((c : Thread nD τ), s) 0) ∗ semVal (gB c) 0)

/-- A buffer written so far is a buffer at some contents. -/
theorem agr_any (c : Dev nD) {sp : Space} {s : Shape} {e : EltTy} (M : Memref sig .tc sp s e) (wr : List (Rect s)) (O : ℕ → s.Idx → Elt F e) (n : ℕ) :
    Agr c M wr O n ⊢ (ownA (F := F) c M : sProp 𝕄) := by
  unfold Agr
  iintro ⟨%g, -, H⟩
  iexists g; iexact H

/-- The body run from the launch's holdings: every counter comes back at zero, the inputs unchanged, the result complete. -/
theorem walk (I : Inp F) (A : Ins) (c : Dev nD) :
    iprop(Xin I c ∗ Sc (F := F) c ∗ OwN (F := F) c 0 ∗ own c A.m0 (I.x c) ∗ own c A.m1 (I.rw c) ∗ own c A.m2 (I.ri c) ∗ own c A.m3 (I.ew c) ∗ own c A.m4 (I.sw c) ∗ ownA (F := F) c A.m5)
      ⊢ WP c (Moe.call A (cc0_body (F := F))) fun _ => iprop(|={Set.univ}=> (Xout (F := F) c ∗ OwN (F := F) c 55
        ∗ own c A.m0 (I.x c) ∗ own c A.m1 (I.rw c) ∗ own c A.m2 (I.ri c) ∗ own c A.m3 (I.ew c) ∗ own c A.m4 (I.sw c) ∗ own c A.m5 (oM I c 28))) := by
  refine BIBase.Entails.trans ?_ (body_walk I A c (hY_in I c) ?_)
  · unfold Xin Sc SX
    rw [bar_eq, bar_eq, ch_eq (fun k => land (F := F) c k)]
    iintro ⟨⟨#HP, ⟨⟨T0, T1, T2, T3, T4⟩, HT⟩, HK, HPi, #HRA, Hcr, Hpo, ⟨R0, R1, R2, R3, R4⟩⟩, ⟨S0, S1, ⟨Ca0, Ca1, Ca2, Ca3, Cb0, Cb1, Cg0, Cg1, Ch0, Ch1, Ch2, Ch3, CxA, CxB⟩, HS⟩, HO, H0, H1, H2, H3, H4, H5⟩
    isplitl []; · iexact HP
    isplitl [HO]; · iexact HO
    isplitl [H0]; · iexact H0
    isplitl [H1]; · iexact H1
    isplitl [H2]; · iexact H2
    isplitl [H3]; · iexact H3
    isplitl [H4]; · iexact H4
    isplitl [H5]; · iapply (agr_init c A.m5 (oW c) (oM I c)); iexact H5
    isplitl [S0]; · iapply (agr_init c (Memref.whole cc0_scratch0) (smW c) (smM I c)); iexact S0
    isplitl [S1]; · iapply (agr_init c (Memref.whole cc0_scratch1) (cfW c) (cfM I c)); iexact S1
    isplitl [T0 R0 ]
    · unfold sg barPay
      isplitl [T0]; · iexact T0
      isplitl []
      · isplitl []; · iexact HRA
        iapply (Entails.of_eq (bl_0 c).symm)
        iempintro
      iexact R0
    isplitl [T1 R1 Ca0 Ca1 Cb1 Cg1 Ch0 Ch1]
    · unfold sg barPay
      isplitl [T1]; · iexact T1
      isplitl [Ca0 Ca1 Cb1 Cg1 Ch0 Ch1]
      · isplitl []; · iexact HRA
        iapply (Entails.of_eq (bl_1 c).symm)
        isplitl [Ca0]; · iexact Ca0
        isplitl [Ca1]; · iexact Ca1
        isplitl [Cb1]; · iexact Cb1
        isplitl [Cg1]; · iexact Cg1
        isplitl [Ch0]; · iexact Ch0
        iexact Ch1
      iexact R1
    isplitl [T2 R2 ]
    · unfold sg barPay
      isplitl [T2]; · iexact T2
      isplitl []
      · isplitl []; · iexact HRA
        iapply (Entails.of_eq (bl_2 c).symm)
        iempintro
      iexact R2
    isplitl [T3 R3 Ca2 Ca3 Cb0 Cg0 Ch2 Ch3]
    · unfold sg barPay
      isplitl [T3]; · iexact T3
      isplitl [Ca2 Ca3 Cb0 Cg0 Ch2 Ch3]
      · isplitl []; · iexact HRA
        iapply (Entails.of_eq (bl_3 c).symm)
        isplitl [Ca2]; · iexact Ca2
        isplitl [Ca3]; · iexact Ca3
        isplitl [Cb0]; · iexact Cb0
        isplitl [Cg0]; · iexact Cg0
        isplitl [Ch2]; · iexact Ch2
        iexact Ch3
      iexact R3
    isplitl [T4 R4 CxA CxB]
    · unfold sg barPay
      isplitl [T4]; · iexact T4
      isplitl [CxA CxB]
      · isplitl []; · iexact HRA
        iapply (Entails.of_eq (bl_4 c).symm)
        isplitl [CxA]; · iexact CxA
        iexact CxB
      iexact R4
    isplitl [Hcr Hpo]
    · isplitl [Hcr]; · iexact Hcr
      iexact Hpo
    isplitl [HT]; · iexact HT
    isplitl [HK]; · iexact HK
    isplitl [HPi]; · iexact HPi
    iexact HS
  · simp only [ST, SX]
    iintro ⟨#HP, HO, H0, H1, H2, H3, H4, A5, A6, A7, Hpo, HC⟩
    imod (chs_close I c) $$ [HC] with ⟨Hd, Hl, Hs⟩
    · isplitl []; · iexact HP
      iexact HC
    imod (cl_bar (evs I) c) $$ [Hpo] with Hb
    · isplitl []; · iexact HP
      iexact Hpo
    imodintro
    unfold Xout Sc
    isplitl [Hd Hl Hs Hb A6 A7]
    · isplitl [Hl Hs A6 A7]
      · isplitl [A6]; · iapply (agr_any c (Memref.whole cc0_scratch0) (smW c) (smM I c) 4); iexact A6
        isplitl [A7]; · iapply (agr_any c (Memref.whole cc0_scratch1) (cfW c) (cfM I c) 4); iexact A7
        isplitl [Hl]; · iexact Hl
        iexact Hs
      isplitl [Hd]; · iexact Hd
      iexact Hb
    isplitl [HO]; · iexact HO
    isplitl [H0]; · iexact H0
    isplitl [H1]; · iexact H1
    isplitl [H2]; · iexact H2
    isplitl [H3]; · iexact H3
    isplitl [H4]; · iexact H4
    iapply (agr_done c A.m5 (oW c) (oM I c) 28 (cov_o c)); iexact A5

/-! ## The proof data -/

variable (m : (ℓ : Loc nD τ sig) → Buf (Elt F) ℓ)

/-- What the devices hold when the kernel starts, read off the memory. -/
def inp : Inp F where
  x c := iblk m c 0 t0_0
  rw c := iblk m c 1 t0_0
  ri c := iblk m c 2 t0_0
  ew c := iblk m c 3 t0_0
  sw c := iblk m c 4 t0_0

/-- The staging buffers. -/
def ins : Ins where
  m0 := win0_0.stage (cfg0.slots t0_0 0)
  h0 := hstage0_0 0
  m1 := win0_1.stage (cfg0.slots t0_0 1)
  h1 := hstage0_1 0
  m2 := win0_2.stage (cfg0.slots t0_0 2)
  h2 := hstage0_2 0
  m3 := win0_3.stage (cfg0.slots t0_0 3)
  h3 := hstage0_3 0
  m4 := win0_4.stage (cfg0.slots t0_0 4)
  h4 := hstage0_4 0
  m5 := win0_5.stage (cfg0.slots t0_0 5)
  h5 := hstage0_5 0

/-- The proof data of the one launch. -/
def dat0 (c : Dev nD) : Pipeline.Dat τ (Elt F) ℕ ℕ UU ℕ cfg0 c where
  A w := Gen.V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => oM (inp m) c 28
  Φ t := if t.val = 0 then iprop((Xin (inp m) c ∗ Sc (F := F) c) ∗ ∃ r, prngReg c r) else iprop(Xout (F := F) c ∗ ∃ r, prngReg c r)
  q _ := fullShare
  owed t := if t.val = 0 then due c 0 else 0

theorem before_0 (c : Dev nD) (t : Fin cfg0.N) (d) : (dat0 m c).before 0 t d = iblk m c 0 t :=
  ((dat0 m c).before_in_eq_fetched 0 (by rfl) (fun _ => rfl) (fun _ _ _ => rfl) (fun t => by
    rw [show (dat0 m c).after 0 t = iblk m c 0 t from rfl]; unfold Pipeline.Dat.blockOf iblk; rw [show (dat0 m c).A 0 = Gen.V m c (Pipeline.arrRef spec0 0) from rfl]; try rfl) t d).trans
    (by unfold Pipeline.Dat.fetched Pipeline.Dat.blockOf iblk; rw [show (dat0 m c).A 0 = Gen.V m c (Pipeline.arrRef spec0 0) from rfl]; try rfl)
theorem before_1 (c : Dev nD) (t : Fin cfg0.N) (d) : (dat0 m c).before 1 t d = iblk m c 1 t :=
  ((dat0 m c).before_in_eq_fetched 1 (by rfl) (fun _ => rfl) (fun _ _ _ => rfl) (fun t => by
    rw [show (dat0 m c).after 1 t = iblk m c 1 t from rfl]; unfold Pipeline.Dat.blockOf iblk; rw [show (dat0 m c).A 1 = Gen.V m c (Pipeline.arrRef spec0 1) from rfl]; try rfl) t d).trans
    (by unfold Pipeline.Dat.fetched Pipeline.Dat.blockOf iblk; rw [show (dat0 m c).A 1 = Gen.V m c (Pipeline.arrRef spec0 1) from rfl]; try rfl)
theorem before_2 (c : Dev nD) (t : Fin cfg0.N) (d) : (dat0 m c).before 2 t d = iblk m c 2 t :=
  ((dat0 m c).before_in_eq_fetched 2 (by rfl) (fun _ => rfl) (fun _ _ _ => rfl) (fun t => by
    rw [show (dat0 m c).after 2 t = iblk m c 2 t from rfl]; unfold Pipeline.Dat.blockOf iblk; rw [show (dat0 m c).A 2 = Gen.V m c (Pipeline.arrRef spec0 2) from rfl]; try rfl) t d).trans
    (by unfold Pipeline.Dat.fetched Pipeline.Dat.blockOf iblk; rw [show (dat0 m c).A 2 = Gen.V m c (Pipeline.arrRef spec0 2) from rfl]; try rfl)
theorem before_3 (c : Dev nD) (t : Fin cfg0.N) (d) : (dat0 m c).before 3 t d = iblk m c 3 t :=
  ((dat0 m c).before_in_eq_fetched 3 (by rfl) (fun _ => rfl) (fun _ _ _ => rfl) (fun t => by
    rw [show (dat0 m c).after 3 t = iblk m c 3 t from rfl]; unfold Pipeline.Dat.blockOf iblk; rw [show (dat0 m c).A 3 = Gen.V m c (Pipeline.arrRef spec0 3) from rfl]; try rfl) t d).trans
    (by unfold Pipeline.Dat.fetched Pipeline.Dat.blockOf iblk; rw [show (dat0 m c).A 3 = Gen.V m c (Pipeline.arrRef spec0 3) from rfl]; try rfl)
theorem before_4 (c : Dev nD) (t : Fin cfg0.N) (d) : (dat0 m c).before 4 t d = iblk m c 4 t :=
  ((dat0 m c).before_in_eq_fetched 4 (by rfl) (fun _ => rfl) (fun _ _ _ => rfl) (fun t => by
    rw [show (dat0 m c).after 4 t = iblk m c 4 t from rfl]; unfold Pipeline.Dat.blockOf iblk; rw [show (dat0 m c).A 4 = Gen.V m c (Pipeline.arrRef spec0 4) from rfl]; try rfl) t d).trans
    (by unfold Pipeline.Dat.fetched Pipeline.Dat.blockOf iblk; rw [show (dat0 m c).A 4 = Gen.V m c (Pipeline.arrRef spec0 4) from rfl]; try rfl)

theorem owed_zero (c : Dev nD) : (dat0 m c).owed 0 = due c 0 := by
  show (if ((0 : Fin (cfg0.N + 1)).val = 0) then due c 0 else 0) = due c 0; exact if_pos rfl
theorem owed_first (c : Dev nD) : (dat0 m c).owed t0_0.castSucc = due c 0 := by
  show (if (t0_0.castSucc : Fin (cfg0.N + 1)).val = 0 then due c 0 else 0) = due c 0; exact if_pos rfl
theorem owed_last (c : Dev nD) : (dat0 m c).owed (Fin.last _) = 0 := by
  show (if (Fin.last cfg0.N).val = 0 then due c 0 else 0) = 0
  rw [Fin.val_last, if_neg (by rw [show cfg0.N = 1 from N_0]; decide)]
theorem owed_succ (c : Dev nD) : (dat0 m c).owed t0_0.succ = 0 := by
  show (if (t0_0.succ : Fin (cfg0.N + 1)).val = 0 then due c 0 else 0) = 0; exact if_neg (by decide)

/-- What the core owes as the loop holds it, from what it owes. -/
theorem owes_in (c : Dev nD) (t : Fin (cfg0.N + 1)) (O : CellTallies nD τ sig ℕ) (h0 : (dat0 m c).owed t = O) :
    iprop(∃ W, owes (c : Thread nD τ) O W) ⊢ ((dat0 m c).owesAt 0 t : sProp 𝕄) := by
  unfold Pipeline.Dat.owesAt Pipeline.owesWithin Pipeline.Dat.bound
  rw [h0, show (dat0 m c).recorded t = Set.univ from rfl]
  iintro ⟨%W, HO⟩
  iexists W
  isplitr; · ipureintro; exact fun _ _ => Or.inl trivial
  iexact HO
/-- And back. -/
theorem owes_out (c : Dev nD) (t : Fin (cfg0.N + 1)) (O : CellTallies nD τ sig ℕ) (h0 : (dat0 m c).owed t = O) :
    ((dat0 m c).owesAt 0 t : sProp 𝕄) ⊢ iprop(∃ W, owes (c : Thread nD τ) O W) := by
  unfold Pipeline.Dat.owesAt Pipeline.owesWithin
  rw [h0]
  iintro ⟨%W, -, HO⟩
  iexists W
  iexact HO

theorem body_at : (defs₀ (F := F) .tc cfg0.body (cfg0.bodyArgs t0_0 (cfg0.slots t0_0)) : Prog (TpuEff nD τ sig (Elt F) Λ₀ .tc) PUnit)
    = bodyAt0 t0_0 := by rfl
theorem body_ins : (bodyAt0 t0_0 : Prog (TpuEff nD τ sig (Elt F) Λ₀ .tc) PUnit) = Moe.call ins (cc0_body (F := F)) := by
  unfold bodyAt0 Moe.call ins
  congr 1
/-- The body the loop calls is the kernel's at the staging buffers. -/
theorem body_eq : (defs₀ (F := F) .tc cfg0.body (cfg0.bodyArgs t0_0 (cfg0.slots t0_0)) : Prog (TpuEff nD τ sig (Elt F) Λ₀ .tc) PUnit)
    = Moe.call ins (cc0_body (F := F)) := body_at.trans body_ins

attribute [local irreducible] oM Xin Xout OwN

theorem walk' (c : Dev nD) :
    iprop(Xin (inp m) c ∗ Sc (F := F) c ∗ OwN (F := F) c 0 ∗ own c (ins).m0 ((inp m).x c) ∗ own c (ins).m1 ((inp m).rw c) ∗ own c (ins).m2 ((inp m).ri c) ∗ own c (ins).m3 ((inp m).ew c) ∗ own c (ins).m4 ((inp m).sw c) ∗ ownA (F := F) c (ins).m5)
      ⊢ WP c (defs₀ (F := F) .tc cfg0.body (cfg0.bodyArgs t0_0 (cfg0.slots t0_0)) : Prog (TpuEff nD τ sig (Elt F) Λ₀ .tc) PUnit) fun _ => iprop(|={Set.univ}=> (Xout (F := F) c ∗ OwN (F := F) c 55
        ∗ own c (ins).m0 ((inp m).x c) ∗ own c (ins).m1 ((inp m).rw c) ∗ own c (ins).m2 ((inp m).ri c) ∗ own c (ins).m3 ((inp m).ew c) ∗ own c (ins).m4 ((inp m).sw c) ∗ own c (ins).m5 (oM (inp m) c 28))) := by
  refine BIBase.Entails.trans (walk (inp m) ins c) (Entails.of_eq ?_)
  rw [body_eq]

theorem own_end (c : Dev nD) : (OwN (F := F) c 55 : sProp 𝕄) ⊢ iprop(∃ W, owes (c : Thread nD τ) 0 W) := by
  unfold OwN
  rw [due_end]

theorem own_start (c : Dev nD) : iprop(∃ W, owes (c : Thread nD τ) (due c 0) W) ⊢ (OwN (F := F) c 0 : sProp 𝕄) := by
  unfold OwN
  exact .rfl

theorem after_5 (c : Dev nD) : (dat0 m c).after 5 t0_0 = oM (inp m) c 28 := rfl

/-- The body's obligation. -/
theorem body0 (c : Dev nD) : Pipeline.BodyObligation (dat0 m c) defs₀ 𝒱₀ 0 Set.univ := fun t => by
  obtain rfl := fin_N0 t
  rw [bigSep_W0, bigSep_W0]
  rw [show (dat0 m c).Φ t0_0.castSucc = iprop((Xin (inp m) c ∗ Sc (F := F) c) ∗ ∃ r, prngReg c r) from rfl,
    show (dat0 m c).Φ t0_0.succ = iprop(Xout (F := F) c ∗ ∃ r, prngReg c r) from rfl]
  simp only [before_0, before_1, before_2, before_3, before_4]
  iintro ⟨⟨⟨HX, HS⟩, Hreg⟩, HO, ⟨%d0, H0⟩, ⟨%d1, H1⟩, ⟨%d2, H2⟩, ⟨%d3, H3⟩, ⟨%d4, H4⟩, ⟨%d5, H5⟩⟩
  ihave HO := (show _ ⊢ OwN (F := F) c 0 from (owes_out m c _ (due c 0) (owed_first m c)).trans (own_start c)) $$ HO
  iapply (wp_fupd frame _ Set.univ)
  iapply (wp_mono frame _ Set.univ fun _ => (?_ : iprop((|={Set.univ}=> (Xout (F := F) c ∗ OwN (F := F) c 55
        ∗ own c (ins).m0 ((inp m).x c) ∗ own c (ins).m1 ((inp m).rw c) ∗ own c (ins).m2 ((inp m).ri c) ∗ own c (ins).m3 ((inp m).ew c) ∗ own c (ins).m4 ((inp m).sw c) ∗ own c (ins).m5 (oM (inp m) c 28))) ∗ (∃ r, prngReg c r)) ⊢ _))
  rotate_left
  · iapply (wp_frame_r frame _ Set.univ)
    isplitr [Hreg]; swap; · iexact Hreg
    iapply (walk' m c)
    isplitl [HX]; · iexact HX
    isplitl [HS]; · iexact HS
    isplitl [HO]; · iexact HO
    isplitl [H0]; · iexact H0
    isplitl [H1]; · iexact H1
    isplitl [H2]; · iexact H2
    isplitl [H3]; · iexact H3
    isplitl [H4]; · iexact H4
    iexists _; iexact H5
  · iintro ⟨H, Hreg⟩
    imod H with ⟨HX, HO, H0, H1, H2, H3, H4, H5⟩
    imodintro
    isplitl [HX Hreg]
    · isplitl [HX]; · iexact HX
      iexact Hreg
    isplitl [HO]
    · iapply (owes_in m c t0_0.succ 0 (owed_succ m c))
      iapply (own_end c); iexact HO
    isplitl [H0]; · iexact H0
    isplitl [H1]; · iexact H1
    isplitl [H2]; · iexact H2
    isplitl [H3]; · iexact H3
    isplitl [H4]; · iexact H4
    iexact H5

end Cert.KernelIdeal.Moe

end
-- ==== Proof.Run.lean ====
/-
The run of the kernel: the launch, the one segment of host code and the region, at any float values.
-/
module

public import proofs.«01_k».proof.Proof.Walk

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds (URounds Schedule cellInv atPos reached dutyTok openTok launchOf)
open Idealize.ShloMosaic.TalkSites Idealize.ShloMosaic.SiteBlocks

variable {F : FTy → Type} [FloatOps F]

local notation "𝕄" => MT nD τ sig ℕ (Elt F) ℕ UU ℕ

variable (m : (ℓ : Loc nD τ sig) → Buf (Elt F) ℓ) (ρ : Dev nD → PrngReg)

/-! ## The counters of the kernel's own semaphores -/

/-- The kernel's own scoped semaphores. -/
abbrev osem : {s // s ∈ (dorms : Finset (SemLoc sig))} → SemLoc sig := Subtype.val

theorem dorm_scoped : ∀ s ∈ (dorms : Finset (SemLoc sig)), s.isScoped .tc = true := by decide
theorem dorm_disj : ∀ (w : Fin 6) (s : Fin ((spec0 w).nbuf)), (.dma ((spec0 w).sem s) : SemLoc sig) ∉ (dorms : Finset (SemLoc sig)) := by decide

theorem own_facts : Pipeline.OwnSemFacts spec0 osem where
  isScoped k := dorm_scoped k.1 k.2
  inj := Subtype.val_injective
  disj k w s h := dorm_disj w s (h ▸ k.2)

theorem own_sems (c : Dev nD) : (Pipeline.ownSems0 osem c : sProp 𝕄) = bigSep dorms fun s => semVal ((c : Thread nD τ), s) 0 := by
  unfold Pipeline.ownSems0
  have h := bigSep_map (s := (Finset.univ : Finset {s // s ∈ (dorms : Finset (SemLoc sig))})) (Function.Embedding.subtype _) (Φ := fun s : SemLoc sig => (semVal ((c : Thread nD τ), s) 0 : sProp 𝕄))
  rw [Finset.univ_eq_attach, Finset.attach_map_val] at h
  exact h.symm

theorem unscoped_sems (c : Dev nD) : (unscopedSems0 c : sProp 𝕄) = semVal (gB c) 0 := by
  unfold unscopedSems0
  rw [show (Finset.univ.filter fun sm : SemLoc sig => ¬ sm.isScoped .tc) = {barL} from by decide, BI.bigSep_singleton]

theorem unscoped_eq : ∀ sm : SemLoc sig, sm.isScoped .tc = false → sm = barL := by decide

theorem uc_mem (b : Ref sig .tc) (h : ¬ (Proc.devRef .tc b : DevRef τ sig).isScoped) : (Proc.devRef .tc b : DevRef τ sig) ∈ Pipeline.ucRefs τ sig :=
  Finset.mem_filter.mpr ⟨StableHlo.devRef_mem_tcRefs b, h⟩

/-! ## Entering the kernel -/

/-- What a device carries from the launch to the kernel. -/
def Tk (c : Dev nD) : sProp 𝕄 :=
  iprop(Pipeline.launchCred (fun d => due d 0) c ∗ Fm.launched (ER (F := F)) (Rd (evs (inp m))) (fun _ => Finset.univ) c)

theorem open_all (V : EV F) (c : Dev nD) :
    iprop((∃ κ, Fm.cellInvs (ER (F := F)) (Rd V) κ) ∗ (bigSep dorms fun s => iprop(openTok (ER (F := F)) ((c : Thread nD τ), s) ∗ semVal ((c : Thread nD τ), s) 0)))
      ⊢ (|={Set.univ}=> bigSep dorms fun s => Pos (F := F) ((c : Thread nD τ), s) 0 : sProp 𝕄) := by
  refine BIBase.Entails.trans ?_ (bigSep_fupd dorms _)
  refine bigSep_with_persistent fun s hs => ?_
  unfold Pos
  iintro ⟨⟨%κ, #HI⟩, HO, HS⟩
  iapply (Rounds.cell_open (ER (F := F)) (Rd V) (κ := κ ((c : Thread nD τ), s)) (g := ((c : Thread nD τ), s)) (Set.mem_univ _))
  isplitr
  · iapply (Fm.cellInvs_dorm (ER (F := F)) (Rd V) κ c (j := 0) (show s ∈ Fm.dorm 0 from hs)); iexact HI
  isplitl [HO] <;> iassumption

theorem reach_all (c : Dev nD) : (bigSep Finset.univ fun n : Dev nD => reached (ER (F := F)) ((n : Thread nD τ), Fm.bar) 0)
    ⊢ (bigSep Finset.univ fun i : Fin 5 => reached (ER (F := F)) (gB (bTo i c)) 0 : sProp 𝕄) :=
  (bigSep_of_persistent Finset.univ _).trans (big_mono fun i => bigSep_elim (Φ := fun n : Dev nD => (reached (ER (F := F)) ((n : Thread nD τ), Fm.bar) 0 : sProp 𝕄)) (Finset.mem_univ (bTo i c)))

theorem reach_own (c : Dev nD) : (bigSep Finset.univ fun n : Dev nD => reached (ER (F := F)) ((n : Thread nD τ), Fm.bar) 0)
    ⊢ (reached (ER (F := F)) (gB c) 0 : sProp 𝕄) :=
  bigSep_elim (Φ := fun n : Dev nD => (reached (ER (F := F)) ((n : Thread nD τ), Fm.bar) 0 : sProp 𝕄)) (Finset.mem_univ c)

theorem pos_reached (c : Dev nD) : (bigSep dorms fun s => Pos (F := F) ((c : Thread nD τ), s) 0)
    ⊢ (bigSep dorms fun s => reached (ER (F := F)) ((c : Thread nD τ), s) 0 : sProp 𝕄) :=
  bigSep_mono fun s _ => show iprop(atPos (ER (F := F)) ((c : Thread nD τ), s) 0 ∅ 0 ∗ reached (ER (F := F)) ((c : Thread nD τ), s) 0) ⊢ (reached (ER (F := F)) ((c : Thread nD τ), s) 0 : sProp 𝕄) from by iintro ⟨-, H⟩; iexact H

theorem hopen (c : Dev nD) : iprop(Tk m c ∗ Pipeline.ownSems0 osem c ∗ levAts (L NL) lv) ⊢ (|={Set.univ}=> Xin (inp m) c : sProp 𝕄) := by
  rw [own_sems]
  unfold Tk Fam.launched Fam.barPos Fam.rides
  rw [show (bigSep (Finset.univ : Finset (Fin 1)) fun j => iprop((∃ κ, Fm.cellInvs (ER (F := F)) (Rd (evs (inp m))) κ) ∗ (bigSep (Fm.dorm j) fun sm => openTok (ER (F := F)) ((c.tc : Thread nD τ), sm)) ∗ bigSep (Fm.toks c j) fun x => dutyTok (ER (F := F)) x.1 x.2.1 x.2.2) : sProp 𝕄)
    = iprop((∃ κ, Fm.cellInvs (ER (F := F)) (Rd (evs (inp m))) κ) ∗ (bigSep dorms fun sm => openTok (ER (F := F)) ((c.tc : Thread nD τ), sm)) ∗ bigSep (Fm.toks c 0) fun x => dutyTok (ER (F := F)) x.1 x.2.1 x.2.2)
    from BI.bigSep_singleton ..]
  iintro ⟨⟨Hcr, ⟨-, Hat, #Hr⟩, #HI, Hop, Htk⟩, Hsem, #Hlev⟩
  imod (open_all (evs (inp m)) c) $$ [Hop Hsem] with HP
  · isplitr; · iexact HI
    rw [bigSep_sep']
    isplitl [Hop]; · iexact Hop
    iexact Hsem
  imodintro
  ihave #HRA := (show _ ⊢ RA (F := F) c from (pos_reached c).trans (ra_in c)) $$ HP
  ihave HC := (launch_cred c) $$ Hcr
  icases HC with ⟨Hcb, HK⟩
  unfold Xin
  isplitr
  · unfold Pers
    isplitr; · iexact HI
    iexact Hlev
  isplitl [Htk]; · iapply (tok_in c); iexact Htk
  isplitl [HK]; · iexact HK
  isplitl [HP]; · iapply (pin_in c); iexact HP
  isplitr; · iexact HRA
  isplitl [Hcb]; · iexact Hcb
  isplitl [Hat]
  · unfold Pos
    isplitl [Hat]; · iexact Hat
    iapply (reach_own c); iexact Hr
  iapply (reach_all c); iexact Hr

/-! ## The region -/

abbrev adm : (p : Fin 1) → (pcfgs (F := F) p).Adm := fun p => (cfgs p).toPCfg_adm
def pdats : (p : Fin 1) → (c : Dev nD) → Pipeline.Dat τ (Elt F) ℕ ℕ UU ℕ (Pipeline.pin (pcfgs (F := F)) adm p) c
  | 0 => dat0 m

/-- The buffers of a device as launched, when the region is entered, and when it is left. -/
abbrev W0 (c : Dev nD) : Valuation τ sig (Elt F) := fun b => m (c, b)
@[inherit_doc W0] abbrev W1 (c : Dev nD) : Valuation τ sig (Elt F) := StableHlo.after hostOps0 (W0 m c)
@[inherit_doc W0] def W2 (c : Dev nD) : Valuation τ sig (Elt F) := Function.update (W1 m c) (Proc.devRef .tc main_v2) ((dat0 m c).arrAt 5 cfg0.N)

theorem W2_ne (c : Dev nD) (b : DevRef τ sig) (h : b ≠ Proc.devRef .tc main_v2) : W2 m c b = W1 m c b := by
  unfold W2; exact Function.update_of_ne h _ _
theorem W2_self (c : Dev nD) : W2 m c (Proc.devRef .tc main_v2) = (dat0 m c).arrAt 5 cfg0.N := by
  unfold W2; exact Function.update_self _ _ _

/-- The buffers no window's array is. -/
abbrev Sr : Finset (DevRef τ sig) := Pipeline.ucRefs τ sig \ Pipeline.arrRefs (τ := τ) spec0

theorem v2_arr : (Proc.devRef .tc main_v2 : DevRef τ sig) ∈ Pipeline.arrRefs (τ := τ) spec0 := by
  exact Finset.mem_map_of_mem _ (Finset.mem_image_of_mem (Pipeline.arrRef spec0) (Finset.mem_univ (5 : Fin 6)))

theorem hW (c : Dev nD) (w : Fin 6) : (dat0 m c).arrAt w 0 = W1 m c (Proc.devRef .tc (Pipeline.arrRef spec0 w)) := rfl

theorem hW' (c : Dev nD) (w : Fin 6) : (dat0 m c).arrAt w cfg0.N = W2 m c (Proc.devRef .tc (Pipeline.arrRef spec0 w)) := by
  match w with
  | ⟨0, _⟩ => exact ((dat0 m c).arrAt_in 0 rfl _).trans (W2_ne m c (Proc.devRef .tc main_arg0) (StableHlo.devRef_ne_of_ne (by decide))).symm
  | ⟨1, _⟩ => exact ((dat0 m c).arrAt_in 1 rfl _).trans (W2_ne m c (Proc.devRef .tc main_arg1) (StableHlo.devRef_ne_of_ne (by decide))).symm
  | ⟨2, _⟩ => exact ((dat0 m c).arrAt_in 2 rfl _).trans (W2_ne m c (Proc.devRef .tc main_v1) (StableHlo.devRef_ne_of_ne (by decide))).symm
  | ⟨3, _⟩ => exact ((dat0 m c).arrAt_in 3 rfl _).trans (W2_ne m c (Proc.devRef .tc main_arg3) (StableHlo.devRef_ne_of_ne (by decide))).symm
  | ⟨4, _⟩ => exact ((dat0 m c).arrAt_in 4 rfl _).trans (W2_ne m c (Proc.devRef .tc main_arg4) (StableHlo.devRef_ne_of_ne (by decide))).symm
  | ⟨5, _⟩ => exact (W2_self m c).symm

theorem due_pos (c : Dev nD) (n : ℕ) (g : GSem nD τ sig) (i : ℕ) (h : 0 < due c n g i) : ∃ x ∈ keys, (pay c x).1 = g ∧ ix x = i := by
  obtain ⟨y, hy, rfl, rfl⟩ := tallyL_pos h
  obtain ⟨x, hx, rfl⟩ := List.mem_map.mp hy
  exact ⟨x, List.mem_of_mem_drop hx, rfl, rfl⟩

theorem cut (c : Dev nD) (t : Fin (cfg0.N + 1)) (g : GSem nD τ sig) (i : ℕ) (h : 0 < (dat0 m c).owed t g i) :
    i ∈ L NL g ∧ (0 : ℕ) < lv g i := by
  have e : (dat0 m c).owed t = if t.val = 0 then due c 0 else 0 := rfl
  rw [e] at h
  split at h
  · obtain ⟨x, hx, hg, hi⟩ := due_pos c 0 g i h
    subst hg hi
    exact ⟨mem_L' rfl (ix_lt x hx).2, (ix_lt x hx).1⟩
  · exact absurd h (Nat.lt_irrefl 0)

theorem share_full (c : Dev nD) (w : Fin 6) : (dat0 m c).share w = fullShare := by
  unfold Pipeline.Dat.share; split <;> rfl

/-- What the region leaves for the end. -/
abbrev Yk (c : Dev nD) : sProp 𝕄 := semVal (gB c) 0

theorem held_none (c : Dev nD) (W : Valuation τ sig (Elt F)) : (StableHlo.held (c : Thread nD τ) ∅ W : sProp 𝕄) = BI.emp := by
  unfold StableHlo.held; exact BI.bigSep_empty

theorem hin (c : Dev nD) : iprop(Pipeline.scopedRest (Pipeline.pin (pcfgs (F := F)) adm 0).spec c ∗ (∃ r, prngReg c r) ∗ StableHlo.held (c.tc : Thread nD τ) ∅ (W1 m c) ∗ Xin (inp m) c)
    ⊢ (pdats m 0 c).Φ 0 := by
  rw [show (pdats m 0 c).Φ 0 = iprop((Xin (inp m) c ∗ Sc (F := F) c) ∗ ∃ r, prngReg c r) from rfl]
  iintro ⟨Hs, Hp, -, HX⟩
  isplitl [HX Hs]
  · isplitl [HX]; · iexact HX
    unfold Sc
    iapply (scratch_eq c).1; iexact Hs
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (W2 m c) ∗ Pipeline.ownSems0 osem c ∗ Yk (F := F) c) := by
  rw [show (pdats m 0 c).Φ (Fin.last _) = iprop(Xout (F := F) c ∗ ∃ r, prngReg c r) from rfl, held_none, own_sems]
  unfold Xout Sc
  iintro ⟨⟨Hs, Hd, Hb⟩, Hp⟩
  isplitl [Hs]; · iapply (scratch_eq c).2; iexact Hs
  isplitl [Hp]; · iexact Hp
  isplitr; · iempintro
  isplitl [Hd]; · iexact Hd
  iexact Hb

set_option backward.isDefEq.respectTransparency.types false in
def reg0 : Pipeline.RegionSeg (pcfgs (F := F)) adm (pdats m) 0 defs₀ 𝒱₀ (L NL) lv 0 :=
  Pipeline.RegionSeg.ofTalk (pcfgs (F := F)) adm (pdats m) 0 defs₀ 𝒱₀ (L NL) lv 0 osem own_facts
    ∅ Sr (Finset.empty_subset _) launch0.toP rfl (fun c => (body0 m c).loose)
    (fun _ => 0) (fun c => due c 0) (fun c => (owed_zero m c).trans (zero_add _).symm) (owed_last m) (fun _ => rfl) (fun c w => share_full m c w)
    (W1 m) (W2 m) (fun c b hb => W2_ne m c b (fun h => by
      subst h
      exact (Finset.mem_sdiff.mp (Finset.mem_sdiff.mp hb).1).2 v2_arr))
    (Tk m) Yk (Xin (inp m)) Yk (hopen m) (hin m) (hout m)
    (fun c => by iintro H; imodintro; iexact H)
    (fun _ => 0)
    ⟨fun c w s => mem_L' rfl (by decide), fun c w s => le_refl _, fun c t g i h => cut m c t g i h⟩
    (fun _ => iprop(emp))
    (hW m) (hW' m)

/-! ## The chain -/

/-- What rides beside the buffers through the host code. -/
def R (c : Dev nD) : sProp 𝕄 := iprop(Tk m c ∗ (∃ r, prngReg c r) ∗ ∃ W, owes (c : Thread nD τ) (0 + due c 0) W)

abbrev seg0 : Pipeline.HostSeg (Name := ℕ) (U := UU) (pcfgs (F := F)) defs₀ 𝒱₀ (L NL) lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) (R m)

abbrev segs : List (Pipeline.Seg (pcfgs (F := F)) adm (pdats m) 0 defs₀ 𝒱₀ (L NL) lv) := [.host (seg0 m), .region (reg0 m)]

abbrev T₀ (c : Dev nD) : sProp 𝕄 := iprop(StableHlo.held (c : Thread nD τ) (Pipeline.ucRefs τ sig) (W0 m c) ∗ R m c)
abbrev Tₙ (c : Dev nD) : sProp 𝕄 := iprop(StableHlo.held (c : Thread nD τ) (Pipeline.ucRefs τ sig) (W2 m c) ∗ semVal (gB c) 0)

theorem arr_sub : Pipeline.arrRefs (τ := τ) spec0 ⊆ Pipeline.ucRefs τ sig := Pipeline.arrRefs_sub_ucRefs spec0 launch0.win.arr_unscoped

theorem reg_pre (c : Dev nD) : iprop(StableHlo.held (c : Thread nD τ) (Pipeline.ucRefs τ sig) (W1 m c) ∗ R m c) ⊢ (reg0 m).pre c := by
  show _ ⊢ iprop(StableHlo.held (c.tc : Thread nD τ) (Pipeline.arrRefs (τ := τ) spec0) (W1 m c) ∗ (∃ r, prngReg c r)
    ∗ (StableHlo.held (c.tc : Thread nD τ) Sr (W1 m c) ∗ emp) ∗ Tk m c ∗ ∃ Wd, owes (c : Thread nD τ) (0 + due c 0) Wd)
  rw [StableHlo.held_sub_split (c.tc : Thread nD τ) arr_sub (W1 m c)]
  unfold R
  iintro ⟨⟨Ha, Hs⟩, HT, Hp, HO⟩
  isplitl [Ha]; · iexact Ha
  isplitl [Hp]; · iexact Hp
  isplitl [Hs]
  · isplitl [Hs]; · iexact Hs
    iempintro
  isplitl [HT]; · iexact HT
  iexact HO

theorem reg_post (c : Dev nD) : (reg0 m).post c ⊢ iprop(Tₙ m c ∗ ∃ W, owes (c : Thread nD τ) (0 : CellTallies nD τ sig ℕ) W) := by
  show iprop(StableHlo.held (c.tc : Thread nD τ) (Pipeline.arrRefs (τ := τ) spec0) (W2 m c) ∗ (∃ r, prngReg c r)
    ∗ (StableHlo.held (c.tc : Thread nD τ) Sr (W2 m c) ∗ emp) ∗ Yk (F := F) c ∗ ∃ Wd, owes (c : Thread nD τ) (0 : CellTallies nD τ sig ℕ) Wd) ⊢ _
  unfold Tₙ
  rw [StableHlo.held_sub_split (c.tc : Thread nD τ) arr_sub (W2 m c)]
  iintro ⟨Ha, -, ⟨Hs, -⟩, HY, HO⟩
  isplitr [HO]
  · isplitl [Ha Hs]; · isplitl [Ha] <;> iassumption
    iexact HY
  iexact HO

/-! ## The launch -/

/-- A resource held by one device. -/
def at0 (X : sProp 𝕄) (c : Dev nD) : sProp 𝕄 := if c = 0 then X else iprop(emp)
theorem bigSep_at0 (X : sProp 𝕄) : bigSep Finset.univ (at0 X) = X := by
  rw [bigSep_univ_at _ (0 : Dev nD), bigSep_congr (s := Finset.univ.erase (0 : Dev nD)) (Ψ := fun _ => (BI.emp : sProp 𝕄))
      fun c hc => by unfold at0; rw [if_neg (Finset.ne_of_mem_erase hc)]; rfl, BI.bigSep_emp_const]
  unfold at0; rw [if_pos rfl]
  exact BI.equiv_iff.mp sep_emp

/-- The launch element of the kernel's cells, on device 0. -/
abbrev G : Dev nD → sProp 𝕄 := at0 (BI.own (ER (F := F) (launchOf Fm.S Fm.Sd Fm.T)))
/-- What the devices owe at the launch. -/
abbrev O₀ (d : Dev nD) : CellTallies nD τ sig ℕ := 0 + due d 0

theorem fund : Funds (ER (F := F)) (fun c => semVal ((c.tc : Thread nD τ), Fm.bar) 0) (O₀) (launchOf Fm.S Fm.Sd Fm.T) (Tk m) Set.univ :=
  pass (fun d => due d 0) (Fm.funds (ER (F := F)) (Rd (evs (inp m))) (fun g _ h => h) (fun _ => Finset.univ))

theorem hinit :
    iprop((bigSep Finset.univ fun c : Dev nD => iprop(unscopedBufs c (fun b => m ((c.tc : Thread nD τ).loc b)) ∗ unscopedSems0 c ∗ owes (c.tc : Thread nD τ) (O₀ c) ∅
          ∗ Pipeline.launchCred O₀ c ∗ prngReg c (ρ c) ∗ G (F := F) c)) ∗ levAts (L NL) lv)
      ⊢ (|={Set.univ}=> bigSep Finset.univ (T₀ m) : sProp 𝕄) := by
  have h1 (c : Dev nD) : iprop(unscopedBufs c (fun b => m ((c.tc : Thread nD τ).loc b)) ∗ unscopedSems0 c ∗ owes (c.tc : Thread nD τ) (O₀ c) ∅ ∗ Pipeline.launchCred O₀ c ∗ prngReg c (ρ c) ∗ G (F := F) c)
      ⊢ (iprop((semVal ((c.tc : Thread nD τ), Fm.bar) 0 ∗ Pipeline.launchCred O₀ c) ∗ G (F := F) c ∗ (unscopedBufs c (fun b => m ((c.tc : Thread nD τ).loc b)) ∗ owes (c.tc : Thread nD τ) (O₀ c) ∅ ∗ prngReg c (ρ c))) : sProp 𝕄) := by
    rw [unscoped_sems]
    iintro ⟨HB, Hus, HO, Hcr, Hp, HG⟩
    isplitl [Hus Hcr]
    · isplitl [Hus]; · iexact Hus
      iexact Hcr
    isplitl [HG]; · iexact HG
    isplitl [HB]; · iexact HB
    isplitl [HO] <;> iassumption
  have h2 (c : Dev nD) : iprop(Tk m c ∗ (unscopedBufs c (fun b => m ((c.tc : Thread nD τ).loc b)) ∗ owes (c.tc : Thread nD τ) (O₀ c) ∅ ∗ prngReg c (ρ c))) ⊢ T₀ m c := by
    rw [show unscopedBufs c (fun b => m ((c : Thread nD τ).loc b)) = StableHlo.held (c : Thread nD τ) (Pipeline.ucRefs τ sig) (W0 m c) from Pipeline.unscopedBufs_held c (W0 m c)]
    unfold T₀ R
    iintro ⟨HT, Hh, HO, Hp⟩
    isplitl [Hh]; · iexact Hh
    isplitl [HT]; · iexact HT
    isplitl [Hp]; · iexists _; iexact Hp
    iexists ∅; iexact HO
  iintro ⟨H, -⟩
  ihave H' := (show _ ⊢ iprop((bigSep Finset.univ fun c : Dev nD => iprop(semVal ((c.tc : Thread nD τ), Fm.bar) 0 ∗ Pipeline.launchCred O₀ c))
        ∗ bigSep Finset.univ (G (F := F))
        ∗ bigSep Finset.univ fun c : Dev nD => iprop(unscopedBufs c (fun b => m ((c.tc : Thread nD τ).loc b)) ∗ owes (c.tc : Thread nD τ) (O₀ c) ∅ ∗ prngReg c (ρ c)))
      from by rw [← bigSep_sep', ← bigSep_sep']; exact bigSep_mono fun c _ => h1 c) $$ H
  icases H' with ⟨Hsc, HG, Hrest⟩
  ihave Hu := (Entails.of_eq (bigSep_at0 (F := F) _)) $$ HG
  imod (fund m) $$ [Hsc Hu] with Hr
  · isplitl [Hsc]; · iexact Hsc
    iexact Hu
  imodintro
  iapply (show iprop((bigSep Finset.univ fun c : Dev nD => Tk m c)
        ∗ bigSep Finset.univ fun c : Dev nD => iprop(unscopedBufs c (fun b => m ((c.tc : Thread nD τ).loc b)) ∗ owes (c.tc : Thread nD τ) (O₀ c) ∅ ∗ prngReg c (ρ c)))
      ⊢ bigSep Finset.univ (T₀ m) from by rw [← bigSep_sep']; exact bigSep_mono fun c _ => h2 c)
  isplitl [Hr]; · iexact Hr
  iexact Hrest

theorem inj0 : Function.Injective (Pipeline.cellOf (nD := nD) (τ := τ) (Pipeline.pin (pcfgs (F := F)) adm)) := cellOf_inj

/-- The launch element. -/
abbrev u₀ : UU :=
  (Rounds.initOf (Pipeline.cells (Pipeline.pin (pcfgs (F := F)) adm) inj0) (Pipeline.launchToks (Pipeline.pin (pcfgs (F := F)) adm) inj0), launchOf Fm.S Fm.Sd Fm.T)

set_option backward.isDefEq.respectTransparency.types false in
/-- The run: from any memory with the counters at zero every execution of the program ends without a fault, every unscoped
    buffer at its contents `W2` and every semaphore counter at zero. -/
theorem run_main : θ_run defs (onTc (τ := τ) (main (F := F))) ⟨m, fun _ => 0, ρ⟩
    (fun r => (∀ (c : Dev nD), ∀ b ∈ Pipeline.ucRefs τ sig, r.2.mem (((c : Thread nD τ)).1, b) = W2 m c b) ∧ r.2.sem = fun _ => 0) :=
  Pipeline.θ_run_regions_kit_sems (pcfgs (F := F)) adm (pdats m) 0 inj0 (EP (F := F)) defs₀ 𝒱₀ (L NL) lv m ρ main (segs m)
    (fun c Q => by rw [main_segs adm (pdats m) 0 𝒱₀ (L NL) lv (seg0 m) (reg0 m) rfl c])
    (by simp only [segs, Pipeline.Seg.pipes_host, Pipeline.Seg.pipes_region, Pipeline.Seg.pipes_nil]; decide)
    (O₀ := O₀) (hL := SiteBlocks.hL NL) (G := G (F := F))
    (u₀ := u₀ (F := F))
    (hu₀ := by
      iintro Hu
      ihave H := (ownU_pair _ _) $$ Hu
      icases H with ⟨HP, HX⟩
      imodintro
      isplitl [HP]; · iexact HP
      rw [bigSep_at0]; iexact HX)
    (T₀ := T₀ m) (Tₙ := Tₙ m)
    (hch := ⟨fun c => .rfl, reg_pre m, reg_post m⟩)
    (hinit := hinit m ρ)
    (QY := fun c s => (∀ b ∈ Pipeline.ucRefs τ sig, s.mem (((c : Thread nD τ)).1, b) = W2 m c b) ∧ s.sem (gB c) = 0)
    (hfin := fun c s' => by
      unfold Tₙ StableHlo.held
      iintro ⟨⟨Hh, Hb0⟩, HSI⟩
      icombine HSI Hb0 gives %hb
      ihave Hp := (pointsTo_read_all (Pipeline.ucRefs τ sig) (fun b => (((c : Thread nD τ)).1, b)) (W2 m c) s') $$ [Hh HSI]
      · isplitl [Hh] <;> iassumption
      icases Hp with ⟨%hm, HSI⟩
      imodintro
      isplitr; · ipureintro; exact ⟨hm, by simpa using hb⟩
      iexact HSI)
    (hQ := fun s h hs => ⟨fun c => (h c).1, sem_eq_zero hs fun c sm hsm => by
      obtain rfl := unscoped_eq sm hsm
      exact (h c).2⟩)

/-- The frame: the arguments unchanged and the counters at zero, at any float values. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨((h.1 c _ (uc_mem main_arg0 (by decide))).trans (W2_ne m c _ (StableHlo.devRef_ne_of_ne (by decide)))).trans (V_main_arg0 m c),
      ((h.1 c _ (uc_mem main_arg1 (by decide))).trans (W2_ne m c _ (StableHlo.devRef_ne_of_ne (by decide)))).trans (V_main_arg1 m c),
      ((h.1 c _ (uc_mem main_arg2 (by decide))).trans (W2_ne m c _ (StableHlo.devRef_ne_of_ne (by decide)))).trans (V_main_arg2 m c),
      ((h.1 c _ (uc_mem main_arg3 (by decide))).trans (W2_ne m c _ (StableHlo.devRef_ne_of_ne (by decide)))).trans (V_main_arg3 m c),
      ((h.1 c _ (uc_mem main_arg4 (by decide))).trans (W2_ne m c _ (StableHlo.devRef_ne_of_ne (by decide)))).trans (V_main_arg4 m c)⟩, h.2⟩) (run_main m ρ)

end Cert.KernelIdeal.Moe

end
-- ==== Proof.VBlk.lean ====
/-
Blocks of the result buffer: when a block's value is a whole array read at the block's place, and what an overlaid
buffer holds there.
-/
module

public import proofs.«01_k».proof.Proof.Vals
public import Idealize.ShloMosaic.Lib.Pointwise

@[expose] public section

set_option maxRecDepth 16384

noncomputable section

namespace Cert.KernelIdeal.Moe

open Cert.KernelIdeal Cert.KernelIdeal.Gen
open Idealize.ShloMosaic Idealize.ShloMosaic.TcCoe

/-- An array of the result's shape. -/
abbrev Arr : Type := S1024x1024.Idx → EReal

/-- The block `v` is the array `g` read from the offset `off` on. -/
def Blk (off z : Fin 2 → ℕ) (v : (⟨2, z⟩ : Shape).Idx → EReal) (g : Arr) : Prop :=
  ∀ (x : (⟨2, z⟩ : Shape).Idx) (j : S1024x1024.Idx), (∀ a : Fin 2, (j a).val = off a + (x a).val) → v x = g j

/-- The arrays `f` and `g` agree on the box of size `z` at `off`. -/
def On (off z : Fin 2 → ℕ) (f g : Arr) : Prop :=
  ∀ j : S1024x1024.Idx, (∀ a : Fin 2, off a ≤ (j a).val ∧ (j a).val < off a + z a) → f j = g j

/-- Where an index of a block lies. -/
theorem emb_val {s : Shape} {off z : Fin s.rank → ℕ} (h : ∀ a, off a + z a ≤ s.size a) (x : (⟨s.rank, z⟩ : Shape).Idx) (a : Fin s.rank) :
    ((Rect.unit (s := s) off z h).emb x a).val = off a + (x a).val := by
  show off a + 1 * (x a).val = _
  omega

/-- What is loaded from a box is the array there. -/
theorem ld_blk {off z : Fin 2 → ℕ} {f g : Arr} (h : ∀ a, off a + z a ≤ S1024x1024.size a) (H : On off z f g) :
    Blk off z (ld f (Rect.unit (s := S1024x1024) off z h)) g := by
  intro x j hj
  have e : (Rect.unit (s := S1024x1024) off z h).emb x = j := by
    funext a
    apply Fin.ext
    exact (emb_val (s := S1024x1024) h x a).trans (hj a).symm
  show f _ = g j
  rw [e]
  exact H j fun a => ⟨by rw [hj a]; omega, by rw [hj a]; have := (x a).isLt; exact Nat.add_lt_add_left this _⟩

/-- An index of a box is the box's place of some index of the block. -/
theorem box_emb {off z : Fin 2 → ℕ} (h : ∀ a, off a + z a ≤ S1024x1024.size a) (j : S1024x1024.Idx)
    (hj : ∀ a : Fin 2, off a ≤ (j a).val ∧ (j a).val < off a + z a) :
    ∃ x : (⟨2, z⟩ : Shape).Idx, (Rect.unit (s := S1024x1024) off z h).emb x = j ∧ ∀ a : Fin 2, (j a).val = off a + (x a).val := by
  refine ⟨fun a => ⟨(j a).val - off a, by have := hj a; show _ < z a; omega⟩, ?_, fun a => by have := hj a; show _ = off a + ((j a).val - off a); omega⟩
  funext a
  apply Fin.ext
  refine (emb_val (s := S1024x1024) h _ a).trans ?_
  have := hj a
  show off a + ((j a).val - off a) = _
  omega

/-- The overlaid box holds what was laid. -/
theorem ov_on {off z : Fin 2 → ℕ} {f g : Arr} {v : (⟨2, z⟩ : Shape).Idx → EReal} (h : ∀ a, off a + z a ≤ S1024x1024.size a)
    (H : Blk off z v g) : On off z ((Rect.unit (s := S1024x1024) off z h).overlay f v) g := by
  intro j hj
  obtain ⟨x, rfl, hx⟩ := box_emb h j hj
  exact (Rect.overlay_emb (Rect.unit (s := S1024x1024) off z h) f v x).trans (H x _ hx)

/-- A box stays as it is where what is laid agrees. -/
theorem ov_keep {off z off' z' : Fin 2 → ℕ} {f g : Arr} {v : (⟨2, z⟩ : Shape).Idx → EReal} (h : ∀ a, off a + z a ≤ S1024x1024.size a)
    (H : Blk off z v g) (H' : On off' z' f g) : On off' z' ((Rect.unit (s := S1024x1024) off z h).overlay f v) g := by
  intro j hj
  by_cases hm : j ∈ (Rect.unit (s := S1024x1024) off z h).set
  · exact ov_on h H j (fun a => (Rect.mem_set_unit.1 hm a))
  · exact (Rect.overlay_of_not_mem (Rect.unit (s := S1024x1024) off z h) f v hm).trans (H' j hj)

/-- A box stays as it is where what is laid lies elsewhere. -/
theorem ov_off {off z off' z' : Fin 2 → ℕ} {f g : Arr} {v : (⟨2, z⟩ : Shape).Idx → EReal} (h : ∀ a, off a + z a ≤ S1024x1024.size a)
    (hd : ∃ a : Fin 2, off a + z a ≤ off' a ∨ off' a + z' a ≤ off a) (H' : On off' z' f g) :
    On off' z' ((Rect.unit (s := S1024x1024) off z h).overlay f v) g := by
  intro j hj
  refine (Rect.overlay_of_not_mem (Rect.unit (s := S1024x1024) off z h) f v fun hm => ?_).trans (H' j hj)
  obtain ⟨a, ha⟩ := hd
  have h1 := Rect.mem_set_unit.1 hm a
  have h2 := hj a
  have h3 : off a ≤ (j a).val ∧ (j a).val < off a + z a := h1
  omega

/-- A box within another. -/
theorem On.mono {off z off' z' : Fin 2 → ℕ} {f g : Arr} (H : On off z f g) (h : ∀ a : Fin 2, off a ≤ off' a ∧ off' a + z' a ≤ off a + z a) :
    On off' z' f g := fun j hj => H j fun a => by have := hj a; have := h a; omega

/-- Two boxes side by side. -/
theorem On.join {r c0 c1 zr z0 z1 : ℕ} {f g : Arr} (H : On ![r, c0] ![zr, z0] f g) (H' : On ![r, c1] ![zr, z1] f g) (h : c1 = c0 + z0) :
    On ![r, c0] ![zr, z0 + z1] f g := by
  intro j hj
  have a0 : r ≤ (j 0).val ∧ (j 0).val < r + zr := hj 0
  have a1 : c0 ≤ (j 1).val ∧ (j 1).val < c0 + (z0 + z1) := hj 1
  by_cases hc : (j 1).val < c1
  · refine H j fun a => ?_
    have ha : a = (0 : Fin 2) ∨ a = (1 : Fin 2) := (by decide : ∀ a : Fin 2, a = 0 ∨ a = 1) a
    rcases ha with rfl | rfl
    · exact a0
    · show c0 ≤ (j 1).val ∧ (j 1).val < c0 + z0
      omega
  · refine H' j fun a => ?_
    have ha : a = (0 : Fin 2) ∨ a = (1 : Fin 2) := (by decide : ∀ a : Fin 2, a = 0 ∨ a = 1) a
    rcases ha with rfl | rfl
    · exact a0
    · show c1 ≤ (j 1).val ∧ (j 1).val < c1 + z1
      omega

/-- Blocks add up. -/
theorem Blk.add {off z : Fin 2 → ℕ} {v w : FVec Ideal (⟨2, z⟩ : Shape) .f32} {g k : Arr} (H : Blk off z v g) (H' : Blk off z w k) :
    Blk off z (addf v w) (fun j => g j + k j) := fun x j hj => by
  show v x + w x = _
  rw [H x j hj, H' x j hj]

/-- Reading a slot back. -/
theorem dn_upA (v : FVec Ideal S256x256 .f32) : dnA (upA v) = v := shapeCast_shapeCast _ _ _
@[inherit_doc dn_upA] theorem dn_upB (v : FVec Ideal S64x512 .f32) : dnB (upB v) = v := shapeCast_shapeCast _ _ _
@[inherit_doc dn_upA] theorem idA_eq (v : FVec Ideal S256x256 .f32) : idA v = v := shapeCast_self _ _
@[inherit_doc dn_upA] theorem idB_eq (v : FVec Ideal S64x512 .f32) : idB v = v := shapeCast_self _ _
@[inherit_doc dn_upA] theorem idH_eq (v : FVec Ideal S256x512 .f32) : idH v = v := shapeCast_self _ _

end Cert.KernelIdeal.Moe

end
-- ==== Proof.VProd.lean ====
/-
The own experts' products read at an element: a block of the products is the array of the products at the block's place.
-/
module

public import proofs.«01_k».proof.Proof.VBlk

@[expose] public section

set_option maxRecDepth 16384

noncomputable section

namespace Cert.KernelIdeal.Moe

open Cert.KernelIdeal Cert.KernelIdeal.Gen
open Idealize.ShloMosaic Idealize.ShloMosaic.TcCoe

/-- One expert's product of a block at an element. -/
theorem pex_apply (x : FVec Ideal S256x512 .f32) (k : FVec Ideal S1x256 .f32) (w : FVec Ideal S1x512x256 .f32) (n h : Fin 256) :
    pex (F := Ideal) x k w (ix2 n h) = ∑ d : Fin 512, (x (ix2 n d) * k (ix2 0 n)) * w (ix3 0 d h) := by
  pointwise [pex]

/-- The product of expert `s` for the token `n` and the column `h`. -/
def eprod (x : S1024x512.Idx → EReal) (k : S4x1024.Idx → EReal) (w : S4x512x1024.Idx → EReal) (s : Fin 4) (n h : Fin 1024) : EReal :=
  ∑ d : Fin 512, (x (ix2 n d) * k (ix2 s n)) * w (ix3 s d h)

/-- The four experts' products, added up. -/
def prodArr (x : S1024x512.Idx → EReal) (k : S4x1024.Idx → EReal) (w : S4x512x1024.Idx → EReal) : Arr := fun j =>
  ((eprod x k w 0 (j 0) (j 1) + eprod x k w 1 (j 0) (j 1)) + eprod x k w 2 (j 0) (j 1)) + eprod x k w 3 (j 0) (j 1)

/-- One expert's product of the blocks loaded at a place. -/
theorem pex_blk (x : S1024x512.Idx → EReal) (k : S4x1024.Idx → EReal) (w : S4x512x1024.Idx → EReal) (s : Fin 4) (r q : ℕ)
    {ox : Fin 2 → ℕ} {ok : Fin 2 → ℕ} {ow : Fin 3 → ℕ} (hx : ∀ a, ox a + S256x512.size a ≤ S1024x512.size a)
    (hk : ∀ a, ok a + S1x256.size a ≤ S4x1024.size a) (hw : ∀ a, ow a + S1x512x256.size a ≤ S4x512x1024.size a)
    (ex : ox = ![r, 0]) (ek : ok = ![s.val, r]) (ew : ow = ![s.val, 0, q]) (y : S256x256.Idx) (j : S1024x1024.Idx)
    (h0 : (j 0).val = r + (y 0).val) (h1 : (j 1).val = q + (y 1).val) :
    pex (F := Ideal) (idH (ld x (Rect.unit (s := S1024x512) ox S256x512.size hx))) (ld k (Rect.unit (s := S4x1024) ok S1x256.size hk))
      (ld w (Rect.unit (s := S4x512x1024) ow S1x512x256.size hw)) y = eprod x k w s (j 0) (j 1) := by
  subst ex ek ew
  rw [idH_eq]
  have ey : y = ix2 (y 0) (y 1) := by funext a; exact (Fin.forall_fin_two.2 ⟨rfl, rfl⟩ : ∀ a : Fin 2, y a = ix2 (y 0) (y 1) a) a
  rw [ey]
  refine (pex_apply _ _ _ _ _).trans (Finset.sum_congr rfl fun d _ => ?_)
  congr 1
  · congr 1
    · refine congrArg x (funext fun a => Fin.ext ((emb_val (s := S1024x512) hx _ a).trans ?_))
      revert a
      refine Fin.forall_fin_two.2 ⟨h0.symm, ?_⟩
      exact Nat.zero_add _
    · refine congrArg k (funext fun a => Fin.ext ((emb_val (s := S4x1024) hk _ a).trans ?_))
      revert a
      exact Fin.forall_fin_two.2 ⟨Nat.add_zero _, h0.symm⟩
  · refine congrArg w (funext fun a => Fin.ext ((emb_val (s := S4x512x1024) hw _ a).trans ?_))
    have ha : a = (0 : Fin 3) ∨ a = (1 : Fin 3) ∨ a = (2 : Fin 3) := (by decide : ∀ a : Fin 3, a = 0 ∨ a = 1 ∨ a = 2) a
    rcases ha with rfl | rfl | rfl
    · exact Nat.add_zero _
    · exact Nat.zero_add _
    · exact h1.symm

/-- The four experts' products of the blocks loaded at a place. -/
theorem pbv_blk (x : S1024x512.Idx → EReal) (k : S4x1024.Idx → EReal) (w : S4x512x1024.Idx → EReal) (off : Fin 2 → ℕ)
    {ox : Fin 2 → ℕ} {k0 k1 k2 k3 : Fin 2 → ℕ} {w0 w1 w2 w3 : Fin 3 → ℕ} {hx : ∀ a, ox a + S256x512.size a ≤ S1024x512.size a}
    {hk0 : ∀ a, k0 a + S1x256.size a ≤ S4x1024.size a} {hw0 : ∀ a, w0 a + S1x512x256.size a ≤ S4x512x1024.size a}
    {hk1 : ∀ a, k1 a + S1x256.size a ≤ S4x1024.size a} {hw1 : ∀ a, w1 a + S1x512x256.size a ≤ S4x512x1024.size a}
    {hk2 : ∀ a, k2 a + S1x256.size a ≤ S4x1024.size a} {hw2 : ∀ a, w2 a + S1x512x256.size a ≤ S4x512x1024.size a}
    {hk3 : ∀ a, k3 a + S1x256.size a ≤ S4x1024.size a} {hw3 : ∀ a, w3 a + S1x512x256.size a ≤ S4x512x1024.size a}
    (e : ox = ![off 0, 0] ∧ k0 = ![0, off 0] ∧ k1 = ![1, off 0] ∧ k2 = ![2, off 0] ∧ k3 = ![3, off 0] ∧
      w0 = ![0, 0, off 1] ∧ w1 = ![1, 0, off 1] ∧ w2 = ![2, 0, off 1] ∧ w3 = ![3, 0, off 1]) :
    Blk off S256x256.size (pbv (F := Ideal) (ld x (Rect.unit (s := S1024x512) ox S256x512.size hx))
      (ld k (Rect.unit (s := S4x1024) k0 S1x256.size hk0)) (ld w (Rect.unit (s := S4x512x1024) w0 S1x512x256.size hw0))
      (ld k (Rect.unit (s := S4x1024) k1 S1x256.size hk1)) (ld w (Rect.unit (s := S4x512x1024) w1 S1x512x256.size hw1))
      (ld k (Rect.unit (s := S4x1024) k2 S1x256.size hk2)) (ld w (Rect.unit (s := S4x512x1024) w2 S1x512x256.size hw2))
      (ld k (Rect.unit (s := S4x1024) k3 S1x256.size hk3)) (ld w (Rect.unit (s := S4x512x1024) w3 S1x512x256.size hw3)))
      (prodArr x k w) := by
  intro y j hj
  obtain ⟨ex, f0, f1, f2, f3, e0, e1, e2, e3⟩ := e
  unfold prodArr
  rw [← pex_blk x k w 0 _ _ hx hk0 hw0 ex f0 e0 y j (hj 0) (hj 1), ← pex_blk x k w 1 _ _ hx hk1 hw1 ex f1 e1 y j (hj 0) (hj 1),
    ← pex_blk x k w 2 _ _ hx hk2 hw2 ex f2 e2 y j (hj 0) (hj 1), ← pex_blk x k w 3 _ _ hx hk3 hw3 ex f3 e3 y j (hj 0) (hj 1)]
  rfl

end Cert.KernelIdeal.Moe

end
-- ==== Proof.VRing.lean ====
/-
The reductions around the rings: the result buffer after the reductions holds, on the blocks a device is responsible for,
the sum of the products of all devices.
-/
module

public import proofs.«01_k».proof.Proof.VProd

@[expose] public section

set_option maxRecDepth 16384

noncomputable section

namespace Cert.KernelIdeal.Moe

open Cert.KernelIdeal Cert.KernelIdeal.Gen
open Idealize.ShloMosaic Idealize.ShloMosaic.TcCoe

/-- The sum of four arrays around a ring. -/
def ring4 (p : Dev nD → Dev nD) (f : Dev nD → Arr) (c : Dev nD) : Arr := fun j =>
  ((f (p (p (p c))) j + f (p (p c)) j) + f (p c) j) + f c j

/-- What a reduction of a ring leaves: the sum of the ring's blocks. -/
theorem rsA_blk {p : Dev nD → Dev nD} {a b d e : Dev nD → FVec Ideal S256x256 .f32} {f : Dev nD → Arr} {off : Fin 2 → ℕ} {c : Dev nD}
    (ha : Blk off S256x256.size (a (p (p (p c)))) (f (p (p (p c))))) (hb : Blk off S256x256.size (b (p (p c))) (f (p (p c))))
    (hd : Blk off S256x256.size (d (p c)) (f (p c))) (he : Blk off S256x256.size (e c) (f c)) :
    Blk off S256x256.size (addf (dnA (rsA p a b d 2 (p c))) (e c)) (ring4 p f c) := by
  simp only [rsA, dn_upA]
  exact ((ha.add hb).add hd).add he
@[inherit_doc rsA_blk] theorem rsB_blk {p : Dev nD → Dev nD} {a b d e : Dev nD → FVec Ideal S64x512 .f32} {f : Dev nD → Arr} {off : Fin 2 → ℕ} {c : Dev nD}
    (ha : Blk off S64x512.size (a (p (p (p c)))) (f (p (p (p c))))) (hb : Blk off S64x512.size (b (p (p c))) (f (p (p c))))
    (hd : Blk off S64x512.size (d (p c)) (f (p c))) (he : Blk off S64x512.size (e c) (f c)) :
    Blk off S64x512.size (addf (dnB (rsB p a b d 2 (p c))) (e c)) (ring4 p f c) := by
  simp only [rsB, dn_upB]
  exact ((ha.add hb).add hd).add he

/-- A ring's sum as a sum over the steps. -/
theorem ring4_sum (p : Dev nD → Dev nD) (f : Dev nD → Arr) (c : Dev nD) (j : S1024x1024.Idx) :
    ring4 p f c j = ∑ k : Fin 4, f (p^[k.val] c) j := by
  rw [Fin.sum_univ_four]
  show ((f (p (p (p c))) j + f (p (p c)) j) + f (p c) j) + f c j = ((f c j + f (p c) j) + f (p (p c)) j) + f (p (p (p c))) j
  ac_rfl

/-- Two rings and a pair reach every device once. -/
theorem tour (p q : Dev nD → Dev nD) (c : Dev nD) (h : ∀ d : Dev nD, ∃ t : Fin 2 × Fin 4 × Fin 4, p^[t.2.2.val] (q^[t.2.1.val] (xP^[t.1.val] c)) = d)
    (f : Dev nD → Arr) (j : S1024x1024.Idx) : ring4 q (ring4 p f) c j + ring4 q (ring4 p f) (xP c) j = ∑ d, f d j := by
  have hb : Function.Bijective (fun t : Fin 2 × Fin 4 × Fin 4 => p^[t.2.2.val] (q^[t.2.1.val] (xP^[t.1.val] c))) :=
    (Fintype.bijective_iff_surjective_and_card _).2 ⟨h, rfl⟩
  rw [← hb.sum_comp (fun d => f d j), Fintype.sum_prod_type, Fin.sum_univ_two]
  simp only [Fintype.sum_prod_type, ring4_sum]
  rfl

theorem tour_left (c d : Dev nD) : ∃ t : Fin 2 × Fin 4 × Fin 4, yP^[t.2.2.val] (zP^[t.2.1.val] (xP^[t.1.val] c)) = d := by
  revert c d; decide +kernel
theorem tour_right (c d : Dev nD) : ∃ t : Fin 2 × Fin 4 × Fin 4, zP^[t.2.2.val] (yP^[t.2.1.val] (xP^[t.1.val] c)) = d := by
  revert c d; decide +kernel

variable (I : Inp Ideal)

/-- The products of the experts of device `c`. -/
def mine (c : Dev nD) : Arr := prodArr (I.x c) (cf4 I c) (I.ew c)
/-- The products added up over a ring. -/
def sumY : Dev nD → Arr := ring4 yP (mine I)
@[inherit_doc sumY] def sumZ : Dev nD → Arr := ring4 zP (mine I)
/-- The products added up over all devices. -/
def tot : Arr := fun j => ∑ d, mine I d j

/-- The blocks of the first reductions. -/
theorem blk0 (c : Dev nD) : Blk (k0_off21 c) S256x256.size (addf (dnA (va0 I 2 (prv .a0 c))) (pa0_3 I c)) (sumY I c) :=
  rsA_blk (e := pa0_3 I) (pbv_blk _ _ _ _ (by revert c; decide +kernel)) (pbv_blk _ _ _ _ (by revert c; decide +kernel))
    (pbv_blk _ _ _ _ (by revert c; decide +kernel)) (pbv_blk _ _ _ _ (by revert c; decide +kernel))
@[inherit_doc blk0] theorem blk1 (c : Dev nD) : Blk (k0_off22 c) S256x256.size (addf (dnA (va1 I 2 (prv .a1 c))) (pa1_3 I c)) (sumY I c) :=
  rsA_blk (e := pa1_3 I) (pbv_blk _ _ _ _ (by revert c; decide +kernel)) (pbv_blk _ _ _ _ (by revert c; decide +kernel))
    (pbv_blk _ _ _ _ (by revert c; decide +kernel)) (pbv_blk _ _ _ _ (by revert c; decide +kernel))
@[inherit_doc blk0] theorem blk2 (c : Dev nD) : Blk (k0_off23 c) S256x256.size (addf (dnA (va2 I 2 (prv .a2 c))) (pa2_3 I c)) (sumZ I c) :=
  rsA_blk (e := pa2_3 I) (pbv_blk _ _ _ _ (by revert c; decide +kernel)) (pbv_blk _ _ _ _ (by revert c; decide +kernel))
    (pbv_blk _ _ _ _ (by revert c; decide +kernel)) (pbv_blk _ _ _ _ (by revert c; decide +kernel))
@[inherit_doc blk0] theorem blk3 (c : Dev nD) : Blk (k0_off24 c) S256x256.size (addf (dnA (va3 I 2 (prv .a3 c))) (pa3_3 I c)) (sumZ I c) :=
  rsA_blk (e := pa3_3 I) (pbv_blk _ _ _ _ (by revert c; decide +kernel)) (pbv_blk _ _ _ _ (by revert c; decide +kernel))
    (pbv_blk _ _ _ _ (by revert c; decide +kernel)) (pbv_blk _ _ _ _ (by revert c; decide +kernel))

/-- The buffer after the first reductions, on the own rows' left and right halves. -/
theorem o4_left (c : Dev nD) : On (k0_off37 c) S256x512.size (o4 I c) (sumY I c) := by
  have h1 : On (k0_off21 c) S256x256.size (o4 I c) (sumY I c) :=
    ov_off _ (by revert c; decide +kernel) (ov_off _ (by revert c; decide +kernel) (ov_off _ (by revert c; decide +kernel) (ov_on _ (blk0 I c))))
  have h2 : On (k0_off22 c) S256x256.size (o4 I c) (sumY I c) :=
    ov_off _ (by clear h1; revert c; decide +kernel) (ov_off _ (by clear h1; revert c; decide +kernel) (ov_on _ (blk1 I c)))
  have e : k0_off21 c = ![k0_off37 c 0, 0] ∧ k0_off22 c = ![k0_off37 c 0, 256] ∧ k0_off37 c = ![k0_off37 c 0, 0] := by clear h1 h2; revert c; decide +kernel
  rw [e.1] at h1; rw [e.2.1] at h2; rw [e.2.2]
  exact On.join h1 h2 rfl
@[inherit_doc o4_left] theorem o4_right (c : Dev nD) : On (k0_off38 c) S256x512.size (o4 I c) (sumZ I c) := by
  have h1 : On (k0_off23 c) S256x256.size (o4 I c) (sumZ I c) :=
    ov_off _ (by revert c; decide +kernel) (ov_on _ (blk2 I c))
  have h2 : On (k0_off24 c) S256x256.size (o4 I c) (sumZ I c) := ov_on _ (blk3 I c)
  have e : k0_off23 c = ![k0_off38 c 0, 512] ∧ k0_off24 c = ![k0_off38 c 0, 768] ∧ k0_off38 c = ![k0_off38 c 0, 512] := by clear h1 h2; revert c; decide +kernel
  rw [e.1] at h1; rw [e.2.1] at h2; rw [e.2.2]
  exact On.join h1 h2 rfl

/-- A slice of rows loaded from a box, at a place named otherwise. -/
theorem row_blk {off off' box zb : Fin 2 → ℕ} {f g : Arr} (h : ∀ a, off a + S64x512.size a ≤ S1024x1024.size a) (H : On box zb f g)
    (e : off = off' ∧ ∀ a : Fin 2, box a ≤ off' a ∧ off' a + S64x512.size a ≤ box a + zb a) :
    Blk off' S64x512.size (idB (F := Ideal) (ld f (Rect.unit (s := S1024x1024) off S64x512.size h))) g := by
  obtain ⟨rfl, e⟩ := e
  rw [idB_eq]
  exact ld_blk h (H.mono e)

/-- The blocks of the second reductions. -/
theorem blk4 (c : Dev nD) : Blk (k0_off29 c) S64x512.size (addf (dnB (vb0 I 2 (prv .b0 c))) (pb0_3 I c)) (ring4 zP (sumY I) c) :=
  rsB_blk (e := pb0_3 I) (row_blk _ (o4_left I _) (by revert c; decide +kernel)) (row_blk _ (o4_left I _) (by revert c; decide +kernel))
    (row_blk _ (o4_left I _) (by revert c; decide +kernel)) (row_blk _ (o4_left I _) (by revert c; decide +kernel))
@[inherit_doc blk4] theorem blk5 (c : Dev nD) : Blk (k0_off30 c) S64x512.size (addf (dnB (vb1 I 2 (prv .b1 c))) (pb1_3 I c)) (ring4 yP (sumZ I) c) :=
  rsB_blk (e := pb1_3 I) (row_blk _ (o4_right I _) (by revert c; decide +kernel)) (row_blk _ (o4_right I _) (by revert c; decide +kernel))
    (row_blk _ (o4_right I _) (by revert c; decide +kernel)) (row_blk _ (o4_right I _) (by revert c; decide +kernel))

/-- The buffer after the second reductions. -/
theorem o6_left (c : Dev nD) : On (k0_off29 c) S64x512.size (o6 I c) (ring4 zP (sumY I) c) :=
  ov_off _ (by revert c; decide +kernel) (ov_on _ (blk4 I c))
@[inherit_doc o6_left] theorem o6_right (c : Dev nD) : On (k0_off30 c) S64x512.size (o6 I c) (ring4 yP (sumZ I) c) := ov_on _ (blk5 I c)

/-- A block of rows loaded from where the buffer is known. -/
theorem same_blk {off off' : Fin 2 → ℕ} {f g : Arr} (h : ∀ a, off a + S64x512.size a ≤ S1024x1024.size a) (H : On off S64x512.size f g)
    (e : off = off') : Blk off' S64x512.size (idB (F := Ideal) (ld f (Rect.unit (s := S1024x1024) off S64x512.size h))) g := by
  subst e
  rw [idB_eq]
  exact ld_blk h H

/-- The buffer after the exchange within the pairs. -/
theorem o8_left (c : Dev nD) : On (k0_off29 c) S64x512.size (o8 I c) (tot I) := by
  refine ov_off _ (by revert c; decide +kernel) (ov_on _ ?_)
  have h := (same_blk (k0_off29_inb c) (o6_left I c) rfl).add (same_blk (off' := k0_off29 c) (k0_off29_inb (xP c)) (o6_left I (xP c)) (by revert c; decide +kernel))
  rw [show (fun j => ring4 zP (sumY I) c j + ring4 zP (sumY I) (xP c) j) = tot I from funext fun j => tour yP zP c (tour_left c) (mine I) j] at h
  unfold vxA
  rw [idB_eq (idB _)]
  exact h
@[inherit_doc o8_left] theorem o8_right (c : Dev nD) : On (k0_off30 c) S64x512.size (o8 I c) (tot I) := by
  refine ov_on _ ?_
  have h7 : On (k0_off30 c) S64x512.size (o7 I c) (ring4 yP (sumZ I) c) := ov_off _ (by revert c; decide +kernel) (o6_right I c)
  have h := (same_blk (k0_off30_inb c) h7 rfl).add (same_blk (off' := k0_off30 c) (k0_off30_inb (xP c)) (o6_right I (xP c)) (by clear h7; revert c; decide +kernel))
  rw [show (fun j => ring4 yP (sumZ I) c j + ring4 yP (sumZ I) (xP c) j) = tot I from funext fun j => tour zP yP c (tour_right c) (mine I) j] at h
  unfold vxB
  rw [idB_eq (idB _)]
  exact h

end Cert.KernelIdeal.Moe

end
-- ==== Proof.VAll.lean ====
/-
The gatherings around the rings and the last additions: the result buffer at the end holds, everywhere, the sum of the
products of all devices plus the shared expert's product.
-/
module

public import proofs.«01_k».proof.Proof.VRing

@[expose] public section

set_option maxRecDepth 16384

noncomputable section

namespace Cert.KernelIdeal.Moe

open Cert.KernelIdeal Cert.KernelIdeal.Gen
open Idealize.ShloMosaic Idealize.ShloMosaic.TcCoe

/-- Four boxes of the same size one above the other, in any order. -/
theorem On.stack {a b d e : Fin 2 → ℕ} {f g : Arr} {r cl zr w : ℕ} (hz : 0 < zr) (Ha : On a ![zr, w] f g) (Hb : On b ![zr, w] f g)
    (Hd : On d ![zr, w] f g) (He : On e ![zr, w] f g)
    (h : ∀ q : Fin 4, a = ![r + zr * q.val, cl] ∨ b = ![r + zr * q.val, cl] ∨ d = ![r + zr * q.val, cl] ∨ e = ![r + zr * q.val, cl]) :
    On ![r, cl] ![4 * zr, w] f g := by
  intro j hj
  have j0 : r ≤ (j 0).val ∧ (j 0).val < r + 4 * zr := hj 0
  have j1 : cl ≤ (j 1).val ∧ (j 1).val < cl + w := hj 1
  have hq : ((j 0).val - r) / zr < 4 := by
    rw [Nat.div_lt_iff_lt_mul hz]
    omega
  have hd := Nat.div_add_mod ((j 0).val - r) zr
  have hm := Nat.mod_lt ((j 0).val - r) hz
  have hb : ∀ o : Fin 2 → ℕ, o = ![r + zr * (((j 0).val - r) / zr), cl] →
      ∀ x : Fin 2, o x ≤ (j x).val ∧ (j x).val < o x + (![zr, w] : Fin 2 → ℕ) x := by
    rintro o rfl
    refine Fin.forall_fin_two.2 ⟨?_, j1⟩
    show r + zr * _ ≤ _ ∧ _ < r + zr * _ + zr
    omega
  rcases h ⟨_, hq⟩ with h | h | h | h
  · exact Ha j (hb _ h)
  · exact Hb j (hb _ h)
  · exact Hd j (hb _ h)
  · exact He j (hb _ h)

variable (I : Inp Ideal)

/-- What the second gatherings bring. -/
theorem qg0_blk {off : Fin 2 → ℕ} (c : Dev nD) (e : k0_off29 c = off) : Blk off S64x512.size (qg0 I c) (tot I) :=
  same_blk _ (o8_left I c) e
@[inherit_doc qg0_blk] theorem qg1_blk {off : Fin 2 → ℕ} (c : Dev nD) (e : k0_off30 c = off) : Blk off S64x512.size (qg1 I c) (tot I) :=
  same_blk _ (o8_right I c) e
@[inherit_doc qg0_blk] theorem blk9 (c : Dev nD) : Blk (k0_off31 c 0#32) S64x512.size (dnB (vg0 I 0 (prv .g0 c))) (tot I) := by
  simp only [vg0, agB, dn_upB]
  exact qg0_blk I _ (by revert c; decide +kernel)
@[inherit_doc qg0_blk] theorem blk10 (c : Dev nD) : Blk (k0_off32 c 0#32) S64x512.size (dnB (vg1 I 0 (prv .g1 c))) (tot I) := by
  simp only [vg1, agB, dn_upB]
  exact qg1_blk I _ (by revert c; decide +kernel)
@[inherit_doc qg0_blk] theorem blk11 (c : Dev nD) : Blk (k0_off31 c 1#32) S64x512.size (dnB (vg0 I 1 (prv .g0 c))) (tot I) := by
  simp only [vg0, agB, dn_upB]
  exact qg0_blk I _ (by revert c; decide +kernel)
@[inherit_doc qg0_blk] theorem blk12 (c : Dev nD) : Blk (k0_off32 c 1#32) S64x512.size (dnB (vg1 I 1 (prv .g1 c))) (tot I) := by
  simp only [vg1, agB, dn_upB]
  exact qg1_blk I _ (by revert c; decide +kernel)
@[inherit_doc qg0_blk] theorem blk13 (c : Dev nD) : Blk (k0_off31 c 2#32) S64x512.size (dnB (vg0 I 2 (prv .g0 c))) (tot I) := by
  simp only [vg0, agB, dn_upB]
  exact qg0_blk I _ (by revert c; decide +kernel)
@[inherit_doc qg0_blk] theorem blk14 (c : Dev nD) : Blk (k0_off32 c 2#32) S64x512.size (dnB (vg1 I 2 (prv .g1 c))) (tot I) := by
  simp only [vg1, agB, dn_upB]
  exact qg1_blk I _ (by revert c; decide +kernel)

/-- A gathered block leaves a known box known. -/
theorem kg9 {c : Dev nD} {off z : Fin 2 → ℕ} (H : On off z (o8 I c) (tot I)) : On off z (o9 I c) (tot I) := ov_keep _ (blk9 I c) H
@[inherit_doc kg9] theorem kg10 {c : Dev nD} {off z : Fin 2 → ℕ} (H : On off z (o9 I c) (tot I)) : On off z (o10 I c) (tot I) := ov_keep _ (blk10 I c) H
@[inherit_doc kg9] theorem kg11 {c : Dev nD} {off z : Fin 2 → ℕ} (H : On off z (o10 I c) (tot I)) : On off z (o11 I c) (tot I) := ov_keep _ (blk11 I c) H
@[inherit_doc kg9] theorem kg12 {c : Dev nD} {off z : Fin 2 → ℕ} (H : On off z (o11 I c) (tot I)) : On off z (o12 I c) (tot I) := ov_keep _ (blk12 I c) H
@[inherit_doc kg9] theorem kg13 {c : Dev nD} {off z : Fin 2 → ℕ} (H : On off z (o12 I c) (tot I)) : On off z (o13 I c) (tot I) := ov_keep _ (blk13 I c) H
@[inherit_doc kg9] theorem kg14 {c : Dev nD} {off z : Fin 2 → ℕ} (H : On off z (o13 I c) (tot I)) : On off z (o14 I c) (tot I) := ov_keep _ (blk14 I c) H

/-- The own rows' half after the second gatherings. -/
theorem o14_left (c : Dev nD) : On (k0_off37 c) S256x512.size (o14 I c) (tot I) := by
  have e : k0_off37 c = ![k0_off37 c 0, 0] := (by revert c; decide +kernel)
  rw [e]
  refine On.stack (a := k0_off29 c) (b := k0_off31 c 0#32) (d := k0_off31 c 1#32) (e := k0_off31 c 2#32) (zr := 64) (w := 512) (by decide)
    (kg14 I (kg13 I (kg12 I (kg11 I (kg10 I (kg9 I (o8_left I c)))))))
    (kg14 I (kg13 I (kg12 I (kg11 I (kg10 I (ov_on _ (blk9 I c)))))))
    (kg14 I (kg13 I (kg12 I (ov_on _ (blk11 I c)))))
    (kg14 I (ov_on _ (blk13 I c))) (by clear e; revert c; decide +kernel)

@[inherit_doc o14_left] theorem o14_right (c : Dev nD) : On (k0_off38 c) S256x512.size (o14 I c) (tot I) := by
  have e : k0_off38 c = ![k0_off38 c 0, 512] := (by revert c; decide +kernel)
  rw [e]
  refine On.stack (a := k0_off30 c) (b := k0_off32 c 0#32) (d := k0_off32 c 1#32) (e := k0_off32 c 2#32) (zr := 64) (w := 512) (by decide)
    (kg14 I (kg13 I (kg12 I (kg11 I (kg10 I (kg9 I (o8_right I c)))))))
    (kg14 I (kg13 I (kg12 I (kg11 I (ov_on _ (blk10 I c))))))
    (kg14 I (kg13 I (ov_on _ (blk12 I c))))
    (ov_on _ (blk14 I c)) (by clear e; revert c; decide +kernel)

/-- A quarter of a half loaded from where the buffer is known. -/
theorem quarter_blk {off off' box : Fin 2 → ℕ} {f g : Arr} (h : ∀ a, off a + S256x256.size a ≤ S1024x1024.size a) (H : On box S256x512.size f g)
    (e : off = off' ∧ ∀ a : Fin 2, box a ≤ off' a ∧ off' a + S256x256.size a ≤ box a + S256x512.size a) :
    Blk off' S256x256.size (idA (F := Ideal) (ld f (Rect.unit (s := S1024x1024) off S256x256.size h))) g := by
  obtain ⟨rfl, e⟩ := e
  rw [idA_eq]
  exact ld_blk h (H.mono e)

/-- The sum of the products of all devices plus the shared expert's product, as device `c` has it. -/
def fin (c : Dev nD) : Arr := fun j => tot I j + sm4 I c j

/-- The shared expert's product loaded from a box. -/
theorem sm_blk {off z : Fin 2 → ℕ} (c : Dev nD) (h : ∀ a, off a + z a ≤ S1024x1024.size a) :
    Blk off z (ld (sm4 I c) (Rect.unit (s := S1024x1024) off z h)) (sm4 I c) := ld_blk h fun _ _ => rfl

/-- What the last gatherings bring, the shared expert's product added. -/
theorem blk15 (c : Dev nD) : Blk (k0_off33 c 0#32) S256x256.size (addf (dnA (vh0 I 0 (prv .h0 c))) (ld (sm4 I c) (rO33_0 c))) (fin I c) := by
  simp only [vh0, agA, dn_upA]
  exact (quarter_blk _ (o14_left I _) (by revert c; decide +kernel)).add (sm_blk I c _)
@[inherit_doc blk15] theorem blk16 (c : Dev nD) : Blk (k0_off34 c 0#32) S256x256.size (addf (dnA (vh1 I 0 (prv .h1 c))) (ld (sm4 I c) (rO34_0 c))) (fin I c) := by
  simp only [vh1, agA, dn_upA]
  exact (quarter_blk _ (o14_left I _) (by revert c; decide +kernel)).add (sm_blk I c _)
@[inherit_doc blk15] theorem blk17 (c : Dev nD) : Blk (k0_off35 c 0#32) S256x256.size (addf (dnA (vh2 I 0 (prv .h2 c))) (ld (sm4 I c) (rO35_0 c))) (fin I c) := by
  simp only [vh2, agA, dn_upA]
  exact (quarter_blk _ (o14_right I _) (by revert c; decide +kernel)).add (sm_blk I c _)
@[inherit_doc blk15] theorem blk18 (c : Dev nD) : Blk (k0_off36 c 0#32) S256x256.size (addf (dnA (vh3 I 0 (prv .h3 c))) (ld (sm4 I c) (rO36_0 c))) (fin I c) := by
  simp only [vh3, agA, dn_upA]
  exact (quarter_blk _ (o14_right I _) (by revert c; decide +kernel)).add (sm_blk I c _)
@[inherit_doc blk15] theorem blk19 (c : Dev nD) : Blk (k0_off33 c 1#32) S256x256.size (addf (dnA (vh0 I 1 (prv .h0 c))) (ld (sm4 I c) (rO33_1 c))) (fin I c) := by
  simp only [vh0, agA, dn_upA]
  exact (quarter_blk _ (o14_left I _) (by revert c; decide +kernel)).add (sm_blk I c _)
@[inherit_doc blk15] theorem blk20 (c : Dev nD) : Blk (k0_off34 c 1#32) S256x256.size (addf (dnA (vh1 I 1 (prv .h1 c))) (ld (sm4 I c) (rO34_1 c))) (fin I c) := by
  simp only [vh1, agA, dn_upA]
  exact (quarter_blk _ (o14_left I _) (by revert c; decide +kernel)).add (sm_blk I c _)
@[inherit_doc blk15] theorem blk21 (c : Dev nD) : Blk (k0_off35 c 1#32) S256x256.size (addf (dnA (vh2 I 1 (prv .h2 c))) (ld (sm4 I c) (rO35_1 c))) (fin I c) := by
  simp only [vh2, agA, dn_upA]
  exact (quarter_blk _ (o14_right I _) (by revert c; decide +kernel)).add (sm_blk I c _)
@[inherit_doc blk15] theorem blk22 (c : Dev nD) : Blk (k0_off36 c 1#32) S256x256.size (addf (dnA (vh3 I 1 (prv .h3 c))) (ld (sm4 I c) (rO36_1 c))) (fin I c) := by
  simp only [vh3, agA, dn_upA]
  exact (quarter_blk _ (o14_right I _) (by revert c; decide +kernel)).add (sm_blk I c _)
@[inherit_doc blk15] theorem blk23 (c : Dev nD) : Blk (k0_off33 c 2#32) S256x256.size (addf (dnA (vh0 I 2 (prv .h0 c))) (ld (sm4 I c) (rO33_2 c))) (fin I c) := by
  simp only [vh0, agA, dn_upA]
  exact (quarter_blk _ (o14_left I _) (by revert c; decide +kernel)).add (sm_blk I c _)
@[inherit_doc blk15] theorem blk24 (c : Dev nD) : Blk (k0_off34 c 2#32) S256x256.size (addf (dnA (vh1 I 2 (prv .h1 c))) (ld (sm4 I c) (rO34_2 c))) (fin I c) := by
  simp only [vh1, agA, dn_upA]
  exact (quarter_blk _ (o14_left I _) (by revert c; decide +kernel)).add (sm_blk I c _)
@[inherit_doc blk15] theorem blk25 (c : Dev nD) : Blk (k0_off35 c 2#32) S256x256.size (addf (dnA (vh2 I 2 (prv .h2 c))) (ld (sm4 I c) (rO35_2 c))) (fin I c) := by
  simp only [vh2, agA, dn_upA]
  exact (quarter_blk _ (o14_right I _) (by revert c; decide +kernel)).add (sm_blk I c _)
@[inherit_doc blk15] theorem blk26 (c : Dev nD) : Blk (k0_off36 c 2#32) S256x256.size (addf (dnA (vh3 I 2 (prv .h3 c))) (ld (sm4 I c) (rO36_2 c))) (fin I c) := by
  simp only [vh3, agA, dn_upA]
  exact (quarter_blk _ (o14_right I _) (by revert c; decide +kernel)).add (sm_blk I c _)

/-- The own rows' half before its last addition. -/
theorem own_left (c : Dev nD) : On (k0_off37 c) S256x512.size (o26 I c) (tot I) :=
  ov_off _ (by revert c; decide +kernel) (ov_off _ (by revert c; decide +kernel) (ov_off _ (by revert c; decide +kernel) (ov_off _ (by revert c; decide +kernel) (ov_off _ (by revert c; decide +kernel) (ov_off _ (by revert c; decide +kernel) (ov_off _ (by revert c; decide +kernel) (ov_off _ (by revert c; decide +kernel) (ov_off _ (by revert c; decide +kernel) (ov_off _ (by revert c; decide +kernel) (ov_off _ (by revert c; decide +kernel) (ov_off _ (by revert c; decide +kernel) (o14_left I c))))))))))))

@[inherit_doc own_left] theorem own_right (c : Dev nD) : On (k0_off38 c) S256x512.size (o27 I c) (tot I) :=
  ov_off _ (by revert c; decide +kernel) (ov_off _ (by revert c; decide +kernel) (ov_off _ (by revert c; decide +kernel) (ov_off _ (by revert c; decide +kernel) (ov_off _ (by revert c; decide +kernel) (ov_off _ (by revert c; decide +kernel) (ov_off _ (by revert c; decide +kernel) (ov_off _ (by revert c; decide +kernel) (ov_off _ (by revert c; decide +kernel) (ov_off _ (by revert c; decide +kernel) (ov_off _ (by revert c; decide +kernel) (ov_off _ (by revert c; decide +kernel) (ov_off _ (by revert c; decide +kernel) (o14_right I c)))))))))))))
/-- The own rows' last additions. -/
theorem blk27 (c : Dev nD) : Blk (k0_off37 c) S256x512.size (addf (idH (F := Ideal) (ld (o26 I c) (rO37 c))) (ld (sm4 I c) (rO37 c))) (fin I c) := by
  rw [idH_eq]
  exact (ld_blk _ (own_left I c)).add (sm_blk I c _)
@[inherit_doc blk27] theorem blk28 (c : Dev nD) : Blk (k0_off38 c) S256x512.size (addf (idH (F := Ideal) (ld (o27 I c) (rO38 c))) (ld (sm4 I c) (rO38 c))) (fin I c) := by
  rw [idH_eq]
  exact (ld_blk _ (own_right I c)).add (sm_blk I c _)

/-- A last addition leaves a finished box finished. -/
theorem kf16 {c : Dev nD} {off z : Fin 2 → ℕ} (H : On off z (o15 I c) (fin I c)) : On off z (o16 I c) (fin I c) := ov_keep _ (blk16 I c) H
@[inherit_doc kf16] theorem kf17 {c : Dev nD} {off z : Fin 2 → ℕ} (H : On off z (o16 I c) (fin I c)) : On off z (o17 I c) (fin I c) := ov_keep _ (blk17 I c) H
@[inherit_doc kf16] theorem kf18 {c : Dev nD} {off z : Fin 2 → ℕ} (H : On off z (o17 I c) (fin I c)) : On off z (o18 I c) (fin I c) := ov_keep _ (blk18 I c) H
@[inherit_doc kf16] theorem kf19 {c : Dev nD} {off z : Fin 2 → ℕ} (H : On off z (o18 I c) (fin I c)) : On off z (o19 I c) (fin I c) := ov_keep _ (blk19 I c) H
@[inherit_doc kf16] theorem kf20 {c : Dev nD} {off z : Fin 2 → ℕ} (H : On off z (o19 I c) (fin I c)) : On off z (o20 I c) (fin I c) := ov_keep _ (blk20 I c) H
@[inherit_doc kf16] theorem kf21 {c : Dev nD} {off z : Fin 2 → ℕ} (H : On off z (o20 I c) (fin I c)) : On off z (o21 I c) (fin I c) := ov_keep _ (blk21 I c) H
@[inherit_doc kf16] theorem kf22 {c : Dev nD} {off z : Fin 2 → ℕ} (H : On off z (o21 I c) (fin I c)) : On off z (o22 I c) (fin I c) := ov_keep _ (blk22 I c) H
@[inherit_doc kf16] theorem kf23 {c : Dev nD} {off z : Fin 2 → ℕ} (H : On off z (o22 I c) (fin I c)) : On off z (o23 I c) (fin I c) := ov_keep _ (blk23 I c) H
@[inherit_doc kf16] theorem kf24 {c : Dev nD} {off z : Fin 2 → ℕ} (H : On off z (o23 I c) (fin I c)) : On off z (o24 I c) (fin I c) := ov_keep _ (blk24 I c) H
@[inherit_doc kf16] theorem kf25 {c : Dev nD} {off z : Fin 2 → ℕ} (H : On off z (o24 I c) (fin I c)) : On off z (o25 I c) (fin I c) := ov_keep _ (blk25 I c) H
@[inherit_doc kf16] theorem kf26 {c : Dev nD} {off z : Fin 2 → ℕ} (H : On off z (o25 I c) (fin I c)) : On off z (o26 I c) (fin I c) := ov_keep _ (blk26 I c) H
@[inherit_doc kf16] theorem kf27 {c : Dev nD} {off z : Fin 2 → ℕ} (H : On off z (o26 I c) (fin I c)) : On off z (o27 I c) (fin I c) := ov_keep _ (blk27 I c) H
@[inherit_doc kf16] theorem kf28 {c : Dev nD} {off z : Fin 2 → ℕ} (H : On off z (o27 I c) (fin I c)) : On off z (o28 I c) (fin I c) := ov_keep _ (blk28 I c) H
/-- A quarter of the columns at the end. -/
theorem end0 (c : Dev nD) : On ![0, 0] ![1024, 256] (o28 I c) (fin I c) :=
  On.stack (a := ![k0_off37 c 0, 0]) (b := k0_off33 c 0#32) (d := k0_off33 c 1#32) (e := k0_off33 c 2#32) (r := 0) (zr := 256) (w := 256) (by decide)
    (On.mono (kf28 I (ov_on _ (blk27 I c))) (by revert c; decide +kernel))
    (kf28 I (kf27 I (kf26 I (kf25 I (kf24 I (kf23 I (kf22 I (kf21 I (kf20 I (kf19 I (kf18 I (kf17 I (kf16 I (ov_on _ (blk15 I c)))))))))))))))
    (kf28 I (kf27 I (kf26 I (kf25 I (kf24 I (kf23 I (kf22 I (kf21 I (kf20 I (ov_on _ (blk19 I c)))))))))))
    (kf28 I (kf27 I (kf26 I (kf25 I (kf24 I (ov_on _ (blk23 I c))))))) (by revert c; decide +kernel)
@[inherit_doc end0] theorem end1 (c : Dev nD) : On ![0, 256] ![1024, 256] (o28 I c) (fin I c) :=
  On.stack (a := ![k0_off37 c 0, 256]) (b := k0_off34 c 0#32) (d := k0_off34 c 1#32) (e := k0_off34 c 2#32) (r := 0) (zr := 256) (w := 256) (by decide)
    (On.mono (kf28 I (ov_on _ (blk27 I c))) (by revert c; decide +kernel))
    (kf28 I (kf27 I (kf26 I (kf25 I (kf24 I (kf23 I (kf22 I (kf21 I (kf20 I (kf19 I (kf18 I (kf17 I (ov_on _ (blk16 I c))))))))))))))
    (kf28 I (kf27 I (kf26 I (kf25 I (kf24 I (kf23 I (kf22 I (kf21 I (ov_on _ (blk20 I c))))))))))
    (kf28 I (kf27 I (kf26 I (kf25 I (ov_on _ (blk24 I c)))))) (by revert c; decide +kernel)
@[inherit_doc end0] theorem end2 (c : Dev nD) : On ![0, 512] ![1024, 256] (o28 I c) (fin I c) :=
  On.stack (a := ![k0_off38 c 0, 512]) (b := k0_off35 c 0#32) (d := k0_off35 c 1#32) (e := k0_off35 c 2#32) (r := 0) (zr := 256) (w := 256) (by decide)
    (On.mono (ov_on _ (blk28 I c)) (by revert c; decide +kernel))
    (kf28 I (kf27 I (kf26 I (kf25 I (kf24 I (kf23 I (kf22 I (kf21 I (kf20 I (kf19 I (kf18 I (ov_on _ (blk17 I c)))))))))))))
    (kf28 I (kf27 I (kf26 I (kf25 I (kf24 I (kf23 I (kf22 I (ov_on _ (blk21 I c)))))))))
    (kf28 I (kf27 I (kf26 I (ov_on _ (blk25 I c))))) (by revert c; decide +kernel)
@[inherit_doc end0] theorem end3 (c : Dev nD) : On ![0, 768] ![1024, 256] (o28 I c) (fin I c) :=
  On.stack (a := ![k0_off38 c 0, 768]) (b := k0_off36 c 0#32) (d := k0_off36 c 1#32) (e := k0_off36 c 2#32) (r := 0) (zr := 256) (w := 256) (by decide)
    (On.mono (ov_on _ (blk28 I c)) (by revert c; decide +kernel))
    (kf28 I (kf27 I (kf26 I (kf25 I (kf24 I (kf23 I (kf22 I (kf21 I (kf20 I (kf19 I (ov_on _ (blk18 I c))))))))))))
    (kf28 I (kf27 I (kf26 I (kf25 I (kf24 I (kf23 I (ov_on _ (blk22 I c))))))))
    (kf28 I (kf27 I (ov_on _ (blk26 I c)))) (by revert c; decide +kernel)

/-- The result buffer at the end. -/
theorem o28_eq (c : Dev nD) : o28 I c = fin I c := by
  funext j
  have h := On.join (On.join (end0 I c) (end1 I c) rfl) (On.join (end2 I c) (end3 I c) rfl) rfl
  refine h j (Fin.forall_fin_two.2 ⟨⟨Nat.zero_le _, ?_⟩, ⟨Nat.zero_le _, ?_⟩⟩)
  · exact lt_of_lt_of_le (j 0).isLt (by decide)
  · exact lt_of_lt_of_le (j 1).isLt (by decide)

end Cert.KernelIdeal.Moe

end
-- ==== Proof.Soft.lean ====
/-
The softmax over the experts on extended reals: its values lie between zero and one, so they pass through sums.
-/
module

public import Idealize.ShloMosaic.Lib.Pointwise

@[expose] public section

noncomputable section

namespace Cert.Moe

open Idealize.ShloMosaic

/-- The greatest of the logits. -/
def top (f : Fin 128 → EReal) : EReal := Finset.fold max (Ideal.ofBits FTy.f32 0xFF800000#32) f Finset.univ

/-- The softmax of the logits `f` at `e`. -/
def softmax (f : Fin 128 → EReal) (e : Fin 128) : EReal :=
  Ideal.div (Ideal.exp (f e - top f)) (∑ x, Ideal.exp (f x - top f))

/-- The word of minus infinity. -/
theorem ofBits_bot : Ideal.ofBits FTy.f32 0xFF800000#32 = ⊥ := by simp [Ideal.ofBits, Ideal.ieee]

/-- Each logit is at most the greatest. -/
theorem le_top' (f : Fin 128 → EReal) (e : Fin 128) : f e ≤ top f :=
  (Finset.le_fold_max _).2 (Or.inr ⟨e, Finset.mem_univ e, le_rfl⟩)

/-- Exponentials are nonnegative. -/
theorem exp_nonneg (x : EReal) : 0 ≤ Ideal.exp x := by
  induction x with
  | bot => exact le_refl 0
  | top => exact le_top
  | coe r => rw [Ideal.exp_coe]; exact_mod_cast (Real.exp_pos r).le

/-- Where the greatest logit is finite the softmax is a nonnegative real. -/
theorem softmax_real (f : Fin 128 → EReal) (hb : top f ≠ ⊥) (ht : top f ≠ ⊤) (e : Fin 128) : 0 ≤ softmax f e ∧ softmax f e ≠ ⊤ := by
  have hS : (1 : EReal) ≤ ∑ x, Ideal.exp (f x - top f) := by
    rcases (Finset.le_fold_max (f := f) (s := Finset.univ) (b := Ideal.ofBits FTy.f32 0xFF800000#32) (top f)).1 le_rfl with h | ⟨x, -, h⟩
    · exact absurd (le_bot_iff.1 (h.trans (le_of_eq ofBits_bot))) hb
    · have hx : f x = top f := le_antisymm (le_top' f x) h
      have h1 : Ideal.exp (f x - top f) = 1 := by
        rw [hx]
        lift top f to ℝ using ⟨ht, hb⟩ with r
        rw [← EReal.coe_sub, sub_self, Ideal.exp_coe, Real.exp_zero, EReal.coe_one]
      rw [← h1]
      exact Finset.single_le_sum (f := fun x => Ideal.exp (f x - top f)) (fun i _ => exp_nonneg _) (Finset.mem_univ x)
  have hS0 : (0 : EReal) < ∑ x, Ideal.exp (f x - top f) := lt_of_lt_of_le zero_lt_one hS
  have he : Ideal.exp (f e - top f) ≠ ⊤ := by
    have h := le_top' f e
    revert h
    generalize f e = a
    lift top f to ℝ using ⟨ht, hb⟩ with r
    intro h
    induction a with
    | bot => simp
    | top => exact absurd (top_le_iff.1 h) (EReal.coe_ne_top r)
    | coe s => rw [← EReal.coe_sub, Ideal.exp_coe]; exact EReal.coe_ne_top _
  unfold softmax Ideal.div
  rw [if_neg hS0.ne']
  generalize hT : (∑ x, Ideal.exp (f x - top f)) = T at hS0
  have hi : 0 ≤ T⁻¹ := EReal.inv_nonneg_of_nonneg hS0.le
  have hi' : T⁻¹ ≠ ⊤ := (EReal.inv_lt_top T).ne
  refine ⟨mul_nonneg (exp_nonneg _) hi, ?_⟩
  lift Ideal.exp (f e - top f) to ℝ using ⟨he, (lt_of_lt_of_le EReal.bot_lt_zero (exp_nonneg _)).ne'⟩ with u
  lift T⁻¹ to ℝ using ⟨hi', (lt_of_lt_of_le EReal.bot_lt_zero hi).ne'⟩ with v
  rw [← EReal.coe_mul]
  exact EReal.coe_ne_top _

/-- A nonnegative real factor goes through a sum. -/
theorem mul_sum_real {ι : Type} (s : Finset ι) (p : EReal) (h0 : 0 ≤ p) (h1 : p ≠ ⊤) (g : ι → EReal) : p * ∑ i ∈ s, g i = ∑ i ∈ s, p * g i := by
  classical
  induction s using Finset.induction with
  | empty => simp
  | insert a s ha ih => rw [Finset.sum_insert ha, Finset.sum_insert ha, EReal.left_distrib_of_nonneg_of_ne_top h0 h1, ih]

end Cert.Moe

end
-- ==== Proof.VCoef.lean ====
/-
The coefficients and the shared expert's product read at an element.
-/
module

public import proofs.«01_k».proof.Proof.VAll
public import proofs.«01_k».proof.Proof.Soft

@[expose] public section

set_option maxRecDepth 16384

noncomputable section

namespace Cert.KernelIdeal.Moe

open Cert.KernelIdeal Cert.KernelIdeal.Gen
open Idealize.ShloMosaic Idealize.ShloMosaic.TcCoe

variable (I : Inp Ideal)

/-- Loading a whole buffer. -/
theorem ld_whole {s : Shape} {e : FVec Ideal s .f32} {off : Fin s.rank → ℕ} (h : ∀ a, off a + s.size a ≤ s.size a) :
    ld e (Rect.unit (s := s) off s.size h) = e := by
  funext x
  exact congrArg e (funext fun a => Fin.ext ((emb_val h x a).trans (by have := h a; omega)))
@[inherit_doc ld_whole] theorem ld_wholeI {s : Shape} {e : IVec s 32} {off : Fin s.rank → ℕ} (h : ∀ a, off a + s.size a ≤ s.size a) :
    ld e (Rect.unit (s := s) off s.size h) = e := by
  funext x
  exact congrArg e (funext fun a => Fin.ext ((emb_val h x a).trans (by have := h a; omega)))

/-- The probabilities the kernel computes are the softmax of the token's logits. -/
theorem pay5_apply (x : FVec Ideal S1024x512 .f32) (rw : FVec Ideal S512x128 .f32) (e : Fin 128) (n : Fin 1024) :
    k0_pay5 (k0_pay3 (F := Ideal) rw x) (k0_pay4 (F := Ideal) rw x) (ix2 e n) = Cert.Moe.softmax (fun e => ∑ d : Fin 512, rw (ix2 d e) * x (ix2 n d)) e := by
  pointwise [k0_pay5, k0_pay4, k0_pay3, Cert.Moe.softmax, Cert.Moe.top]

/-- A coefficient, as the kernel computes it. -/
def cwv (u w : BitVec 32) (p : Fin 128 → EReal) : EReal :=
  Scalar.select (IntOp.cmpi CmpIPredicate.eq w u) (∑ e : Fin 128, Scalar.select (IntOp.cmpi CmpIPredicate.eq (BitVec.ofNat 32 e.val) u) (p e) 0) 0

/-- The coefficient rows at a token. -/
theorem pay6_apply (v : BitVec 32) (l : FVec Ideal S128x1024 .f32) (m : FVec Ideal S1x1024 .f32) (ri : IVec S1x1024 32) (n : Fin 1024) :
    k0_pay6 (F := Ideal) v l m ri (ix2 0 n) = cwv (Scalar.addi (Scalar.muli 4#32 v) 0#32) (ri (ix2 0 n)) (fun e => k0_pay5 l m (ix2 e n)) := by
  generalize hp : k0_pay5 l m = p
  pointwise [k0_pay6, cwv, hp]

@[inherit_doc pay6_apply] theorem pay10_apply (v : BitVec 32) (l : FVec Ideal S128x1024 .f32) (m : FVec Ideal S1x1024 .f32) (ri : IVec S1x1024 32) (n : Fin 1024) :
    k0_pay10 (F := Ideal) (k0_pay7 v l m) (k0_pay8 (F := Ideal) v ri) k0_pay9 (ix2 0 n) = cwv (Scalar.addi (Scalar.muli 4#32 v) 1#32) (ri (ix2 0 n)) (fun e => k0_pay5 l m (ix2 e n)) := by
  generalize hp : k0_pay5 l m = p
  pointwise [k0_pay10, k0_pay7, k0_pay8, k0_pay9, cwv, hp]

@[inherit_doc pay6_apply] theorem pay11_apply (v : BitVec 32) (p : FVec Ideal S128x1024 .f32) (ri : IVec S1x1024 32) (n : Fin 1024) :
    k0_pay11 (F := Ideal) v p (iota .tc S128x1 32 [0] iota_S128x1_d0_w32) ri (ix2 0 n) = cwv (Scalar.addi (Scalar.muli 4#32 v) 2#32) (ri (ix2 0 n)) (fun e => p (ix2 e n)) := by
  pointwise [k0_pay11, cwv]

@[inherit_doc pay6_apply] theorem pay13_apply (v : BitVec 32) (p : FVec Ideal S128x1024 .f32) (ri : IVec S1x1024 32) (n : Fin 1024) :
    k0_pay13 (k0_pay12 (F := Ideal) v p (iota .tc S128x1 32 [0] iota_S128x1_d0_w32) ri) (ix2 0 n) = cwv (Scalar.addi (Scalar.muli 4#32 v) 3#32) (ri (ix2 0 n)) (fun e => p (ix2 e n)) := by
  pointwise [k0_pay13, k0_pay12, cwv]

/-- The shared expert's product of a block at an element. -/
theorem pay90_apply (x : FVec Ideal S256x512 .f32) (w : FVec Ideal S512x1024 .f32) (n : Fin 256) (h : Fin 1024) :
    k0_pay90 (F := Ideal) x w (ix2 n h) = ∑ d : Fin 512, x (ix2 n d) * w (ix2 d h) := by
  pointwise [k0_pay90]

/-- A comparison for equality, decided. -/
theorem select_eq (a b : BitVec 32) (x y : EReal) : Scalar.select (IntOp.cmpi CmpIPredicate.eq a b) x y = if a = b then x else y := by
  by_cases h : a = b
  · subst h
    simp [IntOp.cmpi, Scalar.select]
  · have hb : (a == b) = false := beq_eq_false_iff_ne.2 h
    simp [IntOp.cmpi, Scalar.select, hb, h]

/-- Two experts' numbers are the same word only when they are the same. -/
theorem word_inj {a b : ℕ} (ha : a < 128) (hb : b < 128) (h : BitVec.ofNat 32 a = BitVec.ofNat 32 b) : a = b := by
  have := congrArg BitVec.toNat h
  rw [BitVec.toNat_ofNat, BitVec.toNat_ofNat] at this
  omega

/-- A coefficient is the expert's probability where the token chose it, and zero elsewhere. -/
theorem cwv_eq (k : Fin 128) (w : BitVec 32) (p : Fin 128 → EReal) :
    cwv (BitVec.ofNat 32 k.val) w p = if w = BitVec.ofNat 32 k.val then p k else 0 := by
  unfold cwv
  simp only [select_eq]
  rw [Finset.sum_eq_single k (fun e _ he => if_neg fun h => he (Fin.ext (word_inj e.isLt k.isLt h))) (fun h => absurd (Finset.mem_univ k) h), if_pos rfl]

/-- The number of expert `s` of device `c`. -/
def exn (c : Dev nD) (s : Fin 4) : Fin 128 := ⟨4 * c.val + s.val, by have : c.val < 32 := c.isLt; omega⟩

/-- The experts' numbers as the kernel computes them. -/
theorem exn_word (c : Dev nD) : Scalar.addi (Scalar.muli 4#32 (w2 c)) 0#32 = BitVec.ofNat 32 (exn c 0).val ∧
    Scalar.addi (Scalar.muli 4#32 (w2 c)) 1#32 = BitVec.ofNat 32 (exn c 1).val ∧
    Scalar.addi (Scalar.muli 4#32 (w2 c)) 2#32 = BitVec.ofNat 32 (exn c 2).val ∧
    Scalar.addi (Scalar.muli 4#32 (w2 c)) 3#32 = BitVec.ofNat 32 (exn c 3).val := by
  revert c; decide +kernel

/-- A row laid into the coefficient buffer. -/
theorem row_ov (k k' : Fin 4) {off : Fin 2 → ℕ} (h : ∀ a, off a + S1x1024.size a ≤ S4x1024.size a) (e : off = ![k.val, 0])
    (f : S4x1024.Idx → EReal) (v : S1x1024.Idx → EReal) (n : Fin 1024) :
    (Rect.unit (s := S4x1024) off S1x1024.size h).overlay f v (ix2 k' n) = if k' = k then v (ix2 0 n) else f (ix2 k' n) := by
  subst e
  by_cases hk : k' = k
  · subst hk
    rw [if_pos rfl]
    have he : (Rect.unit (s := S4x1024) ![k'.val, 0] S1x1024.size h).emb (ix2 0 n) = ix2 k' n := by
      funext a
      apply Fin.ext
      refine (emb_val (s := S4x1024) h _ a).trans ?_
      revert a
      exact Fin.forall_fin_two.2 ⟨Nat.add_zero _, Nat.zero_add _⟩
    rw [← he]
    exact Rect.overlay_emb (Rect.unit (s := S4x1024) ![k'.val, 0] S1x1024.size h) f v _
  · rw [if_neg hk]
    refine Rect.overlay_of_not_mem (Rect.unit (s := S4x1024) ![k.val, 0] S1x1024.size h) f v fun hm => hk (Fin.ext ?_)
    have h0 : k.val ≤ k'.val ∧ k'.val < k.val + 1 := Rect.mem_set_unit.1 hm (0 : Fin 2)
    omega

/-- The coefficient of expert `s` of device `c` for the token `n`. -/
theorem cf4_apply (c : Dev nD) (s : Fin 4) (n : Fin 1024) : cf4 I c (ix2 s n) =
    if I.ri c (ix2 0 n) = BitVec.ofNat 32 (exn c s).val
    then Cert.Moe.softmax (fun e => ∑ d : Fin 512, I.rw c (ix2 d e) * I.x c (ix2 n d)) (exn c s) else 0 := by
  have hx : ld (I.x c) (rXX c) = I.x c := ld_whole (s := S1024x512) _
  have hr : ld (I.rw c) (rRW c) = I.rw c := ld_whole (s := S512x128) _
  have hi : ld (I.ri c) (rRI c) = I.ri c := ld_wholeI (s := S1x1024) _
  obtain ⟨w0, w1, w2', w3⟩ := exn_word c
  have c0 := pay6_apply (w2 c) (lgt I c) (lmx I c) (I.ri c) n
  have c1 := pay10_apply (w2 c) (lgt I c) (lmx I c) (I.ri c) n
  have c2 := pay11_apply (w2 c) (prb I c) (I.ri c) n
  have c3 := pay13_apply (w2 c) (prb I c) (I.ri c) n
  rw [w0, cwv_eq] at c0
  rw [w1, cwv_eq] at c1
  rw [w2', cwv_eq] at c2
  rw [w3, cwv_eq] at c3
  have hp : ∀ e, prb I c (ix2 e n) = Cert.Moe.softmax (fun e => ∑ d : Fin 512, I.rw c (ix2 d e) * I.x c (ix2 n d)) e := fun e => by
    unfold prb lgt lmx
    rw [hx, hr]
    exact pay5_apply _ _ e n
  have hp' : ∀ e, k0_pay5 (lgt I c) (lmx I c) (ix2 e n) = Cert.Moe.softmax (fun e => ∑ d : Fin 512, I.rw c (ix2 d e) * I.x c (ix2 n d)) e := hp
  rw [hp'] at c0 c1
  rw [hp] at c2 c3
  unfold cf4 cf3 cf2 cf1
  rw [row_ov 3 s inb_S4x1024_S1x1024_3_0 rfl, row_ov 2 s inb_S4x1024_S1x1024_2_0 rfl, row_ov 1 s inb_S4x1024_S1x1024_1_0 rfl,
    row_ov 0 s inb_S4x1024_S1x1024_0_0 rfl]
  unfold cw0 cw1 cw2 cw3
  rw [hi, c0, c1, c2, c3]
  have hs : s = 0 ∨ s = 1 ∨ s = 2 ∨ s = 3 := by revert s; decide
  rcases hs with rfl | rfl | rfl | rfl <;> rfl

/-- The shared expert's product, laid block by block. -/
theorem sm_lay (x : S1024x512.Idx → EReal) (w : S512x1024.Idx → EReal) (r : ℕ) {ox : Fin 2 → ℕ} (e : ox = ![r, 0])
    (hx : ∀ a, ox a + S256x512.size a ≤ S1024x512.size a) :
    Blk ![r, 0] S256x1024.size (smb (F := Ideal) (ld x (Rect.unit (s := S1024x512) ox S256x512.size hx)) w)
      (fun j => ∑ d : Fin 512, x (ix2 (j 0) d) * w (ix2 d (j 1))) := by
  subst e
  intro y j hj
  have ey : y = ix2 (y 0) (y 1) := by funext a; exact (Fin.forall_fin_two.2 ⟨rfl, rfl⟩ : ∀ a : Fin 2, y a = ix2 (y 0) (y 1) a) a
  rw [ey]
  refine (pay90_apply _ _ _ _).trans (Finset.sum_congr rfl fun d _ => ?_)
  congr 1
  · refine congrArg x (funext fun a => Fin.ext ((emb_val (s := S1024x512) hx _ a).trans ?_))
    revert a
    refine Fin.forall_fin_two.2 ⟨(hj 0).symm, ?_⟩
    exact Nat.zero_add _
  · refine congrArg w (funext fun a => Fin.ext ?_)
    revert a
    refine Fin.forall_fin_two.2 ⟨rfl, ?_⟩
    exact ((hj 1).trans (Nat.zero_add _)).symm

/-- The shared expert's product, everywhere. -/
theorem sm4_eq (c : Dev nD) : sm4 I c = fun j => ∑ d : Fin 512, I.x c (ix2 (j 0) d) * I.sw c (ix2 d (j 1)) := by
  have hs : ld (I.sw c) (rSW c) = I.sw c := ld_whole (s := S512x1024) _
  have h : On ![0, 0] ![4 * 256, 1024] (sm4 I c) (fun j => ∑ d : Fin 512, I.x c (ix2 (j 0) d) * I.sw c (ix2 d (j 1))) := by
    unfold sm4 sm3 sm2 sm1
    rw [hs]
    refine On.stack (a := ![0, 0]) (b := ![256, 0]) (d := ![512, 0]) (e := ![768, 0]) (by decide) ?_ ?_ ?_ ?_ (by decide)
    · exact ov_keep _ (sm_lay _ _ _ rfl _) (ov_keep _ (sm_lay _ _ _ rfl _) (ov_keep _ (sm_lay _ _ _ rfl _) (ov_on _ (sm_lay _ _ _ rfl _))))
    · exact ov_keep _ (sm_lay _ _ _ rfl _) (ov_keep _ (sm_lay _ _ _ rfl _) (ov_on _ (sm_lay _ _ _ rfl _)))
    · exact ov_keep _ (sm_lay _ _ _ rfl _) (ov_on _ (sm_lay _ _ _ rfl _))
    · exact ov_on _ (sm_lay _ _ _ rfl _)
  funext j
  refine h j (Fin.forall_fin_two.2 ⟨⟨Nat.zero_le _, ?_⟩, ⟨Nat.zero_le _, ?_⟩⟩)
  · exact lt_of_lt_of_le (j 0).isLt (by decide)
  · exact lt_of_lt_of_le (j 1).isLt (by decide)

end Cert.KernelIdeal.Moe

end
-- ==== Proof.RefRead.lean ====
/-
The reference's result read at an element: the shared expert's product plus the chosen expert's probability times its
product.
-/
module

public import proofs.«01_k».proof.Proof.Soft
public import proofs.«01_k».proof.Proof.Gen.ReferenceIdeal.Run
public import Idealize.ShloMosaic.Lib.Pointwise
public import Idealize.ShloMosaic.Lib.Tactic

@[expose] public section

set_option maxRecDepth 16384

noncomputable section

namespace Cert.ReferenceIdeal.Moe

open Cert.ReferenceIdeal Cert.ReferenceIdeal.Gen Cert.ReferenceIdeal.Value
open Idealize.ShloMosaic Idealize.ShloMosaic.TcCoe

/-- The logits. -/
def lg (x : FVec Ideal S1024x512 .f32) (rw : FVec Ideal S512x128 .f32) : FVec Ideal S1024x128 .f32 :=
  Host.dotGeneral dot_S1024x512_S512x128_S1024x128_1_0_0_1_n_n none x rw
/-- The exponentials of the logits below their greatest. -/
def exs (x : FVec Ideal S1024x512 .f32) (rw : FVec Ideal S512x128 .f32) : FVec Ideal S1024x128 .f32 :=
  Host.exp (subf (lg x rw) (broadcastInDim S1024x128 ![0, 1] bcast_S1024x1_S1024x128_0_1
    (broadcastInDim S1024x1 ![0] bcast_S1024_S1024x1_0
      (Host.reduce FloatOps.maximumf (lg x rw) (constant S_ FTy.f32 0xFF800000#32) reducesTo_S1024x128_S1024_d1 h_S_))))
/-- The softmax. -/
def pr (x : FVec Ideal S1024x512 .f32) (rw : FVec Ideal S512x128 .f32) : FVec Ideal S1024x128 .f32 :=
  Host.divf (exs x rw) (broadcastInDim S1024x128 ![0, 1] bcast_S1024x1_S1024x128_0_1
    (broadcastInDim S1024x1 ![0] bcast_S1024_S1024x1_0
      (Host.reduceAdd (exs x rw) (constant S_ FTy.f32 0x00000000#32) reducesTo_S1024x128_S1024_d1 h_S_)))
/-- The chosen experts' numbers, counted from the end where negative. -/
def wr (ri : IVec S1024x1 32) : IVec S1024x1x1 32 :=
  shapeCast S1024x1x1 (select (cmpi CmpIPredicate.slt ri (broadcastInDim S1024x1 ![] bcast_S_S1024x1 (constantI S_ 32 0#32)))
    (addi ri (broadcastInDim S1024x1 ![] bcast_S_S1024x1 (constantI S_ 32 128#32))) ri) shapeCasts_S1024x1_S1024x1x1
/-- The chosen experts' probabilities, zero where there is none. -/
def wt (x : FVec Ideal S1024x512 .f32) (rw : FVec Ideal S512x128 .f32) (ri : IVec S1024x1 32) : FVec Ideal S1024x1 .f32 :=
  select (Host.reduce IntOp.andi (andi
      (cmpi CmpIPredicate.sge (wr ri) (broadcastInDim S1024x1x1 ![] bcast_S_S1024x1x1 (constantI S_ 32 0#32)))
      (cmpi CmpIPredicate.sle (wr ri) (broadcastInDim S1024x1x1 ![0, 1, 2] bcast_S1x1x1_S1024x1x1_0_1_2
        (broadcastInDim S1x1x1 ![2] bcast_S1_S1x1x1_2 (constantI S1 32 127#32)))))
      (constantI S_ 1 1#1) reducesTo_S1024x1x1_S1024x1_d2 h_S_)
    (Host.gather gather_S1024x128_S1024x1x1_S1024x1_n_1_0_0_1_2_11 (pr x rw) (wr ri))
    (broadcastInDim S1024x1 ![] bcast_S_S1024x1 (constant S_ FTy.f32 0x00000000#32))
/-- The chosen experts' numbers. -/
def nr (ri : IVec S1024x1 32) : IVec S1024x1 32 :=
  broadcastInDim S1024x1 ![0] bcast_S1024_S1024x1_0 (shapeCast S1024 ri shapeCasts_S1024x1_S1024)
/-- The chosen experts' weights, zero where there is none. -/
def ch (ri : IVec S1024x1 32) (ew : FVec Ideal S128x512x1024 .f32) : FVec Ideal S1024x512x1024 .f32 :=
  select (broadcastInDim S1024x512x1024 ![0] bcast_S1024_S1024x512x1024_0
      (Host.reduce IntOp.andi (andi
        (cmpi CmpIPredicate.sge (nr ri) (broadcastInDim S1024x1 ![] bcast_S_S1024x1 (constantI S_ 32 0#32)))
        (cmpi CmpIPredicate.sle (nr ri) (broadcastInDim S1024x1 ![0, 1] bcast_S1x1_S1024x1_0_1
          (broadcastInDim S1x1 ![1] bcast_S1_S1x1_1 (constantI S1 32 127#32)))))
        (constantI S_ 1 1#1) reducesTo_S1024x1_S1024_d1 h_S_))
    (Host.gather gather_S128x512x1024_S1024x1_S1024x512x1024_12_0_n_n_0_1_15121024 ew (nr ri))
    (broadcastInDim S1024x512x1024 ![] bcast_S_S1024x512x1024 (constant S_ FTy.f32 0x00000000#32))
/-- The reference's result. -/
def out (x : FVec Ideal S1024x512 .f32) (rw : FVec Ideal S512x128 .f32) (ri : IVec S1024x1 32) (ew : FVec Ideal S128x512x1024 .f32)
    (sw : FVec Ideal S512x1024 .f32) : FVec Ideal S1024x1024 .f32 :=
  addf (Host.dotGeneral dot_S1024x512_S512x1024_S1024x1024_1_0_0_1_n_n none x sw)
    (mulf (broadcastInDim S1024x1024 ![0, 1] bcast_S1024x1_S1024x1024_0_1 (wt x rw ri))
      (Host.dotGeneral dot_S1024x512_S1024x512x1024_S1024x1024_1_1_n_2_0_0 none x (ch ri ew)))

theorem res_eq (m : (ℓ : Loc nD τ sig) → Buf (Elt Ideal) ℓ) (c : Dev nD) :
    res_main_v28 m c = out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

/-- Element of the logits. -/
theorem pr_apply (x : FVec Ideal S1024x512 .f32) (rw : FVec Ideal S512x128 .f32) (n : Fin 1024) (e : Fin 128) :
    pr x rw (ix2 n e) = Cert.Moe.softmax (fun e => ∑ d : Fin 512, x (ix2 n d) * rw (ix2 d e)) e := by
  pointwise [pr, exs, lg, Cert.Moe.softmax, Cert.Moe.top]

/-- The shared expert's product, and the chosen probability times the chosen expert's product. -/
theorem out_apply (x : FVec Ideal S1024x512 .f32) (rw : FVec Ideal S512x128 .f32) (ri : IVec S1024x1 32) (ew : FVec Ideal S128x512x1024 .f32)
    (sw : FVec Ideal S512x1024 .f32) (n h : Fin 1024) :
    out x rw ri ew sw (ix2 n h) = ∑ d : Fin 512, x (ix2 n d) * sw (ix2 d h)
      + wt x rw ri (ix2 n 0) * ∑ d : Fin 512, x (ix2 n d) * ch ri ew (ix3 n d h) := by
  pointwise [out]

/-- The whole rows taken from a table: the row is the word's, where it is in range. -/
theorem gather_ew (ew : FVec Ideal S128x512x1024 .f32) (idx : IVec S1024x1 32) (n : Fin 1024) (d : Fin 512) (h : Fin 1024) (k : Fin 128)
    (hk : idx (ix2 n 0) = BitVec.ofNat 32 k.val) :
    Host.gather gather_S128x512x1024_S1024x1_S1024x512x1024_12_0_n_n_0_1_15121024 ew idx (ix3 n d h) = ew (ix3 k d h) := by
  unfold Host.gather
  refine congrArg ew (funext fun a => Fin.ext ?_)
  have ha : a = (0 : Fin 3) ∨ a = (1 : Fin 3) ∨ a = (2 : Fin 3) := (by decide : ∀ a : Fin 3, a = 0 ∨ a = 1 ∨ a = 2) a
  show GatherDims.start _ _ _ _ + GatherDims.batchCoord _ _ _ + GatherDims.offCoord _ _ _ = _
  rcases ha with rfl | rfl | rfl
  · rw [GatherDims.batchCoord_eq_zero _ _ _ (by decide), GatherDims.offCoord_eq_zero _ _ _ (by decide)]
    unfold GatherDims.start
    rw [dif_pos (by decide)]
    have hs : ∀ p, GatherDims.siIdx gather_S128x512x1024_S1024x1_S1024x512x1024_12_0_n_n_0_1_15121024 (ix3 n d h) p = ix2 n 0 := by
      intro p; funext b
      have hb : b = (0 : Fin 2) ∨ b = (1 : Fin 2) := (by decide : ∀ a : Fin 2, a = 0 ∨ a = 1) b
      rcases hb with rfl | rfl
      · rfl
      · exact Subsingleton.elim (α := Fin 1) _ _
    rw [hs, hk]
    clear hk
    exact (by decide : ∀ k : Fin 128, min (BitVec.ofNat 32 k.val).toInt.toNat (128 - 1) + 0 + 0 = k.val) k
  all_goals
    rw [GatherDims.batchCoord_eq_zero _ _ _ (by decide)]
    unfold GatherDims.start GatherDims.offCoord
    rw [dif_neg (by decide), dif_pos (by decide)]
    show 0 + 0 + _ = _
    simp only [Nat.zero_add]
    rfl

/-- The entries taken along the rows of a table: the column is the word's, where it is in range. -/
theorem gather_pr (p : FVec Ideal S1024x128 .f32) (idx : IVec S1024x1x1 32) (n : Fin 1024) (k : Fin 128)
    (hk : idx (ix3 n 0 0) = BitVec.ofNat 32 k.val) :
    Host.gather gather_S1024x128_S1024x1x1_S1024x1_n_1_0_0_1_2_11 p idx (ix2 n 0) = p (ix2 n k) := by
  unfold Host.gather
  refine congrArg p (funext fun a => Fin.ext ?_)
  have ha : a = (0 : Fin 2) ∨ a = (1 : Fin 2) := (by decide : ∀ a : Fin 2, a = 0 ∨ a = 1) a
  show GatherDims.start _ _ _ _ + GatherDims.batchCoord _ _ _ + GatherDims.offCoord _ _ _ = _
  rcases ha with rfl | rfl
  · rw [GatherDims.start_batching _ _ _ _ (by decide), GatherDims.offCoord_eq_zero _ _ _ (by decide)]
    unfold GatherDims.batchCoord
    rw [dif_pos (by decide)]
    show 0 + _ + 0 = _
    simp only [Nat.zero_add, Nat.add_zero]
    rfl
  · rw [GatherDims.batchCoord_eq_zero _ _ _ (by decide), GatherDims.offCoord_eq_zero _ _ _ (by decide)]
    unfold GatherDims.start
    rw [dif_pos (by decide)]
    have hs : ∀ p, GatherDims.siIdx gather_S1024x128_S1024x1x1_S1024x1_n_1_0_0_1_2_11 (ix2 n 0) p = ix3 n 0 0 := by
      intro p; funext b
      have hb : b = (0 : Fin 3) ∨ b = (1 : Fin 3) ∨ b = (2 : Fin 3) := (by decide : ∀ a : Fin 3, a = 0 ∨ a = 1 ∨ a = 2) b
      rcases hb with rfl | rfl | rfl
      · rfl
      · exact Subsingleton.elim (α := Fin 1) _ _
      · exact Subsingleton.elim (α := Fin 1) _ _
    rw [hs, hk]
    clear hk
    exact (by decide : ∀ k : Fin 128, min (BitVec.ofNat 32 k.val).toInt.toNat (128 - 1) + 0 + 0 = k.val) k

/-- The chosen probability of a token whose expert exists. -/
theorem wt_hit (x : FVec Ideal S1024x512 .f32) (rw : FVec Ideal S512x128 .f32) (ri : IVec S1024x1 32) (n : Fin 1024) (k : Fin 128)
    (hk : ri (ix2 n 0) = BitVec.ofNat 32 k.val) : wt x rw ri (ix2 n 0) = pr x rw (ix2 n k) := by
  have hw : wr ri (ix3 n 0 0) = BitVec.ofNat 32 k.val := by
    pointwise [wr]
    rw [hk]
    exact (by decide : ∀ k : Fin 128, Scalar.select (IntOp.cmpi CmpIPredicate.slt (BitVec.ofNat 32 k.val) 0#32)
      (IntOp.addi (BitVec.ofNat 32 k.val) 128#32) (BitVec.ofNat 32 k.val) = BitVec.ofNat 32 k.val) k
  pointwise [wt]
  rw [gather_pr _ _ _ _ hw]
  simp only [Finset.univ_unique, Finset.fold_singleton]
  have hd : wr ri (ix3 n 0 default) = BitVec.ofNat 32 k.val := hw
  rw [hd]
  have hm := (by decide : ∀ k : Fin 128, IntOp.andi (IntOp.andi (IntOp.cmpi CmpIPredicate.sge (BitVec.ofNat 32 k.val) 0#32)
    (IntOp.cmpi CmpIPredicate.sle (BitVec.ofNat 32 k.val) 127#32)) 1#1 = 1#1) k
  rw [hm]
  rfl

/-- The chosen weights of a token whose expert exists. -/
theorem ch_hit (ri : IVec S1024x1 32) (ew : FVec Ideal S128x512x1024 .f32) (n : Fin 1024) (d : Fin 512) (h : Fin 1024) (k : Fin 128)
    (hk : ri (ix2 n 0) = BitVec.ofNat 32 k.val) : ch ri ew (ix3 n d h) = ew (ix3 k d h) := by
  have hw : nr ri (ix2 n 0) = BitVec.ofNat 32 k.val := by
    pointwise [nr]
    exact hk
  pointwise [ch]
  rw [gather_ew _ _ _ _ _ _ hw]
  simp only [Finset.univ_unique, Finset.fold_singleton]
  have hd : nr ri (ix2 n default) = BitVec.ofNat 32 k.val := hw
  rw [hd]
  have hm := (by decide : ∀ k : Fin 128, IntOp.andi (IntOp.andi (IntOp.cmpi CmpIPredicate.sge (BitVec.ofNat 32 k.val) 0#32)
    (IntOp.cmpi CmpIPredicate.sle (BitVec.ofNat 32 k.val) 127#32)) 1#1 = 1#1) k
  rw [hm]
  rfl

/-- A word out of the experts' range fails the range test. -/
theorem mask_miss (w : BitVec 32) (hk : 128 ≤ w.toNat) : IntOp.andi (IntOp.andi (IntOp.cmpi CmpIPredicate.sge w 0#32)
    (IntOp.cmpi CmpIPredicate.sle w 127#32)) 1#1 = 0#1 := by
  by_cases h : w.toNat < 2 ^ 31
  · have h1 : IntOp.cmpi CmpIPredicate.sle w 127#32 = 0#1 := by
      have : w.sle 127#32 = false := by
        rw [BitVec.sle_eq_decide, decide_eq_false_iff_not, BitVec.toInt_eq_toNat_of_lt (by omega)]
        show ¬ ((w.toNat : Int) ≤ 127)
        omega
      simp only [IntOp.cmpi, this]
      rfl
    rw [h1]
    generalize IntOp.cmpi CmpIPredicate.sge w 0#32 = b
    revert b
    decide
  · have h1 : IntOp.cmpi CmpIPredicate.sge w 0#32 = 0#1 := by
      have : (0#32).sle w = false := by
        rw [BitVec.sle_eq_decide, decide_eq_false_iff_not, BitVec.toInt_eq_toNat_cond w, if_neg (by omega)]
        have := w.isLt
        show ¬ ((0 : Int) ≤ (w.toNat : Int) - (2 ^ 32 : Nat))
        omega
      simp only [IntOp.cmpi, this]
      rfl
    rw [h1]
    generalize IntOp.cmpi CmpIPredicate.sle w 127#32 = b
    revert b
    decide

/-- The chosen weights of a token whose expert does not exist. -/
theorem ch_miss (ri : IVec S1024x1 32) (ew : FVec Ideal S128x512x1024 .f32) (n : Fin 1024) (d : Fin 512) (h : Fin 1024)
    (hk : 128 ≤ (ri (ix2 n 0)).toNat) : ch ri ew (ix3 n d h) = 0 := by
  have hw : nr ri (ix2 n 0) = ri (ix2 n 0) := by pointwise [nr]
  pointwise [ch]
  simp only [Finset.univ_unique, Finset.fold_singleton]
  have hd : nr ri (ix2 n default) = ri (ix2 n 0) := hw
  rw [hd, mask_miss _ hk]
  rfl

/-- The result of a token whose expert exists. -/
theorem out_hit (x : FVec Ideal S1024x512 .f32) (rw : FVec Ideal S512x128 .f32) (ri : IVec S1024x1 32) (ew : FVec Ideal S128x512x1024 .f32)
    (sw : FVec Ideal S512x1024 .f32) (n h : Fin 1024) (k : Fin 128) (hk : ri (ix2 n 0) = BitVec.ofNat 32 k.val) :
    out x rw ri ew sw (ix2 n h) = ∑ d : Fin 512, x (ix2 n d) * sw (ix2 d h)
      + Cert.Moe.softmax (fun e => ∑ d : Fin 512, x (ix2 n d) * rw (ix2 d e)) k * ∑ d : Fin 512, x (ix2 n d) * ew (ix3 k d h) := by
  rw [out_apply, wt_hit _ _ _ _ k hk, pr_apply]
  simp only [ch_hit ri ew n _ h k hk]

/-- The result of a token whose expert does not exist. -/
theorem out_miss (x : FVec Ideal S1024x512 .f32) (rw : FVec Ideal S512x128 .f32) (ri : IVec S1024x1 32) (ew : FVec Ideal S128x512x1024 .f32)
    (sw : FVec Ideal S512x1024 .f32) (n h : Fin 1024) (hk : 128 ≤ (ri (ix2 n 0)).toNat) :
    out x rw ri ew sw (ix2 n h) = ∑ d : Fin 512, x (ix2 n d) * sw (ix2 d h) := by
  rw [out_apply]
  simp only [ch_miss ri ew n _ h hk, mul_zero, Finset.sum_const_zero, add_zero]

end Cert.ReferenceIdeal.Moe

end
-- ==== Proof.VSum.lean ====
/-
The kernel's result is the reference's: of the products of all experts only the chosen expert's is not zero.
-/
module

public import proofs.«01_k».proof.Proof.VCoef
public import proofs.«01_k».proof.Proof.RefRead

@[expose] public section

set_option maxRecDepth 16384

noncomputable section

namespace Cert.KernelIdeal.Moe

open Cert.KernelIdeal Cert.KernelIdeal.Gen
open Idealize.ShloMosaic Idealize.ShloMosaic.TcCoe

variable (I : Inp Ideal)

/-- The inputs of the devices, taken from whole arrays: the expert weights in blocks, the rest the same everywhere. -/
structure From (x : FVec Ideal S1024x512 .f32) (rw : FVec Ideal S512x128 .f32) (ri : IVec S1024x1 32)
    (ew : FVec Ideal Cert.ReferenceIdeal.S128x512x1024 .f32) (sw : FVec Ideal S512x1024 .f32) : Prop where
  hx : ∀ c, I.x c = x
  hr : ∀ c, I.rw c = rw
  hi : ∀ c n, I.ri c (ix2 0 n) = ri (ix2 n 0)
  he : ∀ c s d h, I.ew c (ix3 s d h) = ew (ix3 (exn c s) d h)
  hs : ∀ c, I.sw c = sw

/-- The logits of a token. -/
def logits (x : FVec Ideal S1024x512 .f32) (rw : FVec Ideal S512x128 .f32) (n : Fin 1024) : Fin 128 → EReal :=
  fun e => ∑ d : Fin 512, x (ix2 n d) * rw (ix2 d e)

variable {I} {x : FVec Ideal S1024x512 .f32} {rw : FVec Ideal S512x128 .f32} {ri : IVec S1024x1 32}
  {ew : FVec Ideal Cert.ReferenceIdeal.S128x512x1024 .f32} {sw : FVec Ideal S512x1024 .f32}

/-- An expert's product: the chosen expert's is its probability times its product, another's is zero. -/
theorem eprod_eq (h : From I x rw ri ew sw) (c : Dev nD) (s : Fin 4) (n k : Fin 1024)
    (hb : Cert.Moe.top (logits x rw n) ≠ ⊥) (ht : Cert.Moe.top (logits x rw n) ≠ ⊤) :
    eprod (I.x c) (cf4 I c) (I.ew c) s n k = if ri (ix2 n 0) = BitVec.ofNat 32 (exn c s).val
      then Cert.Moe.softmax (logits x rw n) (exn c s) * ∑ d : Fin 512, x (ix2 n d) * ew (ix3 (exn c s) d k) else 0 := by
  have hl : (fun e => ∑ d : Fin 512, I.rw c (ix2 d e) * I.x c (ix2 n d)) = logits x rw n := by
    funext e
    unfold logits
    rw [h.hx, h.hr]
    exact Finset.sum_congr rfl fun d _ => mul_comm _ _
  unfold eprod
  simp only [cf4_apply, h.hi, hl, h.he]
  rw [h.hx]
  split
  · obtain ⟨p0, p1⟩ := Cert.Moe.softmax_real _ hb ht (exn c s)
    rw [Cert.Moe.mul_sum_real _ _ p0 p1]
    exact Finset.sum_congr rfl fun d _ => by ac_rfl
  · simp only [mul_zero, zero_mul, Finset.sum_const_zero]

/-- The products of all devices' experts as a sum over the devices and their experts. -/
theorem tot_sum (n k : Fin 1024) : tot I (ix2 n k) = ∑ c : Dev nD, ∑ s : Fin 4, eprod (I.x c) (cf4 I c) (I.ew c) s n k := by
  refine Finset.sum_congr rfl fun c _ => ?_
  rw [Fin.sum_univ_four]
  rfl

/-- The products of all devices' experts for a token whose expert exists. -/
theorem tot_hit (h : From I x rw ri ew sw) (n k : Fin 1024) (e : Fin 128) (hk : ri (ix2 n 0) = BitVec.ofNat 32 e.val)
    (hb : Cert.Moe.top (logits x rw n) ≠ ⊥) (ht : Cert.Moe.top (logits x rw n) ≠ ⊤) :
    tot I (ix2 n k) = Cert.Moe.softmax (logits x rw n) e * ∑ d : Fin 512, x (ix2 n d) * ew (ix3 e d k) := by
  have he := e.isLt
  rw [tot_sum]
  simp only [eprod_eq h _ _ n k hb ht, hk]
  have hq : ∀ (c : Dev nD) (s : Fin 4), BitVec.ofNat 32 e.val = BitVec.ofNat 32 (exn c s).val → e.val = 4 * c.val + s.val :=
    fun c s hw => word_inj he (exn c s).isLt hw
  rw [Finset.sum_eq_single (⟨e.val / 4, by show _ < 32; omega⟩ : Dev nD), Finset.sum_eq_single (⟨e.val % 4, by omega⟩ : Fin 4)]
  · have ee : exn ⟨e.val / 4, by show _ < 32; omega⟩ ⟨e.val % 4, by omega⟩ = e := Fin.ext (Nat.div_add_mod e.val 4)
    rw [ee, if_pos rfl]
  · intro s _ hs
    refine if_neg fun hw => hs (Fin.ext ?_)
    have h1 := hq _ _ hw
    have h2 := s.isLt
    show s.val = e.val % 4
    have h3 : e.val = 4 * (e.val / 4) + s.val := h1
    omega
  · exact fun hn => absurd (Finset.mem_univ _) hn
  · intro c _ hc
    refine Finset.sum_eq_zero fun s _ => if_neg fun hw => hc (Fin.ext ?_)
    have h1 := hq _ _ hw
    have h2 := s.isLt
    show c.val = e.val / 4
    omega
  · exact fun hn => absurd (Finset.mem_univ _) hn

/-- The products of all devices' experts for a token whose expert does not exist. -/
theorem tot_miss (h : From I x rw ri ew sw) (n k : Fin 1024) (hk : 128 ≤ (ri (ix2 n 0)).toNat)
    (hb : Cert.Moe.top (logits x rw n) ≠ ⊥) (ht : Cert.Moe.top (logits x rw n) ≠ ⊤) : tot I (ix2 n k) = 0 := by
  rw [tot_sum]
  refine Finset.sum_eq_zero fun c _ => Finset.sum_eq_zero fun s _ => ?_
  rw [eprod_eq h c s n k hb ht]
  refine if_neg fun hw => ?_
  rw [hw, BitVec.toNat_ofNat] at hk
  have := (exn c s).isLt
  omega

/-- The result buffer of every device at the end, at an element. -/
theorem o28_at (h : From I x rw ri ew sw) (hb : ∀ n, Cert.Moe.top (logits x rw n) ≠ ⊥) (ht : ∀ n, Cert.Moe.top (logits x rw n) ≠ ⊤) (c : Dev nD)
    (n k : Fin 1024) : o28 I c (ix2 n k) = Cert.ReferenceIdeal.Moe.out x rw ri ew sw (ix2 n k) := by
  rw [o28_eq]
  have hS : sm4 I c (ix2 n k) = ∑ d : Fin 512, x (ix2 n d) * sw (ix2 d k) := by
    rw [sm4_eq, h.hx, h.hs]
    rfl
  show tot I (ix2 n k) + sm4 I c (ix2 n k) = _
  rw [hS]
  by_cases hk : 128 ≤ (ri (ix2 n 0)).toNat
  · rw [tot_miss h n k hk (hb n) (ht n), zero_add]
    exact (Cert.ReferenceIdeal.Moe.out_miss _ _ _ _ _ n k hk).symm
  · have hw : ri (ix2 n 0) = BitVec.ofNat 32 (⟨(ri (ix2 n 0)).toNat, by omega⟩ : Fin 128).val := by simp
    rw [tot_hit h n k _ hw (hb n) (ht n), add_comm]
    exact (Cert.ReferenceIdeal.Moe.out_hit _ _ _ _ _ n k _ hw).symm

/-- The result buffer of every device at the end is the reference's result. -/
theorem o28_ref (h : From I x rw ri ew sw) (hb : ∀ n, Cert.Moe.top (logits x rw n) ≠ ⊥) (ht : ∀ n, Cert.Moe.top (logits x rw n) ≠ ⊤) (c : Dev nD) :
    o28 I c = Cert.ReferenceIdeal.Moe.out x rw ri ew sw := by
  funext j
  have ej : j = ix2 (j 0) (j 1) := by funext a; exact (Fin.forall_fin_two.2 ⟨rfl, rfl⟩ : ∀ a : Fin 2, j a = ix2 (j 0) (j 1) a) a
  rw [ej]
  exact o28_at h hb ht c _ _

end Cert.KernelIdeal.Moe

end
-- ==== Proof.VEnd.lean ====
/-
The kernel's result from its launch: what the windows hold, and the result array at the end.
-/
module

public import proofs.«01_k».proof.Proof.VSum
public import proofs.«01_k».proof.Proof.Run
public import proofs.«01_k».proof.Defs
public import Idealize.ShloMosaic.Lib.Pipeline.ValueKit

@[expose] public section

set_option maxRecDepth 16384

noncomputable section

namespace Cert.KernelIdeal.Moe

open Cert.KernelIdeal Cert.KernelIdeal.Gen
open Idealize.SL.Sem Idealize.ShloMosaic Idealize.ShloMosaic.TcCoe Idealize.ShloMosaic.Tactic

variable (m : (ℓ : Loc nD τ sig) → Buf (Elt Ideal) ℓ)

/-- The result array at the end is the result buffer. -/
theorem arr_end (c : Dev nD) : (dat0 m c).arrAt 5 cfg0.N = o28 (inp m) c := by
  have e : ∀ G : FVec Ideal S1024x1024 .f32, (dat0 m c).after 5 t0_0 = G → (dat0 m c).arrAt 5 cfg0.N = G := by
    intro G hG
    refine (dat0 m c).arrAt_eq_of_after_last 5 t0_0 (by decide +kernel) _ fun j => ?_
    blk_simp
    exact congrFun hG j
  exact e _ (after_5 m c)

/-- Every window's block is at the origin. -/
theorem idx_zero : win0_0.index t0_0 = ![0, 0] ∧ win0_1.index t0_0 = ![0, 0] ∧ win0_2.index t0_0 = ![0, 0]
    ∧ win0_3.index t0_0 = ![0, 0, 0] ∧ win0_4.index t0_0 = ![0, 0] := by
  decide +kernel

/-- The windows hold the whole arrays. -/
theorem inp_x (c : Dev nD) : (inp m).x c = m ((c.tc : Thread nD τ).loc main_arg0) := by
  refine Eq.trans ?_ (V_main_arg0 m c)
  show iblk m c 0 t0_0 = _
  blk_ext! [iblk, idx_zero]
@[inherit_doc inp_x] theorem inp_rw (c : Dev nD) : (inp m).rw c = m ((c.tc : Thread nD τ).loc main_arg1) := by
  refine Eq.trans ?_ (V_main_arg1 m c)
  show iblk m c 1 t0_0 = _
  blk_ext! [iblk, idx_zero]
@[inherit_doc inp_x] theorem inp_ew (c : Dev nD) : (inp m).ew c = m ((c.tc : Thread nD τ).loc main_arg3) := by
  refine Eq.trans ?_ (V_main_arg3 m c)
  show iblk m c 3 t0_0 = _
  blk_ext! [iblk, idx_zero]
@[inherit_doc inp_x] theorem inp_sw (c : Dev nD) : (inp m).sw c = m ((c.tc : Thread nD τ).loc main_arg4) := by
  refine Eq.trans ?_ (V_main_arg4 m c)
  show iblk m c 4 t0_0 = _
  blk_ext! [iblk, idx_zero]
/-- The chosen experts reach the kernel transposed. -/
theorem inp_ri (c : Dev nD) (n : Fin 1024) : (inp m).ri c (ix2 0 n) = (m ((c.tc : Thread nD τ).loc main_arg2) : IVec S1024x1 32) (ix2 n 0) := by
  have h : (inp m).ri c = (transpose S1x1024 [1, 0] (m ((c.tc : Thread nD τ).loc main_arg2) : IVec S1024x1 32) transposes_S1024x1_S1x1024_1_0 : IVec S1x1024 32) := by
    refine Eq.trans (b := V m c main_v1) ?_ ?_
    · show iblk m c 2 t0_0 = _
      blk_ext! [iblk, idx_zero]
    · show StableHlo.after hostOps0 _ _ = _
      after_results_simp
  rw [h]
  pointwise

/-- The precondition: every token's greatest logit is finite. -/
theorem top_real [Cert.Pre_finite_top_KernelIdeal.Facts] (x : FVec Ideal S1024x512 .f32) (rw : FVec Ideal S512x128 .f32) (ri : IVec S1024x1 32)
    (ew : FVec Ideal S4x512x1024 .f32) (sw : FVec Ideal S512x1024 .f32) (h : Cert.Pre_finite_top_KernelIdeal.fn (F := Ideal) x rw ri ew sw = fun _ => 1#1)
    (n : Fin 1024) : Cert.Moe.top (logits x rw n) ≠ ⊥ ∧ Cert.Moe.top (logits x rw n) ≠ ⊤ := by
  have h := congrFun h (ix1 n)
  revert h
  pointwise [Cert.Pre_finite_top_KernelIdeal.fn]
  intro h
  have h' : max (Cert.Moe.top (logits x rw n)) (-Cert.Moe.top (logits x rw n)) < (⊤ : EReal) := by
    have e : Ideal.ofBits FTy.f32 0x7F800000#32 = ⊤ := by simp [Ideal.ofBits, Ideal.ieee]
    rw [← e]
    have key : ∀ b : Bool, BitVec.ofBool b = 1#1 → b = true := by decide
    exact of_decide_eq_true (key _ h)
  rw [max_lt_iff] at h'
  refine ⟨fun hb => ?_, h'.1.ne⟩
  rw [hb, EReal.neg_bot] at h'
  exact absurd h'.2 (lt_irrefl _)

/-- The launch's arrays are the reference's: the expert weights cut in blocks of four experts, the rest whole. -/
theorem from_launch (x : FVec Ideal S1024x512 .f32) (rw : FVec Ideal S512x128 .f32) (ri : IVec S1024x1 32)
    (ew : FVec Ideal Cert.ReferenceIdeal.S128x512x1024 .f32) (sw : FVec Ideal S512x1024 .f32)
    (h0 : ∀ c : Dev nD, m ((c.tc : Thread nD τ).loc main_arg0) = x) (h1 : ∀ c : Dev nD, m ((c.tc : Thread nD τ).loc main_arg1) = rw)
    (h2 : ∀ c : Dev nD, m ((c.tc : Thread nD τ).loc main_arg2) = ri)
    (h3 : ∀ c : Dev nD, ∀ (s : Fin 4) (d : Fin 512) (h : Fin 1024),
      (m ((c.tc : Thread nD τ).loc main_arg3) : FVec Ideal S4x512x1024 .f32) (ix3 s d h) = ew (ix3 (exn c s) d h))
    (h4 : ∀ c : Dev nD, m ((c.tc : Thread nD τ).loc main_arg4) = sw) : From (inp m) x rw ri ew sw where
  hx c := (inp_x m c).trans (h0 c)
  hr c := (inp_rw m c).trans (h1 c)
  hi c n := (inp_ri m c n).trans (congrFun (h2 c) (ix2 n 0))
  he c s d h := (congrFun (inp_ew m c) (ix3 s d h)).trans (h3 c s d h)
  hs c := (inp_sw m c).trans (h4 c)

/-- Device `c`'s block of the expert weights holds its own four experts. -/
theorem block_exn (c : Dev nD) (v : FVec Ideal Cert.ReferenceIdeal.S128x512x1024 .f32)
    (H : Layout.Tiles ⟨3, ![4, 512, 1024]⟩ ⟨3, ![128, 512, 1024]⟩ 0 32) (s : Fin 4) (d : Fin 512) (h : Fin 1024) :
    Layout.block ⟨3, ![4, 512, 1024]⟩ ⟨3, ![128, 512, 1024]⟩ 0 32 c v H (ix3 s d h) = v (ix3 (exn c s) d h) := by
  show v _ = v _
  congr 1
  funext a
  apply Fin.ext
  match a with
  | ⟨0, _⟩ =>
    show c.val * 4 + s.val = 4 * c.val + s.val
    omega
  | ⟨1, _⟩ => rfl
  | ⟨2, _⟩ => rfl

/-- The program ends with the result buffer's value in every device's result and its arguments unchanged. -/
theorem run_value (g : Dev nD → PrngReg) : θ_run defs (onTc (τ := τ) (main (F := Ideal))) ⟨m, fun _ => 0, g⟩ (fun r => ∀ c : Dev nD,
      r.2.mem ((c.tc : Thread nD τ).loc main_v2) = o28 (inp m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h.1 c _ (uc_mem main_v2 (by decide))).trans (W2_self m c)).trans (arr_end m c),
      ((h.1 c _ (uc_mem main_arg0 (by decide))).trans (W2_ne m c _ (StableHlo.devRef_ne_of_ne (by decide)))).trans (V_main_arg0 m c),
      ((h.1 c _ (uc_mem main_arg1 (by decide))).trans (W2_ne m c _ (StableHlo.devRef_ne_of_ne (by decide)))).trans (V_main_arg1 m c),
      ((h.1 c _ (uc_mem main_arg2 (by decide))).trans (W2_ne m c _ (StableHlo.devRef_ne_of_ne (by decide)))).trans (V_main_arg2 m c),
      ((h.1 c _ (uc_mem main_arg3 (by decide))).trans (W2_ne m c _ (StableHlo.devRef_ne_of_ne (by decide)))).trans (V_main_arg3 m c),
      ((h.1 c _ (uc_mem main_arg4 (by decide))).trans (W2_ne m c _ (StableHlo.devRef_ne_of_ne (by decide)))).trans (V_main_arg4 m c)⟩) (run_main m g)

end Cert.KernelIdeal.Moe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.VEnd
public import Idealize.ShloMosaic.Adequacy
public import Idealize.ShloMosaic.Init
public import Idealize.ShloMosaic.Lib.Tactic

@[expose] public section

noncomputable section

namespace Cert.Proof

open Idealize.ShloMosaic Idealize.SL.Sem Cert.Kernel

/-- The frame read of the idealized program's text at the device's own float values. -/
def FrameAt : Prop := ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

/-- The kernel and its idealization have one text, so that frame is the kernel's. -/
theorem frame_text : FrameAt = Cert.quiescent_Kernel := by sl_kernel_rfl

/-- The kernel at the device's own float values ends with its arguments unchanged and every counter at zero. -/
theorem frame_kernel : Cert.quiescent_Kernel := frame_text.mp fun m ρ _ => Cert.KernelIdeal.Moe.frame_any (F := Bits) m ρ

/-- The same of the kernel at the ideal values. -/
theorem frame_ideal : Cert.quiescent_KernelIdeal := fun m ρ _ => Cert.KernelIdeal.Moe.frame_any (F := Ideal) m ρ

/-- The reference ends with its arguments unchanged; it has no counters. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The shape relations of the precondition, read of one device's blocks. -/
theorem facts_pre : Cert.Pre_finite_top_KernelIdeal.Facts where
  reducesTo_S1024x128_S1024_d1 := by decide
  h_S_ := by decide
  bcast_S_S1024 := by decide
  dot_S1024x512_S512x128_S1024x128_1_0_0_1_n_n_wf := by decide

/-- The shape relations of the precondition, read of the whole arrays. -/
theorem facts_whole : Cert.Pre_finite_top_ReferenceIdeal.Facts where
  reducesTo_S1024x128_S1024_d1 := by decide
  h_S_ := by decide
  bcast_S_S1024 := by decide
  dot_S1024x512_S512x128_S1024x128_1_0_0_1_n_n_wf := by decide

/-- Where every token's greatest logit is finite, every device's result is the reference's. -/
theorem same_value : Cert.algebraic_KernelIdeal_ReferenceIdeal_pre_finite_top_KernelIdeal (hPre_finite_top_KernelIdeal := facts_pre) := by
  intro m g m' g' hp hm
  letI := facts_pre
  have hf := Cert.KernelIdeal.Moe.from_launch m _ _ _ _ _ (fun c => (hm c).1) (fun c => (hm c).2.1) (fun c => (hm c).2.2.1)
    (fun c s d h => (congrFun (hm c).2.2.2.1 (ix3 s d h)).trans (Cert.KernelIdeal.Moe.block_exn c _ _ s d h)) (fun c => (hm c).2.2.2.2)
  have ht : ∀ n, _ := Cert.KernelIdeal.Moe.top_real _ _ _ _ _ (hp 0)
  rw [(hm 0).1, (hm 0).2.1] at ht
  refine ⟨Cert.ReferenceIdeal.Value.res_main_v28 m' 0,
    (θ_run Cert.KernelIdeal.defs _ _).mono (fun r h c => ⟨(h c).1.trans ?_, (h c).2⟩) (Cert.KernelIdeal.Moe.run_value m g),
    (θ_run Cert.ReferenceIdeal.defs _ _).mono (fun r h => h 0) (Cert.ReferenceIdeal.Value.run (F := Ideal) m' g')⟩
  rw [Cert.ReferenceIdeal.Moe.res_eq]
  exact Cert.KernelIdeal.Moe.o28_ref hf (fun n => (ht n).1) (fun n => (ht n).2) c

theorem claim : Cert.Claim := ⟨Cert.Kernel.Gen.facts, Cert.KernelIdeal.Gen.facts, Cert.ReferenceIdeal.Gen.facts, facts_pre, facts_whole,
  frame_kernel, frame_ideal, fun m ρ _ => frame_ideal m ρ trivial, frame_reference, fun m ρ _ => frame_reference m ρ trivial, trivial, same_value⟩

end Cert.Proof

end
